-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_off_kink [hPre_finite_and_off_kink : Cert.Pre_finite_and_off_kink.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_off_kink.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_and_off_kink.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_and_off_kink.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_and_off_kink.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_and_off_kink.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_and_off_kink.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite_and_off_kink.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite_and_off_kink.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite_and_off_kink.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_off_kink [hPre_finite_and_off_kink : Cert.Pre_finite_and_off_kink.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_off_kink.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_and_off_kink.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_and_off_kink.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_and_off_kink.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_and_off_kink.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_and_off_kink.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite_and_off_kink.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite_and_off_kink.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite_and_off_kink.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_and_off_kink [hKernelIdeal : Cert.KernelIdeal.Facts] [hPre_finite_and_off_kink : Cert.Pre_finite_and_off_kink.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_off_kink m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_and_off_kink [hReferenceIdeal : Cert.ReferenceIdeal.Facts] [hPre_finite_and_off_kink : Cert.Pre_finite_and_off_kink.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_off_kink m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9)
      ∧ r.2.mem ((c.tc : Thread Cert.Kernel19.nD Cert.Kernel19.τ).loc Cert.Kernel19.main_arg10) = m ((c.tc : Thread Cert.Kernel19.nD Cert.Kernel19.τ).loc Cert.Kernel19.main_arg10)
      ∧ r.2.mem ((c.tc : Thread Cert.Kernel19.nD Cert.Kernel19.τ).loc Cert.Kernel19.main_arg11) = m ((c.tc : Thread Cert.Kernel19.nD Cert.Kernel19.τ).loc Cert.Kernel19.main_arg11)
      ∧ r.2.mem ((c.tc : Thread Cert.Kernel19.nD Cert.Kernel19.τ).loc Cert.Kernel19.main_arg12) = m ((c.tc : Thread Cert.Kernel19.nD Cert.Kernel19.τ).loc Cert.Kernel19.main_arg12)
      ∧ r.2.mem ((c.tc : Thread Cert.Kernel19.nD Cert.Kernel19.τ).loc Cert.Kernel19.main_arg13) = m ((c.tc : Thread Cert.Kernel19.nD Cert.Kernel19.τ).loc Cert.Kernel19.main_arg13)
      ∧ r.2.mem ((c.tc : Thread Cert.Kernel19.nD Cert.Kernel19.τ).loc Cert.Kernel19.main_arg14) = m ((c.tc : Thread Cert.Kernel19.nD Cert.Kernel19.τ).loc Cert.Kernel19.main_arg14)
      ∧ r.2.mem ((c.tc : Thread Cert.Kernel19.nD Cert.Kernel19.τ).loc Cert.Kernel19.main_arg15) = m ((c.tc : Thread Cert.Kernel19.nD Cert.Kernel19.τ).loc Cert.Kernel19.main_arg15)
      ∧ r.2.mem ((c.tc : Thread Cert.Kernel19.nD Cert.Kernel19.τ).loc Cert.Kernel19.main_arg16) = m ((c.tc : Thread Cert.Kernel19.nD Cert.Kernel19.τ).loc Cert.Kernel19.main_arg16)
      ∧ r.2.mem ((c.tc : Thread Cert.Kernel19.nD Cert.Kernel19.τ).loc Cert.Kernel19.main_arg17) = m ((c.tc : Thread Cert.Kernel19.nD Cert.Kernel19.τ).loc Cert.Kernel19.main_arg17)
      ∧ r.2.mem ((c.tc : Thread Cert.Kernel19.nD Cert.Kernel19.τ).loc Cert.Kernel19.main_arg18) = m ((c.tc : Thread Cert.Kernel19.nD Cert.Kernel19.τ).loc Cert.Kernel19.main_arg18)
      ∧ r.2.mem ((c.tc : Thread Cert.Kernel19.nD Cert.Kernel19.τ).loc Cert.Kernel19.main_arg19) = m ((c.tc : Thread Cert.Kernel19.nD Cert.Kernel19.τ).loc Cert.Kernel19.main_arg19)
      ∧ r.2.mem ((c.tc : Thread Cert.Kernel19.nD Cert.Kernel19.τ).loc Cert.Kernel19.main_arg20) = m ((c.tc : Thread Cert.Kernel19.nD Cert.Kernel19.τ).loc Cert.Kernel19.main_arg20)
      ∧ r.2.mem ((c.tc : Thread Cert.Kernel19.nD Cert.Kernel19.τ).loc Cert.Kernel19.main_arg21) = m ((c.tc : Thread Cert.Kernel19.nD Cert.Kernel19.τ).loc Cert.Kernel19.main_arg21)
      ∧ r.2.mem ((c.tc : Thread Cert.Kernel19.nD Cert.Kernel19.τ).loc Cert.Kernel19.main_arg22) = m ((c.tc : Thread Cert.Kernel19.nD Cert.Kernel19.τ).loc Cert.Kernel19.main_arg22)
      ∧ r.2.mem ((c.tc : Thread Cert.Kernel19.nD Cert.Kernel19.τ).loc Cert.Kernel19.main_arg23) = m ((c.tc : Thread Cert.Kernel19.nD Cert.Kernel19.τ).loc Cert.Kernel19.main_arg23)
      ∧ r.2.mem ((c.tc : Thread Cert.Kernel19.nD Cert.Kernel19.τ).loc Cert.Kernel19.main_arg24) = m ((c.tc : Thread Cert.Kernel19.nD Cert.Kernel19.τ).loc Cert.Kernel19.main_arg24)
      ∧ r.2.mem ((c.tc : Thread Cert.Kernel19.nD Cert.Kernel19.τ).loc Cert.Kernel19.main_arg25) = m ((c.tc : Thread Cert.Kernel19.nD Cert.Kernel19.τ).loc Cert.Kernel19.main_arg25)
      ∧ r.2.mem ((c.tc : Thread Cert.Kernel19.nD Cert.Kernel19.τ).loc Cert.Kernel19.main_arg26) = m ((c.tc : Thread Cert.Kernel19.nD Cert.Kernel19.τ).loc Cert.Kernel19.main_arg26)
      ∧ r.2.mem ((c.tc : Thread Cert.Kernel19.nD Cert.Kernel19.τ).loc Cert.Kernel19.main_arg27) = m ((c.tc : Thread Cert.Kernel19.nD Cert.Kernel19.τ).loc Cert.Kernel19.main_arg27)
      ∧ r.2.mem ((c.tc : Thread Cert.Kernel19.nD Cert.Kernel19.τ).loc Cert.Kernel19.main_arg28) = m ((c.tc : Thread Cert.Kernel19.nD Cert.Kernel19.τ).loc Cert.Kernel19.main_arg28)
      ∧ r.2.mem ((c.tc : Thread Cert.Kernel19.nD Cert.Kernel19.τ).loc Cert.Kernel19.main_arg29) = m ((c.tc : Thread Cert.Kernel19.nD Cert.Kernel19.τ).loc Cert.Kernel19.main_arg29)
      ∧ r.2.mem ((c.tc : Thread Cert.Kernel19.nD Cert.Kernel19.τ).loc Cert.Kernel19.main_arg30) = m ((c.tc : Thread Cert.Kernel19.nD Cert.Kernel19.τ).loc Cert.Kernel19.main_arg30)
      ∧ r.2.mem ((c.tc : Thread Cert.Kernel19.nD Cert.Kernel19.τ).loc Cert.Kernel19.main_arg31) = m ((c.tc : Thread Cert.Kernel19.nD Cert.Kernel19.τ).loc Cert.Kernel19.main_arg31)
      ∧ r.2.mem ((c.tc : Thread Cert.Kernel19.nD Cert.Kernel19.τ).loc Cert.Kernel19.main_arg32) = m ((c.tc : Thread Cert.Kernel19.nD Cert.Kernel19.τ).loc Cert.Kernel19.main_arg32)
      ∧ r.2.mem ((c.tc : Thread Cert.Kernel19.nD Cert.Kernel19.τ).loc Cert.Kernel19.main_arg33) = m ((c.tc : Thread Cert.Kernel19.nD Cert.Kernel19.τ).loc Cert.Kernel19.main_arg33)
      ∧ r.2.mem ((c.tc : Thread Cert.Kernel19.nD Cert.Kernel19.τ).loc Cert.Kernel19.main_arg34) = m ((c.tc : Thread Cert.Kernel19.nD Cert.Kernel19.τ).loc Cert.Kernel19.main_arg34)
      ∧ r.2.mem ((c.tc : Thread Cert.Kernel19.nD Cert.Kernel19.τ).loc Cert.Kernel19.main_arg35) = m ((c.tc : Thread Cert.Kernel19.nD Cert.Kernel19.τ).loc Cert.Kernel19.main_arg35)
      ∧ r.2.mem ((c.tc : Thread Cert.Kernel19.nD Cert.Kernel19.τ).loc Cert.Kernel19.main_arg36) = m ((c.tc : Thread Cert.Kernel19.nD Cert.Kernel19.τ).loc Cert.Kernel19.main_arg36)
      ∧ r.2.mem ((c.tc : Thread Cert.Kernel19.nD Cert.Kernel19.τ).loc Cert.Kernel19.main_arg37) = m ((c.tc : Thread Cert.Kernel19.nD Cert.Kernel19.τ).loc Cert.Kernel19.main_arg37)
      ∧ r.2.mem ((c.tc : Thread Cert.Kernel19.nD Cert.Kernel19.τ).loc Cert.Kernel19.main_arg38) = m ((c.tc : Thread Cert.Kernel19.nD Cert.Kernel19.τ).loc Cert.Kernel19.main_arg38)
      ∧ r.2.mem ((c.tc : Thread Cert.Kernel19.nD Cert.Kernel19.τ).loc Cert.Kernel19.main_arg39) = m ((c.tc : Thread Cert.Kernel19.nD Cert.Kernel19.τ).loc Cert.Kernel19.main_arg39)
      ∧ r.2.mem ((c.tc : Thread Cert.Kernel19.nD Cert.Kernel19.τ).loc Cert.Kernel19.main_arg40) = m ((c.tc : Thread Cert.Kernel19.nD Cert.Kernel19.τ).loc Cert.Kernel19.main_arg40)
      ∧ r.2.mem ((c.tc : Thread Cert.Kernel19.nD Cert.Kernel19.τ).loc Cert.Kernel19.main_arg41) = m ((c.tc : Thread Cert.Kernel19.nD Cert.Kernel19.τ).loc Cert.Kernel19.main_arg41)
      ∧ r.2.mem ((c.tc : Thread Cert.Kernel19.nD Cert.Kernel19.τ).loc Cert.Kernel19.main_arg42) = m ((c.tc : Thread Cert.Kernel19.nD Cert.Kernel19.τ).loc Cert.Kernel19.main_arg42)
      ∧ r.2.mem ((c.tc : Thread Cert.Kernel19.nD Cert.Kernel19.τ).loc Cert.Kernel19.main_arg43) = m ((c.tc : Thread Cert.Kernel19.nD Cert.Kernel19.τ).loc Cert.Kernel19.main_arg43)
      ∧ r.2.mem ((c.tc : Thread Cert.Kernel19.nD Cert.Kernel19.τ).loc Cert.Kernel19.main_arg44) = m ((c.tc : Thread Cert.Kernel19.nD Cert.Kernel19.τ).loc Cert.Kernel19.main_arg44)
      ∧ r.2.mem ((c.tc : Thread Cert.Kernel19.nD Cert.Kernel19.τ).loc Cert.Kernel19.main_arg45) = m ((c.tc : Thread Cert.Kernel19.nD Cert.Kernel19.τ).loc Cert.Kernel19.main_arg45)
      ∧ r.2.mem ((c.tc : Thread Cert.Kernel19.nD Cert.Kernel19.τ).loc Cert.Kernel19.main_arg46) = m ((c.tc : Thread Cert.Kernel19.nD Cert.Kernel19.τ).loc Cert.Kernel19.main_arg46)
      ∧ r.2.mem ((c.tc : Thread Cert.Kernel19.nD Cert.Kernel19.τ).loc Cert.Kernel19.main_arg47) = m ((c.tc : Thread Cert.Kernel19.nD Cert.Kernel19.τ).loc Cert.Kernel19.main_arg47)
      ∧ r.2.mem ((c.tc : Thread Cert.Kernel19.nD Cert.Kernel19.τ).loc Cert.Kernel19.main_arg48) = m ((c.tc : Thread Cert.Kernel19.nD Cert.Kernel19.τ).loc Cert.Kernel19.main_arg48)
      ∧ r.2.mem ((c.tc : Thread Cert.Kernel19.nD Cert.Kernel19.τ).loc Cert.Kernel19.main_arg49) = m ((c.tc : Thread Cert.Kernel19.nD Cert.Kernel19.τ).loc Cert.Kernel19.main_arg49)
      ∧ r.2.mem ((c.tc : Thread Cert.Kernel19.nD Cert.Kernel19.τ).loc Cert.Kernel19.main_arg50) = m ((c.tc : Thread Cert.Kernel19.nD Cert.Kernel19.τ).loc Cert.Kernel19.main_arg50)
      ∧ r.2.mem ((c.tc : Thread Cert.Kernel19.nD Cert.Kernel19.τ).loc Cert.Kernel19.main_arg51) = m ((c.tc : Thread Cert.Kernel19.nD Cert.Kernel19.τ).loc Cert.Kernel19.main_arg51)
      ∧ r.2.mem ((c.tc : Thread Cert.Kernel19.nD Cert.Kernel19.τ).loc Cert.Kernel19.main_arg52) = m ((c.tc : Thread Cert.Kernel19.nD Cert.Kernel19.τ).loc Cert.Kernel19.main_arg52)
      ∧ r.2.mem ((c.tc : Thread Cert.Kernel19.nD Cert.Kernel19.τ).loc Cert.Kernel19.main_arg53) = m ((c.tc : Thread Cert.Kernel19.nD Cert.Kernel19.τ).loc Cert.Kernel19.main_arg53)
      ∧ r.2.mem ((c.tc : Thread Cert.Kernel19.nD Cert.Kernel19.τ).loc Cert.Kernel19.main_arg54) = m ((c.tc : Thread Cert.Kernel19.nD Cert.Kernel19.τ).loc Cert.Kernel19.main_arg54)
      ∧ r.2.mem ((c.tc : Thread Cert.Kernel19.nD Cert.Kernel19.τ).loc Cert.Kernel19.main_arg55) = m ((c.tc : Thread Cert.Kernel19.nD Cert.Kernel19.τ).loc Cert.Kernel19.main_arg55)
      ∧ r.2.mem ((c.tc : Thread Cert.Kernel19.nD Cert.Kernel19.τ).loc Cert.Kernel19.main_arg56) = m ((c.tc : Thread Cert.Kernel19.nD Cert.Kernel19.τ).loc Cert.Kernel19.main_arg56)
      ∧ r.2.mem ((c.tc : Thread Cert.Kernel19.nD Cert.Kernel19.τ).loc Cert.Kernel19.main_arg57) = m ((c.tc : Thread Cert.Kernel19.nD Cert.Kernel19.τ).loc Cert.Kernel19.main_arg57)
      ∧ r.2.mem ((c.tc : Thread Cert.Kernel19.nD Cert.Kernel19.τ).loc Cert.Kernel19.main_arg58) = m ((c.tc : Thread Cert.Kernel19.nD Cert.Kernel19.τ).loc Cert.Kernel19.main_arg58)
      ∧ r.2.mem ((c.tc : Thread Cert.Kernel19.nD Cert.Kernel19.τ).loc Cert.Kernel19.main_arg59) = m ((c.tc : Thread Cert.Kernel19.nD Cert.Kernel19.τ).loc Cert.Kernel19.main_arg59))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
      ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
      ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
      ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
      ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
      ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
      ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15)
      ∧ r.2.mem ((c.tc : Thread Cert.Kernel19Ideal.nD Cert.Kernel19Ideal.τ).loc Cert.Kernel19Ideal.main_arg16) = m ((c.tc : Thread Cert.Kernel19Ideal.nD Cert.Kernel19Ideal.τ).loc Cert.Kernel19Ideal.main_arg16)
      ∧ r.2.mem ((c.tc : Thread Cert.Kernel19Ideal.nD Cert.Kernel19Ideal.τ).loc Cert.Kernel19Ideal.main_arg17) = m ((c.tc : Thread Cert.Kernel19Ideal.nD Cert.Kernel19Ideal.τ).loc Cert.Kernel19Ideal.main_arg17)
      ∧ r.2.mem ((c.tc : Thread Cert.Kernel19Ideal.nD Cert.Kernel19Ideal.τ).loc Cert.Kernel19Ideal.main_arg18) = m ((c.tc : Thread Cert.Kernel19Ideal.nD Cert.Kernel19Ideal.τ).loc Cert.Kernel19Ideal.main_arg18)
      ∧ r.2.mem ((c.tc : Thread Cert.Kernel19Ideal.nD Cert.Kernel19Ideal.τ).loc Cert.Kernel19Ideal.main_arg19) = m ((c.tc : Thread Cert.Kernel19Ideal.nD Cert.Kernel19Ideal.τ).loc Cert.Kernel19Ideal.main_arg19)
      ∧ r.2.mem ((c.tc : Thread Cert.Kernel19Ideal.nD Cert.Kernel19Ideal.τ).loc Cert.Kernel19Ideal.main_arg20) = m ((c.tc : Thread Cert.Kernel19Ideal.nD Cert.Kernel19Ideal.τ).loc Cert.Kernel19Ideal.main_arg20)
      ∧ r.2.mem ((c.tc : Thread Cert.Kernel19Ideal.nD Cert.Kernel19Ideal.τ).loc Cert.Kernel19Ideal.main_arg21) = m ((c.tc : Thread Cert.Kernel19Ideal.nD Cert.Kernel19Ideal.τ).loc Cert.Kernel19Ideal.main_arg21)
      ∧ r.2.mem ((c.tc : Thread Cert.Kernel19Ideal.nD Cert.Kernel19Ideal.τ).loc Cert.Kernel19Ideal.main_arg22) = m ((c.tc : Thread Cert.Kernel19Ideal.nD Cert.Kernel19Ideal.τ).loc Cert.Kernel19Ideal.main_arg22)
      ∧ r.2.mem ((c.tc : Thread Cert.Kernel19Ideal.nD Cert.Kernel19Ideal.τ).loc Cert.Kernel19Ideal.main_arg23) = m ((c.tc : Thread Cert.Kernel19Ideal.nD Cert.Kernel19Ideal.τ).loc Cert.Kernel19Ideal.main_arg23)
      ∧ r.2.mem ((c.tc : Thread Cert.Kernel19Ideal.nD Cert.Kernel19Ideal.τ).loc Cert.Kernel19Ideal.main_arg24) = m ((c.tc : Thread Cert.Kernel19Ideal.nD Cert.Kernel19Ideal.τ).loc Cert.Kernel19Ideal.main_arg24)
      ∧ r.2.mem ((c.tc : Thread Cert.Kernel19Ideal.nD Cert.Kernel19Ideal.τ).loc Cert.Kernel19Ideal.main_arg25) = m ((c.tc : Thread Cert.Kernel19Ideal.nD Cert.Kernel19Ideal.τ).loc Cert.Kernel19Ideal.main_arg25)
      ∧ r.2.mem ((c.tc : Thread Cert.Kernel19Ideal.nD Cert.Kernel19Ideal.τ).loc Cert.Kernel19Ideal.main_arg26) = m ((c.tc : Thread Cert.Kernel19Ideal.nD Cert.Kernel19Ideal.τ).loc Cert.Kernel19Ideal.main_arg26)
      ∧ r.2.mem ((c.tc : Thread Cert.Kernel19Ideal.nD Cert.Kernel19Ideal.τ).loc Cert.Kernel19Ideal.main_arg27) = m ((c.tc : Thread Cert.Kernel19Ideal.nD Cert.Kernel19Ideal.τ).loc Cert.Kernel19Ideal.main_arg27)
      ∧ r.2.mem ((c.tc : Thread Cert.Kernel19Ideal.nD Cert.Kernel19Ideal.τ).loc Cert.Kernel19Ideal.main_arg28) = m ((c.tc : Thread Cert.Kernel19Ideal.nD Cert.Kernel19Ideal.τ).loc Cert.Kernel19Ideal.main_arg28)
      ∧ r.2.mem ((c.tc : Thread Cert.Kernel19Ideal.nD Cert.Kernel19Ideal.τ).loc Cert.Kernel19Ideal.main_arg29) = m ((c.tc : Thread Cert.Kernel19Ideal.nD Cert.Kernel19Ideal.τ).loc Cert.Kernel19Ideal.main_arg29)
      ∧ r.2.mem ((c.tc : Thread Cert.Kernel19Ideal.nD Cert.Kernel19Ideal.τ).loc Cert.Kernel19Ideal.main_arg30) = m ((c.tc : Thread Cert.Kernel19Ideal.nD Cert.Kernel19Ideal.τ).loc Cert.Kernel19Ideal.main_arg30)
      ∧ r.2.mem ((c.tc : Thread Cert.Kernel19Ideal.nD Cert.Kernel19Ideal.τ).loc Cert.Kernel19Ideal.main_arg31) = m ((c.tc : Thread Cert.Kernel19Ideal.nD Cert.Kernel19Ideal.τ).loc Cert.Kernel19Ideal.main_arg31)
      ∧ r.2.mem ((c.tc : Thread Cert.Kernel19Ideal.nD Cert.Kernel19Ideal.τ).loc Cert.Kernel19Ideal.main_arg32) = m ((c.tc : Thread Cert.Kernel19Ideal.nD Cert.Kernel19Ideal.τ).loc Cert.Kernel19Ideal.main_arg32)
      ∧ r.2.mem ((c.tc : Thread Cert.Kernel19Ideal.nD Cert.Kernel19Ideal.τ).loc Cert.Kernel19Ideal.main_arg33) = m ((c.tc : Thread Cert.Kernel19Ideal.nD Cert.Kernel19Ideal.τ).loc Cert.Kernel19Ideal.main_arg33)
      ∧ r.2.mem ((c.tc : Thread Cert.Kernel19Ideal.nD Cert.Kernel19Ideal.τ).loc Cert.Kernel19Ideal.main_arg34) = m ((c.tc : Thread Cert.Kernel19Ideal.nD Cert.Kernel19Ideal.τ).loc Cert.Kernel19Ideal.main_arg34)
      ∧ r.2.mem ((c.tc : Thread Cert.Kernel19Ideal.nD Cert.Kernel19Ideal.τ).loc Cert.Kernel19Ideal.main_arg35) = m ((c.tc : Thread Cert.Kernel19Ideal.nD Cert.Kernel19Ideal.τ).loc Cert.Kernel19Ideal.main_arg35)
      ∧ r.2.mem ((c.tc : Thread Cert.Kernel19Ideal.nD Cert.Kernel19Ideal.τ).loc Cert.Kernel19Ideal.main_arg36) = m ((c.tc : Thread Cert.Kernel19Ideal.nD Cert.Kernel19Ideal.τ).loc Cert.Kernel19Ideal.main_arg36)
      ∧ r.2.mem ((c.tc : Thread Cert.Kernel19Ideal.nD Cert.Kernel19Ideal.τ).loc Cert.Kernel19Ideal.main_arg37) = m ((c.tc : Thread Cert.Kernel19Ideal.nD Cert.Kernel19Ideal.τ).loc Cert.Kernel19Ideal.main_arg37)
      ∧ r.2.mem ((c.tc : Thread Cert.Kernel19Ideal.nD Cert.Kernel19Ideal.τ).loc Cert.Kernel19Ideal.main_arg38) = m ((c.tc : Thread Cert.Kernel19Ideal.nD Cert.Kernel19Ideal.τ).loc Cert.Kernel19Ideal.main_arg38)
      ∧ r.2.mem ((c.tc : Thread Cert.Kernel19Ideal.nD Cert.Kernel19Ideal.τ).loc Cert.Kernel19Ideal.main_arg39) = m ((c.tc : Thread Cert.Kernel19Ideal.nD Cert.Kernel19Ideal.τ).loc Cert.Kernel19Ideal.main_arg39)
      ∧ r.2.mem ((c.tc : Thread Cert.Kernel19Ideal.nD Cert.Kernel19Ideal.τ).loc Cert.Kernel19Ideal.main_arg40) = m ((c.tc : Thread Cert.Kernel19Ideal.nD Cert.Kernel19Ideal.τ).loc Cert.Kernel19Ideal.main_arg40)
      ∧ r.2.mem ((c.tc : Thread Cert.Kernel19Ideal.nD Cert.Kernel19Ideal.τ).loc Cert.Kernel19Ideal.main_arg41) = m ((c.tc : Thread Cert.Kernel19Ideal.nD Cert.Kernel19Ideal.τ).loc Cert.Kernel19Ideal.main_arg41)
      ∧ r.2.mem ((c.tc : Thread Cert.Kernel19Ideal.nD Cert.Kernel19Ideal.τ).loc Cert.Kernel19Ideal.main_arg42) = m ((c.tc : Thread Cert.Kernel19Ideal.nD Cert.Kernel19Ideal.τ).loc Cert.Kernel19Ideal.main_arg42)
      ∧ r.2.mem ((c.tc : Thread Cert.Kernel19Ideal.nD Cert.Kernel19Ideal.τ).loc Cert.Kernel19Ideal.main_arg43) = m ((c.tc : Thread Cert.Kernel19Ideal.nD Cert.Kernel19Ideal.τ).loc Cert.Kernel19Ideal.main_arg43)
      ∧ r.2.mem ((c.tc : Thread Cert.Kernel19Ideal.nD Cert.Kernel19Ideal.τ).loc Cert.Kernel19Ideal.main_arg44) = m ((c.tc : Thread Cert.Kernel19Ideal.nD Cert.Kernel19Ideal.τ).loc Cert.Kernel19Ideal.main_arg44)
      ∧ r.2.mem ((c.tc : Thread Cert.Kernel19Ideal.nD Cert.Kernel19Ideal.τ).loc Cert.Kernel19Ideal.main_arg45) = m ((c.tc : Thread Cert.Kernel19Ideal.nD Cert.Kernel19Ideal.τ).loc Cert.Kernel19Ideal.main_arg45)
      ∧ r.2.mem ((c.tc : Thread Cert.Kernel19Ideal.nD Cert.Kernel19Ideal.τ).loc Cert.Kernel19Ideal.main_arg46) = m ((c.tc : Thread Cert.Kernel19Ideal.nD Cert.Kernel19Ideal.τ).loc Cert.Kernel19Ideal.main_arg46)
      ∧ r.2.mem ((c.tc : Thread Cert.Kernel19Ideal.nD Cert.Kernel19Ideal.τ).loc Cert.Kernel19Ideal.main_arg47) = m ((c.tc : Thread Cert.Kernel19Ideal.nD Cert.Kernel19Ideal.τ).loc Cert.Kernel19Ideal.main_arg47)
      ∧ r.2.mem ((c.tc : Thread Cert.Kernel19Ideal.nD Cert.Kernel19Ideal.τ).loc Cert.Kernel19Ideal.main_arg48) = m ((c.tc : Thread Cert.Kernel19Ideal.nD Cert.Kernel19Ideal.τ).loc Cert.Kernel19Ideal.main_arg48)
      ∧ r.2.mem ((c.tc : Thread Cert.Kernel19Ideal.nD Cert.Kernel19Ideal.τ).loc Cert.Kernel19Ideal.main_arg49) = m ((c.tc : Thread Cert.Kernel19Ideal.nD Cert.Kernel19Ideal.τ).loc Cert.Kernel19Ideal.main_arg49)
      ∧ r.2.mem ((c.tc : Thread Cert.Kernel19Ideal.nD Cert.Kernel19Ideal.τ).loc Cert.Kernel19Ideal.main_arg50) = m ((c.tc : Thread Cert.Kernel19Ideal.nD Cert.Kernel19Ideal.τ).loc Cert.Kernel19Ideal.main_arg50)
      ∧ r.2.mem ((c.tc : Thread Cert.Kernel19Ideal.nD Cert.Kernel19Ideal.τ).loc Cert.Kernel19Ideal.main_arg51) = m ((c.tc : Thread Cert.Kernel19Ideal.nD Cert.Kernel19Ideal.τ).loc Cert.Kernel19Ideal.main_arg51)
      ∧ r.2.mem ((c.tc : Thread Cert.Kernel19Ideal.nD Cert.Kernel19Ideal.τ).loc Cert.Kernel19Ideal.main_arg52) = m ((c.tc : Thread Cert.Kernel19Ideal.nD Cert.Kernel19Ideal.τ).loc Cert.Kernel19Ideal.main_arg52)
      ∧ r.2.mem ((c.tc : Thread Cert.Kernel19Ideal.nD Cert.Kernel19Ideal.τ).loc Cert.Kernel19Ideal.main_arg53) = m ((c.tc : Thread Cert.Kernel19Ideal.nD Cert.Kernel19Ideal.τ).loc Cert.Kernel19Ideal.main_arg53)
      ∧ r.2.mem ((c.tc : Thread Cert.Kernel19Ideal.nD Cert.Kernel19Ideal.τ).loc Cert.Kernel19Ideal.main_arg54) = m ((c.tc : Thread Cert.Kernel19Ideal.nD Cert.Kernel19Ideal.τ).loc Cert.Kernel19Ideal.main_arg54)
      ∧ r.2.mem ((c.tc : Thread Cert.Kernel19Ideal.nD Cert.Kernel19Ideal.τ).loc Cert.Kernel19Ideal.main_arg55) = m ((c.tc : Thread Cert.Kernel19Ideal.nD Cert.Kernel19Ideal.τ).loc Cert.Kernel19Ideal.main_arg55)
      ∧ r.2.mem ((c.tc : Thread Cert.Kernel19Ideal.nD Cert.Kernel19Ideal.τ).loc Cert.Kernel19Ideal.main_arg56) = m ((c.tc : Thread Cert.Kernel19Ideal.nD Cert.Kernel19Ideal.τ).loc Cert.Kernel19Ideal.main_arg56)
      ∧ r.2.mem ((c.tc : Thread Cert.Kernel19Ideal.nD Cert.Kernel19Ideal.τ).loc Cert.Kernel19Ideal.main_arg57) = m ((c.tc : Thread Cert.Kernel19Ideal.nD Cert.Kernel19Ideal.τ).loc Cert.Kernel19Ideal.main_arg57)
      ∧ r.2.mem ((c.tc : Thread Cert.Kernel19Ideal.nD Cert.Kernel19Ideal.τ).loc Cert.Kernel19Ideal.main_arg58) = m ((c.tc : Thread Cert.Kernel19Ideal.nD Cert.Kernel19Ideal.τ).loc Cert.Kernel19Ideal.main_arg58)
      ∧ r.2.mem ((c.tc : Thread Cert.Kernel19Ideal.nD Cert.Kernel19Ideal.τ).loc Cert.Kernel19Ideal.main_arg59) = m ((c.tc : Thread Cert.Kernel19Ideal.nD Cert.Kernel19Ideal.τ).loc Cert.Kernel19Ideal.main_arg59))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9)
      ∧ r.2.mem ((c.tc : Thread Cert.Reference19Ideal.nD Cert.Reference19Ideal.τ).loc Cert.Reference19Ideal.main_arg10) = m ((c.tc : Thread Cert.Reference19Ideal.nD Cert.Reference19Ideal.τ).loc Cert.Reference19Ideal.main_arg10)
      ∧ r.2.mem ((c.tc : Thread Cert.Reference19Ideal.nD Cert.Reference19Ideal.τ).loc Cert.Reference19Ideal.main_arg11) = m ((c.tc : Thread Cert.Reference19Ideal.nD Cert.Reference19Ideal.τ).loc Cert.Reference19Ideal.main_arg11)
      ∧ r.2.mem ((c.tc : Thread Cert.Reference19Ideal.nD Cert.Reference19Ideal.τ).loc Cert.Reference19Ideal.main_arg12) = m ((c.tc : Thread Cert.Reference19Ideal.nD Cert.Reference19Ideal.τ).loc Cert.Reference19Ideal.main_arg12)
      ∧ r.2.mem ((c.tc : Thread Cert.Reference19Ideal.nD Cert.Reference19Ideal.τ).loc Cert.Reference19Ideal.main_arg13) = m ((c.tc : Thread Cert.Reference19Ideal.nD Cert.Reference19Ideal.τ).loc Cert.Reference19Ideal.main_arg13)
      ∧ r.2.mem ((c.tc : Thread Cert.Reference19Ideal.nD Cert.Reference19Ideal.τ).loc Cert.Reference19Ideal.main_arg14) = m ((c.tc : Thread Cert.Reference19Ideal.nD Cert.Reference19Ideal.τ).loc Cert.Reference19Ideal.main_arg14)
      ∧ r.2.mem ((c.tc : Thread Cert.Reference19Ideal.nD Cert.Reference19Ideal.τ).loc Cert.Reference19Ideal.main_arg15) = m ((c.tc : Thread Cert.Reference19Ideal.nD Cert.Reference19Ideal.τ).loc Cert.Reference19Ideal.main_arg15)
      ∧ r.2.mem ((c.tc : Thread Cert.Reference19Ideal.nD Cert.Reference19Ideal.τ).loc Cert.Reference19Ideal.main_arg16) = m ((c.tc : Thread Cert.Reference19Ideal.nD Cert.Reference19Ideal.τ).loc Cert.Reference19Ideal.main_arg16)
      ∧ r.2.mem ((c.tc : Thread Cert.Reference19Ideal.nD Cert.Reference19Ideal.τ).loc Cert.Reference19Ideal.main_arg17) = m ((c.tc : Thread Cert.Reference19Ideal.nD Cert.Reference19Ideal.τ).loc Cert.Reference19Ideal.main_arg17)
      ∧ r.2.mem ((c.tc : Thread Cert.Reference19Ideal.nD Cert.Reference19Ideal.τ).loc Cert.Reference19Ideal.main_arg18) = m ((c.tc : Thread Cert.Reference19Ideal.nD Cert.Reference19Ideal.τ).loc Cert.Reference19Ideal.main_arg18)
      ∧ r.2.mem ((c.tc : Thread Cert.Reference19Ideal.nD Cert.Reference19Ideal.τ).loc Cert.Reference19Ideal.main_arg19) = m ((c.tc : Thread Cert.Reference19Ideal.nD Cert.Reference19Ideal.τ).loc Cert.Reference19Ideal.main_arg19)
      ∧ r.2.mem ((c.tc : Thread Cert.Reference19Ideal.nD Cert.Reference19Ideal.τ).loc Cert.Reference19Ideal.main_arg20) = m ((c.tc : Thread Cert.Reference19Ideal.nD Cert.Reference19Ideal.τ).loc Cert.Reference19Ideal.main_arg20)
      ∧ r.2.mem ((c.tc : Thread Cert.Reference19Ideal.nD Cert.Reference19Ideal.τ).loc Cert.Reference19Ideal.main_arg21) = m ((c.tc : Thread Cert.Reference19Ideal.nD Cert.Reference19Ideal.τ).loc Cert.Reference19Ideal.main_arg21)
      ∧ r.2.mem ((c.tc : Thread Cert.Reference19Ideal.nD Cert.Reference19Ideal.τ).loc Cert.Reference19Ideal.main_arg22) = m ((c.tc : Thread Cert.Reference19Ideal.nD Cert.Reference19Ideal.τ).loc Cert.Reference19Ideal.main_arg22)
      ∧ r.2.mem ((c.tc : Thread Cert.Reference19Ideal.nD Cert.Reference19Ideal.τ).loc Cert.Reference19Ideal.main_arg23) = m ((c.tc : Thread Cert.Reference19Ideal.nD Cert.Reference19Ideal.τ).loc Cert.Reference19Ideal.main_arg23)
      ∧ r.2.mem ((c.tc : Thread Cert.Reference19Ideal.nD Cert.Reference19Ideal.τ).loc Cert.Reference19Ideal.main_arg24) = m ((c.tc : Thread Cert.Reference19Ideal.nD Cert.Reference19Ideal.τ).loc Cert.Reference19Ideal.main_arg24)
      ∧ r.2.mem ((c.tc : Thread Cert.Reference19Ideal.nD Cert.Reference19Ideal.τ).loc Cert.Reference19Ideal.main_arg25) = m ((c.tc : Thread Cert.Reference19Ideal.nD Cert.Reference19Ideal.τ).loc Cert.Reference19Ideal.main_arg25)
      ∧ r.2.mem ((c.tc : Thread Cert.Reference19Ideal.nD Cert.Reference19Ideal.τ).loc Cert.Reference19Ideal.main_arg26) = m ((c.tc : Thread Cert.Reference19Ideal.nD Cert.Reference19Ideal.τ).loc Cert.Reference19Ideal.main_arg26)
      ∧ r.2.mem ((c.tc : Thread Cert.Reference19Ideal.nD Cert.Reference19Ideal.τ).loc Cert.Reference19Ideal.main_arg27) = m ((c.tc : Thread Cert.Reference19Ideal.nD Cert.Reference19Ideal.τ).loc Cert.Reference19Ideal.main_arg27)
      ∧ r.2.mem ((c.tc : Thread Cert.Reference19Ideal.nD Cert.Reference19Ideal.τ).loc Cert.Reference19Ideal.main_arg28) = m ((c.tc : Thread Cert.Reference19Ideal.nD Cert.Reference19Ideal.τ).loc Cert.Reference19Ideal.main_arg28)
      ∧ r.2.mem ((c.tc : Thread Cert.Reference19Ideal.nD Cert.Reference19Ideal.τ).loc Cert.Reference19Ideal.main_arg29) = m ((c.tc : Thread Cert.Reference19Ideal.nD Cert.Reference19Ideal.τ).loc Cert.Reference19Ideal.main_arg29)
      ∧ r.2.mem ((c.tc : Thread Cert.Reference19Ideal.nD Cert.Reference19Ideal.τ).loc Cert.Reference19Ideal.main_arg30) = m ((c.tc : Thread Cert.Reference19Ideal.nD Cert.Reference19Ideal.τ).loc Cert.Reference19Ideal.main_arg30)
      ∧ r.2.mem ((c.tc : Thread Cert.Reference19Ideal.nD Cert.Reference19Ideal.τ).loc Cert.Reference19Ideal.main_arg31) = m ((c.tc : Thread Cert.Reference19Ideal.nD Cert.Reference19Ideal.τ).loc Cert.Reference19Ideal.main_arg31)
      ∧ r.2.mem ((c.tc : Thread Cert.Reference19Ideal.nD Cert.Reference19Ideal.τ).loc Cert.Reference19Ideal.main_arg32) = m ((c.tc : Thread Cert.Reference19Ideal.nD Cert.Reference19Ideal.τ).loc Cert.Reference19Ideal.main_arg32)
      ∧ r.2.mem ((c.tc : Thread Cert.Reference19Ideal.nD Cert.Reference19Ideal.τ).loc Cert.Reference19Ideal.main_arg33) = m ((c.tc : Thread Cert.Reference19Ideal.nD Cert.Reference19Ideal.τ).loc Cert.Reference19Ideal.main_arg33)
      ∧ r.2.mem ((c.tc : Thread Cert.Reference19Ideal.nD Cert.Reference19Ideal.τ).loc Cert.Reference19Ideal.main_arg34) = m ((c.tc : Thread Cert.Reference19Ideal.nD Cert.Reference19Ideal.τ).loc Cert.Reference19Ideal.main_arg34)
      ∧ r.2.mem ((c.tc : Thread Cert.Reference19Ideal.nD Cert.Reference19Ideal.τ).loc Cert.Reference19Ideal.main_arg35) = m ((c.tc : Thread Cert.Reference19Ideal.nD Cert.Reference19Ideal.τ).loc Cert.Reference19Ideal.main_arg35)
      ∧ r.2.mem ((c.tc : Thread Cert.Reference19Ideal.nD Cert.Reference19Ideal.τ).loc Cert.Reference19Ideal.main_arg36) = m ((c.tc : Thread Cert.Reference19Ideal.nD Cert.Reference19Ideal.τ).loc Cert.Reference19Ideal.main_arg36)
      ∧ r.2.mem ((c.tc : Thread Cert.Reference19Ideal.nD Cert.Reference19Ideal.τ).loc Cert.Reference19Ideal.main_arg37) = m ((c.tc : Thread Cert.Reference19Ideal.nD Cert.Reference19Ideal.τ).loc Cert.Reference19Ideal.main_arg37)
      ∧ r.2.mem ((c.tc : Thread Cert.Reference19Ideal.nD Cert.Reference19Ideal.τ).loc Cert.Reference19Ideal.main_arg38) = m ((c.tc : Thread Cert.Reference19Ideal.nD Cert.Reference19Ideal.τ).loc Cert.Reference19Ideal.main_arg38)
      ∧ r.2.mem ((c.tc : Thread Cert.Reference19Ideal.nD Cert.Reference19Ideal.τ).loc Cert.Reference19Ideal.main_arg39) = m ((c.tc : Thread Cert.Reference19Ideal.nD Cert.Reference19Ideal.τ).loc Cert.Reference19Ideal.main_arg39)
      ∧ r.2.mem ((c.tc : Thread Cert.Reference19Ideal.nD Cert.Reference19Ideal.τ).loc Cert.Reference19Ideal.main_arg40) = m ((c.tc : Thread Cert.Reference19Ideal.nD Cert.Reference19Ideal.τ).loc Cert.Reference19Ideal.main_arg40)
      ∧ r.2.mem ((c.tc : Thread Cert.Reference19Ideal.nD Cert.Reference19Ideal.τ).loc Cert.Reference19Ideal.main_arg41) = m ((c.tc : Thread Cert.Reference19Ideal.nD Cert.Reference19Ideal.τ).loc Cert.Reference19Ideal.main_arg41)
      ∧ r.2.mem ((c.tc : Thread Cert.Reference19Ideal.nD Cert.Reference19Ideal.τ).loc Cert.Reference19Ideal.main_arg42) = m ((c.tc : Thread Cert.Reference19Ideal.nD Cert.Reference19Ideal.τ).loc Cert.Reference19Ideal.main_arg42)
      ∧ r.2.mem ((c.tc : Thread Cert.Reference19Ideal.nD Cert.Reference19Ideal.τ).loc Cert.Reference19Ideal.main_arg43) = m ((c.tc : Thread Cert.Reference19Ideal.nD Cert.Reference19Ideal.τ).loc Cert.Reference19Ideal.main_arg43)
      ∧ r.2.mem ((c.tc : Thread Cert.Reference19Ideal.nD Cert.Reference19Ideal.τ).loc Cert.Reference19Ideal.main_arg44) = m ((c.tc : Thread Cert.Reference19Ideal.nD Cert.Reference19Ideal.τ).loc Cert.Reference19Ideal.main_arg44)
      ∧ r.2.mem ((c.tc : Thread Cert.Reference19Ideal.nD Cert.Reference19Ideal.τ).loc Cert.Reference19Ideal.main_arg45) = m ((c.tc : Thread Cert.Reference19Ideal.nD Cert.Reference19Ideal.τ).loc Cert.Reference19Ideal.main_arg45)
      ∧ r.2.mem ((c.tc : Thread Cert.Reference19Ideal.nD Cert.Reference19Ideal.τ).loc Cert.Reference19Ideal.main_arg46) = m ((c.tc : Thread Cert.Reference19Ideal.nD Cert.Reference19Ideal.τ).loc Cert.Reference19Ideal.main_arg46)
      ∧ r.2.mem ((c.tc : Thread Cert.Reference19Ideal.nD Cert.Reference19Ideal.τ).loc Cert.Reference19Ideal.main_arg47) = m ((c.tc : Thread Cert.Reference19Ideal.nD Cert.Reference19Ideal.τ).loc Cert.Reference19Ideal.main_arg47)
      ∧ r.2.mem ((c.tc : Thread Cert.Reference19Ideal.nD Cert.Reference19Ideal.τ).loc Cert.Reference19Ideal.main_arg48) = m ((c.tc : Thread Cert.Reference19Ideal.nD Cert.Reference19Ideal.τ).loc Cert.Reference19Ideal.main_arg48)
      ∧ r.2.mem ((c.tc : Thread Cert.Reference19Ideal.nD Cert.Reference19Ideal.τ).loc Cert.Reference19Ideal.main_arg49) = m ((c.tc : Thread Cert.Reference19Ideal.nD Cert.Reference19Ideal.τ).loc Cert.Reference19Ideal.main_arg49)
      ∧ r.2.mem ((c.tc : Thread Cert.Reference19Ideal.nD Cert.Reference19Ideal.τ).loc Cert.Reference19Ideal.main_arg50) = m ((c.tc : Thread Cert.Reference19Ideal.nD Cert.Reference19Ideal.τ).loc Cert.Reference19Ideal.main_arg50)
      ∧ r.2.mem ((c.tc : Thread Cert.Reference19Ideal.nD Cert.Reference19Ideal.τ).loc Cert.Reference19Ideal.main_arg51) = m ((c.tc : Thread Cert.Reference19Ideal.nD Cert.Reference19Ideal.τ).loc Cert.Reference19Ideal.main_arg51)
      ∧ r.2.mem ((c.tc : Thread Cert.Reference19Ideal.nD Cert.Reference19Ideal.τ).loc Cert.Reference19Ideal.main_arg52) = m ((c.tc : Thread Cert.Reference19Ideal.nD Cert.Reference19Ideal.τ).loc Cert.Reference19Ideal.main_arg52)
      ∧ r.2.mem ((c.tc : Thread Cert.Reference19Ideal.nD Cert.Reference19Ideal.τ).loc Cert.Reference19Ideal.main_arg53) = m ((c.tc : Thread Cert.Reference19Ideal.nD Cert.Reference19Ideal.τ).loc Cert.Reference19Ideal.main_arg53)
      ∧ r.2.mem ((c.tc : Thread Cert.Reference19Ideal.nD Cert.Reference19Ideal.τ).loc Cert.Reference19Ideal.main_arg54) = m ((c.tc : Thread Cert.Reference19Ideal.nD Cert.Reference19Ideal.τ).loc Cert.Reference19Ideal.main_arg54)
      ∧ r.2.mem ((c.tc : Thread Cert.Reference19Ideal.nD Cert.Reference19Ideal.τ).loc Cert.Reference19Ideal.main_arg55) = m ((c.tc : Thread Cert.Reference19Ideal.nD Cert.Reference19Ideal.τ).loc Cert.Reference19Ideal.main_arg55)
      ∧ r.2.mem ((c.tc : Thread Cert.Reference19Ideal.nD Cert.Reference19Ideal.τ).loc Cert.Reference19Ideal.main_arg56) = m ((c.tc : Thread Cert.Reference19Ideal.nD Cert.Reference19Ideal.τ).loc Cert.Reference19Ideal.main_arg56)
      ∧ r.2.mem ((c.tc : Thread Cert.Reference19Ideal.nD Cert.Reference19Ideal.τ).loc Cert.Reference19Ideal.main_arg57) = m ((c.tc : Thread Cert.Reference19Ideal.nD Cert.Reference19Ideal.τ).loc Cert.Reference19Ideal.main_arg57)
      ∧ r.2.mem ((c.tc : Thread Cert.Reference19Ideal.nD Cert.Reference19Ideal.τ).loc Cert.Reference19Ideal.main_arg58) = m ((c.tc : Thread Cert.Reference19Ideal.nD Cert.Reference19Ideal.τ).loc Cert.Reference19Ideal.main_arg58)
      ∧ r.2.mem ((c.tc : Thread Cert.Reference19Ideal.nD Cert.Reference19Ideal.τ).loc Cert.Reference19Ideal.main_arg59) = m ((c.tc : Thread Cert.Reference19Ideal.nD Cert.Reference19Ideal.τ).loc Cert.Reference19Ideal.main_arg59))
      ∧ r.2.sem = fun _ => 0)

def preserves_Kernel_KernelIdeal : Prop :=
  True

def algebraic_KernelIdeal_ReferenceIdeal_pre_finite_and_off_kink [hKernelIdeal : Cert.KernelIdeal.Facts] [hReferenceIdeal : Cert.ReferenceIdeal.Facts] [hPre_finite_and_off_kink : Cert.Pre_finite_and_off_kink.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_off_kink m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v279) = v0 c
          ∧ r.2.mem ((c.tc : Thread Cert.ReferenceIdeal.nD Cert.ReferenceIdeal.τ).loc Cert.ReferenceIdeal.main_v277) = v1 c
          ∧ r.2.mem ((c.tc : Thread Cert.ReferenceIdeal.nD Cert.ReferenceIdeal.τ).loc Cert.ReferenceIdeal.main_v275) = v2 c
          ∧ r.2.mem ((c.tc : Thread Cert.ReferenceIdeal.nD Cert.ReferenceIdeal.τ).loc Cert.ReferenceIdeal.main_v283) = v3 c
          ∧ r.2.mem ((c.tc : Thread Cert.ReferenceIdeal.nD Cert.ReferenceIdeal.τ).loc Cert.ReferenceIdeal.main_v302) = v4 c
          ∧ r.2.mem ((c.tc : Thread Cert.ReferenceIdeal.nD Cert.ReferenceIdeal.τ).loc Cert.ReferenceIdeal.main_v306) = v5 c
          ∧ r.2.mem ((c.tc : Thread Cert.ReferenceIdeal.nD Cert.ReferenceIdeal.τ).loc Cert.ReferenceIdeal.main_v310) = v6 c
          ∧ r.2.mem ((c.tc : Thread Cert.ReferenceIdeal.nD Cert.ReferenceIdeal.τ).loc Cert.ReferenceIdeal.main_v148) = v7 c
          ∧ r.2.mem ((c.tc : Thread Cert.ReferenceIdeal.nD Cert.ReferenceIdeal.τ).loc Cert.ReferenceIdeal.main_v116) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v5) = v1 c
          ∧ r.2.mem ((c.tc : Thread Cert.Reference14Ideal.nD Cert.Reference14Ideal.τ).loc Cert.Reference14Ideal.main_v11) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_v5) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v5) = v1 c
          ∧ r.2.mem ((c.tc : Thread Cert.Reference16Ideal.nD Cert.Reference16Ideal.τ).loc Cert.Reference16Ideal.main_v11) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v5) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v39) = v0 c
          ∧ r.2.mem ((c.tc : Thread Cert.Reference18Ideal.nD Cert.Reference18Ideal.τ).loc Cert.Reference18Ideal.main_v40) = v1 c
          ∧ r.2.mem ((c.tc : Thread Cert.Reference18Ideal.nD Cert.Reference18Ideal.τ).loc Cert.Reference18Ideal.main_v17) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)
      ∧ m' ((c.tc : Thread Cert.Reference19Ideal.nD Cert.Reference19Ideal.τ).loc Cert.Reference19Ideal.main_arg10) = m ((c.tc : Thread Cert.Kernel19Ideal.nD Cert.Kernel19Ideal.τ).loc Cert.Kernel19Ideal.main_arg10)
      ∧ m' ((c.tc : Thread Cert.Reference19Ideal.nD Cert.Reference19Ideal.τ).loc Cert.Reference19Ideal.main_arg11) = m ((c.tc : Thread Cert.Kernel19Ideal.nD Cert.Kernel19Ideal.τ).loc Cert.Kernel19Ideal.main_arg11)
      ∧ m' ((c.tc : Thread Cert.Reference19Ideal.nD Cert.Reference19Ideal.τ).loc Cert.Reference19Ideal.main_arg12) = m ((c.tc : Thread Cert.Kernel19Ideal.nD Cert.Kernel19Ideal.τ).loc Cert.Kernel19Ideal.main_arg12)
      ∧ m' ((c.tc : Thread Cert.Reference19Ideal.nD Cert.Reference19Ideal.τ).loc Cert.Reference19Ideal.main_arg13) = m ((c.tc : Thread Cert.Kernel19Ideal.nD Cert.Kernel19Ideal.τ).loc Cert.Kernel19Ideal.main_arg13)
      ∧ m' ((c.tc : Thread Cert.Reference19Ideal.nD Cert.Reference19Ideal.τ).loc Cert.Reference19Ideal.main_arg14) = m ((c.tc : Thread Cert.Kernel19Ideal.nD Cert.Kernel19Ideal.τ).loc Cert.Kernel19Ideal.main_arg14)
      ∧ m' ((c.tc : Thread Cert.Reference19Ideal.nD Cert.Reference19Ideal.τ).loc Cert.Reference19Ideal.main_arg15) = m ((c.tc : Thread Cert.Kernel19Ideal.nD Cert.Kernel19Ideal.τ).loc Cert.Kernel19Ideal.main_arg15)
      ∧ m' ((c.tc : Thread Cert.Reference19Ideal.nD Cert.Reference19Ideal.τ).loc Cert.Reference19Ideal.main_arg16) = m ((c.tc : Thread Cert.Kernel19Ideal.nD Cert.Kernel19Ideal.τ).loc Cert.Kernel19Ideal.main_arg16)
      ∧ m' ((c.tc : Thread Cert.Reference19Ideal.nD Cert.Reference19Ideal.τ).loc Cert.Reference19Ideal.main_arg17) = m ((c.tc : Thread Cert.Kernel19Ideal.nD Cert.Kernel19Ideal.τ).loc Cert.Kernel19Ideal.main_arg17)
      ∧ m' ((c.tc : Thread Cert.Reference19Ideal.nD Cert.Reference19Ideal.τ).loc Cert.Reference19Ideal.main_arg18) = m ((c.tc : Thread Cert.Kernel19Ideal.nD Cert.Kernel19Ideal.τ).loc Cert.Kernel19Ideal.main_arg18)
      ∧ m' ((c.tc : Thread Cert.Reference19Ideal.nD Cert.Reference19Ideal.τ).loc Cert.Reference19Ideal.main_arg19) = m ((c.tc : Thread Cert.Kernel19Ideal.nD Cert.Kernel19Ideal.τ).loc Cert.Kernel19Ideal.main_arg19)
      ∧ m' ((c.tc : Thread Cert.Reference19Ideal.nD Cert.Reference19Ideal.τ).loc Cert.Reference19Ideal.main_arg20) = m ((c.tc : Thread Cert.Kernel19Ideal.nD Cert.Kernel19Ideal.τ).loc Cert.Kernel19Ideal.main_arg20)
      ∧ m' ((c.tc : Thread Cert.Reference19Ideal.nD Cert.Reference19Ideal.τ).loc Cert.Reference19Ideal.main_arg21) = m ((c.tc : Thread Cert.Kernel19Ideal.nD Cert.Kernel19Ideal.τ).loc Cert.Kernel19Ideal.main_arg21)
      ∧ m' ((c.tc : Thread Cert.Reference19Ideal.nD Cert.Reference19Ideal.τ).loc Cert.Reference19Ideal.main_arg22) = m ((c.tc : Thread Cert.Kernel19Ideal.nD Cert.Kernel19Ideal.τ).loc Cert.Kernel19Ideal.main_arg22)
      ∧ m' ((c.tc : Thread Cert.Reference19Ideal.nD Cert.Reference19Ideal.τ).loc Cert.Reference19Ideal.main_arg23) = m ((c.tc : Thread Cert.Kernel19Ideal.nD Cert.Kernel19Ideal.τ).loc Cert.Kernel19Ideal.main_arg23)
      ∧ m' ((c.tc : Thread Cert.Reference19Ideal.nD Cert.Reference19Ideal.τ).loc Cert.Reference19Ideal.main_arg24) = m ((c.tc : Thread Cert.Kernel19Ideal.nD Cert.Kernel19Ideal.τ).loc Cert.Kernel19Ideal.main_arg24)
      ∧ m' ((c.tc : Thread Cert.Reference19Ideal.nD Cert.Reference19Ideal.τ).loc Cert.Reference19Ideal.main_arg25) = m ((c.tc : Thread Cert.Kernel19Ideal.nD Cert.Kernel19Ideal.τ).loc Cert.Kernel19Ideal.main_arg25)
      ∧ m' ((c.tc : Thread Cert.Reference19Ideal.nD Cert.Reference19Ideal.τ).loc Cert.Reference19Ideal.main_arg26) = m ((c.tc : Thread Cert.Kernel19Ideal.nD Cert.Kernel19Ideal.τ).loc Cert.Kernel19Ideal.main_arg26)
      ∧ m' ((c.tc : Thread Cert.Reference19Ideal.nD Cert.Reference19Ideal.τ).loc Cert.Reference19Ideal.main_arg27) = m ((c.tc : Thread Cert.Kernel19Ideal.nD Cert.Kernel19Ideal.τ).loc Cert.Kernel19Ideal.main_arg27)
      ∧ m' ((c.tc : Thread Cert.Reference19Ideal.nD Cert.Reference19Ideal.τ).loc Cert.Reference19Ideal.main_arg28) = m ((c.tc : Thread Cert.Kernel19Ideal.nD Cert.Kernel19Ideal.τ).loc Cert.Kernel19Ideal.main_arg28)
      ∧ m' ((c.tc : Thread Cert.Reference19Ideal.nD Cert.Reference19Ideal.τ).loc Cert.Reference19Ideal.main_arg29) = m ((c.tc : Thread Cert.Kernel19Ideal.nD Cert.Kernel19Ideal.τ).loc Cert.Kernel19Ideal.main_arg29)
      ∧ m' ((c.tc : Thread Cert.Reference19Ideal.nD Cert.Reference19Ideal.τ).loc Cert.Reference19Ideal.main_arg30) = m ((c.tc : Thread Cert.Kernel19Ideal.nD Cert.Kernel19Ideal.τ).loc Cert.Kernel19Ideal.main_arg30)
      ∧ m' ((c.tc : Thread Cert.Reference19Ideal.nD Cert.Reference19Ideal.τ).loc Cert.Reference19Ideal.main_arg31) = m ((c.tc : Thread Cert.Kernel19Ideal.nD Cert.Kernel19Ideal.τ).loc Cert.Kernel19Ideal.main_arg31)
      ∧ m' ((c.tc : Thread Cert.Reference19Ideal.nD Cert.Reference19Ideal.τ).loc Cert.Reference19Ideal.main_arg32) = m ((c.tc : Thread Cert.Kernel19Ideal.nD Cert.Kernel19Ideal.τ).loc Cert.Kernel19Ideal.main_arg32)
      ∧ m' ((c.tc : Thread Cert.Reference19Ideal.nD Cert.Reference19Ideal.τ).loc Cert.Reference19Ideal.main_arg33) = m ((c.tc : Thread Cert.Kernel19Ideal.nD Cert.Kernel19Ideal.τ).loc Cert.Kernel19Ideal.main_arg33)
      ∧ m' ((c.tc : Thread Cert.Reference19Ideal.nD Cert.Reference19Ideal.τ).loc Cert.Reference19Ideal.main_arg34) = m ((c.tc : Thread Cert.Kernel19Ideal.nD Cert.Kernel19Ideal.τ).loc Cert.Kernel19Ideal.main_arg34)
      ∧ m' ((c.tc : Thread Cert.Reference19Ideal.nD Cert.Reference19Ideal.τ).loc Cert.Reference19Ideal.main_arg35) = m ((c.tc : Thread Cert.Kernel19Ideal.nD Cert.Kernel19Ideal.τ).loc Cert.Kernel19Ideal.main_arg35)
      ∧ m' ((c.tc : Thread Cert.Reference19Ideal.nD Cert.Reference19Ideal.τ).loc Cert.Reference19Ideal.main_arg36) = m ((c.tc : Thread Cert.Kernel19Ideal.nD Cert.Kernel19Ideal.τ).loc Cert.Kernel19Ideal.main_arg36)
      ∧ m' ((c.tc : Thread Cert.Reference19Ideal.nD Cert.Reference19Ideal.τ).loc Cert.Reference19Ideal.main_arg37) = m ((c.tc : Thread Cert.Kernel19Ideal.nD Cert.Kernel19Ideal.τ).loc Cert.Kernel19Ideal.main_arg37)
      ∧ m' ((c.tc : Thread Cert.Reference19Ideal.nD Cert.Reference19Ideal.τ).loc Cert.Reference19Ideal.main_arg38) = m ((c.tc : Thread Cert.Kernel19Ideal.nD Cert.Kernel19Ideal.τ).loc Cert.Kernel19Ideal.main_arg38)
      ∧ m' ((c.tc : Thread Cert.Reference19Ideal.nD Cert.Reference19Ideal.τ).loc Cert.Reference19Ideal.main_arg39) = m ((c.tc : Thread Cert.Kernel19Ideal.nD Cert.Kernel19Ideal.τ).loc Cert.Kernel19Ideal.main_arg39)
      ∧ m' ((c.tc : Thread Cert.Reference19Ideal.nD Cert.Reference19Ideal.τ).loc Cert.Reference19Ideal.main_arg40) = m ((c.tc : Thread Cert.Kernel19Ideal.nD Cert.Kernel19Ideal.τ).loc Cert.Kernel19Ideal.main_arg40)
      ∧ m' ((c.tc : Thread Cert.Reference19Ideal.nD Cert.Reference19Ideal.τ).loc Cert.Reference19Ideal.main_arg41) = m ((c.tc : Thread Cert.Kernel19Ideal.nD Cert.Kernel19Ideal.τ).loc Cert.Kernel19Ideal.main_arg41)
      ∧ m' ((c.tc : Thread Cert.Reference19Ideal.nD Cert.Reference19Ideal.τ).loc Cert.Reference19Ideal.main_arg42) = m ((c.tc : Thread Cert.Kernel19Ideal.nD Cert.Kernel19Ideal.τ).loc Cert.Kernel19Ideal.main_arg42)
      ∧ m' ((c.tc : Thread Cert.Reference19Ideal.nD Cert.Reference19Ideal.τ).loc Cert.Reference19Ideal.main_arg43) = m ((c.tc : Thread Cert.Kernel19Ideal.nD Cert.Kernel19Ideal.τ).loc Cert.Kernel19Ideal.main_arg43)
      ∧ m' ((c.tc : Thread Cert.Reference19Ideal.nD Cert.Reference19Ideal.τ).loc Cert.Reference19Ideal.main_arg44) = m ((c.tc : Thread Cert.Kernel19Ideal.nD Cert.Kernel19Ideal.τ).loc Cert.Kernel19Ideal.main_arg44)
      ∧ m' ((c.tc : Thread Cert.Reference19Ideal.nD Cert.Reference19Ideal.τ).loc Cert.Reference19Ideal.main_arg45) = m ((c.tc : Thread Cert.Kernel19Ideal.nD Cert.Kernel19Ideal.τ).loc Cert.Kernel19Ideal.main_arg45)
      ∧ m' ((c.tc : Thread Cert.Reference19Ideal.nD Cert.Reference19Ideal.τ).loc Cert.Reference19Ideal.main_arg46) = m ((c.tc : Thread Cert.Kernel19Ideal.nD Cert.Kernel19Ideal.τ).loc Cert.Kernel19Ideal.main_arg46)
      ∧ m' ((c.tc : Thread Cert.Reference19Ideal.nD Cert.Reference19Ideal.τ).loc Cert.Reference19Ideal.main_arg47) = m ((c.tc : Thread Cert.Kernel19Ideal.nD Cert.Kernel19Ideal.τ).loc Cert.Kernel19Ideal.main_arg47)
      ∧ m' ((c.tc : Thread Cert.Reference19Ideal.nD Cert.Reference19Ideal.τ).loc Cert.Reference19Ideal.main_arg48) = m ((c.tc : Thread Cert.Kernel19Ideal.nD Cert.Kernel19Ideal.τ).loc Cert.Kernel19Ideal.main_arg48)
      ∧ m' ((c.tc : Thread Cert.Reference19Ideal.nD Cert.Reference19Ideal.τ).loc Cert.Reference19Ideal.main_arg49) = m ((c.tc : Thread Cert.Kernel19Ideal.nD Cert.Kernel19Ideal.τ).loc Cert.Kernel19Ideal.main_arg49)
      ∧ m' ((c.tc : Thread Cert.Reference19Ideal.nD Cert.Reference19Ideal.τ).loc Cert.Reference19Ideal.main_arg50) = m ((c.tc : Thread Cert.Kernel19Ideal.nD Cert.Kernel19Ideal.τ).loc Cert.Kernel19Ideal.main_arg50)
      ∧ m' ((c.tc : Thread Cert.Reference19Ideal.nD Cert.Reference19Ideal.τ).loc Cert.Reference19Ideal.main_arg51) = m ((c.tc : Thread Cert.Kernel19Ideal.nD Cert.Kernel19Ideal.τ).loc Cert.Kernel19Ideal.main_arg51)
      ∧ m' ((c.tc : Thread Cert.Reference19Ideal.nD Cert.Reference19Ideal.τ).loc Cert.Reference19Ideal.main_arg52) = m ((c.tc : Thread Cert.Kernel19Ideal.nD Cert.Kernel19Ideal.τ).loc Cert.Kernel19Ideal.main_arg52)
      ∧ m' ((c.tc : Thread Cert.Reference19Ideal.nD Cert.Reference19Ideal.τ).loc Cert.Reference19Ideal.main_arg53) = m ((c.tc : Thread Cert.Kernel19Ideal.nD Cert.Kernel19Ideal.τ).loc Cert.Kernel19Ideal.main_arg53)
      ∧ m' ((c.tc : Thread Cert.Reference19Ideal.nD Cert.Reference19Ideal.τ).loc Cert.Reference19Ideal.main_arg54) = m ((c.tc : Thread Cert.Kernel19Ideal.nD Cert.Kernel19Ideal.τ).loc Cert.Kernel19Ideal.main_arg54)
      ∧ m' ((c.tc : Thread Cert.Reference19Ideal.nD Cert.Reference19Ideal.τ).loc Cert.Reference19Ideal.main_arg55) = m ((c.tc : Thread Cert.Kernel19Ideal.nD Cert.Kernel19Ideal.τ).loc Cert.Kernel19Ideal.main_arg55)
      ∧ m' ((c.tc : Thread Cert.Reference19Ideal.nD Cert.Reference19Ideal.τ).loc Cert.Reference19Ideal.main_arg56) = m ((c.tc : Thread Cert.Kernel19Ideal.nD Cert.Kernel19Ideal.τ).loc Cert.Kernel19Ideal.main_arg56)
      ∧ m' ((c.tc : Thread Cert.Reference19Ideal.nD Cert.Reference19Ideal.τ).loc Cert.Reference19Ideal.main_arg57) = m ((c.tc : Thread Cert.Kernel19Ideal.nD Cert.Kernel19Ideal.τ).loc Cert.Kernel19Ideal.main_arg57)
      ∧ m' ((c.tc : Thread Cert.Reference19Ideal.nD Cert.Reference19Ideal.τ).loc Cert.Reference19Ideal.main_arg58) = m ((c.tc : Thread Cert.Kernel19Ideal.nD Cert.Kernel19Ideal.τ).loc Cert.Kernel19Ideal.main_arg58)
      ∧ m' ((c.tc : Thread Cert.Reference19Ideal.nD Cert.Reference19Ideal.τ).loc Cert.Reference19Ideal.main_arg59) = m ((c.tc : Thread Cert.Kernel19Ideal.nD Cert.Kernel19Ideal.τ).loc Cert.Kernel19Ideal.main_arg59)) →
    ∃ (v0 : (c : Dev Cert.Kernel19Ideal.nD) → Buf (Elt Ideal) ((c.tc : Thread Cert.Kernel19Ideal.nD Cert.Kernel19Ideal.τ).loc Cert.Kernel19Ideal.main_v124_0)) (v1 : (c : Dev Cert.Kernel19Ideal.nD) → Buf (Elt Ideal) ((c.tc : Thread Cert.Kernel19Ideal.nD Cert.Kernel19Ideal.τ).loc Cert.Kernel19Ideal.main_v124_1)) (v2 : (c : Dev Cert.Kernel19Ideal.nD) → Buf (Elt Ideal) ((c.tc : Thread Cert.Kernel19Ideal.nD Cert.Kernel19Ideal.τ).loc Cert.Kernel19Ideal.main_v124_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v124_0) = v0 c
          ∧ r.2.mem ((c.tc : Thread Cert.Kernel19Ideal.nD Cert.Kernel19Ideal.τ).loc Cert.Kernel19Ideal.main_v124_1) = v1 c
          ∧ r.2.mem ((c.tc : Thread Cert.Kernel19Ideal.nD Cert.Kernel19Ideal.τ).loc Cert.Kernel19Ideal.main_v124_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
          ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
          ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
          ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
          ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
          ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
          ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15)
          ∧ r.2.mem ((c.tc : Thread Cert.Kernel19Ideal.nD Cert.Kernel19Ideal.τ).loc Cert.Kernel19Ideal.main_arg16) = m ((c.tc : Thread Cert.Kernel19Ideal.nD Cert.Kernel19Ideal.τ).loc Cert.Kernel19Ideal.main_arg16)
          ∧ r.2.mem ((c.tc : Thread Cert.Kernel19Ideal.nD Cert.Kernel19Ideal.τ).loc Cert.Kernel19Ideal.main_arg17) = m ((c.tc : Thread Cert.Kernel19Ideal.nD Cert.Kernel19Ideal.τ).loc Cert.Kernel19Ideal.main_arg17)
          ∧ r.2.mem ((c.tc : Thread Cert.Kernel19Ideal.nD Cert.Kernel19Ideal.τ).loc Cert.Kernel19Ideal.main_arg18) = m ((c.tc : Thread Cert.Kernel19Ideal.nD Cert.Kernel19Ideal.τ).loc Cert.Kernel19Ideal.main_arg18)
          ∧ r.2.mem ((c.tc : Thread Cert.Kernel19Ideal.nD Cert.Kernel19Ideal.τ).loc Cert.Kernel19Ideal.main_arg19) = m ((c.tc : Thread Cert.Kernel19Ideal.nD Cert.Kernel19Ideal.τ).loc Cert.Kernel19Ideal.main_arg19)
          ∧ r.2.mem ((c.tc : Thread Cert.Kernel19Ideal.nD Cert.Kernel19Ideal.τ).loc Cert.Kernel19Ideal.main_arg20) = m ((c.tc : Thread Cert.Kernel19Ideal.nD Cert.Kernel19Ideal.τ).loc Cert.Kernel19Ideal.main_arg20)
          ∧ r.2.mem ((c.tc : Thread Cert.Kernel19Ideal.nD Cert.Kernel19Ideal.τ).loc Cert.Kernel19Ideal.main_arg21) = m ((c.tc : Thread Cert.Kernel19Ideal.nD Cert.Kernel19Ideal.τ).loc Cert.Kernel19Ideal.main_arg21)
          ∧ r.2.mem ((c.tc : Thread Cert.Kernel19Ideal.nD Cert.Kernel19Ideal.τ).loc Cert.Kernel19Ideal.main_arg22) = m ((c.tc : Thread Cert.Kernel19Ideal.nD Cert.Kernel19Ideal.τ).loc Cert.Kernel19Ideal.main_arg22)
          ∧ r.2.mem ((c.tc : Thread Cert.Kernel19Ideal.nD Cert.Kernel19Ideal.τ).loc Cert.Kernel19Ideal.main_arg23) = m ((c.tc : Thread Cert.Kernel19Ideal.nD Cert.Kernel19Ideal.τ).loc Cert.Kernel19Ideal.main_arg23)
          ∧ r.2.mem ((c.tc : Thread Cert.Kernel19Ideal.nD Cert.Kernel19Ideal.τ).loc Cert.Kernel19Ideal.main_arg24) = m ((c.tc : Thread Cert.Kernel19Ideal.nD Cert.Kernel19Ideal.τ).loc Cert.Kernel19Ideal.main_arg24)
          ∧ r.2.mem ((c.tc : Thread Cert.Kernel19Ideal.nD Cert.Kernel19Ideal.τ).loc Cert.Kernel19Ideal.main_arg25) = m ((c.tc : Thread Cert.Kernel19Ideal.nD Cert.Kernel19Ideal.τ).loc Cert.Kernel19Ideal.main_arg25)
          ∧ r.2.mem ((c.tc : Thread Cert.Kernel19Ideal.nD Cert.Kernel19Ideal.τ).loc Cert.Kernel19Ideal.main_arg26) = m ((c.tc : Thread Cert.Kernel19Ideal.nD Cert.Kernel19Ideal.τ).loc Cert.Kernel19Ideal.main_arg26)
          ∧ r.2.mem ((c.tc : Thread Cert.Kernel19Ideal.nD Cert.Kernel19Ideal.τ).loc Cert.Kernel19Ideal.main_arg27) = m ((c.tc : Thread Cert.Kernel19Ideal.nD Cert.Kernel19Ideal.τ).loc Cert.Kernel19Ideal.main_arg27)
          ∧ r.2.mem ((c.tc : Thread Cert.Kernel19Ideal.nD Cert.Kernel19Ideal.τ).loc Cert.Kernel19Ideal.main_arg28) = m ((c.tc : Thread Cert.Kernel19Ideal.nD Cert.Kernel19Ideal.τ).loc Cert.Kernel19Ideal.main_arg28)
          ∧ r.2.mem ((c.tc : Thread Cert.Kernel19Ideal.nD Cert.Kernel19Ideal.τ).loc Cert.Kernel19Ideal.main_arg29) = m ((c.tc : Thread Cert.Kernel19Ideal.nD Cert.Kernel19Ideal.τ).loc Cert.Kernel19Ideal.main_arg29)
          ∧ r.2.mem ((c.tc : Thread Cert.Kernel19Ideal.nD Cert.Kernel19Ideal.τ).loc Cert.Kernel19Ideal.main_arg30) = m ((c.tc : Thread Cert.Kernel19Ideal.nD Cert.Kernel19Ideal.τ).loc Cert.Kernel19Ideal.main_arg30)
          ∧ r.2.mem ((c.tc : Thread Cert.Kernel19Ideal.nD Cert.Kernel19Ideal.τ).loc Cert.Kernel19Ideal.main_arg31) = m ((c.tc : Thread Cert.Kernel19Ideal.nD Cert.Kernel19Ideal.τ).loc Cert.Kernel19Ideal.main_arg31)
          ∧ r.2.mem ((c.tc : Thread Cert.Kernel19Ideal.nD Cert.Kernel19Ideal.τ).loc Cert.Kernel19Ideal.main_arg32) = m ((c.tc : Thread Cert.Kernel19Ideal.nD Cert.Kernel19Ideal.τ).loc Cert.Kernel19Ideal.main_arg32)
          ∧ r.2.mem ((c.tc : Thread Cert.Kernel19Ideal.nD Cert.Kernel19Ideal.τ).loc Cert.Kernel19Ideal.main_arg33) = m ((c.tc : Thread Cert.Kernel19Ideal.nD Cert.Kernel19Ideal.τ).loc Cert.Kernel19Ideal.main_arg33)
          ∧ r.2.mem ((c.tc : Thread Cert.Kernel19Ideal.nD Cert.Kernel19Ideal.τ).loc Cert.Kernel19Ideal.main_arg34) = m ((c.tc : Thread Cert.Kernel19Ideal.nD Cert.Kernel19Ideal.τ).loc Cert.Kernel19Ideal.main_arg34)
          ∧ r.2.mem ((c.tc : Thread Cert.Kernel19Ideal.nD Cert.Kernel19Ideal.τ).loc Cert.Kernel19Ideal.main_arg35) = m ((c.tc : Thread Cert.Kernel19Ideal.nD Cert.Kernel19Ideal.τ).loc Cert.Kernel19Ideal.main_arg35)
          ∧ r.2.mem ((c.tc : Thread Cert.Kernel19Ideal.nD Cert.Kernel19Ideal.τ).loc Cert.Kernel19Ideal.main_arg36) = m ((c.tc : Thread Cert.Kernel19Ideal.nD Cert.Kernel19Ideal.τ).loc Cert.Kernel19Ideal.main_arg36)
          ∧ r.2.mem ((c.tc : Thread Cert.Kernel19Ideal.nD Cert.Kernel19Ideal.τ).loc Cert.Kernel19Ideal.main_arg37) = m ((c.tc : Thread Cert.Kernel19Ideal.nD Cert.Kernel19Ideal.τ).loc Cert.Kernel19Ideal.main_arg37)
          ∧ r.2.mem ((c.tc : Thread Cert.Kernel19Ideal.nD Cert.Kernel19Ideal.τ).loc Cert.Kernel19Ideal.main_arg38) = m ((c.tc : Thread Cert.Kernel19Ideal.nD Cert.Kernel19Ideal.τ).loc Cert.Kernel19Ideal.main_arg38)
          ∧ r.2.mem ((c.tc : Thread Cert.Kernel19Ideal.nD Cert.Kernel19Ideal.τ).loc Cert.Kernel19Ideal.main_arg39) = m ((c.tc : Thread Cert.Kernel19Ideal.nD Cert.Kernel19Ideal.τ).loc Cert.Kernel19Ideal.main_arg39)
          ∧ r.2.mem ((c.tc : Thread Cert.Kernel19Ideal.nD Cert.Kernel19Ideal.τ).loc Cert.Kernel19Ideal.main_arg40) = m ((c.tc : Thread Cert.Kernel19Ideal.nD Cert.Kernel19Ideal.τ).loc Cert.Kernel19Ideal.main_arg40)
          ∧ r.2.mem ((c.tc : Thread Cert.Kernel19Ideal.nD Cert.Kernel19Ideal.τ).loc Cert.Kernel19Ideal.main_arg41) = m ((c.tc : Thread Cert.Kernel19Ideal.nD Cert.Kernel19Ideal.τ).loc Cert.Kernel19Ideal.main_arg41)
          ∧ r.2.mem ((c.tc : Thread Cert.Kernel19Ideal.nD Cert.Kernel19Ideal.τ).loc Cert.Kernel19Ideal.main_arg42) = m ((c.tc : Thread Cert.Kernel19Ideal.nD Cert.Kernel19Ideal.τ).loc Cert.Kernel19Ideal.main_arg42)
          ∧ r.2.mem ((c.tc : Thread Cert.Kernel19Ideal.nD Cert.Kernel19Ideal.τ).loc Cert.Kernel19Ideal.main_arg43) = m ((c.tc : Thread Cert.Kernel19Ideal.nD Cert.Kernel19Ideal.τ).loc Cert.Kernel19Ideal.main_arg43)
          ∧ r.2.mem ((c.tc : Thread Cert.Kernel19Ideal.nD Cert.Kernel19Ideal.τ).loc Cert.Kernel19Ideal.main_arg44) = m ((c.tc : Thread Cert.Kernel19Ideal.nD Cert.Kernel19Ideal.τ).loc Cert.Kernel19Ideal.main_arg44)
          ∧ r.2.mem ((c.tc : Thread Cert.Kernel19Ideal.nD Cert.Kernel19Ideal.τ).loc Cert.Kernel19Ideal.main_arg45) = m ((c.tc : Thread Cert.Kernel19Ideal.nD Cert.Kernel19Ideal.τ).loc Cert.Kernel19Ideal.main_arg45)
          ∧ r.2.mem ((c.tc : Thread Cert.Kernel19Ideal.nD Cert.Kernel19Ideal.τ).loc Cert.Kernel19Ideal.main_arg46) = m ((c.tc : Thread Cert.Kernel19Ideal.nD Cert.Kernel19Ideal.τ).loc Cert.Kernel19Ideal.main_arg46)
          ∧ r.2.mem ((c.tc : Thread Cert.Kernel19Ideal.nD Cert.Kernel19Ideal.τ).loc Cert.Kernel19Ideal.main_arg47) = m ((c.tc : Thread Cert.Kernel19Ideal.nD Cert.Kernel19Ideal.τ).loc Cert.Kernel19Ideal.main_arg47)
          ∧ r.2.mem ((c.tc : Thread Cert.Kernel19Ideal.nD Cert.Kernel19Ideal.τ).loc Cert.Kernel19Ideal.main_arg48) = m ((c.tc : Thread Cert.Kernel19Ideal.nD Cert.Kernel19Ideal.τ).loc Cert.Kernel19Ideal.main_arg48)
          ∧ r.2.mem ((c.tc : Thread Cert.Kernel19Ideal.nD Cert.Kernel19Ideal.τ).loc Cert.Kernel19Ideal.main_arg49) = m ((c.tc : Thread Cert.Kernel19Ideal.nD Cert.Kernel19Ideal.τ).loc Cert.Kernel19Ideal.main_arg49)
          ∧ r.2.mem ((c.tc : Thread Cert.Kernel19Ideal.nD Cert.Kernel19Ideal.τ).loc Cert.Kernel19Ideal.main_arg50) = m ((c.tc : Thread Cert.Kernel19Ideal.nD Cert.Kernel19Ideal.τ).loc Cert.Kernel19Ideal.main_arg50)
          ∧ r.2.mem ((c.tc : Thread Cert.Kernel19Ideal.nD Cert.Kernel19Ideal.τ).loc Cert.Kernel19Ideal.main_arg51) = m ((c.tc : Thread Cert.Kernel19Ideal.nD Cert.Kernel19Ideal.τ).loc Cert.Kernel19Ideal.main_arg51)
          ∧ r.2.mem ((c.tc : Thread Cert.Kernel19Ideal.nD Cert.Kernel19Ideal.τ).loc Cert.Kernel19Ideal.main_arg52) = m ((c.tc : Thread Cert.Kernel19Ideal.nD Cert.Kernel19Ideal.τ).loc Cert.Kernel19Ideal.main_arg52)
          ∧ r.2.mem ((c.tc : Thread Cert.Kernel19Ideal.nD Cert.Kernel19Ideal.τ).loc Cert.Kernel19Ideal.main_arg53) = m ((c.tc : Thread Cert.Kernel19Ideal.nD Cert.Kernel19Ideal.τ).loc Cert.Kernel19Ideal.main_arg53)
          ∧ r.2.mem ((c.tc : Thread Cert.Kernel19Ideal.nD Cert.Kernel19Ideal.τ).loc Cert.Kernel19Ideal.main_arg54) = m ((c.tc : Thread Cert.Kernel19Ideal.nD Cert.Kernel19Ideal.τ).loc Cert.Kernel19Ideal.main_arg54)
          ∧ r.2.mem ((c.tc : Thread Cert.Kernel19Ideal.nD Cert.Kernel19Ideal.τ).loc Cert.Kernel19Ideal.main_arg55) = m ((c.tc : Thread Cert.Kernel19Ideal.nD Cert.Kernel19Ideal.τ).loc Cert.Kernel19Ideal.main_arg55)
          ∧ r.2.mem ((c.tc : Thread Cert.Kernel19Ideal.nD Cert.Kernel19Ideal.τ).loc Cert.Kernel19Ideal.main_arg56) = m ((c.tc : Thread Cert.Kernel19Ideal.nD Cert.Kernel19Ideal.τ).loc Cert.Kernel19Ideal.main_arg56)
          ∧ r.2.mem ((c.tc : Thread Cert.Kernel19Ideal.nD Cert.Kernel19Ideal.τ).loc Cert.Kernel19Ideal.main_arg57) = m ((c.tc : Thread Cert.Kernel19Ideal.nD Cert.Kernel19Ideal.τ).loc Cert.Kernel19Ideal.main_arg57)
          ∧ r.2.mem ((c.tc : Thread Cert.Kernel19Ideal.nD Cert.Kernel19Ideal.τ).loc Cert.Kernel19Ideal.main_arg58) = m ((c.tc : Thread Cert.Kernel19Ideal.nD Cert.Kernel19Ideal.τ).loc Cert.Kernel19Ideal.main_arg58)
          ∧ r.2.mem ((c.tc : Thread Cert.Kernel19Ideal.nD Cert.Kernel19Ideal.τ).loc Cert.Kernel19Ideal.main_arg59) = m ((c.tc : Thread Cert.Kernel19Ideal.nD Cert.Kernel19Ideal.τ).loc Cert.Kernel19Ideal.main_arg59))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v390) = v0 c
          ∧ r.2.mem ((c.tc : Thread Cert.Reference19Ideal.nD Cert.Reference19Ideal.τ).loc Cert.Reference19Ideal.main_v421) = v1 c
          ∧ r.2.mem ((c.tc : Thread Cert.Reference19Ideal.nD Cert.Reference19Ideal.τ).loc Cert.Reference19Ideal.main_v452) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9)
          ∧ r.2.mem ((c.tc : Thread Cert.Reference19Ideal.nD Cert.Reference19Ideal.τ).loc Cert.Reference19Ideal.main_arg10) = m' ((c.tc : Thread Cert.Reference19Ideal.nD Cert.Reference19Ideal.τ).loc Cert.Reference19Ideal.main_arg10)
          ∧ r.2.mem ((c.tc : Thread Cert.Reference19Ideal.nD Cert.Reference19Ideal.τ).loc Cert.Reference19Ideal.main_arg11) = m' ((c.tc : Thread Cert.Reference19Ideal.nD Cert.Reference19Ideal.τ).loc Cert.Reference19Ideal.main_arg11)
          ∧ r.2.mem ((c.tc : Thread Cert.Reference19Ideal.nD Cert.Reference19Ideal.τ).loc Cert.Reference19Ideal.main_arg12) = m' ((c.tc : Thread Cert.Reference19Ideal.nD Cert.Reference19Ideal.τ).loc Cert.Reference19Ideal.main_arg12)
          ∧ r.2.mem ((c.tc : Thread Cert.Reference19Ideal.nD Cert.Reference19Ideal.τ).loc Cert.Reference19Ideal.main_arg13) = m' ((c.tc : Thread Cert.Reference19Ideal.nD Cert.Reference19Ideal.τ).loc Cert.Reference19Ideal.main_arg13)
          ∧ r.2.mem ((c.tc : Thread Cert.Reference19Ideal.nD Cert.Reference19Ideal.τ).loc Cert.Reference19Ideal.main_arg14) = m' ((c.tc : Thread Cert.Reference19Ideal.nD Cert.Reference19Ideal.τ).loc Cert.Reference19Ideal.main_arg14)
          ∧ r.2.mem ((c.tc : Thread Cert.Reference19Ideal.nD Cert.Reference19Ideal.τ).loc Cert.Reference19Ideal.main_arg15) = m' ((c.tc : Thread Cert.Reference19Ideal.nD Cert.Reference19Ideal.τ).loc Cert.Reference19Ideal.main_arg15)
          ∧ r.2.mem ((c.tc : Thread Cert.Reference19Ideal.nD Cert.Reference19Ideal.τ).loc Cert.Reference19Ideal.main_arg16) = m' ((c.tc : Thread Cert.Reference19Ideal.nD Cert.Reference19Ideal.τ).loc Cert.Reference19Ideal.main_arg16)
          ∧ r.2.mem ((c.tc : Thread Cert.Reference19Ideal.nD Cert.Reference19Ideal.τ).loc Cert.Reference19Ideal.main_arg17) = m' ((c.tc : Thread Cert.Reference19Ideal.nD Cert.Reference19Ideal.τ).loc Cert.Reference19Ideal.main_arg17)
          ∧ r.2.mem ((c.tc : Thread Cert.Reference19Ideal.nD Cert.Reference19Ideal.τ).loc Cert.Reference19Ideal.main_arg18) = m' ((c.tc : Thread Cert.Reference19Ideal.nD Cert.Reference19Ideal.τ).loc Cert.Reference19Ideal.main_arg18)
          ∧ r.2.mem ((c.tc : Thread Cert.Reference19Ideal.nD Cert.Reference19Ideal.τ).loc Cert.Reference19Ideal.main_arg19) = m' ((c.tc : Thread Cert.Reference19Ideal.nD Cert.Reference19Ideal.τ).loc Cert.Reference19Ideal.main_arg19)
          ∧ r.2.mem ((c.tc : Thread Cert.Reference19Ideal.nD Cert.Reference19Ideal.τ).loc Cert.Reference19Ideal.main_arg20) = m' ((c.tc : Thread Cert.Reference19Ideal.nD Cert.Reference19Ideal.τ).loc Cert.Reference19Ideal.main_arg20)
          ∧ r.2.mem ((c.tc : Thread Cert.Reference19Ideal.nD Cert.Reference19Ideal.τ).loc Cert.Reference19Ideal.main_arg21) = m' ((c.tc : Thread Cert.Reference19Ideal.nD Cert.Reference19Ideal.τ).loc Cert.Reference19Ideal.main_arg21)
          ∧ r.2.mem ((c.tc : Thread Cert.Reference19Ideal.nD Cert.Reference19Ideal.τ).loc Cert.Reference19Ideal.main_arg22) = m' ((c.tc : Thread Cert.Reference19Ideal.nD Cert.Reference19Ideal.τ).loc Cert.Reference19Ideal.main_arg22)
          ∧ r.2.mem ((c.tc : Thread Cert.Reference19Ideal.nD Cert.Reference19Ideal.τ).loc Cert.Reference19Ideal.main_arg23) = m' ((c.tc : Thread Cert.Reference19Ideal.nD Cert.Reference19Ideal.τ).loc Cert.Reference19Ideal.main_arg23)
          ∧ r.2.mem ((c.tc : Thread Cert.Reference19Ideal.nD Cert.Reference19Ideal.τ).loc Cert.Reference19Ideal.main_arg24) = m' ((c.tc : Thread Cert.Reference19Ideal.nD Cert.Reference19Ideal.τ).loc Cert.Reference19Ideal.main_arg24)
          ∧ r.2.mem ((c.tc : Thread Cert.Reference19Ideal.nD Cert.Reference19Ideal.τ).loc Cert.Reference19Ideal.main_arg25) = m' ((c.tc : Thread Cert.Reference19Ideal.nD Cert.Reference19Ideal.τ).loc Cert.Reference19Ideal.main_arg25)
          ∧ r.2.mem ((c.tc : Thread Cert.Reference19Ideal.nD Cert.Reference19Ideal.τ).loc Cert.Reference19Ideal.main_arg26) = m' ((c.tc : Thread Cert.Reference19Ideal.nD Cert.Reference19Ideal.τ).loc Cert.Reference19Ideal.main_arg26)
          ∧ r.2.mem ((c.tc : Thread Cert.Reference19Ideal.nD Cert.Reference19Ideal.τ).loc Cert.Reference19Ideal.main_arg27) = m' ((c.tc : Thread Cert.Reference19Ideal.nD Cert.Reference19Ideal.τ).loc Cert.Reference19Ideal.main_arg27)
          ∧ r.2.mem ((c.tc : Thread Cert.Reference19Ideal.nD Cert.Reference19Ideal.τ).loc Cert.Reference19Ideal.main_arg28) = m' ((c.tc : Thread Cert.Reference19Ideal.nD Cert.Reference19Ideal.τ).loc Cert.Reference19Ideal.main_arg28)
          ∧ r.2.mem ((c.tc : Thread Cert.Reference19Ideal.nD Cert.Reference19Ideal.τ).loc Cert.Reference19Ideal.main_arg29) = m' ((c.tc : Thread Cert.Reference19Ideal.nD Cert.Reference19Ideal.τ).loc Cert.Reference19Ideal.main_arg29)
          ∧ r.2.mem ((c.tc : Thread Cert.Reference19Ideal.nD Cert.Reference19Ideal.τ).loc Cert.Reference19Ideal.main_arg30) = m' ((c.tc : Thread Cert.Reference19Ideal.nD Cert.Reference19Ideal.τ).loc Cert.Reference19Ideal.main_arg30)
          ∧ r.2.mem ((c.tc : Thread Cert.Reference19Ideal.nD Cert.Reference19Ideal.τ).loc Cert.Reference19Ideal.main_arg31) = m' ((c.tc : Thread Cert.Reference19Ideal.nD Cert.Reference19Ideal.τ).loc Cert.Reference19Ideal.main_arg31)
          ∧ r.2.mem ((c.tc : Thread Cert.Reference19Ideal.nD Cert.Reference19Ideal.τ).loc Cert.Reference19Ideal.main_arg32) = m' ((c.tc : Thread Cert.Reference19Ideal.nD Cert.Reference19Ideal.τ).loc Cert.Reference19Ideal.main_arg32)
          ∧ r.2.mem ((c.tc : Thread Cert.Reference19Ideal.nD Cert.Reference19Ideal.τ).loc Cert.Reference19Ideal.main_arg33) = m' ((c.tc : Thread Cert.Reference19Ideal.nD Cert.Reference19Ideal.τ).loc Cert.Reference19Ideal.main_arg33)
          ∧ r.2.mem ((c.tc : Thread Cert.Reference19Ideal.nD Cert.Reference19Ideal.τ).loc Cert.Reference19Ideal.main_arg34) = m' ((c.tc : Thread Cert.Reference19Ideal.nD Cert.Reference19Ideal.τ).loc Cert.Reference19Ideal.main_arg34)
          ∧ r.2.mem ((c.tc : Thread Cert.Reference19Ideal.nD Cert.Reference19Ideal.τ).loc Cert.Reference19Ideal.main_arg35) = m' ((c.tc : Thread Cert.Reference19Ideal.nD Cert.Reference19Ideal.τ).loc Cert.Reference19Ideal.main_arg35)
          ∧ r.2.mem ((c.tc : Thread Cert.Reference19Ideal.nD Cert.Reference19Ideal.τ).loc Cert.Reference19Ideal.main_arg36) = m' ((c.tc : Thread Cert.Reference19Ideal.nD Cert.Reference19Ideal.τ).loc Cert.Reference19Ideal.main_arg36)
          ∧ r.2.mem ((c.tc : Thread Cert.Reference19Ideal.nD Cert.Reference19Ideal.τ).loc Cert.Reference19Ideal.main_arg37) = m' ((c.tc : Thread Cert.Reference19Ideal.nD Cert.Reference19Ideal.τ).loc Cert.Reference19Ideal.main_arg37)
          ∧ r.2.mem ((c.tc : Thread Cert.Reference19Ideal.nD Cert.Reference19Ideal.τ).loc Cert.Reference19Ideal.main_arg38) = m' ((c.tc : Thread Cert.Reference19Ideal.nD Cert.Reference19Ideal.τ).loc Cert.Reference19Ideal.main_arg38)
          ∧ r.2.mem ((c.tc : Thread Cert.Reference19Ideal.nD Cert.Reference19Ideal.τ).loc Cert.Reference19Ideal.main_arg39) = m' ((c.tc : Thread Cert.Reference19Ideal.nD Cert.Reference19Ideal.τ).loc Cert.Reference19Ideal.main_arg39)
          ∧ r.2.mem ((c.tc : Thread Cert.Reference19Ideal.nD Cert.Reference19Ideal.τ).loc Cert.Reference19Ideal.main_arg40) = m' ((c.tc : Thread Cert.Reference19Ideal.nD Cert.Reference19Ideal.τ).loc Cert.Reference19Ideal.main_arg40)
          ∧ r.2.mem ((c.tc : Thread Cert.Reference19Ideal.nD Cert.Reference19Ideal.τ).loc Cert.Reference19Ideal.main_arg41) = m' ((c.tc : Thread Cert.Reference19Ideal.nD Cert.Reference19Ideal.τ).loc Cert.Reference19Ideal.main_arg41)
          ∧ r.2.mem ((c.tc : Thread Cert.Reference19Ideal.nD Cert.Reference19Ideal.τ).loc Cert.Reference19Ideal.main_arg42) = m' ((c.tc : Thread Cert.Reference19Ideal.nD Cert.Reference19Ideal.τ).loc Cert.Reference19Ideal.main_arg42)
          ∧ r.2.mem ((c.tc : Thread Cert.Reference19Ideal.nD Cert.Reference19Ideal.τ).loc Cert.Reference19Ideal.main_arg43) = m' ((c.tc : Thread Cert.Reference19Ideal.nD Cert.Reference19Ideal.τ).loc Cert.Reference19Ideal.main_arg43)
          ∧ r.2.mem ((c.tc : Thread Cert.Reference19Ideal.nD Cert.Reference19Ideal.τ).loc Cert.Reference19Ideal.main_arg44) = m' ((c.tc : Thread Cert.Reference19Ideal.nD Cert.Reference19Ideal.τ).loc Cert.Reference19Ideal.main_arg44)
          ∧ r.2.mem ((c.tc : Thread Cert.Reference19Ideal.nD Cert.Reference19Ideal.τ).loc Cert.Reference19Ideal.main_arg45) = m' ((c.tc : Thread Cert.Reference19Ideal.nD Cert.Reference19Ideal.τ).loc Cert.Reference19Ideal.main_arg45)
          ∧ r.2.mem ((c.tc : Thread Cert.Reference19Ideal.nD Cert.Reference19Ideal.τ).loc Cert.Reference19Ideal.main_arg46) = m' ((c.tc : Thread Cert.Reference19Ideal.nD Cert.Reference19Ideal.τ).loc Cert.Reference19Ideal.main_arg46)
          ∧ r.2.mem ((c.tc : Thread Cert.Reference19Ideal.nD Cert.Reference19Ideal.τ).loc Cert.Reference19Ideal.main_arg47) = m' ((c.tc : Thread Cert.Reference19Ideal.nD Cert.Reference19Ideal.τ).loc Cert.Reference19Ideal.main_arg47)
          ∧ r.2.mem ((c.tc : Thread Cert.Reference19Ideal.nD Cert.Reference19Ideal.τ).loc Cert.Reference19Ideal.main_arg48) = m' ((c.tc : Thread Cert.Reference19Ideal.nD Cert.Reference19Ideal.τ).loc Cert.Reference19Ideal.main_arg48)
          ∧ r.2.mem ((c.tc : Thread Cert.Reference19Ideal.nD Cert.Reference19Ideal.τ).loc Cert.Reference19Ideal.main_arg49) = m' ((c.tc : Thread Cert.Reference19Ideal.nD Cert.Reference19Ideal.τ).loc Cert.Reference19Ideal.main_arg49)
          ∧ r.2.mem ((c.tc : Thread Cert.Reference19Ideal.nD Cert.Reference19Ideal.τ).loc Cert.Reference19Ideal.main_arg50) = m' ((c.tc : Thread Cert.Reference19Ideal.nD Cert.Reference19Ideal.τ).loc Cert.Reference19Ideal.main_arg50)
          ∧ r.2.mem ((c.tc : Thread Cert.Reference19Ideal.nD Cert.Reference19Ideal.τ).loc Cert.Reference19Ideal.main_arg51) = m' ((c.tc : Thread Cert.Reference19Ideal.nD Cert.Reference19Ideal.τ).loc Cert.Reference19Ideal.main_arg51)
          ∧ r.2.mem ((c.tc : Thread Cert.Reference19Ideal.nD Cert.Reference19Ideal.τ).loc Cert.Reference19Ideal.main_arg52) = m' ((c.tc : Thread Cert.Reference19Ideal.nD Cert.Reference19Ideal.τ).loc Cert.Reference19Ideal.main_arg52)
          ∧ r.2.mem ((c.tc : Thread Cert.Reference19Ideal.nD Cert.Reference19Ideal.τ).loc Cert.Reference19Ideal.main_arg53) = m' ((c.tc : Thread Cert.Reference19Ideal.nD Cert.Reference19Ideal.τ).loc Cert.Reference19Ideal.main_arg53)
          ∧ r.2.mem ((c.tc : Thread Cert.Reference19Ideal.nD Cert.Reference19Ideal.τ).loc Cert.Reference19Ideal.main_arg54) = m' ((c.tc : Thread Cert.Reference19Ideal.nD Cert.Reference19Ideal.τ).loc Cert.Reference19Ideal.main_arg54)
          ∧ r.2.mem ((c.tc : Thread Cert.Reference19Ideal.nD Cert.Reference19Ideal.τ).loc Cert.Reference19Ideal.main_arg55) = m' ((c.tc : Thread Cert.Reference19Ideal.nD Cert.Reference19Ideal.τ).loc Cert.Reference19Ideal.main_arg55)
          ∧ r.2.mem ((c.tc : Thread Cert.Reference19Ideal.nD Cert.Reference19Ideal.τ).loc Cert.Reference19Ideal.main_arg56) = m' ((c.tc : Thread Cert.Reference19Ideal.nD Cert.Reference19Ideal.τ).loc Cert.Reference19Ideal.main_arg56)
          ∧ r.2.mem ((c.tc : Thread Cert.Reference19Ideal.nD Cert.Reference19Ideal.τ).loc Cert.Reference19Ideal.main_arg57) = m' ((c.tc : Thread Cert.Reference19Ideal.nD Cert.Reference19Ideal.τ).loc Cert.Reference19Ideal.main_arg57)
          ∧ r.2.mem ((c.tc : Thread Cert.Reference19Ideal.nD Cert.Reference19Ideal.τ).loc Cert.Reference19Ideal.main_arg58) = m' ((c.tc : Thread Cert.Reference19Ideal.nD Cert.Reference19Ideal.τ).loc Cert.Reference19Ideal.main_arg58)
          ∧ r.2.mem ((c.tc : Thread Cert.Reference19Ideal.nD Cert.Reference19Ideal.τ).loc Cert.Reference19Ideal.main_arg59) = m' ((c.tc : Thread Cert.Reference19Ideal.nD Cert.Reference19Ideal.τ).loc Cert.Reference19Ideal.main_arg59))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite_and_off_kink : Cert.Pre_finite_and_off_kink.Facts),
    quiescent_Kernel (hKernel := hKernel)
    ∧ quiescent_KernelIdeal (hKernelIdeal := hKernelIdeal)
    ∧ quiescent_KernelIdeal_pre_finite_and_off_kink (hKernelIdeal := hKernelIdeal) (hPre_finite_and_off_kink := hPre_finite_and_off_kink)
    ∧ quiescent_ReferenceIdeal (hReferenceIdeal := hReferenceIdeal)
    ∧ quiescent_ReferenceIdeal_pre_finite_and_off_kink (hReferenceIdeal := hReferenceIdeal) (hPre_finite_and_off_kink := hPre_finite_and_off_kink)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite_and_off_kink (hKernelIdeal := hKernelIdeal) (hReferenceIdeal := hReferenceIdeal) (hPre_finite_and_off_kink := hPre_finite_and_off_kink)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite_and_off_kink.lean ====
abbrev S4224x3072 : Shape := ⟨2, ![4224, 3072]⟩
abbrev S4224x13440 : Shape := ⟨2, ![4224, 13440]⟩
abbrev S1x128 : Shape := ⟨2, ![1, 128]⟩
abbrev S32x1x1 : Shape := ⟨3, ![32, 1, 1]⟩
abbrev S1x2048 : Shape := ⟨2, ![1, 2048]⟩
abbrev S66x32x64x128 : Shape := ⟨4, ![66, 32, 64, 128]⟩
abbrev S4224x4096 : Shape := ⟨2, ![4224, 4096]⟩
abbrev S_ : Shape := ⟨0, ![]⟩
abbrev S4112x32 : Shape := ⟨2, ![4112, 32]⟩
abbrev S1x32 : Shape := ⟨2, ![1, 32]⟩

class Facts : Prop where
  bcast_S_S4224x3072 : S_.BroadcastsInDim S4224x3072 (![] : Fin 0 → Fin S4224x3072.rank)
  bcast_S_S4224x13440 : S_.BroadcastsInDim S4224x13440 (![] : Fin 0 → Fin S4224x13440.rank)
  bcast_S_S1x128 : S_.BroadcastsInDim S1x128 (![] : Fin 0 → Fin S1x128.rank)
  bcast_S_S32x1x1 : S_.BroadcastsInDim S32x1x1 (![] : Fin 0 → Fin S32x1x1.rank)
  bcast_S_S1x2048 : S_.BroadcastsInDim S1x2048 (![] : Fin 0 → Fin S1x2048.rank)
  bcast_S_S66x32x64x128 : S_.BroadcastsInDim S66x32x64x128 (![] : Fin 0 → Fin S66x32x64x128.rank)
  bcast_S_S4224x4096 : S_.BroadcastsInDim S4224x4096 (![] : Fin 0 → Fin S4224x4096.rank)
  slices_S4224x13440_S4112x32_112_13344 : S4224x13440.Slices ![112, 13344] S4112x32
  slices_S1x128_S1x32_0_32 : S1x128.Slices ![0, 32] S1x32
  bcast_S1x32_S4112x32_0_1 : S1x32.BroadcastsInDim S4112x32 (![0, 1] : Fin 2 → Fin S4112x32.rank)
  bcast_S_S4112x32 : S_.BroadcastsInDim S4112x32 (![] : Fin 0 → Fin S4112x32.rank)

variable [Facts]

def fn_part1 {F : FTy → Type} [FloatOps F] (main_arg1 : FVec F S4224x13440 .f32) (main_arg3 : FVec F S1x128 .f32) (main_arg6 : FVec F S66x32x64x128 .f32) (main_arg7 : FVec F S4224x4096 .f32) (main_v2 : IVec S4224x3072 1) (main_v5 : IVec S4224x13440 1) (main_v8 : IVec S1x128 1) (main_v11 : IVec S1x128 1) (main_v14 : IVec S32x1x1 1) (main_v17 : IVec S1x2048 1) : IVec S4224x3072 1 × IVec S4224x13440 1 × IVec S1x128 1 × IVec S1x128 1 × IVec S32x1x1 1 × IVec S1x2048 1 × IVec S66x32x64x128 1 × IVec S4224x4096 1 × IVec S4112x32 1 :=
  let main_v18 : FVec F S66x32x64x128 .f32 := Host.absf main_arg6
  let main_cst_5 : FVec F S_ .f32 := constant S_ .f32 0x7F800000#32
  let main_v19 : FVec F S66x32x64x128 .f32 := broadcastInDim S66x32x64x128 ![] bcast_S_S66x32x64x128 main_cst_5
  let main_v20 : IVec S66x32x64x128 1 := cmpf .olt main_v18 main_v19
  let main_v21 : FVec F S4224x4096 .f32 := Host.absf main_arg7
  let main_cst_6 : FVec F S_ .f32 := constant S_ .f32 0x7F800000#32
  let main_v22 : FVec F S4224x4096 .f32 := broadcastInDim S4224x4096 ![] bcast_S_S4224x4096 main_cst_6
  let main_v23 : IVec S4224x4096 1 := cmpf .olt main_v21 main_v22
  let main_v24 : FVec F S4112x32 .f32 := (extractStridedSlice S4112x32 ![112, 13344] · slices_S4224x13440_S4112x32_112_13344) main_arg1
  let main_v25 : FVec F S1x32 .f32 := (extractStridedSlice S1x32 ![0, 32] · slices_S1x128_S1x32_0_32) main_arg3
  let main_v26 : FVec F S4112x32 .f32 := broadcastInDim S4112x32 ![0, 1] bcast_S1x32_S4112x32_0_1 main_v25
  let main_v27 : FVec F S4112x32 .f32 := addf main_v24 main_v26
  let main_cst_7 : FVec F S_ .f32 := constant S_ .f32 0x00000000#32
  let main_v28 : FVec F S4112x32 .f32 := broadcastInDim S4112x32 ![] bcast_S_S4112x32 main_cst_7
  let main_v29 : IVec S4112x32 1 := cmpf .une main_v27 main_v28
  (main_v2, main_v5, main_v8, main_v11, main_v14, main_v17, main_v20, main_v23, main_v29)

def fn {F : FTy → Type} [FloatOps F] (main_arg0 : FVec F S4224x3072 .f32) (main_arg1 : FVec F S4224x13440 .f32) (main_arg2 : FVec F S1x128 .f32) (main_arg3 : FVec F S1x128 .f32) (main_arg4 : FVec F S32x1x1 .f32) (main_arg5 : FVec F S1x2048 .f32) (main_arg6 : FVec F S66x32x64x128 .f32) (main_arg7 : FVec F S4224x4096 .f32) (main_arg8 : FVec F S4224x13440 .bf16) : IVec S4224x3072 1 × IVec S4224x13440 1 × IVec S1x128 1 × IVec S1x128 1 × IVec S32x1x1 1 × IVec S1x2048 1 × IVec S66x32x64x128 1 × IVec S4224x4096 1 × IVec S4112x32 1 :=
  let main_v0 : FVec F S4224x3072 .f32 := Host.absf main_arg0
  let main_cst : FVec F S_ .f32 := constant S_ .f32 0x7F800000#32
  let main_v1 : FVec F S4224x3072 .f32 := broadcastInDim S4224x3072 ![] bcast_S_S4224x3072 main_cst
  let main_v2 : IVec S4224x3072 1 := cmpf .olt main_v0 main_v1
  let main_v3 : FVec F S4224x13440 .f32 := Host.absf main_arg1
  let main_cst_0 : FVec F S_ .f32 := constant S_ .f32 0x7F800000#32
  let main_v4 : FVec F S4224x13440 .f32 := broadcastInDim S4224x13440 ![] bcast_S_S4224x13440 main_cst_0
  let main_v5 : IVec S4224x13440 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_v12 : FVec F S32x1x1 .f32 := Host.absf main_arg4
  let main_cst_3 : FVec F S_ .f32 := constant S_ .f32 0x7F800000#32
  let main_v13 : FVec F S32x1x1 .f32 := broadcastInDim S32x1x1 ![] bcast_S_S32x1x1 main_cst_3
  let main_v14 : IVec S32x1x1 1 := cmpf .olt main_v12 main_v13
  let main_v15 : FVec F S1x2048 .f32 := Host.absf main_arg5
  let main_cst_4 : FVec F S_ .f32 := constant S_ .f32 0x7F800000#32
  let main_v16 : FVec F S1x2048 .f32 := broadcastInDim S1x2048 ![] bcast_S_S1x2048 main_cst_4
  let main_v17 : IVec S1x2048 1 := cmpf .olt main_v15 main_v16
  fn_part1 (F := F) main_arg1 main_arg3 main_arg6 main_arg7 main_v2 main_v5 main_v8 main_v11 main_v14 main_v17
-- ==== Kernel.lean ====
abbrev S4224x3072 : Shape := ⟨2, ![4224, 3072]⟩
abbrev S4224x13440 : Shape := ⟨2, ![4224, 13440]⟩
abbrev S1x128 : Shape := ⟨2, ![1, 128]⟩
abbrev S32x1x1 : Shape := ⟨3, ![32, 1, 1]⟩
abbrev S1x2048 : Shape := ⟨2, ![1, 2048]⟩
abbrev S66x32x64x128 : Shape := ⟨4, ![66, 32, 64, 128]⟩
abbrev S4224x4096 : Shape := ⟨2, ![4224, 4096]⟩
abbrev S4224x2048 : Shape := ⟨2, ![4224, 2048]⟩
abbrev S4224x512 : Shape := ⟨2, ![4224, 512]⟩
abbrev S4x4224x128 : Shape := ⟨3, ![4, 4224, 128]⟩
abbrev S4x1x128 : Shape := ⟨3, ![4, 1, 128]⟩
abbrev S64x512 : Shape := ⟨2, ![64, 512]⟩
abbrev S64x128 : Shape := ⟨2, ![64, 128]⟩
abbrev S8x1x1 : Shape := ⟨3, ![8, 1, 1]⟩
abbrev S1x512 : Shape := ⟨2, ![1, 512]⟩
abbrev S1x8x64x128 : Shape := ⟨4, ![1, 8, 64, 128]⟩
abbrev S1x64x128 : Shape := ⟨3, ![1, 64, 128]⟩
abbrev S1x1x128 : Shape := ⟨3, ![1, 1, 128]⟩
abbrev S8x64x128 : Shape := ⟨3, ![8, 64, 128]⟩
abbrev S1x64x1 : Shape := ⟨3, ![1, 64, 1]⟩
abbrev S64x64 : Shape := ⟨2, ![64, 64]⟩
abbrev S1x64x64 : Shape := ⟨3, ![1, 64, 64]⟩
abbrev S64x1 : Shape := ⟨2, ![64, 1]⟩
abbrev S128 : Shape := ⟨1, ![128]⟩
abbrev S8x1x128 : Shape := ⟨3, ![8, 1, 128]⟩
abbrev S8x64 : Shape := ⟨2, ![8, 64]⟩
abbrev S8x64x1 : Shape := ⟨3, ![8, 64, 1]⟩
abbrev S8x1 : Shape := ⟨2, ![8, 1]⟩
abbrev S8x64x64 : Shape := ⟨3, ![8, 64, 64]⟩
abbrev S8x1x64 : Shape := ⟨3, ![8, 1, 64]⟩
abbrev S8x1x512 : Shape := ⟨3, ![8, 1, 512]⟩
abbrev S8x64x512 : Shape := ⟨3, ![8, 64, 512]⟩
abbrev S512x64 : Shape := ⟨2, ![512, 64]⟩
abbrev S512x512 : Shape := ⟨2, ![512, 512]⟩
abbrev S512x128 : Shape := ⟨2, ![512, 128]⟩
abbrev S64 : Shape := ⟨1, ![64]⟩
abbrev S512 : Shape := ⟨1, ![512]⟩
abbrev S1x1x512 : Shape := ⟨3, ![1, 1, 512]⟩
abbrev S8 : Shape := ⟨1, ![8]⟩
abbrev S128x64 : Shape := ⟨2, ![128, 64]⟩
abbrev S1x64x512 : Shape := ⟨3, ![1, 64, 512]⟩

abbrev nBuf : Space → Nat
  | .hbm => 18
  | .vmem => 39
  | .smem => 0
  | _ => 0

abbrev bufTy : (tb : Table) → Fin (tcTables nBuf tb) → BufTy
  | .hbm, ⟨0, _⟩ => ⟨S4224x3072, .f32⟩
  | .hbm, ⟨1, _⟩ => ⟨S4224x13440, .f32⟩
  | .hbm, ⟨2, _⟩ => ⟨S1x128, .f32⟩
  | .hbm, ⟨3, _⟩ => ⟨S1x128, .f32⟩
  | .hbm, ⟨4, _⟩ => ⟨S32x1x1, .f32⟩
  | .hbm, ⟨5, _⟩ => ⟨S1x2048, .f32⟩
  | .hbm, ⟨6, _⟩ => ⟨S66x32x64x128, .f32⟩
  | .hbm, ⟨7, _⟩ => ⟨S4224x4096, .f32⟩
  | .hbm, ⟨8, _⟩ => ⟨S4224x13440, .bf16⟩
  | .hbm, ⟨9, _⟩ => ⟨S4224x2048, .f32⟩
  | .hbm, ⟨10, _⟩ => ⟨S4224x512, .f32⟩
  | .hbm, ⟨11, _⟩ => ⟨S4224x512, .f32⟩
  | .hbm, ⟨12, _⟩ => ⟨S4224x13440, .bf16⟩
  | .hbm, ⟨13, _⟩ => ⟨S4x4224x128, .f32⟩
  | .hbm, ⟨14, _⟩ => ⟨S4x1x128, .f32⟩
  | .hbm, ⟨15, _⟩ => ⟨S4x1x128, .f32⟩
  | .hbm, ⟨16, _⟩ => ⟨S32x1x1, .f32⟩
  | .hbm, ⟨17, _⟩ => ⟨S1x2048, .f32⟩
  | .local _ .vmem, ⟨0, _⟩ => ⟨S64x512, .f32⟩
  | .local _ .vmem, ⟨1, _⟩ => ⟨S64x512, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x512, .f32⟩
  | .local _ .vmem, ⟨7, _⟩ => ⟨S64x512, .f32⟩
  | .local _ .vmem, ⟨8, _⟩ => ⟨S64x128, .f32⟩
  | .local _ .vmem, ⟨9, _⟩ => ⟨S64x128, .f32⟩
  | .local _ .vmem, ⟨10, _⟩ => ⟨S1x128, .f32⟩
  | .local _ .vmem, ⟨11, _⟩ => ⟨S1x128, .f32⟩
  | .local _ .vmem, ⟨12, _⟩ => ⟨S8x1x1, .f32⟩
  | .local _ .vmem, ⟨13, _⟩ => ⟨S8x1x1, .f32⟩
  | .local _ .vmem, ⟨14, _⟩ => ⟨S1x512, .f32⟩
  | .local _ .vmem, ⟨15, _⟩ => ⟨S1x512, .f32⟩
  | .local _ .vmem, ⟨16, _⟩ => ⟨S1x8x64x128, .f32⟩
  | .local _ .vmem, ⟨17, _⟩ => ⟨S1x8x64x128, .f32⟩
  | .local _ .vmem, ⟨18, _⟩ => ⟨S64x512, .f32⟩
  | .local _ .vmem, ⟨19, _⟩ => ⟨S64x512, .f32⟩
  | .local _ .vmem, ⟨20, _⟩ => ⟨S64x512, .f32⟩
  | .local _ .vmem, ⟨21, _⟩ => ⟨S64x512, .f32⟩
  | .local _ .vmem, ⟨22, _⟩ => ⟨S64x128, .f32⟩
  | .local _ .vmem, ⟨23, _⟩ => ⟨S64x128, .f32⟩
  | .local _ .vmem, ⟨24, _⟩ => ⟨S64x128, .f32⟩
  | .local _ .vmem, ⟨25, _⟩ => ⟨S64x128, .f32⟩
  | .local _ .vmem, ⟨26, _⟩ => ⟨S64x512, .bf16⟩
  | .local _ .vmem, ⟨27, _⟩ => ⟨S64x512, .bf16⟩
  | .local _ .vmem, ⟨28, _⟩ => ⟨S1x64x128, .f32⟩
  | .local _ .vmem, ⟨29, _⟩ => ⟨S1x64x128, .f32⟩
  | .local _ .vmem, ⟨30, _⟩ => ⟨S1x1x128, .f32⟩
  | .local _ .vmem, ⟨31, _⟩ => ⟨S1x1x128, .f32⟩
  | .local _ .vmem, ⟨32, _⟩ => ⟨S1x1x128, .f32⟩
  | .local _ .vmem, ⟨33, _⟩ => ⟨S1x1x128, .f32⟩
  | .local _ .vmem, ⟨34, _⟩ => ⟨S8x1x1, .f32⟩
  | .local _ .vmem, ⟨35, _⟩ => ⟨S8x1x1, .f32⟩
  | .local _ .vmem, ⟨36, _⟩ => ⟨S1x512, .f32⟩
  | .local _ .vmem, ⟨37, _⟩ => ⟨S1x512, .f32⟩
  | .local _ .vmem, ⟨38, _⟩ => ⟨S8x64x128, .f32⟩
  | _, _ => ⟨S4224x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨2, ![4, 66], ![false, false]⟩

def cc0_transform_0 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c16_i32 : BitVec 32 := 16#32
  let v1 : BitVec 32 := Scalar.addi c16_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c20_i32 : BitVec 32 := 20#32
  let v1 : BitVec 32 := Scalar.addi c20_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c16_i32 : BitVec 32 := 16#32
  let v1 : BitVec 32 := Scalar.addi c16_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c104_i32 : BitVec 32 := 104#32
  let c0_i32 : BitVec 32 := 0#32
  ![v0.toNat, c104_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c4_i32 : BitVec 32 := 4#32
  let v1 : BitVec 32 := Scalar.addi c4_i32 arg0
  let c0_i32 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let v1 : BitVec 32 := Scalar.addi c0_i32 arg0
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let v1 : BitVec 32 := Scalar.addi c0_i32 arg0
  let c0_i32_0 : BitVec 32 := 0#32
  ![v0.toNat, v1.toNat]

def cc0_transform_15 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c16_i32 : BitVec 32 := 16#32
  let v1 : BitVec 32 := Scalar.addi c16_i32 arg0
  let c0_i32 : BitVec 32 := 0#32
  ![v0.toNat, v1.toNat]

def cc0_transform_16 (i : grid0.Coords) : Fin 3 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  ![arg0.toNat, v0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S8x1x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== ReferenceIdeal.lean ====
abbrev S4224x3072 : Shape := ⟨2, ![4224, 3072]⟩
abbrev S4224x13440 : Shape := ⟨2, ![4224, 13440]⟩
abbrev S1x128 : Shape := ⟨2, ![1, 128]⟩
abbrev S32x1x1 : Shape := ⟨3, ![32, 1, 1]⟩
abbrev S1x2048 : Shape := ⟨2, ![1, 2048]⟩
abbrev S66x32x64x128 : Shape := ⟨4, ![66, 32, 64, 128]⟩
abbrev S4224x4096 : Shape := ⟨2, ![4224, 4096]⟩
abbrev S66x4x8x64x128 : Shape := ⟨5, ![66, 4, 8, 64, 128]⟩
abbrev S4224x2048 : Shape := ⟨2, ![4224, 2048]⟩
abbrev S4224x512 : Shape := ⟨2, ![4224, 512]⟩
abbrev S4224x32 : Shape := ⟨2, ![4224, 32]⟩
abbrev S1x32 : Shape := ⟨2, ![1, 32]⟩
abbrev S_ : Shape := ⟨0, ![]⟩
abbrev S4224x4x8x64 : Shape := ⟨4, ![4224, 4, 8, 64]⟩
abbrev S4224x4x128 : Shape := ⟨3, ![4224, 4, 128]⟩
abbrev S4224x4x8 : Shape := ⟨3, ![4224, 4, 8]⟩
abbrev S4x8 : Shape := ⟨2, ![4, 8]⟩
abbrev S66x64x4x8x64 : Shape := ⟨5, ![66, 64, 4, 8, 64]⟩
abbrev S66x64x4x8 : Shape := ⟨4, ![66, 64, 4, 8]⟩
abbrev S1x4x8 : Shape := ⟨3, ![1, 4, 8]⟩
abbrev S66x64x4x128 : Shape := ⟨4, ![66, 64, 4, 128]⟩
abbrev S64x64 : Shape := ⟨2, ![64, 64]⟩
abbrev S64x64x1x1 : Shape := ⟨4, ![64, 64, 1, 1]⟩
abbrev S66x64x1x4x8 : Shape := ⟨5, ![66, 64, 1, 4, 8]⟩
abbrev S66x1x64x4x8 : Shape := ⟨5, ![66, 1, 64, 4, 8]⟩
abbrev S66x64x64x4x8 : Shape := ⟨5, ![66, 64, 64, 4, 8]⟩
abbrev S64x64x4x8 : Shape := ⟨4, ![64, 64, 4, 8]⟩
abbrev S66x64x4x8x1 : Shape := ⟨5, ![66, 64, 4, 8, 1]⟩
abbrev S66x4x64x64 : Shape := ⟨4, ![66, 4, 64, 64]⟩
abbrev S66x64x64x4 : Shape := ⟨4, ![66, 64, 64, 4]⟩
abbrev S66x64x64x4x1 : Shape := ⟨5, ![66, 64, 64, 4, 1]⟩
abbrev S66x4x8x64x64 : Shape := ⟨5, ![66, 4, 8, 64, 64]⟩
abbrev S66x1x4x8 : Shape := ⟨4, ![66, 1, 4, 8]⟩
abbrev S66x4x8 : Shape := ⟨3, ![66, 4, 8]⟩
abbrev S66x4x8x1x1 : Shape := ⟨5, ![66, 4, 8, 1, 1]⟩
abbrev S4x8x1 : Shape := ⟨3, ![4, 8, 1]⟩
abbrev S1x4x8x1 : Shape := ⟨4, ![1, 4, 8, 1]⟩
abbrev S4224x4x512 : Shape := ⟨3, ![4224, 4, 512]⟩
abbrev S4224x4 : Shape := ⟨2, ![4224, 4]⟩
abbrev S4224x4x1 : Shape := ⟨3, ![4224, 4, 1]⟩
abbrev S2048 : Shape := ⟨1, ![2048]⟩
abbrev S66x66 : Shape := ⟨2, ![66, 66]⟩
abbrev S66x66x1x1 : Shape := ⟨4, ![66, 66, 1, 1]⟩
abbrev S1x66x4x8 : Shape := ⟨4, ![1, 66, 4, 8]⟩
abbrev S66x66x4x8 : Shape := ⟨4, ![66, 66, 4, 8]⟩
abbrev S4x8x64x128x66 : Shape := ⟨5, ![4, 8, 64, 128, 66]⟩
abbrev S66x4x128x64 : Shape := ⟨4, ![66, 4, 128, 64]⟩
abbrev S66x4x64x128 : Shape := ⟨4, ![66, 4, 64, 128]⟩
abbrev S32 : Shape := ⟨1, ![32]⟩
abbrev S4224x8192 : Shape := ⟨2, ![4224, 8192]⟩
abbrev S4224x3200 : Shape := ⟨2, ![4224, 3200]⟩
abbrev S4x1x128 : Shape := ⟨3, ![4, 1, 128]⟩
abbrev S4224x128 : Shape := ⟨2, ![4224, 128]⟩
abbrev S1x4224x128 : Shape := ⟨3, ![1, 4224, 128]⟩
abbrev S4x4224x128 : Shape := ⟨3, ![4, 4224, 128]⟩
abbrev S1x1x128 : Shape := ⟨3, ![1, 1, 128]⟩

abbrev nBuf : Space → Nat
  | .hbm => 493
  | .vmem => 0
  | .smem => 0
  | _ => 0

abbrev hbmTy0_0 (i : Nat) : BufTy := match i % 128 with
  | 0 => ⟨S4224x3072, .f32⟩
  | 1 => ⟨S4224x13440, .f32⟩
  | 2 => ⟨S1x128, .f32⟩
  | 3 => ⟨S1x128, .f32⟩
  | 4 => ⟨S32x1x1, .f32⟩
  | 5 => ⟨S1x2048, .f32⟩
  | 6 => ⟨S66x32x64x128, .f32⟩
  | 7 => ⟨S4224x4096, .f32⟩
  | 8 => ⟨S4224x13440, .bf16⟩
  | 9 => ⟨S66x4x8x64x128, .f32⟩
  | 10 => ⟨S4224x2048, .f32⟩
  | 11 => ⟨S4224x512, .f32⟩
  | 12 => ⟨S4224x512, .f32⟩
  | 13 => ⟨S4224x32, .f32⟩
  | 14 => ⟨S1x32, .f32⟩
  | 15 => ⟨S1x32, .f32⟩
  | 16 => ⟨S4224x2048, .i32⟩
  | 17 => ⟨S_, .i32⟩
  | 18 => ⟨S4224x2048, .i32⟩
  | 19 => ⟨S4224x2048, .i1⟩
  | 20 => ⟨S_, .f32⟩
  | 21 => ⟨S_, .f32⟩
  | 22 => ⟨S4224x2048, .f32⟩
  | 23 => ⟨S4224x2048, .f32⟩
  | 24 => ⟨S_, .f32⟩
  | 25 => ⟨S4224x2048, .f32⟩
  | 26 => ⟨S4224x4x8x64, .f32⟩
  | 27 => ⟨S4224x512, .i32⟩
  | 28 => ⟨S_, .i32⟩
  | 29 => ⟨S4224x512, .i32⟩
  | 30 => ⟨S4224x512, .i1⟩
  | 31 => ⟨S_, .f32⟩
  | 32 => ⟨S_, .f32⟩
  | 33 => ⟨S4224x512, .f32⟩
  | 34 => ⟨S4224x512, .f32⟩
  | 35 => ⟨S_, .f32⟩
  | 36 => ⟨S4224x512, .f32⟩
  | 37 => ⟨S4224x4x128, .f32⟩
  | 38 => ⟨S4224x512, .i32⟩
  | 39 => ⟨S_, .i32⟩
  | 40 => ⟨S4224x512, .i32⟩
  | 41 => ⟨S4224x512, .i1⟩
  | 42 => ⟨S_, .f32⟩
  | 43 => ⟨S_, .f32⟩
  | 44 => ⟨S4224x512, .f32⟩
  | 45 => ⟨S4224x512, .f32⟩
  | 46 => ⟨S_, .f32⟩
  | 47 => ⟨S4224x512, .f32⟩
  | 48 => ⟨S4224x4x128, .f32⟩
  | 49 => ⟨S4224x32, .f32⟩
  | 50 => ⟨S4224x32, .f32⟩
  | 51 => ⟨S_, .f32⟩
  | 52 => ⟨S4224x32, .f32⟩
  | 53 => ⟨S4224x32, .f32⟩
  | 54 => ⟨S4224x32, .f32⟩
  | 55 => ⟨S4224x32, .f32⟩
  | 56 => ⟨S4224x32, .i1⟩
  | 57 => ⟨S4224x32, .f32⟩
  | 58 => ⟨S4224x32, .f32⟩
  | 59 => ⟨S4224x32, .f32⟩
  | 60 => ⟨S4224x32, .f32⟩
  | 61 => ⟨S4224x32, .f32⟩
  | 62 => ⟨S4224x32, .f32⟩
  | 63 => ⟨S4224x32, .f32⟩
  | 64 => ⟨S4224x32, .f32⟩
  | 65 => ⟨S_, .f32⟩
  | 66 => ⟨S4224x32, .f32⟩
  | 67 => ⟨S4224x32, .i1⟩
  | 68 => ⟨S_, .f32⟩
  | 69 => ⟨S4224x32, .f32⟩
  | 70 => ⟨S4224x32, .f32⟩
  | 71 => ⟨S_, .f32⟩
  | 72 => ⟨S4224x32, .f32⟩
  | 73 => ⟨S4224x32, .i1⟩
  | 74 => ⟨S_, .f32⟩
  | 75 => ⟨S4224x32, .f32⟩
  | 76 => ⟨S4224x32, .f32⟩
  | 77 => ⟨S4224x32, .f32⟩
  | 78 => ⟨S4224x32, .f32⟩
  | 79 => ⟨S_, .f32⟩
  | 80 => ⟨S_, .f32⟩
  | 81 => ⟨S_, .i1⟩
  | 82 => ⟨S_, .f32⟩
  | 83 => ⟨S_, .f32⟩
  | 84 => ⟨S_, .f32⟩
  | 85 => ⟨S_, .f32⟩
  | 86 => ⟨S4224x32, .f32⟩
  | 87 => ⟨S4224x32, .i1⟩
  | 88 => ⟨S_, .f32⟩
  | 89 => ⟨S4224x32, .f32⟩
  | 90 => ⟨S4224x32, .f32⟩
  | 91 => ⟨S4224x32, .f32⟩
  | 92 => ⟨S4224x32, .f32⟩
  | 93 => ⟨S4224x32, .f32⟩
  | 94 => ⟨S_, .f32⟩
  | 95 => ⟨S4224x32, .f32⟩
  | 96 => ⟨S4224x32, .f32⟩
  | 97 => ⟨S4224x32, .i32⟩
  | 98 => ⟨S_, .i32⟩
  | 99 => ⟨S4224x32, .i32⟩
  | 100 => ⟨S4224x32, .i1⟩
  | 101 => ⟨S_, .f32⟩
  | 102 => ⟨S_, .f32⟩
  | 103 => ⟨S4224x32, .f32⟩
  | 104 => ⟨S4224x32, .f32⟩
  | 105 => ⟨S_, .f32⟩
  | 106 => ⟨S4224x32, .f32⟩
  | 107 => ⟨S4224x4x8, .f32⟩
  | 108 => ⟨S1x32, .f32⟩
  | 109 => ⟨S1x32, .f32⟩
  | 110 => ⟨S4x8, .f32⟩
  | 111 => ⟨S66x64x4x8x64, .f32⟩
  | 112 => ⟨S66x64x4x8, .f32⟩
  | 113 => ⟨S1x4x8, .f32⟩
  | 114 => ⟨S4224x4x8, .f32⟩
  | 115 => ⟨S4224x4x8, .f32⟩
  | 116 => ⟨S66x64x4x8, .f32⟩
  | 117 => ⟨S66x64x4x128, .f32⟩
  | 118 => ⟨S66x64x4x128, .f32⟩
  | 119 => ⟨S_, .i1⟩
  | 120 => ⟨S64x64, .i1⟩
  | 121 => ⟨S64x64, .i32⟩
  | 122 => ⟨S_, .i32⟩
  | 123 => ⟨S64x64, .i32⟩
  | 124 => ⟨S64x64, .i32⟩
  | 125 => ⟨S64x64, .i32⟩
  | 126 => ⟨S64x64, .i1⟩
  | 127 => ⟨S_, .i1⟩
  | _ => ⟨S4224x3072, .f32⟩

abbrev hbmTy0_1 (i : Nat) : BufTy := match i % 128 with
  | 0 => ⟨S64x64, .i1⟩
  | 1 => ⟨S64x64, .i1⟩
  | 2 => ⟨S64x64x1x1, .i1⟩
  | 3 => ⟨S_, .f32⟩
  | 4 => ⟨S_, .f32⟩
  | 5 => ⟨S66x64x4x8, .f32⟩
  | 6 => ⟨S66x64x1x4x8, .f32⟩
  | 7 => ⟨S66x1x64x4x8, .f32⟩
  | 8 => ⟨S66x64x64x4x8, .f32⟩
  | 9 => ⟨S66x64x64x4x8, .f32⟩
  | 10 => ⟨S66x64x64x4x8, .f32⟩
  | 11 => ⟨S_, .f32⟩
  | 12 => ⟨S_, .f32⟩
  | 13 => ⟨S64x64x4x8, .i1⟩
  | 14 => ⟨S64x64x4x8, .f32⟩
  | 15 => ⟨S66x64x64x4x8, .i1⟩
  | 16 => ⟨S66x64x64x4x8, .f32⟩
  | 17 => ⟨S66x64x64x4x8, .f32⟩
  | 18 => ⟨S_, .f32⟩
  | 19 => ⟨S66x64x64x4x8, .f32⟩
  | 20 => ⟨S66x64x64x4x8, .f32⟩
  | 21 => ⟨S66x64x4x8x1, .f32⟩
  | 22 => ⟨S66x64x4x8x64, .f32⟩
  | 23 => ⟨S66x64x4x8x64, .f32⟩
  | 24 => ⟨S66x4x64x64, .f32⟩
  | 25 => ⟨S66x64x64x4, .f32⟩
  | 26 => ⟨S66x64x64x4x1, .f32⟩
  | 27 => ⟨S66x64x64x4x8, .f32⟩
  | 28 => ⟨S66x64x64x4x8, .f32⟩
  | 29 => ⟨S66x4x8x64x64, .f32⟩
  | 30 => ⟨S66x64x4x8x64, .f32⟩
  | 31 => ⟨S66x4x8x64x64, .f32⟩
  | 32 => ⟨S66x64x4x8x64, .f32⟩
  | 33 => ⟨S66x64x4x8, .f32⟩
  | 34 => ⟨S66x64x4x8x1, .f32⟩
  | 35 => ⟨S66x64x4x8x64, .f32⟩
  | 36 => ⟨S66x64x4x8x64, .f32⟩
  | 37 => ⟨S66x1x4x8, .f32⟩
  | 38 => ⟨S66x4x8, .f32⟩
  | 39 => ⟨S66x4x8, .f32⟩
  | 40 => ⟨S66x4x8x1x1, .f32⟩
  | 41 => ⟨S66x4x8x64x128, .f32⟩
  | 42 => ⟨S66x4x8x64x128, .f32⟩
  | 43 => ⟨S66x1x4x8, .f32⟩
  | 44 => ⟨S66x64x4x8, .f32⟩
  | 45 => ⟨S66x64x4x8, .f32⟩
  | 46 => ⟨S66x64x4x8, .f32⟩
  | 47 => ⟨S66x64x4x8x1, .f32⟩
  | 48 => ⟨S66x64x4x8x64, .f32⟩
  | 49 => ⟨S66x64x4x8x64, .f32⟩
  | 50 => ⟨S66x4x8x64x128, .f32⟩
  | 51 => ⟨S66x4x8x64x128, .f32⟩
  | 52 => ⟨S66x64x4x8x64, .f32⟩
  | 53 => ⟨S4224x2048, .f32⟩
  | 54 => ⟨S4224x4x8x64, .f32⟩
  | 55 => ⟨S4x8, .f32⟩
  | 56 => ⟨S4x8x1, .f32⟩
  | 57 => ⟨S4224x4x8x64, .f32⟩
  | 58 => ⟨S1x4x8x1, .f32⟩
  | 59 => ⟨S4224x4x8x64, .f32⟩
  | 60 => ⟨S4224x4x8x64, .f32⟩
  | 61 => ⟨S4224x4x8x64, .f32⟩
  | 62 => ⟨S4224x2048, .f32⟩
  | 63 => ⟨S4224x2048, .f32⟩
  | 64 => ⟨S4224x2048, .f32⟩
  | 65 => ⟨S_, .f32⟩
  | 66 => ⟨S4224x2048, .f32⟩
  | 67 => ⟨S4224x2048, .f32⟩
  | 68 => ⟨S_, .f32⟩
  | 69 => ⟨S4224x2048, .f32⟩
  | 70 => ⟨S4224x2048, .f32⟩
  | 71 => ⟨S_, .f32⟩
  | 72 => ⟨S4224x2048, .f32⟩
  | 73 => ⟨S4224x2048, .f32⟩
  | 74 => ⟨S4224x2048, .f32⟩
  | 75 => ⟨S4224x2048, .f32⟩
  | 76 => ⟨S4224x2048, .f32⟩
  | 77 => ⟨S4224x4x512, .f32⟩
  | 78 => ⟨S4224x4x512, .f32⟩
  | 79 => ⟨S_, .f32⟩
  | 80 => ⟨S4224x4, .f32⟩
  | 81 => ⟨S4224x4x1, .f32⟩
  | 82 => ⟨S_, .f32⟩
  | 83 => ⟨S4224x4x1, .f32⟩
  | 84 => ⟨S4224x4x1, .f32⟩
  | 85 => ⟨S_, .f32⟩
  | 86 => ⟨S4224x4x1, .f32⟩
  | 87 => ⟨S4224x4x1, .f32⟩
  | 88 => ⟨S4224x4x1, .f32⟩
  | 89 => ⟨S4224x4x1, .f32⟩
  | 90 => ⟨S_, .f32⟩
  | 91 => ⟨S4224x4x1, .f32⟩
  | 92 => ⟨S4224x4x1, .f32⟩
  | 93 => ⟨S4224x4x512, .f32⟩
  | 94 => ⟨S4224x4x512, .f32⟩
  | 95 => ⟨S4224x2048, .f32⟩
  | 96 => ⟨S4224x2048, .f32⟩
  | 97 => ⟨S4224x2048, .f32⟩
  | 98 => ⟨S4224x2048, .f32⟩
  | 99 => ⟨S4224x2048, .f32⟩
  | 100 => ⟨S_, .f32⟩
  | 101 => ⟨S2048, .f32⟩
  | 102 => ⟨S1x2048, .f32⟩
  | 103 => ⟨S4224x2048, .f32⟩
  | 104 => ⟨S4224x2048, .f32⟩
  | 105 => ⟨S4224x4x512, .f32⟩
  | 106 => ⟨S4224x4x512, .f32⟩
  | 107 => ⟨S_, .f32⟩
  | 108 => ⟨S4224x4, .f32⟩
  | 109 => ⟨S4224x4x1, .f32⟩
  | 110 => ⟨S4224x4x512, .f32⟩
  | 111 => ⟨S4224x4x512, .f32⟩
  | 112 => ⟨S4224x4x1, .f32⟩
  | 113 => ⟨S_, .f32⟩
  | 114 => ⟨S4224x4x1, .f32⟩
  | 115 => ⟨S4224x4x1, .f32⟩
  | 116 => ⟨S_, .f32⟩
  | 117 => ⟨S4224x4, .f32⟩
  | 118 => ⟨S4224x4x512, .f32⟩
  | 119 => ⟨S4224x4x512, .f32⟩
  | 120 => ⟨S4224x4x512, .f32⟩
  | 121 => ⟨S4224x4x512, .f32⟩
  | 122 => ⟨S4224x4x512, .f32⟩
  | 123 => ⟨S4224x2048, .f32⟩
  | 124 => ⟨S4224x2048, .f32⟩
  | 125 => ⟨S4224x2048, .f32⟩
  | 126 => ⟨S4224x2048, .f32⟩
  | 127 => ⟨S4224x2048, .f32⟩
  | _ => ⟨S4224x3072, .f32⟩

abbrev hbmTy0_2 (i : Nat) : BufTy := match i % 128 with
  | 0 => ⟨S4224x2048, .f32⟩
  | 1 => ⟨S4224x2048, .f32⟩
  | 2 => ⟨S4224x4x8x64, .f32⟩
  | 3 => ⟨S4224x4x8x64, .f32⟩
  | 4 => ⟨S4224x4x8x64, .f32⟩
  | 5 => ⟨S4224x4x8x64, .f32⟩
  | 6 => ⟨S_, .f32⟩
  | 7 => ⟨S4x8, .f32⟩
  | 8 => ⟨S1x4x8x1, .f32⟩
  | 9 => ⟨S_, .f32⟩
  | 10 => ⟨S4x8, .f32⟩
  | 11 => ⟨S4x8x1, .f32⟩
  | 12 => ⟨S66x64x4x8x64, .f32⟩
  | 13 => ⟨S_, .f32⟩
  | 14 => ⟨S4x8, .f32⟩
  | 15 => ⟨S32x1x1, .f32⟩
  | 16 => ⟨S66x64x4x8x64, .f32⟩
  | 17 => ⟨S_, .f32⟩
  | 18 => ⟨S_, .f32⟩
  | 19 => ⟨S66x64x4x8, .f32⟩
  | 20 => ⟨S66x1x4x8, .f32⟩
  | 21 => ⟨S66x4x8, .f32⟩
  | 22 => ⟨S66x4x8x64x64, .f32⟩
  | 23 => ⟨S66x64x4x8x64, .f32⟩
  | 24 => ⟨S66x64x4x8, .f32⟩
  | 25 => ⟨S66x64x4x8x1, .f32⟩
  | 26 => ⟨S66x64x4x8x64, .f32⟩
  | 27 => ⟨S66x64x4x8x64, .f32⟩
  | 28 => ⟨S66x64x4x8x64, .f32⟩
  | 29 => ⟨S66x64x4x8x64, .f32⟩
  | 30 => ⟨S66x4x8x64x64, .f32⟩
  | 31 => ⟨S66x4x8x64x128, .f32⟩
  | 32 => ⟨S_, .f32⟩
  | 33 => ⟨S_, .f32⟩
  | 34 => ⟨S66x4x8, .f32⟩
  | 35 => ⟨S_, .i1⟩
  | 36 => ⟨S66x66, .i1⟩
  | 37 => ⟨S66x66, .i32⟩
  | 38 => ⟨S_, .i32⟩
  | 39 => ⟨S66x66, .i32⟩
  | 40 => ⟨S66x66, .i32⟩
  | 41 => ⟨S66x66, .i32⟩
  | 42 => ⟨S66x66, .i1⟩
  | 43 => ⟨S_, .i1⟩
  | 44 => ⟨S66x66, .i1⟩
  | 45 => ⟨S66x66, .i1⟩
  | 46 => ⟨S66x66x1x1, .i1⟩
  | 47 => ⟨S66x4x8, .f32⟩
  | 48 => ⟨S66x1x4x8, .f32⟩
  | 49 => ⟨S1x66x4x8, .f32⟩
  | 50 => ⟨S66x66x4x8, .f32⟩
  | 51 => ⟨S66x66x4x8, .f32⟩
  | 52 => ⟨S66x66x4x8, .f32⟩
  | 53 => ⟨S_, .f32⟩
  | 54 => ⟨S_, .f32⟩
  | 55 => ⟨S66x66x4x8, .i1⟩
  | 56 => ⟨S66x66x4x8, .f32⟩
  | 57 => ⟨S66x66x4x8, .f32⟩
  | 58 => ⟨S66x66x4x8, .f32⟩
  | 59 => ⟨S4x8x64x128x66, .f32⟩
  | 60 => ⟨S66x4x8x64x128, .f32⟩
  | 61 => ⟨S66x4x128x64, .f32⟩
  | 62 => ⟨S66x64x4x128, .f32⟩
  | 63 => ⟨S66x4x8x64x64, .f32⟩
  | 64 => ⟨S66x64x4x8x64, .f32⟩
  | 65 => ⟨S66x64x4x8x64, .f32⟩
  | 66 => ⟨S66x64x4x8x64, .f32⟩
  | 67 => ⟨S66x64x4x8x64, .f32⟩
  | 68 => ⟨S_, .f32⟩
  | 69 => ⟨S66x64x4x8, .f32⟩
  | 70 => ⟨S66x64x4x8x1, .f32⟩
  | 71 => ⟨S_, .f32⟩
  | 72 => ⟨S66x64x4x8, .f32⟩
  | 73 => ⟨S66x64x4x8, .f32⟩
  | 74 => ⟨S_, .f32⟩
  | 75 => ⟨S66x4x8, .f32⟩
  | 76 => ⟨S66x1x4x8, .f32⟩
  | 77 => ⟨S66x64x4x8, .f32⟩
  | 78 => ⟨S_, .f32⟩
  | 79 => ⟨S66x4x8, .f32⟩
  | 80 => ⟨S66x4x8x64x128, .f32⟩
  | 81 => ⟨S_, .f32⟩
  | 82 => ⟨S66x4x8, .f32⟩
  | 83 => ⟨S66x4x8x1x1, .f32⟩
  | 84 => ⟨S66x4x8x64x128, .f32⟩
  | 85 => ⟨S66x4x8x64x128, .f32⟩
  | 86 => ⟨S_, .f32⟩
  | 87 => ⟨S66x4x8, .f32⟩
  | 88 => ⟨S66x4x8, .f32⟩
  | 89 => ⟨S66x4x8, .f32⟩
  | 90 => ⟨S66x1x4x8, .f32⟩
  | 91 => ⟨S_, .f32⟩
  | 92 => ⟨S66x64x4x8, .f32⟩
  | 93 => ⟨S66x64x4x8, .f32⟩
  | 94 => ⟨S66x64x4x8x64, .f32⟩
  | 95 => ⟨S_, .f32⟩
  | 96 => ⟨S66x64x4x8, .f32⟩
  | 97 => ⟨S66x64x4x8x1, .f32⟩
  | 98 => ⟨S66x64x4x8x64, .f32⟩
  | 99 => ⟨S66x64x4x8x64, .f32⟩
  | 100 => ⟨S_, .f32⟩
  | 101 => ⟨S66x64x4x8, .f32⟩
  | 102 => ⟨S66x64x4x8, .f32⟩
  | 103 => ⟨S66x64x4x8, .f32⟩
  | 104 => ⟨S66x4x8x64x64, .f32⟩
  | 105 => ⟨S66x4x64x128, .f32⟩
  | 106 => ⟨S66x64x4x128, .f32⟩
  | 107 => ⟨S66x4x8x64x128, .f32⟩
  | 108 => ⟨S66x4x8x64x128, .f32⟩
  | 109 => ⟨S66x4x8x64x64, .f32⟩
  | 110 => ⟨S66x4x8x64x64, .f32⟩
  | 111 => ⟨S66x64x64x4x8, .f32⟩
  | 112 => ⟨S66x4x8x64x64, .f32⟩
  | 113 => ⟨S66x64x4x8x64, .f32⟩
  | 114 => ⟨S66x64x4x8x64, .f32⟩
  | 115 => ⟨S66x64x64x4x8, .f32⟩
  | 116 => ⟨S66x64x64x4x8, .f32⟩
  | 117 => ⟨S66x64x64x4x8, .f32⟩
  | 118 => ⟨S_, .f32⟩
  | 119 => ⟨S66x64x64x4, .f32⟩
  | 120 => ⟨S66x64x64x4x1, .f32⟩
  | 121 => ⟨S_, .f32⟩
  | 122 => ⟨S66x64x64x4, .f32⟩
  | 123 => ⟨S66x4x64x64, .f32⟩
  | 124 => ⟨S66x4x64x128, .f32⟩
  | 125 => ⟨S66x64x4x128, .f32⟩
  | 126 => ⟨S66x64x4x128, .f32⟩
  | 127 => ⟨S66x4x64x128, .f32⟩
  | _ => ⟨S4224x3072, .f32⟩

abbrev hbmTy0_3 (i : Nat) : BufTy := match i % 128 with
  | 0 => ⟨S66x64x4x128, .f32⟩
  | 1 => ⟨S66x64x4x128, .f32⟩
  | 2 => ⟨S66x64x4x8x64, .f32⟩
  | 3 => ⟨S_, .f32⟩
  | 4 => ⟨S66x64x4x8, .f32⟩
  | 5 => ⟨S66x64x4x8x1, .f32⟩
  | 6 => ⟨S66x64x4x8x64, .f32⟩
  | 7 => ⟨S66x64x4x8x64, .f32⟩
  | 8 => ⟨S_, .f32⟩
  | 9 => ⟨S66x64x4x8, .f32⟩
  | 10 => ⟨S66x64x64x4x8, .f32⟩
  | 11 => ⟨S_, .f32⟩
  | 12 => ⟨S66x64x64x4x8, .f32⟩
  | 13 => ⟨S66x64x64x4x8, .f32⟩
  | 14 => ⟨S_, .f32⟩
  | 15 => ⟨S66x64x4x8, .f32⟩
  | 16 => ⟨S66x64x1x4x8, .f32⟩
  | 17 => ⟨S66x64x64x4x8, .f32⟩
  | 18 => ⟨S_, .f32⟩
  | 19 => ⟨S66x64x4x8, .f32⟩
  | 20 => ⟨S66x1x64x4x8, .f32⟩
  | 21 => ⟨S_, .f32⟩
  | 22 => ⟨S66x64x4x8, .f32⟩
  | 23 => ⟨S66x64x4x8, .f32⟩
  | 24 => ⟨S_, .f32⟩
  | 25 => ⟨S66x64x4x8, .f32⟩
  | 26 => ⟨S66x64x4x8, .f32⟩
  | 27 => ⟨S_, .f32⟩
  | 28 => ⟨S_, .f32⟩
  | 29 => ⟨S66x64x4x8, .f32⟩
  | 30 => ⟨S66x64x4x8x64, .f32⟩
  | 31 => ⟨S4224x4x128, .f32⟩
  | 32 => ⟨S4224x4x128, .f32⟩
  | 33 => ⟨S4224x4x8, .f32⟩
  | 34 => ⟨S4224x4x8, .f32⟩
  | 35 => ⟨S_, .f32⟩
  | 36 => ⟨S4x8, .f32⟩
  | 37 => ⟨S1x4x8, .f32⟩
  | 38 => ⟨S4224x4x8, .f32⟩
  | 39 => ⟨S4224x4x8, .f32⟩
  | 40 => ⟨S_, .f32⟩
  | 41 => ⟨S4x8, .f32⟩
  | 42 => ⟨S4224x4x8, .f32⟩
  | 43 => ⟨S4224x4x8, .f32⟩
  | 44 => ⟨S4224x4x8x64, .f32⟩
  | 45 => ⟨S1x32, .f32⟩
  | 46 => ⟨S1x32, .f32⟩
  | 47 => ⟨S1x32, .f32⟩
  | 48 => ⟨S4224x32, .f32⟩
  | 49 => ⟨S_, .f32⟩
  | 50 => ⟨S4224x32, .f32⟩
  | 51 => ⟨S4224x32, .f32⟩
  | 52 => ⟨S4224x32, .f32⟩
  | 53 => ⟨S_, .f32⟩
  | 54 => ⟨S32, .f32⟩
  | 55 => ⟨S1x32, .f32⟩
  | 56 => ⟨S4224x512, .f32⟩
  | 57 => ⟨S_, .f32⟩
  | 58 => ⟨S4224x512, .f32⟩
  | 59 => ⟨S4224x512, .f32⟩
  | 60 => ⟨S4224x512, .f32⟩
  | 61 => ⟨S_, .f32⟩
  | 62 => ⟨S4224x512, .f32⟩
  | 63 => ⟨S4224x512, .f32⟩
  | 64 => ⟨S4224x2048, .f32⟩
  | 65 => ⟨S_, .f32⟩
  | 66 => ⟨S4224x2048, .f32⟩
  | 67 => ⟨S4224x2048, .f32⟩
  | 68 => ⟨S4224x8192, .bf16⟩
  | 69 => ⟨S4224x2048, .bf16⟩
  | 70 => ⟨S4224x3200, .bf16⟩
  | 71 => ⟨S4224x13440, .bf16⟩
  | 72 => ⟨S4x1x128, .i32⟩
  | 73 => ⟨S4x1x128, .i32⟩
  | 74 => ⟨S_, .i32⟩
  | 75 => ⟨S4x1x128, .i32⟩
  | 76 => ⟨S4x1x128, .i32⟩
  | 77 => ⟨S_, .i32⟩
  | 78 => ⟨S4x1x128, .i32⟩
  | 79 => ⟨S4x1x128, .i32⟩
  | 80 => ⟨S4x1x128, .i1⟩
  | 81 => ⟨S_, .i32⟩
  | 82 => ⟨S4x1x128, .i32⟩
  | 83 => ⟨S4x1x128, .i32⟩
  | 84 => ⟨S_, .i32⟩
  | 85 => ⟨S4x1x128, .i32⟩
  | 86 => ⟨S4x1x128, .i32⟩
  | 87 => ⟨S4x1x128, .i1⟩
  | 88 => ⟨S4x1x128, .i1⟩
  | 89 => ⟨S4x1x128, .f32⟩
  | 90 => ⟨S_, .i32⟩
  | 91 => ⟨S_, .f32⟩
  | 92 => ⟨S4224x128, .f32⟩
  | 93 => ⟨S1x4224x128, .f32⟩
  | 94 => ⟨S4x4224x128, .f32⟩
  | 95 => ⟨S4x4224x128, .f32⟩
  | 96 => ⟨S4x4224x128, .f32⟩
  | 97 => ⟨S_, .i32⟩
  | 98 => ⟨S_, .f32⟩
  | 99 => ⟨S1x128, .f32⟩
  | 100 => ⟨S1x1x128, .f32⟩
  | 101 => ⟨S4x1x128, .f32⟩
  | 102 => ⟨S4x1x128, .f32⟩
  | 103 => ⟨S_, .i32⟩
  | 104 => ⟨S_, .f32⟩
  | 105 => ⟨S1x128, .f32⟩
  | 106 => ⟨S1x1x128, .f32⟩
  | 107 => ⟨S4x1x128, .f32⟩
  | 108 => ⟨S4x1x128, .f32⟩
  | _ => ⟨S4224x3072, .f32⟩

abbrev hbmTy (i : Nat) : BufTy := match i / 128 with
  | 0 => hbmTy0_0 i
  | 1 => hbmTy0_1 i
  | 2 => hbmTy0_2 i
  | 3 => hbmTy0_3 i
  | _ => ⟨S4224x3072, .f32⟩

abbrev bufTy : (tb : Table) → Fin (tcTables nBuf tb) → BufTy
  | .hbm, ⟨i, _⟩ => hbmTy i
  | _, _ => ⟨S4224x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_v10_0 : Ref sig .tc := ⟨.hbm, 23, rfl⟩
abbrev main_call0_cst : Ref sig .tc := ⟨.hbm, 24, rfl⟩
abbrev main_v10_1 : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_v15_0 : Ref sig .tc := ⟨.hbm, 34, rfl⟩
abbrev main_call1_cst : Ref sig .tc := ⟨.hbm, 35, rfl⟩
abbrev main_v15_1 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_call2_v0 : Ref sig .tc := ⟨.hbm, 43, rfl⟩
abbrev main_call2_v1 : Ref sig .tc := ⟨.hbm, 44, rfl⟩
abbrev main_v20_0 : Ref sig .tc := ⟨.hbm, 45, rfl⟩
abbrev main_call2_cst : Ref sig .tc := ⟨.hbm, 46, rfl⟩
abbrev main_v20_1 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_call3_cst : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_v24_0 : Ref sig .tc := ⟨.hbm, 64, rfl⟩
abbrev main_call3_cst_0 : Ref sig .tc := ⟨.hbm, 65, rfl⟩
abbrev main_call3_v13 : Ref sig .tc := ⟨.hbm, 66, rfl⟩
abbrev main_call3_v14 : Ref sig .tc := ⟨.hbm, 67, rfl⟩
abbrev main_call3_cst_1 : Ref sig .tc := ⟨.hbm, 68, rfl⟩
abbrev main_call3_v15 : Ref sig .tc := ⟨.hbm, 69, rfl⟩
abbrev main_call3_v16 : Ref sig .tc := ⟨.hbm, 70, rfl⟩
abbrev main_call3_cst_2 : Ref sig .tc := ⟨.hbm, 71, rfl⟩
abbrev main_call3_v17 : Ref sig .tc := ⟨.hbm, 72, rfl⟩
abbrev main_call3_v18 : Ref sig .tc := ⟨.hbm, 73, rfl⟩
abbrev main_call3_cst_3 : Ref sig .tc := ⟨.hbm, 74, rfl⟩
abbrev main_call3_v19 : Ref sig .tc := ⟨.hbm, 75, rfl⟩
abbrev main_call3_v20 : Ref sig .tc := ⟨.hbm, 76, rfl⟩
abbrev main_call3_v21 : Ref sig .tc := ⟨.hbm, 77, rfl⟩
abbrev main_v24_1 : Ref sig .tc := ⟨.hbm, 78, rfl⟩
abbrev main_call3_cst_4 : Ref sig .tc := ⟨.hbm, 79, rfl⟩
abbrev main_call3_cst_5 : Ref sig .tc := ⟨.hbm, 80, rfl⟩
abbrev main_call3_v23 : Ref sig .tc := ⟨.hbm, 81, rfl⟩
abbrev main_call3_cst_6 : Ref sig .tc := ⟨.hbm, 82, rfl⟩
abbrev main_call3_cst_7 : Ref sig .tc := ⟨.hbm, 83, rfl⟩
abbrev main_call3_v24 : Ref sig .tc := ⟨.hbm, 84, rfl⟩
abbrev main_call3_cst_8 : Ref sig .tc := ⟨.hbm, 85, rfl⟩
abbrev main_call3_v25 : Ref sig .tc := ⟨.hbm, 86, rfl⟩
abbrev main_call3_v26 : Ref sig .tc := ⟨.hbm, 87, rfl⟩
abbrev main_call3_cst_9 : Ref sig .tc := ⟨.hbm, 88, rfl⟩
abbrev main_call3_v27 : Ref sig .tc := ⟨.hbm, 89, rfl⟩
abbrev main_call3_v28 : Ref sig .tc := ⟨.hbm, 90, rfl⟩
abbrev main_call3_v29 : Ref sig .tc := ⟨.hbm, 91, rfl⟩
abbrev main_call3_v30 : Ref sig .tc := ⟨.hbm, 92, rfl⟩
abbrev main_call3_v31 : Ref sig .tc := ⟨.hbm, 93, rfl⟩
abbrev main_call3_cst_10 : Ref sig .tc := ⟨.hbm, 94, rfl⟩
abbrev main_call3_v32 : Ref sig .tc := ⟨.hbm, 95, rfl⟩
abbrev main_v24_2 : Ref sig .tc := ⟨.hbm, 96, rfl⟩
abbrev main_v25 : Ref sig .tc := ⟨.hbm, 97, rfl⟩
abbrev main_c_4 : Ref sig .tc := ⟨.hbm, 98, rfl⟩
abbrev main_v26 : Ref sig .tc := ⟨.hbm, 99, rfl⟩
abbrev main_v27 : Ref sig .tc := ⟨.hbm, 100, rfl⟩
abbrev main_cst_5 : Ref sig .tc := ⟨.hbm, 101, rfl⟩
abbrev main_call4_v0 : Ref sig .tc := ⟨.hbm, 102, rfl⟩
abbrev main_call4_v1 : Ref sig .tc := ⟨.hbm, 103, rfl⟩
abbrev main_v28_0 : Ref sig .tc := ⟨.hbm, 104, rfl⟩
abbrev main_call4_cst : Ref sig .tc := ⟨.hbm, 105, rfl⟩
abbrev main_v28_1 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_c_6 : Ref sig .tc := ⟨.hbm, 119, rfl⟩
abbrev main_v41 : Ref sig .tc := ⟨.hbm, 120, rfl⟩
abbrev main_call5_v0 : Ref sig .tc := ⟨.hbm, 121, rfl⟩
abbrev main_call5_c : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_c_0 : Ref sig .tc := ⟨.hbm, 127, rfl⟩
abbrev main_call5_v5 : Ref sig .tc := ⟨.hbm, 128, rfl⟩
abbrev main_v42 : Ref sig .tc := ⟨.hbm, 129, rfl⟩
abbrev main_v43 : Ref sig .tc := ⟨.hbm, 130, rfl⟩
abbrev main_call6_call0_cst : Ref sig .tc := ⟨.hbm, 131, rfl⟩
abbrev main_call6_call0_v0 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_cst_7 : Ref sig .tc := ⟨.hbm, 139, rfl⟩
abbrev main_call7_v0 : Ref sig .tc := ⟨.hbm, 140, rfl⟩
abbrev main_call7_v1 : Ref sig .tc := ⟨.hbm, 141, rfl⟩
abbrev main_call7_v2 : Ref sig .tc := ⟨.hbm, 142, rfl⟩
abbrev main_v50_1 : Ref sig .tc := ⟨.hbm, 143, rfl⟩
abbrev main_call7_v4 : Ref sig .tc := ⟨.hbm, 144, rfl⟩
abbrev main_v50_0 : Ref sig .tc := ⟨.hbm, 145, rfl⟩
abbrev main_call7_cst : Ref sig .tc := ⟨.hbm, 146, rfl⟩
abbrev main_v50_2 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_call8_v0 : Ref sig .tc := ⟨.hbm, 191, rfl⟩
abbrev main_call8_v1 : Ref sig .tc := ⟨.hbm, 192, rfl⟩
abbrev main_call8_cst : Ref sig .tc := ⟨.hbm, 193, rfl⟩
abbrev main_call8_v2 : Ref sig .tc := ⟨.hbm, 194, rfl⟩
abbrev main_call8_v3 : Ref sig .tc := ⟨.hbm, 195, rfl⟩
abbrev main_call8_cst_0 : Ref sig .tc := ⟨.hbm, 196, rfl⟩
abbrev main_call8_v4 : Ref sig .tc := ⟨.hbm, 197, rfl⟩
abbrev main_v94_2 : Ref sig .tc := ⟨.hbm, 198, rfl⟩
abbrev main_call8_cst_1 : Ref sig .tc := ⟨.hbm, 199, rfl⟩
abbrev main_call8_v6 : Ref sig .tc := ⟨.hbm, 200, rfl⟩
abbrev main_call8_v7 : Ref sig .tc := ⟨.hbm, 201, rfl⟩
abbrev main_v94_1 : Ref sig .tc := ⟨.hbm, 202, rfl⟩
abbrev main_v94_0 : Ref sig .tc := ⟨.hbm, 203, rfl⟩
abbrev main_v95 : Ref sig .tc := ⟨.hbm, 204, rfl⟩
abbrev main_v96 : Ref sig .tc := ⟨.hbm, 205, rfl⟩
abbrev main_v97 : Ref sig .tc := ⟨.hbm, 206, rfl⟩
abbrev main_cst_8 : Ref sig .tc := ⟨.hbm, 207, rfl⟩
abbrev main_v98 : Ref sig .tc := ⟨.hbm, 208, rfl⟩
abbrev main_v99 : Ref sig .tc := ⟨.hbm, 209, rfl⟩
abbrev main_cst_9 : Ref sig .tc := ⟨.hbm, 210, rfl⟩
abbrev main_v100 : Ref sig .tc := ⟨.hbm, 211, rfl⟩
abbrev main_v101 : Ref sig .tc := ⟨.hbm, 212, rfl⟩
abbrev main_cst_10 : Ref sig .tc := ⟨.hbm, 213, rfl⟩
abbrev main_v102 : Ref sig .tc := ⟨.hbm, 214, rfl⟩
abbrev main_v103 : Ref sig .tc := ⟨.hbm, 215, rfl⟩
abbrev main_v104 : Ref sig .tc := ⟨.hbm, 216, rfl⟩
abbrev main_v105 : Ref sig .tc := ⟨.hbm, 217, rfl⟩
abbrev main_cst_11 : Ref sig .tc := ⟨.hbm, 218, rfl⟩
abbrev main_v106 : Ref sig .tc := ⟨.hbm, 219, rfl⟩
abbrev main_v107 : Ref sig .tc := ⟨.hbm, 220, rfl⟩
abbrev main_v108 : Ref sig .tc := ⟨.hbm, 221, rfl⟩
abbrev main_v109 : Ref sig .tc := ⟨.hbm, 222, rfl⟩
abbrev main_v110 : Ref sig .tc := ⟨.hbm, 223, rfl⟩
abbrev main_v111 : Ref sig .tc := ⟨.hbm, 224, rfl⟩
abbrev main_v112 : Ref sig .tc := ⟨.hbm, 225, rfl⟩
abbrev main_v113 : Ref sig .tc := ⟨.hbm, 226, rfl⟩
abbrev main_v114 : Ref sig .tc := ⟨.hbm, 227, rfl⟩
abbrev main_cst_12 : Ref sig .tc := ⟨.hbm, 228, rfl⟩
abbrev main_v115 : Ref sig .tc := ⟨.hbm, 229, rfl⟩
abbrev main_v116 : Ref sig .tc := ⟨.hbm, 230, rfl⟩
abbrev main_v117 : Ref sig .tc := ⟨.hbm, 231, rfl⟩
abbrev main_v118 : Ref sig .tc := ⟨.hbm, 232, rfl⟩
abbrev main_v119 : Ref sig .tc := ⟨.hbm, 233, rfl⟩
abbrev main_v120 : Ref sig .tc := ⟨.hbm, 234, rfl⟩
abbrev main_cst_13 : Ref sig .tc := ⟨.hbm, 235, rfl⟩
abbrev main_v121 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_cst_14 : Ref sig .tc := ⟨.hbm, 241, rfl⟩
abbrev main_v126 : Ref sig .tc := ⟨.hbm, 242, rfl⟩
abbrev main_v127 : Ref sig .tc := ⟨.hbm, 243, rfl⟩
abbrev main_cst_15 : Ref sig .tc := ⟨.hbm, 244, rfl⟩
abbrev main_v128 : Ref sig .tc := ⟨.hbm, 245, rfl⟩
abbrev main_v129 : Ref sig .tc := ⟨.hbm, 246, rfl⟩
abbrev main_v130 : Ref sig .tc := ⟨.hbm, 247, rfl⟩
abbrev main_v131 : Ref sig .tc := ⟨.hbm, 248, rfl⟩
abbrev main_v132 : Ref sig .tc := ⟨.hbm, 249, rfl⟩
abbrev main_v133 : Ref sig .tc := ⟨.hbm, 250, rfl⟩
abbrev main_v134 : Ref sig .tc := ⟨.hbm, 251, rfl⟩
abbrev main_v135 : Ref sig .tc := ⟨.hbm, 252, rfl⟩
abbrev main_v136 : Ref sig .tc := ⟨.hbm, 253, rfl⟩
abbrev main_call9_v0 : Ref sig .tc := ⟨.hbm, 254, rfl⟩
abbrev main_call9_v1 : Ref sig .tc := ⟨.hbm, 255, rfl⟩
abbrev main_call9_v2 : Ref sig .tc := ⟨.hbm, 256, rfl⟩
abbrev main_v137 : Ref sig .tc := ⟨.hbm, 257, rfl⟩
abbrev main_v138 : Ref sig .tc := ⟨.hbm, 258, rfl⟩
abbrev main_v139 : Ref sig .tc := ⟨.hbm, 259, rfl⟩
abbrev main_v140 : Ref sig .tc := ⟨.hbm, 260, rfl⟩
abbrev main_v141 : Ref sig .tc := ⟨.hbm, 261, rfl⟩
abbrev main_cst_16 : Ref sig .tc := ⟨.hbm, 262, rfl⟩
abbrev main_v142 : Ref sig .tc := ⟨.hbm, 263, rfl⟩
abbrev main_v143 : Ref sig .tc := ⟨.hbm, 264, rfl⟩
abbrev main_cst_17 : Ref sig .tc := ⟨.hbm, 265, rfl⟩
abbrev main_v144 : Ref sig .tc := ⟨.hbm, 266, rfl⟩
abbrev main_v145 : Ref sig .tc := ⟨.hbm, 267, rfl⟩
abbrev main_v146 : Ref sig .tc := ⟨.hbm, 268, rfl⟩
abbrev main_cst_18 : Ref sig .tc := ⟨.hbm, 269, rfl⟩
abbrev main_v147 : Ref sig .tc := ⟨.hbm, 270, rfl⟩
abbrev main_v148 : Ref sig .tc := ⟨.hbm, 271, rfl⟩
abbrev main_v149 : Ref sig .tc := ⟨.hbm, 272, rfl⟩
abbrev main_call10_call0_cst : Ref sig .tc := ⟨.hbm, 273, rfl⟩
abbrev main_call10_call0_v0 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_v153 : Ref sig .tc := ⟨.hbm, 278, rfl⟩
abbrev main_v154 : Ref sig .tc := ⟨.hbm, 279, rfl⟩
abbrev main_v155 : Ref sig .tc := ⟨.hbm, 280, rfl⟩
abbrev main_v156 : Ref sig .tc := ⟨.hbm, 281, rfl⟩
abbrev main_v157 : Ref sig .tc := ⟨.hbm, 282, rfl⟩
abbrev main_v158 : Ref sig .tc := ⟨.hbm, 283, rfl⟩
abbrev main_v159 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_call11_call0_cst : Ref sig .tc := ⟨.hbm, 288, rfl⟩
abbrev main_call11_call0_v0 : Ref sig .tc := ⟨.hbm, 289, rfl⟩
abbrev main_v163 : Ref sig .tc := ⟨.hbm, 290, rfl⟩
abbrev main_c_19 : Ref sig .tc := ⟨.hbm, 291, rfl⟩
abbrev main_v164 : Ref sig .tc := ⟨.hbm, 292, rfl⟩
abbrev main_call12_v0 : Ref sig .tc := ⟨.hbm, 293, rfl⟩
abbrev main_call12_c : Ref sig .tc := ⟨.hbm, 294, rfl⟩
abbrev main_call12_v1 : Ref sig .tc := ⟨.hbm, 295, rfl⟩
abbrev main_call12_v2 : Ref sig .tc := ⟨.hbm, 296, rfl⟩
abbrev main_call12_v3 : Ref sig .tc := ⟨.hbm, 297, rfl⟩
abbrev main_call12_v4 : Ref sig .tc := ⟨.hbm, 298, rfl⟩
abbrev main_call12_c_0 : Ref sig .tc := ⟨.hbm, 299, rfl⟩
abbrev main_call12_v5 : Ref sig .tc := ⟨.hbm, 300, rfl⟩
abbrev main_v165 : Ref sig .tc := ⟨.hbm, 301, rfl⟩
abbrev main_v166 : Ref sig .tc := ⟨.hbm, 302, rfl⟩
abbrev main_v167 : Ref sig .tc := ⟨.hbm, 303, rfl⟩
abbrev main_v168 : Ref sig .tc := ⟨.hbm, 304, rfl⟩
abbrev main_v169 : Ref sig .tc := ⟨.hbm, 305, rfl⟩
abbrev main_v170 : Ref sig .tc := ⟨.hbm, 306, rfl⟩
abbrev main_v171 : Ref sig .tc := ⟨.hbm, 307, rfl⟩
abbrev main_v172 : Ref sig .tc := ⟨.hbm, 308, rfl⟩
abbrev main_cst_20 : Ref sig .tc := ⟨.hbm, 309, rfl⟩
abbrev main_call13_v0 : Ref sig .tc := ⟨.hbm, 310, rfl⟩
abbrev main_call13_v1 : Ref sig .tc := ⟨.hbm, 311, rfl⟩
abbrev main_call13_v2 : Ref sig .tc := ⟨.hbm, 312, rfl⟩
abbrev main_v173 : Ref sig .tc := ⟨.hbm, 313, rfl⟩
abbrev main_v174 : Ref sig .tc := ⟨.hbm, 314, rfl⟩
abbrev main_v175 : Ref sig .tc := ⟨.hbm, 315, rfl⟩
abbrev main_v176 : Ref sig .tc := ⟨.hbm, 316, rfl⟩
abbrev main_v177 : Ref sig .tc := ⟨.hbm, 317, rfl⟩
abbrev main_v178 : Ref sig .tc := ⟨.hbm, 318, rfl⟩
abbrev main_v179 : Ref sig .tc := ⟨.hbm, 319, rfl⟩
abbrev main_v180 : Ref sig .tc := ⟨.hbm, 320, rfl⟩
abbrev main_v181 : Ref sig .tc := ⟨.hbm, 321, rfl⟩
abbrev main_v182 : Ref sig .tc := ⟨.hbm, 322, rfl⟩
abbrev main_v183 : Ref sig .tc := ⟨.hbm, 323, rfl⟩
abbrev main_cst_21 : Ref sig .tc := ⟨.hbm, 324, rfl⟩
abbrev main_v184 : Ref sig .tc := ⟨.hbm, 325, rfl⟩
abbrev main_v185 : Ref sig .tc := ⟨.hbm, 326, rfl⟩
abbrev main_cst_22 : Ref sig .tc := ⟨.hbm, 327, rfl⟩
abbrev main_v186 : Ref sig .tc := ⟨.hbm, 328, rfl⟩
abbrev main_v187 : Ref sig .tc := ⟨.hbm, 329, rfl⟩
abbrev main_cst_23 : Ref sig .tc := ⟨.hbm, 330, rfl⟩
abbrev main_v188 : Ref sig .tc := ⟨.hbm, 331, rfl⟩
abbrev main_v189 : Ref sig .tc := ⟨.hbm, 332, rfl⟩
abbrev main_v190 : Ref sig .tc := ⟨.hbm, 333, rfl⟩
abbrev main_cst_24 : Ref sig .tc := ⟨.hbm, 334, rfl⟩
abbrev main_v191 : Ref sig .tc := ⟨.hbm, 335, rfl⟩
abbrev main_v192 : Ref sig .tc := ⟨.hbm, 336, rfl⟩
abbrev main_cst_25 : Ref sig .tc := ⟨.hbm, 337, rfl⟩
abbrev main_v193 : Ref sig .tc := ⟨.hbm, 338, rfl⟩
abbrev main_v194 : Ref sig .tc := ⟨.hbm, 339, rfl⟩
abbrev main_v195 : Ref sig .tc := ⟨.hbm, 340, rfl⟩
abbrev main_v196 : Ref sig .tc := ⟨.hbm, 341, rfl⟩
abbrev main_cst_26 : Ref sig .tc := ⟨.hbm, 342, rfl⟩
abbrev main_v197 : Ref sig .tc := ⟨.hbm, 343, rfl⟩
abbrev main_v198 : Ref sig .tc := ⟨.hbm, 344, rfl⟩
abbrev main_v199 : Ref sig .tc := ⟨.hbm, 345, rfl⟩
abbrev main_v200 : Ref sig .tc := ⟨.hbm, 346, rfl⟩
abbrev main_cst_27 : Ref sig .tc := ⟨.hbm, 347, rfl⟩
abbrev main_v201 : Ref sig .tc := ⟨.hbm, 348, rfl⟩
abbrev main_v202 : Ref sig .tc := ⟨.hbm, 349, rfl⟩
abbrev main_v203 : Ref sig .tc := ⟨.hbm, 350, rfl⟩
abbrev main_cst_28 : Ref sig .tc := ⟨.hbm, 351, rfl⟩
abbrev main_v204 : Ref sig .tc := ⟨.hbm, 352, rfl⟩
abbrev main_v205 : Ref sig .tc := ⟨.hbm, 353, rfl⟩
abbrev main_v206 : Ref sig .tc := ⟨.hbm, 354, rfl⟩
abbrev main_v207 : Ref sig .tc := ⟨.hbm, 355, rfl⟩
abbrev main_cst_29 : Ref sig .tc := ⟨.hbm, 356, rfl⟩
abbrev main_v208 : Ref sig .tc := ⟨.hbm, 357, rfl⟩
abbrev main_v209 : Ref sig .tc := ⟨.hbm, 358, rfl⟩
abbrev main_v210 : Ref sig .tc := ⟨.hbm, 359, rfl⟩
abbrev main_v211 : Ref sig .tc := ⟨.hbm, 360, rfl⟩
abbrev main_v212 : Ref sig .tc := ⟨.hbm, 361, rfl⟩
abbrev main_v213 : Ref sig .tc := ⟨.hbm, 362, rfl⟩
abbrev main_v214 : Ref sig .tc := ⟨.hbm, 363, rfl⟩
abbrev main_v215 : Ref sig .tc := ⟨.hbm, 364, rfl⟩
abbrev main_v216 : Ref sig .tc := ⟨.hbm, 365, rfl⟩
abbrev main_v217 : Ref sig .tc := ⟨.hbm, 366, rfl⟩
abbrev main_v218 : Ref sig .tc := ⟨.hbm, 367, rfl⟩
abbrev main_v219 : Ref sig .tc := ⟨.hbm, 368, rfl⟩
abbrev main_v220 : Ref sig .tc := ⟨.hbm, 369, rfl⟩
abbrev main_v221 : Ref sig .tc := ⟨.hbm, 370, rfl⟩
abbrev main_v222 : Ref sig .tc := ⟨.hbm, 371, rfl⟩
abbrev main_v223 : Ref sig .tc := ⟨.hbm, 372, rfl⟩
abbrev main_v224 : Ref sig .tc := ⟨.hbm, 373, rfl⟩
abbrev main_cst_30 : Ref sig .tc := ⟨.hbm, 374, rfl⟩
abbrev main_v225 : Ref sig .tc := ⟨.hbm, 375, rfl⟩
abbrev main_v226 : Ref sig .tc := ⟨.hbm, 376, rfl⟩
abbrev main_cst_31 : Ref sig .tc := ⟨.hbm, 377, rfl⟩
abbrev main_v227 : Ref sig .tc := ⟨.hbm, 378, rfl⟩
abbrev main_v228 : Ref sig .tc := ⟨.hbm, 379, rfl⟩
abbrev main_v229 : Ref sig .tc := ⟨.hbm, 380, rfl⟩
abbrev main_v230 : Ref sig .tc := ⟨.hbm, 381, rfl⟩
abbrev main_v231 : Ref sig .tc := ⟨.hbm, 382, rfl⟩
abbrev main_v232 : Ref sig .tc := ⟨.hbm, 383, rfl⟩
abbrev main_v233 : Ref sig .tc := ⟨.hbm, 384, rfl⟩
abbrev main_v234 : Ref sig .tc := ⟨.hbm, 385, rfl⟩
abbrev main_v235 : Ref sig .tc := ⟨.hbm, 386, rfl⟩
abbrev main_cst_32 : Ref sig .tc := ⟨.hbm, 387, rfl⟩
abbrev main_v236 : Ref sig .tc := ⟨.hbm, 388, rfl⟩
abbrev main_v237 : Ref sig .tc := ⟨.hbm, 389, rfl⟩
abbrev main_v238 : Ref sig .tc := ⟨.hbm, 390, rfl⟩
abbrev main_v239 : Ref sig .tc := ⟨.hbm, 391, rfl⟩
abbrev main_cst_33 : Ref sig .tc := ⟨.hbm, 392, rfl⟩
abbrev main_v240 : Ref sig .tc := ⟨.hbm, 393, rfl⟩
abbrev main_v241 : Ref sig .tc := ⟨.hbm, 394, rfl⟩
abbrev main_call14_cst : Ref sig .tc := ⟨.hbm, 395, rfl⟩
abbrev main_call14_v0 : Ref sig .tc := ⟨.hbm, 396, rfl⟩
abbrev main_v242 : Ref sig .tc := ⟨.hbm, 397, rfl⟩
abbrev main_cst_34 : Ref sig .tc := ⟨.hbm, 398, rfl⟩
abbrev main_v243 : Ref sig .tc := ⟨.hbm, 399, rfl⟩
abbrev main_v244 : Ref sig .tc := ⟨.hbm, 400, rfl⟩
abbrev main_v245 : Ref sig .tc := ⟨.hbm, 401, rfl⟩
abbrev main_cst_35 : Ref sig .tc := ⟨.hbm, 402, rfl⟩
abbrev main_v246 : Ref sig .tc := ⟨.hbm, 403, rfl⟩
abbrev main_v247 : Ref sig .tc := ⟨.hbm, 404, rfl⟩
abbrev main_cst_36 : Ref sig .tc := ⟨.hbm, 405, rfl⟩
abbrev main_v248 : Ref sig .tc := ⟨.hbm, 406, rfl⟩
abbrev main_v249 : Ref sig .tc := ⟨.hbm, 407, rfl⟩
abbrev main_cst_37 : Ref sig .tc := ⟨.hbm, 408, rfl⟩
abbrev main_v250 : Ref sig .tc := ⟨.hbm, 409, rfl⟩
abbrev main_v251 : Ref sig .tc := ⟨.hbm, 410, rfl⟩
abbrev main_call15_call0_cst : Ref sig .tc := ⟨.hbm, 411, rfl⟩
abbrev main_call15_call0_v0 : Ref sig .tc := ⟨.hbm, 412, rfl⟩
abbrev main_v252 : Ref sig .tc := ⟨.hbm, 413, rfl⟩
abbrev main_v253 : Ref sig .tc := ⟨.hbm, 414, rfl⟩
abbrev main_v254 : Ref sig .tc := ⟨.hbm, 415, rfl⟩
abbrev main_v255 : Ref sig .tc := ⟨.hbm, 416, rfl⟩
abbrev main_v256 : Ref sig .tc := ⟨.hbm, 417, rfl⟩
abbrev main_v257 : Ref sig .tc := ⟨.hbm, 418, rfl⟩
abbrev main_cst_38 : Ref sig .tc := ⟨.hbm, 419, rfl⟩
abbrev main_v258 : Ref sig .tc := ⟨.hbm, 420, rfl⟩
abbrev main_v259 : Ref sig .tc := ⟨.hbm, 421, rfl⟩
abbrev main_v260 : Ref sig .tc := ⟨.hbm, 422, rfl⟩
abbrev main_v261 : Ref sig .tc := ⟨.hbm, 423, rfl⟩
abbrev main_cst_39 : Ref sig .tc := ⟨.hbm, 424, rfl⟩
abbrev main_v262 : Ref sig .tc := ⟨.hbm, 425, rfl⟩
abbrev main_v263 : Ref sig .tc := ⟨.hbm, 426, rfl⟩
abbrev main_v264 : Ref sig .tc := ⟨.hbm, 427, rfl⟩
abbrev main_v265 : Ref sig .tc := ⟨.hbm, 428, rfl⟩
abbrev main_v266 : Ref sig .tc := ⟨.hbm, 429, rfl⟩
abbrev main_v267 : Ref sig .tc := ⟨.hbm, 430, rfl⟩
abbrev main_v268 : Ref sig .tc := ⟨.hbm, 431, rfl⟩
abbrev main_v269 : Ref sig .tc := ⟨.hbm, 432, rfl⟩
abbrev main_call16_cst : Ref sig .tc := ⟨.hbm, 433, rfl⟩
abbrev main_call16_v0 : Ref sig .tc := ⟨.hbm, 434, rfl⟩
abbrev main_v270 : Ref sig .tc := ⟨.hbm, 435, rfl⟩
abbrev main_v271 : Ref sig .tc := ⟨.hbm, 436, rfl⟩
abbrev main_cst_40 : Ref sig .tc := ⟨.hbm, 437, rfl⟩
abbrev main_v272 : Ref sig .tc := ⟨.hbm, 438, rfl⟩
abbrev main_v273 : Ref sig .tc := ⟨.hbm, 439, rfl⟩
abbrev main_v274 : Ref sig .tc := ⟨.hbm, 440, rfl⟩
abbrev main_call18_cst : Ref sig .tc := ⟨.hbm, 441, rfl⟩
abbrev main_call18_v0 : Ref sig .tc := ⟨.hbm, 442, rfl⟩
abbrev main_v275 : Ref sig .tc := ⟨.hbm, 443, rfl⟩
abbrev main_v276 : Ref sig .tc := ⟨.hbm, 444, rfl⟩
abbrev main_call19_cst : Ref sig .tc := ⟨.hbm, 445, rfl⟩
abbrev main_call19_v0 : Ref sig .tc := ⟨.hbm, 446, rfl⟩
abbrev main_v277 : Ref sig .tc := ⟨.hbm, 447, rfl⟩
abbrev main_v278 : Ref sig .tc := ⟨.hbm, 448, rfl⟩
abbrev main_call20_cst : Ref sig .tc := ⟨.hbm, 449, rfl⟩
abbrev main_call20_v0 : Ref sig .tc := ⟨.hbm, 450, rfl⟩
abbrev main_v279 : Ref sig .tc := ⟨.hbm, 451, rfl⟩
abbrev main_v280 : Ref sig .tc := ⟨.hbm, 452, rfl⟩
abbrev main_v281 : Ref sig .tc := ⟨.hbm, 453, rfl⟩
abbrev main_v282 : Ref sig .tc := ⟨.hbm, 454, rfl⟩
abbrev main_v283 : Ref sig .tc := ⟨.hbm, 455, rfl⟩
abbrev main_v284 : Ref sig .tc := ⟨.hbm, 456, rfl⟩
abbrev main_v285 : Ref sig .tc := ⟨.hbm, 457, rfl⟩
abbrev main_c_41 : Ref sig .tc := ⟨.hbm, 458, rfl⟩
abbrev main_v286 : Ref sig .tc := ⟨.hbm, 459, rfl⟩
abbrev main_v287 : Ref sig .tc := ⟨.hbm, 460, rfl⟩
abbrev main_c_42 : Ref sig .tc := ⟨.hbm, 461, rfl⟩
abbrev main_v288 : Ref sig .tc := ⟨.hbm, 462, rfl⟩
abbrev main_v289 : Ref sig .tc := ⟨.hbm, 463, rfl⟩
abbrev main_v290 : Ref sig .tc := ⟨.hbm, 464, rfl⟩
abbrev main_c_43 : Ref sig .tc := ⟨.hbm, 465, rfl⟩
abbrev main_v291 : Ref sig .tc := ⟨.hbm, 466, rfl⟩
abbrev main_v292 : Ref sig .tc := ⟨.hbm, 467, rfl⟩
abbrev main_c_44 : Ref sig .tc := ⟨.hbm, 468, rfl⟩
abbrev main_v293 : Ref sig .tc := ⟨.hbm, 469, rfl⟩
abbrev main_v294 : Ref sig .tc := ⟨.hbm, 470, rfl⟩
abbrev main_v295 : Ref sig .tc := ⟨.hbm, 471, rfl⟩
abbrev main_v296 : Ref sig .tc := ⟨.hbm, 472, rfl⟩
abbrev main_v297 : Ref sig .tc := ⟨.hbm, 473, rfl⟩
abbrev main_c_45 : Ref sig .tc := ⟨.hbm, 474, rfl⟩
abbrev main_call21_v0 : Ref sig .tc := ⟨.hbm, 475, rfl⟩
abbrev main_v298 : Ref sig .tc := ⟨.hbm, 476, rfl⟩
abbrev main_v299 : Ref sig .tc := ⟨.hbm, 477, rfl⟩
abbrev main_v300 : Ref sig .tc := ⟨.hbm, 478, rfl⟩
abbrev main_v301 : Ref sig .tc := ⟨.hbm, 479, rfl⟩
abbrev main_v302 : Ref sig .tc := ⟨.hbm, 480, rfl⟩
abbrev main_c_46 : Ref sig .tc := ⟨.hbm, 481, rfl⟩
abbrev main_call22_v0 : Ref sig .tc := ⟨.hbm, 482, rfl⟩
abbrev main_v303 : Ref sig .tc := ⟨.hbm, 483, rfl⟩
abbrev main_v304 : Ref sig .tc := ⟨.hbm, 484, rfl⟩
abbrev main_v305 : Ref sig .tc := ⟨.hbm, 485, rfl⟩
abbrev main_v306 : Ref sig .tc := ⟨.hbm, 486, rfl⟩
abbrev main_c_47 : Ref sig .tc := ⟨.hbm, 487, rfl⟩
abbrev main_call23_v0 : Ref sig .tc := ⟨.hbm, 488, rfl⟩
abbrev main_v307 : Ref sig .tc := ⟨.hbm, 489, rfl⟩
abbrev main_v308 : Ref sig .tc := ⟨.hbm, 490, rfl⟩
abbrev main_v309 : Ref sig .tc := ⟨.hbm, 491, rfl⟩
abbrev main_v310 : Ref sig .tc := ⟨.hbm, 492, rfl⟩

abbrev nD : Nat := 1
abbrev τ : Topo := Topo.v7x

variable {F : FTy → Type} [FloatOps F]
-- ==== Kernel2.lean ====
abbrev S4224x2048 : Shape := ⟨2, ![4224, 2048]⟩
abbrev S4224x13440 : Shape := ⟨2, ![4224, 13440]⟩
abbrev S2048x13440 : Shape := ⟨2, ![2048, 13440]⟩
abbrev S4224x512 : Shape := ⟨2, ![4224, 512]⟩
abbrev S4224x896 : Shape := ⟨2, ![4224, 896]⟩
abbrev S512x896 : Shape := ⟨2, ![512, 896]⟩
abbrev S1x512x4224 : Shape := ⟨3, ![1, 512, 4224]⟩
abbrev S512x4224 : Shape := ⟨2, ![512, 4224]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x13440, .bf16⟩
  | .hbm, ⟨2, _⟩ => ⟨S2048x13440, .f32⟩
  | .local _ .vmem, ⟨0, _⟩ => ⟨S4224x512, .bf16⟩
  | .local _ .vmem, ⟨1, _⟩ => ⟨S4224x512, .bf16⟩
  | .local _ .vmem, ⟨2, _⟩ => ⟨S4224x896, .bf16⟩
  | .local _ .vmem, ⟨3, _⟩ => ⟨S4224x896, .bf16⟩
  | .local _ .vmem, ⟨4, _⟩ => ⟨S512x896, .f32⟩
  | .local _ .vmem, ⟨5, _⟩ => ⟨S512x896, .f32⟩
  | .local _ .vmem, ⟨6, _⟩ => ⟨S1x512x4224, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 15, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v13 : Index := Scalar.indexCast arg2
  let c0_8 : Index := 0#32
  let c0_9 : Index := 0#32
  ![v13.toNat, 0, 0]
def k0_off2 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4224x2048 : Shape := ⟨2, ![4224, 2048]⟩
abbrev S4224x13440 : Shape := ⟨2, ![4224, 13440]⟩
abbrev S_ : Shape := ⟨0, ![]⟩
abbrev S2048x13440 : Shape := ⟨2, ![2048, 13440]⟩
abbrev S13440x2048 : Shape := ⟨2, ![13440, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x13440, .bf16⟩
  | .hbm, ⟨2, _⟩ => ⟨S_, .f32⟩
  | .hbm, ⟨3, _⟩ => ⟨S2048x13440, .f32⟩
  | .hbm, ⟨4, _⟩ => ⟨S4224x2048, .f32⟩
  | .hbm, ⟨5, _⟩ => ⟨S4224x13440, .f32⟩
  | .hbm, ⟨6, _⟩ => ⟨S4224x13440, .f32⟩
  | .hbm, ⟨7, _⟩ => ⟨S13440x2048, .f32⟩
  | .hbm, ⟨8, _⟩ => ⟨S2048x13440, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4224x13440 : Shape := ⟨2, ![4224, 13440]⟩
abbrev S2048x13440 : Shape := ⟨2, ![2048, 13440]⟩
abbrev S4224x2048 : Shape := ⟨2, ![4224, 2048]⟩
abbrev S1056x4480 : Shape := ⟨2, ![1056, 4480]⟩
abbrev S512x4480 : Shape := ⟨2, ![512, 4480]⟩
abbrev S1056x512 : Shape := ⟨2, ![1056, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x13440, .bf16⟩
  | .hbm, ⟨1, _⟩ => ⟨S2048x13440, .bf16⟩
  | .hbm, ⟨2, _⟩ => ⟨S4224x2048, .f32⟩
  | .local _ .vmem, ⟨0, _⟩ => ⟨S1056x4480, .bf16⟩
  | .local _ .vmem, ⟨1, _⟩ => ⟨S1056x4480, .bf16⟩
  | .local _ .vmem, ⟨2, _⟩ => ⟨S512x4480, .bf16⟩
  | .local _ .vmem, ⟨3, _⟩ => ⟨S512x4480, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | _, _ => ⟨S4224x13440, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x4480 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4480 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4224x13440 : Shape := ⟨2, ![4224, 13440]⟩
abbrev S2048x13440 : Shape := ⟨2, ![2048, 13440]⟩
abbrev S_ : Shape := ⟨0, ![]⟩
abbrev S4224x2048 : Shape := ⟨2, ![4224, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x13440, .bf16⟩
  | .hbm, ⟨1, _⟩ => ⟨S2048x13440, .bf16⟩
  | .hbm, ⟨2, _⟩ => ⟨S_, .f32⟩
  | .hbm, ⟨3, _⟩ => ⟨S4224x2048, .f32⟩
  | .hbm, ⟨4, _⟩ => ⟨S2048x13440, .f32⟩
  | .hbm, ⟨5, _⟩ => ⟨S4224x13440, .f32⟩
  | .hbm, ⟨6, _⟩ => ⟨S4224x13440, .f32⟩
  | .hbm, ⟨7, _⟩ => ⟨S4224x2048, .f32⟩
  | _, _ => ⟨S4224x13440, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4224x2048 : Shape := ⟨2, ![4224, 2048]⟩
abbrev S2x4224x5632 : Shape := ⟨3, ![2, 4224, 5632]⟩
abbrev S4x2048x2816 : Shape := ⟨3, ![4, 2048, 2816]⟩
abbrev S4224x512 : Shape := ⟨2, ![4224, 512]⟩
abbrev S1x4224x1408 : Shape := ⟨3, ![1, 4224, 1408]⟩
abbrev S1x512x1408 : Shape := ⟨3, ![1, 512, 1408]⟩
abbrev S1x512x4224 : Shape := ⟨3, ![1, 512, 4224]⟩
abbrev S512x4224 : Shape := ⟨2, ![512, 4224]⟩
abbrev S4224x1408 : Shape := ⟨2, ![4224, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S2x4224x5632, .bf16⟩
  | .hbm, ⟨2, _⟩ => ⟨S4x2048x2816, .f32⟩
  | .local _ .vmem, ⟨0, _⟩ => ⟨S4224x512, .bf16⟩
  | .local _ .vmem, ⟨1, _⟩ => ⟨S4224x512, .bf16⟩
  | .local _ .vmem, ⟨2, _⟩ => ⟨S1x4224x1408, .bf16⟩
  | .local _ .vmem, ⟨3, _⟩ => ⟨S1x4224x1408, .bf16⟩
  | .local _ .vmem, ⟨4, _⟩ => ⟨S1x512x1408, .f32⟩
  | .local _ .vmem, ⟨5, _⟩ => ⟨S1x512x1408, .f32⟩
  | .local _ .vmem, ⟨6, _⟩ => ⟨S1x512x4224, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v16 : Index := Scalar.indexCast arg2
  let c0_10 : Index := 0#32
  let c0_11 : Index := 0#32
  ![v16.toNat, 0, 0]
def k0_off2 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4224x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4224x2048 : Shape := ⟨2, ![4224, 2048]⟩
abbrev S2x4224x5632 : Shape := ⟨3, ![2, 4224, 5632]⟩
abbrev S1x4224x5632 : Shape := ⟨3, ![1, 4224, 5632]⟩
abbrev S4224x5632 : Shape := ⟨2, ![4224, 5632]⟩
abbrev S4224x11264 : Shape := ⟨2, ![4224, 11264]⟩
abbrev S_ : Shape := ⟨0, ![]⟩
abbrev S2048x11264 : Shape := ⟨2, ![2048, 11264]⟩
abbrev S11264x2048 : Shape := ⟨2, ![11264, 2048]⟩
abbrev S2048x2816 : Shape := ⟨2, ![2048, 2816]⟩
abbrev S1x2048x2816 : Shape := ⟨3, ![1, 2048, 2816]⟩
abbrev S4x2048x2816 : Shape := ⟨3, ![4, 2048, 2816]⟩

abbrev nBuf : Space → Nat
  | .hbm => 23
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2x4224x5632, .bf16⟩
  | .hbm, ⟨2, _⟩ => ⟨S1x4224x5632, .bf16⟩
  | .hbm, ⟨3, _⟩ => ⟨S4224x5632, .bf16⟩
  | .hbm, ⟨4, _⟩ => ⟨S1x4224x5632, .bf16⟩
  | .hbm, ⟨5, _⟩ => ⟨S4224x5632, .bf16⟩
  | .hbm, ⟨6, _⟩ => ⟨S4224x11264, .bf16⟩
  | .hbm, ⟨7, _⟩ => ⟨S_, .f32⟩
  | .hbm, ⟨8, _⟩ => ⟨S2048x11264, .f32⟩
  | .hbm, ⟨9, _⟩ => ⟨S4224x2048, .f32⟩
  | .hbm, ⟨10, _⟩ => ⟨S4224x11264, .f32⟩
  | .hbm, ⟨11, _⟩ => ⟨S4224x11264, .f32⟩
  | .hbm, ⟨12, _⟩ => ⟨S11264x2048, .f32⟩
  | .hbm, ⟨13, _⟩ => ⟨S2048x11264, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S1x2048x2816, .f32⟩
  | .hbm, ⟨19, _⟩ => ⟨S1x2048x2816, .f32⟩
  | .hbm, ⟨20, _⟩ => ⟨S1x2048x2816, .f32⟩
  | .hbm, ⟨21, _⟩ => ⟨S1x2048x2816, .f32⟩
  | .hbm, ⟨22, _⟩ => ⟨S4x2048x2816, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel5.lean ====
abbrev S2x4224x5632 : Shape := ⟨3, ![2, 4224, 5632]⟩
abbrev S2048x11264 : Shape := ⟨2, ![2048, 11264]⟩
abbrev S4224x2048 : Shape := ⟨2, ![4224, 2048]⟩
abbrev S1x1056x5632 : Shape := ⟨3, ![1, 1056, 5632]⟩
abbrev S512x5632 : Shape := ⟨2, ![512, 5632]⟩
abbrev S1056x512 : Shape := ⟨2, ![1056, 512]⟩
abbrev S1056x5632 : Shape := ⟨2, ![1056, 5632]⟩

abbrev nBuf : Space → Nat
  | .hbm => 3
  | .vmem => 7
  | .smem => 0
  | _ => 0

abbrev bufTy : (tb : Table) → Fin (tcTables nBuf tb) → BufTy
  | .hbm, ⟨0, _⟩ => ⟨S2x4224x5632, .bf16⟩
  | .hbm, ⟨1, _⟩ => ⟨S2048x11264, .bf16⟩
  | .hbm, ⟨2, _⟩ => ⟨S4224x2048, .f32⟩
  | .local _ .vmem, ⟨0, _⟩ => ⟨S1x1056x5632, .bf16⟩
  | .local _ .vmem, ⟨1, _⟩ => ⟨S1x1056x5632, .bf16⟩
  | .local _ .vmem, ⟨2, _⟩ => ⟨S512x5632, .bf16⟩
  | .local _ .vmem, ⟨3, _⟩ => ⟨S512x5632, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | _, _ => ⟨S2x4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1056x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2x4224x5632 : Shape := ⟨3, ![2, 4224, 5632]⟩
abbrev S2048x11264 : Shape := ⟨2, ![2048, 11264]⟩
abbrev S1x4224x5632 : Shape := ⟨3, ![1, 4224, 5632]⟩
abbrev S4224x5632 : Shape := ⟨2, ![4224, 5632]⟩
abbrev S4224x11264 : Shape := ⟨2, ![4224, 11264]⟩
abbrev S_ : Shape := ⟨0, ![]⟩
abbrev S4224x2048 : Shape := ⟨2, ![4224, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2x4224x5632, .bf16⟩
  | .hbm, ⟨1, _⟩ => ⟨S2048x11264, .bf16⟩
  | .hbm, ⟨2, _⟩ => ⟨S1x4224x5632, .bf16⟩
  | .hbm, ⟨3, _⟩ => ⟨S4224x5632, .bf16⟩
  | .hbm, ⟨4, _⟩ => ⟨S1x4224x5632, .bf16⟩
  | .hbm, ⟨5, _⟩ => ⟨S4224x5632, .bf16⟩
  | .hbm, ⟨6, _⟩ => ⟨S4224x11264, .bf16⟩
  | .hbm, ⟨7, _⟩ => ⟨S_, .f32⟩
  | .hbm, ⟨8, _⟩ => ⟨S4224x2048, .f32⟩
  | .hbm, ⟨9, _⟩ => ⟨S2048x11264, .f32⟩
  | .hbm, ⟨10, _⟩ => ⟨S4224x11264, .f32⟩
  | .hbm, ⟨11, _⟩ => ⟨S4224x11264, .f32⟩
  | .hbm, ⟨12, _⟩ => ⟨S4224x2048, .f32⟩
  | _, _ => ⟨S2x4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S4224x2048 : Shape := ⟨2, ![4224, 2048]⟩
abbrev S5632x2048 : Shape := ⟨2, ![5632, 2048]⟩
abbrev S4224x5632 : Shape := ⟨2, ![4224, 5632]⟩
abbrev S1056x2048 : Shape := ⟨2, ![1056, 2048]⟩
abbrev S1408x2048 : Shape := ⟨2, ![1408, 2048]⟩
abbrev S1056x1408 : Shape := ⟨2, ![1056, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S5632x2048, .bf16⟩
  | .hbm, ⟨2, _⟩ => ⟨S4224x5632, .f32⟩
  | .local _ .vmem, ⟨0, _⟩ => ⟨S1056x2048, .bf16⟩
  | .local _ .vmem, ⟨1, _⟩ => ⟨S1056x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1056x1408, .f32⟩
  | .local _ .vmem, ⟨5, _⟩ => ⟨S1056x1408, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4224x2048 : Shape := ⟨2, ![4224, 2048]⟩
abbrev S5632x2048 : Shape := ⟨2, ![5632, 2048]⟩
abbrev S_ : Shape := ⟨0, ![]⟩
abbrev S4224x5632 : Shape := ⟨2, ![4224, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S5632x2048, .bf16⟩
  | .hbm, ⟨2, _⟩ => ⟨S_, .f32⟩
  | .hbm, ⟨3, _⟩ => ⟨S4224x5632, .f32⟩
  | .hbm, ⟨4, _⟩ => ⟨S5632x2048, .f32⟩
  | .hbm, ⟨5, _⟩ => ⟨S4224x2048, .f32⟩
  | .hbm, ⟨6, _⟩ => ⟨S4224x2048, .f32⟩
  | .hbm, ⟨7, _⟩ => ⟨S4224x5632, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4224x5632 : Shape := ⟨2, ![4224, 5632]⟩
abbrev S4224x2048 : Shape := ⟨2, ![4224, 2048]⟩
abbrev S5632x2048 : Shape := ⟨2, ![5632, 2048]⟩
abbrev S4224x512 : Shape := ⟨2, ![4224, 512]⟩
abbrev S4224x1024 : Shape := ⟨2, ![4224, 1024]⟩
abbrev S512x1024 : Shape := ⟨2, ![512, 1024]⟩
abbrev S1x512x4224 : Shape := ⟨3, ![1, 512, 4224]⟩
abbrev S512x4224 : Shape := ⟨2, ![512, 4224]⟩

abbrev nBuf : Space → Nat
  | .hbm => 3
  | .vmem => 7
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S5632x2048, .f32⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S4224x1024, .bf16⟩
  | .local _ .vmem, ⟨4, _⟩ => ⟨S512x1024, .f32⟩
  | .local _ .vmem, ⟨5, _⟩ => ⟨S512x1024, .f32⟩
  | .local _ .vmem, ⟨6, _⟩ => ⟨S1x512x4224, .bf16⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v13 : Index := Scalar.indexCast arg2
  let c0_8 : Index := 0#32
  let c0_9 : Index := 0#32
  ![v13.toNat, 0, 0]
def k0_off2 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4224x5632 : Shape := ⟨2, ![4224, 5632]⟩
abbrev S4224x2048 : Shape := ⟨2, ![4224, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S_, .f32⟩
  | .hbm, ⟨3, _⟩ => ⟨S5632x2048, .f32⟩
  | .hbm, ⟨4, _⟩ => ⟨S4224x5632, .f32⟩
  | .hbm, ⟨5, _⟩ => ⟨S4224x2048, .f32⟩
  | .hbm, ⟨6, _⟩ => ⟨S4224x2048, .f32⟩
  | .hbm, ⟨7, _⟩ => ⟨S2048x5632, .f32⟩
  | .hbm, ⟨8, _⟩ => ⟨S5632x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4224x2048 : Shape := ⟨2, ![4224, 2048]⟩
abbrev S4096x2048 : Shape := ⟨2, ![4096, 2048]⟩
abbrev S4224x4096 : Shape := ⟨2, ![4224, 4096]⟩
abbrev S1056x2048 : Shape := ⟨2, ![1056, 2048]⟩
abbrev S512x2048 : Shape := ⟨2, ![512, 2048]⟩
abbrev S1056x512 : Shape := ⟨2, ![1056, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4096x2048, .bf16⟩
  | .hbm, ⟨2, _⟩ => ⟨S4224x4096, .f32⟩
  | .local _ .vmem, ⟨0, _⟩ => ⟨S1056x2048, .bf16⟩
  | .local _ .vmem, ⟨1, _⟩ => ⟨S1056x2048, .bf16⟩
  | .local _ .vmem, ⟨2, _⟩ => ⟨S512x2048, .bf16⟩
  | .local _ .vmem, ⟨3, _⟩ => ⟨S512x2048, .bf16⟩
  | .local _ .vmem, ⟨4, _⟩ => ⟨S1056x512, .f32⟩
  | .local _ .vmem, ⟨5, _⟩ => ⟨S1056x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4224x2048 : Shape := ⟨2, ![4224, 2048]⟩
abbrev S4096x2048 : Shape := ⟨2, ![4096, 2048]⟩
abbrev S_ : Shape := ⟨0, ![]⟩
abbrev S4224x4096 : Shape := ⟨2, ![4224, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4096x2048, .bf16⟩
  | .hbm, ⟨2, _⟩ => ⟨S_, .f32⟩
  | .hbm, ⟨3, _⟩ => ⟨S4224x4096, .f32⟩
  | .hbm, ⟨4, _⟩ => ⟨S4096x2048, .f32⟩
  | .hbm, ⟨5, _⟩ => ⟨S4224x2048, .f32⟩
  | .hbm, ⟨6, _⟩ => ⟨S4224x2048, .f32⟩
  | .hbm, ⟨7, _⟩ => ⟨S4224x4096, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4224x4096 : Shape := ⟨2, ![4224, 4096]⟩
abbrev S4224x2048 : Shape := ⟨2, ![4224, 2048]⟩
abbrev S4096x2048 : Shape := ⟨2, ![4096, 2048]⟩
abbrev S4224x512 : Shape := ⟨2, ![4224, 512]⟩
abbrev S4224x1024 : Shape := ⟨2, ![4224, 1024]⟩
abbrev S512x1024 : Shape := ⟨2, ![512, 1024]⟩
abbrev S1x512x4224 : Shape := ⟨3, ![1, 512, 4224]⟩
abbrev S512x4224 : Shape := ⟨2, ![512, 4224]⟩

abbrev nBuf : Space → Nat
  | .hbm => 3
  | .vmem => 7
  | .smem => 0
  | _ => 0

abbrev bufTy : (tb : Table) → Fin (tcTables nBuf tb) → BufTy
  | .hbm, ⟨0, _⟩ => ⟨S4224x4096, .bf16⟩
  | .hbm, ⟨1, _⟩ => ⟨S4224x2048, .bf16⟩
  | .hbm, ⟨2, _⟩ => ⟨S4096x2048, .f32⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S4224x1024, .bf16⟩
  | .local _ .vmem, ⟨4, _⟩ => ⟨S512x1024, .f32⟩
  | .local _ .vmem, ⟨5, _⟩ => ⟨S512x1024, .f32⟩
  | .local _ .vmem, ⟨6, _⟩ => ⟨S1x512x4224, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v13 : Index := Scalar.indexCast arg2
  let c0_8 : Index := 0#32
  let c0_9 : Index := 0#32
  ![v13.toNat, 0, 0]
def k0_off2 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4224x4096 : Shape := ⟨2, ![4224, 4096]⟩
abbrev S4224x2048 : Shape := ⟨2, ![4224, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x2048, .bf16⟩
  | .hbm, ⟨2, _⟩ => ⟨S_, .f32⟩
  | .hbm, ⟨3, _⟩ => ⟨S4096x2048, .f32⟩
  | .hbm, ⟨4, _⟩ => ⟨S4224x4096, .f32⟩
  | .hbm, ⟨5, _⟩ => ⟨S4224x2048, .f32⟩
  | .hbm, ⟨6, _⟩ => ⟨S4224x2048, .f32⟩
  | .hbm, ⟨7, _⟩ => ⟨S2048x4096, .f32⟩
  | .hbm, ⟨8, _⟩ => ⟨S4096x2048, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4224x2048 : Shape := ⟨2, ![4224, 2048]⟩
abbrev S2048x13440 : Shape := ⟨2, ![2048, 13440]⟩
abbrev S4224x13440 : Shape := ⟨2, ![4224, 13440]⟩
abbrev S1056x2048 : Shape := ⟨2, ![1056, 2048]⟩
abbrev S2048x1920 : Shape := ⟨2, ![2048, 1920]⟩
abbrev S1056x1920 : Shape := ⟨2, ![1056, 1920]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2048x13440, .bf16⟩
  | .hbm, ⟨2, _⟩ => ⟨S4224x13440, .f32⟩
  | .local _ .vmem, ⟨0, _⟩ => ⟨S1056x2048, .bf16⟩
  | .local _ .vmem, ⟨1, _⟩ => ⟨S1056x2048, .bf16⟩
  | .local _ .vmem, ⟨2, _⟩ => ⟨S2048x1920, .bf16⟩
  | .local _ .vmem, ⟨3, _⟩ => ⟨S2048x1920, .bf16⟩
  | .local _ .vmem, ⟨4, _⟩ => ⟨S1056x1920, .f32⟩
  | .local _ .vmem, ⟨5, _⟩ => ⟨S1056x1920, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4224x2048 : Shape := ⟨2, ![4224, 2048]⟩
abbrev S2048x13440 : Shape := ⟨2, ![2048, 13440]⟩
abbrev S4224x13440 : Shape := ⟨2, ![4224, 13440]⟩

abbrev nBuf : Space → Nat
  | .hbm => 5
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x13440, .bf16⟩
  | .hbm, ⟨2, _⟩ => ⟨S4224x2048, .f32⟩
  | .hbm, ⟨3, _⟩ => ⟨S2048x13440, .f32⟩
  | .hbm, ⟨4, _⟩ => ⟨S4224x13440, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4224x2048 : Shape := ⟨2, ![4224, 2048]⟩
abbrev S2048x11264 : Shape := ⟨2, ![2048, 11264]⟩
abbrev S2x4224x5632 : Shape := ⟨3, ![2, 4224, 5632]⟩
abbrev S1056x2048 : Shape := ⟨2, ![1056, 2048]⟩
abbrev S2048x1408 : Shape := ⟨2, ![2048, 1408]⟩
abbrev S1x1056x1408 : Shape := ⟨3, ![1, 1056, 1408]⟩
abbrev S1056x1408 : Shape := ⟨2, ![1056, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2048x11264, .bf16⟩
  | .hbm, ⟨2, _⟩ => ⟨S2x4224x5632, .f32⟩
  | .local _ .vmem, ⟨0, _⟩ => ⟨S1056x2048, .bf16⟩
  | .local _ .vmem, ⟨1, _⟩ => ⟨S1056x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1x1056x1408, .f32⟩
  | .local _ .vmem, ⟨5, _⟩ => ⟨S1x1056x1408, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1056x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4224x2048 : Shape := ⟨2, ![4224, 2048]⟩
abbrev S2048x11264 : Shape := ⟨2, ![2048, 11264]⟩
abbrev S4224x11264 : Shape := ⟨2, ![4224, 11264]⟩
abbrev S4224x5632 : Shape := ⟨2, ![4224, 5632]⟩
abbrev S1x4224x5632 : Shape := ⟨3, ![1, 4224, 5632]⟩
abbrev S2x4224x5632 : Shape := ⟨3, ![2, 4224, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x11264, .bf16⟩
  | .hbm, ⟨2, _⟩ => ⟨S4224x2048, .f32⟩
  | .hbm, ⟨3, _⟩ => ⟨S2048x11264, .f32⟩
  | .hbm, ⟨4, _⟩ => ⟨S4224x11264, .f32⟩
  | .hbm, ⟨5, _⟩ => ⟨S4224x5632, .f32⟩
  | .hbm, ⟨6, _⟩ => ⟨S4224x5632, .f32⟩
  | .hbm, ⟨7, _⟩ => ⟨S1x4224x5632, .f32⟩
  | .hbm, ⟨8, _⟩ => ⟨S1x4224x5632, .f32⟩
  | .hbm, ⟨9, _⟩ => ⟨S2x4224x5632, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel12.lean ====
abbrev S4224x5632 : Shape := ⟨2, ![4224, 5632]⟩
abbrev S5632x2048 : Shape := ⟨2, ![5632, 2048]⟩
abbrev S4224x2048 : Shape := ⟨2, ![4224, 2048]⟩
abbrev S1056x2816 : Shape := ⟨2, ![1056, 2816]⟩
abbrev S2816x512 : Shape := ⟨2, ![2816, 512]⟩
abbrev S1056x512 : Shape := ⟨2, ![1056, 512]⟩

abbrev nBuf : Space → Nat
  | .hbm => 4
  | .vmem => 9
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .f32⟩
  | .hbm, ⟨3, _⟩ => ⟨S4224x2048, .f32⟩
  | .local _ .vmem, ⟨0, _⟩ => ⟨S1056x2816, .bf16⟩
  | .local _ .vmem, ⟨1, _⟩ => ⟨S1056x2816, .bf16⟩
  | .local _ .vmem, ⟨2, _⟩ => ⟨S2816x512, .bf16⟩
  | .local _ .vmem, ⟨3, _⟩ => ⟨S2816x512, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | .local _ .vmem, ⟨7, _⟩ => ⟨S1056x512, .f32⟩
  | .local _ .vmem, ⟨8, _⟩ => ⟨S1056x512, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4224x5632 : Shape := ⟨2, ![4224, 5632]⟩
abbrev S5632x2048 : Shape := ⟨2, ![5632, 2048]⟩
abbrev S4224x2048 : Shape := ⟨2, ![4224, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .f32⟩
  | .hbm, ⟨3, _⟩ => ⟨S4224x5632, .f32⟩
  | .hbm, ⟨4, _⟩ => ⟨S5632x2048, .f32⟩
  | .hbm, ⟨5, _⟩ => ⟨S4224x2048, .f32⟩
  | .hbm, ⟨6, _⟩ => ⟨S4224x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4224x4096 : Shape := ⟨2, ![4224, 4096]⟩
abbrev S4096x2048 : Shape := ⟨2, ![4096, 2048]⟩
abbrev S4224x2048 : Shape := ⟨2, ![4224, 2048]⟩
abbrev S1056x4096 : Shape := ⟨2, ![1056, 4096]⟩
abbrev S4096x512 : Shape := ⟨2, ![4096, 512]⟩
abbrev S1056x512 : Shape := ⟨2, ![1056, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x4096, .bf16⟩
  | .hbm, ⟨1, _⟩ => ⟨S4096x2048, .bf16⟩
  | .hbm, ⟨2, _⟩ => ⟨S4224x2048, .f32⟩
  | .hbm, ⟨3, _⟩ => ⟨S4224x2048, .f32⟩
  | .local _ .vmem, ⟨0, _⟩ => ⟨S1056x4096, .bf16⟩
  | .local _ .vmem, ⟨1, _⟩ => ⟨S1056x4096, .bf16⟩
  | .local _ .vmem, ⟨2, _⟩ => ⟨S4096x512, .bf16⟩
  | .local _ .vmem, ⟨3, _⟩ => ⟨S4096x512, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | .local _ .vmem, ⟨7, _⟩ => ⟨S1056x512, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4224x4096 : Shape := ⟨2, ![4224, 4096]⟩
abbrev S4096x2048 : Shape := ⟨2, ![4096, 2048]⟩
abbrev S4224x2048 : Shape := ⟨2, ![4224, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x2048, .bf16⟩
  | .hbm, ⟨2, _⟩ => ⟨S4224x2048, .f32⟩
  | .hbm, ⟨3, _⟩ => ⟨S4224x4096, .f32⟩
  | .hbm, ⟨4, _⟩ => ⟨S4096x2048, .f32⟩
  | .hbm, ⟨5, _⟩ => ⟨S4224x2048, .f32⟩
  | .hbm, ⟨6, _⟩ => ⟨S4224x2048, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S1x2048x3344 : Shape := ⟨3, ![1, 2048, 3344]⟩
abbrev S2048x3344 : Shape := ⟨2, ![2048, 3344]⟩
abbrev S1x128x3344 : Shape := ⟨3, ![1, 128, 3344]⟩
abbrev S128x3344 : Shape := ⟨2, ![128, 3344]⟩

abbrev nBuf : Space → Nat
  | .hbm => 7
  | .vmem => 14
  | .smem => 0
  | _ => 0

abbrev bufTy : (tb : Table) → Fin (tcTables nBuf tb) → BufTy
  | .hbm, ⟨0, _⟩ => ⟨S1x2048x3344, .f32⟩
  | .hbm, ⟨1, _⟩ => ⟨S2048x3344, .f32⟩
  | .hbm, ⟨2, _⟩ => ⟨S1x2048x3344, .f32⟩
  | .hbm, ⟨3, _⟩ => ⟨S1x2048x3344, .f32⟩
  | .hbm, ⟨4, _⟩ => ⟨S1x2048x3344, .f32⟩
  | .hbm, ⟨5, _⟩ => ⟨S1x2048x3344, .f32⟩
  | .hbm, ⟨6, _⟩ => ⟨S1x2048x3344, .f32⟩
  | .local _ .vmem, ⟨0, _⟩ => ⟨S1x128x3344, .f32⟩
  | .local _ .vmem, ⟨1, _⟩ => ⟨S1x128x3344, .f32⟩
  | .local _ .vmem, ⟨2, _⟩ => ⟨S128x3344, .f32⟩
  | .local _ .vmem, ⟨3, _⟩ => ⟨S128x3344, .f32⟩
  | .local _ .vmem, ⟨4, _⟩ => ⟨S1x128x3344, .f32⟩
  | .local _ .vmem, ⟨5, _⟩ => ⟨S1x128x3344, .f32⟩
  | .local _ .vmem, ⟨6, _⟩ => ⟨S1x128x3344, .f32⟩
  | .local _ .vmem, ⟨7, _⟩ => ⟨S1x128x3344, .f32⟩
  | .local _ .vmem, ⟨8, _⟩ => ⟨S1x128x3344, .f32⟩
  | .local _ .vmem, ⟨9, _⟩ => ⟨S1x128x3344, .f32⟩
  | .local _ .vmem, ⟨10, _⟩ => ⟨S1x128x3344, .f32⟩
  | .local _ .vmem, ⟨11, _⟩ => ⟨S1x128x3344, .f32⟩
  | .local _ .vmem, ⟨12, _⟩ => ⟨S1x128x3344, .f32⟩
  | .local _ .vmem, ⟨13, _⟩ => ⟨S1x128x3344, .f32⟩
  | _, _ => ⟨S1x2048x3344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x3344 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3344 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x3344 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x3344 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x3344 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x3344 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x3344 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S1x2048x3344 : Shape := ⟨3, ![1, 2048, 3344]⟩
abbrev S2048x3344 : Shape := ⟨2, ![2048, 3344]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x3344, .f32⟩
  | .hbm, ⟨1, _⟩ => ⟨S2048x3344, .f32⟩
  | .hbm, ⟨2, _⟩ => ⟨S1x2048x3344, .f32⟩
  | .hbm, ⟨3, _⟩ => ⟨S1x2048x3344, .f32⟩
  | .hbm, ⟨4, _⟩ => ⟨S1x2048x3344, .f32⟩
  | .hbm, ⟨5, _⟩ => ⟨S_, .f32⟩
  | .hbm, ⟨6, _⟩ => ⟨S1x2048x3344, .f32⟩
  | .hbm, ⟨7, _⟩ => ⟨S1x2048x3344, .f32⟩
  | .hbm, ⟨8, _⟩ => ⟨S_, .f32⟩
  | .hbm, ⟨9, _⟩ => ⟨S1x2048x3344, .f32⟩
  | .hbm, ⟨10, _⟩ => ⟨S1x2048x3344, .f32⟩
  | .hbm, ⟨11, _⟩ => ⟨S1x2048x3344, .f32⟩
  | .hbm, ⟨12, _⟩ => ⟨S_, .f32⟩
  | .hbm, ⟨13, _⟩ => ⟨S1x2048x3344, .f32⟩
  | .hbm, ⟨14, _⟩ => ⟨S1x2048x3344, .f32⟩
  | .hbm, ⟨15, _⟩ => ⟨S1x2048x3344, .f32⟩
  | .hbm, ⟨16, _⟩ => ⟨S_, .f32⟩
  | .hbm, ⟨17, _⟩ => ⟨S1x2048x3344, .f32⟩
  | .hbm, ⟨18, _⟩ => ⟨S1x2048x3344, .f32⟩
  | .hbm, ⟨19, _⟩ => ⟨S1x2048x3344, .f32⟩
  | .hbm, ⟨20, _⟩ => ⟨S_, .f32⟩
  | .hbm, ⟨21, _⟩ => ⟨S1x2048x3344, .f32⟩
  | .hbm, ⟨22, _⟩ => ⟨S1x2048x3344, .f32⟩
  | .hbm, ⟨23, _⟩ => ⟨S_, .f32⟩
  | .hbm, ⟨24, _⟩ => ⟨S1x2048x3344, .f32⟩
  | .hbm, ⟨25, _⟩ => ⟨S1x2048x3344, .f32⟩
  | .hbm, ⟨26, _⟩ => ⟨S1x2048x3344, .f32⟩
  | .hbm, ⟨27, _⟩ => ⟨S_, .f32⟩
  | .hbm, ⟨28, _⟩ => ⟨S1x2048x3344, .f32⟩
  | .hbm, ⟨29, _⟩ => ⟨S1x2048x3344, .f32⟩
  | .hbm, ⟨30, _⟩ => ⟨S1x2048x3344, .f32⟩
  | .hbm, ⟨31, _⟩ => ⟨S_, .f32⟩
  | .hbm, ⟨32, _⟩ => ⟨S1x2048x3344, .f32⟩
  | .hbm, ⟨33, _⟩ => ⟨S1x2048x3344, .f32⟩
  | .hbm, ⟨34, _⟩ => ⟨S1x2048x3344, .f32⟩
  | .hbm, ⟨35, _⟩ => ⟨S_, .f32⟩
  | .hbm, ⟨36, _⟩ => ⟨S1x2048x3344, .f32⟩
  | .hbm, ⟨37, _⟩ => ⟨S1x2048x3344, .f32⟩
  | _, _ => ⟨S1x2048x3344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel15.lean ====
abbrev S1x1024x2048 : Shape := ⟨3, ![1, 1024, 2048]⟩
abbrev S1024x2048 : Shape := ⟨2, ![1024, 2048]⟩
abbrev S1x256x2048 : Shape := ⟨3, ![1, 256, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x2048, .f32⟩
  | .hbm, ⟨1, _⟩ => ⟨S1024x2048, .f32⟩
  | .hbm, ⟨2, _⟩ => ⟨S1x1024x2048, .f32⟩
  | .hbm, ⟨3, _⟩ => ⟨S1x1024x2048, .f32⟩
  | .hbm, ⟨4, _⟩ => ⟨S1x1024x2048, .f32⟩
  | .hbm, ⟨5, _⟩ => ⟨S1x1024x2048, .f32⟩
  | .hbm, ⟨6, _⟩ => ⟨S1x1024x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S1x1024x2048 : Shape := ⟨3, ![1, 1024, 2048]⟩
abbrev S1024x2048 : Shape := ⟨2, ![1024, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S1024x2048, .f32⟩
  | .hbm, ⟨2, _⟩ => ⟨S1x1024x2048, .f32⟩
  | .hbm, ⟨3, _⟩ => ⟨S1x1024x2048, .f32⟩
  | .hbm, ⟨4, _⟩ => ⟨S1x1024x2048, .f32⟩
  | .hbm, ⟨5, _⟩ => ⟨S_, .f32⟩
  | .hbm, ⟨6, _⟩ => ⟨S1x1024x2048, .f32⟩
  | .hbm, ⟨7, _⟩ => ⟨S1x1024x2048, .f32⟩
  | .hbm, ⟨8, _⟩ => ⟨S_, .f32⟩
  | .hbm, ⟨9, _⟩ => ⟨S1x1024x2048, .f32⟩
  | .hbm, ⟨10, _⟩ => ⟨S1x1024x2048, .f32⟩
  | .hbm, ⟨11, _⟩ => ⟨S1x1024x2048, .f32⟩
  | .hbm, ⟨12, _⟩ => ⟨S_, .f32⟩
  | .hbm, ⟨13, _⟩ => ⟨S1x1024x2048, .f32⟩
  | .hbm, ⟨14, _⟩ => ⟨S1x1024x2048, .f32⟩
  | .hbm, ⟨15, _⟩ => ⟨S1x1024x2048, .f32⟩
  | .hbm, ⟨16, _⟩ => ⟨S_, .f32⟩
  | .hbm, ⟨17, _⟩ => ⟨S1x1024x2048, .f32⟩
  | .hbm, ⟨18, _⟩ => ⟨S1x1024x2048, .f32⟩
  | .hbm, ⟨19, _⟩ => ⟨S1x1024x2048, .f32⟩
  | .hbm, ⟨20, _⟩ => ⟨S_, .f32⟩
  | .hbm, ⟨21, _⟩ => ⟨S1x1024x2048, .f32⟩
  | .hbm, ⟨22, _⟩ => ⟨S1x1024x2048, .f32⟩
  | .hbm, ⟨23, _⟩ => ⟨S_, .f32⟩
  | .hbm, ⟨24, _⟩ => ⟨S1x1024x2048, .f32⟩
  | .hbm, ⟨25, _⟩ => ⟨S1x1024x2048, .f32⟩
  | .hbm, ⟨26, _⟩ => ⟨S1x1024x2048, .f32⟩
  | .hbm, ⟨27, _⟩ => ⟨S_, .f32⟩
  | .hbm, ⟨28, _⟩ => ⟨S1x1024x2048, .f32⟩
  | .hbm, ⟨29, _⟩ => ⟨S1x1024x2048, .f32⟩
  | .hbm, ⟨30, _⟩ => ⟨S1x1024x2048, .f32⟩
  | .hbm, ⟨31, _⟩ => ⟨S_, .f32⟩
  | .hbm, ⟨32, _⟩ => ⟨S1x1024x2048, .f32⟩
  | .hbm, ⟨33, _⟩ => ⟨S1x1024x2048, .f32⟩
  | .hbm, ⟨34, _⟩ => ⟨S1x1024x2048, .f32⟩
  | .hbm, ⟨35, _⟩ => ⟨S_, .f32⟩
  | .hbm, ⟨36, _⟩ => ⟨S1x1024x2048, .f32⟩
  | .hbm, ⟨37, _⟩ => ⟨S1x1024x2048, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel16.lean ====
abbrev S1x2048x2816 : Shape := ⟨3, ![1, 2048, 2816]⟩
abbrev S2048x2816 : Shape := ⟨2, ![2048, 2816]⟩
abbrev S1x256x2816 : Shape := ⟨3, ![1, 256, 2816]⟩
abbrev S256x2816 : Shape := ⟨2, ![256, 2816]⟩

abbrev nBuf : Space → Nat
  | .hbm => 7
  | .vmem => 14
  | .smem => 0
  | _ => 0

abbrev bufTy : (tb : Table) → Fin (tcTables nBuf tb) → BufTy
  | .hbm, ⟨0, _⟩ => ⟨S1x2048x2816, .f32⟩
  | .hbm, ⟨1, _⟩ => ⟨S2048x2816, .f32⟩
  | .hbm, ⟨2, _⟩ => ⟨S1x2048x2816, .f32⟩
  | .hbm, ⟨3, _⟩ => ⟨S1x2048x2816, .f32⟩
  | .hbm, ⟨4, _⟩ => ⟨S1x2048x2816, .f32⟩
  | .hbm, ⟨5, _⟩ => ⟨S1x2048x2816, .f32⟩
  | .hbm, ⟨6, _⟩ => ⟨S1x2048x2816, .f32⟩
  | .local _ .vmem, ⟨0, _⟩ => ⟨S1x256x2816, .f32⟩
  | .local _ .vmem, ⟨1, _⟩ => ⟨S1x256x2816, .f32⟩
  | .local _ .vmem, ⟨2, _⟩ => ⟨S256x2816, .f32⟩
  | .local _ .vmem, ⟨3, _⟩ => ⟨S256x2816, .f32⟩
  | .local _ .vmem, ⟨4, _⟩ => ⟨S1x256x2816, .f32⟩
  | .local _ .vmem, ⟨5, _⟩ => ⟨S1x256x2816, .f32⟩
  | .local _ .vmem, ⟨6, _⟩ => ⟨S1x256x2816, .f32⟩
  | .local _ .vmem, ⟨7, _⟩ => ⟨S1x256x2816, .f32⟩
  | .local _ .vmem, ⟨8, _⟩ => ⟨S1x256x2816, .f32⟩
  | .local _ .vmem, ⟨9, _⟩ => ⟨S1x256x2816, .f32⟩
  | .local _ .vmem, ⟨10, _⟩ => ⟨S1x256x2816, .f32⟩
  | .local _ .vmem, ⟨11, _⟩ => ⟨S1x256x2816, .f32⟩
  | .local _ .vmem, ⟨12, _⟩ => ⟨S1x256x2816, .f32⟩
  | .local _ .vmem, ⟨13, _⟩ => ⟨S1x256x2816, .f32⟩
  | _, _ => ⟨S1x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S1x2048x2816 : Shape := ⟨3, ![1, 2048, 2816]⟩
abbrev S2048x2816 : Shape := ⟨2, ![2048, 2816]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x2816, .f32⟩
  | .hbm, ⟨1, _⟩ => ⟨S2048x2816, .f32⟩
  | .hbm, ⟨2, _⟩ => ⟨S1x2048x2816, .f32⟩
  | .hbm, ⟨3, _⟩ => ⟨S1x2048x2816, .f32⟩
  | .hbm, ⟨4, _⟩ => ⟨S1x2048x2816, .f32⟩
  | .hbm, ⟨5, _⟩ => ⟨S_, .f32⟩
  | .hbm, ⟨6, _⟩ => ⟨S1x2048x2816, .f32⟩
  | .hbm, ⟨7, _⟩ => ⟨S1x2048x2816, .f32⟩
  | .hbm, ⟨8, _⟩ => ⟨S_, .f32⟩
  | .hbm, ⟨9, _⟩ => ⟨S1x2048x2816, .f32⟩
  | .hbm, ⟨10, _⟩ => ⟨S1x2048x2816, .f32⟩
  | .hbm, ⟨11, _⟩ => ⟨S1x2048x2816, .f32⟩
  | .hbm, ⟨12, _⟩ => ⟨S_, .f32⟩
  | .hbm, ⟨13, _⟩ => ⟨S1x2048x2816, .f32⟩
  | .hbm, ⟨14, _⟩ => ⟨S1x2048x2816, .f32⟩
  | .hbm, ⟨15, _⟩ => ⟨S1x2048x2816, .f32⟩
  | .hbm, ⟨16, _⟩ => ⟨S_, .f32⟩
  | .hbm, ⟨17, _⟩ => ⟨S1x2048x2816, .f32⟩
  | .hbm, ⟨18, _⟩ => ⟨S1x2048x2816, .f32⟩
  | .hbm, ⟨19, _⟩ => ⟨S1x2048x2816, .f32⟩
  | .hbm, ⟨20, _⟩ => ⟨S_, .f32⟩
  | .hbm, ⟨21, _⟩ => ⟨S1x2048x2816, .f32⟩
  | .hbm, ⟨22, _⟩ => ⟨S1x2048x2816, .f32⟩
  | .hbm, ⟨23, _⟩ => ⟨S_, .f32⟩
  | .hbm, ⟨24, _⟩ => ⟨S1x2048x2816, .f32⟩
  | .hbm, ⟨25, _⟩ => ⟨S1x2048x2816, .f32⟩
  | .hbm, ⟨26, _⟩ => ⟨S1x2048x2816, .f32⟩
  | .hbm, ⟨27, _⟩ => ⟨S_, .f32⟩
  | .hbm, ⟨28, _⟩ => ⟨S1x2048x2816, .f32⟩
  | .hbm, ⟨29, _⟩ => ⟨S1x2048x2816, .f32⟩
  | .hbm, ⟨30, _⟩ => ⟨S1x2048x2816, .f32⟩
  | .hbm, ⟨31, _⟩ => ⟨S_, .f32⟩
  | .hbm, ⟨32, _⟩ => ⟨S1x2048x2816, .f32⟩
  | .hbm, ⟨33, _⟩ => ⟨S1x2048x2816, .f32⟩
  | .hbm, ⟨34, _⟩ => ⟨S1x2048x2816, .f32⟩
  | .hbm, ⟨35, _⟩ => ⟨S_, .f32⟩
  | .hbm, ⟨36, _⟩ => ⟨S1x2048x2816, .f32⟩
  | .hbm, ⟨37, _⟩ => ⟨S1x2048x2816, .f32⟩
  | _, _ => ⟨S1x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel17.lean ====
abbrev S1x1408x2048 : Shape := ⟨3, ![1, 1408, 2048]⟩
abbrev S1408x2048 : Shape := ⟨2, ![1408, 2048]⟩
abbrev S1x352x2048 : Shape := ⟨3, ![1, 352, 2048]⟩
abbrev S352x2048 : Shape := ⟨2, ![352, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1x1408x2048, .f32⟩
  | .hbm, ⟨1, _⟩ => ⟨S1408x2048, .f32⟩
  | .hbm, ⟨2, _⟩ => ⟨S1x1408x2048, .f32⟩
  | .hbm, ⟨3, _⟩ => ⟨S1x1408x2048, .f32⟩
  | .hbm, ⟨4, _⟩ => ⟨S1x1408x2048, .f32⟩
  | .hbm, ⟨5, _⟩ => ⟨S1x1408x2048, .f32⟩
  | .hbm, ⟨6, _⟩ => ⟨S1x1408x2048, .f32⟩
  | .local _ .vmem, ⟨0, _⟩ => ⟨S1x352x2048, .f32⟩
  | .local _ .vmem, ⟨1, _⟩ => ⟨S1x352x2048, .f32⟩
  | .local _ .vmem, ⟨2, _⟩ => ⟨S352x2048, .f32⟩
  | .local _ .vmem, ⟨3, _⟩ => ⟨S352x2048, .f32⟩
  | .local _ .vmem, ⟨4, _⟩ => ⟨S1x352x2048, .f32⟩
  | .local _ .vmem, ⟨5, _⟩ => ⟨S1x352x2048, .f32⟩
  | .local _ .vmem, ⟨6, _⟩ => ⟨S1x352x2048, .f32⟩
  | .local _ .vmem, ⟨7, _⟩ => ⟨S1x352x2048, .f32⟩
  | .local _ .vmem, ⟨8, _⟩ => ⟨S1x352x2048, .f32⟩
  | .local _ .vmem, ⟨9, _⟩ => ⟨S1x352x2048, .f32⟩
  | .local _ .vmem, ⟨10, _⟩ => ⟨S1x352x2048, .f32⟩
  | .local _ .vmem, ⟨11, _⟩ => ⟨S1x352x2048, .f32⟩
  | .local _ .vmem, ⟨12, _⟩ => ⟨S1x352x2048, .f32⟩
  | .local _ .vmem, ⟨13, _⟩ => ⟨S1x352x2048, .f32⟩
  | _, _ => ⟨S1x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1x1408x2048 : Shape := ⟨3, ![1, 1408, 2048]⟩
abbrev S1408x2048 : Shape := ⟨2, ![1408, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1408x2048, .f32⟩
  | .hbm, ⟨1, _⟩ => ⟨S1408x2048, .f32⟩
  | .hbm, ⟨2, _⟩ => ⟨S1x1408x2048, .f32⟩
  | .hbm, ⟨3, _⟩ => ⟨S1x1408x2048, .f32⟩
  | .hbm, ⟨4, _⟩ => ⟨S1x1408x2048, .f32⟩
  | .hbm, ⟨5, _⟩ => ⟨S_, .f32⟩
  | .hbm, ⟨6, _⟩ => ⟨S1x1408x2048, .f32⟩
  | .hbm, ⟨7, _⟩ => ⟨S1x1408x2048, .f32⟩
  | .hbm, ⟨8, _⟩ => ⟨S_, .f32⟩
  | .hbm, ⟨9, _⟩ => ⟨S1x1408x2048, .f32⟩
  | .hbm, ⟨10, _⟩ => ⟨S1x1408x2048, .f32⟩
  | .hbm, ⟨11, _⟩ => ⟨S1x1408x2048, .f32⟩
  | .hbm, ⟨12, _⟩ => ⟨S_, .f32⟩
  | .hbm, ⟨13, _⟩ => ⟨S1x1408x2048, .f32⟩
  | .hbm, ⟨14, _⟩ => ⟨S1x1408x2048, .f32⟩
  | .hbm, ⟨15, _⟩ => ⟨S1x1408x2048, .f32⟩
  | .hbm, ⟨16, _⟩ => ⟨S_, .f32⟩
  | .hbm, ⟨17, _⟩ => ⟨S1x1408x2048, .f32⟩
  | .hbm, ⟨18, _⟩ => ⟨S1x1408x2048, .f32⟩
  | .hbm, ⟨19, _⟩ => ⟨S1x1408x2048, .f32⟩
  | .hbm, ⟨20, _⟩ => ⟨S_, .f32⟩
  | .hbm, ⟨21, _⟩ => ⟨S1x1408x2048, .f32⟩
  | .hbm, ⟨22, _⟩ => ⟨S1x1408x2048, .f32⟩
  | .hbm, ⟨23, _⟩ => ⟨S_, .f32⟩
  | .hbm, ⟨24, _⟩ => ⟨S1x1408x2048, .f32⟩
  | .hbm, ⟨25, _⟩ => ⟨S1x1408x2048, .f32⟩
  | .hbm, ⟨26, _⟩ => ⟨S1x1408x2048, .f32⟩
  | .hbm, ⟨27, _⟩ => ⟨S_, .f32⟩
  | .hbm, ⟨28, _⟩ => ⟨S1x1408x2048, .f32⟩
  | .hbm, ⟨29, _⟩ => ⟨S1x1408x2048, .f32⟩
  | .hbm, ⟨30, _⟩ => ⟨S1x1408x2048, .f32⟩
  | .hbm, ⟨31, _⟩ => ⟨S_, .f32⟩
  | .hbm, ⟨32, _⟩ => ⟨S1x1408x2048, .f32⟩
  | .hbm, ⟨33, _⟩ => ⟨S1x1408x2048, .f32⟩
  | .hbm, ⟨34, _⟩ => ⟨S1x1408x2048, .f32⟩
  | .hbm, ⟨35, _⟩ => ⟨S_, .f32⟩
  | .hbm, ⟨36, _⟩ => ⟨S1x1408x2048, .f32⟩
  | .hbm, ⟨37, _⟩ => ⟨S1x1408x2048, .f32⟩
  | _, _ => ⟨S1x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel18.lean ====
abbrev S4224x2048 : Shape := ⟨2, ![4224, 2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S4224x2048, .f32⟩
  | .hbm, ⟨4, _⟩ => ⟨S4224x2048, .f32⟩
  | .hbm, ⟨5, _⟩ => ⟨S4224x2048, .bf16⟩
  | .hbm, ⟨6, _⟩ => ⟨S1x2048, .f32⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S384x2048, .f32⟩
  | .local _ .vmem, ⟨4, _⟩ => ⟨S384x2048, .f32⟩
  | .local _ .vmem, ⟨5, _⟩ => ⟨S384x2048, .f32⟩
  | .local _ .vmem, ⟨6, _⟩ => ⟨S384x2048, .f32⟩
  | .local _ .vmem, ⟨7, _⟩ => ⟨S384x2048, .f32⟩
  | .local _ .vmem, ⟨8, _⟩ => ⟨S384x2048, .f32⟩
  | .local _ .vmem, ⟨9, _⟩ => ⟨S384x2048, .bf16⟩
  | .local _ .vmem, ⟨10, _⟩ => ⟨S384x2048, .bf16⟩
  | .local _ .vmem, ⟨11, _⟩ => ⟨S1x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference18Ideal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S2048 : Shape := ⟨1, ![2048]⟩

abbrev nBuf : Space → Nat
  | .hbm => 58
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S4224x2048, .f32⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x2048, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S4224x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4224x2048, .f32⟩
  | .hbm, ⟨28, _⟩ => ⟨S4224x2048, .f32⟩
  | .hbm, ⟨29, _⟩ => ⟨S4224x2048, .f32⟩
  | .hbm, ⟨30, _⟩ => ⟨S_, .f32⟩
  | .hbm, ⟨31, _⟩ => ⟨S4224, .f32⟩
  | .hbm, ⟨32, _⟩ => ⟨S4224x1, .f32⟩
  | .hbm, ⟨33, _⟩ => ⟨S4224x2048, .f32⟩
  | .hbm, ⟨34, _⟩ => ⟨S4224x2048, .f32⟩
  | .hbm, ⟨35, _⟩ => ⟨S4224x1, .f32⟩
  | .hbm, ⟨36, _⟩ => ⟨S_, .f32⟩
  | .hbm, ⟨37, _⟩ => ⟨S4224x1, .f32⟩
  | .hbm, ⟨38, _⟩ => ⟨S4224x1, .f32⟩
  | .hbm, ⟨39, _⟩ => ⟨S_, .f32⟩
  | .hbm, ⟨40, _⟩ => ⟨S4224, .f32⟩
  | .hbm, ⟨41, _⟩ => ⟨S4224x2048, .f32⟩
  | .hbm, ⟨42, _⟩ => ⟨S4224x2048, .f32⟩
  | .hbm, ⟨43, _⟩ => ⟨S4224x2048, .f32⟩
  | .hbm, ⟨44, _⟩ => ⟨S4224x2048, .f32⟩
  | .hbm, ⟨45, _⟩ => ⟨S4224x2048, .f32⟩
  | .hbm, ⟨46, _⟩ => ⟨S4224, .i32⟩
  | .hbm, ⟨47, _⟩ => ⟨S4224x1, .i32⟩
  | .hbm, ⟨48, _⟩ => ⟨S_, .i32⟩
  | .hbm, ⟨49, _⟩ => ⟨S4224x1, .i32⟩
  | .hbm, ⟨50, _⟩ => ⟨S4224x1, .i1⟩
  | .hbm, ⟨51, _⟩ => ⟨S4224x2048, .f32⟩
  | .hbm, ⟨52, _⟩ => ⟨S_, .f32⟩
  | .hbm, ⟨53, _⟩ => ⟨S_, .f32⟩
  | .hbm, ⟨54, _⟩ => ⟨S4224x2048, .i1⟩
  | .hbm, ⟨55, _⟩ => ⟨S4224x2048, .f32⟩
  | .hbm, ⟨56, _⟩ => ⟨S4224x2048, .f32⟩
  | .hbm, ⟨57, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Kernel19.lean ====
abbrev S16x512 : Shape := ⟨2, ![16, 512]⟩
abbrev S1x2048 : Shape := ⟨2, ![1, 2048]⟩
abbrev S1x4x1536 : Shape := ⟨3, ![1, 4, 1536]⟩
abbrev S1x16 : Shape := ⟨2, ![1, 16]⟩
abbrev S1x128 : Shape := ⟨2, ![1, 128]⟩
abbrev S1x4x768 : Shape := ⟨3, ![1, 4, 768]⟩
abbrev S1x3072 : Shape := ⟨2, ![1, 3072]⟩
abbrev S1x32 : Shape := ⟨2, ![1, 32]⟩
abbrev S1x3x2816 : Shape := ⟨3, ![1, 3, 2816]⟩
abbrev S2048 : Shape := ⟨1, ![2048]⟩
abbrev S8192 : Shape := ⟨1, ![8192]⟩
abbrev S_ : Shape := ⟨0, ![]⟩
abbrev S6144 : Shape := ⟨1, ![6144]⟩
abbrev S16 : Shape := ⟨1, ![16]⟩
abbrev S128 : Shape := ⟨1, ![128]⟩
abbrev S3072 : Shape := ⟨1, ![3072]⟩
abbrev S4096 : Shape := ⟨1, ![4096]⟩
abbrev S32 : Shape := ⟨1, ![32]⟩
abbrev S8448 : Shape := ⟨1, ![8448]⟩
abbrev S10240 : Shape := ⟨1, ![10240]⟩
abbrev S53248 : Shape := ⟨1, ![53248]⟩
abbrev S416x128 : Shape := ⟨2, ![416, 128]⟩

abbrev nBuf : Space → Nat
  | .hbm => 307
  | .vmem => 7
  | .smem => 0
  | _ => 0

abbrev hbmTy0_0 (i : Nat) : BufTy := match i % 128 with
  | 0 => ⟨S16x512, .f32⟩
  | 1 => ⟨S1x2048, .f32⟩
  | 2 => ⟨S1x4x1536, .f32⟩
  | 3 => ⟨S1x16, .f32⟩
  | 4 => ⟨S1x16, .f32⟩
  | 5 => ⟨S1x128, .f32⟩
  | 6 => ⟨S1x4x768, .f32⟩
  | 7 => ⟨S1x3072, .f32⟩
  | 8 => ⟨S1x32, .f32⟩
  | 9 => ⟨S1x32, .f32⟩
  | 10 => ⟨S1x32, .f32⟩
  | 11 => ⟨S1x2048, .f32⟩
  | 12 => ⟨S1x2048, .f32⟩
  | 13 => ⟨S1x3x2816, .f32⟩
  | 14 => ⟨S2048, .f32⟩
  | 15 => ⟨S16x512, .f32⟩
  | 16 => ⟨S1x2048, .f32⟩
  | 17 => ⟨S1x4x1536, .f32⟩
  | 18 => ⟨S1x16, .f32⟩
  | 19 => ⟨S1x16, .f32⟩
  | 20 => ⟨S1x128, .f32⟩
  | 21 => ⟨S1x4x768, .f32⟩
  | 22 => ⟨S1x3072, .f32⟩
  | 23 => ⟨S1x32, .f32⟩
  | 24 => ⟨S1x32, .f32⟩
  | 25 => ⟨S1x32, .f32⟩
  | 26 => ⟨S1x2048, .f32⟩
  | 27 => ⟨S1x2048, .f32⟩
  | 28 => ⟨S1x3x2816, .f32⟩
  | 29 => ⟨S2048, .f32⟩
  | 30 => ⟨S16x512, .f32⟩
  | 31 => ⟨S1x2048, .f32⟩
  | 32 => ⟨S1x4x1536, .f32⟩
  | 33 => ⟨S1x16, .f32⟩
  | 34 => ⟨S1x16, .f32⟩
  | 35 => ⟨S1x128, .f32⟩
  | 36 => ⟨S1x4x768, .f32⟩
  | 37 => ⟨S1x3072, .f32⟩
  | 38 => ⟨S1x32, .f32⟩
  | 39 => ⟨S1x32, .f32⟩
  | 40 => ⟨S1x32, .f32⟩
  | 41 => ⟨S1x2048, .f32⟩
  | 42 => ⟨S1x2048, .f32⟩
  | 43 => ⟨S1x3x2816, .f32⟩
  | 44 => ⟨S2048, .f32⟩
  | 45 => ⟨S16x512, .f32⟩
  | 46 => ⟨S1x2048, .f32⟩
  | 47 => ⟨S1x4x1536, .f32⟩
  | 48 => ⟨S1x16, .f32⟩
  | 49 => ⟨S1x16, .f32⟩
  | 50 => ⟨S1x128, .f32⟩
  | 51 => ⟨S1x4x768, .f32⟩
  | 52 => ⟨S1x3072, .f32⟩
  | 53 => ⟨S1x32, .f32⟩
  | 54 => ⟨S1x32, .f32⟩
  | 55 => ⟨S1x32, .f32⟩
  | 56 => ⟨S1x2048, .f32⟩
  | 57 => ⟨S1x2048, .f32⟩
  | 58 => ⟨S1x3x2816, .f32⟩
  | 59 => ⟨S2048, .f32⟩
  | 60 => ⟨S8192, .f32⟩
  | 61 => ⟨S_, .i32⟩
  | 62 => ⟨S_, .f32⟩
  | 63 => ⟨S8192, .f32⟩
  | 64 => ⟨S2048, .f32⟩
  | 65 => ⟨S_, .i32⟩
  | 66 => ⟨S_, .f32⟩
  | 67 => ⟨S2048, .f32⟩
  | 68 => ⟨S6144, .f32⟩
  | 69 => ⟨S_, .i32⟩
  | 70 => ⟨S_, .f32⟩
  | 71 => ⟨S6144, .f32⟩
  | 72 => ⟨S16, .f32⟩
  | 73 => ⟨S_, .i32⟩
  | 74 => ⟨S_, .f32⟩
  | 75 => ⟨S2048, .f32⟩
  | 76 => ⟨S16, .f32⟩
  | 77 => ⟨S_, .i32⟩
  | 78 => ⟨S_, .f32⟩
  | 79 => ⟨S2048, .f32⟩
  | 80 => ⟨S128, .f32⟩
  | 81 => ⟨S_, .i32⟩
  | 82 => ⟨S_, .f32⟩
  | 83 => ⟨S2048, .f32⟩
  | 84 => ⟨S3072, .f32⟩
  | 85 => ⟨S_, .i32⟩
  | 86 => ⟨S_, .f32⟩
  | 87 => ⟨S4096, .f32⟩
  | 88 => ⟨S3072, .f32⟩
  | 89 => ⟨S_, .i32⟩
  | 90 => ⟨S_, .f32⟩
  | 91 => ⟨S4096, .f32⟩
  | 92 => ⟨S32, .f32⟩
  | 93 => ⟨S_, .i32⟩
  | 94 => ⟨S_, .f32⟩
  | 95 => ⟨S2048, .f32⟩
  | 96 => ⟨S32, .f32⟩
  | 97 => ⟨S_, .i32⟩
  | 98 => ⟨S_, .f32⟩
  | 99 => ⟨S2048, .f32⟩
  | 100 => ⟨S32, .f32⟩
  | 101 => ⟨S_, .i32⟩
  | 102 => ⟨S_, .f32⟩
  | 103 => ⟨S2048, .f32⟩
  | 104 => ⟨S2048, .f32⟩
  | 105 => ⟨S_, .i32⟩
  | 106 => ⟨S_, .f32⟩
  | 107 => ⟨S2048, .f32⟩
  | 108 => ⟨S2048, .f32⟩
  | 109 => ⟨S_, .i32⟩
  | 110 => ⟨S_, .f32⟩
  | 111 => ⟨S2048, .f32⟩
  | 112 => ⟨S8448, .f32⟩
  | 113 => ⟨S_, .i32⟩
  | 114 => ⟨S_, .f32⟩
  | 115 => ⟨S10240, .f32⟩
  | 116 => ⟨S_, .i32⟩
  | 117 => ⟨S_, .f32⟩
  | 118 => ⟨S2048, .f32⟩
  | 119 => ⟨S53248, .f32⟩
  | 120 => ⟨S416x128, .f32⟩
  | 121 => ⟨S8192, .f32⟩
  | 122 => ⟨S_, .i32⟩
  | 123 => ⟨S_, .f32⟩
  | 124 => ⟨S8192, .f32⟩
  | 125 => ⟨S2048, .f32⟩
  | 126 => ⟨S_, .i32⟩
  | 127 => ⟨S_, .f32⟩
  | _ => ⟨S16x512, .f32⟩

abbrev hbmTy0_1 (i : Nat) : BufTy := match i % 128 with
  | 0 => ⟨S2048, .f32⟩
  | 1 => ⟨S6144, .f32⟩
  | 2 => ⟨S_, .i32⟩
  | 3 => ⟨S_, .f32⟩
  | 4 => ⟨S6144, .f32⟩
  | 5 => ⟨S16, .f32⟩
  | 6 => ⟨S_, .i32⟩
  | 7 => ⟨S_, .f32⟩
  | 8 => ⟨S2048, .f32⟩
  | 9 => ⟨S16, .f32⟩
  | 10 => ⟨S_, .i32⟩
  | 11 => ⟨S_, .f32⟩
  | 12 => ⟨S2048, .f32⟩
  | 13 => ⟨S128, .f32⟩
  | 14 => ⟨S_, .i32⟩
  | 15 => ⟨S_, .f32⟩
  | 16 => ⟨S2048, .f32⟩
  | 17 => ⟨S3072, .f32⟩
  | 18 => ⟨S_, .i32⟩
  | 19 => ⟨S_, .f32⟩
  | 20 => ⟨S4096, .f32⟩
  | 21 => ⟨S3072, .f32⟩
  | 22 => ⟨S_, .i32⟩
  | 23 => ⟨S_, .f32⟩
  | 24 => ⟨S4096, .f32⟩
  | 25 => ⟨S32, .f32⟩
  | 26 => ⟨S_, .i32⟩
  | 27 => ⟨S_, .f32⟩
  | 28 => ⟨S2048, .f32⟩
  | 29 => ⟨S32, .f32⟩
  | 30 => ⟨S_, .i32⟩
  | 31 => ⟨S_, .f32⟩
  | 32 => ⟨S2048, .f32⟩
  | 33 => ⟨S32, .f32⟩
  | 34 => ⟨S_, .i32⟩
  | 35 => ⟨S_, .f32⟩
  | 36 => ⟨S2048, .f32⟩
  | 37 => ⟨S2048, .f32⟩
  | 38 => ⟨S_, .i32⟩
  | 39 => ⟨S_, .f32⟩
  | 40 => ⟨S2048, .f32⟩
  | 41 => ⟨S2048, .f32⟩
  | 42 => ⟨S_, .i32⟩
  | 43 => ⟨S_, .f32⟩
  | 44 => ⟨S2048, .f32⟩
  | 45 => ⟨S8448, .f32⟩
  | 46 => ⟨S_, .i32⟩
  | 47 => ⟨S_, .f32⟩
  | 48 => ⟨S10240, .f32⟩
  | 49 => ⟨S_, .i32⟩
  | 50 => ⟨S_, .f32⟩
  | 51 => ⟨S2048, .f32⟩
  | 52 => ⟨S53248, .f32⟩
  | 53 => ⟨S416x128, .f32⟩
  | 54 => ⟨S8192, .f32⟩
  | 55 => ⟨S_, .i32⟩
  | 56 => ⟨S_, .f32⟩
  | 57 => ⟨S8192, .f32⟩
  | 58 => ⟨S2048, .f32⟩
  | 59 => ⟨S_, .i32⟩
  | 60 => ⟨S_, .f32⟩
  | 61 => ⟨S2048, .f32⟩
  | 62 => ⟨S6144, .f32⟩
  | 63 => ⟨S_, .i32⟩
  | 64 => ⟨S_, .f32⟩
  | 65 => ⟨S6144, .f32⟩
  | 66 => ⟨S16, .f32⟩
  | 67 => ⟨S_, .i32⟩
  | 68 => ⟨S_, .f32⟩
  | 69 => ⟨S2048, .f32⟩
  | 70 => ⟨S16, .f32⟩
  | 71 => ⟨S_, .i32⟩
  | 72 => ⟨S_, .f32⟩
  | 73 => ⟨S2048, .f32⟩
  | 74 => ⟨S128, .f32⟩
  | 75 => ⟨S_, .i32⟩
  | 76 => ⟨S_, .f32⟩
  | 77 => ⟨S2048, .f32⟩
  | 78 => ⟨S3072, .f32⟩
  | 79 => ⟨S_, .i32⟩
  | 80 => ⟨S_, .f32⟩
  | 81 => ⟨S4096, .f32⟩
  | 82 => ⟨S3072, .f32⟩
  | 83 => ⟨S_, .i32⟩
  | 84 => ⟨S_, .f32⟩
  | 85 => ⟨S4096, .f32⟩
  | 86 => ⟨S32, .f32⟩
  | 87 => ⟨S_, .i32⟩
  | 88 => ⟨S_, .f32⟩
  | 89 => ⟨S2048, .f32⟩
  | 90 => ⟨S32, .f32⟩
  | 91 => ⟨S_, .i32⟩
  | 92 => ⟨S_, .f32⟩
  | 93 => ⟨S2048, .f32⟩
  | 94 => ⟨S32, .f32⟩
  | 95 => ⟨S_, .i32⟩
  | 96 => ⟨S_, .f32⟩
  | 97 => ⟨S2048, .f32⟩
  | 98 => ⟨S2048, .f32⟩
  | 99 => ⟨S_, .i32⟩
  | 100 => ⟨S_, .f32⟩
  | 101 => ⟨S2048, .f32⟩
  | 102 => ⟨S2048, .f32⟩
  | 103 => ⟨S_, .i32⟩
  | 104 => ⟨S_, .f32⟩
  | 105 => ⟨S2048, .f32⟩
  | 106 => ⟨S8448, .f32⟩
  | 107 => ⟨S_, .i32⟩
  | 108 => ⟨S_, .f32⟩
  | 109 => ⟨S10240, .f32⟩
  | 110 => ⟨S_, .i32⟩
  | 111 => ⟨S_, .f32⟩
  | 112 => ⟨S2048, .f32⟩
  | 113 => ⟨S53248, .f32⟩
  | 114 => ⟨S416x128, .f32⟩
  | 115 => ⟨S8192, .f32⟩
  | 116 => ⟨S_, .i32⟩
  | 117 => ⟨S_, .f32⟩
  | 118 => ⟨S8192, .f32⟩
  | 119 => ⟨S2048, .f32⟩
  | 120 => ⟨S_, .i32⟩
  | 121 => ⟨S_, .f32⟩
  | 122 => ⟨S2048, .f32⟩
  | 123 => ⟨S6144, .f32⟩
  | 124 => ⟨S_, .i32⟩
  | 125 => ⟨S_, .f32⟩
  | 126 => ⟨S6144, .f32⟩
  | 127 => ⟨S16, .f32⟩
  | _ => ⟨S16x512, .f32⟩

abbrev hbmTy0_2 (i : Nat) : BufTy := match i % 128 with
  | 0 => ⟨S_, .i32⟩
  | 1 => ⟨S_, .f32⟩
  | 2 => ⟨S2048, .f32⟩
  | 3 => ⟨S16, .f32⟩
  | 4 => ⟨S_, .i32⟩
  | 5 => ⟨S_, .f32⟩
  | 6 => ⟨S2048, .f32⟩
  | 7 => ⟨S128, .f32⟩
  | 8 => ⟨S_, .i32⟩
  | 9 => ⟨S_, .f32⟩
  | 10 => ⟨S2048, .f32⟩
  | 11 => ⟨S3072, .f32⟩
  | 12 => ⟨S_, .i32⟩
  | 13 => ⟨S_, .f32⟩
  | 14 => ⟨S4096, .f32⟩
  | 15 => ⟨S3072, .f32⟩
  | 16 => ⟨S_, .i32⟩
  | 17 => ⟨S_, .f32⟩
  | 18 => ⟨S4096, .f32⟩
  | 19 => ⟨S32, .f32⟩
  | 20 => ⟨S_, .i32⟩
  | 21 => ⟨S_, .f32⟩
  | 22 => ⟨S2048, .f32⟩
  | 23 => ⟨S32, .f32⟩
  | 24 => ⟨S_, .i32⟩
  | 25 => ⟨S_, .f32⟩
  | 26 => ⟨S2048, .f32⟩
  | 27 => ⟨S32, .f32⟩
  | 28 => ⟨S_, .i32⟩
  | 29 => ⟨S_, .f32⟩
  | 30 => ⟨S2048, .f32⟩
  | 31 => ⟨S2048, .f32⟩
  | 32 => ⟨S_, .i32⟩
  | 33 => ⟨S_, .f32⟩
  | 34 => ⟨S2048, .f32⟩
  | 35 => ⟨S2048, .f32⟩
  | 36 => ⟨S_, .i32⟩
  | 37 => ⟨S_, .f32⟩
  | 38 => ⟨S2048, .f32⟩
  | 39 => ⟨S8448, .f32⟩
  | 40 => ⟨S_, .i32⟩
  | 41 => ⟨S_, .f32⟩
  | 42 => ⟨S10240, .f32⟩
  | 43 => ⟨S_, .i32⟩
  | 44 => ⟨S_, .f32⟩
  | 45 => ⟨S2048, .f32⟩
  | 46 => ⟨S53248, .f32⟩
  | 47 => ⟨S416x128, .f32⟩
  | 48 => ⟨S416x128, .f32⟩
  | 49 => ⟨S416x128, .f32⟩
  | 50 => ⟨S416x128, .f32⟩
  | _ => ⟨S16x512, .f32⟩

abbrev hbmTy (i : Nat) : BufTy := match i / 128 with
  | 0 => hbmTy0_0 i
  | 1 => hbmTy0_1 i
  | 2 => hbmTy0_2 i
  | _ => ⟨S16x512, .f32⟩

abbrev bufTy : (tb : Table) → Fin (tcTables nBuf tb) → BufTy
  | .hbm, ⟨i, _⟩ => hbmTy i
  | .local _ .vmem, ⟨0, _⟩ => ⟨S416x128, .f32⟩
  | .local _ .vmem, ⟨1, _⟩ => ⟨S416x128, .f32⟩
  | .local _ .vmem, ⟨2, _⟩ => ⟨S416x128, .f32⟩
  | .local _ .vmem, ⟨3, _⟩ => ⟨S416x128, .f32⟩
  | .local _ .vmem, ⟨4, _⟩ => ⟨S416x128, .f32⟩
  | .local _ .vmem, ⟨5, _⟩ => ⟨S416x128, .f32⟩
  | .local _ .vmem, ⟨6, _⟩ => ⟨S416x128, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_v0 : Ref sig .tc := ⟨.hbm, 60, rfl⟩
abbrev main_c : Ref sig .tc := ⟨.hbm, 61, rfl⟩
abbrev main_call0_v0 : Ref sig .tc := ⟨.hbm, 62, rfl⟩
abbrev main_v1 : Ref sig .tc := ⟨.hbm, 63, rfl⟩
abbrev main_v2 : Ref sig .tc := ⟨.hbm, 64, rfl⟩
abbrev main_c_0 : Ref sig .tc := ⟨.hbm, 65, rfl⟩
abbrev main_call1_v0 : Ref sig .tc := ⟨.hbm, 66, rfl⟩
abbrev main_v3 : Ref sig .tc := ⟨.hbm, 67, rfl⟩
abbrev main_v4 : Ref sig .tc := ⟨.hbm, 68, rfl⟩
abbrev main_c_1 : Ref sig .tc := ⟨.hbm, 69, rfl⟩
abbrev main_call2_v0 : Ref sig .tc := ⟨.hbm, 70, rfl⟩
abbrev main_v5 : Ref sig .tc := ⟨.hbm, 71, rfl⟩
abbrev main_v6 : Ref sig .tc := ⟨.hbm, 72, rfl⟩
abbrev main_c_2 : Ref sig .tc := ⟨.hbm, 73, rfl⟩
abbrev main_call3_v0 : Ref sig .tc := ⟨.hbm, 74, rfl⟩
abbrev main_v7 : Ref sig .tc := ⟨.hbm, 75, rfl⟩
abbrev main_v8 : Ref sig .tc := ⟨.hbm, 76, rfl⟩
abbrev main_c_3 : Ref sig .tc := ⟨.hbm, 77, rfl⟩
abbrev main_call4_v0 : Ref sig .tc := ⟨.hbm, 78, rfl⟩
abbrev main_v9 : Ref sig .tc := ⟨.hbm, 79, rfl⟩
abbrev main_v10 : Ref sig .tc := ⟨.hbm, 80, rfl⟩
abbrev main_c_4 : Ref sig .tc := ⟨.hbm, 81, rfl⟩
abbrev main_call5_v0 : Ref sig .tc := ⟨.hbm, 82, rfl⟩
abbrev main_v11 : Ref sig .tc := ⟨.hbm, 83, rfl⟩
abbrev main_v12 : Ref sig .tc := ⟨.hbm, 84, rfl⟩
abbrev main_c_5 : Ref sig .tc := ⟨.hbm, 85, rfl⟩
abbrev main_call6_v0 : Ref sig .tc := ⟨.hbm, 86, rfl⟩
abbrev main_v13 : Ref sig .tc := ⟨.hbm, 87, rfl⟩
abbrev main_v14 : Ref sig .tc := ⟨.hbm, 88, rfl⟩
abbrev main_c_6 : Ref sig .tc := ⟨.hbm, 89, rfl⟩
abbrev main_call7_v0 : Ref sig .tc := ⟨.hbm, 90, rfl⟩
abbrev main_v15 : Ref sig .tc := ⟨.hbm, 91, rfl⟩
abbrev main_v16 : Ref sig .tc := ⟨.hbm, 92, rfl⟩
abbrev main_c_7 : Ref sig .tc := ⟨.hbm, 93, rfl⟩
abbrev main_call8_v0 : Ref sig .tc := ⟨.hbm, 94, rfl⟩
abbrev main_v17 : Ref sig .tc := ⟨.hbm, 95, rfl⟩
abbrev main_v18 : Ref sig .tc := ⟨.hbm, 96, rfl⟩
abbrev main_c_8 : Ref sig .tc := ⟨.hbm, 97, rfl⟩
abbrev main_call9_v0 : Ref sig .tc := ⟨.hbm, 98, rfl⟩
abbrev main_v19 : Ref sig .tc := ⟨.hbm, 99, rfl⟩
abbrev main_v20 : Ref sig .tc := ⟨.hbm, 100, rfl⟩
abbrev main_c_9 : Ref sig .tc := ⟨.hbm, 101, rfl⟩
abbrev main_call10_v0 : Ref sig .tc := ⟨.hbm, 102, rfl⟩
abbrev main_v21 : Ref sig .tc := ⟨.hbm, 103, rfl⟩
abbrev main_v22 : Ref sig .tc := ⟨.hbm, 104, rfl⟩
abbrev main_c_10 : Ref sig .tc := ⟨.hbm, 105, rfl⟩
abbrev main_call11_v0 : Ref sig .tc := ⟨.hbm, 106, rfl⟩
abbrev main_v23 : Ref sig .tc := ⟨.hbm, 107, rfl⟩
abbrev main_v24 : Ref sig .tc := ⟨.hbm, 108, rfl⟩
abbrev main_c_11 : Ref sig .tc := ⟨.hbm, 109, rfl⟩
abbrev main_call12_v0 : Ref sig .tc := ⟨.hbm, 110, rfl⟩
abbrev main_v25 : Ref sig .tc := ⟨.hbm, 111, rfl⟩
abbrev main_v26 : Ref sig .tc := ⟨.hbm, 112, rfl⟩
abbrev main_c_12 : Ref sig .tc := ⟨.hbm, 113, rfl⟩
abbrev main_call13_v0 : Ref sig .tc := ⟨.hbm, 114, rfl⟩
abbrev main_v27 : Ref sig .tc := ⟨.hbm, 115, rfl⟩
abbrev main_c_13 : Ref sig .tc := ⟨.hbm, 116, rfl⟩
abbrev main_call14_v0 : Ref sig .tc := ⟨.hbm, 117, rfl⟩
abbrev main_v28 : Ref sig .tc := ⟨.hbm, 118, rfl⟩
abbrev main_v29 : Ref sig .tc := ⟨.hbm, 119, rfl⟩
abbrev main_v30 : Ref sig .tc := ⟨.hbm, 120, rfl⟩
abbrev main_v31 : Ref sig .tc := ⟨.hbm, 121, rfl⟩
abbrev main_c_14 : Ref sig .tc := ⟨.hbm, 122, rfl⟩
abbrev main_call15_v0 : Ref sig .tc := ⟨.hbm, 123, rfl⟩
abbrev main_v32 : Ref sig .tc := ⟨.hbm, 124, rfl⟩
abbrev main_v33 : Ref sig .tc := ⟨.hbm, 125, rfl⟩
abbrev main_c_15 : Ref sig .tc := ⟨.hbm, 126, rfl⟩
abbrev main_call16_v0 : Ref sig .tc := ⟨.hbm, 127, rfl⟩
abbrev main_v34 : Ref sig .tc := ⟨.hbm, 128, rfl⟩
abbrev main_v35 : Ref sig .tc := ⟨.hbm, 129, rfl⟩
abbrev main_c_16 : Ref sig .tc := ⟨.hbm, 130, rfl⟩
abbrev main_call17_v0 : Ref sig .tc := ⟨.hbm, 131, rfl⟩
abbrev main_v36 : Ref sig .tc := ⟨.hbm, 132, rfl⟩
abbrev main_v37 : Ref sig .tc := ⟨.hbm, 133, rfl⟩
abbrev main_c_17 : Ref sig .tc := ⟨.hbm, 134, rfl⟩
abbrev main_call18_v0 : Ref sig .tc := ⟨.hbm, 135, rfl⟩
abbrev main_v38 : Ref sig .tc := ⟨.hbm, 136, rfl⟩
abbrev main_v39 : Ref sig .tc := ⟨.hbm, 137, rfl⟩
abbrev main_c_18 : Ref sig .tc := ⟨.hbm, 138, rfl⟩
abbrev main_call19_v0 : Ref sig .tc := ⟨.hbm, 139, rfl⟩
abbrev main_v40 : Ref sig .tc := ⟨.hbm, 140, rfl⟩
abbrev main_v41 : Ref sig .tc := ⟨.hbm, 141, rfl⟩
abbrev main_c_19 : Ref sig .tc := ⟨.hbm, 142, rfl⟩
abbrev main_call20_v0 : Ref sig .tc := ⟨.hbm, 143, rfl⟩
abbrev main_v42 : Ref sig .tc := ⟨.hbm, 144, rfl⟩
abbrev main_v43 : Ref sig .tc := ⟨.hbm, 145, rfl⟩
abbrev main_c_20 : Ref sig .tc := ⟨.hbm, 146, rfl⟩
abbrev main_call21_v0 : Ref sig .tc := ⟨.hbm, 147, rfl⟩
abbrev main_v44 : Ref sig .tc := ⟨.hbm, 148, rfl⟩
abbrev main_v45 : Ref sig .tc := ⟨.hbm, 149, rfl⟩
abbrev main_c_21 : Ref sig .tc := ⟨.hbm, 150, rfl⟩
abbrev main_call22_v0 : Ref sig .tc := ⟨.hbm, 151, rfl⟩
abbrev main_v46 : Ref sig .tc := ⟨.hbm, 152, rfl⟩
abbrev main_v47 : Ref sig .tc := ⟨.hbm, 153, rfl⟩
abbrev main_c_22 : Ref sig .tc := ⟨.hbm, 154, rfl⟩
abbrev main_call23_v0 : Ref sig .tc := ⟨.hbm, 155, rfl⟩
abbrev main_v48 : Ref sig .tc := ⟨.hbm, 156, rfl⟩
abbrev main_v49 : Ref sig .tc := ⟨.hbm, 157, rfl⟩
abbrev main_c_23 : Ref sig .tc := ⟨.hbm, 158, rfl⟩
abbrev main_call24_v0 : Ref sig .tc := ⟨.hbm, 159, rfl⟩
abbrev main_v50 : Ref sig .tc := ⟨.hbm, 160, rfl⟩
abbrev main_v51 : Ref sig .tc := ⟨.hbm, 161, rfl⟩
abbrev main_c_24 : Ref sig .tc := ⟨.hbm, 162, rfl⟩
abbrev main_call25_v0 : Ref sig .tc := ⟨.hbm, 163, rfl⟩
abbrev main_v52 : Ref sig .tc := ⟨.hbm, 164, rfl⟩
abbrev main_v53 : Ref sig .tc := ⟨.hbm, 165, rfl⟩
abbrev main_c_25 : Ref sig .tc := ⟨.hbm, 166, rfl⟩
abbrev main_call26_v0 : Ref sig .tc := ⟨.hbm, 167, rfl⟩
abbrev main_v54 : Ref sig .tc := ⟨.hbm, 168, rfl⟩
abbrev main_v55 : Ref sig .tc := ⟨.hbm, 169, rfl⟩
abbrev main_c_26 : Ref sig .tc := ⟨.hbm, 170, rfl⟩
abbrev main_call27_v0 : Ref sig .tc := ⟨.hbm, 171, rfl⟩
abbrev main_v56 : Ref sig .tc := ⟨.hbm, 172, rfl⟩
abbrev main_v57 : Ref sig .tc := ⟨.hbm, 173, rfl⟩
abbrev main_c_27 : Ref sig .tc := ⟨.hbm, 174, rfl⟩
abbrev main_call28_v0 : Ref sig .tc := ⟨.hbm, 175, rfl⟩
abbrev main_v58 : Ref sig .tc := ⟨.hbm, 176, rfl⟩
abbrev main_c_28 : Ref sig .tc := ⟨.hbm, 177, rfl⟩
abbrev main_call29_v0 : Ref sig .tc := ⟨.hbm, 178, rfl⟩
abbrev main_v59 : Ref sig .tc := ⟨.hbm, 179, rfl⟩
abbrev main_v60 : Ref sig .tc := ⟨.hbm, 180, rfl⟩
abbrev main_v61 : Ref sig .tc := ⟨.hbm, 181, rfl⟩
abbrev main_v62 : Ref sig .tc := ⟨.hbm, 182, rfl⟩
abbrev main_c_29 : Ref sig .tc := ⟨.hbm, 183, rfl⟩
abbrev main_call30_v0 : Ref sig .tc := ⟨.hbm, 184, rfl⟩
abbrev main_v63 : Ref sig .tc := ⟨.hbm, 185, rfl⟩
abbrev main_v64 : Ref sig .tc := ⟨.hbm, 186, rfl⟩
abbrev main_c_30 : Ref sig .tc := ⟨.hbm, 187, rfl⟩
abbrev main_call31_v0 : Ref sig .tc := ⟨.hbm, 188, rfl⟩
abbrev main_v65 : Ref sig .tc := ⟨.hbm, 189, rfl⟩
abbrev main_v66 : Ref sig .tc := ⟨.hbm, 190, rfl⟩
abbrev main_c_31 : Ref sig .tc := ⟨.hbm, 191, rfl⟩
abbrev main_call32_v0 : Ref sig .tc := ⟨.hbm, 192, rfl⟩
abbrev main_v67 : Ref sig .tc := ⟨.hbm, 193, rfl⟩
abbrev main_v68 : Ref sig .tc := ⟨.hbm, 194, rfl⟩
abbrev main_c_32 : Ref sig .tc := ⟨.hbm, 195, rfl⟩
abbrev main_call33_v0 : Ref sig .tc := ⟨.hbm, 196, rfl⟩
abbrev main_v69 : Ref sig .tc := ⟨.hbm, 197, rfl⟩
abbrev main_v70 : Ref sig .tc := ⟨.hbm, 198, rfl⟩
abbrev main_c_33 : Ref sig .tc := ⟨.hbm, 199, rfl⟩
abbrev main_call34_v0 : Ref sig .tc := ⟨.hbm, 200, rfl⟩
abbrev main_v71 : Ref sig .tc := ⟨.hbm, 201, rfl⟩
abbrev main_v72 : Ref sig .tc := ⟨.hbm, 202, rfl⟩
abbrev main_c_34 : Ref sig .tc := ⟨.hbm, 203, rfl⟩
abbrev main_call35_v0 : Ref sig .tc := ⟨.hbm, 204, rfl⟩
abbrev main_v73 : Ref sig .tc := ⟨.hbm, 205, rfl⟩
abbrev main_v74 : Ref sig .tc := ⟨.hbm, 206, rfl⟩
abbrev main_c_35 : Ref sig .tc := ⟨.hbm, 207, rfl⟩
abbrev main_call36_v0 : Ref sig .tc := ⟨.hbm, 208, rfl⟩
abbrev main_v75 : Ref sig .tc := ⟨.hbm, 209, rfl⟩
abbrev main_v76 : Ref sig .tc := ⟨.hbm, 210, rfl⟩
abbrev main_c_36 : Ref sig .tc := ⟨.hbm, 211, rfl⟩
abbrev main_call37_v0 : Ref sig .tc := ⟨.hbm, 212, rfl⟩
abbrev main_v77 : Ref sig .tc := ⟨.hbm, 213, rfl⟩
abbrev main_v78 : Ref sig .tc := ⟨.hbm, 214, rfl⟩
abbrev main_c_37 : Ref sig .tc := ⟨.hbm, 215, rfl⟩
abbrev main_call38_v0 : Ref sig .tc := ⟨.hbm, 216, rfl⟩
abbrev main_v79 : Ref sig .tc := ⟨.hbm, 217, rfl⟩
abbrev main_v80 : Ref sig .tc := ⟨.hbm, 218, rfl⟩
abbrev main_c_38 : Ref sig .tc := ⟨.hbm, 219, rfl⟩
abbrev main_call39_v0 : Ref sig .tc := ⟨.hbm, 220, rfl⟩
abbrev main_v81 : Ref sig .tc := ⟨.hbm, 221, rfl⟩
abbrev main_v82 : Ref sig .tc := ⟨.hbm, 222, rfl⟩
abbrev main_c_39 : Ref sig .tc := ⟨.hbm, 223, rfl⟩
abbrev main_call40_v0 : Ref sig .tc := ⟨.hbm, 224, rfl⟩
abbrev main_v83 : Ref sig .tc := ⟨.hbm, 225, rfl⟩
abbrev main_v84 : Ref sig .tc := ⟨.hbm, 226, rfl⟩
abbrev main_c_40 : Ref sig .tc := ⟨.hbm, 227, rfl⟩
abbrev main_call41_v0 : Ref sig .tc := ⟨.hbm, 228, rfl⟩
abbrev main_v85 : Ref sig .tc := ⟨.hbm, 229, rfl⟩
abbrev main_v86 : Ref sig .tc := ⟨.hbm, 230, rfl⟩
abbrev main_c_41 : Ref sig .tc := ⟨.hbm, 231, rfl⟩
abbrev main_call42_v0 : Ref sig .tc := ⟨.hbm, 232, rfl⟩
abbrev main_v87 : Ref sig .tc := ⟨.hbm, 233, rfl⟩
abbrev main_v88 : Ref sig .tc := ⟨.hbm, 234, rfl⟩
abbrev main_c_42 : Ref sig .tc := ⟨.hbm, 235, rfl⟩
abbrev main_call43_v0 : Ref sig .tc := ⟨.hbm, 236, rfl⟩
abbrev main_v89 : Ref sig .tc := ⟨.hbm, 237, rfl⟩
abbrev main_c_43 : Ref sig .tc := ⟨.hbm, 238, rfl⟩
abbrev main_call44_v0 : Ref sig .tc := ⟨.hbm, 239, rfl⟩
abbrev main_v90 : Ref sig .tc := ⟨.hbm, 240, rfl⟩
abbrev main_v91 : Ref sig .tc := ⟨.hbm, 241, rfl⟩
abbrev main_v92 : Ref sig .tc := ⟨.hbm, 242, rfl⟩
abbrev main_v93 : Ref sig .tc := ⟨.hbm, 243, rfl⟩
abbrev main_c_44 : Ref sig .tc := ⟨.hbm, 244, rfl⟩
abbrev main_call45_v0 : Ref sig .tc := ⟨.hbm, 245, rfl⟩
abbrev main_v94 : Ref sig .tc := ⟨.hbm, 246, rfl⟩
abbrev main_v95 : Ref sig .tc := ⟨.hbm, 247, rfl⟩
abbrev main_c_45 : Ref sig .tc := ⟨.hbm, 248, rfl⟩
abbrev main_call46_v0 : Ref sig .tc := ⟨.hbm, 249, rfl⟩
abbrev main_v96 : Ref sig .tc := ⟨.hbm, 250, rfl⟩
abbrev main_v97 : Ref sig .tc := ⟨.hbm, 251, rfl⟩
abbrev main_c_46 : Ref sig .tc := ⟨.hbm, 252, rfl⟩
abbrev main_call47_v0 : Ref sig .tc := ⟨.hbm, 253, rfl⟩
abbrev main_v98 : Ref sig .tc := ⟨.hbm, 254, rfl⟩
abbrev main_v99 : Ref sig .tc := ⟨.hbm, 255, rfl⟩
abbrev main_c_47 : Ref sig .tc := ⟨.hbm, 256, rfl⟩
abbrev main_call48_v0 : Ref sig .tc := ⟨.hbm, 257, rfl⟩
abbrev main_v100 : Ref sig .tc := ⟨.hbm, 258, rfl⟩
abbrev main_v101 : Ref sig .tc := ⟨.hbm, 259, rfl⟩
abbrev main_c_48 : Ref sig .tc := ⟨.hbm, 260, rfl⟩
abbrev main_call49_v0 : Ref sig .tc := ⟨.hbm, 261, rfl⟩
abbrev main_v102 : Ref sig .tc := ⟨.hbm, 262, rfl⟩
abbrev main_v103 : Ref sig .tc := ⟨.hbm, 263, rfl⟩
abbrev main_c_49 : Ref sig .tc := ⟨.hbm, 264, rfl⟩
abbrev main_call50_v0 : Ref sig .tc := ⟨.hbm, 265, rfl⟩
abbrev main_v104 : Ref sig .tc := ⟨.hbm, 266, rfl⟩
abbrev main_v105 : Ref sig .tc := ⟨.hbm, 267, rfl⟩
abbrev main_c_50 : Ref sig .tc := ⟨.hbm, 268, rfl⟩
abbrev main_call51_v0 : Ref sig .tc := ⟨.hbm, 269, rfl⟩
abbrev main_v106 : Ref sig .tc := ⟨.hbm, 270, rfl⟩
abbrev main_v107 : Ref sig .tc := ⟨.hbm, 271, rfl⟩
abbrev main_c_51 : Ref sig .tc := ⟨.hbm, 272, rfl⟩
abbrev main_call52_v0 : Ref sig .tc := ⟨.hbm, 273, rfl⟩
abbrev main_v108 : Ref sig .tc := ⟨.hbm, 274, rfl⟩
abbrev main_v109 : Ref sig .tc := ⟨.hbm, 275, rfl⟩
abbrev main_c_52 : Ref sig .tc := ⟨.hbm, 276, rfl⟩
abbrev main_call53_v0 : Ref sig .tc := ⟨.hbm, 277, rfl⟩
abbrev main_v110 : Ref sig .tc := ⟨.hbm, 278, rfl⟩
abbrev main_v111 : Ref sig .tc := ⟨.hbm, 279, rfl⟩
abbrev main_c_53 : Ref sig .tc := ⟨.hbm, 280, rfl⟩
abbrev main_call54_v0 : Ref sig .tc := ⟨.hbm, 281, rfl⟩
abbrev main_v112 : Ref sig .tc := ⟨.hbm, 282, rfl⟩
abbrev main_v113 : Ref sig .tc := ⟨.hbm, 283, rfl⟩
abbrev main_c_54 : Ref sig .tc := ⟨.hbm, 284, rfl⟩
abbrev main_call55_v0 : Ref sig .tc := ⟨.hbm, 285, rfl⟩
abbrev main_v114 : Ref sig .tc := ⟨.hbm, 286, rfl⟩
abbrev main_v115 : Ref sig .tc := ⟨.hbm, 287, rfl⟩
abbrev main_c_55 : Ref sig .tc := ⟨.hbm, 288, rfl⟩
abbrev main_call56_v0 : Ref sig .tc := ⟨.hbm, 289, rfl⟩
abbrev main_v116 : Ref sig .tc := ⟨.hbm, 290, rfl⟩
abbrev main_v117 : Ref sig .tc := ⟨.hbm, 291, rfl⟩
abbrev main_c_56 : Ref sig .tc := ⟨.hbm, 292, rfl⟩
abbrev main_call57_v0 : Ref sig .tc := ⟨.hbm, 293, rfl⟩
abbrev main_v118 : Ref sig .tc := ⟨.hbm, 294, rfl⟩
abbrev main_v119 : Ref sig .tc := ⟨.hbm, 295, rfl⟩
abbrev main_c_57 : Ref sig .tc := ⟨.hbm, 296, rfl⟩
abbrev main_call58_v0 : Ref sig .tc := ⟨.hbm, 297, rfl⟩
abbrev main_v120 : Ref sig .tc := ⟨.hbm, 298, rfl⟩
abbrev main_c_58 : Ref sig .tc := ⟨.hbm, 299, rfl⟩
abbrev main_call59_v0 : Ref sig .tc := ⟨.hbm, 300, rfl⟩
abbrev main_v121 : Ref sig .tc := ⟨.hbm, 301, rfl⟩
abbrev main_v122 : Ref sig .tc := ⟨.hbm, 302, rfl⟩
abbrev main_v123 : Ref sig .tc := ⟨.hbm, 303, rfl⟩
abbrev main_v124_0 : Ref sig .tc := ⟨.hbm, 304, rfl⟩
abbrev main_v124_1 : Ref sig .tc := ⟨.hbm, 305, rfl⟩
abbrev main_v124_2 : Ref sig .tc := ⟨.hbm, 306, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S416x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S416x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S416x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S416x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S416x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S416x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S416x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S16x512 : Shape := ⟨2, ![16, 512]⟩
abbrev S1x2048 : Shape := ⟨2, ![1, 2048]⟩
abbrev S1x4x1536 : Shape := ⟨3, ![1, 4, 1536]⟩
abbrev S1x16 : Shape := ⟨2, ![1, 16]⟩
abbrev S1x128 : Shape := ⟨2, ![1, 128]⟩
abbrev S1x4x768 : Shape := ⟨3, ![1, 4, 768]⟩
abbrev S1x3072 : Shape := ⟨2, ![1, 3072]⟩
abbrev S1x32 : Shape := ⟨2, ![1, 32]⟩
abbrev S1x3x2816 : Shape := ⟨3, ![1, 3, 2816]⟩
abbrev S2048 : Shape := ⟨1, ![2048]⟩
abbrev S_ : Shape := ⟨0, ![]⟩
abbrev S8192 : Shape := ⟨1, ![8192]⟩
abbrev S6144 : Shape := ⟨1, ![6144]⟩
abbrev S16 : Shape := ⟨1, ![16]⟩
abbrev S128 : Shape := ⟨1, ![128]⟩
abbrev S3072 : Shape := ⟨1, ![3072]⟩
abbrev S4096 : Shape := ⟨1, ![4096]⟩
abbrev S32 : Shape := ⟨1, ![32]⟩
abbrev S8448 : Shape := ⟨1, ![8448]⟩
abbrev S10240 : Shape := ⟨1, ![10240]⟩
abbrev S53248 : Shape := ⟨1, ![53248]⟩
abbrev S416x128 : Shape := ⟨2, ![416, 128]⟩

abbrev nBuf : Space → Nat
  | .hbm => 738
  | .vmem => 0
  | .smem => 0
  | _ => 0

abbrev hbmTy0_0 (i : Nat) : BufTy := match i % 128 with
  | 0 => ⟨S16x512, .f32⟩
  | 1 => ⟨S1x2048, .f32⟩
  | 2 => ⟨S1x4x1536, .f32⟩
  | 3 => ⟨S1x16, .f32⟩
  | 4 => ⟨S1x16, .f32⟩
  | 5 => ⟨S1x128, .f32⟩
  | 6 => ⟨S1x4x768, .f32⟩
  | 7 => ⟨S1x3072, .f32⟩
  | 8 => ⟨S1x32, .f32⟩
  | 9 => ⟨S1x32, .f32⟩
  | 10 => ⟨S1x32, .f32⟩
  | 11 => ⟨S1x2048, .f32⟩
  | 12 => ⟨S1x2048, .f32⟩
  | 13 => ⟨S1x3x2816, .f32⟩
  | 14 => ⟨S2048, .f32⟩
  | 15 => ⟨S16x512, .f32⟩
  | 16 => ⟨S1x2048, .f32⟩
  | 17 => ⟨S1x4x1536, .f32⟩
  | 18 => ⟨S1x16, .f32⟩
  | 19 => ⟨S1x16, .f32⟩
  | 20 => ⟨S1x128, .f32⟩
  | 21 => ⟨S1x4x768, .f32⟩
  | 22 => ⟨S1x3072, .f32⟩
  | 23 => ⟨S1x32, .f32⟩
  | 24 => ⟨S1x32, .f32⟩
  | 25 => ⟨S1x32, .f32⟩
  | 26 => ⟨S1x2048, .f32⟩
  | 27 => ⟨S1x2048, .f32⟩
  | 28 => ⟨S1x3x2816, .f32⟩
  | 29 => ⟨S2048, .f32⟩
  | 30 => ⟨S16x512, .f32⟩
  | 31 => ⟨S1x2048, .f32⟩
  | 32 => ⟨S1x4x1536, .f32⟩
  | 33 => ⟨S1x16, .f32⟩
  | 34 => ⟨S1x16, .f32⟩
  | 35 => ⟨S1x128, .f32⟩
  | 36 => ⟨S1x4x768, .f32⟩
  | 37 => ⟨S1x3072, .f32⟩
  | 38 => ⟨S1x32, .f32⟩
  | 39 => ⟨S1x32, .f32⟩
  | 40 => ⟨S1x32, .f32⟩
  | 41 => ⟨S1x2048, .f32⟩
  | 42 => ⟨S1x2048, .f32⟩
  | 43 => ⟨S1x3x2816, .f32⟩
  | 44 => ⟨S2048, .f32⟩
  | 45 => ⟨S16x512, .f32⟩
  | 46 => ⟨S1x2048, .f32⟩
  | 47 => ⟨S1x4x1536, .f32⟩
  | 48 => ⟨S1x16, .f32⟩
  | 49 => ⟨S1x16, .f32⟩
  | 50 => ⟨S1x128, .f32⟩
  | 51 => ⟨S1x4x768, .f32⟩
  | 52 => ⟨S1x3072, .f32⟩
  | 53 => ⟨S1x32, .f32⟩
  | 54 => ⟨S1x32, .f32⟩
  | 55 => ⟨S1x32, .f32⟩
  | 56 => ⟨S1x2048, .f32⟩
  | 57 => ⟨S1x2048, .f32⟩
  | 58 => ⟨S1x3x2816, .f32⟩
  | 59 => ⟨S2048, .f32⟩
  | 60 => ⟨S_, .f32⟩
  | 61 => ⟨S16x512, .f32⟩
  | 62 => ⟨S16x512, .f32⟩
  | 63 => ⟨S_, .f32⟩
  | 64 => ⟨S16x512, .f32⟩
  | 65 => ⟨S16x512, .f32⟩
  | 66 => ⟨S16x512, .f32⟩
  | 67 => ⟨S_, .f32⟩
  | 68 => ⟨S16x512, .f32⟩
  | 69 => ⟨S16x512, .f32⟩
  | 70 => ⟨S16x512, .f32⟩
  | 71 => ⟨S_, .f32⟩
  | 72 => ⟨S16x512, .f32⟩
  | 73 => ⟨S16x512, .f32⟩
  | 74 => ⟨S16x512, .f32⟩
  | 75 => ⟨S_, .f32⟩
  | 76 => ⟨S16x512, .f32⟩
  | 77 => ⟨S16x512, .f32⟩
  | 78 => ⟨S_, .f32⟩
  | 79 => ⟨S16x512, .f32⟩
  | 80 => ⟨S16x512, .f32⟩
  | 81 => ⟨S16x512, .f32⟩
  | 82 => ⟨S_, .f32⟩
  | 83 => ⟨S16x512, .f32⟩
  | 84 => ⟨S16x512, .f32⟩
  | 85 => ⟨S16x512, .f32⟩
  | 86 => ⟨S_, .f32⟩
  | 87 => ⟨S16x512, .f32⟩
  | 88 => ⟨S16x512, .f32⟩
  | 89 => ⟨S16x512, .f32⟩
  | 90 => ⟨S_, .f32⟩
  | 91 => ⟨S16x512, .f32⟩
  | 92 => ⟨S16x512, .f32⟩
  | 93 => ⟨S_, .f32⟩
  | 94 => ⟨S1x2048, .f32⟩
  | 95 => ⟨S1x2048, .f32⟩
  | 96 => ⟨S_, .f32⟩
  | 97 => ⟨S1x2048, .f32⟩
  | 98 => ⟨S1x2048, .f32⟩
  | 99 => ⟨S1x2048, .f32⟩
  | 100 => ⟨S_, .f32⟩
  | 101 => ⟨S1x2048, .f32⟩
  | 102 => ⟨S1x2048, .f32⟩
  | 103 => ⟨S1x2048, .f32⟩
  | 104 => ⟨S_, .f32⟩
  | 105 => ⟨S1x2048, .f32⟩
  | 106 => ⟨S1x2048, .f32⟩
  | 107 => ⟨S1x2048, .f32⟩
  | 108 => ⟨S_, .f32⟩
  | 109 => ⟨S1x2048, .f32⟩
  | 110 => ⟨S1x2048, .f32⟩
  | 111 => ⟨S_, .f32⟩
  | 112 => ⟨S1x2048, .f32⟩
  | 113 => ⟨S1x2048, .f32⟩
  | 114 => ⟨S1x2048, .f32⟩
  | 115 => ⟨S_, .f32⟩
  | 116 => ⟨S1x2048, .f32⟩
  | 117 => ⟨S1x2048, .f32⟩
  | 118 => ⟨S1x2048, .f32⟩
  | 119 => ⟨S_, .f32⟩
  | 120 => ⟨S1x2048, .f32⟩
  | 121 => ⟨S1x2048, .f32⟩
  | 122 => ⟨S1x2048, .f32⟩
  | 123 => ⟨S_, .f32⟩
  | 124 => ⟨S1x2048, .f32⟩
  | 125 => ⟨S1x2048, .f32⟩
  | 126 => ⟨S_, .f32⟩
  | 127 => ⟨S1x4x1536, .f32⟩
  | _ => ⟨S16x512, .f32⟩

abbrev hbmTy0_1 (i : Nat) : BufTy := match i % 128 with
  | 0 => ⟨S1x4x1536, .f32⟩
  | 1 => ⟨S_, .f32⟩
  | 2 => ⟨S1x4x1536, .f32⟩
  | 3 => ⟨S1x4x1536, .f32⟩
  | 4 => ⟨S1x4x1536, .f32⟩
  | 5 => ⟨S_, .f32⟩
  | 6 => ⟨S1x4x1536, .f32⟩
  | 7 => ⟨S1x4x1536, .f32⟩
  | 8 => ⟨S1x4x1536, .f32⟩
  | 9 => ⟨S_, .f32⟩
  | 10 => ⟨S1x4x1536, .f32⟩
  | 11 => ⟨S1x4x1536, .f32⟩
  | 12 => ⟨S1x4x1536, .f32⟩
  | 13 => ⟨S_, .f32⟩
  | 14 => ⟨S1x4x1536, .f32⟩
  | 15 => ⟨S1x4x1536, .f32⟩
  | 16 => ⟨S_, .f32⟩
  | 17 => ⟨S1x4x1536, .f32⟩
  | 18 => ⟨S1x4x1536, .f32⟩
  | 19 => ⟨S1x4x1536, .f32⟩
  | 20 => ⟨S_, .f32⟩
  | 21 => ⟨S1x4x1536, .f32⟩
  | 22 => ⟨S1x4x1536, .f32⟩
  | 23 => ⟨S1x4x1536, .f32⟩
  | 24 => ⟨S_, .f32⟩
  | 25 => ⟨S1x4x1536, .f32⟩
  | 26 => ⟨S1x4x1536, .f32⟩
  | 27 => ⟨S1x4x1536, .f32⟩
  | 28 => ⟨S_, .f32⟩
  | 29 => ⟨S1x4x1536, .f32⟩
  | 30 => ⟨S1x4x1536, .f32⟩
  | 31 => ⟨S_, .f32⟩
  | 32 => ⟨S1x16, .f32⟩
  | 33 => ⟨S1x16, .f32⟩
  | 34 => ⟨S_, .f32⟩
  | 35 => ⟨S1x16, .f32⟩
  | 36 => ⟨S1x16, .f32⟩
  | 37 => ⟨S1x16, .f32⟩
  | 38 => ⟨S_, .f32⟩
  | 39 => ⟨S1x16, .f32⟩
  | 40 => ⟨S1x16, .f32⟩
  | 41 => ⟨S1x16, .f32⟩
  | 42 => ⟨S_, .f32⟩
  | 43 => ⟨S1x16, .f32⟩
  | 44 => ⟨S1x16, .f32⟩
  | 45 => ⟨S1x16, .f32⟩
  | 46 => ⟨S_, .f32⟩
  | 47 => ⟨S1x16, .f32⟩
  | 48 => ⟨S1x16, .f32⟩
  | 49 => ⟨S_, .f32⟩
  | 50 => ⟨S1x16, .f32⟩
  | 51 => ⟨S1x16, .f32⟩
  | 52 => ⟨S1x16, .f32⟩
  | 53 => ⟨S_, .f32⟩
  | 54 => ⟨S1x16, .f32⟩
  | 55 => ⟨S1x16, .f32⟩
  | 56 => ⟨S1x16, .f32⟩
  | 57 => ⟨S_, .f32⟩
  | 58 => ⟨S1x16, .f32⟩
  | 59 => ⟨S1x16, .f32⟩
  | 60 => ⟨S1x16, .f32⟩
  | 61 => ⟨S_, .f32⟩
  | 62 => ⟨S1x16, .f32⟩
  | 63 => ⟨S1x16, .f32⟩
  | 64 => ⟨S_, .f32⟩
  | 65 => ⟨S1x16, .f32⟩
  | 66 => ⟨S1x16, .f32⟩
  | 67 => ⟨S_, .f32⟩
  | 68 => ⟨S1x16, .f32⟩
  | 69 => ⟨S1x16, .f32⟩
  | 70 => ⟨S1x16, .f32⟩
  | 71 => ⟨S_, .f32⟩
  | 72 => ⟨S1x16, .f32⟩
  | 73 => ⟨S1x16, .f32⟩
  | 74 => ⟨S1x16, .f32⟩
  | 75 => ⟨S_, .f32⟩
  | 76 => ⟨S1x16, .f32⟩
  | 77 => ⟨S1x16, .f32⟩
  | 78 => ⟨S1x16, .f32⟩
  | 79 => ⟨S_, .f32⟩
  | 80 => ⟨S1x16, .f32⟩
  | 81 => ⟨S1x16, .f32⟩
  | 82 => ⟨S_, .f32⟩
  | 83 => ⟨S1x16, .f32⟩
  | 84 => ⟨S1x16, .f32⟩
  | 85 => ⟨S1x16, .f32⟩
  | 86 => ⟨S_, .f32⟩
  | 87 => ⟨S1x16, .f32⟩
  | 88 => ⟨S1x16, .f32⟩
  | 89 => ⟨S1x16, .f32⟩
  | 90 => ⟨S_, .f32⟩
  | 91 => ⟨S1x16, .f32⟩
  | 92 => ⟨S1x16, .f32⟩
  | 93 => ⟨S1x16, .f32⟩
  | 94 => ⟨S_, .f32⟩
  | 95 => ⟨S1x16, .f32⟩
  | 96 => ⟨S1x16, .f32⟩
  | 97 => ⟨S_, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S_, .f32⟩
  | 105 => ⟨S1x128, .f32⟩
  | 106 => ⟨S1x128, .f32⟩
  | 107 => ⟨S1x128, .f32⟩
  | 108 => ⟨S_, .f32⟩
  | 109 => ⟨S1x128, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S1x128, .f32⟩
  | 127 => ⟨S_, .f32⟩
  | _ => ⟨S16x512, .f32⟩

abbrev hbmTy0_2 (i : Nat) : BufTy := match i % 128 with
  | 0 => ⟨S1x128, .f32⟩
  | 1 => ⟨S1x128, .f32⟩
  | 2 => ⟨S_, .f32⟩
  | 3 => ⟨S1x4x768, .f32⟩
  | 4 => ⟨S1x4x768, .f32⟩
  | 5 => ⟨S_, .f32⟩
  | 6 => ⟨S1x4x768, .f32⟩
  | 7 => ⟨S1x4x768, .f32⟩
  | 8 => ⟨S1x4x768, .f32⟩
  | 9 => ⟨S_, .f32⟩
  | 10 => ⟨S1x4x768, .f32⟩
  | 11 => ⟨S1x4x768, .f32⟩
  | 12 => ⟨S1x4x768, .f32⟩
  | 13 => ⟨S_, .f32⟩
  | 14 => ⟨S1x4x768, .f32⟩
  | 15 => ⟨S1x4x768, .f32⟩
  | 16 => ⟨S1x4x768, .f32⟩
  | 17 => ⟨S_, .f32⟩
  | 18 => ⟨S1x4x768, .f32⟩
  | 19 => ⟨S1x4x768, .f32⟩
  | 20 => ⟨S_, .f32⟩
  | 21 => ⟨S1x4x768, .f32⟩
  | 22 => ⟨S1x4x768, .f32⟩
  | 23 => ⟨S1x4x768, .f32⟩
  | 24 => ⟨S_, .f32⟩
  | 25 => ⟨S1x4x768, .f32⟩
  | 26 => ⟨S1x4x768, .f32⟩
  | 27 => ⟨S1x4x768, .f32⟩
  | 28 => ⟨S_, .f32⟩
  | 29 => ⟨S1x4x768, .f32⟩
  | 30 => ⟨S1x4x768, .f32⟩
  | 31 => ⟨S1x4x768, .f32⟩
  | 32 => ⟨S_, .f32⟩
  | 33 => ⟨S1x4x768, .f32⟩
  | 34 => ⟨S1x4x768, .f32⟩
  | 35 => ⟨S_, .f32⟩
  | 36 => ⟨S1x3072, .f32⟩
  | 37 => ⟨S1x3072, .f32⟩
  | 38 => ⟨S_, .f32⟩
  | 39 => ⟨S1x3072, .f32⟩
  | 40 => ⟨S1x3072, .f32⟩
  | 41 => ⟨S1x3072, .f32⟩
  | 42 => ⟨S_, .f32⟩
  | 43 => ⟨S1x3072, .f32⟩
  | 44 => ⟨S1x3072, .f32⟩
  | 45 => ⟨S1x3072, .f32⟩
  | 46 => ⟨S_, .f32⟩
  | 47 => ⟨S1x3072, .f32⟩
  | 48 => ⟨S1x3072, .f32⟩
  | 49 => ⟨S1x3072, .f32⟩
  | 50 => ⟨S_, .f32⟩
  | 51 => ⟨S1x3072, .f32⟩
  | 52 => ⟨S1x3072, .f32⟩
  | 53 => ⟨S_, .f32⟩
  | 54 => ⟨S1x3072, .f32⟩
  | 55 => ⟨S1x3072, .f32⟩
  | 56 => ⟨S1x3072, .f32⟩
  | 57 => ⟨S_, .f32⟩
  | 58 => ⟨S1x3072, .f32⟩
  | 59 => ⟨S1x3072, .f32⟩
  | 60 => ⟨S1x3072, .f32⟩
  | 61 => ⟨S_, .f32⟩
  | 62 => ⟨S1x3072, .f32⟩
  | 63 => ⟨S1x3072, .f32⟩
  | 64 => ⟨S1x3072, .f32⟩
  | 65 => ⟨S_, .f32⟩
  | 66 => ⟨S1x3072, .f32⟩
  | 67 => ⟨S1x3072, .f32⟩
  | 68 => ⟨S_, .f32⟩
  | 69 => ⟨S1x32, .f32⟩
  | 70 => ⟨S1x32, .f32⟩
  | 71 => ⟨S_, .f32⟩
  | 72 => ⟨S1x32, .f32⟩
  | 73 => ⟨S1x32, .f32⟩
  | 74 => ⟨S1x32, .f32⟩
  | 75 => ⟨S_, .f32⟩
  | 76 => ⟨S1x32, .f32⟩
  | 77 => ⟨S1x32, .f32⟩
  | 78 => ⟨S1x32, .f32⟩
  | 79 => ⟨S_, .f32⟩
  | 80 => ⟨S1x32, .f32⟩
  | 81 => ⟨S1x32, .f32⟩
  | 82 => ⟨S1x32, .f32⟩
  | 83 => ⟨S_, .f32⟩
  | 84 => ⟨S1x32, .f32⟩
  | 85 => ⟨S1x32, .f32⟩
  | 86 => ⟨S_, .f32⟩
  | 87 => ⟨S1x32, .f32⟩
  | 88 => ⟨S1x32, .f32⟩
  | 89 => ⟨S1x32, .f32⟩
  | 90 => ⟨S_, .f32⟩
  | 91 => ⟨S1x32, .f32⟩
  | 92 => ⟨S1x32, .f32⟩
  | 93 => ⟨S1x32, .f32⟩
  | 94 => ⟨S_, .f32⟩
  | 95 => ⟨S1x32, .f32⟩
  | 96 => ⟨S1x32, .f32⟩
  | 97 => ⟨S1x32, .f32⟩
  | 98 => ⟨S_, .f32⟩
  | 99 => ⟨S1x32, .f32⟩
  | 100 => ⟨S1x32, .f32⟩
  | 101 => ⟨S_, .f32⟩
  | 102 => ⟨S1x32, .f32⟩
  | 103 => ⟨S1x32, .f32⟩
  | 104 => ⟨S_, .f32⟩
  | 105 => ⟨S1x32, .f32⟩
  | 106 => ⟨S1x32, .f32⟩
  | 107 => ⟨S1x32, .f32⟩
  | 108 => ⟨S_, .f32⟩
  | 109 => ⟨S1x32, .f32⟩
  | 110 => ⟨S1x32, .f32⟩
  | 111 => ⟨S1x32, .f32⟩
  | 112 => ⟨S_, .f32⟩
  | 113 => ⟨S1x32, .f32⟩
  | 114 => ⟨S1x32, .f32⟩
  | 115 => ⟨S1x32, .f32⟩
  | 116 => ⟨S_, .f32⟩
  | 117 => ⟨S1x32, .f32⟩
  | 118 => ⟨S1x32, .f32⟩
  | 119 => ⟨S_, .f32⟩
  | 120 => ⟨S1x32, .f32⟩
  | 121 => ⟨S1x32, .f32⟩
  | 122 => ⟨S1x32, .f32⟩
  | 123 => ⟨S_, .f32⟩
  | 124 => ⟨S1x32, .f32⟩
  | 125 => ⟨S1x32, .f32⟩
  | 126 => ⟨S1x32, .f32⟩
  | 127 => ⟨S_, .f32⟩
  | _ => ⟨S16x512, .f32⟩

abbrev hbmTy0_3 (i : Nat) : BufTy := match i % 128 with
  | 0 => ⟨S1x32, .f32⟩
  | 1 => ⟨S1x32, .f32⟩
  | 2 => ⟨S1x32, .f32⟩
  | 3 => ⟨S_, .f32⟩
  | 4 => ⟨S1x32, .f32⟩
  | 5 => ⟨S1x32, .f32⟩
  | 6 => ⟨S_, .f32⟩
  | 7 => ⟨S1x32, .f32⟩
  | 8 => ⟨S1x32, .f32⟩
  | 9 => ⟨S_, .f32⟩
  | 10 => ⟨S1x32, .f32⟩
  | 11 => ⟨S1x32, .f32⟩
  | 12 => ⟨S1x32, .f32⟩
  | 13 => ⟨S_, .f32⟩
  | 14 => ⟨S1x32, .f32⟩
  | 15 => ⟨S1x32, .f32⟩
  | 16 => ⟨S1x32, .f32⟩
  | 17 => ⟨S_, .f32⟩
  | 18 => ⟨S1x32, .f32⟩
  | 19 => ⟨S1x32, .f32⟩
  | 20 => ⟨S1x32, .f32⟩
  | 21 => ⟨S_, .f32⟩
  | 22 => ⟨S1x32, .f32⟩
  | 23 => ⟨S1x32, .f32⟩
  | 24 => ⟨S_, .f32⟩
  | 25 => ⟨S1x32, .f32⟩
  | 26 => ⟨S1x32, .f32⟩
  | 27 => ⟨S1x32, .f32⟩
  | 28 => ⟨S_, .f32⟩
  | 29 => ⟨S1x32, .f32⟩
  | 30 => ⟨S1x32, .f32⟩
  | 31 => ⟨S1x32, .f32⟩
  | 32 => ⟨S_, .f32⟩
  | 33 => ⟨S1x32, .f32⟩
  | 34 => ⟨S1x32, .f32⟩
  | 35 => ⟨S1x32, .f32⟩
  | 36 => ⟨S_, .f32⟩
  | 37 => ⟨S1x32, .f32⟩
  | 38 => ⟨S1x32, .f32⟩
  | 39 => ⟨S_, .f32⟩
  | 40 => ⟨S1x2048, .f32⟩
  | 41 => ⟨S1x2048, .f32⟩
  | 42 => ⟨S_, .f32⟩
  | 43 => ⟨S1x2048, .f32⟩
  | 44 => ⟨S1x2048, .f32⟩
  | 45 => ⟨S1x2048, .f32⟩
  | 46 => ⟨S_, .f32⟩
  | 47 => ⟨S1x2048, .f32⟩
  | 48 => ⟨S1x2048, .f32⟩
  | 49 => ⟨S1x2048, .f32⟩
  | 50 => ⟨S_, .f32⟩
  | 51 => ⟨S1x2048, .f32⟩
  | 52 => ⟨S1x2048, .f32⟩
  | 53 => ⟨S1x2048, .f32⟩
  | 54 => ⟨S_, .f32⟩
  | 55 => ⟨S1x2048, .f32⟩
  | 56 => ⟨S1x2048, .f32⟩
  | 57 => ⟨S_, .f32⟩
  | 58 => ⟨S1x2048, .f32⟩
  | 59 => ⟨S1x2048, .f32⟩
  | 60 => ⟨S1x2048, .f32⟩
  | 61 => ⟨S_, .f32⟩
  | 62 => ⟨S1x2048, .f32⟩
  | 63 => ⟨S1x2048, .f32⟩
  | 64 => ⟨S1x2048, .f32⟩
  | 65 => ⟨S_, .f32⟩
  | 66 => ⟨S1x2048, .f32⟩
  | 67 => ⟨S1x2048, .f32⟩
  | 68 => ⟨S1x2048, .f32⟩
  | 69 => ⟨S_, .f32⟩
  | 70 => ⟨S1x2048, .f32⟩
  | 71 => ⟨S1x2048, .f32⟩
  | 72 => ⟨S_, .f32⟩
  | 73 => ⟨S1x2048, .f32⟩
  | 74 => ⟨S1x2048, .f32⟩
  | 75 => ⟨S_, .f32⟩
  | 76 => ⟨S1x2048, .f32⟩
  | 77 => ⟨S1x2048, .f32⟩
  | 78 => ⟨S1x2048, .f32⟩
  | 79 => ⟨S_, .f32⟩
  | 80 => ⟨S1x2048, .f32⟩
  | 81 => ⟨S1x2048, .f32⟩
  | 82 => ⟨S1x2048, .f32⟩
  | 83 => ⟨S_, .f32⟩
  | 84 => ⟨S1x2048, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S_, .f32⟩
  | 91 => ⟨S1x2048, .f32⟩
  | 92 => ⟨S1x2048, .f32⟩
  | 93 => ⟨S1x2048, .f32⟩
  | 94 => ⟨S_, .f32⟩
  | 95 => ⟨S1x2048, .f32⟩
  | 96 => ⟨S1x2048, .f32⟩
  | 97 => ⟨S1x2048, .f32⟩
  | 98 => ⟨S_, .f32⟩
  | 99 => ⟨S1x2048, .f32⟩
  | 100 => ⟨S1x2048, .f32⟩
  | 101 => ⟨S1x2048, .f32⟩
  | 102 => ⟨S_, .f32⟩
  | 103 => ⟨S1x2048, .f32⟩
  | 104 => ⟨S1x2048, .f32⟩
  | 105 => ⟨S_, .f32⟩
  | 106 => ⟨S1x3x2816, .f32⟩
  | 107 => ⟨S1x3x2816, .f32⟩
  | 108 => ⟨S_, .f32⟩
  | 109 => ⟨S1x3x2816, .f32⟩
  | 110 => ⟨S1x3x2816, .f32⟩
  | 111 => ⟨S1x3x2816, .f32⟩
  | 112 => ⟨S_, .f32⟩
  | 113 => ⟨S1x3x2816, .f32⟩
  | 114 => ⟨S1x3x2816, .f32⟩
  | 115 => ⟨S1x3x2816, .f32⟩
  | 116 => ⟨S_, .f32⟩
  | 117 => ⟨S1x3x2816, .f32⟩
  | 118 => ⟨S1x3x2816, .f32⟩
  | 119 => ⟨S1x3x2816, .f32⟩
  | 120 => ⟨S_, .f32⟩
  | 121 => ⟨S1x3x2816, .f32⟩
  | 122 => ⟨S1x3x2816, .f32⟩
  | 123 => ⟨S_, .f32⟩
  | 124 => ⟨S1x3x2816, .f32⟩
  | 125 => ⟨S1x3x2816, .f32⟩
  | 126 => ⟨S1x3x2816, .f32⟩
  | 127 => ⟨S_, .f32⟩
  | _ => ⟨S16x512, .f32⟩

abbrev hbmTy0_4 (i : Nat) : BufTy := match i % 128 with
  | 0 => ⟨S1x3x2816, .f32⟩
  | 1 => ⟨S1x3x2816, .f32⟩
  | 2 => ⟨S1x3x2816, .f32⟩
  | 3 => ⟨S_, .f32⟩
  | 4 => ⟨S1x3x2816, .f32⟩
  | 5 => ⟨S1x3x2816, .f32⟩
  | 6 => ⟨S1x3x2816, .f32⟩
  | 7 => ⟨S_, .f32⟩
  | 8 => ⟨S1x3x2816, .f32⟩
  | 9 => ⟨S1x3x2816, .f32⟩
  | 10 => ⟨S_, .f32⟩
  | 11 => ⟨S2048, .f32⟩
  | 12 => ⟨S2048, .f32⟩
  | 13 => ⟨S_, .f32⟩
  | 14 => ⟨S2048, .f32⟩
  | 15 => ⟨S2048, .f32⟩
  | 16 => ⟨S2048, .f32⟩
  | 17 => ⟨S_, .f32⟩
  | 18 => ⟨S2048, .f32⟩
  | 19 => ⟨S2048, .f32⟩
  | 20 => ⟨S2048, .f32⟩
  | 21 => ⟨S_, .f32⟩
  | 22 => ⟨S2048, .f32⟩
  | 23 => ⟨S2048, .f32⟩
  | 24 => ⟨S2048, .f32⟩
  | 25 => ⟨S_, .f32⟩
  | 26 => ⟨S2048, .f32⟩
  | 27 => ⟨S2048, .f32⟩
  | 28 => ⟨S_, .f32⟩
  | 29 => ⟨S2048, .f32⟩
  | 30 => ⟨S2048, .f32⟩
  | 31 => ⟨S2048, .f32⟩
  | 32 => ⟨S_, .f32⟩
  | 33 => ⟨S2048, .f32⟩
  | 34 => ⟨S2048, .f32⟩
  | 35 => ⟨S2048, .f32⟩
  | 36 => ⟨S_, .f32⟩
  | 37 => ⟨S2048, .f32⟩
  | 38 => ⟨S2048, .f32⟩
  | 39 => ⟨S2048, .f32⟩
  | 40 => ⟨S_, .f32⟩
  | 41 => ⟨S2048, .f32⟩
  | 42 => ⟨S2048, .f32⟩
  | 43 => ⟨S8192, .f32⟩
  | 44 => ⟨S_, .i32⟩
  | 45 => ⟨S_, .f32⟩
  | 46 => ⟨S8192, .f32⟩
  | 47 => ⟨S2048, .f32⟩
  | 48 => ⟨S_, .i32⟩
  | 49 => ⟨S_, .f32⟩
  | 50 => ⟨S2048, .f32⟩
  | 51 => ⟨S6144, .f32⟩
  | 52 => ⟨S_, .i32⟩
  | 53 => ⟨S_, .f32⟩
  | 54 => ⟨S6144, .f32⟩
  | 55 => ⟨S16, .f32⟩
  | 56 => ⟨S_, .i32⟩
  | 57 => ⟨S_, .f32⟩
  | 58 => ⟨S2048, .f32⟩
  | 59 => ⟨S16, .f32⟩
  | 60 => ⟨S_, .i32⟩
  | 61 => ⟨S_, .f32⟩
  | 62 => ⟨S2048, .f32⟩
  | 63 => ⟨S128, .f32⟩
  | 64 => ⟨S_, .i32⟩
  | 65 => ⟨S_, .f32⟩
  | 66 => ⟨S2048, .f32⟩
  | 67 => ⟨S3072, .f32⟩
  | 68 => ⟨S_, .i32⟩
  | 69 => ⟨S_, .f32⟩
  | 70 => ⟨S4096, .f32⟩
  | 71 => ⟨S3072, .f32⟩
  | 72 => ⟨S_, .i32⟩
  | 73 => ⟨S_, .f32⟩
  | 74 => ⟨S4096, .f32⟩
  | 75 => ⟨S32, .f32⟩
  | 76 => ⟨S_, .i32⟩
  | 77 => ⟨S_, .f32⟩
  | 78 => ⟨S2048, .f32⟩
  | 79 => ⟨S32, .f32⟩
  | 80 => ⟨S_, .i32⟩
  | 81 => ⟨S_, .f32⟩
  | 82 => ⟨S2048, .f32⟩
  | 83 => ⟨S32, .f32⟩
  | 84 => ⟨S_, .i32⟩
  | 85 => ⟨S_, .f32⟩
  | 86 => ⟨S2048, .f32⟩
  | 87 => ⟨S2048, .f32⟩
  | 88 => ⟨S_, .i32⟩
  | 89 => ⟨S_, .f32⟩
  | 90 => ⟨S2048, .f32⟩
  | 91 => ⟨S2048, .f32⟩
  | 92 => ⟨S_, .i32⟩
  | 93 => ⟨S_, .f32⟩
  | 94 => ⟨S2048, .f32⟩
  | 95 => ⟨S8448, .f32⟩
  | 96 => ⟨S_, .i32⟩
  | 97 => ⟨S_, .f32⟩
  | 98 => ⟨S10240, .f32⟩
  | 99 => ⟨S_, .i32⟩
  | 100 => ⟨S_, .f32⟩
  | 101 => ⟨S2048, .f32⟩
  | 102 => ⟨S53248, .f32⟩
  | 103 => ⟨S416x128, .f32⟩
  | 104 => ⟨S8192, .f32⟩
  | 105 => ⟨S_, .i32⟩
  | 106 => ⟨S_, .f32⟩
  | 107 => ⟨S8192, .f32⟩
  | 108 => ⟨S2048, .f32⟩
  | 109 => ⟨S_, .i32⟩
  | 110 => ⟨S_, .f32⟩
  | 111 => ⟨S2048, .f32⟩
  | 112 => ⟨S6144, .f32⟩
  | 113 => ⟨S_, .i32⟩
  | 114 => ⟨S_, .f32⟩
  | 115 => ⟨S6144, .f32⟩
  | 116 => ⟨S16, .f32⟩
  | 117 => ⟨S_, .i32⟩
  | 118 => ⟨S_, .f32⟩
  | 119 => ⟨S2048, .f32⟩
  | 120 => ⟨S16, .f32⟩
  | 121 => ⟨S_, .i32⟩
  | 122 => ⟨S_, .f32⟩
  | 123 => ⟨S2048, .f32⟩
  | 124 => ⟨S128, .f32⟩
  | 125 => ⟨S_, .i32⟩
  | 126 => ⟨S_, .f32⟩
  | 127 => ⟨S2048, .f32⟩
  | _ => ⟨S16x512, .f32⟩

abbrev hbmTy0_5 (i : Nat) : BufTy := match i % 128 with
  | 0 => ⟨S3072, .f32⟩
  | 1 => ⟨S_, .i32⟩
  | 2 => ⟨S_, .f32⟩
  | 3 => ⟨S4096, .f32⟩
  | 4 => ⟨S3072, .f32⟩
  | 5 => ⟨S_, .i32⟩
  | 6 => ⟨S_, .f32⟩
  | 7 => ⟨S4096, .f32⟩
  | 8 => ⟨S32, .f32⟩
  | 9 => ⟨S_, .i32⟩
  | 10 => ⟨S_, .f32⟩
  | 11 => ⟨S2048, .f32⟩
  | 12 => ⟨S32, .f32⟩
  | 13 => ⟨S_, .i32⟩
  | 14 => ⟨S_, .f32⟩
  | 15 => ⟨S2048, .f32⟩
  | 16 => ⟨S32, .f32⟩
  | 17 => ⟨S_, .i32⟩
  | 18 => ⟨S_, .f32⟩
  | 19 => ⟨S2048, .f32⟩
  | 20 => ⟨S2048, .f32⟩
  | 21 => ⟨S_, .i32⟩
  | 22 => ⟨S_, .f32⟩
  | 23 => ⟨S2048, .f32⟩
  | 24 => ⟨S2048, .f32⟩
  | 25 => ⟨S_, .i32⟩
  | 26 => ⟨S_, .f32⟩
  | 27 => ⟨S2048, .f32⟩
  | 28 => ⟨S8448, .f32⟩
  | 29 => ⟨S_, .i32⟩
  | 30 => ⟨S_, .f32⟩
  | 31 => ⟨S10240, .f32⟩
  | 32 => ⟨S_, .i32⟩
  | 33 => ⟨S_, .f32⟩
  | 34 => ⟨S2048, .f32⟩
  | 35 => ⟨S53248, .f32⟩
  | 36 => ⟨S416x128, .f32⟩
  | 37 => ⟨S8192, .f32⟩
  | 38 => ⟨S_, .i32⟩
  | 39 => ⟨S_, .f32⟩
  | 40 => ⟨S8192, .f32⟩
  | 41 => ⟨S2048, .f32⟩
  | 42 => ⟨S_, .i32⟩
  | 43 => ⟨S_, .f32⟩
  | 44 => ⟨S2048, .f32⟩
  | 45 => ⟨S6144, .f32⟩
  | 46 => ⟨S_, .i32⟩
  | 47 => ⟨S_, .f32⟩
  | 48 => ⟨S6144, .f32⟩
  | 49 => ⟨S16, .f32⟩
  | 50 => ⟨S_, .i32⟩
  | 51 => ⟨S_, .f32⟩
  | 52 => ⟨S2048, .f32⟩
  | 53 => ⟨S16, .f32⟩
  | 54 => ⟨S_, .i32⟩
  | 55 => ⟨S_, .f32⟩
  | 56 => ⟨S2048, .f32⟩
  | 57 => ⟨S128, .f32⟩
  | 58 => ⟨S_, .i32⟩
  | 59 => ⟨S_, .f32⟩
  | 60 => ⟨S2048, .f32⟩
  | 61 => ⟨S3072, .f32⟩
  | 62 => ⟨S_, .i32⟩
  | 63 => ⟨S_, .f32⟩
  | 64 => ⟨S4096, .f32⟩
  | 65 => ⟨S3072, .f32⟩
  | 66 => ⟨S_, .i32⟩
  | 67 => ⟨S_, .f32⟩
  | 68 => ⟨S4096, .f32⟩
  | 69 => ⟨S32, .f32⟩
  | 70 => ⟨S_, .i32⟩
  | 71 => ⟨S_, .f32⟩
  | 72 => ⟨S2048, .f32⟩
  | 73 => ⟨S32, .f32⟩
  | 74 => ⟨S_, .i32⟩
  | 75 => ⟨S_, .f32⟩
  | 76 => ⟨S2048, .f32⟩
  | 77 => ⟨S32, .f32⟩
  | 78 => ⟨S_, .i32⟩
  | 79 => ⟨S_, .f32⟩
  | 80 => ⟨S2048, .f32⟩
  | 81 => ⟨S2048, .f32⟩
  | 82 => ⟨S_, .i32⟩
  | 83 => ⟨S_, .f32⟩
  | 84 => ⟨S2048, .f32⟩
  | 85 => ⟨S2048, .f32⟩
  | 86 => ⟨S_, .i32⟩
  | 87 => ⟨S_, .f32⟩
  | 88 => ⟨S2048, .f32⟩
  | 89 => ⟨S8448, .f32⟩
  | 90 => ⟨S_, .i32⟩
  | 91 => ⟨S_, .f32⟩
  | 92 => ⟨S10240, .f32⟩
  | 93 => ⟨S_, .i32⟩
  | 94 => ⟨S_, .f32⟩
  | 95 => ⟨S2048, .f32⟩
  | 96 => ⟨S53248, .f32⟩
  | 97 => ⟨S416x128, .f32⟩
  | _ => ⟨S16x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x512, .f32⟩

abbrev bufTy : (tb : Table) → Fin (tcTables nBuf tb) → BufTy
  | .hbm, ⟨i, _⟩ => hbmTy i
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_cst : Ref sig .tc := ⟨.hbm, 60, rfl⟩
abbrev main_v0 : Ref sig .tc := ⟨.hbm, 61, rfl⟩
abbrev main_v1 : Ref sig .tc := ⟨.hbm, 62, rfl⟩
abbrev main_cst_0 : Ref sig .tc := ⟨.hbm, 63, rfl⟩
abbrev main_v2 : Ref sig .tc := ⟨.hbm, 64, rfl⟩
abbrev main_v3 : Ref sig .tc := ⟨.hbm, 65, rfl⟩
abbrev main_v4 : Ref sig .tc := ⟨.hbm, 66, rfl⟩
abbrev main_cst_1 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_cst_2 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_cst_3 : Ref sig .tc := ⟨.hbm, 75, rfl⟩
abbrev main_v11 : Ref sig .tc := ⟨.hbm, 76, rfl⟩
abbrev main_v12 : Ref sig .tc := ⟨.hbm, 77, rfl⟩
abbrev main_cst_4 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_cst_5 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_cst_6 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_cst_7 : Ref sig .tc := ⟨.hbm, 90, rfl⟩
abbrev main_v22 : Ref sig .tc := ⟨.hbm, 91, rfl⟩
abbrev main_v23 : Ref sig .tc := ⟨.hbm, 92, rfl⟩
abbrev main_cst_8 : Ref sig .tc := ⟨.hbm, 93, rfl⟩
abbrev main_v24 : Ref sig .tc := ⟨.hbm, 94, rfl⟩
abbrev main_v25 : Ref sig .tc := ⟨.hbm, 95, rfl⟩
abbrev main_cst_9 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_cst_10 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_cst_11 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_cst_12 : Ref sig .tc := ⟨.hbm, 108, rfl⟩
abbrev main_v35 : Ref sig .tc := ⟨.hbm, 109, rfl⟩
abbrev main_v36 : Ref sig .tc := ⟨.hbm, 110, rfl⟩
abbrev main_cst_13 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_cst_14 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_cst_15 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_cst_16 : Ref sig .tc := ⟨.hbm, 123, rfl⟩
abbrev main_v46 : Ref sig .tc := ⟨.hbm, 124, rfl⟩
abbrev main_v47 : Ref sig .tc := ⟨.hbm, 125, rfl⟩
abbrev main_cst_17 : Ref sig .tc := ⟨.hbm, 126, rfl⟩
abbrev main_v48 : Ref sig .tc := ⟨.hbm, 127, rfl⟩
abbrev main_v49 : Ref sig .tc := ⟨.hbm, 128, rfl⟩
abbrev main_cst_18 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_cst_19 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_cst_20 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_cst_21 : Ref sig .tc := ⟨.hbm, 141, rfl⟩
abbrev main_v59 : Ref sig .tc := ⟨.hbm, 142, rfl⟩
abbrev main_v60 : Ref sig .tc := ⟨.hbm, 143, rfl⟩
abbrev main_cst_22 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_cst_23 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_cst_24 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_cst_25 : Ref sig .tc := ⟨.hbm, 156, rfl⟩
abbrev main_v70 : Ref sig .tc := ⟨.hbm, 157, rfl⟩
abbrev main_v71 : Ref sig .tc := ⟨.hbm, 158, rfl⟩
abbrev main_cst_26 : Ref sig .tc := ⟨.hbm, 159, rfl⟩
abbrev main_v72 : Ref sig .tc := ⟨.hbm, 160, rfl⟩
abbrev main_v73 : Ref sig .tc := ⟨.hbm, 161, rfl⟩
abbrev main_cst_27 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_cst_28 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_cst_29 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_cst_30 : Ref sig .tc := ⟨.hbm, 174, rfl⟩
abbrev main_v83 : Ref sig .tc := ⟨.hbm, 175, rfl⟩
abbrev main_v84 : Ref sig .tc := ⟨.hbm, 176, rfl⟩
abbrev main_cst_31 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_cst_32 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_cst_33 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_cst_34 : Ref sig .tc := ⟨.hbm, 189, rfl⟩
abbrev main_v94 : Ref sig .tc := ⟨.hbm, 190, rfl⟩
abbrev main_v95 : Ref sig .tc := ⟨.hbm, 191, rfl⟩
abbrev main_cst_35 : Ref sig .tc := ⟨.hbm, 192, rfl⟩
abbrev main_v96 : Ref sig .tc := ⟨.hbm, 193, rfl⟩
abbrev main_v97 : Ref sig .tc := ⟨.hbm, 194, rfl⟩
abbrev main_cst_36 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_cst_37 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_cst_38 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_cst_39 : Ref sig .tc := ⟨.hbm, 207, rfl⟩
abbrev main_v107 : Ref sig .tc := ⟨.hbm, 208, rfl⟩
abbrev main_v108 : Ref sig .tc := ⟨.hbm, 209, rfl⟩
abbrev main_cst_40 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_cst_41 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_cst_42 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_cst_43 : Ref sig .tc := ⟨.hbm, 222, rfl⟩
abbrev main_v118 : Ref sig .tc := ⟨.hbm, 223, rfl⟩
abbrev main_v119 : Ref sig .tc := ⟨.hbm, 224, rfl⟩
abbrev main_cst_44 : Ref sig .tc := ⟨.hbm, 225, rfl⟩
abbrev main_v120 : Ref sig .tc := ⟨.hbm, 226, rfl⟩
abbrev main_v121 : Ref sig .tc := ⟨.hbm, 227, rfl⟩
abbrev main_cst_45 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_cst_46 : Ref sig .tc := ⟨.hbm, 232, rfl⟩
abbrev main_v125 : Ref sig .tc := ⟨.hbm, 233, rfl⟩
abbrev main_v126 : Ref sig .tc := ⟨.hbm, 234, rfl⟩
abbrev main_v127 : Ref sig .tc := ⟨.hbm, 235, rfl⟩
abbrev main_cst_47 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_cst_48 : Ref sig .tc := ⟨.hbm, 240, rfl⟩
abbrev main_v131 : Ref sig .tc := ⟨.hbm, 241, rfl⟩
abbrev main_v132 : Ref sig .tc := ⟨.hbm, 242, rfl⟩
abbrev main_cst_49 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_cst_50 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_cst_51 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_cst_52 : Ref sig .tc := ⟨.hbm, 255, rfl⟩
abbrev main_v142 : Ref sig .tc := ⟨.hbm, 256, rfl⟩
abbrev main_v143 : Ref sig .tc := ⟨.hbm, 257, rfl⟩
abbrev main_cst_53 : Ref sig .tc := ⟨.hbm, 258, rfl⟩
abbrev main_v144 : Ref sig .tc := ⟨.hbm, 259, rfl⟩
abbrev main_v145 : Ref sig .tc := ⟨.hbm, 260, rfl⟩
abbrev main_cst_54 : Ref sig .tc := ⟨.hbm, 261, rfl⟩
abbrev main_v146 : Ref sig .tc := ⟨.hbm, 262, rfl⟩
abbrev main_v147 : Ref sig .tc := ⟨.hbm, 263, rfl⟩
abbrev main_v148 : Ref sig .tc := ⟨.hbm, 264, rfl⟩
abbrev main_cst_55 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_cst_56 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_cst_57 : Ref sig .tc := ⟨.hbm, 273, rfl⟩
abbrev main_v155 : Ref sig .tc := ⟨.hbm, 274, rfl⟩
abbrev main_v156 : Ref sig .tc := ⟨.hbm, 275, rfl⟩
abbrev main_cst_58 : Ref sig .tc := ⟨.hbm, 276, rfl⟩
abbrev main_v157 : Ref sig .tc := ⟨.hbm, 277, rfl⟩
abbrev main_v158 : Ref sig .tc := ⟨.hbm, 278, rfl⟩
abbrev main_v159 : Ref sig .tc := ⟨.hbm, 279, rfl⟩
abbrev main_cst_59 : Ref sig .tc := ⟨.hbm, 280, rfl⟩
abbrev main_v160 : Ref sig .tc := ⟨.hbm, 281, rfl⟩
abbrev main_v161 : Ref sig .tc := ⟨.hbm, 282, rfl⟩
abbrev main_v162 : Ref sig .tc := ⟨.hbm, 283, rfl⟩
abbrev main_cst_60 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_cst_61 : Ref sig .tc := ⟨.hbm, 288, rfl⟩
abbrev main_v166 : Ref sig .tc := ⟨.hbm, 289, rfl⟩
abbrev main_v167 : Ref sig .tc := ⟨.hbm, 290, rfl⟩
abbrev main_cst_62 : Ref sig .tc := ⟨.hbm, 291, rfl⟩
abbrev main_v168 : Ref sig .tc := ⟨.hbm, 292, rfl⟩
abbrev main_v169 : Ref sig .tc := ⟨.hbm, 293, rfl⟩
abbrev main_cst_63 : Ref sig .tc := ⟨.hbm, 294, rfl⟩
abbrev main_v170 : Ref sig .tc := ⟨.hbm, 295, rfl⟩
abbrev main_v171 : Ref sig .tc := ⟨.hbm, 296, rfl⟩
abbrev main_v172 : Ref sig .tc := ⟨.hbm, 297, rfl⟩
abbrev main_cst_64 : Ref sig .tc := ⟨.hbm, 298, rfl⟩
abbrev main_v173 : Ref sig .tc := ⟨.hbm, 299, rfl⟩
abbrev main_v174 : Ref sig .tc := ⟨.hbm, 300, rfl⟩
abbrev main_v175 : Ref sig .tc := ⟨.hbm, 301, rfl⟩
abbrev main_cst_65 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_cst_66 : Ref sig .tc := ⟨.hbm, 306, rfl⟩
abbrev main_v179 : Ref sig .tc := ⟨.hbm, 307, rfl⟩
abbrev main_v180 : Ref sig .tc := ⟨.hbm, 308, rfl⟩
abbrev main_cst_67 : Ref sig .tc := ⟨.hbm, 309, rfl⟩
abbrev main_v181 : Ref sig .tc := ⟨.hbm, 310, rfl⟩
abbrev main_v182 : Ref sig .tc := ⟨.hbm, 311, rfl⟩
abbrev main_v183 : Ref sig .tc := ⟨.hbm, 312, rfl⟩
abbrev main_cst_68 : Ref sig .tc := ⟨.hbm, 313, rfl⟩
abbrev main_v184 : Ref sig .tc := ⟨.hbm, 314, rfl⟩
abbrev main_v185 : Ref sig .tc := ⟨.hbm, 315, rfl⟩
abbrev main_v186 : Ref sig .tc := ⟨.hbm, 316, rfl⟩
abbrev main_cst_69 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_cst_70 : Ref sig .tc := ⟨.hbm, 321, rfl⟩
abbrev main_v190 : Ref sig .tc := ⟨.hbm, 322, rfl⟩
abbrev main_v191 : Ref sig .tc := ⟨.hbm, 323, rfl⟩
abbrev main_cst_71 : Ref sig .tc := ⟨.hbm, 324, rfl⟩
abbrev main_v192 : Ref sig .tc := ⟨.hbm, 325, rfl⟩
abbrev main_v193 : Ref sig .tc := ⟨.hbm, 326, rfl⟩
abbrev main_cst_72 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_cst_73 : Ref sig .tc := ⟨.hbm, 331, rfl⟩
abbrev main_v197 : Ref sig .tc := ⟨.hbm, 332, rfl⟩
abbrev main_v198 : Ref sig .tc := ⟨.hbm, 333, rfl⟩
abbrev main_v199 : Ref sig .tc := ⟨.hbm, 334, rfl⟩
abbrev main_cst_74 : Ref sig .tc := ⟨.hbm, 335, rfl⟩
abbrev main_v200 : Ref sig .tc := ⟨.hbm, 336, rfl⟩
abbrev main_v201 : Ref sig .tc := ⟨.hbm, 337, rfl⟩
abbrev main_v202 : Ref sig .tc := ⟨.hbm, 338, rfl⟩
abbrev main_cst_75 : Ref sig .tc := ⟨.hbm, 339, rfl⟩
abbrev main_v203 : Ref sig .tc := ⟨.hbm, 340, rfl⟩
abbrev main_v204 : Ref sig .tc := ⟨.hbm, 341, rfl⟩
abbrev main_cst_76 : Ref sig .tc := ⟨.hbm, 342, rfl⟩
abbrev main_v205 : Ref sig .tc := ⟨.hbm, 343, rfl⟩
abbrev main_v206 : Ref sig .tc := ⟨.hbm, 344, rfl⟩
abbrev main_v207 : Ref sig .tc := ⟨.hbm, 345, rfl⟩
abbrev main_cst_77 : Ref sig .tc := ⟨.hbm, 346, rfl⟩
abbrev main_v208 : Ref sig .tc := ⟨.hbm, 347, rfl⟩
abbrev main_v209 : Ref sig .tc := ⟨.hbm, 348, rfl⟩
abbrev main_v210 : Ref sig .tc := ⟨.hbm, 349, rfl⟩
abbrev main_cst_78 : Ref sig .tc := ⟨.hbm, 350, rfl⟩
abbrev main_v211 : Ref sig .tc := ⟨.hbm, 351, rfl⟩
abbrev main_v212 : Ref sig .tc := ⟨.hbm, 352, rfl⟩
abbrev main_v213 : Ref sig .tc := ⟨.hbm, 353, rfl⟩
abbrev main_cst_79 : Ref sig .tc := ⟨.hbm, 354, rfl⟩
abbrev main_v214 : Ref sig .tc := ⟨.hbm, 355, rfl⟩
abbrev main_v215 : Ref sig .tc := ⟨.hbm, 356, rfl⟩
abbrev main_cst_80 : Ref sig .tc := ⟨.hbm, 357, rfl⟩
abbrev main_v216 : Ref sig .tc := ⟨.hbm, 358, rfl⟩
abbrev main_v217 : Ref sig .tc := ⟨.hbm, 359, rfl⟩
abbrev main_cst_81 : Ref sig .tc := ⟨.hbm, 360, rfl⟩
abbrev main_v218 : Ref sig .tc := ⟨.hbm, 361, rfl⟩
abbrev main_v219 : Ref sig .tc := ⟨.hbm, 362, rfl⟩
abbrev main_v220 : Ref sig .tc := ⟨.hbm, 363, rfl⟩
abbrev main_cst_82 : Ref sig .tc := ⟨.hbm, 364, rfl⟩
abbrev main_v221 : Ref sig .tc := ⟨.hbm, 365, rfl⟩
abbrev main_v222 : Ref sig .tc := ⟨.hbm, 366, rfl⟩
abbrev main_v223 : Ref sig .tc := ⟨.hbm, 367, rfl⟩
abbrev main_cst_83 : Ref sig .tc := ⟨.hbm, 368, rfl⟩
abbrev main_v224 : Ref sig .tc := ⟨.hbm, 369, rfl⟩
abbrev main_v225 : Ref sig .tc := ⟨.hbm, 370, rfl⟩
abbrev main_v226 : Ref sig .tc := ⟨.hbm, 371, rfl⟩
abbrev main_cst_84 : Ref sig .tc := ⟨.hbm, 372, rfl⟩
abbrev main_v227 : Ref sig .tc := ⟨.hbm, 373, rfl⟩
abbrev main_v228 : Ref sig .tc := ⟨.hbm, 374, rfl⟩
abbrev main_cst_85 : Ref sig .tc := ⟨.hbm, 375, rfl⟩
abbrev main_v229 : Ref sig .tc := ⟨.hbm, 376, rfl⟩
abbrev main_v230 : Ref sig .tc := ⟨.hbm, 377, rfl⟩
abbrev main_v231 : Ref sig .tc := ⟨.hbm, 378, rfl⟩
abbrev main_cst_86 : Ref sig .tc := ⟨.hbm, 379, rfl⟩
abbrev main_v232 : Ref sig .tc := ⟨.hbm, 380, rfl⟩
abbrev main_v233 : Ref sig .tc := ⟨.hbm, 381, rfl⟩
abbrev main_v234 : Ref sig .tc := ⟨.hbm, 382, rfl⟩
abbrev main_cst_87 : Ref sig .tc := ⟨.hbm, 383, rfl⟩
abbrev main_v235 : Ref sig .tc := ⟨.hbm, 384, rfl⟩
abbrev main_v236 : Ref sig .tc := ⟨.hbm, 385, rfl⟩
abbrev main_v237 : Ref sig .tc := ⟨.hbm, 386, rfl⟩
abbrev main_cst_88 : Ref sig .tc := ⟨.hbm, 387, rfl⟩
abbrev main_v238 : Ref sig .tc := ⟨.hbm, 388, rfl⟩
abbrev main_v239 : Ref sig .tc := ⟨.hbm, 389, rfl⟩
abbrev main_cst_89 : Ref sig .tc := ⟨.hbm, 390, rfl⟩
abbrev main_v240 : Ref sig .tc := ⟨.hbm, 391, rfl⟩
abbrev main_v241 : Ref sig .tc := ⟨.hbm, 392, rfl⟩
abbrev main_cst_90 : Ref sig .tc := ⟨.hbm, 393, rfl⟩
abbrev main_v242 : Ref sig .tc := ⟨.hbm, 394, rfl⟩
abbrev main_v243 : Ref sig .tc := ⟨.hbm, 395, rfl⟩
abbrev main_v244 : Ref sig .tc := ⟨.hbm, 396, rfl⟩
abbrev main_cst_91 : Ref sig .tc := ⟨.hbm, 397, rfl⟩
abbrev main_v245 : Ref sig .tc := ⟨.hbm, 398, rfl⟩
abbrev main_v246 : Ref sig .tc := ⟨.hbm, 399, rfl⟩
abbrev main_v247 : Ref sig .tc := ⟨.hbm, 400, rfl⟩
abbrev main_cst_92 : Ref sig .tc := ⟨.hbm, 401, rfl⟩
abbrev main_v248 : Ref sig .tc := ⟨.hbm, 402, rfl⟩
abbrev main_v249 : Ref sig .tc := ⟨.hbm, 403, rfl⟩
abbrev main_v250 : Ref sig .tc := ⟨.hbm, 404, rfl⟩
abbrev main_cst_93 : Ref sig .tc := ⟨.hbm, 405, rfl⟩
abbrev main_v251 : Ref sig .tc := ⟨.hbm, 406, rfl⟩
abbrev main_v252 : Ref sig .tc := ⟨.hbm, 407, rfl⟩
abbrev main_cst_94 : Ref sig .tc := ⟨.hbm, 408, rfl⟩
abbrev main_v253 : Ref sig .tc := ⟨.hbm, 409, rfl⟩
abbrev main_v254 : Ref sig .tc := ⟨.hbm, 410, rfl⟩
abbrev main_v255 : Ref sig .tc := ⟨.hbm, 411, rfl⟩
abbrev main_cst_95 : Ref sig .tc := ⟨.hbm, 412, rfl⟩
abbrev main_v256 : Ref sig .tc := ⟨.hbm, 413, rfl⟩
abbrev main_v257 : Ref sig .tc := ⟨.hbm, 414, rfl⟩
abbrev main_v258 : Ref sig .tc := ⟨.hbm, 415, rfl⟩
abbrev main_cst_96 : Ref sig .tc := ⟨.hbm, 416, rfl⟩
abbrev main_v259 : Ref sig .tc := ⟨.hbm, 417, rfl⟩
abbrev main_v260 : Ref sig .tc := ⟨.hbm, 418, rfl⟩
abbrev main_v261 : Ref sig .tc := ⟨.hbm, 419, rfl⟩
abbrev main_cst_97 : Ref sig .tc := ⟨.hbm, 420, rfl⟩
abbrev main_v262 : Ref sig .tc := ⟨.hbm, 421, rfl⟩
abbrev main_v263 : Ref sig .tc := ⟨.hbm, 422, rfl⟩
abbrev main_cst_98 : Ref sig .tc := ⟨.hbm, 423, rfl⟩
abbrev main_v264 : Ref sig .tc := ⟨.hbm, 424, rfl⟩
abbrev main_v265 : Ref sig .tc := ⟨.hbm, 425, rfl⟩
abbrev main_cst_99 : Ref sig .tc := ⟨.hbm, 426, rfl⟩
abbrev main_v266 : Ref sig .tc := ⟨.hbm, 427, rfl⟩
abbrev main_v267 : Ref sig .tc := ⟨.hbm, 428, rfl⟩
abbrev main_v268 : Ref sig .tc := ⟨.hbm, 429, rfl⟩
abbrev main_cst_100 : Ref sig .tc := ⟨.hbm, 430, rfl⟩
abbrev main_v269 : Ref sig .tc := ⟨.hbm, 431, rfl⟩
abbrev main_v270 : Ref sig .tc := ⟨.hbm, 432, rfl⟩
abbrev main_v271 : Ref sig .tc := ⟨.hbm, 433, rfl⟩
abbrev main_cst_101 : Ref sig .tc := ⟨.hbm, 434, rfl⟩
abbrev main_v272 : Ref sig .tc := ⟨.hbm, 435, rfl⟩
abbrev main_v273 : Ref sig .tc := ⟨.hbm, 436, rfl⟩
abbrev main_v274 : Ref sig .tc := ⟨.hbm, 437, rfl⟩
abbrev main_cst_102 : Ref sig .tc := ⟨.hbm, 438, rfl⟩
abbrev main_v275 : Ref sig .tc := ⟨.hbm, 439, rfl⟩
abbrev main_v276 : Ref sig .tc := ⟨.hbm, 440, rfl⟩
abbrev main_cst_103 : Ref sig .tc := ⟨.hbm, 441, rfl⟩
abbrev main_v277 : Ref sig .tc := ⟨.hbm, 442, rfl⟩
abbrev main_v278 : Ref sig .tc := ⟨.hbm, 443, rfl⟩
abbrev main_v279 : Ref sig .tc := ⟨.hbm, 444, rfl⟩
abbrev main_cst_104 : Ref sig .tc := ⟨.hbm, 445, rfl⟩
abbrev main_v280 : Ref sig .tc := ⟨.hbm, 446, rfl⟩
abbrev main_v281 : Ref sig .tc := ⟨.hbm, 447, rfl⟩
abbrev main_v282 : Ref sig .tc := ⟨.hbm, 448, rfl⟩
abbrev main_cst_105 : Ref sig .tc := ⟨.hbm, 449, rfl⟩
abbrev main_v283 : Ref sig .tc := ⟨.hbm, 450, rfl⟩
abbrev main_v284 : Ref sig .tc := ⟨.hbm, 451, rfl⟩
abbrev main_v285 : Ref sig .tc := ⟨.hbm, 452, rfl⟩
abbrev main_cst_106 : Ref sig .tc := ⟨.hbm, 453, rfl⟩
abbrev main_v286 : Ref sig .tc := ⟨.hbm, 454, rfl⟩
abbrev main_v287 : Ref sig .tc := ⟨.hbm, 455, rfl⟩
abbrev main_cst_107 : Ref sig .tc := ⟨.hbm, 456, rfl⟩
abbrev main_v288 : Ref sig .tc := ⟨.hbm, 457, rfl⟩
abbrev main_v289 : Ref sig .tc := ⟨.hbm, 458, rfl⟩
abbrev main_cst_108 : Ref sig .tc := ⟨.hbm, 459, rfl⟩
abbrev main_v290 : Ref sig .tc := ⟨.hbm, 460, rfl⟩
abbrev main_v291 : Ref sig .tc := ⟨.hbm, 461, rfl⟩
abbrev main_v292 : Ref sig .tc := ⟨.hbm, 462, rfl⟩
abbrev main_cst_109 : Ref sig .tc := ⟨.hbm, 463, rfl⟩
abbrev main_v293 : Ref sig .tc := ⟨.hbm, 464, rfl⟩
abbrev main_v294 : Ref sig .tc := ⟨.hbm, 465, rfl⟩
abbrev main_v295 : Ref sig .tc := ⟨.hbm, 466, rfl⟩
abbrev main_cst_110 : Ref sig .tc := ⟨.hbm, 467, rfl⟩
abbrev main_v296 : Ref sig .tc := ⟨.hbm, 468, rfl⟩
abbrev main_v297 : Ref sig .tc := ⟨.hbm, 469, rfl⟩
abbrev main_v298 : Ref sig .tc := ⟨.hbm, 470, rfl⟩
abbrev main_cst_111 : Ref sig .tc := ⟨.hbm, 471, rfl⟩
abbrev main_v299 : Ref sig .tc := ⟨.hbm, 472, rfl⟩
abbrev main_v300 : Ref sig .tc := ⟨.hbm, 473, rfl⟩
abbrev main_cst_112 : Ref sig .tc := ⟨.hbm, 474, rfl⟩
abbrev main_v301 : Ref sig .tc := ⟨.hbm, 475, rfl⟩
abbrev main_v302 : Ref sig .tc := ⟨.hbm, 476, rfl⟩
abbrev main_v303 : Ref sig .tc := ⟨.hbm, 477, rfl⟩
abbrev main_cst_113 : Ref sig .tc := ⟨.hbm, 478, rfl⟩
abbrev main_v304 : Ref sig .tc := ⟨.hbm, 479, rfl⟩
abbrev main_v305 : Ref sig .tc := ⟨.hbm, 480, rfl⟩
abbrev main_v306 : Ref sig .tc := ⟨.hbm, 481, rfl⟩
abbrev main_cst_114 : Ref sig .tc := ⟨.hbm, 482, rfl⟩
abbrev main_v307 : Ref sig .tc := ⟨.hbm, 483, rfl⟩
abbrev main_v308 : Ref sig .tc := ⟨.hbm, 484, rfl⟩
abbrev main_v309 : Ref sig .tc := ⟨.hbm, 485, rfl⟩
abbrev main_cst_115 : Ref sig .tc := ⟨.hbm, 486, rfl⟩
abbrev main_v310 : Ref sig .tc := ⟨.hbm, 487, rfl⟩
abbrev main_v311 : Ref sig .tc := ⟨.hbm, 488, rfl⟩
abbrev main_cst_116 : Ref sig .tc := ⟨.hbm, 489, rfl⟩
abbrev main_v312 : Ref sig .tc := ⟨.hbm, 490, rfl⟩
abbrev main_v313 : Ref sig .tc := ⟨.hbm, 491, rfl⟩
abbrev main_cst_117 : Ref sig .tc := ⟨.hbm, 492, rfl⟩
abbrev main_v314 : Ref sig .tc := ⟨.hbm, 493, rfl⟩
abbrev main_v315 : Ref sig .tc := ⟨.hbm, 494, rfl⟩
abbrev main_v316 : Ref sig .tc := ⟨.hbm, 495, rfl⟩
abbrev main_cst_118 : Ref sig .tc := ⟨.hbm, 496, rfl⟩
abbrev main_v317 : Ref sig .tc := ⟨.hbm, 497, rfl⟩
abbrev main_v318 : Ref sig .tc := ⟨.hbm, 498, rfl⟩
abbrev main_v319 : Ref sig .tc := ⟨.hbm, 499, rfl⟩
abbrev main_cst_119 : Ref sig .tc := ⟨.hbm, 500, rfl⟩
abbrev main_v320 : Ref sig .tc := ⟨.hbm, 501, rfl⟩
abbrev main_v321 : Ref sig .tc := ⟨.hbm, 502, rfl⟩
abbrev main_v322 : Ref sig .tc := ⟨.hbm, 503, rfl⟩
abbrev main_cst_120 : Ref sig .tc := ⟨.hbm, 504, rfl⟩
abbrev main_v323 : Ref sig .tc := ⟨.hbm, 505, rfl⟩
abbrev main_v324 : Ref sig .tc := ⟨.hbm, 506, rfl⟩
abbrev main_cst_121 : Ref sig .tc := ⟨.hbm, 507, rfl⟩
abbrev main_v325 : Ref sig .tc := ⟨.hbm, 508, rfl⟩
abbrev main_v326 : Ref sig .tc := ⟨.hbm, 509, rfl⟩
abbrev main_v327 : Ref sig .tc := ⟨.hbm, 510, rfl⟩
abbrev main_cst_122 : Ref sig .tc := ⟨.hbm, 511, rfl⟩
abbrev main_v328 : Ref sig .tc := ⟨.hbm, 512, rfl⟩
abbrev main_v329 : Ref sig .tc := ⟨.hbm, 513, rfl⟩
abbrev main_v330 : Ref sig .tc := ⟨.hbm, 514, rfl⟩
abbrev main_cst_123 : Ref sig .tc := ⟨.hbm, 515, rfl⟩
abbrev main_v331 : Ref sig .tc := ⟨.hbm, 516, rfl⟩
abbrev main_v332 : Ref sig .tc := ⟨.hbm, 517, rfl⟩
abbrev main_v333 : Ref sig .tc := ⟨.hbm, 518, rfl⟩
abbrev main_cst_124 : Ref sig .tc := ⟨.hbm, 519, rfl⟩
abbrev main_v334 : Ref sig .tc := ⟨.hbm, 520, rfl⟩
abbrev main_v335 : Ref sig .tc := ⟨.hbm, 521, rfl⟩
abbrev main_cst_125 : Ref sig .tc := ⟨.hbm, 522, rfl⟩
abbrev main_v336 : Ref sig .tc := ⟨.hbm, 523, rfl⟩
abbrev main_v337 : Ref sig .tc := ⟨.hbm, 524, rfl⟩
abbrev main_cst_126 : Ref sig .tc := ⟨.hbm, 525, rfl⟩
abbrev main_v338 : Ref sig .tc := ⟨.hbm, 526, rfl⟩
abbrev main_v339 : Ref sig .tc := ⟨.hbm, 527, rfl⟩
abbrev main_v340 : Ref sig .tc := ⟨.hbm, 528, rfl⟩
abbrev main_cst_127 : Ref sig .tc := ⟨.hbm, 529, rfl⟩
abbrev main_v341 : Ref sig .tc := ⟨.hbm, 530, rfl⟩
abbrev main_v342 : Ref sig .tc := ⟨.hbm, 531, rfl⟩
abbrev main_v343 : Ref sig .tc := ⟨.hbm, 532, rfl⟩
abbrev main_cst_128 : Ref sig .tc := ⟨.hbm, 533, rfl⟩
abbrev main_v344 : Ref sig .tc := ⟨.hbm, 534, rfl⟩
abbrev main_v345 : Ref sig .tc := ⟨.hbm, 535, rfl⟩
abbrev main_v346 : Ref sig .tc := ⟨.hbm, 536, rfl⟩
abbrev main_cst_129 : Ref sig .tc := ⟨.hbm, 537, rfl⟩
abbrev main_v347 : Ref sig .tc := ⟨.hbm, 538, rfl⟩
abbrev main_v348 : Ref sig .tc := ⟨.hbm, 539, rfl⟩
abbrev main_cst_130 : Ref sig .tc := ⟨.hbm, 540, rfl⟩
abbrev main_v349 : Ref sig .tc := ⟨.hbm, 541, rfl⟩
abbrev main_v350 : Ref sig .tc := ⟨.hbm, 542, rfl⟩
abbrev main_v351 : Ref sig .tc := ⟨.hbm, 543, rfl⟩
abbrev main_cst_131 : Ref sig .tc := ⟨.hbm, 544, rfl⟩
abbrev main_v352 : Ref sig .tc := ⟨.hbm, 545, rfl⟩
abbrev main_v353 : Ref sig .tc := ⟨.hbm, 546, rfl⟩
abbrev main_v354 : Ref sig .tc := ⟨.hbm, 547, rfl⟩
abbrev main_cst_132 : Ref sig .tc := ⟨.hbm, 548, rfl⟩
abbrev main_v355 : Ref sig .tc := ⟨.hbm, 549, rfl⟩
abbrev main_v356 : Ref sig .tc := ⟨.hbm, 550, rfl⟩
abbrev main_v357 : Ref sig .tc := ⟨.hbm, 551, rfl⟩
abbrev main_cst_133 : Ref sig .tc := ⟨.hbm, 552, rfl⟩
abbrev main_v358 : Ref sig .tc := ⟨.hbm, 553, rfl⟩
abbrev main_v359 : Ref sig .tc := ⟨.hbm, 554, rfl⟩
abbrev main_v360 : Ref sig .tc := ⟨.hbm, 555, rfl⟩
abbrev main_c : Ref sig .tc := ⟨.hbm, 556, rfl⟩
abbrev main_call0_v0 : Ref sig .tc := ⟨.hbm, 557, rfl⟩
abbrev main_v361 : Ref sig .tc := ⟨.hbm, 558, rfl⟩
abbrev main_v362 : Ref sig .tc := ⟨.hbm, 559, rfl⟩
abbrev main_c_134 : Ref sig .tc := ⟨.hbm, 560, rfl⟩
abbrev main_call1_v0 : Ref sig .tc := ⟨.hbm, 561, rfl⟩
abbrev main_v363 : Ref sig .tc := ⟨.hbm, 562, rfl⟩
abbrev main_v364 : Ref sig .tc := ⟨.hbm, 563, rfl⟩
abbrev main_c_135 : Ref sig .tc := ⟨.hbm, 564, rfl⟩
abbrev main_call2_v0 : Ref sig .tc := ⟨.hbm, 565, rfl⟩
abbrev main_v365 : Ref sig .tc := ⟨.hbm, 566, rfl⟩
abbrev main_v366 : Ref sig .tc := ⟨.hbm, 567, rfl⟩
abbrev main_c_136 : Ref sig .tc := ⟨.hbm, 568, rfl⟩
abbrev main_call3_v0 : Ref sig .tc := ⟨.hbm, 569, rfl⟩
abbrev main_v367 : Ref sig .tc := ⟨.hbm, 570, rfl⟩
abbrev main_v368 : Ref sig .tc := ⟨.hbm, 571, rfl⟩
abbrev main_c_137 : Ref sig .tc := ⟨.hbm, 572, rfl⟩
abbrev main_call4_v0 : Ref sig .tc := ⟨.hbm, 573, rfl⟩
abbrev main_v369 : Ref sig .tc := ⟨.hbm, 574, rfl⟩
abbrev main_v370 : Ref sig .tc := ⟨.hbm, 575, rfl⟩
abbrev main_c_138 : Ref sig .tc := ⟨.hbm, 576, rfl⟩
abbrev main_call5_v0 : Ref sig .tc := ⟨.hbm, 577, rfl⟩
abbrev main_v371 : Ref sig .tc := ⟨.hbm, 578, rfl⟩
abbrev main_v372 : Ref sig .tc := ⟨.hbm, 579, rfl⟩
abbrev main_c_139 : Ref sig .tc := ⟨.hbm, 580, rfl⟩
abbrev main_call6_v0 : Ref sig .tc := ⟨.hbm, 581, rfl⟩
abbrev main_v373 : Ref sig .tc := ⟨.hbm, 582, rfl⟩
abbrev main_v374 : Ref sig .tc := ⟨.hbm, 583, rfl⟩
abbrev main_c_140 : Ref sig .tc := ⟨.hbm, 584, rfl⟩
abbrev main_call7_v0 : Ref sig .tc := ⟨.hbm, 585, rfl⟩
abbrev main_v375 : Ref sig .tc := ⟨.hbm, 586, rfl⟩
abbrev main_v376 : Ref sig .tc := ⟨.hbm, 587, rfl⟩
abbrev main_c_141 : Ref sig .tc := ⟨.hbm, 588, rfl⟩
abbrev main_call8_v0 : Ref sig .tc := ⟨.hbm, 589, rfl⟩
abbrev main_v377 : Ref sig .tc := ⟨.hbm, 590, rfl⟩
abbrev main_v378 : Ref sig .tc := ⟨.hbm, 591, rfl⟩
abbrev main_c_142 : Ref sig .tc := ⟨.hbm, 592, rfl⟩
abbrev main_call9_v0 : Ref sig .tc := ⟨.hbm, 593, rfl⟩
abbrev main_v379 : Ref sig .tc := ⟨.hbm, 594, rfl⟩
abbrev main_v380 : Ref sig .tc := ⟨.hbm, 595, rfl⟩
abbrev main_c_143 : Ref sig .tc := ⟨.hbm, 596, rfl⟩
abbrev main_call10_v0 : Ref sig .tc := ⟨.hbm, 597, rfl⟩
abbrev main_v381 : Ref sig .tc := ⟨.hbm, 598, rfl⟩
abbrev main_v382 : Ref sig .tc := ⟨.hbm, 599, rfl⟩
abbrev main_c_144 : Ref sig .tc := ⟨.hbm, 600, rfl⟩
abbrev main_call11_v0 : Ref sig .tc := ⟨.hbm, 601, rfl⟩
abbrev main_v383 : Ref sig .tc := ⟨.hbm, 602, rfl⟩
abbrev main_v384 : Ref sig .tc := ⟨.hbm, 603, rfl⟩
abbrev main_c_145 : Ref sig .tc := ⟨.hbm, 604, rfl⟩
abbrev main_call12_v0 : Ref sig .tc := ⟨.hbm, 605, rfl⟩
abbrev main_v385 : Ref sig .tc := ⟨.hbm, 606, rfl⟩
abbrev main_v386 : Ref sig .tc := ⟨.hbm, 607, rfl⟩
abbrev main_c_146 : Ref sig .tc := ⟨.hbm, 608, rfl⟩
abbrev main_call13_v0 : Ref sig .tc := ⟨.hbm, 609, rfl⟩
abbrev main_v387 : Ref sig .tc := ⟨.hbm, 610, rfl⟩
abbrev main_c_147 : Ref sig .tc := ⟨.hbm, 611, rfl⟩
abbrev main_call14_v0 : Ref sig .tc := ⟨.hbm, 612, rfl⟩
abbrev main_v388 : Ref sig .tc := ⟨.hbm, 613, rfl⟩
abbrev main_v389 : Ref sig .tc := ⟨.hbm, 614, rfl⟩
abbrev main_v390 : Ref sig .tc := ⟨.hbm, 615, rfl⟩
abbrev main_v391 : Ref sig .tc := ⟨.hbm, 616, rfl⟩
abbrev main_c_148 : Ref sig .tc := ⟨.hbm, 617, rfl⟩
abbrev main_call15_v0 : Ref sig .tc := ⟨.hbm, 618, rfl⟩
abbrev main_v392 : Ref sig .tc := ⟨.hbm, 619, rfl⟩
abbrev main_v393 : Ref sig .tc := ⟨.hbm, 620, rfl⟩
abbrev main_c_149 : Ref sig .tc := ⟨.hbm, 621, rfl⟩
abbrev main_call16_v0 : Ref sig .tc := ⟨.hbm, 622, rfl⟩
abbrev main_v394 : Ref sig .tc := ⟨.hbm, 623, rfl⟩
abbrev main_v395 : Ref sig .tc := ⟨.hbm, 624, rfl⟩
abbrev main_c_150 : Ref sig .tc := ⟨.hbm, 625, rfl⟩
abbrev main_call17_v0 : Ref sig .tc := ⟨.hbm, 626, rfl⟩
abbrev main_v396 : Ref sig .tc := ⟨.hbm, 627, rfl⟩
abbrev main_v397 : Ref sig .tc := ⟨.hbm, 628, rfl⟩
abbrev main_c_151 : Ref sig .tc := ⟨.hbm, 629, rfl⟩
abbrev main_call18_v0 : Ref sig .tc := ⟨.hbm, 630, rfl⟩
abbrev main_v398 : Ref sig .tc := ⟨.hbm, 631, rfl⟩
abbrev main_v399 : Ref sig .tc := ⟨.hbm, 632, rfl⟩
abbrev main_c_152 : Ref sig .tc := ⟨.hbm, 633, rfl⟩
abbrev main_call19_v0 : Ref sig .tc := ⟨.hbm, 634, rfl⟩
abbrev main_v400 : Ref sig .tc := ⟨.hbm, 635, rfl⟩
abbrev main_v401 : Ref sig .tc := ⟨.hbm, 636, rfl⟩
abbrev main_c_153 : Ref sig .tc := ⟨.hbm, 637, rfl⟩
abbrev main_call20_v0 : Ref sig .tc := ⟨.hbm, 638, rfl⟩
abbrev main_v402 : Ref sig .tc := ⟨.hbm, 639, rfl⟩
abbrev main_v403 : Ref sig .tc := ⟨.hbm, 640, rfl⟩
abbrev main_c_154 : Ref sig .tc := ⟨.hbm, 641, rfl⟩
abbrev main_call21_v0 : Ref sig .tc := ⟨.hbm, 642, rfl⟩
abbrev main_v404 : Ref sig .tc := ⟨.hbm, 643, rfl⟩
abbrev main_v405 : Ref sig .tc := ⟨.hbm, 644, rfl⟩
abbrev main_c_155 : Ref sig .tc := ⟨.hbm, 645, rfl⟩
abbrev main_call22_v0 : Ref sig .tc := ⟨.hbm, 646, rfl⟩
abbrev main_v406 : Ref sig .tc := ⟨.hbm, 647, rfl⟩
abbrev main_v407 : Ref sig .tc := ⟨.hbm, 648, rfl⟩
abbrev main_c_156 : Ref sig .tc := ⟨.hbm, 649, rfl⟩
abbrev main_call23_v0 : Ref sig .tc := ⟨.hbm, 650, rfl⟩
abbrev main_v408 : Ref sig .tc := ⟨.hbm, 651, rfl⟩
abbrev main_v409 : Ref sig .tc := ⟨.hbm, 652, rfl⟩
abbrev main_c_157 : Ref sig .tc := ⟨.hbm, 653, rfl⟩
abbrev main_call24_v0 : Ref sig .tc := ⟨.hbm, 654, rfl⟩
abbrev main_v410 : Ref sig .tc := ⟨.hbm, 655, rfl⟩
abbrev main_v411 : Ref sig .tc := ⟨.hbm, 656, rfl⟩
abbrev main_c_158 : Ref sig .tc := ⟨.hbm, 657, rfl⟩
abbrev main_call25_v0 : Ref sig .tc := ⟨.hbm, 658, rfl⟩
abbrev main_v412 : Ref sig .tc := ⟨.hbm, 659, rfl⟩
abbrev main_v413 : Ref sig .tc := ⟨.hbm, 660, rfl⟩
abbrev main_c_159 : Ref sig .tc := ⟨.hbm, 661, rfl⟩
abbrev main_call26_v0 : Ref sig .tc := ⟨.hbm, 662, rfl⟩
abbrev main_v414 : Ref sig .tc := ⟨.hbm, 663, rfl⟩
abbrev main_v415 : Ref sig .tc := ⟨.hbm, 664, rfl⟩
abbrev main_c_160 : Ref sig .tc := ⟨.hbm, 665, rfl⟩
abbrev main_call27_v0 : Ref sig .tc := ⟨.hbm, 666, rfl⟩
abbrev main_v416 : Ref sig .tc := ⟨.hbm, 667, rfl⟩
abbrev main_v417 : Ref sig .tc := ⟨.hbm, 668, rfl⟩
abbrev main_c_161 : Ref sig .tc := ⟨.hbm, 669, rfl⟩
abbrev main_call28_v0 : Ref sig .tc := ⟨.hbm, 670, rfl⟩
abbrev main_v418 : Ref sig .tc := ⟨.hbm, 671, rfl⟩
abbrev main_c_162 : Ref sig .tc := ⟨.hbm, 672, rfl⟩
abbrev main_call29_v0 : Ref sig .tc := ⟨.hbm, 673, rfl⟩
abbrev main_v419 : Ref sig .tc := ⟨.hbm, 674, rfl⟩
abbrev main_v420 : Ref sig .tc := ⟨.hbm, 675, rfl⟩
abbrev main_v421 : Ref sig .tc := ⟨.hbm, 676, rfl⟩
abbrev main_v422 : Ref sig .tc := ⟨.hbm, 677, rfl⟩
abbrev main_c_163 : Ref sig .tc := ⟨.hbm, 678, rfl⟩
abbrev main_call30_v0 : Ref sig .tc := ⟨.hbm, 679, rfl⟩
abbrev main_v423 : Ref sig .tc := ⟨.hbm, 680, rfl⟩
abbrev main_v424 : Ref sig .tc := ⟨.hbm, 681, rfl⟩
abbrev main_c_164 : Ref sig .tc := ⟨.hbm, 682, rfl⟩
abbrev main_call31_v0 : Ref sig .tc := ⟨.hbm, 683, rfl⟩
abbrev main_v425 : Ref sig .tc := ⟨.hbm, 684, rfl⟩
abbrev main_v426 : Ref sig .tc := ⟨.hbm, 685, rfl⟩
abbrev main_c_165 : Ref sig .tc := ⟨.hbm, 686, rfl⟩
abbrev main_call32_v0 : Ref sig .tc := ⟨.hbm, 687, rfl⟩
abbrev main_v427 : Ref sig .tc := ⟨.hbm, 688, rfl⟩
abbrev main_v428 : Ref sig .tc := ⟨.hbm, 689, rfl⟩
abbrev main_c_166 : Ref sig .tc := ⟨.hbm, 690, rfl⟩
abbrev main_call33_v0 : Ref sig .tc := ⟨.hbm, 691, rfl⟩
abbrev main_v429 : Ref sig .tc := ⟨.hbm, 692, rfl⟩
abbrev main_v430 : Ref sig .tc := ⟨.hbm, 693, rfl⟩
abbrev main_c_167 : Ref sig .tc := ⟨.hbm, 694, rfl⟩
abbrev main_call34_v0 : Ref sig .tc := ⟨.hbm, 695, rfl⟩
abbrev main_v431 : Ref sig .tc := ⟨.hbm, 696, rfl⟩
abbrev main_v432 : Ref sig .tc := ⟨.hbm, 697, rfl⟩
abbrev main_c_168 : Ref sig .tc := ⟨.hbm, 698, rfl⟩
abbrev main_call35_v0 : Ref sig .tc := ⟨.hbm, 699, rfl⟩
abbrev main_v433 : Ref sig .tc := ⟨.hbm, 700, rfl⟩
abbrev main_v434 : Ref sig .tc := ⟨.hbm, 701, rfl⟩
abbrev main_c_169 : Ref sig .tc := ⟨.hbm, 702, rfl⟩
abbrev main_call36_v0 : Ref sig .tc := ⟨.hbm, 703, rfl⟩
abbrev main_v435 : Ref sig .tc := ⟨.hbm, 704, rfl⟩
abbrev main_v436 : Ref sig .tc := ⟨.hbm, 705, rfl⟩
abbrev main_c_170 : Ref sig .tc := ⟨.hbm, 706, rfl⟩
abbrev main_call37_v0 : Ref sig .tc := ⟨.hbm, 707, rfl⟩
abbrev main_v437 : Ref sig .tc := ⟨.hbm, 708, rfl⟩
abbrev main_v438 : Ref sig .tc := ⟨.hbm, 709, rfl⟩
abbrev main_c_171 : Ref sig .tc := ⟨.hbm, 710, rfl⟩
abbrev main_call38_v0 : Ref sig .tc := ⟨.hbm, 711, rfl⟩
abbrev main_v439 : Ref sig .tc := ⟨.hbm, 712, rfl⟩
abbrev main_v440 : Ref sig .tc := ⟨.hbm, 713, rfl⟩
abbrev main_c_172 : Ref sig .tc := ⟨.hbm, 714, rfl⟩
abbrev main_call39_v0 : Ref sig .tc := ⟨.hbm, 715, rfl⟩
abbrev main_v441 : Ref sig .tc := ⟨.hbm, 716, rfl⟩
abbrev main_v442 : Ref sig .tc := ⟨.hbm, 717, rfl⟩
abbrev main_c_173 : Ref sig .tc := ⟨.hbm, 718, rfl⟩
abbrev main_call40_v0 : Ref sig .tc := ⟨.hbm, 719, rfl⟩
abbrev main_v443 : Ref sig .tc := ⟨.hbm, 720, rfl⟩
abbrev main_v444 : Ref sig .tc := ⟨.hbm, 721, rfl⟩
abbrev main_c_174 : Ref sig .tc := ⟨.hbm, 722, rfl⟩
abbrev main_call41_v0 : Ref sig .tc := ⟨.hbm, 723, rfl⟩
abbrev main_v445 : Ref sig .tc := ⟨.hbm, 724, rfl⟩
abbrev main_v446 : Ref sig .tc := ⟨.hbm, 725, rfl⟩
abbrev main_c_175 : Ref sig .tc := ⟨.hbm, 726, rfl⟩
abbrev main_call42_v0 : Ref sig .tc := ⟨.hbm, 727, rfl⟩
abbrev main_v447 : Ref sig .tc := ⟨.hbm, 728, rfl⟩
abbrev main_v448 : Ref sig .tc := ⟨.hbm, 729, rfl⟩
abbrev main_c_176 : Ref sig .tc := ⟨.hbm, 730, rfl⟩
abbrev main_call43_v0 : Ref sig .tc := ⟨.hbm, 731, rfl⟩
abbrev main_v449 : Ref sig .tc := ⟨.hbm, 732, rfl⟩
abbrev main_c_177 : Ref sig .tc := ⟨.hbm, 733, rfl⟩
abbrev main_call44_v0 : Ref sig .tc := ⟨.hbm, 734, rfl⟩
abbrev main_v450 : Ref sig .tc := ⟨.hbm, 735, rfl⟩
abbrev main_v451 : Ref sig .tc := ⟨.hbm, 736, rfl⟩
abbrev main_v452 : Ref sig .tc := ⟨.hbm, 737, rfl⟩

abbrev nD : Nat := 1
abbrev τ : Topo := Topo.v7x

variable {F : FTy → Type} [FloatOps F]
-- ==== Proof.Math.lean ====
/-
  THE GRADIENT, CHUNK BY CHUNK, OVER THE REALS. `In` holds the arguments as real functions; each definition below is one
  quantity of chunk `n` and group `g` of the chunked state-space layer's backward pass, indexed by the row `l` of the
  chunk, the lane `j` of the small projections, the head `r` of the group, the column `c = 64 r + p` of the group's
  values and the column `k` of the state. `E` is the gradient of the state a chunk leaves.
-/
module

public import Idealize.ShloMosaic.Lib.Pointwise

@[expose] public section

noncomputable section

namespace Cert.Ssd

/-- The constant the mean square is shifted by, as a real number. -/
def epsR : ℝ := 8796093 * ((2 : ℝ) ^ 43)⁻¹
open Idealize.ShloMosaic in
theorem ofBits_eps : Ideal.ofBits .f32 0x358637BD#32 = ((epsR : ℝ) : EReal) := by
  unfold epsR; simp [Ideal.ofBits, Ideal.ieee]
theorem epsR_pos : 0 < epsR := by
  unfold epsR; positivity

/-- The arguments as real functions of their coordinates. -/
structure In where
  xa : ℕ → ℕ → ℝ
  pj : ℕ → ℕ → ℝ
  al : ℕ → ℝ
  db : ℕ → ℝ
  dk : ℕ → ℝ
  nw : ℕ → ℝ
  sa : ℕ → ℕ → ℕ → ℕ → ℝ
  dm : ℕ → ℕ → ℝ

namespace In

variable (D : In) (n g : ℕ) (E : ℕ → ℕ → ℕ → ℝ)

/-- 1 at a real row of the sequence, 0 at a padding row. -/
def vm (n l : ℕ) : ℝ := if 112 ≤ 64 * n + l then 1 else 0
def xr (l c : ℕ) : ℝ := D.xa (64 * n + l) (512 * g + c)
def br (l k : ℕ) : ℝ := D.xa (64 * n + l) (2048 + 128 * g + k)
def cr (l k : ℕ) : ℝ := D.xa (64 * n + l) (2560 + 128 * g + k)
def pr (l j : ℕ) : ℝ := D.pj (64 * n + l) (13312 + j)
def X (l c : ℕ) : ℝ := D.xr n g l c * vm n l
def B (l k : ℕ) : ℝ := D.br n g l k * vm n l
def C (l k : ℕ) : ℝ := D.cr n g l k * vm n l
def z (l c : ℕ) : ℝ := D.pj (64 * n + l) (8192 + 512 * g + c)
def gy (l c : ℕ) : ℝ := D.dm (64 * n + l) (2048 + 512 * g + c)
def nwg (c : ℕ) : ℝ := D.nw (512 * g + c)
def dkg (r : ℕ) : ℝ := D.dk (8 * g + r)
def S (r p k : ℕ) : ℝ := D.sa n (8 * g + r) p k

/-! ### The step size and the decay -/
def pre (l j : ℕ) : ℝ := D.pr n l j + D.db j
def ea (l j : ℕ) : ℝ := Real.exp (-|D.pre n l j|)
def dt (l j : ℕ) : ℝ := (max (D.pre n l j) 0 + Real.log (1 + D.ea n l j)) * vm n l
def am (j : ℕ) : ℝ := -Real.exp (D.al j)
def a (l j : ℕ) : ℝ := D.dt n l j * D.am j
def cs (l j : ℕ) : ℝ := ∑ s : Fin 64, if s.val ≤ l then D.a n s.val j else 0
def ls (j : ℕ) : ℝ := ∑ s : Fin 64, D.a n s.val j
def ecs (l j : ℕ) : ℝ := Real.exp (D.cs n l j)
def et (l j : ℕ) : ℝ := Real.exp (D.ls n j - D.cs n l j)
def el (j : ℕ) : ℝ := Real.exp (D.ls n j)
def dth (r l : ℕ) : ℝ := D.dt n l (32 + 8 * g + r)
def csh (r l : ℕ) : ℝ := D.cs n l (32 + 8 * g + r)
def ech (r l : ℕ) : ℝ := D.ecs n l (32 + 8 * g + r)
def eth (r l : ℕ) : ℝ := D.et n l (32 + 8 * g + r)
def elh (r : ℕ) : ℝ := D.el n (32 + 8 * g + r)

/-! ### The chunk's forward quantities -/
def L (r l s : ℕ) : ℝ := if s ≤ l then Real.exp (D.csh n g r l - D.csh n g r s) else 0
def xdt (l c : ℕ) : ℝ := D.X n g l c * D.dth n g (c / 64) l
def cb (l s : ℕ) : ℝ := ∑ k : Fin 128, D.C n g l k.val * D.B n g s k.val
def M (r l s : ℕ) : ℝ := D.cb n g l s * D.L n g r l s
def cS (l c : ℕ) : ℝ := ∑ k : Fin 128, D.C n g l k.val * D.S n g (c / 64) (c % 64) k.val
def xet (l c : ℕ) : ℝ := D.xdt n g l c * D.eth n g (c / 64) l
def y0 (l c : ℕ) : ℝ := (∑ s : Fin 64, D.M n g (c / 64) l s.val * D.xdt n g s.val c)
  + D.cS n g l c * D.ech n g (c / 64) l + D.X n g l c * D.dkg g (c / 64)
def ez (l c : ℕ) : ℝ := Real.exp (-D.z n g l c)
def sil (l c : ℕ) : ℝ := D.z n g l c / (1 + D.ez n g l c)
def y1 (l c : ℕ) : ℝ := D.y0 n g l c * D.sil n g l c
def mn (l : ℕ) : ℝ := (∑ c : Fin 512, D.y1 n g l c.val * D.y1 n g l c.val) / 512 + epsR
def rs (l : ℕ) : ℝ := (Real.sqrt (D.mn n g l))⁻¹

/-! ### The gated norm's gradient -/
def dnw (c : ℕ) : ℝ := ∑ l : Fin 64, D.y1 n g l.val c * D.rs n g l.val * D.gy n g l.val c
def w (l c : ℕ) : ℝ := D.gy n g l c * D.nwg g c
def kk (l : ℕ) : ℝ := (∑ c : Fin 512, D.y1 n g l c.val * D.w n g l c.val) * (-(1 / 2) * (D.rs n g l / D.mn n g l)) / 512
def gy1 (l c : ℕ) : ℝ := D.w n g l c * D.rs n g l + D.y1 n g l c * D.kk n g l + D.kk n g l * D.y1 n g l c
def gy0 (l c : ℕ) : ℝ := D.gy1 n g l c * D.sil n g l c
def gz (l c : ℕ) : ℝ := D.y0 n g l c * D.gy1 n g l c / (1 + D.ez n g l c)
  + D.y0 n g l c * D.gy1 n g l c * (1 / ((1 + D.ez n g l c) * (1 + D.ez n g l c))) * D.z n g l c * D.ez n g l c
def gD (r : ℕ) : ℝ := ∑ l : Fin 64, ∑ p : Fin 64, D.X n g l.val (64 * r + p.val) * D.gy0 n g l.val (64 * r + p.val)

/-! ### The state's gradient -/
def eS (r : ℕ) : ℝ := ∑ p : Fin 64, ∑ k : Fin 128, D.S n g r p.val k.val * E r p.val k.val
def G (r p k : ℕ) : ℝ := ∑ l : Fin 64, D.gy0 n g l.val (64 * r + p) * D.ech n g r l.val * D.C n g l.val k
def nS (r p k : ℕ) : ℝ := E r p k * D.elh n g r + D.G n g r p k
def gB1 (l k : ℕ) : ℝ := ∑ c : Fin 512, E (c.val / 64) (c.val % 64) k * D.xet n g l c.val
def u (l c : ℕ) : ℝ := ∑ k : Fin 128, E (c / 64) (c % 64) k.val * D.B n g l k.val
def gx1 (l c : ℕ) : ℝ := D.u n g E l c * D.eth n g (c / 64) l
def get (r l : ℕ) : ℝ := ∑ p : Fin 64, D.xdt n g l (64 * r + p.val) * D.u n g E l (64 * r + p.val)
def geo (r l : ℕ) : ℝ := ∑ p : Fin 64, D.cS n g l (64 * r + p.val) * D.gy0 n g l (64 * r + p.val)

/-! ### The gradients inside the chunk -/
def gxd (l c : ℕ) : ℝ := D.gx1 n g E l c + ∑ q : Fin 64, D.gy0 n g q.val c * D.M n g (c / 64) q.val l
def gm (r l s : ℕ) : ℝ := ∑ p : Fin 64, D.gy0 n g l (64 * r + p.val) * D.xdt n g s (64 * r + p.val)
def gcb (l s : ℕ) : ℝ := ∑ r : Fin 8, D.gm n g r.val l s * D.L n g r.val l s
def gB (l k : ℕ) : ℝ := D.gB1 n g E l k + ∑ q : Fin 64, D.gcb n g q.val l * D.C n g q.val k
def gC (l k : ℕ) : ℝ := (∑ c : Fin 512, D.gy0 n g l c.val * D.ech n g (c.val / 64) l * D.S n g (c.val / 64) (c.val % 64) k)
  + ∑ s : Fin 64, D.gcb n g l s.val * D.B n g s.val k
def gx (l c : ℕ) : ℝ := D.gy0 n g l c * D.dkg g (c / 64) + D.gxd n g E l c * D.dth n g (c / 64) l
def gdt (r l : ℕ) : ℝ := ∑ p : Fin 64, D.X n g l (64 * r + p.val) * D.gxd n g E l (64 * r + p.val)
def gl (r l s : ℕ) : ℝ := if s ≤ l then D.cb n g l s * D.gm n g r l s * Real.exp (D.csh n g r l - D.csh n g r s) else 0
def gch (r l : ℕ) : ℝ := (∑ s : Fin 64, D.gl n g r l s.val) + ∑ q : Fin 64, -D.gl n g r q.val l

/-- A quantity of the group's heads laid over the lanes. -/
def ln (g : ℕ) (f : ℕ → ℝ) (j : ℕ) : ℝ := if 32 + 8 * g ≤ j ∧ j < 40 + 8 * g then f (j - (32 + 8 * g)) else 0
def geL (l j : ℕ) : ℝ := ln g (fun r => D.get n g E r l) j * D.et n l j
def gcs (l j : ℕ) : ℝ := -D.geL n g E l j + ln g (fun r => D.geo n g r l) j * D.ecs n l j + ln g (fun r => D.gch n g r l) j
def gla (j : ℕ) : ℝ := ln g (fun r => D.eS n g E r) j * D.el n j + ∑ l : Fin 64, D.geL n g E l.val j
def ga (l j : ℕ) : ℝ := D.gla n g E j + ∑ s : Fin 64, if l ≤ s.val then D.gcs n g E s.val j else 0
def gal (j : ℕ) : ℝ := -(∑ l : Fin 64, D.dt n l.val j * D.ga n g E l.val j) * Real.exp (D.al j)
def gdl (l j : ℕ) : ℝ := (ln g (fun r => D.gdt n g E r l) j + D.ga n g E l j * D.am j) * vm n l
def gpre (l j : ℕ) : ℝ := D.gdl n g E l j * (if 0 ≤ D.pre n l j then 1 / (1 + D.ea n l j) else D.ea n l j / (1 + D.ea n l j))
def gbi (j : ℕ) : ℝ := ∑ l : Fin 64, D.gpre n g E l.val j

/-! ### The masked results -/
def oX (l c : ℕ) : ℝ := D.gx n g E l c * vm n l
def oB (l k : ℕ) : ℝ := D.gB n g E l k * vm n l
def oC (l k : ℕ) : ℝ := D.gC n g l k * vm n l

/-! ### Sums against the lane and head selections -/
theorem sum_pick {N : ℕ} (f : ℕ → ℝ) (x : ℕ) (h : x < N) : (∑ j : Fin N, if j.val = x then f j.val else 0) = f x := by
  rw [Finset.sum_eq_single (⟨x, h⟩ : Fin N)]
  · simp
  · intro b _ hb
    rw [if_neg fun h' => hb (Fin.ext h')]
  · simp
theorem sum_pick' {N : ℕ} (f : ℕ → ℝ) (x : ℕ) (h : x < N) : (∑ j : Fin N, if x = j.val then f j.val else 0) = f x := by
  rw [← sum_pick f x h]
  exact Finset.sum_congr rfl fun j _ => by simp only [eq_comm]
theorem sum_lane (f : ℕ → ℝ) (j : ℕ) : (∑ r : Fin 8, if j = 32 + 8 * g + r.val then f r.val else 0) = ln g f j := by
  unfold ln
  split
  · next h =>
    rw [← sum_pick f (j - (32 + 8 * g)) (N := 8) (by omega)]
    refine Finset.sum_congr rfl fun r _ => ?_
    have : j = 32 + 8 * g + r.val ↔ r.val = j - (32 + 8 * g) := by omega
    simp only [this]
  · next h =>
    refine Finset.sum_eq_zero fun r _ => if_neg ?_
    have := r.isLt
    omega
theorem sum_head (f : ℕ → ℝ) (r : ℕ) (h : r < 8) :
    (∑ c : Fin 512, if c.val / 64 = r then f c.val else 0) = ∑ p : Fin 64, f (64 * r + p.val) := by
  rw [← Finset.sum_filter]
  refine (Finset.sum_bij (fun (p : Fin 64) _ => (⟨64 * r + p.val, by have := p.isLt; omega⟩ : Fin 512)) ?_ ?_ ?_ ?_).symm
  · intro p _
    have := p.isLt
    simp only [Finset.mem_filter, Finset.mem_univ, true_and]
    omega
  · intro p _ q _ hpq
    have := congrArg Fin.val hpq
    exact Fin.ext (by simp only at this; omega)
  · intro c hc
    have := c.isLt
    simp only [Finset.mem_filter, Finset.mem_univ, true_and] at hc
    exact ⟨⟨c.val - 64 * r, by omega⟩, Finset.mem_univ _, Fin.ext (by simp only; omega)⟩
  · intro p _; rfl

theorem one_add_ea_pos (l j : ℕ) : 0 < 1 + D.ea n l j := by unfold ea; positivity
theorem one_add_ez_pos (l c : ℕ) : 0 < 1 + D.ez n g l c := by unfold ez; positivity
theorem mn_pos (l : ℕ) : 0 < D.mn n g l := by
  have := epsR_pos
  have h : 0 ≤ ∑ c : Fin 512, D.y1 n g l c.val * D.y1 n g l c.val := Finset.sum_nonneg fun c _ => mul_self_nonneg _
  unfold mn; positivity

theorem ln_out (f : ℕ → ℝ) (j : ℕ) (h : ¬(32 + 8 * g ≤ j ∧ j < 40 + 8 * g)) : ln g f j = 0 := if_neg h
theorem gdl_out (l j : ℕ) (h : ¬(32 + 8 * g ≤ j ∧ j < 40 + 8 * g)) : D.gdl n g E l j = 0 := by
  simp only [gdl, ga, gla, gcs, geL, ln_out g _ j h, zero_mul, neg_zero, add_zero, ite_self, Finset.sum_const_zero]
theorem gpre_kernel (hp : ∀ l j, vm n l ≠ 0 → 32 + 8 * g ≤ j → j < 40 + 8 * g → D.pre n l j ≠ 0) (l j : ℕ) :
    (if 0 ≤ D.pre n l j then 0 - D.gdl n g E l j / (1 + D.ea n l j) * D.ea n l j else 0)
      + (0 - if 0 ≤ D.pre n l j then 0 else 0 - D.gdl n g E l j / (1 + D.ea n l j) * D.ea n l j)
      + D.gdl n g E l j * (if 0 < D.pre n l j then 1 else if D.pre n l j = 0 then 1 / 2 else 0) = D.gpre n g E l j := by
  unfold gpre
  have h1 := (D.one_add_ea_pos n l j).ne'
  by_cases h0 : D.gdl n g E l j = 0
  · simp [h0]
  · have hne : D.pre n l j ≠ 0 := by
      by_cases hl : 32 + 8 * g ≤ j ∧ j < 40 + 8 * g
      · refine hp l j (fun hv => h0 ?_) hl.1 hl.2
        simp [gdl, hv]
      · exact absurd (D.gdl_out n g E l j hl) h0
    rcases lt_or_gt_of_ne hne with h | h
    · rw [if_neg (not_le.mpr h), if_neg (not_le.mpr h), if_neg (not_lt.mpr h.le), if_neg hne, if_neg (not_le.mpr h)]
      field_simp
      ring
    · rw [if_pos h.le, if_pos h.le, if_pos h, if_pos h.le]
      field_simp
      ring

end In

end Cert.Ssd
-- ==== Proof.Lift.lean ====
/-
  REAL ARRAYS AS IDEAL VECTORS. Every array of the two programs is, under the precondition, an array of real numbers;
  `T1` … `T4` write the ideal vector whose element at coordinates `(i, j, …)` is the real `f i j …`, for `f` a function
  of natural numbers, so that one formula serves the kernel's blocks and the reference's whole arrays alike.
-/
module

public import Idealize.ShloMosaic.Lib.Pointwise
public import Idealize.ShloMosaic.Lib.WordCmp

@[expose] public section

noncomputable section

namespace Cert.Ssd

open Idealize.ShloMosaic

/-- The ideal vector of a real function of one coordinate. -/
def T1 {a : ℕ} {φ : FTy} (f : ℕ → ℝ) : FVec Ideal ⟨1, ![a]⟩ φ := fun i => ((f (i 0).val : ℝ) : EReal)
/-- Of two coordinates. -/
def T2 {a b : ℕ} {φ : FTy} (f : ℕ → ℕ → ℝ) : FVec Ideal ⟨2, ![a, b]⟩ φ := fun i => ((f (i 0).val (i 1).val : ℝ) : EReal)
/-- Of three coordinates. -/
def T3 {a b c : ℕ} {φ : FTy} (f : ℕ → ℕ → ℕ → ℝ) : FVec Ideal ⟨3, ![a, b, c]⟩ φ :=
  fun i => ((f (i 0).val (i 1).val (i 2).val : ℝ) : EReal)
/-- Of four coordinates. -/
def T4 {a b c d : ℕ} {φ : FTy} (f : ℕ → ℕ → ℕ → ℕ → ℝ) : FVec Ideal ⟨4, ![a, b, c, d]⟩ φ :=
  fun i => ((f (i 0).val (i 1).val (i 2).val (i 3).val : ℝ) : EReal)

/-- The mask of a decidable relation of two coordinates. -/
def B2 {a b : ℕ} (p : ℕ → ℕ → Prop) [∀ x y, Decidable (p x y)] : IVec ⟨2, ![a, b]⟩ 1 :=
  fun i => BitVec.ofBool (decide (p (i 0).val (i 1).val))
/-- Of three coordinates. -/
def B3 {a b c : ℕ} (p : ℕ → ℕ → ℕ → Prop) [∀ x y z, Decidable (p x y z)] : IVec ⟨3, ![a, b, c]⟩ 1 :=
  fun i => BitVec.ofBool (decide (p (i 0).val (i 1).val (i 2).val))

theorem T1_ix {a : ℕ} {φ : FTy} (f : ℕ → ℝ) (i : Fin a) : (T1 f : FVec Ideal ⟨1, ![a]⟩ φ) (ix1 i) = ((f i.val : ℝ) : EReal) := rfl
theorem T2_ix {a b : ℕ} {φ : FTy} (f : ℕ → ℕ → ℝ) (i : Fin a) (j : Fin b) :
    (T2 f : FVec Ideal ⟨2, ![a, b]⟩ φ) (ix2 i j) = ((f i.val j.val : ℝ) : EReal) := rfl
theorem T3_ix {a b c : ℕ} {φ : FTy} (f : ℕ → ℕ → ℕ → ℝ) (i : Fin a) (j : Fin b) (k : Fin c) :
    (T3 f : FVec Ideal ⟨3, ![a, b, c]⟩ φ) (ix3 i j k) = ((f i.val j.val k.val : ℝ) : EReal) := rfl
theorem T4_ix {a b c d : ℕ} {φ : FTy} (f : ℕ → ℕ → ℕ → ℕ → ℝ) (i : Fin a) (j : Fin b) (k : Fin c) (l : Fin d) :
    (T4 f : FVec Ideal ⟨4, ![a, b, c, d]⟩ φ) (ix4 i j k l) = ((f i.val j.val k.val l.val : ℝ) : EReal) := rfl
theorem B2_ix {a b : ℕ} (p : ℕ → ℕ → Prop) [∀ x y, Decidable (p x y)] (i : Fin a) (j : Fin b) :
    (B2 p : IVec ⟨2, ![a, b]⟩ 1) (ix2 i j) = BitVec.ofBool (decide (p i.val j.val)) := rfl
theorem B3_ix {a b c : ℕ} (p : ℕ → ℕ → ℕ → Prop) [∀ x y z, Decidable (p x y z)] (i : Fin a) (j : Fin b) (k : Fin c) :
    (B3 p : IVec ⟨3, ![a, b, c]⟩ 1) (ix3 i j k) = BitVec.ofBool (decide (p i.val j.val k.val)) := rfl

theorem eqT1 {a : ℕ} {φ : FTy} {X : FVec Ideal ⟨1, ![a]⟩ φ} {f : ℕ → ℝ}
    (h : ∀ i : Fin a, X (ix1 i) = ((f i.val : ℝ) : EReal)) : X = T1 f := by
  funext i; rw [eq_ix1 i]; exact h _
theorem eqT2 {a b : ℕ} {φ : FTy} {X : FVec Ideal ⟨2, ![a, b]⟩ φ} {f : ℕ → ℕ → ℝ}
    (h : ∀ (i : Fin a) (j : Fin b), X (ix2 i j) = ((f i.val j.val : ℝ) : EReal)) : X = T2 f := by
  funext i; rw [eq_ix2 i]; exact h _ _
theorem eqT3 {a b c : ℕ} {φ : FTy} {X : FVec Ideal ⟨3, ![a, b, c]⟩ φ} {f : ℕ → ℕ → ℕ → ℝ}
    (h : ∀ (i : Fin a) (j : Fin b) (k : Fin c), X (ix3 i j k) = ((f i.val j.val k.val : ℝ) : EReal)) : X = T3 f := by
  funext i; rw [eq_ix3 i]; exact h _ _ _
theorem eqT4 {a b c d : ℕ} {φ : FTy} {X : FVec Ideal ⟨4, ![a, b, c, d]⟩ φ} {f : ℕ → ℕ → ℕ → ℕ → ℝ}
    (h : ∀ (i : Fin a) (j : Fin b) (k : Fin c) (l : Fin d), X (ix4 i j k l) = ((f i.val j.val k.val l.val : ℝ) : EReal)) :
    X = T4 f := by
  funext i; rw [eq_ix4 i]; exact h _ _ _ _
theorem eqB2 {a b : ℕ} {X : IVec ⟨2, ![a, b]⟩ 1} {p : ℕ → ℕ → Prop} [∀ x y, Decidable (p x y)]
    (h : ∀ (i : Fin a) (j : Fin b), X (ix2 i j) = BitVec.ofBool (decide (p i.val j.val))) : X = B2 p := by
  funext i; rw [eq_ix2 i]; exact h _ _
theorem eqB3 {a b c : ℕ} {X : IVec ⟨3, ![a, b, c]⟩ 1} {p : ℕ → ℕ → ℕ → Prop} [∀ x y z, Decidable (p x y z)]
    (h : ∀ (i : Fin a) (j : Fin b) (k : Fin c), X (ix3 i j k) = BitVec.ofBool (decide (p i.val j.val k.val))) : X = B3 p := by
  funext i; rw [eq_ix3 i]; exact h _ _ _

theorem T1_congr {a : ℕ} {φ : FTy} {f g : ℕ → ℝ} (h : ∀ i, i < a → f i = g i) :
    (T1 f : FVec Ideal ⟨1, ![a]⟩ φ) = T1 g := eqT1 fun i => by rw [T1_ix, h _ i.isLt]
theorem T2_congr {a b : ℕ} {φ : FTy} {f g : ℕ → ℕ → ℝ} (h : ∀ i j, i < a → j < b → f i j = g i j) :
    (T2 f : FVec Ideal ⟨2, ![a, b]⟩ φ) = T2 g := eqT2 fun i j => by rw [T2_ix, h _ _ i.isLt j.isLt]
theorem T3_congr {a b c : ℕ} {φ : FTy} {f g : ℕ → ℕ → ℕ → ℝ} (h : ∀ i j k, i < a → j < b → k < c → f i j k = g i j k) :
    (T3 f : FVec Ideal ⟨3, ![a, b, c]⟩ φ) = T3 g := eqT3 fun i j k => by rw [T3_ix, h _ _ _ i.isLt j.isLt k.isLt]

/-! ## Real arithmetic inside the extended reals -/

theorem c_add (x y : ℝ) : (x : EReal) + (y : EReal) = ((x + y : ℝ) : EReal) := (EReal.coe_add x y).symm
theorem c_mul (x y : ℝ) : (x : EReal) * (y : EReal) = ((x * y : ℝ) : EReal) := (EReal.coe_mul x y).symm
theorem c_sub (x y : ℝ) : (x : EReal) - (y : EReal) = ((x - y : ℝ) : EReal) := (EReal.coe_sub x y).symm
theorem c_neg (x : ℝ) : -(x : EReal) = ((-x : ℝ) : EReal) := (EReal.coe_neg x).symm
theorem c_zero : (0 : EReal) = ((0 : ℝ) : EReal) := EReal.coe_zero.symm
theorem c_one : (1 : EReal) = ((1 : ℝ) : EReal) := EReal.coe_one.symm
theorem c_max (x y : ℝ) : max (x : EReal) (y : EReal) = ((max x y : ℝ) : EReal) := (EReal.coe_strictMono.monotone.map_max).symm
theorem c_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, ← EReal.coe_add]
theorem c_exp (x : ℝ) : Ideal.exp (x : EReal) = ((Real.exp x : ℝ) : EReal) := rfl
theorem c_exp_bot : Ideal.exp ⊥ = ((0 : ℝ) : EReal) := rfl
theorem c_log {x : ℝ} (h : 0 < x) : Ideal.log (x : EReal) = ((Real.log x : ℝ) : EReal) := by
  show (if x ≤ 0 then (⊥ : EReal) else (Real.log x : EReal)) = _
  rw [if_neg (not_le.mpr h)]
theorem c_div {x y : ℝ} (h : y ≠ 0) : Ideal.div (x : EReal) (y : EReal) = ((x / y : ℝ) : EReal) := by
  have hy : (y : EReal) ≠ 0 := by rw [← EReal.coe_zero]; exact fun h' => h (EReal.coe_injective h')
  rw [Ideal.div, if_neg hy, ← EReal.coe_inv, ← EReal.coe_mul, div_eq_mul_inv]
theorem c_rsqrt {x : ℝ} (h : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr h.le), if_neg h.ne']
theorem c_select {α : Type} (p : Prop) [Decidable p] (x y : α) : Scalar.select (BitVec.ofBool (decide p)) x y = if p then x else y := by
  by_cases h : p <;> simp [Scalar.select, h]
theorem c_ite (p : Prop) [Decidable p] (x y : ℝ) : (if p then (x : EReal) else (y : EReal)) = ((if p then x else y : ℝ) : EReal) := by
  split <;> rfl

end Cert.Ssd
-- ==== Proof.Blocks.lean ====
/-
  WHAT THE WINDOWS HOLD. The grid has 264 points, 66 for each of the four groups: point `t` works on group `t / 66` and,
  since the gradients run backwards through the sequence, on chunk `65 - t % 66`. Here are the windows' block indices at
  every point, and what each input window's block holds once the argument arrays are arrays of real numbers.
-/
module

public import proofs.«01_k».proof.Defs
public import proofs.«01_k».proof.Proof.Gen.KernelIdeal.Value
public import proofs.«01_k».proof.Proof.Math
public import proofs.«01_k».proof.Proof.Lift

@[expose] public section

set_option maxRecDepth 16384

noncomputable section

namespace Cert.Ssd

open Idealize.ShloMosaic Idealize.ShloMosaic.TcCoe Idealize.SL.Sem Cert.KernelIdeal Cert.KernelIdeal.Gen
open Idealize.ShloMosaic.Pipeline

variable (m : (ℓ : Loc nD τ sig) → Buf (Elt Ideal) ℓ)

/-- The argument arrays, as real functions of their coordinates. -/
structure Args (c : Dev nD) (D : In) : Prop where
  a0 : (m ((c : Thread nD τ).loc main_arg0) : FVec Ideal S4224x3072 .f32) = (T2 D.xa : FVec Ideal S4224x3072 .f32)
  a1 : (m ((c : Thread nD τ).loc main_arg1) : FVec Ideal S4224x13440 .f32) = (T2 D.pj : FVec Ideal S4224x13440 .f32)
  a2 : (m ((c : Thread nD τ).loc main_arg2) : FVec Ideal S1x128 .f32) = (T2 fun _ j => D.al j : FVec Ideal S1x128 .f32)
  a3 : (m ((c : Thread nD τ).loc main_arg3) : FVec Ideal S1x128 .f32) = (T2 fun _ j => D.db j : FVec Ideal S1x128 .f32)
  a4 : (m ((c : Thread nD τ).loc main_arg4) : FVec Ideal S32x1x1 .f32) = (T3 fun r _ _ => D.dk r : FVec Ideal S32x1x1 .f32)
  a5 : (m ((c : Thread nD τ).loc main_arg5) : FVec Ideal S1x2048 .f32) = (T2 fun _ c => D.nw c : FVec Ideal S1x2048 .f32)
  a6 : (m ((c : Thread nD τ).loc main_arg6) : FVec Ideal S66x32x64x128 .f32) = (T4 D.sa : FVec Ideal S66x32x64x128 .f32)
  a7 : (m ((c : Thread nD τ).loc main_arg7) : FVec Ideal S4224x4096 .f32) = (T2 D.dm : FVec Ideal S4224x4096 .f32)

theorem coord0 : ∀ t : Fin cfg0.N, (grid0.coords t 0).val = t.val / 66 := (by decide +kernel : ∀ t : Fin grid0.N, _)
theorem coord1 : ∀ t : Fin cfg0.N, (grid0.coords t 1).val = t.val % 66 := (by decide +kernel : ∀ t : Fin grid0.N, _)
theorem idx0 : ∀ t : Fin cfg0.N, win0_0.index t 0 = (65 - t.val % 66) ∧ win0_0.index t 1 = (t.val / 66) :=
  (by decide +kernel : ∀ t : Fin grid0.N, _)
theorem idx1 : ∀ t : Fin cfg0.N, win0_1.index t 0 = (65 - t.val % 66) ∧ win0_1.index t 1 = 16 + (t.val / 66) :=
  (by decide +kernel : ∀ t : Fin grid0.N, _)
theorem idx2 : ∀ t : Fin cfg0.N, win0_2.index t 0 = (65 - t.val % 66) ∧ win0_2.index t 1 = 20 + (t.val / 66) :=
  (by decide +kernel : ∀ t : Fin grid0.N, _)
theorem idx3 : ∀ t : Fin cfg0.N, win0_3.index t 0 = (65 - t.val % 66) ∧ win0_3.index t 1 = 16 + (t.val / 66) :=
  (by decide +kernel : ∀ t : Fin grid0.N, _)
theorem idx4 : ∀ t : Fin cfg0.N, win0_4.index t 0 = (65 - t.val % 66) ∧ win0_4.index t 1 = 104 :=
  (by decide +kernel : ∀ t : Fin grid0.N, _)
theorem idx5 : ∀ t : Fin cfg0.N, win0_5.index t 0 = 0 ∧ win0_5.index t 1 = 0 :=
  (by decide +kernel : ∀ t : Fin grid0.N, _)
theorem idx6 : ∀ t : Fin cfg0.N, win0_6.index t 0 = 0 ∧ win0_6.index t 1 = 0 :=
  (by decide +kernel : ∀ t : Fin grid0.N, _)
theorem idx7 : ∀ t : Fin cfg0.N, win0_7.index t 0 = (t.val / 66) ∧ win0_7.index t 1 = 0 ∧ win0_7.index t 2 = 0 :=
  (by decide +kernel : ∀ t : Fin grid0.N, _)
theorem idx8 : ∀ t : Fin cfg0.N, win0_8.index t 0 = 0 ∧ win0_8.index t 1 = (t.val / 66) :=
  (by decide +kernel : ∀ t : Fin grid0.N, _)
theorem idx9 : ∀ t : Fin cfg0.N, win0_9.index t 0 = (65 - t.val % 66) ∧ win0_9.index t 1 = (t.val / 66) ∧ win0_9.index t 2 = 0 ∧ win0_9.index t 3 = 0 :=
  (by decide +kernel : ∀ t : Fin grid0.N, _)
theorem idx10 : ∀ t : Fin cfg0.N, win0_10.index t 0 = (65 - t.val % 66) ∧ win0_10.index t 1 = 4 + (t.val / 66) :=
  (by decide +kernel : ∀ t : Fin grid0.N, _)
theorem idx11 : ∀ t : Fin cfg0.N, win0_11.index t 0 = (65 - t.val % 66) ∧ win0_11.index t 1 = (t.val / 66) :=
  (by decide +kernel : ∀ t : Fin grid0.N, _)
theorem idx12 : ∀ t : Fin cfg0.N, win0_12.index t 0 = (65 - t.val % 66) ∧ win0_12.index t 1 = (t.val / 66) :=
  (by decide +kernel : ∀ t : Fin grid0.N, _)
theorem idx13 : ∀ t : Fin cfg0.N, win0_13.index t 0 = (65 - t.val % 66) ∧ win0_13.index t 1 = (t.val / 66) :=
  (by decide +kernel : ∀ t : Fin grid0.N, _)
theorem idx14 : ∀ t : Fin cfg0.N, win0_14.index t 0 = (65 - t.val % 66) ∧ win0_14.index t 1 = 16 + (t.val / 66) :=
  (by decide +kernel : ∀ t : Fin grid0.N, _)
theorem idx15 : ∀ t : Fin cfg0.N, win0_15.index t 0 = (t.val / 66) ∧ win0_15.index t 1 = (65 - t.val % 66) ∧ win0_15.index t 2 = 0 :=
  (by decide +kernel : ∀ t : Fin grid0.N, _)
theorem idx16 : ∀ t : Fin cfg0.N, win0_16.index t 0 = (t.val / 66) ∧ win0_16.index t 1 = 0 ∧ win0_16.index t 2 = 0 :=
  (by decide +kernel : ∀ t : Fin grid0.N, _)
theorem idx17 : ∀ t : Fin cfg0.N, win0_17.index t 0 = (t.val / 66) ∧ win0_17.index t 1 = 0 ∧ win0_17.index t 2 = 0 :=
  (by decide +kernel : ∀ t : Fin grid0.N, _)
theorem idx18 : ∀ t : Fin cfg0.N, win0_18.index t 0 = (t.val / 66) ∧ win0_18.index t 1 = 0 ∧ win0_18.index t 2 = 0 :=
  (by decide +kernel : ∀ t : Fin grid0.N, _)
theorem idx19 : ∀ t : Fin cfg0.N, win0_19.index t 0 = 0 ∧ win0_19.index t 1 = (t.val / 66) :=
  (by decide +kernel : ∀ t : Fin grid0.N, _)

variable {m} {c : Dev nD} {D : In} (H : Args m c D)
include H

omit H in
theorem T2_at {a b : ℕ} {φ : FTy} (f : ℕ → ℕ → ℝ) (i : Shape.Idx ⟨2, ![a, b]⟩) {x y : ℕ} (hx : (i 0).val = x) (hy : (i 1).val = y) :
    (T2 f : FVec Ideal ⟨2, ![a, b]⟩ φ) i = ((f x y : ℝ) : EReal) := by subst hx hy; rfl
omit H in
theorem T3_at {a b c : ℕ} {φ : FTy} (f : ℕ → ℕ → ℕ → ℝ) (i : Shape.Idx ⟨3, ![a, b, c]⟩) {x y z : ℕ} (hx : (i 0).val = x)
    (hy : (i 1).val = y) (hz : (i 2).val = z) : (T3 f : FVec Ideal ⟨3, ![a, b, c]⟩ φ) i = ((f x y z : ℝ) : EReal) := by
  subst hx hy hz; rfl
omit H in
theorem T4_at {a b c d : ℕ} {φ : FTy} (f : ℕ → ℕ → ℕ → ℕ → ℝ) (i : Shape.Idx ⟨4, ![a, b, c, d]⟩) {x y z w : ℕ} (hx : (i 0).val = x)
    (hy : (i 1).val = y) (hz : (i 2).val = z) (hw : (i 3).val = w) :
    (T4 f : FVec Ideal ⟨4, ![a, b, c, d]⟩ φ) i = ((f x y z w : ℝ) : EReal) := by
  subst hx hy hz hw; rfl

theorem blk0 (t : Fin cfg0.N) : (iblk m c 0 t : FVec Ideal S64x512 .f32) = (T2 (D.xr (65 - t.val % 66) (t.val / 66)) : FVec Ideal S64x512 .f32) := by
  obtain ⟨h0, h1⟩ := idx0 t
  refine eqT2 fun p q => ?_
  unfold iblk
  rw [View.read_apply]
  show V m c main_arg0 _ = _
  rw [V_main_arg0, H.a0]
  refine T2_at D.xa _ (x := 64 * (65 - t.val % 66) + p.val) (y := 512 * (t.val / 66) + q.val) ?_ ?_
  · show win0_0.index t 0 * 64 + 1 * p.val = 64 * (65 - t.val % 66) + p.val
    rw [h0]; omega
  · show win0_0.index t 1 * 512 + 1 * q.val = 512 * (t.val / 66) + q.val
    rw [h1]; omega

theorem blk1 (t : Fin cfg0.N) : (iblk m c 1 t : FVec Ideal S64x128 .f32) = (T2 (D.br (65 - t.val % 66) (t.val / 66)) : FVec Ideal S64x128 .f32) := by
  obtain ⟨h0, h1⟩ := idx1 t
  refine eqT2 fun p q => ?_
  unfold iblk
  rw [View.read_apply]
  show V m c main_arg0 _ = _
  rw [V_main_arg0, H.a0]
  refine T2_at D.xa _ (x := 64 * (65 - t.val % 66) + p.val) (y := 2048 + 128 * (t.val / 66) + q.val) ?_ ?_
  · show win0_1.index t 0 * 64 + 1 * p.val = 64 * (65 - t.val % 66) + p.val
    rw [h0]; omega
  · show win0_1.index t 1 * 128 + 1 * q.val = 2048 + 128 * (t.val / 66) + q.val
    rw [h1]; omega

theorem blk2 (t : Fin cfg0.N) : (iblk m c 2 t : FVec Ideal S64x128 .f32) = (T2 (D.cr (65 - t.val % 66) (t.val / 66)) : FVec Ideal S64x128 .f32) := by
  obtain ⟨h0, h1⟩ := idx2 t
  refine eqT2 fun p q => ?_
  unfold iblk
  rw [View.read_apply]
  show V m c main_arg0 _ = _
  rw [V_main_arg0, H.a0]
  refine T2_at D.xa _ (x := 64 * (65 - t.val % 66) + p.val) (y := 2560 + 128 * (t.val / 66) + q.val) ?_ ?_
  · show win0_2.index t 0 * 64 + 1 * p.val = 64 * (65 - t.val % 66) + p.val
    rw [h0]; omega
  · show win0_2.index t 1 * 128 + 1 * q.val = 2560 + 128 * (t.val / 66) + q.val
    rw [h1]; omega

theorem blk3 (t : Fin cfg0.N) : (X0_3 m c t : FVec Ideal S64x512 .f32) = (T2 (D.z (65 - t.val % 66) (t.val / 66)) : FVec Ideal S64x512 .f32) := by
  obtain ⟨h0, h1⟩ := idx3 t
  refine eqT2 fun p q => ?_
  unfold X0_3 Pipeline.Window.fill
  rw [dif_pos (moved0_3 t _)]
  unfold iblk
  rw [View.read_apply]
  show V m c main_arg1 _ = _
  rw [V_main_arg1, H.a1]
  refine T2_at D.pj _ (x := 64 * (65 - t.val % 66) + p.val) (y := 8192 + 512 * (t.val / 66) + q.val) ?_ ?_
  · show win0_3.index t 0 * 64 + 1 * p.val = 64 * (65 - t.val % 66) + p.val
    rw [h0]; omega
  · show win0_3.index t 1 * 512 + 1 * q.val = 8192 + 512 * (t.val / 66) + q.val
    rw [h1]; omega

theorem blk4 (t : Fin cfg0.N) : (iblk m c 4 t : FVec Ideal S64x128 .f32) = (T2 (D.pr (65 - t.val % 66)) : FVec Ideal S64x128 .f32) := by
  obtain ⟨h0, h1⟩ := idx4 t
  refine eqT2 fun p q => ?_
  unfold iblk
  rw [View.read_apply]
  show V m c main_arg1 _ = _
  rw [V_main_arg1, H.a1]
  refine T2_at D.pj _ (x := 64 * (65 - t.val % 66) + p.val) (y := 13312 + q.val) ?_ ?_
  · show win0_4.index t 0 * 64 + 1 * p.val = 64 * (65 - t.val % 66) + p.val
    rw [h0]; omega
  · show win0_4.index t 1 * 128 + 1 * q.val = 13312 + q.val
    rw [h1]; omega

theorem blk5 (t : Fin cfg0.N) : (iblk m c 5 t : FVec Ideal S1x128 .f32) = (T2 fun _ j => D.al j : FVec Ideal S1x128 .f32) := by
  obtain ⟨h0, h1⟩ := idx5 t
  refine eqT2 fun p q => ?_
  unfold iblk
  rw [View.read_apply]
  show V m c main_arg2 _ = _
  rw [V_main_arg2, H.a2]
  refine T2_at (fun _ j => D.al j) _ (x := p.val) (y := q.val) ?_ ?_
  · show win0_5.index t 0 * 1 + 1 * p.val = p.val
    rw [h0]; omega
  · show win0_5.index t 1 * 128 + 1 * q.val = q.val
    rw [h1]; omega

theorem blk6 (t : Fin cfg0.N) : (iblk m c 6 t : FVec Ideal S1x128 .f32) = (T2 fun _ j => D.db j : FVec Ideal S1x128 .f32) := by
  obtain ⟨h0, h1⟩ := idx6 t
  refine eqT2 fun p q => ?_
  unfold iblk
  rw [View.read_apply]
  show V m c main_arg3 _ = _
  rw [V_main_arg3, H.a3]
  refine T2_at (fun _ j => D.db j) _ (x := p.val) (y := q.val) ?_ ?_
  · show win0_6.index t 0 * 1 + 1 * p.val = p.val
    rw [h0]; omega
  · show win0_6.index t 1 * 128 + 1 * q.val = q.val
    rw [h1]; omega

theorem blk7 (t : Fin cfg0.N) : (iblk m c 7 t : FVec Ideal S8x1x1 .f32) = (T3 fun r _ _ => D.dkg (t.val / 66) r : FVec Ideal S8x1x1 .f32) := by
  obtain ⟨h0, h1, h2⟩ := idx7 t
  refine eqT3 fun p q r => ?_
  unfold iblk
  rw [View.read_apply]
  show V m c main_arg4 _ = _
  rw [V_main_arg4, H.a4]
  refine T3_at (fun r _ _ => D.dk r) _ (x := 8 * (t.val / 66) + p.val) (y := q.val) (z := r.val) ?_ ?_ ?_
  · show win0_7.index t 0 * 8 + 1 * p.val = 8 * (t.val / 66) + p.val
    rw [h0]; omega
  · show win0_7.index t 1 * 1 + 1 * q.val = q.val
    rw [h1]; omega
  · show win0_7.index t 2 * 1 + 1 * r.val = r.val
    rw [h2]; omega

theorem blk8 (t : Fin cfg0.N) : (iblk m c 8 t : FVec Ideal S1x512 .f32) = (T2 fun _ c => D.nwg (t.val / 66) c : FVec Ideal S1x512 .f32) := by
  obtain ⟨h0, h1⟩ := idx8 t
  refine eqT2 fun p q => ?_
  unfold iblk
  rw [View.read_apply]
  show V m c main_arg5 _ = _
  rw [V_main_arg5, H.a5]
  refine T2_at (fun _ c => D.nw c) _ (x := p.val) (y := 512 * (t.val / 66) + q.val) ?_ ?_
  · show win0_8.index t 0 * 1 + 1 * p.val = p.val
    rw [h0]; omega
  · show win0_8.index t 1 * 512 + 1 * q.val = 512 * (t.val / 66) + q.val
    rw [h1]; omega

theorem blk9 (t : Fin cfg0.N) : (iblk m c 9 t : FVec Ideal S1x8x64x128 .f32) = (T4 fun _ r p k => D.S (65 - t.val % 66) (t.val / 66) r p k : FVec Ideal S1x8x64x128 .f32) := by
  obtain ⟨h0, h1, h2, h3⟩ := idx9 t
  refine eqT4 fun p q r s => ?_
  unfold iblk
  rw [View.read_apply]
  show V m c main_arg6 _ = _
  rw [V_main_arg6, H.a6]
  have hp : p.val = 0 := by omega
  refine (T4_at D.sa _ (x := (65 - t.val % 66) + p.val) (y := 8 * (t.val / 66) + q.val) (z := r.val) (w := s.val) ?_ ?_ ?_ ?_).trans (by rw [hp]; rfl)
  · show win0_9.index t 0 * 1 + 1 * p.val = (65 - t.val % 66) + p.val
    rw [h0]; omega
  · show win0_9.index t 1 * 8 + 1 * q.val = 8 * (t.val / 66) + q.val
    rw [h1]; omega
  · show win0_9.index t 2 * 64 + 1 * r.val = r.val
    rw [h2]; omega
  · show win0_9.index t 3 * 128 + 1 * s.val = s.val
    rw [h3]; omega

theorem blk10 (t : Fin cfg0.N) : (iblk m c 10 t : FVec Ideal S64x512 .f32) = (T2 (D.gy (65 - t.val % 66) (t.val / 66)) : FVec Ideal S64x512 .f32) := by
  obtain ⟨h0, h1⟩ := idx10 t
  refine eqT2 fun p q => ?_
  unfold iblk
  rw [View.read_apply]
  show V m c main_arg7 _ = _
  rw [V_main_arg7, H.a7]
  refine T2_at D.dm _ (x := 64 * (65 - t.val % 66) + p.val) (y := 2048 + 512 * (t.val / 66) + q.val) ?_ ?_
  · show win0_10.index t 0 * 64 + 1 * p.val = 64 * (65 - t.val % 66) + p.val
    rw [h0]; omega
  · show win0_10.index t 1 * 512 + 1 * q.val = 2048 + 512 * (t.val / 66) + q.val
    rw [h1]; omega

end Cert.Ssd
-- ==== Proof.PayA.lean ====
module

public import proofs.«01_k».proof.Proof.Lift
public import proofs.«01_k».proof.Proof.Math
public import proofs.«01_k».proof.Proof.Gen.KernelIdeal.Skeleton

@[expose] public section

set_option maxRecDepth 16384

noncomputable section

namespace Cert.Ssd

open Idealize.ShloMosaic Idealize.ShloMosaic.WordCmp Cert.KernelIdeal Cert.KernelIdeal.Gen

variable (D : In) (n g : ℕ) (E : ℕ → ℕ → ℕ → ℝ)

theorem ofBits_512 : Ideal.ofBits .f32 0x44000000#32 = ((512 : ℝ) : EReal) := by
  simp [Ideal.ofBits, Ideal.ieee]; rw [← EReal.coe_mul]; norm_num
theorem ofBits_half : Ideal.ofBits .f32 0x3F000000#32 = ((1 / 2 : ℝ) : EReal) := by
  simp [Ideal.ofBits, Ideal.ieee]; rw [← EReal.coe_mul]; norm_num
theorem ofBits_neg_half : Ideal.ofBits .f32 0xBF000000#32 = ((-(1 / 2) : ℝ) : EReal) := by
  simp [Ideal.ofBits, Ideal.ieee]; rw [← EReal.coe_mul]; norm_num
theorem c_abs (x : ℝ) : FloatOps.absf (F := Ideal) (φ := .f32) (x : EReal) = ((|x| : ℝ) : EReal) := by
  rw [abs_eq_max_neg]
  show max (x : EReal) (-(x : EReal)) = _
  rw [← EReal.coe_neg, c_max]

theorem cmp_oeq (x y : ℝ) : FloatOps.cmpf (F := Ideal) (φ := .f32) .oeq (x : EReal) (y : EReal) = BitVec.ofBool (decide (x = y)) := by
  show BitVec.ofBool (decide ((x : EReal) = (y : EReal))) = _
  simp only [EReal.coe_eq_coe_iff]
theorem cmp_ogt (x y : ℝ) : FloatOps.cmpf (F := Ideal) (φ := .f32) .ogt (x : EReal) (y : EReal) = BitVec.ofBool (decide (y < x)) := by
  show BitVec.ofBool (decide ((y : EReal) < (x : EReal))) = _
  simp only [EReal.coe_lt_coe_iff]
theorem cmp_oge (x y : ℝ) : FloatOps.cmpf (F := Ideal) (φ := .f32) .oge (x : EReal) (y : EReal) = BitVec.ofBool (decide (y ≤ x)) := by
  show BitVec.ofBool (decide ((y : EReal) ≤ (x : EReal))) = _
  simp only [EReal.coe_le_coe_iff]

theorem row_word (m : Fin 66) : Scalar.muli (Scalar.subi 65#32 (BitVec.ofNat 32 m.val)) 64#32 = BitVec.ofNat 32 (64 * (65 - m.val)) := by
  revert m; decide
theorem lane_word (m : Fin 4) : Scalar.addi 32#32 (Scalar.muli (BitVec.ofNat 32 m.val) 8#32) = BitVec.ofNat 32 (32 + 8 * m.val) := by
  revert m; decide
theorem pay7 (i : grid0.Coords) (hi : (i 1).val = 65 - n) (hn : n < 66) : k0_pay7 (F := Ideal) i = T3 fun _ l _ => In.vm n l := by
  refine eqT3 fun a b c => ?_
  have hb := b.isLt
  have hw := row_word ⟨65 - n, by omega⟩
  simp only [Nat.sub_sub_self (show n ≤ 65 by omega)] at hw
  pointwise [k0_pay7]
  rw [show (i 1).val = 65 - n from hi, hw, addi_ofNat, cmpi_sge_ofNat (by omega) (by omega)]
  simp only [c_select, c_zero, c_one, c_ite]
  rfl

theorem pay8 : k0_pay8 (F := Ideal) ((T4 fun _ r p k => D.S n g r p k) : FVec Ideal S1x8x64x128 .f32) = T3 (D.S n g) := by
  refine eqT3 fun a b c => ?_
  have ha := a.isLt
  have hb := b.isLt
  have hc := c.isLt
  pointwise [k0_pay8, T1_ix, T2_ix, T3_ix, T4_ix, B2_ix, B3_ix]
  all_goals first
    | done
    | (rfl)

theorem pay9 : k0_pay9  = B3 (fun _ l s => s ≤ l) := by
  refine eqB3 fun a b c => ?_
  have ha := a.isLt
  have hb := b.isLt
  have hc := c.isLt
  pointwise [k0_pay9, T1_ix, T2_ix, T3_ix, T4_ix, B2_ix, B3_ix]
  rw [cmpi_sge_ofNat (by omega) (by omega)]
  all_goals first
    | done
    | (try rfl)

theorem pay10 : k0_pay10  = B3 (fun _ l s => l = s) := by
  refine eqB3 fun a b c => ?_
  have ha := a.isLt
  have hb := b.isLt
  have hc := c.isLt
  pointwise [k0_pay10, T1_ix, T2_ix, T3_ix, T4_ix, B2_ix, B3_ix]
  rw [cmpi_eq_ofNat (by omega) (by omega)]
  all_goals first
    | done
    | (try rfl)

theorem pay11 : k0_pay11 (F := Ideal) ((T3 fun _ l _ => In.vm n l) : FVec Ideal S1x64x1 .f32) = T2 (fun l _ => In.vm n l) := by
  refine eqT2 fun a b => ?_
  have ha := a.isLt
  have hb := b.isLt
  pointwise [k0_pay11, T1_ix, T2_ix, T3_ix, T4_ix, B2_ix, B3_ix]
  all_goals first
    | done
    | (try rfl)

theorem pay12 : k0_pay12 (F := Ideal) ((T3 fun _ l _ => In.vm n l) : FVec Ideal S1x64x1 .f32) ((T2 (D.xr n g)) : FVec Ideal S64x512 .f32) = T2 (D.X n g) := by
  refine eqT2 fun a b => ?_
  have ha := a.isLt
  have hb := b.isLt
  pointwise [k0_pay12, pay11, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay13 : k0_pay13 (F := Ideal) ((T3 fun _ l _ => In.vm n l) : FVec Ideal S1x64x1 .f32) ((T2 (D.br n g)) : FVec Ideal S64x128 .f32) = T2 (D.B n g) := by
  refine eqT2 fun a b => ?_
  have ha := a.isLt
  have hb := b.isLt
  pointwise [k0_pay13, pay11, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay14 : k0_pay14 (F := Ideal) ((T3 fun _ l _ => In.vm n l) : FVec Ideal S1x64x1 .f32) ((T2 (D.cr n g)) : FVec Ideal S64x128 .f32) = T2 (D.C n g) := by
  refine eqT2 fun a b => ?_
  have ha := a.isLt
  have hb := b.isLt
  pointwise [k0_pay14, pay11, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay15 : k0_pay15 (F := Ideal) (T2 (D.pr n) : FVec Ideal S64x128 .f32) (T2 (fun _ j => D.db j) : FVec Ideal S1x128 .f32) = T2 (D.pre n) := by
  refine eqT2 fun a b => ?_
  have ha := a.isLt
  have hb := b.isLt
  pointwise [k0_pay15, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay16 : k0_pay16 (F := Ideal) (T2 (D.pr n) : FVec Ideal S64x128 .f32) (T2 (fun _ j => D.db j) : FVec Ideal S1x128 .f32) = T2 (fun l j => if 0 < D.pre n l j then 1 else if D.pre n l j = 0 then 1 / 2 else 0) := by
  refine eqT2 fun a b => ?_
  have ha := a.isLt
  have hb := b.isLt
  pointwise [k0_pay16, pay15, T1_ix, T2_ix, T3_ix, T4_ix, B2_ix, B3_ix]
  simp only [c_zero, cmp_ogt, cmp_oeq, ofBits_half]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay17 : k0_pay17 (F := Ideal) (T2 (D.pr n) : FVec Ideal S64x128 .f32) (T2 (fun _ j => D.db j) : FVec Ideal S1x128 .f32) = B2 (fun l j => 0 ≤ D.pre n l j) := by
  refine eqB2 fun a b => ?_
  have ha := a.isLt
  have hb := b.isLt
  pointwise [k0_pay17, pay15, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay18 : k0_pay18 (F := Ideal) (T2 (D.pr n) : FVec Ideal S64x128 .f32) (T2 (fun _ j => D.db j) : FVec Ideal S1x128 .f32) = T2 (D.ea n) := by
  refine eqT2 fun a b => ?_
  have ha := a.isLt
  have hb := b.isLt
  pointwise [k0_pay18, pay15, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (simp only [zero_sub]; rfl)

theorem pay19 : k0_pay19 (F := Ideal) (T2 (D.pr n) : FVec Ideal S64x128 .f32) (T2 (fun _ j => D.db j) : FVec Ideal S1x128 .f32) = T2 (fun l j => 1 + D.ea n l j) := by
  refine eqT2 fun a b => ?_
  have ha := a.isLt
  have hb := b.isLt
  pointwise [k0_pay19, pay18, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay20 : k0_pay20 (F := Ideal) ((T3 fun _ l _ => In.vm n l) : FVec Ideal S1x64x1 .f32) (T2 (D.pr n) : FVec Ideal S64x128 .f32) (T2 (fun _ j => D.db j) : FVec Ideal S1x128 .f32) = T2 (D.dt n) := by
  refine eqT2 fun a b => ?_
  have ha := a.isLt
  have hb := b.isLt
  pointwise [k0_pay20, pay15, pay19, pay11, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff, c_log (D.one_add_ea_pos n _ _)]
  all_goals first
    | done
    | (rfl)

theorem pay21 : k0_pay21 (F := Ideal) (T2 (fun _ j => D.al j) : FVec Ideal S1x128 .f32) = T2 (fun _ j => Real.exp (D.al j)) := by
  refine eqT2 fun a b => ?_
  have ha := a.isLt
  have hb := b.isLt
  pointwise [k0_pay21, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay22 : k0_pay22 (F := Ideal) (T2 (fun _ j => D.al j) : FVec Ideal S1x128 .f32) = T2 (fun _ j => D.am j) := by
  refine eqT2 fun a b => ?_
  have ha := a.isLt
  have hb := b.isLt
  pointwise [k0_pay22, pay21, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (simp only [zero_sub]; rfl)

theorem pay23 : k0_pay23 (F := Ideal) ((T3 fun _ l _ => In.vm n l) : FVec Ideal S1x64x1 .f32) (T2 (D.pr n) : FVec Ideal S64x128 .f32) (T2 (fun _ j => D.al j) : FVec Ideal S1x128 .f32) (T2 (fun _ j => D.db j) : FVec Ideal S1x128 .f32) = T2 (D.a n) := by
  refine eqT2 fun a b => ?_
  have ha := a.isLt
  have hb := b.isLt
  pointwise [k0_pay23, pay20, pay22, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay24 : k0_pay24  = B2 (fun l s => s ≤ l) := by
  refine eqB2 fun a b => ?_
  have ha := a.isLt
  have hb := b.isLt
  pointwise [k0_pay24, T1_ix, T2_ix, T3_ix, T4_ix, B2_ix, B3_ix]
  rw [cmpi_sge_ofNat (by omega) (by omega)]
  all_goals first
    | done
    | (try rfl)

theorem pay25 : k0_pay25 (F := Ideal)  = T2 (fun _ _ => 1) := by
  refine eqT2 fun a b => ?_
  have ha := a.isLt
  have hb := b.isLt
  pointwise [k0_pay25, T1_ix, T2_ix, T3_ix, T4_ix, B2_ix, B3_ix]
  all_goals first
    | done
    | (simp only [c_one])

theorem pay26 : k0_pay26 (F := Ideal) ((T2 (D.a n)) : FVec Ideal S64x128 .f32) (B2 fun l s => s ≤ l) ((0 : ℝ) : EReal) ((T2 fun _ _ => 1) : FVec Ideal S64x64 .f32) = T2 (D.cs n) := by
  refine eqT2 fun a b => ?_
  have ha := a.isLt
  have hb := b.isLt
  pointwise [k0_pay26, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (simp only [sub_self, mul_zero, zero_mul, ite_self, Finset.sum_const_zero, add_zero, ite_mul, one_mul]; rfl)

theorem pay27 : k0_pay27 (F := Ideal) ((T2 (D.a n)) : FVec Ideal S64x128 .f32) = T2 (fun _ j => D.ls n j) := by
  refine eqT2 fun a b => ?_
  have ha := a.isLt
  have hb := b.isLt
  pointwise [k0_pay27, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay28 (hg : g < 4) : k0_pay28 (BitVec.ofNat 32 (32 + 8 * g)) = B3 (fun r _ j => j = 32 + 8 * g + r) := by
  refine eqB3 fun a b c => ?_
  have ha := a.isLt
  have hb := b.isLt
  have hc := c.isLt
  pointwise [k0_pay28, T1_ix, T2_ix, T3_ix, T4_ix, B2_ix, B3_ix]
  rw [addi_ofNat, cmpi_eq_ofNat (by omega) (by omega)]
  all_goals first
    | done
    | (try rfl)

theorem pay30 (hg : g < 4) : k0_pay30 (BitVec.ofNat 32 (32 + 8 * g)) = B3 (fun r _ j => j = 32 + 8 * g + r) := by
  refine eqB3 fun a b c => ?_
  have ha := a.isLt
  have hb := b.isLt
  have hc := c.isLt
  pointwise [k0_pay30, T1_ix, T2_ix, T3_ix, T4_ix, B2_ix, B3_ix]
  rw [addi_ofNat, cmpi_eq_ofNat (by omega) (by omega)]
  all_goals first
    | done
    | (try rfl)

theorem pay38 (hg : g < 4) : k0_pay38 (BitVec.ofNat 32 (32 + 8 * g)) = B3 (fun r _ j => j = 32 + 8 * g + r) := by
  refine eqB3 fun a b c => ?_
  have ha := a.isLt
  have hb := b.isLt
  have hc := c.isLt
  pointwise [k0_pay38, T1_ix, T2_ix, T3_ix, T4_ix, B2_ix, B3_ix]
  rw [addi_ofNat, cmpi_eq_ofNat (by omega) (by omega)]
  all_goals first
    | done
    | (try rfl)

theorem pay33 (hg : g < 4) : k0_pay33 (BitVec.ofNat 32 (32 + 8 * g)) = B3 (fun r _ j => j = 32 + 8 * g + r) := by
  refine eqB3 fun a b c => ?_
  have ha := a.isLt
  have hb := b.isLt
  have hc := c.isLt
  pointwise [k0_pay33, T1_ix, T2_ix, T3_ix, T4_ix, B2_ix, B3_ix]
  rw [addi_ofNat, cmpi_eq_ofNat (by omega) (by omega)]
  all_goals first
    | done
    | (try rfl)

theorem pay41 (hg : g < 4) : k0_pay41 (BitVec.ofNat 32 (32 + 8 * g)) = B3 (fun r _ j => j = 32 + 8 * g + r) := by
  refine eqB3 fun a b c => ?_
  have ha := a.isLt
  have hb := b.isLt
  have hc := c.isLt
  pointwise [k0_pay41, T1_ix, T2_ix, T3_ix, T4_ix, B2_ix, B3_ix]
  rw [addi_ofNat, cmpi_eq_ofNat (by omega) (by omega)]
  all_goals first
    | done
    | (try rfl)

theorem pay29 (hg : g < 4) : k0_pay29 (F := Ideal) (BitVec.ofNat 32 (32 + 8 * g)) ((T2 (D.dt n)) : FVec Ideal S64x128 .f32) = T3 (fun r l _ => D.dth n g r l) := by
  refine eqT3 fun a b c => ?_
  have ha := a.isLt
  have hb := b.isLt
  have hc := c.isLt
  pointwise [k0_pay29, pay28 g hg, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (congr 1; exact In.sum_pick (fun j => D.dt n b.val j) _ (by omega))

theorem pay31 (hg : g < 4) : k0_pay31 (F := Ideal) (BitVec.ofNat 32 (32 + 8 * g)) ((T2 (D.a n)) : FVec Ideal S64x128 .f32) (B2 fun l s => s ≤ l) ((0 : ℝ) : EReal) ((T2 fun _ _ => 1) : FVec Ideal S64x64 .f32) = T3 (fun r l _ => D.csh n g r l) := by
  refine eqT3 fun a b c => ?_
  have ha := a.isLt
  have hb := b.isLt
  have hc := c.isLt
  pointwise [k0_pay31, pay30 g hg, pay26, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (congr 1; exact In.sum_pick (fun j => D.cs n b.val j) _ (by omega))

theorem pay32 : k0_pay32 (F := Ideal) ((T2 (D.a n)) : FVec Ideal S64x128 .f32) (B2 fun l s => s ≤ l) ((0 : ℝ) : EReal) ((T2 fun _ _ => 1) : FVec Ideal S64x64 .f32) = T2 (D.ecs n) := by
  refine eqT2 fun a b => ?_
  have ha := a.isLt
  have hb := b.isLt
  pointwise [k0_pay32, pay26, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay34 : k0_pay34 (F := Ideal) ((T2 (D.a n)) : FVec Ideal S64x128 .f32) (B2 fun l s => s ≤ l) ((0 : ℝ) : EReal) ((T2 fun _ _ => 1) : FVec Ideal S64x64 .f32) = T3 (fun _ l j => D.ecs n l j) := by
  refine eqT3 fun a b c => ?_
  have ha := a.isLt
  have hb := b.isLt
  have hc := c.isLt
  pointwise [k0_pay34, pay32, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay35 : k0_pay35 (B3 fun r _ j => j = 32 + 8 * g + r) = B3 (fun r _ j => j = 32 + 8 * g + r) := by
  refine eqB3 fun a b c => ?_
  have ha := a.isLt
  have hb := b.isLt
  have hc := c.isLt
  pointwise [k0_pay35, T1_ix, T2_ix, T3_ix, T4_ix, B2_ix, B3_ix]
  all_goals first
    | done
    | (rfl)

theorem pay36 (hg : g < 4) : k0_pay36 (F := Ideal) (B3 fun r _ j => j = 32 + 8 * g + r) ((T3 fun _ l j => D.ecs n l j) : FVec Ideal S1x64x128 .f32) = T3 (fun r l _ => D.ech n g r l) := by
  refine eqT3 fun a b c => ?_
  have ha := a.isLt
  have hb := b.isLt
  have hc := c.isLt
  pointwise [k0_pay36, pay35, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (congr 1; exact In.sum_pick (fun j => D.ecs n b.val j) _ (by omega))

theorem pay37 : k0_pay37 (F := Ideal) ((T2 (D.cs n)) : FVec Ideal S64x128 .f32) ((T2 fun _ j => D.ls n j) : FVec Ideal S1x128 .f32) = T2 (D.et n) := by
  refine eqT2 fun a b => ?_
  have ha := a.isLt
  have hb := b.isLt
  pointwise [k0_pay37, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay39 (hg : g < 4) : k0_pay39 (F := Ideal) (BitVec.ofNat 32 (32 + 8 * g)) ((T2 (D.cs n)) : FVec Ideal S64x128 .f32) ((T2 fun _ j => D.ls n j) : FVec Ideal S1x128 .f32) = T3 (fun r l _ => D.eth n g r l) := by
  refine eqT3 fun a b c => ?_
  have ha := a.isLt
  have hb := b.isLt
  have hc := c.isLt
  pointwise [k0_pay39, pay38 g hg, pay37, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (congr 1; exact In.sum_pick (fun j => D.et n b.val j) _ (by omega))

theorem pay40 : k0_pay40 (F := Ideal) ((T2 fun _ j => D.ls n j) : FVec Ideal S1x128 .f32) = T2 (fun _ j => D.el n j) := by
  refine eqT2 fun a b => ?_
  have ha := a.isLt
  have hb := b.isLt
  pointwise [k0_pay40, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay42 (hg : g < 4) : k0_pay42 (F := Ideal) (BitVec.ofNat 32 (32 + 8 * g)) ((T2 fun _ j => D.ls n j) : FVec Ideal S1x128 .f32) = T3 (fun r _ _ => D.elh n g r) := by
  refine eqT3 fun a b c => ?_
  have ha := a.isLt
  have hb := b.isLt
  have hc := c.isLt
  pointwise [k0_pay42, pay41 g hg, pay40, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (congr 1; exact In.sum_pick (fun j => D.el n j) _ (by omega))

end Cert.Ssd
-- ==== Proof.PayB.lean ====
module

public import proofs.«01_k».proof.Proof.PayA
public import proofs.«01_k».proof.Proof.Math
public import proofs.«01_k».proof.Proof.Gen.KernelIdeal.Skeleton

@[expose] public section

set_option maxRecDepth 16384

noncomputable section

namespace Cert.Ssd

open Idealize.ShloMosaic Idealize.ShloMosaic.WordCmp Cert.KernelIdeal Cert.KernelIdeal.Gen

variable (D : In) (n g : ℕ) (E : ℕ → ℕ → ℕ → ℝ)

theorem m64 (x : ℕ) : x * 64 = 64 * x := Nat.mul_comm x 64
theorem head_word : ∀ c : Fin 512, Scalar.select
      (IntOp.andi
        (IntOp.cmpi CmpIPredicate.ne
          (IntOp.subi (BitVec.setWidth 32 (IntOp.cmpi CmpIPredicate.sgt (BitVec.ofNat 32 c.val) 0#32))
            (BitVec.setWidth 32 (IntOp.cmpi CmpIPredicate.slt (BitVec.ofNat 32 c.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 c.val) 64#32) 0#32))
      (IntOp.subi (IntOp.divsi ArithUnit.vector (BitVec.ofNat 32 c.val) 64#32) 1#32)
      (IntOp.divsi ArithUnit.vector (BitVec.ofNat 32 c.val) 64#32) = BitVec.ofNat 32 (c.val / 64) := by
  decide +kernel

theorem pay43 : k0_pay43 (B3 fun _ l s => l = s) = B3 (fun _ l s => l = s) := by
  refine eqB3 fun a b c => ?_
  have ha := a.isLt
  have hb := b.isLt
  have hc := c.isLt
  pointwise [k0_pay43, T1_ix, T2_ix, T3_ix, T4_ix, B2_ix, B3_ix]
  all_goals first
    | done
    | (rfl)

theorem pay44 : k0_pay44 (F := Ideal) (B3 fun _ l s => l = s) ((T3 fun r l _ => D.csh n g r l) : FVec Ideal S8x64x1 .f32) = T3 (fun r l s => D.csh n g r l - D.csh n g r s) := by
  refine eqT3 fun a b c => ?_
  have ha := a.isLt
  have hb := b.isLt
  have hc := c.isLt
  pointwise [k0_pay44, pay43, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rw [In.sum_pick (fun s => D.csh n g a.val s) _ hc])

theorem pay45 : k0_pay45 (B3 fun _ l s => s ≤ l) = B3 (fun _ l s => s ≤ l) := by
  refine eqB3 fun a b c => ?_
  have ha := a.isLt
  have hb := b.isLt
  have hc := c.isLt
  pointwise [k0_pay45, T1_ix, T2_ix, T3_ix, T4_ix, B2_ix, B3_ix]
  all_goals first
    | done
    | (rfl)

theorem pay46 : k0_pay46 (F := Ideal) ((T3 fun r l s => D.csh n g r l - D.csh n g r s) : FVec Ideal S8x64x64 .f32) ((0 : ℝ) : EReal) (B3 fun _ l s => s ≤ l) = T3 (fun r l s => Real.exp (if s ≤ l then D.csh n g r l - D.csh n g r s else 0)) := by
  refine eqT3 fun a b c => ?_
  have ha := a.isLt
  have hb := b.isLt
  have hc := c.isLt
  pointwise [k0_pay46, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay47 : k0_pay47 (B3 fun _ l s => s ≤ l) = B3 (fun _ l s => s ≤ l) := by
  refine eqB3 fun a b c => ?_
  have ha := a.isLt
  have hb := b.isLt
  have hc := c.isLt
  pointwise [k0_pay47, T1_ix, T2_ix, T3_ix, T4_ix, B2_ix, B3_ix]
  all_goals first
    | done
    | (rfl)

theorem pay48 : k0_pay48 (F := Ideal) (B3 fun _ l s => s ≤ l) ((T3 fun r l s => D.csh n g r l - D.csh n g r s) : FVec Ideal S8x64x64 .f32) ((0 : ℝ) : EReal) (B3 fun _ l s => s ≤ l) = T3 (D.L n g) := by
  refine eqT3 fun a b c => ?_
  have ha := a.isLt
  have hb := b.isLt
  have hc := c.isLt
  pointwise [k0_pay48, pay46, pay47, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (unfold In.L; split <;> rfl)

theorem pay49 : k0_pay49  = B3 (fun r _ c => c / 64 = r) := by
  refine eqB3 fun a b c => ?_
  have ha := a.isLt
  have hb := b.isLt
  have hc := c.isLt
  pointwise [k0_pay49, T1_ix, T2_ix, T3_ix, T4_ix, B2_ix, B3_ix]
  rw [head_word, cmpi_eq_ofNat (by omega) (by omega)]
  all_goals first
    | done
    | (rfl)

theorem pay50 : k0_pay50  = B3 (fun r _ c => c / 64 = r) := by
  refine eqB3 fun a b c => ?_
  have ha := a.isLt
  have hb := b.isLt
  have hc := c.isLt
  pointwise [k0_pay50, pay49, T1_ix, T2_ix, T3_ix, T4_ix, B2_ix, B3_ix]
  all_goals first
    | done
    | (rfl)

theorem pay51 : k0_pay51 (F := Ideal) ((T3 fun r l _ => D.dth n g r l) : FVec Ideal S8x64x1 .f32) = T2 (fun l c => D.dth n g (c / 64) l) := by
  refine eqT2 fun a b => ?_
  have ha := a.isLt
  have hb := b.isLt
  pointwise [k0_pay51, pay50, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (exact In.sum_pick' (fun i => D.dth n g i a.val) _ (by omega))

theorem pay52 : k0_pay52 (F := Ideal) ((T2 (D.X n g)) : FVec Ideal S64x512 .f32) ((T3 fun r l _ => D.dth n g r l) : FVec Ideal S8x64x1 .f32) = T2 (D.xdt n g) := by
  refine eqT2 fun a b => ?_
  have ha := a.isLt
  have hb := b.isLt
  pointwise [k0_pay52, pay51, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay53 : k0_pay53 (F := Ideal) ((T2 (D.C n g)) : FVec Ideal S64x128 .f32) = T2 (D.C n g) := by
  refine eqT2 fun a b => ?_
  have ha := a.isLt
  have hb := b.isLt
  pointwise [k0_pay53, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay54 : k0_pay54 (F := Ideal) ((T2 (D.B n g)) : FVec Ideal S64x128 .f32) = T2 (D.B n g) := by
  refine eqT2 fun a b => ?_
  have ha := a.isLt
  have hb := b.isLt
  pointwise [k0_pay54, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay55 : k0_pay55 (F := Ideal) ((T2 (D.B n g)) : FVec Ideal S64x128 .f32) ((T2 (D.C n g)) : FVec Ideal S64x128 .f32) = T3 (fun _ l s => D.cb n g l s) := by
  refine eqT3 fun a b c => ?_
  have ha := a.isLt
  have hb := b.isLt
  have hc := c.isLt
  pointwise [k0_pay55, pay53, pay54, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay56 : k0_pay56 (F := Ideal) (B3 fun _ l s => s ≤ l) ((T2 (D.B n g)) : FVec Ideal S64x128 .f32) ((T2 (D.C n g)) : FVec Ideal S64x128 .f32) ((T3 fun r l s => D.csh n g r l - D.csh n g r s) : FVec Ideal S8x64x64 .f32) ((0 : ℝ) : EReal) (B3 fun _ l s => s ≤ l) = T2 (fun q s => D.M n g (q / 64) (q % 64) s) := by
  refine eqT2 fun a b => ?_
  have ha := a.isLt
  have hb := b.isLt
  pointwise [k0_pay56, pay55, pay48, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay57 : k0_pay57 (F := Ideal) ((T2 fun q s => D.M n g (q / 64) (q % 64) s) : FVec Ideal S512x64 .f32) = T2 (fun q s => D.M n g (q / 64) (q % 64) s) := by
  refine eqT2 fun a b => ?_
  have ha := a.isLt
  have hb := b.isLt
  pointwise [k0_pay57, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay58 : k0_pay58 (F := Ideal) ((T2 (D.xdt n g)) : FVec Ideal S64x512 .f32) = T2 (D.xdt n g) := by
  refine eqT2 fun a b => ?_
  have ha := a.isLt
  have hb := b.isLt
  pointwise [k0_pay58, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay59 : k0_pay59 (B3 fun r _ c => c / 64 = r) = B3 (fun r _ c => c / 64 = r) := by
  refine eqB3 fun a b c => ?_
  have ha := a.isLt
  have hb := b.isLt
  have hc := c.isLt
  pointwise [k0_pay59, T1_ix, T2_ix, T3_ix, T4_ix, B2_ix, B3_ix]
  all_goals first
    | done
    | (rfl)

theorem pay60 : k0_pay60 (F := Ideal) ((T2 (D.C n g)) : FVec Ideal S64x128 .f32) = T2 (D.C n g) := by
  refine eqT2 fun a b => ?_
  have ha := a.isLt
  have hb := b.isLt
  pointwise [k0_pay60, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay61 : k0_pay61 (F := Ideal) ((T3 (D.S n g)) : FVec Ideal S8x64x128 .f32) = T2 (fun q k => D.S n g (q / 64) (q % 64) k) := by
  refine eqT2 fun a b => ?_
  have ha := a.isLt
  have hb := b.isLt
  pointwise [k0_pay61, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay62 : k0_pay62 (F := Ideal) ((T3 (D.S n g)) : FVec Ideal S8x64x128 .f32) ((T2 (D.C n g)) : FVec Ideal S64x128 .f32) = T2 (D.cS n g) := by
  refine eqT2 fun a b => ?_
  have ha := a.isLt
  have hb := b.isLt
  pointwise [k0_pay62, pay60, pay61, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay63 : k0_pay63 (B3 fun r _ c => c / 64 = r) = B3 (fun r _ c => c / 64 = r) := by
  refine eqB3 fun a b c => ?_
  have ha := a.isLt
  have hb := b.isLt
  have hc := c.isLt
  pointwise [k0_pay63, T1_ix, T2_ix, T3_ix, T4_ix, B2_ix, B3_ix]
  all_goals first
    | done
    | (rfl)

theorem pay64 : k0_pay64 (F := Ideal) ((T3 fun r l _ => D.ech n g r l) : FVec Ideal S8x64x1 .f32) (B3 fun r _ c => c / 64 = r) = T2 (fun l c => D.ech n g (c / 64) l) := by
  refine eqT2 fun a b => ?_
  have ha := a.isLt
  have hb := b.isLt
  pointwise [k0_pay64, pay63, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (exact In.sum_pick' (fun i => D.ech n g i a.val) _ (by omega))

theorem pay65 : k0_pay65 (B3 fun r _ c => c / 64 = r) = B3 (fun r _ c => c / 64 = r) := by
  refine eqB3 fun a b c => ?_
  have ha := a.isLt
  have hb := b.isLt
  have hc := c.isLt
  pointwise [k0_pay65, T1_ix, T2_ix, T3_ix, T4_ix, B2_ix, B3_ix]
  all_goals first
    | done
    | (rfl)

theorem pay66 : k0_pay66 (F := Ideal) ((T3 fun r l _ => D.eth n g r l) : FVec Ideal S8x64x1 .f32) (B3 fun r _ c => c / 64 = r) = T2 (fun l c => D.eth n g (c / 64) l) := by
  refine eqT2 fun a b => ?_
  have ha := a.isLt
  have hb := b.isLt
  pointwise [k0_pay66, pay65, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (exact In.sum_pick' (fun i => D.eth n g i a.val) _ (by omega))

theorem pay67 : k0_pay67 (F := Ideal) ((T3 fun r l _ => D.eth n g r l) : FVec Ideal S8x64x1 .f32) (B3 fun r _ c => c / 64 = r) ((T2 (D.xdt n g)) : FVec Ideal S64x512 .f32) = T2 (D.xet n g) := by
  refine eqT2 fun a b => ?_
  have ha := a.isLt
  have hb := b.isLt
  pointwise [k0_pay67, pay66, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay68 : k0_pay68 (F := Ideal) ((T2 (D.B n g)) : FVec Ideal S64x128 .f32) = T2 (D.B n g) := by
  refine eqT2 fun a b => ?_
  have ha := a.isLt
  have hb := b.isLt
  pointwise [k0_pay68, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay69 : k0_pay69 (F := Ideal) ((T3 fun r _ _ => D.dkg g r) : FVec Ideal S8x1x1 .f32) (B3 fun r _ c => c / 64 = r) = T2 (fun _ c => D.dkg g (c / 64)) := by
  refine eqT2 fun a b => ?_
  have ha := a.isLt
  have hb := b.isLt
  pointwise [k0_pay69, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (exact In.sum_pick' (fun i => D.dkg g i) _ (by omega))

theorem pay70 : k0_pay70 (F := Ideal) ((T3 (D.S n g)) : FVec Ideal S8x64x128 .f32) ((T3 fun r _ _ => D.dkg g r) : FVec Ideal S8x1x1 .f32) ((T2 (D.X n g)) : FVec Ideal S64x512 .f32) ((T2 (D.C n g)) : FVec Ideal S64x128 .f32) ((T3 fun r l _ => D.ech n g r l) : FVec Ideal S8x64x1 .f32) (B3 fun r _ c => c / 64 = r) ((T2 (D.xdt n g)) : FVec Ideal S64x512 .f32) ((T2 fun q s => D.M n g (q / 64) (q % 64) s) : FVec Ideal S512x64 .f32) = T2 (D.y0 n g) := by
  refine eqT2 fun a b => ?_
  have ha := a.isLt
  have hb := b.isLt
  pointwise [k0_pay70, pay57, pay58, pay59, pay62, pay64, pay69, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rw [In.sum_pick' (fun i => ∑ j : Fin 64, D.M n g ((i * 64 + a.val) / 64) ((i * 64 + a.val) % 64) j.val * D.xdt n g j.val b.val) _ (by omega)]; simp only [show (b.val / 64 * 64 + a.val) / 64 = b.val / 64 by omega, show (b.val / 64 * 64 + a.val) % 64 = a.val by omega]; rfl)

theorem pay71 : k0_pay71 (F := Ideal) ((T2 (D.z n g)) : FVec Ideal S64x512 .f32) = T2 (D.ez n g) := by
  refine eqT2 fun a b => ?_
  have ha := a.isLt
  have hb := b.isLt
  pointwise [k0_pay71, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (simp only [zero_sub]; rfl)

theorem pay72 : k0_pay72 (F := Ideal) ((T2 (D.z n g)) : FVec Ideal S64x512 .f32) = T2 (fun l c => 1 + D.ez n g l c) := by
  refine eqT2 fun a b => ?_
  have ha := a.isLt
  have hb := b.isLt
  pointwise [k0_pay72, pay71, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

theorem pay73 : k0_pay73 (F := Ideal) ((T2 (D.z n g)) : FVec Ideal S64x512 .f32) = T2 (D.sil n g) := by
  refine eqT2 fun a b => ?_
  have ha := a.isLt
  have hb := b.isLt
  pointwise [k0_pay73, pay72, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff, c_div (D.one_add_ez_pos n g _ _).ne']
  all_goals first
    | done
    | (rfl)

theorem pay74 : k0_pay74 (F := Ideal) ((T2 (D.z n g)) : FVec Ideal S64x512 .f32) = T2 (fun l c => (1 + D.ez n g l c) * (1 + D.ez n g l c)) := by
  refine eqT2 fun a b => ?_
  have ha := a.isLt
  have hb := b.isLt
  pointwise [k0_pay74, pay72, T1_ix, T2_ix, T3_ix, T4_ix, B2_ix, B3_ix]
  all_goals try simp only [c_add, c_mul, c_sub, c_neg, c_max, c_sum, c_exp, c_abs, c_select, c_ite, c_zero, c_one, EReal.coe_lt_coe_iff, EReal.coe_le_coe_iff, EReal.coe_eq_coe_iff]
  all_goals first
    | done
    | (rfl)

end Cert.Ssd
-- ==== Proof.PayC.lean ====
module

public import proofs.«01_k».proof.Proof.PayB
public import proofs.«01_k».proof.Proof.Math
public import proofs.«01_k».proof.Proof.Gen.KernelIdeal.Skeleton

@[expose] public section

set_option maxRecDepth 16384

noncomputable section

namespace Cert.Ssd

open Idealize.ShloMosaic Idealize.ShloMosaic.WordCmp Cert.KernelIdeal Cert.KernelIdeal.Gen

variable (D : In) (n g : ℕ) (E : ℕ → ℕ → ℕ → ℝ)

/-- A sum over the heads and the unit axis, read at a lane. -/
theorem reduce_heads {m : ℕ} (h : (⟨3, ![m, 1, 128]⟩ : Shape).Reduces [0, 1] S128) (v : (⟨3, ![m, 1, 128]⟩ : Shape).Idx → EReal) (b : Fin 128) :
    Ideal.reduceAdd h v (ix1 b) = ∑ r : Fin m, v (ix3 r (0 : Fin 1) b) := by
  refine Finset.sum_filter_eq_sum_of_fiber _ (fun r : Fin m => ix3 r (0 : Fin 1) b) (fun _ _ e => congrFun e 0) (fun i => ?_) v
  constructor
  · intro e
    refine ⟨i 0, ?_⟩
    funext a; apply Fin.ext
    match a with
    | ⟨0, _⟩ => rfl
    | ⟨1, _⟩ => exact (Nat.lt_one_iff.mp (i 1).isLt).symm
    | ⟨2, _⟩ => exact (congrArg Fin.val (congrFun e ⟨0, Nat.zero_lt_one⟩)).symm
  · rintro ⟨k, rfl⟩
    funext c
    apply Fin.ext
    match c with
    | ⟨0, _⟩ => rfl
theorem sum_headq (f : ℕ → ℝ) (r : ℕ) (h : r < 8) :
    (∑ q : Fin 512, if r = q.val / 64 then f q.val else 0) = ∑ p : Fin 64, f (64 * r + p.val) := by
  rw [← In.sum_head f r h]
  exact Finset.sum_congr rfl fun q _ => by simp only [eq_comm]

theorem pay75 : k0_pay75 (F := Ideal) ((T2 (D.y0 n g)) : FVec Ideal S64x512 .f32) ((T2 (D.sil n g)) : FVec Ideal S64x512 .f32) = T2 (D.y1 n g) := by
  refine eqT2 fun a b => ?_
  have ha := a.isLt
  have hb := b.isLt
  pointwise [k0_pay75, T1_ix, T2_ix, T3_ix, T4_ix, B2_ix, B3_ix]
  all_goals try simp only [c_mul, EReal.coe_eq_coe_iff]
  all_goals first
    | done
    | (rfl)

theorem pay76 : k0_pay76 (F := Ideal) ((T2 (D.y0 n g)) : FVec Ideal S64x512 .f32) ((T2 (D.sil n g)) : FVec Ideal S64x512 .f32) = T2 (fun l _ => D.mn n g l) := by
  refine eqT2 fun a b => ?_
  have ha := a.isLt
  have hb := b.isLt
  pointwise [k0_pay76, pay75, T1_ix, T2_ix, T3_ix, T4_ix, B2_ix, B3_ix]
  all_goals try simp only [c_add, c_mul, c_sum, EReal.coe_eq_coe_iff, c_div (show (512 : ℝ) ≠ 0 by norm_num), ofBits_512, ofBits_eps]
  all_goals first
    | done
    | (rfl)

theorem pay77 : k0_pay77 (F := Ideal) ((T2 (D.y0 n g)) : FVec Ideal S64x512 .f32) ((T2 (D.sil n g)) : FVec Ideal S64x512 .f32) = T2 (fun l _ => D.rs n g l) := by
  refine eqT2 fun a b => ?_
  have ha := a.isLt
  have hb := b.isLt
  pointwise [k0_pay77, pay76, T1_ix, T2_ix, T3_ix, T4_ix, B2_ix, B3_ix]
  all_goals try simp only [EReal.coe_eq_coe_iff, c_rsqrt (D.mn_pos n g _)]
  all_goals first
    | done
    | (rfl)

theorem pay78 : k0_pay78 (F := Ideal) ((T2 (D.y0 n g)) : FVec Ideal S64x512 .f32) ((T2 (D.sil n g)) : FVec Ideal S64x512 .f32) ((T2 (D.gy n g)) : FVec Ideal S64x512 .f32) = T2 (fun _ c => D.dnw n g c) := by
  refine eqT2 fun a b => ?_
  have ha := a.isLt
  have hb := b.isLt
  pointwise [k0_pay78, pay75, pay77, T1_ix, T2_ix, T3_ix, T4_ix, B2_ix, B3_ix]
  all_goals try simp only [c_mul, c_sum, EReal.coe_eq_coe_iff]
  all_goals first
    | done
    | (rfl)

theorem pay79 : k0_pay79 (F := Ideal) ((T2 fun _ c => D.nwg g c) : FVec Ideal S1x512 .f32) ((T2 (D.y0 n g)) : FVec Ideal S64x512 .f32) ((T2 (D.sil n g)) : FVec Ideal S64x512 .f32) ((T2 (D.gy n g)) : FVec Ideal S64x512 .f32) = T2 (D.gy1 n g) := by
  refine eqT2 fun a b => ?_
  have ha := a.isLt
  have hb := b.isLt
  pointwise [k0_pay79, pay75, pay76, pay77, T1_ix, T2_ix, T3_ix, T4_ix, B2_ix, B3_ix]
  all_goals try simp only [c_add, c_mul, c_sum, Fin.sum_univ_one, EReal.coe_eq_coe_iff, c_div (show (512 : ℝ) ≠ 0 by norm_num), ofBits_512, ofBits_neg_half, c_div (D.mn_pos n g _).ne']
  all_goals first
    | done
    | (rfl)

theorem pay80 : k0_pay80 (F := Ideal) ((T2 fun _ c => D.nwg g c) : FVec Ideal S1x512 .f32) ((T2 (D.y0 n g)) : FVec Ideal S64x512 .f32) ((T2 (D.sil n g)) : FVec Ideal S64x512 .f32) ((T2 (D.gy n g)) : FVec Ideal S64x512 .f32) = T2 (fun l c => D.y0 n g l c * D.gy1 n g l c) := by
  refine eqT2 fun a b => ?_
  have ha := a.isLt
  have hb := b.isLt
  pointwise [k0_pay80, pay79, T1_ix, T2_ix, T3_ix, T4_ix, B2_ix, B3_ix]
  all_goals try simp only [c_mul]
  all_goals first
    | done
    | (rfl)

theorem pay81 : k0_pay81 (F := Ideal) ((T2 fun _ c => D.nwg g c) : FVec Ideal S1x512 .f32) ((T2 (D.y0 n g)) : FVec Ideal S64x512 .f32) ((T2 (D.sil n g)) : FVec Ideal S64x512 .f32) ((T2 (D.gy n g)) : FVec Ideal S64x512 .f32) = T2 (D.gy0 n g) := by
  refine eqT2 fun a b => ?_
  have ha := a.isLt
  have hb := b.isLt
  pointwise [k0_pay81, pay79, T1_ix, T2_ix, T3_ix, T4_ix, B2_ix, B3_ix]
  all_goals try simp only [c_mul, EReal.coe_eq_coe_iff]
  all_goals first
    | done
    | (rfl)

theorem pay82 : k0_pay82 (F := Ideal) ((T2 fun _ c => D.nwg g c) : FVec Ideal S1x512 .f32) ((T2 (D.y0 n g)) : FVec Ideal S64x512 .f32) ((T2 (fun l c => 1 + D.ez n g l c)) : FVec Ideal S64x512 .f32) ((T2 (D.sil n g)) : FVec Ideal S64x512 .f32) ((T2 (D.gy n g)) : FVec Ideal S64x512 .f32) = T2 (fun l c => D.y0 n g l c * D.gy1 n g l c / (1 + D.ez n g l c)) := by
  refine eqT2 fun a b => ?_
  have ha := a.isLt
  have hb := b.isLt
  pointwise [k0_pay82, pay80, T1_ix, T2_ix, T3_ix, T4_ix, B2_ix, B3_ix]
  all_goals try simp only [c_div (D.one_add_ez_pos n g _ _).ne']
  all_goals first
    | done
    | (rfl)

theorem pay83 : k0_pay83 (F := Ideal) ((T2 (D.z n g)) : FVec Ideal S64x512 .f32) ((T2 fun _ c => D.nwg g c) : FVec Ideal S1x512 .f32) ((T2 (D.y0 n g)) : FVec Ideal S64x512 .f32) ((T2 (D.ez n g)) : FVec Ideal S64x512 .f32) ((T2 (D.sil n g)) : FVec Ideal S64x512 .f32) ((T2 (fun l c => (1 + D.ez n g l c) * (1 + D.ez n g l c))) : FVec Ideal S64x512 .f32) ((1 : ℝ) : EReal) ((T2 (D.gy n g)) : FVec Ideal S64x512 .f32) = T2 (fun l c => -(D.y0 n g l c * D.gy1 n g l c * (1 / ((1 + D.ez n g l c) * (1 + D.ez n g l c))) * D.z n g l c) * D.ez n g l c) := by
  refine eqT2 fun a b => ?_
  have ha := a.isLt
  have hb := b.isLt
  pointwise [k0_pay83, pay80, T1_ix, T2_ix, T3_ix, T4_ix, B2_ix, B3_ix]
  all_goals try simp only [c_mul, c_sub, c_zero, EReal.coe_eq_coe_iff, c_div (mul_pos (D.one_add_ez_pos n g _ _) (D.one_add_ez_pos n g _ _)).ne']
  all_goals first
    | done
    | (simp only [zero_sub])

theorem pay84 : k0_pay84 (F := Ideal) ((T2 (fun l c => D.y0 n g l c * D.gy1 n g l c / (1 + D.ez n g l c))) : FVec Ideal S64x512 .f32) ((T2 (fun l c => -(D.y0 n g l c * D.gy1 n g l c * (1 / ((1 + D.ez n g l c) * (1 + D.ez n g l c))) * D.z n g l c) * D.ez n g l c)) : FVec Ideal S64x512 .f32) = T2 (D.gz n g) := by
  refine eqT2 fun a b => ?_
  have ha := a.isLt
  have hb := b.isLt
  pointwise [k0_pay84, T1_ix, T2_ix, T3_ix, T4_ix, B2_ix, B3_ix]
  all_goals try simp only [c_add, c_sub, c_zero, EReal.coe_eq_coe_iff]
  all_goals first
    | done
    | (unfold In.gz; ring)

theorem pay85 : k0_pay85 (F := Ideal) ((T2 fun _ c => D.dkg g (c / 64)) : FVec Ideal S1x512 .f32) ((T2 (D.gy0 n g)) : FVec Ideal S64x512 .f32) = T2 (fun l c => D.gy0 n g l c * D.dkg g (c / 64)) := by
  refine eqT2 fun a b => ?_
  have ha := a.isLt
  have hb := b.isLt
  pointwise [k0_pay85, T1_ix, T2_ix, T3_ix, T4_ix, B2_ix, B3_ix]
  all_goals try simp only [c_mul]
  all_goals first
    | done
    | (rfl)

theorem pay86 : k0_pay86 (F := Ideal) ((T2 (D.X n g)) : FVec Ideal S64x512 .f32) (B3 fun r _ c => c / 64 = r) ((T2 (D.gy0 n g)) : FVec Ideal S64x512 .f32) = T3 (fun r _ _ => D.gD n g r) := by
  refine eqT3 fun a b c => ?_
  have ha := a.isLt
  have hb := b.isLt
  have hc := c.isLt
  pointwise [k0_pay86, T1_ix, T2_ix, T3_ix, T4_ix, B2_ix, B3_ix]
  all_goals try simp only [c_mul, c_sum, c_ite, c_zero, Fin.sum_univ_one, EReal.coe_eq_coe_iff]
  all_goals first
    | done
    | (rw [In.sum_head (fun c => ∑ l : Fin 64, D.X n g l.val c * D.gy0 n g l.val c) _ ha, Finset.sum_comm]; rfl)

theorem pay87 : k0_pay87 (F := Ideal) ((T3 (E)) : FVec Ideal S8x64x128 .f32) = T3 (E) := by
  refine eqT3 fun a b c => ?_
  have ha := a.isLt
  have hb := b.isLt
  have hc := c.isLt
  pointwise [k0_pay87, T1_ix, T2_ix, T3_ix, T4_ix, B2_ix, B3_ix]
  all_goals try simp only [c_add, c_mul, c_sub, c_neg, c_max, c_sum, c_exp, c_abs, c_select, c_ite, c_zero, c_one, Fin.sum_univ_one, EReal.coe_lt_coe_iff, EReal.coe_le_coe_iff, EReal.coe_eq_coe_iff]
  all_goals first
    | done
    | (rfl)

theorem pay88 : k0_pay88 (F := Ideal) ((T3 (E)) : FVec Ideal S8x64x128 .f32) = T2 (fun q k => E (q / 64) (q % 64) k) := by
  refine eqT2 fun a b => ?_
  have ha := a.isLt
  have hb := b.isLt
  pointwise [k0_pay88, T1_ix, T2_ix, T3_ix, T4_ix, B2_ix, B3_ix]
  all_goals try simp only [c_add, c_mul, c_sub, c_neg, c_max, c_sum, c_exp, c_abs, c_select, c_ite, c_zero, c_one, Fin.sum_univ_one, EReal.coe_lt_coe_iff, EReal.coe_le_coe_iff, EReal.coe_eq_coe_iff]
  all_goals first
    | done
    | (rfl)

theorem pay89 : k0_pay89 (F := Ideal) ((T3 (D.S n g)) : FVec Ideal S8x64x128 .f32) ((T3 (E)) : FVec Ideal S8x64x128 .f32) = T3 (fun r _ _ => D.eS n g E r) := by
  refine eqT3 fun a b c => ?_
  have ha := a.isLt
  have hb := b.isLt
  have hc := c.isLt
  pointwise [k0_pay89, pay87, T1_ix, T2_ix, T3_ix, T4_ix, B2_ix, B3_ix]
  all_goals try simp only [c_mul, c_sum, EReal.coe_eq_coe_iff]
  all_goals first
    | done
    | (rfl)

theorem pay90 : k0_pay90 (F := Ideal) ((T3 fun r _ _ => D.elh n g r) : FVec Ideal S8x1x1 .f32) ((T3 (E)) : FVec Ideal S8x64x128 .f32) = T3 (fun r p k => E r p k * D.elh n g r) := by
  refine eqT3 fun a b c => ?_
  have ha := a.isLt
  have hb := b.isLt
  have hc := c.isLt
  pointwise [k0_pay90, pay87, T1_ix, T2_ix, T3_ix, T4_ix, B2_ix, B3_ix]
  all_goals try simp only [c_mul]
  all_goals first
    | done
    | (rfl)

theorem pay91 : k0_pay91 (F := Ideal) ((T2 (D.xet n g)) : FVec Ideal S64x512 .bf16) ((T3 (E)) : FVec Ideal S8x64x128 .f32) = T2 (D.gB1 n g E) := by
  refine eqT2 fun a b => ?_
  have ha := a.isLt
  have hb := b.isLt
  pointwise [k0_pay91, pay88, T1_ix, T2_ix, T3_ix, T4_ix, B2_ix, B3_ix]
  all_goals try simp only [c_mul, c_sum, EReal.coe_eq_coe_iff]
  all_goals first
    | done
    | (rfl)

theorem pay92 : k0_pay92 (F := Ideal) ((T2 (D.B n g)) : FVec Ideal S64x128 .bf16) ((T3 (E)) : FVec Ideal S8x64x128 .f32) = T2 (D.u n g E) := by
  refine eqT2 fun a b => ?_
  have ha := a.isLt
  have hb := b.isLt
  pointwise [k0_pay92, pay88, T1_ix, T2_ix, T3_ix, T4_ix, B2_ix, B3_ix]
  all_goals try simp only [c_mul, c_sum, EReal.coe_eq_coe_iff]
  all_goals first
    | done
    | (rfl)

theorem pay93 : k0_pay93 (F := Ideal) ((T2 (fun l c => D.eth n g (c / 64) l)) : FVec Ideal S64x512 .f32) ((T2 (D.B n g)) : FVec Ideal S64x128 .bf16) ((T3 (E)) : FVec Ideal S8x64x128 .f32) = T2 (D.gx1 n g E) := by
  refine eqT2 fun a b => ?_
  have ha := a.isLt
  have hb := b.isLt
  pointwise [k0_pay93, pay92, T1_ix, T2_ix, T3_ix, T4_ix, B2_ix, B3_ix]
  all_goals try simp only [c_mul, EReal.coe_eq_coe_iff]
  all_goals first
    | done
    | (rfl)

theorem pay94 : k0_pay94 (F := Ideal) ((T2 (D.xdt n g)) : FVec Ideal S64x512 .f32) (B3 fun r _ c => c / 64 = r) ((T2 (D.B n g)) : FVec Ideal S64x128 .bf16) ((T3 (E)) : FVec Ideal S8x64x128 .f32) = T3 (fun r l _ => D.get n g E r l) := by
  refine eqT3 fun a b c => ?_
  have ha := a.isLt
  have hb := b.isLt
  have hc := c.isLt
  pointwise [k0_pay94, pay92, T1_ix, T2_ix, T3_ix, T4_ix, B2_ix, B3_ix]
  all_goals try simp only [c_mul, c_sum, c_ite, c_zero, EReal.coe_eq_coe_iff]
  all_goals first
    | done
    | (rw [In.sum_head (fun c => D.xdt n g b.val c * D.u n g E b.val c) _ ha]; rfl)

theorem pay95 : k0_pay95 (F := Ideal) ((T2 (fun l c => D.ech n g (c / 64) l)) : FVec Ideal S64x512 .f32) ((T2 (D.gy0 n g)) : FVec Ideal S64x512 .f32) = T2 (fun l c => D.gy0 n g l c * D.ech n g (c / 64) l) := by
  refine eqT2 fun a b => ?_
  have ha := a.isLt
  have hb := b.isLt
  pointwise [k0_pay95, T1_ix, T2_ix, T3_ix, T4_ix, B2_ix, B3_ix]
  all_goals try simp only [c_mul]
  all_goals first
    | done
    | (rfl)

theorem pay96 : k0_pay96 (F := Ideal) ((T2 (D.cS n g)) : FVec Ideal S64x512 .f32) (B3 fun r _ c => c / 64 = r) ((T2 (D.gy0 n g)) : FVec Ideal S64x512 .f32) = T3 (fun r l _ => D.geo n g r l) := by
  refine eqT3 fun a b c => ?_
  have ha := a.isLt
  have hb := b.isLt
  have hc := c.isLt
  pointwise [k0_pay96, T1_ix, T2_ix, T3_ix, T4_ix, B2_ix, B3_ix]
  all_goals try simp only [c_mul, c_sum, c_ite, c_zero, EReal.coe_eq_coe_iff]
  all_goals first
    | done
    | (rw [In.sum_head (fun c => D.cS n g b.val c * D.gy0 n g b.val c) _ ha]; rfl)

theorem pay97 : k0_pay97 (F := Ideal) ((T2 (D.C n g)) : FVec Ideal S64x128 .bf16) ((T2 (fun l c => D.ech n g (c / 64) l)) : FVec Ideal S64x512 .f32) ((T2 (D.gy0 n g)) : FVec Ideal S64x512 .f32) = T2 (fun q k => D.G n g (q / 64) (q % 64) k) := by
  refine eqT2 fun a b => ?_
  have ha := a.isLt
  have hb := b.isLt
  pointwise [k0_pay97, pay95, T1_ix, T2_ix, T3_ix, T4_ix, B2_ix, B3_ix]
  all_goals try simp only [c_mul, c_sum, EReal.coe_eq_coe_iff]
  all_goals first
    | done
    | (unfold In.G; simp only [Nat.div_add_mod])

theorem pay98 : k0_pay98 (F := Ideal) ((T3 fun r p k => E r p k * D.elh n g r) : FVec Ideal S8x64x128 .f32) ((T2 fun q k => D.G n g (q / 64) (q % 64) k) : FVec Ideal S512x128 .bf16) = T3 (D.nS n g E) := by
  refine eqT3 fun a b c => ?_
  have ha := a.isLt
  have hb := b.isLt
  have hc := c.isLt
  pointwise [k0_pay98, T1_ix, T2_ix, T3_ix, T4_ix, B2_ix, B3_ix]
  all_goals try simp only [c_add, EReal.coe_eq_coe_iff]
  all_goals first
    | done
    | (simp only [show (a.val * 64 + b.val) / 64 = a.val by omega, show (a.val * 64 + b.val) % 64 = b.val by omega]; rfl)

theorem pay99 : k0_pay99 (F := Ideal) (B3 fun r _ c => c / 64 = r) ((T2 (D.gy0 n g)) : FVec Ideal S64x512 .f32) = T2 (fun q c => if c / 64 = q / 64 then D.gy0 n g (q % 64) c else 0) := by
  refine eqT2 fun a b => ?_
  have ha := a.isLt
  have hb := b.isLt
  pointwise [k0_pay99, T1_ix, T2_ix, T3_ix, T4_ix, B2_ix, B3_ix]
  all_goals try simp only [c_ite, c_zero]
  all_goals first
    | done
    | (rfl)

theorem pay100 : k0_pay100 (F := Ideal) ((T2 fun q s => D.M n g (q / 64) (q % 64) s) : FVec Ideal S512x64 .bf16) (B3 fun r _ c => c / 64 = r) ((T2 (D.gy0 n g)) : FVec Ideal S64x512 .f32) ((T2 (D.gx1 n g E)) : FVec Ideal S64x512 .f32) = T2 (D.gxd n g E) := by
  refine eqT2 fun a b => ?_
  have ha := a.isLt
  have hb := b.isLt
  pointwise [k0_pay100, pay99, T1_ix, T2_ix, T3_ix, T4_ix, B2_ix, B3_ix]
  all_goals try simp only [c_add, c_mul, c_sum, EReal.coe_eq_coe_iff]
  all_goals first
    | done
    | (simp only [ite_mul, zero_mul]; rw [sum_headq (fun q => D.gy0 n g (q % 64) b.val * D.M n g (q / 64) (q % 64) a.val) _ (by omega)]; unfold In.gxd; refine congrArg _ (Finset.sum_congr rfl fun q _ => ?_); have hq := q.isLt; simp only [show (64 * (b.val / 64) + q.val) / 64 = b.val / 64 by omega, show (64 * (b.val / 64) + q.val) % 64 = q.val by omega])

theorem pay101 : k0_pay101 (F := Ideal) ((T2 (D.xdt n g)) : FVec Ideal S64x512 .bf16) (B3 fun r _ c => c / 64 = r) ((T2 (D.gy0 n g)) : FVec Ideal S64x512 .f32) = T3 (fun r l s => D.gm n g r l s) := by
  refine eqT3 fun a b c => ?_
  have ha := a.isLt
  have hb := b.isLt
  have hc := c.isLt
  pointwise [k0_pay101, pay99, T1_ix, T2_ix, T3_ix, T4_ix, B2_ix, B3_ix]
  all_goals try simp only [c_mul, c_sum, EReal.coe_eq_coe_iff]
  all_goals first
    | done
    | (simp only [ite_mul, zero_mul, show (a.val * 64 + b.val) / 64 = a.val by omega, show (a.val * 64 + b.val) % 64 = b.val by omega]; rw [In.sum_head (fun x => D.gy0 n g b.val x * D.xdt n g c.val x) _ ha]; rfl)

theorem pay102 : k0_pay102 (F := Ideal) ((T3 (D.L n g)) : FVec Ideal S8x64x64 .f32) ((T2 (D.xdt n g)) : FVec Ideal S64x512 .bf16) (B3 fun r _ c => c / 64 = r) ((T2 (D.gy0 n g)) : FVec Ideal S64x512 .f32) = T2 (D.gcb n g) := by
  refine eqT2 fun a b => ?_
  have ha := a.isLt
  have hb := b.isLt
  pointwise [k0_pay102, pay101, T1_ix, T2_ix, T3_ix, T4_ix, B2_ix, B3_ix]
  all_goals try simp only [c_mul, c_sum, Fin.sum_univ_one, EReal.coe_eq_coe_iff]
  all_goals first
    | done
    | (rfl)

theorem pay103 : k0_pay103 (F := Ideal) ((T3 (D.L n g)) : FVec Ideal S8x64x64 .f32) ((T2 (D.C n g)) : FVec Ideal S64x128 .bf16) ((T2 (D.xdt n g)) : FVec Ideal S64x512 .bf16) (B3 fun r _ c => c / 64 = r) ((T2 (D.gy0 n g)) : FVec Ideal S64x512 .f32) ((T2 (D.gB1 n g E)) : FVec Ideal S64x128 .f32) = T2 (D.gB n g E) := by
  refine eqT2 fun a b => ?_
  have ha := a.isLt
  have hb := b.isLt
  pointwise [k0_pay103, pay102, T1_ix, T2_ix, T3_ix, T4_ix, B2_ix, B3_ix]
  all_goals try simp only [c_add, c_mul, c_sum, EReal.coe_eq_coe_iff]
  all_goals first
    | done
    | (rfl)

theorem pay104 : k0_pay104 (F := Ideal) ((T3 (D.L n g)) : FVec Ideal S8x64x64 .f32) ((T2 (D.B n g)) : FVec Ideal S64x128 .bf16) ((T2 (D.xdt n g)) : FVec Ideal S64x512 .bf16) (B3 fun r _ c => c / 64 = r) ((T2 fun q k => D.S n g (q / 64) (q % 64) k) : FVec Ideal S512x128 .bf16) ((T2 (D.gy0 n g)) : FVec Ideal S64x512 .f32) ((T2 (fun l c => D.gy0 n g l c * D.ech n g (c / 64) l)) : FVec Ideal S64x512 .f32) = T2 (D.gC n g) := by
  refine eqT2 fun a b => ?_
  have ha := a.isLt
  have hb := b.isLt
  pointwise [k0_pay104, pay102, T1_ix, T2_ix, T3_ix, T4_ix, B2_ix, B3_ix]
  all_goals try simp only [c_add, c_mul, c_sum, EReal.coe_eq_coe_iff]
  all_goals first
    | done
    | (rfl)

theorem pay105 : k0_pay105 (F := Ideal) ((T2 (fun l c => D.dth n g (c / 64) l)) : FVec Ideal S64x512 .f32) ((T2 fun q s => D.M n g (q / 64) (q % 64) s) : FVec Ideal S512x64 .bf16) (B3 fun r _ c => c / 64 = r) ((T2 (D.gy0 n g)) : FVec Ideal S64x512 .f32) ((T2 (fun l c => D.gy0 n g l c * D.dkg g (c / 64))) : FVec Ideal S64x512 .f32) ((T2 (D.gx1 n g E)) : FVec Ideal S64x512 .f32) = T2 (D.gx n g E) := by
  refine eqT2 fun a b => ?_
  have ha := a.isLt
  have hb := b.isLt
  pointwise [k0_pay105, pay100, T1_ix, T2_ix, T3_ix, T4_ix, B2_ix, B3_ix]
  all_goals try simp only [c_add, c_mul, EReal.coe_eq_coe_iff]
  all_goals first
    | done
    | (rfl)

theorem pay106 : k0_pay106 (F := Ideal) ((T2 (D.X n g)) : FVec Ideal S64x512 .f32) (B3 fun r _ c => c / 64 = r) ((T2 fun q s => D.M n g (q / 64) (q % 64) s) : FVec Ideal S512x64 .bf16) (B3 fun r _ c => c / 64 = r) ((T2 (D.gy0 n g)) : FVec Ideal S64x512 .f32) ((T2 (D.gx1 n g E)) : FVec Ideal S64x512 .f32) = T3 (fun r l _ => D.gdt n g E r l) := by
  refine eqT3 fun a b c => ?_
  have ha := a.isLt
  have hb := b.isLt
  have hc := c.isLt
  pointwise [k0_pay106, pay100, T1_ix, T2_ix, T3_ix, T4_ix, B2_ix, B3_ix]
  all_goals try simp only [c_mul, c_sum, c_ite, c_zero, EReal.coe_eq_coe_iff]
  all_goals first
    | done
    | (rw [In.sum_head (fun c => D.X n g b.val c * D.gxd n g E b.val c) _ ha]; rfl)

theorem pay107 : k0_pay107 (F := Ideal) (B3 fun _ l s => s ≤ l) ((T3 fun r l s => Real.exp (if s ≤ l then D.csh n g r l - D.csh n g r s else 0)) : FVec Ideal S8x64x64 .f32) (B3 fun _ l s => s ≤ l) ((T3 fun _ l s => D.cb n g l s) : FVec Ideal S1x64x64 .f32) ((T2 (D.xdt n g)) : FVec Ideal S64x512 .bf16) (B3 fun r _ c => c / 64 = r) ((T2 (D.gy0 n g)) : FVec Ideal S64x512 .f32) = T3 (D.gl n g) := by
  refine eqT3 fun a b c => ?_
  have ha := a.isLt
  have hb := b.isLt
  have hc := c.isLt
  pointwise [k0_pay107, pay101, T1_ix, T2_ix, T3_ix, T4_ix, B2_ix, B3_ix]
  all_goals try simp only [c_mul, c_ite, c_zero, EReal.coe_eq_coe_iff]
  all_goals first
    | done
    | (unfold In.gl; split <;> rfl)

theorem pay108 : k0_pay108 (F := Ideal) (B3 fun _ l s => l = s) ((T3 (D.gl n g)) : FVec Ideal S8x64x64 .f32) = T3 (fun r l _ => D.gch n g r l) := by
  refine eqT3 fun a b c => ?_
  have ha := a.isLt
  have hb := b.isLt
  have hc := c.isLt
  pointwise [k0_pay108, T1_ix, T2_ix, T3_ix, T4_ix, B2_ix, B3_ix]
  all_goals try simp only [c_add, c_sub, c_sum, c_ite, c_zero, Fin.sum_univ_one, EReal.coe_eq_coe_iff]
  all_goals first
    | done
    | (rw [In.sum_pick' (fun i => ∑ q : Fin 64, (0 - D.gl n g a.val q.val i)) _ hb]; simp only [zero_sub]; rfl)

theorem pay109 : k0_pay109 (F := Ideal) ((T2 (D.et n)) : FVec Ideal S64x128 .f32) (B3 fun r _ j => j = 32 + 8 * g + r) ((T3 fun r l _ => D.get n g E r l) : FVec Ideal S8x64x1 .f32) = T2 (D.geL n g E) := by
  refine eqT2 fun a b => ?_
  have ha := a.isLt
  have hb := b.isLt
  pointwise [k0_pay109, T1_ix, T2_ix, T3_ix, T4_ix, B2_ix, B3_ix]
  all_goals try simp only [c_mul, c_sum, c_ite, c_zero, Fin.sum_univ_one, EReal.coe_eq_coe_iff]
  all_goals first
    | done
    | (rw [In.sum_lane g (fun r => D.get n g E r a.val)]; rfl)

theorem pay110 : k0_pay110 (F := Ideal) ((T2 (D.et n)) : FVec Ideal S64x128 .f32) (B3 fun r _ j => j = 32 + 8 * g + r) ((T3 fun r l _ => D.get n g E r l) : FVec Ideal S8x64x1 .f32) = T2 (fun l j => -D.geL n g E l j) := by
  refine eqT2 fun a b => ?_
  have ha := a.isLt
  have hb := b.isLt
  pointwise [k0_pay110, pay109, T1_ix, T2_ix, T3_ix, T4_ix, B2_ix, B3_ix]
  all_goals try simp only [c_sub, c_zero, EReal.coe_eq_coe_iff]
  all_goals first
    | done
    | (simp only [zero_sub])

theorem pay111 : k0_pay111 (F := Ideal) ((T2 (D.et n)) : FVec Ideal S64x128 .f32) (B3 fun r _ j => j = 32 + 8 * g + r) ((T2 fun _ j => D.el n j) : FVec Ideal S1x128 .f32) (B3 fun r _ j => j = 32 + 8 * g + r) ((T3 fun r _ _ => D.eS n g E r) : FVec Ideal S8x1x1 .f32) ((T3 fun r l _ => D.get n g E r l) : FVec Ideal S8x64x1 .f32) = T2 (fun _ j => D.gla n g E j) := by
  refine eqT2 fun a b => ?_
  have ha := a.isLt
  have hb := b.isLt
  pointwise [k0_pay111, pay109, T1_ix, T2_ix, T3_ix, T4_ix, B2_ix, B3_ix]
  rw [reduce_heads]
  pointwise [reduce_heads, B3_ix, T3_ix]
  all_goals try simp only [c_add, c_mul, c_sum, c_ite, c_zero, Fin.sum_univ_one, EReal.coe_eq_coe_iff]
  all_goals first
    | done
    | (rw [In.sum_lane g (fun r => D.eS n g E r)]; rfl)

theorem pay112 : k0_pay112 (F := Ideal) ((T3 fun r l _ => D.geo n g r l) : FVec Ideal S8x64x1 .f32) = T3 (fun r l _ => D.geo n g r l) := by
  refine eqT3 fun a b c => ?_
  have ha := a.isLt
  have hb := b.isLt
  have hc := c.isLt
  pointwise [k0_pay112, T1_ix, T2_ix, T3_ix, T4_ix, B2_ix, B3_ix]
  all_goals try simp only [c_sum, Fin.sum_univ_one]
  all_goals first
    | done
    | (rfl)

theorem pay113 : k0_pay113 (F := Ideal) (B3 fun r _ j => j = 32 + 8 * g + r) ((T2 (D.ecs n)) : FVec Ideal S64x128 .f32) (B3 fun r _ j => j = 32 + 8 * g + r) ((T3 fun r l _ => D.gch n g r l) : FVec Ideal S8x64x1 .f32) ((T2 fun l j => -D.geL n g E l j) : FVec Ideal S64x128 .f32) ((T3 fun r l _ => D.geo n g r l) : FVec Ideal S8x64x128 .f32) ((0 : ℝ) : EReal) = T2 (D.gcs n g E) := by
  refine eqT2 fun a b => ?_
  have ha := a.isLt
  have hb := b.isLt
  pointwise [k0_pay113, T1_ix, T2_ix, T3_ix, T4_ix, B2_ix, B3_ix]
  all_goals try simp only [c_add, c_mul, c_sum, c_ite, c_zero, Fin.sum_univ_one, EReal.coe_eq_coe_iff]
  all_goals first
    | done
    | (rw [In.sum_lane g (fun r => D.geo n g r a.val), In.sum_lane g (fun r => D.gch n g r a.val)]; rfl)

theorem pay114 : k0_pay114 (F := Ideal) (B3 fun r _ j => j = 32 + 8 * g + r) ((T3 fun r l _ => D.gdt n g E r l) : FVec Ideal S8x64x1 .f32) = T2 (fun l j => In.ln g (fun r => D.gdt n g E r l) j) := by
  refine eqT2 fun a b => ?_
  have ha := a.isLt
  have hb := b.isLt
  pointwise [k0_pay114, T1_ix, T2_ix, T3_ix, T4_ix, B2_ix, B3_ix]
  all_goals try simp only [c_sum, c_ite, c_zero, Fin.sum_univ_one, EReal.coe_eq_coe_iff]
  all_goals first
    | done
    | (rw [In.sum_lane g (fun r => D.gdt n g E r a.val)])

theorem pay115 : k0_pay115 (F := Ideal) ((T2 fun _ j => D.gla n g E j) : FVec Ideal S1x128 .f32) = T2 (fun _ j => D.gla n g E j) := by
  refine eqT2 fun a b => ?_
  have ha := a.isLt
  have hb := b.isLt
  pointwise [k0_pay115, T1_ix, T2_ix, T3_ix, T4_ix, B2_ix, B3_ix]
  all_goals try simp only [c_sum, Fin.sum_univ_one]
  all_goals first
    | done
    | (rfl)

theorem pay116 : k0_pay116 (F := Ideal)  = T2 (fun l s => if l ≤ s then 1 else 0) := by
  refine eqT2 fun a b => ?_
  have ha := a.isLt
  have hb := b.isLt
  pointwise [k0_pay116, T1_ix, T2_ix, T3_ix, T4_ix, B2_ix, B3_ix]
  rw [cmpi_sle_ofNat (by omega) (by omega)]
  all_goals try simp only [c_select, c_ite, c_zero, c_one]
  all_goals first
    | done
    | (rfl)

theorem pay117 : k0_pay117 (F := Ideal) (B3 fun r _ j => j = 32 + 8 * g + r) ((T2 (D.ecs n)) : FVec Ideal S64x128 .f32) (B3 fun r _ j => j = 32 + 8 * g + r) ((T3 fun r l _ => D.gch n g r l) : FVec Ideal S8x64x1 .f32) ((T2 fun l j => -D.geL n g E l j) : FVec Ideal S64x128 .f32) ((T3 fun r l _ => D.geo n g r l) : FVec Ideal S8x64x128 .f32) ((0 : ℝ) : EReal) = T2 (D.gcs n g E) := by
  refine eqT2 fun a b => ?_
  have ha := a.isLt
  have hb := b.isLt
  pointwise [k0_pay117, pay113, T1_ix, T2_ix, T3_ix, T4_ix, B2_ix, B3_ix]
  all_goals try simp only [c_add, c_mul, c_sub, c_neg, c_max, c_sum, c_exp, c_abs, c_select, c_ite, c_zero, c_one, Fin.sum_univ_one, EReal.coe_lt_coe_iff, EReal.coe_le_coe_iff, EReal.coe_eq_coe_iff]
  all_goals first
    | done
    | (rfl)

theorem pay118 : k0_pay118 (F := Ideal) (B3 fun r _ j => j = 32 + 8 * g + r) ((T2 (D.ecs n)) : FVec Ideal S64x128 .f32) (B3 fun r _ j => j = 32 + 8 * g + r) ((T3 fun r l _ => D.gch n g r l) : FVec Ideal S8x64x1 .f32) ((T2 fun l j => -D.geL n g E l j) : FVec Ideal S64x128 .f32) ((T3 fun r l _ => D.geo n g r l) : FVec Ideal S8x64x128 .f32) ((0 : ℝ) : EReal) = T2 (fun _ _ => 0) := by
  refine eqT2 fun a b => ?_
  have ha := a.isLt
  have hb := b.isLt
  pointwise [k0_pay118, pay113, pay117, T1_ix, T2_ix, T3_ix, T4_ix, B2_ix, B3_ix]
  all_goals try simp only [c_sub, EReal.coe_eq_coe_iff]
  all_goals first
    | done
    | (simp only [sub_self])

theorem pay119 : k0_pay119 (F := Ideal) (B3 fun r _ j => j = 32 + 8 * g + r) ((T2 (D.ecs n)) : FVec Ideal S64x128 .f32) (B3 fun r _ j => j = 32 + 8 * g + r) ((T3 fun r l _ => D.gch n g r l) : FVec Ideal S8x64x1 .f32) ((T2 fun l j => -D.geL n g E l j) : FVec Ideal S64x128 .f32) ((T3 fun r l _ => D.geo n g r l) : FVec Ideal S8x64x128 .f32) ((0 : ℝ) : EReal) = T2 (fun _ _ => 0) := by
  refine eqT2 fun a b => ?_
  have ha := a.isLt
  have hb := b.isLt
  pointwise [k0_pay119, pay118, T1_ix, T2_ix, T3_ix, T4_ix, B2_ix, B3_ix]
  all_goals try simp only [c_add, c_mul, c_sub, c_neg, c_max, c_sum, c_exp, c_abs, c_select, c_ite, c_zero, c_one, Fin.sum_univ_one, EReal.coe_lt_coe_iff, EReal.coe_le_coe_iff, EReal.coe_eq_coe_iff]
  all_goals first
    | done
    | (rfl)

theorem pay120 : k0_pay120 (F := Ideal) (B3 fun r _ j => j = 32 + 8 * g + r) ((T2 (D.ecs n)) : FVec Ideal S64x128 .f32) (B3 fun r _ j => j = 32 + 8 * g + r) ((T3 fun r l _ => D.gch n g r l) : FVec Ideal S8x64x1 .f32) ((T2 fun l j => -D.geL n g E l j) : FVec Ideal S64x128 .f32) ((T3 fun r l _ => D.geo n g r l) : FVec Ideal S8x64x128 .f32) ((0 : ℝ) : EReal) = T2 (fun l j => ∑ s : Fin 64, if l ≤ s.val then D.gcs n g E s.val j else 0) := by
  refine eqT2 fun a b => ?_
  have ha := a.isLt
  have hb := b.isLt
  pointwise [k0_pay120, pay116, pay117, T1_ix, T2_ix, T3_ix, T4_ix, B2_ix, B3_ix]
  all_goals try simp only [c_mul, c_sum, EReal.coe_eq_coe_iff]
  all_goals first
    | done
    | (simp only [ite_mul, one_mul, zero_mul])

theorem pay121 : k0_pay121 (F := Ideal) (B3 fun r _ j => j = 32 + 8 * g + r) ((T2 (D.ecs n)) : FVec Ideal S64x128 .f32) (B3 fun r _ j => j = 32 + 8 * g + r) ((T3 fun r l _ => D.gch n g r l) : FVec Ideal S8x64x1 .f32) ((T2 fun l j => -D.geL n g E l j) : FVec Ideal S64x128 .f32) ((T3 fun r l _ => D.geo n g r l) : FVec Ideal S8x64x128 .f32) ((0 : ℝ) : EReal) = T2 (fun _ _ => 0) := by
  refine eqT2 fun a b => ?_
  have ha := a.isLt
  have hb := b.isLt
  pointwise [k0_pay121, pay116, pay119, T1_ix, T2_ix, T3_ix, T4_ix, B2_ix, B3_ix]
  all_goals try simp only [c_mul, c_sum, EReal.coe_eq_coe_iff]
  all_goals first
    | done
    | (simp only [mul_zero, Finset.sum_const_zero])

theorem pay122 : k0_pay122 (F := Ideal) (B3 fun r _ j => j = 32 + 8 * g + r) ((T2 (D.ecs n)) : FVec Ideal S64x128 .f32) (B3 fun r _ j => j = 32 + 8 * g + r) ((T3 fun r l _ => D.gch n g r l) : FVec Ideal S8x64x1 .f32) ((T2 fun l j => -D.geL n g E l j) : FVec Ideal S64x128 .f32) ((T3 fun r l _ => D.geo n g r l) : FVec Ideal S8x64x128 .f32) ((0 : ℝ) : EReal) = T2 (fun _ _ => 0) := by
  refine eqT2 fun a b => ?_
  have ha := a.isLt
  have hb := b.isLt
  pointwise [k0_pay122, pay116, pay119, pay118, T1_ix, T2_ix, T3_ix, T4_ix, B2_ix, B3_ix]
  all_goals try simp only [c_mul, c_sub, c_sum, EReal.coe_eq_coe_iff]
  all_goals first
    | done
    | (simp only [mul_zero, sub_self, Finset.sum_const_zero])

theorem pay123 : k0_pay123 (F := Ideal) ((T2 fun _ j => D.gla n g E j) : FVec Ideal S64x128 .f32) ((T2 fun l j => ∑ s : Fin 64, if l ≤ s.val then D.gcs n g E s.val j else 0) : FVec Ideal S64x128 .f32) ((T2 fun _ _ => 0) : FVec Ideal S64x128 .f32) ((T2 fun _ _ => 0) : FVec Ideal S64x128 .f32) = T2 (D.ga n g E) := by
  refine eqT2 fun a b => ?_
  have ha := a.isLt
  have hb := b.isLt
  pointwise [k0_pay123, T1_ix, T2_ix, T3_ix, T4_ix, B2_ix, B3_ix]
  all_goals try simp only [c_add, EReal.coe_eq_coe_iff]
  all_goals first
    | done
    | (simp only [add_zero]; rfl)

theorem pay124 : k0_pay124 (F := Ideal) ((T2 (D.dt n)) : FVec Ideal S64x128 .f32) ((T2 fun _ j => Real.exp (D.al j)) : FVec Ideal S1x128 .f32) ((T2 fun _ j => D.gla n g E j) : FVec Ideal S64x128 .f32) ((T2 fun l j => ∑ s : Fin 64, if l ≤ s.val then D.gcs n g E s.val j else 0) : FVec Ideal S64x128 .f32) ((T2 fun _ _ => 0) : FVec Ideal S64x128 .f32) ((T2 fun _ _ => 0) : FVec Ideal S64x128 .f32) = T2 (fun _ j => D.gal n g E j) := by
  refine eqT2 fun a b => ?_
  have ha := a.isLt
  have hb := b.isLt
  pointwise [k0_pay124, pay123, T1_ix, T2_ix, T3_ix, T4_ix, B2_ix, B3_ix]
  all_goals try simp only [c_mul, c_sub, c_sum, c_zero, EReal.coe_eq_coe_iff]
  all_goals first
    | done
    | (simp only [zero_sub]; rfl)

theorem pay125 (hp : ∀ l j, In.vm n l ≠ 0 → 32 + 8 * g ≤ j → j < 40 + 8 * g → D.pre n l j ≠ 0) : k0_pay125 (F := Ideal) ((T2 fun l _ => In.vm n l) : FVec Ideal S64x1 .f32) ((T2 fun l j => if 0 < D.pre n l j then 1 else if D.pre n l j = 0 then 1 / 2 else 0) : FVec Ideal S64x128 .f32) (B2 fun l j => 0 ≤ D.pre n l j) ((T2 (D.ea n)) : FVec Ideal S64x128 .f32) ((T2 fun l j => 1 + D.ea n l j) : FVec Ideal S64x128 .f32) ((T2 fun _ j => D.am j) : FVec Ideal S1x128 .f32) ((T2 fun l j => In.ln g (fun r => D.gdt n g E r l) j) : FVec Ideal S64x128 .f32) ((T2 fun _ j => D.gla n g E j) : FVec Ideal S64x128 .f32) ((T2 fun l j => ∑ s : Fin 64, if l ≤ s.val then D.gcs n g E s.val j else 0) : FVec Ideal S64x128 .f32) ((T2 fun _ _ => 0) : FVec Ideal S64x128 .f32) ((T2 fun _ _ => 0) : FVec Ideal S64x128 .f32) = T2 (D.gpre n g E) := by
  refine eqT2 fun a b => ?_
  have ha := a.isLt
  have hb := b.isLt
  pointwise [k0_pay125, pay123, T1_ix, T2_ix, T3_ix, T4_ix, B2_ix, B3_ix]
  all_goals try simp only [c_add, c_mul, c_sub, c_ite, c_zero, EReal.coe_eq_coe_iff, c_div (D.one_add_ea_pos n _ _).ne']
  all_goals first
    | done
    | (exact D.gpre_kernel n g E hp _ _)

theorem pay126 (hp : ∀ l j, In.vm n l ≠ 0 → 32 + 8 * g ≤ j → j < 40 + 8 * g → D.pre n l j ≠ 0) : k0_pay126 (F := Ideal) ((T2 fun l _ => In.vm n l) : FVec Ideal S64x1 .f32) ((T2 fun l j => if 0 < D.pre n l j then 1 else if D.pre n l j = 0 then 1 / 2 else 0) : FVec Ideal S64x128 .f32) (B2 fun l j => 0 ≤ D.pre n l j) ((T2 (D.ea n)) : FVec Ideal S64x128 .f32) ((T2 fun l j => 1 + D.ea n l j) : FVec Ideal S64x128 .f32) ((T2 fun _ j => D.am j) : FVec Ideal S1x128 .f32) ((T2 fun l j => In.ln g (fun r => D.gdt n g E r l) j) : FVec Ideal S64x128 .f32) ((T2 fun _ j => D.gla n g E j) : FVec Ideal S64x128 .f32) ((T2 fun l j => ∑ s : Fin 64, if l ≤ s.val then D.gcs n g E s.val j else 0) : FVec Ideal S64x128 .f32) ((T2 fun _ _ => 0) : FVec Ideal S64x128 .f32) ((T2 fun _ _ => 0) : FVec Ideal S64x128 .f32) = T2 (fun _ j => D.gbi n g E j) := by
  refine eqT2 fun a b => ?_
  have ha := a.isLt
  have hb := b.isLt
  pointwise [k0_pay126, pay125 D n g E hp, T1_ix, T2_ix, T3_ix, T4_ix, B2_ix, B3_ix]
  all_goals try simp only [c_sum, EReal.coe_eq_coe_iff]
  all_goals first
    | done
    | (rfl)

theorem pay127 : k0_pay127 (F := Ideal) ((T2 fun l _ => In.vm n l) : FVec Ideal S64x1 .f32) ((T2 (D.gC n g)) : FVec Ideal S64x128 .f32) = T2 (D.oC n g) := by
  refine eqT2 fun a b => ?_
  have ha := a.isLt
  have hb := b.isLt
  pointwise [k0_pay127, T1_ix, T2_ix, T3_ix, T4_ix, B2_ix, B3_ix]
  all_goals try simp only [c_mul, EReal.coe_eq_coe_iff]
  all_goals first
    | done
    | (rfl)

theorem pay128 : k0_pay128 (F := Ideal) ((T2 fun l _ => In.vm n l) : FVec Ideal S64x1 .f32) ((T2 (D.gB n g E)) : FVec Ideal S64x128 .f32) = T2 (D.oB n g E) := by
  refine eqT2 fun a b => ?_
  have ha := a.isLt
  have hb := b.isLt
  pointwise [k0_pay128, T1_ix, T2_ix, T3_ix, T4_ix, B2_ix, B3_ix]
  all_goals try simp only [c_mul, EReal.coe_eq_coe_iff]
  all_goals first
    | done
    | (rfl)

theorem pay129 : k0_pay129 (F := Ideal) ((T2 fun l _ => In.vm n l) : FVec Ideal S64x1 .f32) ((T2 (D.gx n g E)) : FVec Ideal S64x512 .f32) = T2 (D.oX n g E) := by
  refine eqT2 fun a b => ?_
  have ha := a.isLt
  have hb := b.isLt
  pointwise [k0_pay129, T1_ix, T2_ix, T3_ix, T4_ix, B2_ix, B3_ix]
  all_goals try simp only [c_mul, EReal.coe_eq_coe_iff]
  all_goals first
    | done
    | (rfl)

theorem pay130 : k0_pay130 (F := Ideal) ((T3 (D.nS n g E)) : FVec Ideal S8x64x128 .f32) = T3 (D.nS n g E) := by
  refine eqT3 fun a b c => ?_
  have ha := a.isLt
  have hb := b.isLt
  have hc := c.isLt
  pointwise [k0_pay130, T1_ix, T2_ix, T3_ix, T4_ix, B2_ix, B3_ix]
  all_goals try simp only [c_add, c_mul, c_sub, c_neg, c_max, c_sum, c_exp, c_abs, c_select, c_ite, c_zero, c_one, Fin.sum_univ_one, EReal.coe_lt_coe_iff, EReal.coe_le_coe_iff, EReal.coe_eq_coe_iff]
  all_goals first
    | done
    | (rfl)

theorem pay131 : k0_pay131 (F := Ideal) ((T2 (D.gz n g)) : FVec Ideal S64x512 .f32) = T2 (D.gz n g) := by
  refine eqT2 fun a b => ?_
  have ha := a.isLt
  have hb := b.isLt
  pointwise [k0_pay131, T1_ix, T2_ix, T3_ix, T4_ix, B2_ix, B3_ix]
  all_goals try simp only [c_add, c_mul, c_sub, c_neg, c_max, c_sum, c_exp, c_abs, c_select, c_ite, c_zero, c_one, Fin.sum_univ_one, EReal.coe_lt_coe_iff, EReal.coe_le_coe_iff, EReal.coe_eq_coe_iff]
  all_goals first
    | done
    | (rfl)

theorem pay132 : k0_pay132 (F := Ideal) ((T2 (D.gpre n g E)) : FVec Ideal S64x128 .f32) = T3 (fun _ l j => D.gpre n g E l j) := by
  refine eqT3 fun a b c => ?_
  have ha := a.isLt
  have hb := b.isLt
  have hc := c.isLt
  pointwise [k0_pay132, T1_ix, T2_ix, T3_ix, T4_ix, B2_ix, B3_ix]
  all_goals try simp only [c_add, c_mul, c_sub, c_neg, c_max, c_sum, c_exp, c_abs, c_select, c_ite, c_zero, c_one, Fin.sum_univ_one, EReal.coe_lt_coe_iff, EReal.coe_le_coe_iff, EReal.coe_eq_coe_iff]
  all_goals first
    | done
    | (rfl)

theorem pay133 (u : ℕ → ℝ) : k0_pay133 (F := Ideal) ((T2 fun _ j => D.gal n g E j) : FVec Ideal S1x128 .f32) ((T3 fun _ _ j => u j) : FVec Ideal S1x1x128 .f32) = T3 (fun _ _ j => u j + D.gal n g E j) := by
  refine eqT3 fun a b c => ?_
  have ha := a.isLt
  have hb := b.isLt
  have hc := c.isLt
  pointwise [k0_pay133, T1_ix, T2_ix, T3_ix, T4_ix, B2_ix, B3_ix]
  all_goals try simp only [c_add]
  all_goals first
    | done
    | (rfl)

theorem pay134 (u : ℕ → ℝ) : k0_pay134 (F := Ideal) ((T2 fun _ j => D.gbi n g E j) : FVec Ideal S1x128 .f32) ((T3 fun _ _ j => u j) : FVec Ideal S1x1x128 .f32) = T3 (fun _ _ j => u j + D.gbi n g E j) := by
  refine eqT3 fun a b c => ?_
  have ha := a.isLt
  have hb := b.isLt
  have hc := c.isLt
  pointwise [k0_pay134, T1_ix, T2_ix, T3_ix, T4_ix, B2_ix, B3_ix]
  all_goals try simp only [c_add]
  all_goals first
    | done
    | (rfl)

theorem pay135 (u : ℕ → ℝ) : k0_pay135 (F := Ideal) ((T3 fun r _ _ => D.gD n g r) : FVec Ideal S8x1x1 .f32) ((T3 fun r _ _ => u r) : FVec Ideal S8x1x1 .f32) = T3 (fun r _ _ => u r + D.gD n g r) := by
  refine eqT3 fun a b c => ?_
  have ha := a.isLt
  have hb := b.isLt
  have hc := c.isLt
  pointwise [k0_pay135, T1_ix, T2_ix, T3_ix, T4_ix, B2_ix, B3_ix]
  all_goals try simp only [c_add]
  all_goals first
    | done
    | (rfl)

theorem pay1 (u : ℕ → ℝ) : k0_pay1 (F := Ideal) ((T2 fun _ c => D.dnw n g c) : FVec Ideal S1x512 .f32) ((T2 fun _ c => u c) : FVec Ideal S1x512 .f32) = T2 (fun _ c => u c + D.dnw n g c) := by
  refine eqT2 fun a b => ?_
  have ha := a.isLt
  have hb := b.isLt
  pointwise [k0_pay1, T1_ix, T2_ix, T3_ix, T4_ix, B2_ix, B3_ix]
  all_goals try simp only [c_add]
  all_goals first
    | done
    | (rfl)

theorem pay2 : k0_pay2 (F := Ideal)  = T3 (fun _ _ _ => 0) := by
  refine eqT3 fun a b c => ?_
  have ha := a.isLt
  have hb := b.isLt
  have hc := c.isLt
  pointwise [k0_pay2, T1_ix, T2_ix, T3_ix, T4_ix, B2_ix, B3_ix]
  all_goals try simp only [c_zero]
  all_goals first
    | done
    | (rfl)

theorem pay3 : k0_pay3 (F := Ideal)  = T3 (fun _ _ _ => 0) := by
  refine eqT3 fun a b c => ?_
  have ha := a.isLt
  have hb := b.isLt
  have hc := c.isLt
  pointwise [k0_pay3, T1_ix, T2_ix, T3_ix, T4_ix, B2_ix, B3_ix]
  all_goals try simp only [c_zero]
  all_goals first
    | done
    | (rfl)

theorem pay4 : k0_pay4 (F := Ideal)  = T3 (fun _ _ _ => 0) := by
  refine eqT3 fun a b c => ?_
  have ha := a.isLt
  have hb := b.isLt
  have hc := c.isLt
  pointwise [k0_pay4, T1_ix, T2_ix, T3_ix, T4_ix, B2_ix, B3_ix]
  all_goals try simp only [c_zero]
  all_goals first
    | done
    | (rfl)

theorem pay5 : k0_pay5 (F := Ideal)  = T3 (fun _ _ _ => 0) := by
  refine eqT3 fun a b c => ?_
  have ha := a.isLt
  have hb := b.isLt
  have hc := c.isLt
  pointwise [k0_pay5, T1_ix, T2_ix, T3_ix, T4_ix, B2_ix, B3_ix]
  all_goals try simp only [c_zero]
  all_goals first
    | done
    | (rfl)

theorem pay6 : k0_pay6 (F := Ideal)  = T2 (fun _ _ => 0) := by
  refine eqT2 fun a b => ?_
  have ha := a.isLt
  have hb := b.isLt
  pointwise [k0_pay6, T1_ix, T2_ix, T3_ix, T4_ix, B2_ix, B3_ix]
  all_goals try simp only [c_zero]
  all_goals first
    | done
    | (rfl)

end Cert.Ssd
-- ==== Proof.OutB.lean ====
module

public import proofs.«01_k».proof.Proof.PayC
public import proofs.«01_k».proof.Proof.Math
public import proofs.«01_k».proof.Proof.Gen.KernelIdeal.Value

@[expose] public section

set_option maxRecDepth 16384

noncomputable section

namespace Cert.Ssd

open Idealize.ShloMosaic Idealize.ShloMosaic.WordCmp Cert.KernelIdeal Cert.KernelIdeal.Gen

variable (D : In) (n g : ℕ) (E : ℕ → ℕ → ℕ → ℝ)

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl
theorem z0 : (Scalar.ofBits .f32 0x00000000#32 : Ideal .f32) = ((0 : ℝ) : EReal) := Ideal.ofBits_zero_f32.trans c_zero
theorem o1 : (Scalar.ofBits .f32 0x3F800000#32 : Ideal .f32) = ((1 : ℝ) : EReal) := Ideal.ofBits_one_f32.trans c_one
theorem lane_word' {g : ℕ} (i : grid0.Coords) (hi : (i 0).val = g) (hg : g < 4) : Scalar.addi 32#32 (Scalar.muli (BitVec.ofNat 32 (i 0).val) 8#32) = BitVec.ofNat 32 (32 + 8 * g) := by
  rw [hi]; exact lane_word ⟨g, hg⟩
variable (u : ℕ → ℝ) (hn : n < 66) (hg : g < 4) (c : Dev nD) (i : grid0.Coords) (a2 : Memref sig .tc .vmem S64x512 .f32) (h2 : a2.IsWhole) (a3 : Memref sig .tc .vmem S64x128 .f32) (h3 : a3.IsWhole) (a4 : Memref sig .tc .vmem S64x128 .f32) (h4 : a4.IsWhole) (a5 : Memref sig .tc .vmem S64x512 .f32) (h5 : a5.IsWhole) (a6 : Memref sig .tc .vmem S64x128 .f32) (h6 : a6.IsWhole) (a7 : Memref sig .tc .vmem S1x128 .f32) (h7 : a7.IsWhole) (a8 : Memref sig .tc .vmem S1x128 .f32) (h8 : a8.IsWhole) (a9 : Memref sig .tc .vmem S8x1x1 .f32) (h9 : a9.IsWhole) (a10 : Memref sig .tc .vmem S1x512 .f32) (h10 : a10.IsWhole) (a11 : Memref sig .tc .vmem S1x8x64x128 .f32) (h11 : a11.IsWhole) (a12 : Memref sig .tc .vmem S64x512 .f32) (h12 : a12.IsWhole) (a14 : Memref sig .tc .vmem S64x512 .f32) (h14 : a14.IsWhole) (a15 : Memref sig .tc .vmem S64x128 .f32) (h15 : a15.IsWhole) (a16 : Memref sig .tc .vmem S64x128 .f32) (h16 : a16.IsWhole) (a17 : Memref sig .tc .vmem S64x512 .bf16) (h17 : a17.IsWhole) (a18 : Memref sig .tc .vmem S1x64x128 .f32) (h18 : a18.IsWhole) (a19 : Memref sig .tc .vmem S1x1x128 .f32) (h19 : a19.IsWhole) (a20 : Memref sig .tc .vmem S1x1x128 .f32) (h20 : a20.IsWhole) (a21 : Memref sig .tc .vmem S8x1x1 .f32) (h21 : a21.IsWhole) (a22 : Memref sig .tc .vmem S1x512 .f32) (h22 : a22.IsWhole) (a23 : Memref sig .tc .vmem S8x64x128 .f32) (h23 : a23.IsWhole) (hc0 : ¬cond0_0 i) (xo16 : FVec Ideal S1x1x128 .f32) (xo17 : FVec Ideal S1x1x128 .f32) (xo18 : FVec Ideal S8x1x1 .f32) (xo19 : FVec Ideal S1x512 .f32) (hs : (i 1).val = 65 - n) (hi : (i 0).val = g) (hp : ∀ l j, In.vm n l ≠ 0 → 32 + 8 * g ≤ j → j < 40 + 8 * g → D.pre n l j ≠ 0)

include u hn hg hs hi hp

theorem outB_11 :
    out0_B_11 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) xo16 xo17 xo18 xo19 (T3 E : FVec Ideal S8x64x128 .f32) = (T2 (D.oX n g E) : FVec Ideal S64x512 .f32) := by
  unfold out0_B_11
  rw [View.read_writes_eq_canon _ _ _ (fun _ => cover0_B_11 ..)]
  unfold kernelRun0_B
  dsimp only
  sl_unfold_words
  rw [View.canon_unit_zero (S := S64x512) z2]
  simp only [View.readAt_eq_ld, h2.read_unread, h3.read_unread, h4.read_unread, h5.read_unread, h6.read_unread, h7.read_unread, h8.read_unread, h9.read_unread, h10.read_unread, h11.read_unread, h12.read_unread, h23.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, View.ld_unit_zero (S := S8x64x128) z3, lane_word' i hi hg, z0]
  simp only [pay7 n i hs hn, pay8, pay9, pay10, pay11, pay12, pay13, pay14, pay20, pay23, pay24, pay25, pay26, pay27, pay29 D n g hg, pay31 D n g hg, pay33 g hg, pay34, pay36 D n g hg, pay39 D n g hg, pay44, pay45, pay49, pay51, pay52, pay56, pay57, pay59, pay66, pay68, pay69, pay70, pay73, pay81, pay85, pay93, pay105, pay129]

theorem outB_12 :
    out0_B_12 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) xo16 xo17 xo18 xo19 (T3 E : FVec Ideal S8x64x128 .f32) = (T2 (D.oB n g E) : FVec Ideal S64x128 .f32) := by
  unfold out0_B_12
  rw [View.read_writes_eq_canon _ _ _ (fun _ => cover0_B_12 ..)]
  unfold kernelRun0_B
  dsimp only
  sl_unfold_words
  rw [View.canon_unit_zero (S := S64x128) z2]
  simp only [View.readAt_eq_ld, h2.read_unread, h3.read_unread, h4.read_unread, h5.read_unread, h6.read_unread, h7.read_unread, h8.read_unread, h9.read_unread, h10.read_unread, h11.read_unread, h12.read_unread, h23.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, View.ld_unit_zero (S := S8x64x128) z3, lane_word' i hi hg, z0]
  simp only [pay7 n i hs hn, pay8, pay9, pay10, pay11, pay12, pay13, pay14, pay20, pay23, pay24, pay25, pay26, pay27, pay29 D n g hg, pay31 D n g hg, pay33 g hg, pay34, pay36 D n g hg, pay39 D n g hg, pay44, pay45, pay48, pay49, pay52, pay53, pay56, pay58, pay59, pay67, pay70, pay73, pay81, pay91, pay103, pay128]

theorem outB_13 :
    out0_B_13 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) xo16 xo17 xo18 xo19 (T3 E : FVec Ideal S8x64x128 .f32) = (T2 (D.oC n g) : FVec Ideal S64x128 .f32) := by
  unfold out0_B_13
  rw [View.read_writes_eq_canon _ _ _ (fun _ => cover0_B_13 ..)]
  unfold kernelRun0_B
  dsimp only
  sl_unfold_words
  rw [View.canon_unit_zero (S := S64x128) z2]
  simp only [View.readAt_eq_ld, h2.read_unread, h3.read_unread, h4.read_unread, h5.read_unread, h6.read_unread, h7.read_unread, h8.read_unread, h9.read_unread, h10.read_unread, h11.read_unread, h12.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, lane_word' i hi hg, z0]
  simp only [pay7 n i hs hn, pay8, pay9, pay10, pay11, pay12, pay13, pay14, pay20, pay23, pay24, pay25, pay29 D n g hg, pay31 D n g hg, pay33 g hg, pay34, pay36 D n g hg, pay44, pay45, pay48, pay49, pay52, pay54, pay56, pay58, pay59, pay61, pay64, pay70, pay73, pay81, pay95, pay104, pay127]

theorem outB_14 :
    out0_B_14 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) xo16 xo17 xo18 xo19 (T3 E : FVec Ideal S8x64x128 .f32) = (T2 (D.gz n g) : FVec Ideal S64x512 .bf16) := by
  unfold out0_B_14
  rw [View.read_writes_eq_canon _ _ _ (fun _ => cover0_B_14 ..)]
  unfold kernelRun0_B
  dsimp only
  sl_unfold_words
  rw [View.canon_unit_zero (S := S64x512) z2]
  simp only [View.readAt_eq_ld, h2.read_unread, h3.read_unread, h4.read_unread, h5.read_unread, h6.read_unread, h7.read_unread, h8.read_unread, h9.read_unread, h10.read_unread, h11.read_unread, h12.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, lane_word' i hi hg, z0, o1]
  simp only [pay7 n i hs hn, pay8, pay9, pay10, pay12, pay13, pay14, pay20, pay23, pay24, pay25, pay29 D n g hg, pay31 D n g hg, pay33 g hg, pay34, pay36 D n g hg, pay44, pay45, pay49, pay52, pay56, pay70, pay71, pay72, pay73, pay74, pay82, pay83, pay84, pay131]

theorem outB_15 :
    out0_B_15 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) xo16 xo17 xo18 xo19 (T3 E : FVec Ideal S8x64x128 .f32) = (T3 fun _ l j => D.gpre n g E l j : FVec Ideal S1x64x128 .f32) := by
  unfold out0_B_15
  rw [View.read_writes_eq_canon _ _ _ (fun _ => cover0_B_15 ..)]
  unfold kernelRun0_B
  dsimp only
  sl_unfold_words
  rw [View.canon_unit_zero (S := S1x64x128) z3]
  simp only [View.readAt_eq_ld, h2.read_unread, h3.read_unread, h4.read_unread, h5.read_unread, h6.read_unread, h7.read_unread, h8.read_unread, h9.read_unread, h10.read_unread, h11.read_unread, h12.read_unread, h23.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, View.ld_unit_zero (S := S8x64x128) z3, lane_word' i hi hg, z0]
  simp only [pay7 n i hs hn, pay8, pay9, pay10, pay11, pay12, pay13, pay14, pay16, pay17, pay18, pay19, pay20, pay22, pay23, pay24, pay25, pay26, pay27, pay28 g hg, pay29 D n g hg, pay30 g hg, pay31 D n g hg, pay32, pay33 g hg, pay34, pay35, pay36 D n g hg, pay37, pay38 g hg, pay39 D n g hg, pay40, pay41 g hg, pay43, pay44, pay45, pay46, pay47, pay49, pay50, pay52, pay55, pay56, pay57, pay58, pay59, pay62, pay63, pay65, pay66, pay68, pay70, pay73, pay81, pay89, pay93, pay94, pay96, pay106, pay107, pay108, pay110, pay111, pay112, pay114, pay115, pay120, pay121, pay122, pay125 D n g E hp, pay132]

theorem outB_16 :
    out0_B_16 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) (T3 (fun _ _ j => u j) : FVec Ideal S1x1x128 .f32) xo17 xo18 xo19 (T3 E : FVec Ideal S8x64x128 .f32) = (T3 fun _ _ j => u j + D.gal n g E j : FVec Ideal S1x1x128 .f32) := by
  unfold out0_B_16
  rw [View.read_writes_eq_canon _ _ _ (fun _ => cover0_B_16 ..)]
  unfold kernelRun0_B
  dsimp only
  sl_unfold_words
  rw [View.canon_unit_zero (S := S1x1x128) z3]
  simp only [View.readAt_eq_ld, h2.read_unread, h3.read_unread, h4.read_unread, h5.read_unread, h6.read_unread, h7.read_unread, h8.read_unread, h9.read_unread, h10.read_unread, h11.read_unread, h12.read_unread, h19.read_unread, h23.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, View.ld_unit_zero (S := S1x1x128) z3, View.ld_unit_zero (S := S8x64x128) z3, lane_word' i hi hg, z0]
  simp only [pay7 n i hs hn, pay8, pay9, pay10, pay12, pay13, pay14, pay20, pay21, pay23, pay24, pay25, pay26, pay27, pay29 D n g hg, pay30 g hg, pay31 D n g hg, pay32, pay33 g hg, pay34, pay35, pay36 D n g hg, pay37, pay38 g hg, pay40, pay41 g hg, pay43, pay44, pay45, pay46, pay47, pay49, pay52, pay55, pay56, pay58, pay59, pay62, pay63, pay65, pay68, pay70, pay73, pay81, pay89, pay94, pay96, pay107, pay108, pay110, pay111, pay112, pay115, pay120, pay121, pay122, pay124, pay133]

theorem outB_17 :
    out0_B_17 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) xo16 (T3 (fun _ _ j => u j) : FVec Ideal S1x1x128 .f32) xo18 xo19 (T3 E : FVec Ideal S8x64x128 .f32) = (T3 fun _ _ j => u j + D.gbi n g E j : FVec Ideal S1x1x128 .f32) := by
  unfold out0_B_17
  rw [View.read_writes_eq_canon _ _ _ (fun _ => cover0_B_17 ..)]
  unfold kernelRun0_B
  dsimp only
  sl_unfold_words
  rw [View.canon_unit_zero (S := S1x1x128) z3]
  simp only [View.readAt_eq_ld, h2.read_unread, h3.read_unread, h4.read_unread, h5.read_unread, h6.read_unread, h7.read_unread, h8.read_unread, h9.read_unread, h10.read_unread, h11.read_unread, h12.read_unread, h20.read_unread, h23.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, View.ld_unit_zero (S := S1x1x128) z3, View.ld_unit_zero (S := S8x64x128) z3, lane_word' i hi hg, z0]
  simp only [pay7 n i hs hn, pay8, pay9, pay10, pay11, pay12, pay13, pay14, pay16, pay17, pay18, pay19, pay20, pay22, pay23, pay24, pay25, pay26, pay27, pay28 g hg, pay29 D n g hg, pay30 g hg, pay31 D n g hg, pay32, pay33 g hg, pay34, pay35, pay36 D n g hg, pay37, pay38 g hg, pay39 D n g hg, pay40, pay41 g hg, pay43, pay44, pay45, pay46, pay47, pay49, pay50, pay52, pay55, pay56, pay57, pay58, pay59, pay62, pay63, pay65, pay66, pay68, pay70, pay73, pay81, pay89, pay93, pay94, pay96, pay106, pay107, pay108, pay110, pay111, pay112, pay114, pay115, pay120, pay121, pay122, pay126 D n g E hp, pay134]

theorem outB_18 :
    out0_B_18 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) xo16 xo17 (T3 (fun r _ _ => u r) : FVec Ideal S8x1x1 .f32) xo19 (T3 E : FVec Ideal S8x64x128 .f32) = (T3 fun r _ _ => u r + D.gD n g r : FVec Ideal S8x1x1 .f32) := by
  unfold out0_B_18
  rw [View.read_writes_eq_canon _ _ _ (fun _ => cover0_B_18 ..)]
  unfold kernelRun0_B
  dsimp only
  sl_unfold_words
  rw [View.canon_unit_zero (S := S8x1x1) z3]
  simp only [View.readAt_eq_ld, h2.read_unread, h3.read_unread, h4.read_unread, h5.read_unread, h6.read_unread, h7.read_unread, h8.read_unread, h9.read_unread, h10.read_unread, h11.read_unread, h12.read_unread, h21.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, lane_word' i hi hg, z0]
  simp only [pay7 n i hs hn, pay8, pay9, pay10, pay12, pay13, pay14, pay20, pay23, pay24, pay25, pay29 D n g hg, pay31 D n g hg, pay33 g hg, pay34, pay36 D n g hg, pay44, pay45, pay49, pay52, pay56, pay70, pay73, pay81, pay86, pay135]

theorem outB_19 :
    out0_B_19 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) xo16 xo17 xo18 (T2 (fun _ c => u c) : FVec Ideal S1x512 .f32) (T3 E : FVec Ideal S8x64x128 .f32) = (T2 fun _ c => u c + D.dnw n g c : FVec Ideal S1x512 .f32) := by
  unfold out0_B_19
  rw [View.read_writes_eq_canon _ _ _ (fun _ => cover0_B_19 ..)]
  unfold kernelRun0_B
  dsimp only
  sl_unfold_words
  rw [View.canon_unit_zero (S := S1x512) z2]
  simp only [View.readAt_eq_ld, h2.read_unread, h3.read_unread, h4.read_unread, h5.read_unread, h6.read_unread, h7.read_unread, h8.read_unread, h9.read_unread, h11.read_unread, h12.read_unread, h22.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, lane_word' i hi hg, z0]
  simp only [pay7 n i hs hn, pay8, pay9, pay10, pay12, pay13, pay14, pay20, pay23, pay24, pay25, pay29 D n g hg, pay31 D n g hg, pay33 g hg, pay34, pay36 D n g hg, pay44, pay45, pay49, pay52, pay56, pay70, pay73, pay78, pay1]

theorem outB_s :
    sout0_B_0 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) xo16 xo17 xo18 xo19 (T3 E : FVec Ideal S8x64x128 .f32) = (T3 (D.nS n g E) : FVec Ideal S8x64x128 .f32) := by
  unfold sout0_B_0
  rw [View.read_writes_eq_canon _ _ _ (fun _ => scover0_B_0 ..)]
  unfold kernelRun0_B
  dsimp only
  sl_unfold_words
  rw [View.canon_unit_zero (S := S8x64x128) z3]
  simp only [View.readAt_eq_ld, h2.read_unread, h3.read_unread, h4.read_unread, h5.read_unread, h6.read_unread, h7.read_unread, h8.read_unread, h9.read_unread, h10.read_unread, h11.read_unread, h12.read_unread, h23.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, View.ld_unit_zero (S := S8x64x128) z3, lane_word' i hi hg, z0]
  simp only [pay7 n i hs hn, pay8, pay9, pay10, pay12, pay13, pay14, pay20, pay23, pay24, pay25, pay27, pay29 D n g hg, pay31 D n g hg, pay33 g hg, pay34, pay36 D n g hg, pay42 D n g hg, pay44, pay45, pay49, pay52, pay56, pay60, pay64, pay70, pay73, pay81, pay90, pay97, pay98, pay130]

end Cert.Ssd
-- ==== Proof.OutA.lean ====
module

public import proofs.«01_k».proof.Proof.OutB
public import proofs.«01_k».proof.Proof.Math
public import proofs.«01_k».proof.Proof.Gen.KernelIdeal.Value

@[expose] public section

set_option maxRecDepth 16384

noncomputable section

namespace Cert.Ssd

open Idealize.ShloMosaic Idealize.ShloMosaic.WordCmp Cert.KernelIdeal Cert.KernelIdeal.Gen

variable (D : In) (n g : ℕ) (E : ℕ → ℕ → ℕ → ℝ)

variable (u : ℕ → ℝ) (hn : n < 66) (hg : g < 4) (c : Dev nD) (i : grid0.Coords) (a2 : Memref sig .tc .vmem S64x512 .f32) (h2 : a2.IsWhole) (a3 : Memref sig .tc .vmem S64x128 .f32) (h3 : a3.IsWhole) (a4 : Memref sig .tc .vmem S64x128 .f32) (h4 : a4.IsWhole) (a5 : Memref sig .tc .vmem S64x512 .f32) (h5 : a5.IsWhole) (a6 : Memref sig .tc .vmem S64x128 .f32) (h6 : a6.IsWhole) (a7 : Memref sig .tc .vmem S1x128 .f32) (h7 : a7.IsWhole) (a8 : Memref sig .tc .vmem S1x128 .f32) (h8 : a8.IsWhole) (a9 : Memref sig .tc .vmem S8x1x1 .f32) (h9 : a9.IsWhole) (a10 : Memref sig .tc .vmem S1x512 .f32) (h10 : a10.IsWhole) (a11 : Memref sig .tc .vmem S1x8x64x128 .f32) (h11 : a11.IsWhole) (a12 : Memref sig .tc .vmem S64x512 .f32) (h12 : a12.IsWhole) (a14 : Memref sig .tc .vmem S64x512 .f32) (h14 : a14.IsWhole) (a15 : Memref sig .tc .vmem S64x128 .f32) (h15 : a15.IsWhole) (a16 : Memref sig .tc .vmem S64x128 .f32) (h16 : a16.IsWhole) (a17 : Memref sig .tc .vmem S64x512 .bf16) (h17 : a17.IsWhole) (a18 : Memref sig .tc .vmem S1x64x128 .f32) (h18 : a18.IsWhole) (a19 : Memref sig .tc .vmem S1x1x128 .f32) (h19 : a19.IsWhole) (a20 : Memref sig .tc .vmem S1x1x128 .f32) (h20 : a20.IsWhole) (a21 : Memref sig .tc .vmem S8x1x1 .f32) (h21 : a21.IsWhole) (a22 : Memref sig .tc .vmem S1x512 .f32) (h22 : a22.IsWhole) (a23 : Memref sig .tc .vmem S8x64x128 .f32) (h23 : a23.IsWhole) (hc0 : cond0_0 i) (hs : (i 1).val = 65 - n) (hi : (i 0).val = g) (hp : ∀ l j, In.vm n l ≠ 0 → 32 + 8 * g ≤ j → j < 40 + 8 * g → D.pre n l j ≠ 0)

include u hn hg hs hi hp

theorem outA_11 :
    out0_A_11 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) = (T2 (D.oX n g fun _ _ _ => 0) : FVec Ideal S64x512 .f32) := by
  unfold out0_A_11
  rw [View.read_writes_eq_canon _ _ _ (fun _ => cover0_A_11 ..)]
  unfold kernelRun0_A
  dsimp only
  sl_unfold_words
  rw [View.canon_unit_zero (S := S64x512) z2]
  simp only [View.readCov_unit_zero (S := S8x64x128) _ z3, View.readAt_eq_ld, h2.read_unread, h3.read_unread, h4.read_unread, h5.read_unread, h6.read_unread, h7.read_unread, h8.read_unread, h9.read_unread, h10.read_unread, h11.read_unread, h12.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, lane_word' i hi hg, z0]
  simp only [pay2, pay7 n i hs hn, pay8, pay9, pay10, pay11, pay12, pay13, pay14, pay20, pay23, pay24, pay25, pay26, pay27, pay29 D n g hg, pay31 D n g hg, pay33 g hg, pay34, pay36 D n g hg, pay39 D n g hg, pay44, pay45, pay49, pay51, pay52, pay56, pay57, pay59, pay66, pay68, pay69, pay70, pay73, pay81, pay85, pay93, pay105, pay129]

theorem outA_12 :
    out0_A_12 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) = (T2 (D.oB n g fun _ _ _ => 0) : FVec Ideal S64x128 .f32) := by
  unfold out0_A_12
  rw [View.read_writes_eq_canon _ _ _ (fun _ => cover0_A_12 ..)]
  unfold kernelRun0_A
  dsimp only
  sl_unfold_words
  rw [View.canon_unit_zero (S := S64x128) z2]
  simp only [View.readCov_unit_zero (S := S8x64x128) _ z3, View.readAt_eq_ld, h2.read_unread, h3.read_unread, h4.read_unread, h5.read_unread, h6.read_unread, h7.read_unread, h8.read_unread, h9.read_unread, h10.read_unread, h11.read_unread, h12.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, lane_word' i hi hg, z0]
  simp only [pay2, pay7 n i hs hn, pay8, pay9, pay10, pay11, pay12, pay13, pay14, pay20, pay23, pay24, pay25, pay26, pay27, pay29 D n g hg, pay31 D n g hg, pay33 g hg, pay34, pay36 D n g hg, pay39 D n g hg, pay44, pay45, pay48, pay49, pay52, pay53, pay56, pay58, pay59, pay67, pay70, pay73, pay81, pay91, pay103, pay128]

theorem outA_13 :
    out0_A_13 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) = (T2 (D.oC n g) : FVec Ideal S64x128 .f32) := by
  unfold out0_A_13
  rw [View.read_writes_eq_canon _ _ _ (fun _ => cover0_A_13 ..)]
  unfold kernelRun0_A
  dsimp only
  sl_unfold_words
  rw [View.canon_unit_zero (S := S64x128) z2]
  simp only [View.readAt_eq_ld, h2.read_unread, h3.read_unread, h4.read_unread, h5.read_unread, h6.read_unread, h7.read_unread, h8.read_unread, h9.read_unread, h10.read_unread, h11.read_unread, h12.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, lane_word' i hi hg, z0]
  simp only [pay7 n i hs hn, pay8, pay9, pay10, pay11, pay12, pay13, pay14, pay20, pay23, pay24, pay25, pay29 D n g hg, pay31 D n g hg, pay33 g hg, pay34, pay36 D n g hg, pay44, pay45, pay48, pay49, pay52, pay54, pay56, pay58, pay59, pay61, pay64, pay70, pay73, pay81, pay95, pay104, pay127]

theorem outA_14 :
    out0_A_14 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) = (T2 (D.gz n g) : FVec Ideal S64x512 .bf16) := by
  unfold out0_A_14
  rw [View.read_writes_eq_canon _ _ _ (fun _ => cover0_A_14 ..)]
  unfold kernelRun0_A
  dsimp only
  sl_unfold_words
  rw [View.canon_unit_zero (S := S64x512) z2]
  simp only [View.readAt_eq_ld, h2.read_unread, h3.read_unread, h4.read_unread, h5.read_unread, h6.read_unread, h7.read_unread, h8.read_unread, h9.read_unread, h10.read_unread, h11.read_unread, h12.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, lane_word' i hi hg, z0, o1]
  simp only [pay7 n i hs hn, pay8, pay9, pay10, pay12, pay13, pay14, pay20, pay23, pay24, pay25, pay29 D n g hg, pay31 D n g hg, pay33 g hg, pay34, pay36 D n g hg, pay44, pay45, pay49, pay52, pay56, pay70, pay71, pay72, pay73, pay74, pay82, pay83, pay84, pay131]

theorem outA_15 :
    out0_A_15 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) = (T3 fun _ l j => D.gpre n g (fun _ _ _ => 0) l j : FVec Ideal S1x64x128 .f32) := by
  unfold out0_A_15
  rw [View.read_writes_eq_canon _ _ _ (fun _ => cover0_A_15 ..)]
  unfold kernelRun0_A
  dsimp only
  sl_unfold_words
  rw [View.canon_unit_zero (S := S1x64x128) z3]
  simp only [View.readCov_unit_zero (S := S8x64x128) _ z3, View.readAt_eq_ld, h2.read_unread, h3.read_unread, h4.read_unread, h5.read_unread, h6.read_unread, h7.read_unread, h8.read_unread, h9.read_unread, h10.read_unread, h11.read_unread, h12.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, lane_word' i hi hg, z0]
  simp only [pay2, pay7 n i hs hn, pay8, pay9, pay10, pay11, pay12, pay13, pay14, pay16, pay17, pay18, pay19, pay20, pay22, pay23, pay24, pay25, pay26, pay27, pay28 g hg, pay29 D n g hg, pay30 g hg, pay31 D n g hg, pay32, pay33 g hg, pay34, pay35, pay36 D n g hg, pay37, pay38 g hg, pay39 D n g hg, pay40, pay41 g hg, pay43, pay44, pay45, pay46, pay47, pay49, pay50, pay52, pay55, pay56, pay57, pay58, pay59, pay62, pay63, pay65, pay66, pay68, pay70, pay73, pay81, pay89, pay93, pay94, pay96, pay106, pay107, pay108, pay110, pay111, pay112, pay114, pay115, pay120, pay121, pay122, pay125 D n g (fun _ _ _ => 0) hp, pay132]

theorem outA_16 :
    out0_A_16 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) = (T3 fun _ _ j => 0 + D.gal n g (fun _ _ _ => 0) j : FVec Ideal S1x1x128 .f32) := by
  unfold out0_A_16
  rw [View.read_writes_eq_canon _ _ _ (fun _ => cover0_A_16 ..)]
  unfold kernelRun0_A
  dsimp only
  sl_unfold_words
  rw [View.canon_cons_unit_zero (S := S1x1x128) z3]
  simp only [View.readCov_unit_zero (S := S8x64x128) _ z3, View.readCov_unit_zero (S := S1x1x128) _ z3, View.readAt_eq_ld, h2.read_unread, h3.read_unread, h4.read_unread, h5.read_unread, h6.read_unread, h7.read_unread, h8.read_unread, h9.read_unread, h10.read_unread, h11.read_unread, h12.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, lane_word' i hi hg, z0]
  simp only [pay2, pay3, pay7 n i hs hn, pay8, pay9, pay10, pay12, pay13, pay14, pay20, pay21, pay23, pay24, pay25, pay26, pay27, pay29 D n g hg, pay30 g hg, pay31 D n g hg, pay32, pay33 g hg, pay34, pay35, pay36 D n g hg, pay37, pay38 g hg, pay40, pay41 g hg, pay43, pay44, pay45, pay46, pay47, pay49, pay52, pay55, pay56, pay58, pay59, pay62, pay63, pay65, pay68, pay70, pay73, pay81, pay89, pay94, pay96, pay107, pay108, pay110, pay111, pay112, pay115, pay120, pay121, pay122, pay124, pay133 (u := fun _ => 0)]

theorem outA_17 :
    out0_A_17 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) = (T3 fun _ _ j => 0 + D.gbi n g (fun _ _ _ => 0) j : FVec Ideal S1x1x128 .f32) := by
  unfold out0_A_17
  rw [View.read_writes_eq_canon _ _ _ (fun _ => cover0_A_17 ..)]
  unfold kernelRun0_A
  dsimp only
  sl_unfold_words
  rw [View.canon_cons_unit_zero (S := S1x1x128) z3]
  simp only [View.readCov_unit_zero (S := S8x64x128) _ z3, View.readCov_unit_zero (S := S1x1x128) _ z3, View.readAt_eq_ld, h2.read_unread, h3.read_unread, h4.read_unread, h5.read_unread, h6.read_unread, h7.read_unread, h8.read_unread, h9.read_unread, h10.read_unread, h11.read_unread, h12.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, lane_word' i hi hg, z0]
  simp only [pay2, pay4, pay7 n i hs hn, pay8, pay9, pay10, pay11, pay12, pay13, pay14, pay16, pay17, pay18, pay19, pay20, pay22, pay23, pay24, pay25, pay26, pay27, pay28 g hg, pay29 D n g hg, pay30 g hg, pay31 D n g hg, pay32, pay33 g hg, pay34, pay35, pay36 D n g hg, pay37, pay38 g hg, pay39 D n g hg, pay40, pay41 g hg, pay43, pay44, pay45, pay46, pay47, pay49, pay50, pay52, pay55, pay56, pay57, pay58, pay59, pay62, pay63, pay65, pay66, pay68, pay70, pay73, pay81, pay89, pay93, pay94, pay96, pay106, pay107, pay108, pay110, pay111, pay112, pay114, pay115, pay120, pay121, pay122, pay126 D n g (fun _ _ _ => 0) hp, pay134 (u := fun _ => 0)]

theorem outA_18 :
    out0_A_18 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) = (T3 fun r _ _ => 0 + D.gD n g r : FVec Ideal S8x1x1 .f32) := by
  unfold out0_A_18
  rw [View.read_writes_eq_canon _ _ _ (fun _ => cover0_A_18 ..)]
  unfold kernelRun0_A
  dsimp only
  sl_unfold_words
  rw [View.canon_cons_unit_zero (S := S8x1x1) z3]
  simp only [View.readCov_unit_zero (S := S8x1x1) _ z3, View.readAt_eq_ld, h2.read_unread, h3.read_unread, h4.read_unread, h5.read_unread, h6.read_unread, h7.read_unread, h8.read_unread, h9.read_unread, h10.read_unread, h11.read_unread, h12.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, lane_word' i hi hg, z0]
  simp only [pay5, pay7 n i hs hn, pay8, pay9, pay10, pay12, pay13, pay14, pay20, pay23, pay24, pay25, pay29 D n g hg, pay31 D n g hg, pay33 g hg, pay34, pay36 D n g hg, pay44, pay45, pay49, pay52, pay56, pay70, pay73, pay81, pay86, pay135 (u := fun _ => 0)]

theorem outA_19 :
    out0_A_19 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) = (T2 fun _ c => 0 + D.dnw n g c : FVec Ideal S1x512 .f32) := by
  unfold out0_A_19
  rw [View.read_writes_eq_canon _ _ _ (fun _ => cover0_A_19 ..)]
  unfold kernelRun0_A
  dsimp only
  sl_unfold_words
  rw [View.canon_cons_unit_zero (S := S1x512) z2]
  simp only [View.readCov_unit_zero (S := S1x512) _ z2, View.readAt_eq_ld, h2.read_unread, h3.read_unread, h4.read_unread, h5.read_unread, h6.read_unread, h7.read_unread, h8.read_unread, h9.read_unread, h11.read_unread, h12.read_unread, View.ld_unit_zero (S := S64x512) z2, View.ld_unit_zero (S := S64x128) z2, View.ld_unit_zero (S := S1x128) z2, View.ld_unit_zero (S := S8x1x1) z3, View.ld_unit_zero (S := S1x8x64x128) z4, lane_word' i hi hg, z0]
  simp only [pay6, pay7 n i hs hn, pay8, pay9, pay10, pay12, pay13, pay14, pay20, pay23, pay24, pay25, pay29 D n g hg, pay31 D n g hg, pay33 g hg, pay34, pay36 D n g hg, pay44, pay45, pay49, pay52, pay56, pay70, pay73, pay78, pay1 (u := fun _ => 0)]

theorem outA_s :
    sout0_A_0 (F := Ideal) c i a2 h2 a3 h3 a4 h4 a5 h5 a6 h6 a7 h7 a8 h8 a9 h9 a10 h10 a11 h11 a12 h12 a14 h14 a15 h15 a16 h16 a17 h17 a18 h18 a19 h19 a20 h20 a21 h21 a22 h22 a23 h23 hc0 (T2 (D.xr n g) : FVec Ideal S64x512 .f32) (T2 (D.br n g) : FVec Ideal S64x128 .f32) (T2 (D.cr n g) : FVec Ideal S64x128 .f32) (T2 (D.z n g) : FVec Ideal S64x512 .f32) (T2 (D.pr n) : FVec Ideal S64x128 .f32) (T2 (fun _ j => D.al j) : FVec Ideal S1x128 .f32) (T2 (fun _ j => D.db j) : FVec Ideal S1x128 .f32) (T3 (fun r _ _ => D.dkg g r) : FVec Ideal S8x1x1 .f32) (T2 (fun _ c => D.nwg g c) : FVec Ideal S1x512 .f32) (T4 (fun _ r p k => D.S n g r p k) : FVec Ideal S1x8x64x128 .f32) (T2 (D.gy n g) : FVec Ideal S64x512 .f32) = (T3 (D.nS n g fun _ _ _ => 0) : FVec Ideal S8x64x128 .f32) := by
  unfold sout0_A_0
  rw [View.read_writes_eq_canon _ _ _ (fun _ => scover0_A_0 ..)]
  unfold kernelRun0_A
  dsimp only
  sl_unfold_words
  rw [View.canon_cons_unit_zero (S := S8x64x128) z3]
  simp only [View.readCov_unit_zero (S := S8x64x128) _ z3, View.readAt_eq_ld, h2.read_unread, h3.read_unread, h4.read_unread, h5.read_unread, h6.read_unread, h7.read_unread, h8.read_unread, h9.read_unread, h10.read_unread, h11.read_unread, h12.read_unread, View.ld_unit_zero (S := S64x512) z2, View.ld_unit_zero (S := S64x128) z2, View.ld_unit_zero (S := S1x128) z2, View.ld_unit_zero (S := S8x1x1) z3, View.ld_unit_zero (S := S1x512) z2, View.ld_unit_zero (S := S1x8x64x128) z4, lane_word' i hi hg, z0]
  simp only [pay2, pay7 n i hs hn, pay8, pay9, pay10, pay12, pay13, pay14, pay20, pay23, pay24, pay25, pay27, pay29 D n g hg, pay31 D n g hg, pay33 g hg, pay34, pay36 D n g hg, pay42 D n g hg, pay44, pay45, pay49, pay52, pay56, pay60, pay64, pay70, pay73, pay81, pay90, pay97, pay98, pay130]

end Cert.Ssd
-- ==== Proof.Outs.lean ====
/-
  THE WALK BACK THROUGH THE SEQUENCE. Point by point, the grid leaves in its output blocks and in the state gradient it
  carries exactly the formulas of Math.lean: the state gradient entering step `s` of a group is `dS s`, each step's
  update of the one before, and the four sums are carried along. The proof is an induction over the grid's points.
-/
module

public import proofs.«01_k».proof.Proof.Blocks
public import proofs.«01_k».proof.Proof.OutA
public import proofs.«01_k».proof.Proof.OutB

@[expose] public section

set_option maxRecDepth 16384

noncomputable section

namespace Cert.Ssd

open Idealize.ShloMosaic Idealize.ShloMosaic.TcCoe Idealize.SL.Sem Cert.KernelIdeal Cert.KernelIdeal.Gen
open Idealize.ShloMosaic.Pipeline

/-- The state gradient that step `s` of group `g` starts from; step `s` works on chunk `65 - s`. -/
def In.dS (D : In) (g : ℕ) : ℕ → ℕ → ℕ → ℕ → ℝ
  | 0 => fun _ _ _ => 0
  | s + 1 => D.nS (65 - s) g (D.dS g s)

/-- A running sum over the steps. -/
def acc (f : ℕ → ℝ) : ℕ → ℝ
  | 0 => 0
  | s + 1 => acc f s + f s

theorem acc_eq (f : ℕ → ℝ) : ∀ s, acc f s = ∑ k ∈ Finset.range s, f k
  | 0 => rfl
  | s + 1 => by rw [Finset.sum_range_succ, ← acc_eq f s]; rfl

/-- What step `s` of group `g` leaves: the nine output blocks, and the state gradient for the next step. -/
def st (D : In) (g s : ℕ) : Vec Ideal S64x512 .f32 × Vec Ideal S64x128 .f32 × Vec Ideal S64x128 .f32 × Vec Ideal S64x512 .bf16 × Vec Ideal S1x64x128 .f32 × Vec Ideal S1x1x128 .f32 × Vec Ideal S1x1x128 .f32 × Vec Ideal S8x1x1 .f32 × Vec Ideal S1x512 .f32 × Vec Ideal S8x64x128 .f32 :=
  ((T2 (D.oX (65 - s) g (D.dS g s)) : FVec Ideal S64x512 .f32),
   (T2 (D.oB (65 - s) g (D.dS g s)) : FVec Ideal S64x128 .f32),
   (T2 (D.oC (65 - s) g) : FVec Ideal S64x128 .f32),
   (T2 (D.gz (65 - s) g) : FVec Ideal S64x512 .bf16),
   (T3 (fun _ l j => D.gpre (65 - s) g (D.dS g s) l j) : FVec Ideal S1x64x128 .f32),
   (T3 (fun _ _ j => acc (fun k => D.gal (65 - k) g (D.dS g k) j) (s + 1)) : FVec Ideal S1x1x128 .f32),
   (T3 (fun _ _ j => acc (fun k => D.gbi (65 - k) g (D.dS g k) j) (s + 1)) : FVec Ideal S1x1x128 .f32),
   (T3 (fun r _ _ => acc (fun k => D.gD (65 - k) g r) (s + 1)) : FVec Ideal S8x1x1 .f32),
   (T2 (fun _ c => acc (fun k => D.dnw (65 - k) g c) (s + 1)) : FVec Ideal S1x512 .f32),
   (T3 (D.dS g (s + 1)) : FVec Ideal S8x64x128 .f32))

variable {m : (ℓ : Loc nD τ sig) → Buf (Elt Ideal) ℓ} {c : Dev nD} {D : In} (H : Args m c D)
  (HP : ∀ n l j, In.vm n l ≠ 0 → 32 ≤ j → j < 64 → D.pre n l j ≠ 0)
include H HP

theorem outs_A (t : Fin cfg0.N) (h0 : t.val % 66 = 0) : outsAt0 m c t.val t.isLt = st D (t.val / 66) (t.val % 66) := by
  have ht : t.val < 264 := t.isLt
  have hg : t.val / 66 < 4 := by omega
  have hn : 65 - t.val % 66 < 66 := by omega
  have hs : ((grid0.coords t) 1).val = 65 - (65 - t.val % 66) := by rw [coord1]; omega
  have hi : ((grid0.coords t) 0).val = t.val / 66 := coord0 t
  have hp : ∀ l j, In.vm (65 - t.val % 66) l ≠ 0 → 32 + 8 * (t.val / 66) ≤ j → j < 40 + 8 * (t.val / 66) → D.pre (65 - t.val % 66) l j ≠ 0 :=
    fun l j h h1 h2 => HP _ _ _ h (by omega) (by omega)
  rw [outsAt0_A m c t h0, blk0 H t, blk1 H t, blk2 H t, blk3 H t, blk4 H t, blk5 H t, blk6 H t, blk7 H t, blk8 H t, blk9 H t, blk10 H t]
  rw [outA_11 D (65 - t.val % 66) (t.val / 66) (fun _ => 0) hn hg (hs := hs) (hi := hi) (hp := hp) .., outA_12 D (65 - t.val % 66) (t.val / 66) (fun _ => 0) hn hg (hs := hs) (hi := hi) (hp := hp) .., outA_13 D (65 - t.val % 66) (t.val / 66) (fun _ => 0) hn hg (hs := hs) (hi := hi) (hp := hp) .., outA_14 D (65 - t.val % 66) (t.val / 66) (fun _ => 0) hn hg (hs := hs) (hi := hi) (hp := hp) .., outA_15 D (65 - t.val % 66) (t.val / 66) (fun _ => 0) hn hg (hs := hs) (hi := hi) (hp := hp) .., outA_16 D (65 - t.val % 66) (t.val / 66) (fun _ => 0) hn hg (hs := hs) (hi := hi) (hp := hp) .., outA_17 D (65 - t.val % 66) (t.val / 66) (fun _ => 0) hn hg (hs := hs) (hi := hi) (hp := hp) .., outA_18 D (65 - t.val % 66) (t.val / 66) (fun _ => 0) hn hg (hs := hs) (hi := hi) (hp := hp) .., outA_19 D (65 - t.val % 66) (t.val / 66) (fun _ => 0) hn hg (hs := hs) (hi := hi) (hp := hp) .., outA_s D (65 - t.val % 66) (t.val / 66) (fun _ => 0) hn hg (hs := hs) (hi := hi) (hp := hp) .., h0]
  rfl

theorem outs_B (t : Fin cfg0.N) (s : ℕ) (h1 : t.val % 66 = s + 1)
    (prev : ∀ h, outsAt0 m c (t.val - 1) h = st D (t.val / 66) s) : outsAt0 m c t.val t.isLt = st D (t.val / 66) (t.val % 66) := by
  have h0 : ¬t.val % 66 = 0 := by omega
  have ht : t.val < 264 := t.isLt
  have hg : t.val / 66 < 4 := by omega
  have hn : 65 - t.val % 66 < 66 := by omega
  have hs : ((grid0.coords t) 1).val = 65 - (65 - t.val % 66) := by rw [coord1]; omega
  have hi : ((grid0.coords t) 0).val = t.val / 66 := coord0 t
  have hp : ∀ l j, In.vm (65 - t.val % 66) l ≠ 0 → 32 + 8 * (t.val / 66) ≤ j → j < 40 + 8 * (t.val / 66) → D.pre (65 - t.val % 66) l j ≠ 0 :=
    fun l j h h1 h2 => HP _ _ _ h (by omega) (by omega)
  rw [outsAt0_B m c t h0, prev, blk0 H t, blk1 H t, blk2 H t, blk3 H t, blk4 H t, blk5 H t, blk6 H t, blk7 H t, blk8 H t, blk9 H t, blk10 H t]
  unfold st
  dsimp only
  rw [outB_11 D (65 - t.val % 66) (t.val / 66) (D.dS (t.val / 66) (s + 1)) (fun _ => 0) hn hg (hs := hs) (hi := hi) (hp := hp) .., outB_12 D (65 - t.val % 66) (t.val / 66) (D.dS (t.val / 66) (s + 1)) (fun _ => 0) hn hg (hs := hs) (hi := hi) (hp := hp) .., outB_13 D (65 - t.val % 66) (t.val / 66) (D.dS (t.val / 66) (s + 1)) (fun _ => 0) hn hg (hs := hs) (hi := hi) (hp := hp) .., outB_14 D (65 - t.val % 66) (t.val / 66) (D.dS (t.val / 66) (s + 1)) (fun _ => 0) hn hg (hs := hs) (hi := hi) (hp := hp) .., outB_15 D (65 - t.val % 66) (t.val / 66) (D.dS (t.val / 66) (s + 1)) (fun _ => 0) hn hg (hs := hs) (hi := hi) (hp := hp) .., outB_16 D (65 - t.val % 66) (t.val / 66) (D.dS (t.val / 66) (s + 1)) (fun j => acc (fun k => D.gal (65 - k) (t.val / 66) (D.dS (t.val / 66) k) j) (s + 1)) hn hg (hs := hs) (hi := hi) (hp := hp) .., outB_17 D (65 - t.val % 66) (t.val / 66) (D.dS (t.val / 66) (s + 1)) (fun j => acc (fun k => D.gbi (65 - k) (t.val / 66) (D.dS (t.val / 66) k) j) (s + 1)) hn hg (hs := hs) (hi := hi) (hp := hp) .., outB_18 D (65 - t.val % 66) (t.val / 66) (D.dS (t.val / 66) (s + 1)) (fun r => acc (fun k => D.gD (65 - k) (t.val / 66) r) (s + 1)) hn hg (hs := hs) (hi := hi) (hp := hp) .., outB_19 D (65 - t.val % 66) (t.val / 66) (D.dS (t.val / 66) (s + 1)) (fun c => acc (fun k => D.dnw (65 - k) (t.val / 66) c) (s + 1)) hn hg (hs := hs) (hi := hi) (hp := hp) .., outB_s D (65 - t.val % 66) (t.val / 66) (D.dS (t.val / 66) (s + 1)) (fun _ => 0) hn hg (hs := hs) (hi := hi) (hp := hp) .., h1]
  rfl

theorem outs_eq : ∀ (t : ℕ) (ht : t < cfg0.N), outsAt0 m c t ht = st D (t / 66) (t % 66)
  | 0, ht => outs_A H HP ⟨0, ht⟩ rfl
  | t + 1, ht => by
    by_cases h0 : (t + 1) % 66 = 0
    · exact outs_A H HP ⟨t + 1, ht⟩ h0
    · refine outs_B H HP ⟨t + 1, ht⟩ (t % 66) (by show (t + 1) % 66 = _; omega) fun h => ?_
      have e := outs_eq t (by omega)
      have e2 : (t + 1) / 66 = t / 66 := by omega
      show outsAt0 m c t _ = st D ((t + 1) / 66) _
      rw [e2, ← e]

end Cert.Ssd
-- ==== Proof.Arr.lean ====
/-
  THE RESULT ARRAYS. Every output block is written back once, the four accumulated ones at the last point of their
  group, and the blocks tile their arrays (the gate gradient's fill columns 8192 … 10239 of the projection's gradient and
  leave the rest of that array as it was), so each array after the run is one formula in its coordinates.
-/
module

public import proofs.«01_k».proof.Proof.Outs

@[expose] public section

set_option maxRecDepth 16384

noncomputable section

namespace Cert.Ssd

open Idealize.ShloMosaic Idealize.ShloMosaic.TcCoe Idealize.SL.Sem Cert.KernelIdeal Cert.KernelIdeal.Gen Cert.KernelIdeal.Value
open Idealize.ShloMosaic.Pipeline

theorem fl11 : ∀ t : Fin cfg0.N, (cfg0.win 11).flush t = true := (by decide +kernel : ∀ t : Fin grid0.N, _)
theorem fl12 : ∀ t : Fin cfg0.N, (cfg0.win 12).flush t = true := (by decide +kernel : ∀ t : Fin grid0.N, _)
theorem fl13 : ∀ t : Fin cfg0.N, (cfg0.win 13).flush t = true := (by decide +kernel : ∀ t : Fin grid0.N, _)
theorem fl14 : ∀ t : Fin cfg0.N, (cfg0.win 14).flush t = true := (by decide +kernel : ∀ t : Fin grid0.N, _)
theorem fl15 : ∀ t : Fin cfg0.N, (cfg0.win 15).flush t = true := (by decide +kernel : ∀ t : Fin grid0.N, _)
theorem fl16 : ∀ t : Fin cfg0.N, (cfg0.win 16).flush t = true ↔ t.val % 66 = 65 := (by decide +kernel : ∀ t : Fin grid0.N, _)
theorem fl17 : ∀ t : Fin cfg0.N, (cfg0.win 17).flush t = true ↔ t.val % 66 = 65 := (by decide +kernel : ∀ t : Fin grid0.N, _)
theorem fl18 : ∀ t : Fin cfg0.N, (cfg0.win 18).flush t = true ↔ t.val % 66 = 65 := (by decide +kernel : ∀ t : Fin grid0.N, _)
theorem fl19 : ∀ t : Fin cfg0.N, (cfg0.win 19).flush t = true ↔ t.val % 66 = 65 := (by decide +kernel : ∀ t : Fin grid0.N, _)
theorem xs11 : ∀ (t : Fin cfg0.N) (a), (cfg0.win 11).xsize (cfg0.grid.coords t) a = (cfg0.win 11).size a := by decide +kernel
theorem xs12 : ∀ (t : Fin cfg0.N) (a), (cfg0.win 12).xsize (cfg0.grid.coords t) a = (cfg0.win 12).size a := by decide +kernel
theorem xs13 : ∀ (t : Fin cfg0.N) (a), (cfg0.win 13).xsize (cfg0.grid.coords t) a = (cfg0.win 13).size a := by decide +kernel
theorem xs14 : ∀ (t : Fin cfg0.N) (a), (cfg0.win 14).xsize (cfg0.grid.coords t) a = (cfg0.win 14).size a := by decide +kernel
theorem xs15 : ∀ (t : Fin cfg0.N) (a), (cfg0.win 15).xsize (cfg0.grid.coords t) a = (cfg0.win 15).size a := by decide +kernel
theorem xs16 : ∀ (t : Fin cfg0.N) (a), (cfg0.win 16).xsize (cfg0.grid.coords t) a = (cfg0.win 16).size a := by decide +kernel
theorem xs17 : ∀ (t : Fin cfg0.N) (a), (cfg0.win 17).xsize (cfg0.grid.coords t) a = (cfg0.win 17).size a := by decide +kernel
theorem xs18 : ∀ (t : Fin cfg0.N) (a), (cfg0.win 18).xsize (cfg0.grid.coords t) a = (cfg0.win 18).size a := by decide +kernel
theorem xs19 : ∀ (t : Fin cfg0.N) (a), (cfg0.win 19).xsize (cfg0.grid.coords t) a = (cfg0.win 19).size a := by decide +kernel

variable {m : (ℓ : Loc nD τ sig) → Buf (Elt Ideal) ℓ} {c : Dev nD} {D : In} (H : Args m c D)
  (HP : ∀ n l j, In.vm n l ≠ 0 → 32 ≤ j → j < 64 → D.pre n l j ≠ 0)

theorem mem11 (t : Fin cfg0.N) (i : S4224x2048.Idx) : i ∈ ((cfg0.win 11).blk t).view.set
    ↔ ∀ a, win0_11.index t a * win0_11.size a ≤ (i a).val ∧ (i a).val < win0_11.index t a * win0_11.size a + (cfg0.win 11).xsize (cfg0.grid.coords t) a := by
  show i ∈ ((View.whole main_v0_0).slice (win0_11.rect t)).set ↔ _
  rw [View.set_slice_whole, Rect.mem_set_unit]
theorem mem12 (t : Fin cfg0.N) (i : S4224x512.Idx) : i ∈ ((cfg0.win 12).blk t).view.set
    ↔ ∀ a, win0_12.index t a * win0_12.size a ≤ (i a).val ∧ (i a).val < win0_12.index t a * win0_12.size a + (cfg0.win 12).xsize (cfg0.grid.coords t) a := by
  show i ∈ ((View.whole main_v0_1).slice (win0_12.rect t)).set ↔ _
  rw [View.set_slice_whole, Rect.mem_set_unit]
theorem mem13 (t : Fin cfg0.N) (i : S4224x512.Idx) : i ∈ ((cfg0.win 13).blk t).view.set
    ↔ ∀ a, win0_13.index t a * win0_13.size a ≤ (i a).val ∧ (i a).val < win0_13.index t a * win0_13.size a + (cfg0.win 13).xsize (cfg0.grid.coords t) a := by
  show i ∈ ((View.whole main_v0_2).slice (win0_13.rect t)).set ↔ _
  rw [View.set_slice_whole, Rect.mem_set_unit]
theorem mem14 (t : Fin cfg0.N) (i : S4224x13440.Idx) : i ∈ ((cfg0.win 14).blk t).view.set
    ↔ ∀ a, win0_14.index t a * win0_14.size a ≤ (i a).val ∧ (i a).val < win0_14.index t a * win0_14.size a + (cfg0.win 14).xsize (cfg0.grid.coords t) a := by
  show i ∈ ((View.whole main_v0_3).slice (win0_14.rect t)).set ↔ _
  rw [View.set_slice_whole, Rect.mem_set_unit]
theorem mem15 (t : Fin cfg0.N) (i : S4x4224x128.Idx) : i ∈ ((cfg0.win 15).blk t).view.set
    ↔ ∀ a, win0_15.index t a * win0_15.size a ≤ (i a).val ∧ (i a).val < win0_15.index t a * win0_15.size a + (cfg0.win 15).xsize (cfg0.grid.coords t) a := by
  show i ∈ ((View.whole main_v0_4).slice (win0_15.rect t)).set ↔ _
  rw [View.set_slice_whole, Rect.mem_set_unit]
theorem mem16 (t : Fin cfg0.N) (i : S4x1x128.Idx) : i ∈ ((cfg0.win 16).blk t).view.set
    ↔ ∀ a, win0_16.index t a * win0_16.size a ≤ (i a).val ∧ (i a).val < win0_16.index t a * win0_16.size a + (cfg0.win 16).xsize (cfg0.grid.coords t) a := by
  show i ∈ ((View.whole main_v0_5).slice (win0_16.rect t)).set ↔ _
  rw [View.set_slice_whole, Rect.mem_set_unit]
theorem mem17 (t : Fin cfg0.N) (i : S4x1x128.Idx) : i ∈ ((cfg0.win 17).blk t).view.set
    ↔ ∀ a, win0_17.index t a * win0_17.size a ≤ (i a).val ∧ (i a).val < win0_17.index t a * win0_17.size a + (cfg0.win 17).xsize (cfg0.grid.coords t) a := by
  show i ∈ ((View.whole main_v0_6).slice (win0_17.rect t)).set ↔ _
  rw [View.set_slice_whole, Rect.mem_set_unit]
theorem mem18 (t : Fin cfg0.N) (i : S32x1x1.Idx) : i ∈ ((cfg0.win 18).blk t).view.set
    ↔ ∀ a, win0_18.index t a * win0_18.size a ≤ (i a).val ∧ (i a).val < win0_18.index t a * win0_18.size a + (cfg0.win 18).xsize (cfg0.grid.coords t) a := by
  show i ∈ ((View.whole main_v0_7).slice (win0_18.rect t)).set ↔ _
  rw [View.set_slice_whole, Rect.mem_set_unit]
theorem mem19 (t : Fin cfg0.N) (i : S1x2048.Idx) : i ∈ ((cfg0.win 19).blk t).view.set
    ↔ ∀ a, win0_19.index t a * win0_19.size a ≤ (i a).val ∧ (i a).val < win0_19.index t a * win0_19.size a + (cfg0.win 19).xsize (cfg0.grid.coords t) a := by
  show i ∈ ((View.whole main_v0_8).slice (win0_19.rect t)).set ↔ _
  rw [View.set_slice_whole, Rect.mem_set_unit]
include H HP in
theorem arr11 : (dats m 0 c).arrAt 11 cfg0.N = (T2 (fun r k => D.oX (r / 64) (k / 512) (D.dS (k / 512) (65 - r / 64)) (r % 64) (k % 512)) : FVec Ideal S4224x2048 .f32) := by
  refine (dats m 0 c).arrAt_eq_of_cover 11 _ (fun t hf => ?_) (fun i => ?_)
  · rw [flushed11, outs_eq H HP]
    have ht : t.val < 264 := t.isLt
    obtain ⟨h0, h1⟩ := idx11 t
    refine funext fun (y : S64x512.Idx) => ?_
    rw [View.read_apply]
    have l0 : (y 0).val < 64 := (y 0).isLt
    have l1 : (y 1).val < 512 := (y 1).isLt
    refine Eq.trans (b := ((D.oX (65 - t.val % 66) (t.val / 66) (D.dS (t.val / 66) (t.val % 66)) (y 0).val (y 1).val : ℝ) : EReal)) rfl (Eq.symm ?_)
    show (T2 (fun r k => D.oX (r / 64) (k / 512) (D.dS (k / 512) (65 - r / 64)) (r % 64) (k % 512)) : FVec Ideal S4224x2048 .f32) (((cfg0.win 11).blk t).view.emb y) = ((D.oX (65 - t.val % 66) (t.val / 66) (D.dS (t.val / 66) (t.val % 66)) (y 0).val (y 1).val : ℝ) : EReal)
    refine (T2_at _ _ (x := 64 * (65 - t.val % 66) + (y 0).val) (y := 512 * (t.val / 66) + (y 1).val) ?_ ?_ ).trans ?_
    · show win0_11.index t 0 * 64 + 1 * (y 0).val = 64 * (65 - t.val % 66) + (y 0).val
      rw [h0]; omega
    · show win0_11.index t 1 * 512 + 1 * (y 1).val = 512 * (t.val / 66) + (y 1).val
      rw [h1]; omega
    · refine congrArg (fun r : ℝ => (r : EReal)) ?_
      dsimp only
      have d0 : (64 * (65 - t.val % 66) + (y 0).val) / 64 = (65 - t.val % 66) := by omega
      have m0 : (64 * (65 - t.val % 66) + (y 0).val) % 64 = (y 0).val := by omega
      have d1 : (512 * (t.val / 66) + (y 1).val) / 512 = (t.val / 66) := by omega
      have m1 : (512 * (t.val / 66) + (y 1).val) % 512 = (y 1).val := by omega
      have r : 65 - (65 - t.val % 66) = t.val % 66 := by omega
      rw [d0, m0, d1, m1, r]
  · have i0 : True := trivial
    have b0 : (i 0).val < 4224 := (i 0).isLt
    have b1 : (i 1).val < 2048 := (i 1).isLt
    refine ⟨⟨66 * ((i 1).val / 512) + (65 - (i 0).val / 64), by rw [show cfg0.N = 264 from N_0]; omega⟩, ?_, ?_⟩
    · exact fl11 _
    · rw [mem11]
      obtain ⟨h0, h1⟩ := idx11 ⟨66 * ((i 1).val / 512) + (65 - (i 0).val / 64), by rw [show cfg0.N = 264 from N_0]; omega⟩
      dsimp only at h0 h1
      intro a
      rw [xs11]
      fin_cases a
      · show win0_11.index _ 0 * 64 ≤ (i 0).val ∧ (i 0).val < win0_11.index _ 0 * 64 + 64
        rw [h0]; omega
      · show win0_11.index _ 1 * 512 ≤ (i 1).val ∧ (i 1).val < win0_11.index _ 1 * 512 + 512
        rw [h1]; omega

include H HP in
theorem arr12 : (dats m 0 c).arrAt 12 cfg0.N = (T2 (fun r k => D.oB (r / 64) (k / 128) (D.dS (k / 128) (65 - r / 64)) (r % 64) (k % 128)) : FVec Ideal S4224x512 .f32) := by
  refine (dats m 0 c).arrAt_eq_of_cover 12 _ (fun t hf => ?_) (fun i => ?_)
  · rw [flushed12, outs_eq H HP]
    have ht : t.val < 264 := t.isLt
    obtain ⟨h0, h1⟩ := idx12 t
    refine funext fun (y : S64x128.Idx) => ?_
    rw [View.read_apply]
    have l0 : (y 0).val < 64 := (y 0).isLt
    have l1 : (y 1).val < 128 := (y 1).isLt
    refine Eq.trans (b := ((D.oB (65 - t.val % 66) (t.val / 66) (D.dS (t.val / 66) (t.val % 66)) (y 0).val (y 1).val : ℝ) : EReal)) rfl (Eq.symm ?_)
    show (T2 (fun r k => D.oB (r / 64) (k / 128) (D.dS (k / 128) (65 - r / 64)) (r % 64) (k % 128)) : FVec Ideal S4224x512 .f32) (((cfg0.win 12).blk t).view.emb y) = ((D.oB (65 - t.val % 66) (t.val / 66) (D.dS (t.val / 66) (t.val % 66)) (y 0).val (y 1).val : ℝ) : EReal)
    refine (T2_at _ _ (x := 64 * (65 - t.val % 66) + (y 0).val) (y := 128 * (t.val / 66) + (y 1).val) ?_ ?_ ).trans ?_
    · show win0_12.index t 0 * 64 + 1 * (y 0).val = 64 * (65 - t.val % 66) + (y 0).val
      rw [h0]; omega
    · show win0_12.index t 1 * 128 + 1 * (y 1).val = 128 * (t.val / 66) + (y 1).val
      rw [h1]; omega
    · refine congrArg (fun r : ℝ => (r : EReal)) ?_
      dsimp only
      have d0 : (64 * (65 - t.val % 66) + (y 0).val) / 64 = (65 - t.val % 66) := by omega
      have m0 : (64 * (65 - t.val % 66) + (y 0).val) % 64 = (y 0).val := by omega
      have d1 : (128 * (t.val / 66) + (y 1).val) / 128 = (t.val / 66) := by omega
      have m1 : (128 * (t.val / 66) + (y 1).val) % 128 = (y 1).val := by omega
      have r : 65 - (65 - t.val % 66) = t.val % 66 := by omega
      rw [d0, m0, d1, m1, r]
  · have i0 : True := trivial
    have b0 : (i 0).val < 4224 := (i 0).isLt
    have b1 : (i 1).val < 512 := (i 1).isLt
    refine ⟨⟨66 * ((i 1).val / 128) + (65 - (i 0).val / 64), by rw [show cfg0.N = 264 from N_0]; omega⟩, ?_, ?_⟩
    · exact fl12 _
    · rw [mem12]
      obtain ⟨h0, h1⟩ := idx12 ⟨66 * ((i 1).val / 128) + (65 - (i 0).val / 64), by rw [show cfg0.N = 264 from N_0]; omega⟩
      dsimp only at h0 h1
      intro a
      rw [xs12]
      fin_cases a
      · show win0_12.index _ 0 * 64 ≤ (i 0).val ∧ (i 0).val < win0_12.index _ 0 * 64 + 64
        rw [h0]; omega
      · show win0_12.index _ 1 * 128 ≤ (i 1).val ∧ (i 1).val < win0_12.index _ 1 * 128 + 128
        rw [h1]; omega

include H HP in
theorem arr13 : (dats m 0 c).arrAt 13 cfg0.N = (T2 (fun r k => D.oC (r / 64) (k / 128) (r % 64) (k % 128)) : FVec Ideal S4224x512 .f32) := by
  refine (dats m 0 c).arrAt_eq_of_cover 13 _ (fun t hf => ?_) (fun i => ?_)
  · rw [flushed13, outs_eq H HP]
    have ht : t.val < 264 := t.isLt
    obtain ⟨h0, h1⟩ := idx13 t
    refine funext fun (y : S64x128.Idx) => ?_
    rw [View.read_apply]
    have l0 : (y 0).val < 64 := (y 0).isLt
    have l1 : (y 1).val < 128 := (y 1).isLt
    refine Eq.trans (b := ((D.oC (65 - t.val % 66) (t.val / 66) (y 0).val (y 1).val : ℝ) : EReal)) rfl (Eq.symm ?_)
    show (T2 (fun r k => D.oC (r / 64) (k / 128) (r % 64) (k % 128)) : FVec Ideal S4224x512 .f32) (((cfg0.win 13).blk t).view.emb y) = ((D.oC (65 - t.val % 66) (t.val / 66) (y 0).val (y 1).val : ℝ) : EReal)
    refine (T2_at _ _ (x := 64 * (65 - t.val % 66) + (y 0).val) (y := 128 * (t.val / 66) + (y 1).val) ?_ ?_ ).trans ?_
    · show win0_13.index t 0 * 64 + 1 * (y 0).val = 64 * (65 - t.val % 66) + (y 0).val
      rw [h0]; omega
    · show win0_13.index t 1 * 128 + 1 * (y 1).val = 128 * (t.val / 66) + (y 1).val
      rw [h1]; omega
    · refine congrArg (fun r : ℝ => (r : EReal)) ?_
      dsimp only
      have d0 : (64 * (65 - t.val % 66) + (y 0).val) / 64 = (65 - t.val % 66) := by omega
      have m0 : (64 * (65 - t.val % 66) + (y 0).val) % 64 = (y 0).val := by omega
      have d1 : (128 * (t.val / 66) + (y 1).val) / 128 = (t.val / 66) := by omega
      have m1 : (128 * (t.val / 66) + (y 1).val) % 128 = (y 1).val := by omega
      rw [d0, m0, d1, m1]
  · have i0 : True := trivial
    have b0 : (i 0).val < 4224 := (i 0).isLt
    have b1 : (i 1).val < 512 := (i 1).isLt
    refine ⟨⟨66 * ((i 1).val / 128) + (65 - (i 0).val / 64), by rw [show cfg0.N = 264 from N_0]; omega⟩, ?_, ?_⟩
    · exact fl13 _
    · rw [mem13]
      obtain ⟨h0, h1⟩ := idx13 ⟨66 * ((i 1).val / 128) + (65 - (i 0).val / 64), by rw [show cfg0.N = 264 from N_0]; omega⟩
      dsimp only at h0 h1
      intro a
      rw [xs13]
      fin_cases a
      · show win0_13.index _ 0 * 64 ≤ (i 0).val ∧ (i 0).val < win0_13.index _ 0 * 64 + 64
        rw [h0]; omega
      · show win0_13.index _ 1 * 128 ≤ (i 1).val ∧ (i 1).val < win0_13.index _ 1 * 128 + 128
        rw [h1]; omega

include H HP in
theorem arr15 : (dats m 0 c).arrAt 15 cfg0.N = (T3 (fun g r j => D.gpre (r / 64) g (D.dS g (65 - r / 64)) (r % 64) j) : FVec Ideal S4x4224x128 .f32) := by
  refine (dats m 0 c).arrAt_eq_of_cover 15 _ (fun t hf => ?_) (fun i => ?_)
  · rw [flushed15, outs_eq H HP]
    have ht : t.val < 264 := t.isLt
    obtain ⟨h0, h1, h2⟩ := idx15 t
    refine funext fun (y : S1x64x128.Idx) => ?_
    rw [View.read_apply]
    have l0 : (y 0).val < 1 := (y 0).isLt
    have l1 : (y 1).val < 64 := (y 1).isLt
    have l2 : (y 2).val < 128 := (y 2).isLt
    refine Eq.trans (b := ((D.gpre (65 - t.val % 66) (t.val / 66) (D.dS (t.val / 66) (t.val % 66)) (y 1).val (y 2).val : ℝ) : EReal)) rfl (Eq.symm ?_)
    show (T3 (fun g r j => D.gpre (r / 64) g (D.dS g (65 - r / 64)) (r % 64) j) : FVec Ideal S4x4224x128 .f32) (((cfg0.win 15).blk t).view.emb y) = ((D.gpre (65 - t.val % 66) (t.val / 66) (D.dS (t.val / 66) (t.val % 66)) (y 1).val (y 2).val : ℝ) : EReal)
    refine (T3_at _ _ (x := 1 * (t.val / 66) + (y 0).val) (y := 64 * (65 - t.val % 66) + (y 1).val) (z := (y 2).val) ?_ ?_ ?_ ).trans ?_
    · show win0_15.index t 0 * 1 + 1 * (y 0).val = 1 * (t.val / 66) + (y 0).val
      rw [h0]; omega
    · show win0_15.index t 1 * 64 + 1 * (y 1).val = 64 * (65 - t.val % 66) + (y 1).val
      rw [h1]; omega
    · show win0_15.index t 2 * 128 + 1 * (y 2).val = (y 2).val
      rw [h2]; omega
    · refine congrArg (fun r : ℝ => (r : EReal)) ?_
      dsimp only
      have d0 : 1 * (t.val / 66) + (y 0).val = (t.val / 66) := by omega
      have d1 : (64 * (65 - t.val % 66) + (y 1).val) / 64 = (65 - t.val % 66) := by omega
      have m1 : (64 * (65 - t.val % 66) + (y 1).val) % 64 = (y 1).val := by omega
      have r : 65 - (65 - t.val % 66) = t.val % 66 := by omega
      rw [d0, d1, m1, r]
  · have i0 : True := trivial
    have b0 : (i 0).val < 4 := (i 0).isLt
    have b1 : (i 1).val < 4224 := (i 1).isLt
    have b2 : (i 2).val < 128 := (i 2).isLt
    refine ⟨⟨66 * ((i 0).val) + (65 - (i 1).val / 64), by rw [show cfg0.N = 264 from N_0]; omega⟩, ?_, ?_⟩
    · exact fl15 _
    · rw [mem15]
      obtain ⟨h0, h1, h2⟩ := idx15 ⟨66 * ((i 0).val) + (65 - (i 1).val / 64), by rw [show cfg0.N = 264 from N_0]; omega⟩
      dsimp only at h0 h1 h2
      intro a
      rw [xs15]
      fin_cases a
      · show win0_15.index _ 0 * 1 ≤ (i 0).val ∧ (i 0).val < win0_15.index _ 0 * 1 + 1
        rw [h0]; omega
      · show win0_15.index _ 1 * 64 ≤ (i 1).val ∧ (i 1).val < win0_15.index _ 1 * 64 + 64
        rw [h1]; omega
      · show win0_15.index _ 2 * 128 ≤ (i 2).val ∧ (i 2).val < win0_15.index _ 2 * 128 + 128
        rw [h2]; omega

include H HP in
theorem arr16 : (dats m 0 c).arrAt 16 cfg0.N = (T3 (fun g _ j => acc (fun k => D.gal (65 - k) g (D.dS g k) j) 66) : FVec Ideal S4x1x128 .f32) := by
  refine (dats m 0 c).arrAt_eq_of_cover 16 _ (fun t hf => ?_) (fun i => ?_)
  · rw [flushed16, outs_eq H HP]
    have ht : t.val < 264 := t.isLt
    obtain ⟨h0, h1, h2⟩ := idx16 t
    refine funext fun (y : S1x1x128.Idx) => ?_
    rw [View.read_apply]
    have hf := (fl16 t).mp hf
    have l0 : (y 0).val < 1 := (y 0).isLt
    have l1 : (y 1).val < 1 := (y 1).isLt
    have l2 : (y 2).val < 128 := (y 2).isLt
    refine Eq.trans (b := ((acc (fun k => D.gal (65 - k) (t.val / 66) (D.dS (t.val / 66) k) (y 2).val) (t.val % 66 + 1) : ℝ) : EReal)) rfl (Eq.symm ?_)
    show (T3 (fun g _ j => acc (fun k => D.gal (65 - k) g (D.dS g k) j) 66) : FVec Ideal S4x1x128 .f32) (((cfg0.win 16).blk t).view.emb y) = ((acc (fun k => D.gal (65 - k) (t.val / 66) (D.dS (t.val / 66) k) (y 2).val) (t.val % 66 + 1) : ℝ) : EReal)
    refine (T3_at _ _ (x := 1 * (t.val / 66) + (y 0).val) (y := (y 1).val) (z := (y 2).val) ?_ ?_ ?_ ).trans ?_
    · show win0_16.index t 0 * 1 + 1 * (y 0).val = 1 * (t.val / 66) + (y 0).val
      rw [h0]; omega
    · show win0_16.index t 1 * 1 + 1 * (y 1).val = (y 1).val
      rw [h1]; omega
    · show win0_16.index t 2 * 128 + 1 * (y 2).val = (y 2).val
      rw [h2]; omega
    · refine congrArg (fun r : ℝ => (r : EReal)) ?_
      dsimp only
      have d0 : 1 * (t.val / 66) + (y 0).val = (t.val / 66) := by omega
      rw [d0, hf]
  · have i0 : True := trivial
    have b0 : (i 0).val < 4 := (i 0).isLt
    have b1 : (i 1).val < 1 := (i 1).isLt
    have b2 : (i 2).val < 128 := (i 2).isLt
    refine ⟨⟨66 * ((i 0).val) + 65, by rw [show cfg0.N = 264 from N_0]; omega⟩, ?_, ?_⟩
    · rw [fl16]; dsimp only; omega
    · rw [mem16]
      obtain ⟨h0, h1, h2⟩ := idx16 ⟨66 * ((i 0).val) + 65, by rw [show cfg0.N = 264 from N_0]; omega⟩
      dsimp only at h0 h1 h2
      intro a
      rw [xs16]
      fin_cases a
      · show win0_16.index _ 0 * 1 ≤ (i 0).val ∧ (i 0).val < win0_16.index _ 0 * 1 + 1
        rw [h0]; omega
      · show win0_16.index _ 1 * 1 ≤ (i 1).val ∧ (i 1).val < win0_16.index _ 1 * 1 + 1
        rw [h1]; omega
      · show win0_16.index _ 2 * 128 ≤ (i 2).val ∧ (i 2).val < win0_16.index _ 2 * 128 + 128
        rw [h2]; omega

include H HP in
theorem arr17 : (dats m 0 c).arrAt 17 cfg0.N = (T3 (fun g _ j => acc (fun k => D.gbi (65 - k) g (D.dS g k) j) 66) : FVec Ideal S4x1x128 .f32) := by
  refine (dats m 0 c).arrAt_eq_of_cover 17 _ (fun t hf => ?_) (fun i => ?_)
  · rw [flushed17, outs_eq H HP]
    have ht : t.val < 264 := t.isLt
    obtain ⟨h0, h1, h2⟩ := idx17 t
    refine funext fun (y : S1x1x128.Idx) => ?_
    rw [View.read_apply]
    have hf := (fl17 t).mp hf
    have l0 : (y 0).val < 1 := (y 0).isLt
    have l1 : (y 1).val < 1 := (y 1).isLt
    have l2 : (y 2).val < 128 := (y 2).isLt
    refine Eq.trans (b := ((acc (fun k => D.gbi (65 - k) (t.val / 66) (D.dS (t.val / 66) k) (y 2).val) (t.val % 66 + 1) : ℝ) : EReal)) rfl (Eq.symm ?_)
    show (T3 (fun g _ j => acc (fun k => D.gbi (65 - k) g (D.dS g k) j) 66) : FVec Ideal S4x1x128 .f32) (((cfg0.win 17).blk t).view.emb y) = ((acc (fun k => D.gbi (65 - k) (t.val / 66) (D.dS (t.val / 66) k) (y 2).val) (t.val % 66 + 1) : ℝ) : EReal)
    refine (T3_at _ _ (x := 1 * (t.val / 66) + (y 0).val) (y := (y 1).val) (z := (y 2).val) ?_ ?_ ?_ ).trans ?_
    · show win0_17.index t 0 * 1 + 1 * (y 0).val = 1 * (t.val / 66) + (y 0).val
      rw [h0]; omega
    · show win0_17.index t 1 * 1 + 1 * (y 1).val = (y 1).val
      rw [h1]; omega
    · show win0_17.index t 2 * 128 + 1 * (y 2).val = (y 2).val
      rw [h2]; omega
    · refine congrArg (fun r : ℝ => (r : EReal)) ?_
      dsimp only
      have d0 : 1 * (t.val / 66) + (y 0).val = (t.val / 66) := by omega
      rw [d0, hf]
  · have i0 : True := trivial
    have b0 : (i 0).val < 4 := (i 0).isLt
    have b1 : (i 1).val < 1 := (i 1).isLt
    have b2 : (i 2).val < 128 := (i 2).isLt
    refine ⟨⟨66 * ((i 0).val) + 65, by rw [show cfg0.N = 264 from N_0]; omega⟩, ?_, ?_⟩
    · rw [fl17]; dsimp only; omega
    · rw [mem17]
      obtain ⟨h0, h1, h2⟩ := idx17 ⟨66 * ((i 0).val) + 65, by rw [show cfg0.N = 264 from N_0]; omega⟩
      dsimp only at h0 h1 h2
      intro a
      rw [xs17]
      fin_cases a
      · show win0_17.index _ 0 * 1 ≤ (i 0).val ∧ (i 0).val < win0_17.index _ 0 * 1 + 1
        rw [h0]; omega
      · show win0_17.index _ 1 * 1 ≤ (i 1).val ∧ (i 1).val < win0_17.index _ 1 * 1 + 1
        rw [h1]; omega
      · show win0_17.index _ 2 * 128 ≤ (i 2).val ∧ (i 2).val < win0_17.index _ 2 * 128 + 128
        rw [h2]; omega

include H HP in
theorem arr18 : (dats m 0 c).arrAt 18 cfg0.N = (T3 (fun r _ _ => acc (fun k => D.gD (65 - k) (r / 8) (r % 8)) 66) : FVec Ideal S32x1x1 .f32) := by
  refine (dats m 0 c).arrAt_eq_of_cover 18 _ (fun t hf => ?_) (fun i => ?_)
  · rw [flushed18, outs_eq H HP]
    have ht : t.val < 264 := t.isLt
    obtain ⟨h0, h1, h2⟩ := idx18 t
    refine funext fun (y : S8x1x1.Idx) => ?_
    rw [View.read_apply]
    have hf := (fl18 t).mp hf
    have l0 : (y 0).val < 8 := (y 0).isLt
    have l1 : (y 1).val < 1 := (y 1).isLt
    have l2 : (y 2).val < 1 := (y 2).isLt
    refine Eq.trans (b := ((acc (fun k => D.gD (65 - k) (t.val / 66) (y 0).val) (t.val % 66 + 1) : ℝ) : EReal)) rfl (Eq.symm ?_)
    show (T3 (fun r _ _ => acc (fun k => D.gD (65 - k) (r / 8) (r % 8)) 66) : FVec Ideal S32x1x1 .f32) (((cfg0.win 18).blk t).view.emb y) = ((acc (fun k => D.gD (65 - k) (t.val / 66) (y 0).val) (t.val % 66 + 1) : ℝ) : EReal)
    refine (T3_at _ _ (x := 8 * (t.val / 66) + (y 0).val) (y := (y 1).val) (z := (y 2).val) ?_ ?_ ?_ ).trans ?_
    · show win0_18.index t 0 * 8 + 1 * (y 0).val = 8 * (t.val / 66) + (y 0).val
      rw [h0]; omega
    · show win0_18.index t 1 * 1 + 1 * (y 1).val = (y 1).val
      rw [h1]; omega
    · show win0_18.index t 2 * 1 + 1 * (y 2).val = (y 2).val
      rw [h2]; omega
    · refine congrArg (fun r : ℝ => (r : EReal)) ?_
      dsimp only
      have d0 : (8 * (t.val / 66) + (y 0).val) / 8 = (t.val / 66) := by omega
      have m0 : (8 * (t.val / 66) + (y 0).val) % 8 = (y 0).val := by omega
      rw [d0, m0, hf]
  · have i0 : True := trivial
    have b0 : (i 0).val < 32 := (i 0).isLt
    have b1 : (i 1).val < 1 := (i 1).isLt
    have b2 : (i 2).val < 1 := (i 2).isLt
    refine ⟨⟨66 * ((i 0).val / 8) + 65, by rw [show cfg0.N = 264 from N_0]; omega⟩, ?_, ?_⟩
    · rw [fl18]; dsimp only; omega
    · rw [mem18]
      obtain ⟨h0, h1, h2⟩ := idx18 ⟨66 * ((i 0).val / 8) + 65, by rw [show cfg0.N = 264 from N_0]; omega⟩
      dsimp only at h0 h1 h2
      intro a
      rw [xs18]
      fin_cases a
      · show win0_18.index _ 0 * 8 ≤ (i 0).val ∧ (i 0).val < win0_18.index _ 0 * 8 + 8
        rw [h0]; omega
      · show win0_18.index _ 1 * 1 ≤ (i 1).val ∧ (i 1).val < win0_18.index _ 1 * 1 + 1
        rw [h1]; omega
      · show win0_18.index _ 2 * 1 ≤ (i 2).val ∧ (i 2).val < win0_18.index _ 2 * 1 + 1
        rw [h2]; omega

include H HP in
theorem arr19 : (dats m 0 c).arrAt 19 cfg0.N = (T2 (fun _ k => acc (fun n => D.dnw (65 - n) (k / 512) (k % 512)) 66) : FVec Ideal S1x2048 .f32) := by
  refine (dats m 0 c).arrAt_eq_of_cover 19 _ (fun t hf => ?_) (fun i => ?_)
  · rw [flushed19, outs_eq H HP]
    have ht : t.val < 264 := t.isLt
    obtain ⟨h0, h1⟩ := idx19 t
    refine funext fun (y : S1x512.Idx) => ?_
    rw [View.read_apply]
    have hf := (fl19 t).mp hf
    have l0 : (y 0).val < 1 := (y 0).isLt
    have l1 : (y 1).val < 512 := (y 1).isLt
    refine Eq.trans (b := ((acc (fun n => D.dnw (65 - n) (t.val / 66) (y 1).val) (t.val % 66 + 1) : ℝ) : EReal)) rfl (Eq.symm ?_)
    show (T2 (fun _ k => acc (fun n => D.dnw (65 - n) (k / 512) (k % 512)) 66) : FVec Ideal S1x2048 .f32) (((cfg0.win 19).blk t).view.emb y) = ((acc (fun n => D.dnw (65 - n) (t.val / 66) (y 1).val) (t.val % 66 + 1) : ℝ) : EReal)
    refine (T2_at _ _ (x := (y 0).val) (y := 512 * (t.val / 66) + (y 1).val) ?_ ?_ ).trans ?_
    · show win0_19.index t 0 * 1 + 1 * (y 0).val = (y 0).val
      rw [h0]; omega
    · show win0_19.index t 1 * 512 + 1 * (y 1).val = 512 * (t.val / 66) + (y 1).val
      rw [h1]; omega
    · refine congrArg (fun r : ℝ => (r : EReal)) ?_
      dsimp only
      have d1 : (512 * (t.val / 66) + (y 1).val) / 512 = (t.val / 66) := by omega
      have m1 : (512 * (t.val / 66) + (y 1).val) % 512 = (y 1).val := by omega
      rw [d1, m1, hf]
  · have i0 : True := trivial
    have b0 : (i 0).val < 1 := (i 0).isLt
    have b1 : (i 1).val < 2048 := (i 1).isLt
    refine ⟨⟨66 * ((i 1).val / 512) + 65, by rw [show cfg0.N = 264 from N_0]; omega⟩, ?_, ?_⟩
    · rw [fl19]; dsimp only; omega
    · rw [mem19]
      obtain ⟨h0, h1⟩ := idx19 ⟨66 * ((i 1).val / 512) + 65, by rw [show cfg0.N = 264 from N_0]; omega⟩
      dsimp only at h0 h1
      intro a
      rw [xs19]
      fin_cases a
      · show win0_19.index _ 0 * 1 ≤ (i 0).val ∧ (i 0).val < win0_19.index _ 0 * 1 + 1
        rw [h0]; omega
      · show win0_19.index _ 1 * 512 ≤ (i 1).val ∧ (i 1).val < win0_19.index _ 1 * 512 + 512
        rw [h1]; omega

open Classical in
include H HP in
/-- The projection's gradient: the gate's columns are written, the others stay. -/
theorem arr14 : (dats m 0 c).arrAt 14 cfg0.N = fun i : S4224x13440.Idx =>
    if 8192 ≤ (i 1).val ∧ (i 1).val < 10240 then
      ((D.gz ((i 0).val / 64) (((i 1).val - 8192) / 512) ((i 0).val % 64) (((i 1).val - 8192) % 512) : ℝ) : EReal)
    else m ((c : Thread nD τ).loc main_arg8) i := by
  funext i
  have b0 : (i 0).val < 4224 := (i 0).isLt
  have b1 : (i 1).val < 13440 := (i 1).isLt
  split
  · rename_i hk
    have hl : 66 * (((i 1).val - 8192) / 512) + (65 - (i 0).val / 64) < cfg0.N := by rw [show cfg0.N = 264 from N_0]; omega
    refine ((dats m 0 c).arrAt_apply_of_mem 14 (fun i : S4224x13440.Idx =>
      ((D.gz ((i 0).val / 64) (((i 1).val - 8192) / 512) ((i 0).val % 64) (((i 1).val - 8192) % 512) : ℝ) : EReal)) (fun t _ => ?_) _
      ⟨_, hl⟩ i hl (fl14 _) ?_)
    · rw [flushed14, outs_eq H HP]
      have ht : t.val < 264 := t.isLt
      obtain ⟨h0, h1⟩ := idx14 t
      funext y
      rw [View.read_apply]
      have l0 : (y 0).val < 64 := lt_of_lt_of_eq (y 0).isLt (xs14 t 0)
      have l1 : (y 1).val < 512 := lt_of_lt_of_eq (y 1).isLt (xs14 t 1)
      refine Eq.trans (b := ((D.gz (65 - t.val % 66) (t.val / 66) (y 0).val (y 1).val : ℝ) : EReal)) rfl ?_
      have k0 : win0_14.index t 0 * 64 + 1 * (y 0).val = 64 * (65 - t.val % 66) + (y 0).val := by rw [h0]; omega
      have k1 : win0_14.index t 1 * 512 + 1 * (y 1).val = 8192 + 512 * (t.val / 66) + (y 1).val := by rw [h1]; omega
      show _ = ((D.gz ((win0_14.index t 0 * 64 + 1 * (y 0).val) / 64) (((win0_14.index t 1 * 512 + 1 * (y 1).val) - 8192) / 512)
        ((win0_14.index t 0 * 64 + 1 * (y 0).val) % 64) (((win0_14.index t 1 * 512 + 1 * (y 1).val) - 8192) % 512) : ℝ) : EReal)
      rw [k0, k1]
      have e0 : (64 * (65 - t.val % 66) + (y 0).val) / 64 = 65 - t.val % 66 := by omega
      have e1 : (64 * (65 - t.val % 66) + (y 0).val) % 64 = (y 0).val := by omega
      have e2 : (8192 + 512 * (t.val / 66) + (y 1).val - 8192) / 512 = t.val / 66 := by omega
      have e3 : (8192 + 512 * (t.val / 66) + (y 1).val - 8192) % 512 = (y 1).val := by omega
      rw [e0, e1, e2, e3]
    · rw [mem14]
      obtain ⟨h0, h1⟩ := idx14 ⟨_, hl⟩
      dsimp only at h0 h1
      intro a
      rw [xs14]
      fin_cases a
      · show win0_14.index _ 0 * 64 ≤ (i 0).val ∧ (i 0).val < win0_14.index _ 0 * 64 + 64
        rw [h0]; omega
      · show win0_14.index _ 1 * 512 ≤ (i 1).val ∧ (i 1).val < win0_14.index _ 1 * 512 + 512
        rw [h1]; omega
  · rename_i hk
    rw [entry14 m c i]
    · show V m c main_arg8 i = _
      rw [V_main_arg8]
    · intro t _ hm
      rw [mem14] at hm
      have ht : t.val < 264 := t.isLt
      obtain ⟨h0, h1⟩ := idx14 t
      have h2 := hm 1
      rw [xs14] at h2
      have h3 : win0_14.index t 1 * 512 ≤ (i 1).val ∧ (i 1).val < win0_14.index t 1 * 512 + 512 := h2
      rw [h1] at h3
      omega

end Cert.Ssd
-- ==== Proof.RefBase.lean ====
/-
  TOOLS FOR READING THE REFERENCE. Arrays of five coordinates, the constants and comparisons jax's masks print, jax's
  running sums (`cumsum` prints as a window sum, padded low, or padded high where it runs backwards), sums over two axes,
  and the index arithmetic of rows cut into chunks and of columns cut into groups and heads.
-/
module

public import Idealize.ShloMosaic.Lib.Pointwise
public import Idealize.ShloMosaic.Lib.WordCmp
public import proofs.«01_k».proof.Proof.Math
public import proofs.«01_k».proof.Proof.Lift

@[expose] public section

noncomputable section

namespace Cert.Ssd.Ref

open Idealize.ShloMosaic Idealize.ShloMosaic.WordCmp

/-- The ideal vector of a real function of five coordinates. -/
def T5 {a b c d e : ℕ} {φ : FTy} (f : ℕ → ℕ → ℕ → ℕ → ℕ → ℝ) : FVec Ideal ⟨5, ![a, b, c, d, e]⟩ φ :=
  fun i => ((f (i 0).val (i 1).val (i 2).val (i 3).val (i 4).val : ℝ) : EReal)
theorem T5_ix {a b c d e : ℕ} {φ : FTy} (f : ℕ → ℕ → ℕ → ℕ → ℕ → ℝ) (i : Fin a) (j : Fin b) (k : Fin c) (l : Fin d) (m : Fin e) :
    (T5 f : FVec Ideal ⟨5, ![a, b, c, d, e]⟩ φ) (ix5 i j k l m) = ((f i.val j.val k.val l.val m.val : ℝ) : EReal) := rfl
theorem eqT5 {a b c d e : ℕ} {φ : FTy} {X : FVec Ideal ⟨5, ![a, b, c, d, e]⟩ φ} {f : ℕ → ℕ → ℕ → ℕ → ℕ → ℝ}
    (h : ∀ (i : Fin a) (j : Fin b) (k : Fin c) (l : Fin d) (m : Fin e), X (ix5 i j k l m) = ((f i.val j.val k.val l.val m.val : ℝ) : EReal)) :
    X = T5 f := by
  funext i; rw [eq_ix5 i]; exact h _ _ _ _ _

/-! ## Index arithmetic -/
theorem d64 {n l : ℕ} (h : l < 64) : (64 * n + l) / 64 = n := by omega
theorem m64 {n l : ℕ} (h : l < 64) : (64 * n + l) % 64 = l := by omega
theorem d512 {g c : ℕ} (h : c < 512) : (512 * g + c) / 512 = g := by omega
theorem m512 {g c : ℕ} (h : c < 512) : (512 * g + c) % 512 = c := by omega
theorem d128 {g c : ℕ} (h : c < 128) : (128 * g + c) / 128 = g := by omega
theorem m128 {g c : ℕ} (h : c < 128) : (128 * g + c) % 128 = c := by omega
theorem d512' {g r p : ℕ} (hr : r < 8) (hp : p < 64) : (512 * g + (64 * r + p)) / 512 = g := by omega
theorem m512' {g r p : ℕ} (hr : r < 8) (hp : p < 64) : (512 * g + (64 * r + p)) % 512 = 64 * r + p := by omega
theorem mc64 (n : ℕ) : n * 64 = 64 * n := Nat.mul_comm _ _
theorem mc512 (n : ℕ) : n * 512 = 512 * n := Nat.mul_comm _ _
theorem mc128 (n : ℕ) : n * 128 = 128 * n := Nat.mul_comm _ _
theorem mc8 (n : ℕ) : n * 8 = 8 * n := Nat.mul_comm _ _

theorem cdm (c : ℕ) : 64 * (c / 64 % 8) + c % 64 = c % 512 := by omega
theorem cd8 (c : ℕ) : c / 64 % 8 = c % 512 / 64 := by omega
theorem cdm' (c : ℕ) : 64 * (c % 512 / 64) + c % 64 = c % 512 := by omega
theorem cdm512 (c : ℕ) : 512 * (c / 512) + c % 512 = c := by omega
theorem tdm (t : ℕ) : 64 * (t / 64) + t % 64 = t := by omega
theorem kdm (k : ℕ) : 128 * (k / 128) + k % 128 = k := by omega

/-! ## Constants and masks -/
theorem ofBits_zero : Ideal.ofBits .f32 0x00000000#32 = ((0 : ℝ) : EReal) := by simp [Ideal.ofBits, Ideal.ieee]
theorem ofBits_one : Ideal.ofBits .f32 0x3F800000#32 = ((1 : ℝ) : EReal) := by
  simp [Ideal.ofBits, Ideal.ieee]
  rw [← EReal.coe_mul, ← EReal.coe_one]
  norm_num
theorem const_ix {s : Shape} (b : BitVec 32) (i : s.Idx) : (constant (F := Ideal) s FTy.f32 b) i = Ideal.ofBits .f32 b := rfl
theorem id_const {s : Shape} (b : BitVec 32) (i : s.Idx) : (id (constant (F := Ideal) s FTy.f32 b)) i = Ideal.ofBits .f32 b := rfl
theorem mask_row (t : ℕ) (h : t < 2 ^ 31) (x : ℝ) :
    Scalar.select (IntOp.cmpi .sge (BitVec.ofNat 32 t) 112#32) (x : EReal) ((0 : ℝ) : EReal)
      = ((x * (if 112 ≤ t then 1 else 0) : ℝ) : EReal) := by
  rw [show (112#32 : BitVec 32) = BitVec.ofNat 32 112 from rfl, cmpi_sge_ofNat h (by norm_num), c_select, c_ite]
  split <;> simp
theorem mask_vm {n l : ℕ} (hn : n < 66) (hl : l < 64) (x : ℝ) :
    Scalar.select (IntOp.cmpi .sge (BitVec.ofNat 32 (64 * n + l)) 112#32) (x : EReal) ((0 : ℝ) : EReal)
      = ((x * In.vm n l : ℝ) : EReal) := mask_row _ (by omega) x
theorem vm_div (t : ℕ) : In.vm (t / 64) (t % 64) = if 112 ≤ t then 1 else 0 := by
  unfold In.vm; rw [show 64 * (t / 64) + t % 64 = t by omega]

theorem ofBits_bot : Ideal.ofBits .f32 4286578688#32 = ⊥ := by simp [Ideal.ofBits, Ideal.ieee]
theorem ofBits_512 : Ideal.ofBits .f32 0x44000000#32 = ((512 : ℝ) : EReal) := by
  simp [Ideal.ofBits, Ideal.ieee]
  rw [← EReal.coe_mul]
  norm_num
theorem ofBits_nhalf : Ideal.ofBits .f32 0xBF000000#32 = ((-(1 / 2) : ℝ) : EReal) := by
  simp [Ideal.ofBits, Ideal.ieee]
  rw [← EReal.coe_mul]
  norm_num
theorem ofBool_true_iff (p : Prop) [Decidable p] : Scalar.select (BitVec.ofBool (decide p)) 1#1 0#1 = BitVec.ofBool (decide p) := by
  by_cases h : p <;> simp [h] <;> rfl
theorem addi_word (x y : BitVec 32) : IntOp.addi x y = x + y := rfl
theorem sge_word (x y : BitVec 32) : IntOp.cmpi .sge x y = BitVec.ofBool (y.sle x) := rfl
theorem tril_bit {l s : ℕ} (hl : l < 66) (hs : s < 66) :
    Scalar.select (IntOp.cmpi .sge (IntOp.addi (BitVec.ofNat 32 l) 0#32) (BitVec.ofNat 32 s)) 1#1 0#1 = BitVec.ofBool (decide (s ≤ l)) := by
  rw [addi_word, BitVec.add_zero, cmpi_sge_ofNat (by omega) (by omega), ofBool_true_iff]
theorem pred_word (l : ℕ) : BitVec.ofNat 32 (l + 1) + 4294967295#32 = BitVec.ofNat 32 l := by
  rw [BitVec.ofNat_add, BitVec.add_assoc, show (BitVec.ofNat 32 1 + 4294967295#32 : BitVec 32) = 0#32 from by decide, BitVec.add_zero]
theorem sle_neg {s : ℕ} (hs : s < 66) : (BitVec.ofNat 32 s).sle 4294967295#32 = false := by
  have h1 : (4294967295#32 : BitVec 32).toInt = -1 := by decide
  have h2 : (BitVec.ofNat 32 s).toInt = (s : ℤ) := toInt_ofNat_of_lt (by omega)
  rw [BitVec.sle, h1, h2, decide_eq_false_iff_not]; omega
theorem tril_bit' {l s : ℕ} (hl : l < 66) (hs : s < 66) :
    Scalar.select (IntOp.cmpi .sge (IntOp.addi (BitVec.ofNat 32 l) 4294967295#32) (BitVec.ofNat 32 s)) 1#1 0#1 = BitVec.ofBool (decide (s < l)) := by
  rw [addi_word]
  cases l with
  | zero =>
    rw [show (BitVec.ofNat 32 0 + 4294967295#32 : BitVec 32) = 4294967295#32 from by decide, sge_word, sle_neg hs,
      show (decide (s < 0)) = false from by simp]
    decide
  | succ l =>
    rw [pred_word, cmpi_sge_ofNat (by omega) (by omega), ofBool_true_iff]
    simp only [Nat.lt_succ_iff]
theorem exp_mask (p : Prop) [Decidable p] (x : ℝ) :
    Ideal.exp (if p then (x : EReal) else ⊥) = ((if p then Real.exp x else 0 : ℝ) : EReal) := by
  split <;> rfl

theorem one_exp_ne (x : ℝ) : 1 + Real.exp x ≠ 0 := by positivity
theorem n512_ne : (512 : ℝ) ≠ 0 := by norm_num

/-! ## The softplus -/
theorem ofBits_inf : Ideal.ofBits .f32 2139095040#32 = ⊤ := by simp [Ideal.ofBits, Ideal.ieee]
theorem c_absf (x : ℝ) : FloatOps.absf (F := Ideal) (φ := .f32) (x : EReal) = ((|x| : ℝ) : EReal) := by
  show max (x : EReal) (-(x : EReal)) = _
  rw [c_neg, c_max, abs_eq_max_neg]
theorem c_log1p {x : ℝ} (h : 0 < 1 + x) : Ideal.log1p (x : EReal) = ((Real.log (1 + x) : ℝ) : EReal) := by
  unfold Ideal.log1p
  rw [c_one, c_add, c_log h]
theorem softplus_val (x : ℝ) :
    (if (x : EReal) ≠ (x : EReal) then (x : EReal) else max (x : EReal) 0 + Ideal.log1p (Ideal.exp (-(FloatOps.absf (F := Ideal) (φ := .f32) (x : EReal)))))
      = ((max x 0 + Real.log (1 + Real.exp (-|x|)) : ℝ) : EReal) := by
  rw [if_neg (fun h => h rfl), c_absf, c_neg, c_exp, c_log1p (by positivity), c_zero, c_max, c_add]
theorem softplus_der (x : ℝ) :
    Ideal.exp ((if (x : EReal) = Ideal.ofBits .f32 2139095040#32 then 0 else (x : EReal))
        - (if ((max x 0 + Real.log (1 + Real.exp (-|x|)) : ℝ) : EReal) = Ideal.ofBits .f32 2139095040#32 then 0
          else ((max x 0 + Real.log (1 + Real.exp (-|x|)) : ℝ) : EReal)))
      = ((if 0 ≤ x then 1 / (1 + Real.exp (-|x|)) else Real.exp (-|x|) / (1 + Real.exp (-|x|)) : ℝ) : EReal) := by
  rw [ofBits_inf, if_neg (EReal.coe_ne_top _), if_neg (EReal.coe_ne_top _), c_sub, c_exp]
  refine congrArg (fun r : ℝ => (r : EReal)) ?_
  have hp : 0 < 1 + Real.exp (-|x|) := by positivity
  rw [show x - (max x 0 + Real.log (1 + Real.exp (-|x|))) = (x - max x 0) - Real.log (1 + Real.exp (-|x|)) by ring, Real.exp_sub, Real.exp_log hp]
  split
  · next h => rw [max_eq_left h, sub_self, Real.exp_zero]
  · next h => rw [max_eq_right (not_le.mp h).le, sub_zero, abs_of_neg (not_le.mp h), neg_neg]

/-! ## Running sums -/
theorem foldl_add_sum {M : Type} [AddCommMonoid M] {N : ℕ} (f : Fin N → M) :
    (List.finRange N).foldl (fun r n => r + f n) 0 = ∑ n, f n := by
  have : ∀ (l : List (Fin N)) (v : M), l.foldl (fun r n => r + f n) v = v + (l.map f).sum := by
    intro l
    induction l with
    | nil => intro v; simp
    | cons a l ih => intro v; rw [List.foldl_cons, ih, List.map_cons, List.sum_cons, add_assoc]
  rw [this, zero_add, Fin.sum_univ_def]

/-- The window sum from zero as a sum over the window's positions. -/
theorem window_sum {s t u : Shape} (window strides lo hi : Fin s.rank → ℕ) (x : FVec Ideal s .f32) (init : FVec Ideal u .f32)
    (h : s.ReduceWindows window strides lo hi t) (hu : 0 < u.numel) (hi0 : init (Shape.Idx.first hu) = ((0 : ℝ) : EReal)) (j : t.Idx) :
    Host.reduceWindowAdd window strides lo hi x init h hu j
      = ∑ w : (⟨s.rank, window⟩ : Shape).Idx,
          if hin : ∀ a, lo a ≤ (j (a.cast h.1.symm)).val * strides a + (w a).val
            ∧ (j (a.cast h.1.symm)).val * strides a + (w a).val - lo a < s.size a
          then x (fun a => ⟨(j (a.cast h.1.symm)).val * strides a + (w a).val - lo a, (hin a).2⟩) else ((0 : ℝ) : EReal) := by
  show Ideal.hostReduceWindowAdd window strides lo hi h x (init (Shape.Idx.first hu)) j = _
  rw [hi0]
  unfold Ideal.hostReduceWindowAdd Host.reduceWindow
  dsimp only
  rw [← Equiv.sum_comp (⟨s.rank, window⟩ : Shape).rowMajor.symm, ← foldl_add_sum]
  refine (congrArg (fun v : EReal => List.foldl _ v _) EReal.coe_zero).trans ?_
  congr 1
  funext r n
  refine congrArg (fun v : EReal => r + v) ?_
  split_ifs <;> rfl

theorem sum_low (f : ℕ → ℝ) (N l : ℕ) (h : l < N + 1) :
    (∑ s : Fin (N + 1), if N ≤ l + s.val then f (l + s.val - N) else 0) = ∑ s : Fin (N + 1), if s.val ≤ l then f s.val else 0 := by
  rw [← Finset.sum_filter, ← Finset.sum_filter]
  refine Finset.sum_bij' (fun s hs => ⟨l + s.val - N, by have := s.isLt; omega⟩)
    (fun s hs => ⟨s.val + N - l, by simp only [Finset.mem_filter] at hs; omega⟩) ?_ ?_ ?_ ?_ ?_
  · intro s hs; simp only [Finset.mem_filter, Finset.mem_univ, true_and] at hs ⊢; have := s.isLt; omega
  · intro s hs; simp only [Finset.mem_filter, Finset.mem_univ, true_and] at hs ⊢; omega
  · intro s hs; simp only [Finset.mem_filter, Finset.mem_univ, true_and] at hs; have := s.isLt; exact Fin.ext (by simp only; omega)
  · intro s hs; simp only [Finset.mem_filter, Finset.mem_univ, true_and] at hs; exact Fin.ext (by simp only; omega)
  · intro s hs; rfl
theorem sum_high (f : ℕ → ℝ) (N l : ℕ) (h : l < N + 1) :
    (∑ s : Fin (N + 1), if l + s.val < N + 1 then f (l + s.val) else 0) = ∑ s : Fin (N + 1), if l ≤ s.val then f s.val else 0 := by
  rw [← Finset.sum_filter, ← Finset.sum_filter]
  refine Finset.sum_bij' (fun s hs => ⟨l + s.val, by simp only [Finset.mem_filter] at hs; omega⟩)
    (fun s hs => ⟨s.val - l, by have := s.isLt; omega⟩) ?_ ?_ ?_ ?_ ?_
  · intro s hs; simp only [Finset.mem_filter, Finset.mem_univ, true_and] at hs ⊢; omega
  · intro s hs; simp only [Finset.mem_filter, Finset.mem_univ, true_and] at hs ⊢; have := s.isLt; omega
  · intro s hs; simp only [Finset.mem_filter, Finset.mem_univ, true_and] at hs; exact Fin.ext (by simp only; omega)
  · intro s hs; simp only [Finset.mem_filter, Finset.mem_univ, true_and] at hs; exact Fin.ext (by simp only; omega)
  · intro s hs; rfl

/-- The positions of a window one row high but on one axis. -/
def win4 (N : ℕ) : (⟨4, ![1, N, 1, 1]⟩ : Shape).Idx ≃ Fin N where
  toFun w := w 1
  invFun s := ix4 0 s 0 0
  left_inv w := by
    funext x
    match x with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  right_inv s := rfl
def win3 (N : ℕ) : (⟨3, ![N, 1, 1]⟩ : Shape).Idx ≃ Fin N where
  toFun w := w 0
  invFun s := ix3 s 0 0
  left_inv w := by
    funext x
    match x with
    | ⟨0, _⟩ => rfl
    | ⟨1, _⟩ => exact Subsingleton.elim (α := Fin 1) _ _
    | ⟨2, _⟩ => exact Subsingleton.elim (α := Fin 1) _ _
  right_inv s := rfl

/-- jax's `cumsum` along the second of four axes. -/
theorem cumsum4 {a N c d : ℕ} {u : Shape} (f : ℕ → ℕ → ℕ → ℕ → ℝ) (init : FVec Ideal u .f32)
    (h : (⟨4, ![a, N + 1, c, d]⟩ : Shape).ReduceWindows ![1, N + 1, 1, 1] ![1, 1, 1, 1] ![0, N, 0, 0] ![0, 0, 0, 0] ⟨4, ![a, N + 1, c, d]⟩)
    (hu : 0 < u.numel) (hi0 : init (Shape.Idx.first hu) = ((0 : ℝ) : EReal)) :
    Host.reduceWindowAdd ![1, N + 1, 1, 1] ![1, 1, 1, 1] ![0, N, 0, 0] ![0, 0, 0, 0] (T4 f : FVec Ideal ⟨4, ![a, N + 1, c, d]⟩ .f32) init h hu
      = (T4 (fun n l g r => ∑ s : Fin (N + 1), if s.val ≤ l then f n s.val g r else 0) : FVec Ideal ⟨4, ![a, N + 1, c, d]⟩ .f32) := by
  refine eqT4 fun n l g r => ?_
  rw [window_sum _ _ _ _ _ _ h hu hi0, ← Equiv.sum_comp (win4 (N + 1)).symm, ← sum_low (fun s => f n.val s g.val r.val) N l.val l.isLt, ← c_sum]
  refine Finset.sum_congr rfl fun s _ => ?_
  have hn := n.isLt; have hl := l.isLt; have hg := g.isLt; have hr := r.isLt; have hs := s.isLt
  split
  · next hin =>
    have h1 : N ≤ l.val * 1 + s.val ∧ _ := hin 1
    rw [if_pos (by omega)]
    show ((f (n.val * 1 + 0 - 0) (l.val * 1 + s.val - N) (g.val * 1 + 0 - 0) (r.val * 1 + 0 - 0) : ℝ) : EReal) = _
    simp only [Nat.mul_one, Nat.add_zero, Nat.sub_zero]
  · next hin =>
    rw [if_neg fun hle => hin fun x => ?_]
    match x with
    | ⟨0, _⟩ => show 0 ≤ n.val * 1 + 0 ∧ n.val * 1 + 0 - 0 < a; omega
    | ⟨1, _⟩ => show N ≤ l.val * 1 + s.val ∧ l.val * 1 + s.val - N < N + 1; omega
    | ⟨2, _⟩ => show 0 ≤ g.val * 1 + 0 ∧ g.val * 1 + 0 - 0 < c; omega
    | ⟨3, _⟩ => show 0 ≤ r.val * 1 + 0 ∧ r.val * 1 + 0 - 0 < d; omega

/-- The same backwards, as its gradient prints it. -/
theorem revsum4 {a N c d : ℕ} {u : Shape} (f : ℕ → ℕ → ℕ → ℕ → ℝ) (init : FVec Ideal u .f32)
    (h : (⟨4, ![a, N + 1, c, d]⟩ : Shape).ReduceWindows ![1, N + 1, 1, 1] ![1, 1, 1, 1] ![0, 0, 0, 0] ![0, N, 0, 0] ⟨4, ![a, N + 1, c, d]⟩)
    (hu : 0 < u.numel) (hi0 : init (Shape.Idx.first hu) = ((0 : ℝ) : EReal)) :
    Host.reduceWindowAdd ![1, N + 1, 1, 1] ![1, 1, 1, 1] ![0, 0, 0, 0] ![0, N, 0, 0] (T4 f : FVec Ideal ⟨4, ![a, N + 1, c, d]⟩ .f32) init h hu
      = (T4 (fun n l g r => ∑ s : Fin (N + 1), if l ≤ s.val then f n s.val g r else 0) : FVec Ideal ⟨4, ![a, N + 1, c, d]⟩ .f32) := by
  refine eqT4 fun n l g r => ?_
  rw [window_sum _ _ _ _ _ _ h hu hi0, ← Equiv.sum_comp (win4 (N + 1)).symm, ← sum_high (fun s => f n.val s g.val r.val) N l.val l.isLt, ← c_sum]
  refine Finset.sum_congr rfl fun s _ => ?_
  have hn := n.isLt; have hl := l.isLt; have hg := g.isLt; have hr := r.isLt; have hs := s.isLt
  split
  · next hin =>
    have h1 : 0 ≤ l.val * 1 + s.val ∧ l.val * 1 + s.val - 0 < N + 1 := hin 1
    rw [if_pos (by omega)]
    show ((f (n.val * 1 + 0 - 0) (l.val * 1 + s.val - 0) (g.val * 1 + 0 - 0) (r.val * 1 + 0 - 0) : ℝ) : EReal) = _
    simp only [Nat.mul_one, Nat.add_zero, Nat.sub_zero]
  · next hin =>
    rw [if_neg fun hle => hin fun x => ?_]
    match x with
    | ⟨0, _⟩ => show 0 ≤ n.val * 1 + 0 ∧ n.val * 1 + 0 - 0 < a; omega
    | ⟨1, _⟩ => show 0 ≤ l.val * 1 + s.val ∧ l.val * 1 + s.val - 0 < N + 1; omega
    | ⟨2, _⟩ => show 0 ≤ g.val * 1 + 0 ∧ g.val * 1 + 0 - 0 < c; omega
    | ⟨3, _⟩ => show 0 ≤ r.val * 1 + 0 ∧ r.val * 1 + 0 - 0 < d; omega

/-- `cumsum` along the first of three axes. -/
theorem cumsum3 {N c d : ℕ} {u : Shape} (f : ℕ → ℕ → ℕ → ℝ) (init : FVec Ideal u .f32)
    (h : (⟨3, ![N + 1, c, d]⟩ : Shape).ReduceWindows ![N + 1, 1, 1] ![1, 1, 1] ![N, 0, 0] ![0, 0, 0] ⟨3, ![N + 1, c, d]⟩)
    (hu : 0 < u.numel) (hi0 : init (Shape.Idx.first hu) = ((0 : ℝ) : EReal)) :
    Host.reduceWindowAdd ![N + 1, 1, 1] ![1, 1, 1] ![N, 0, 0] ![0, 0, 0] (T3 f : FVec Ideal ⟨3, ![N + 1, c, d]⟩ .f32) init h hu
      = (T3 (fun n g r => ∑ s : Fin (N + 1), if s.val ≤ n then f s.val g r else 0) : FVec Ideal ⟨3, ![N + 1, c, d]⟩ .f32) := by
  refine eqT3 fun l g r => ?_
  rw [window_sum _ _ _ _ _ _ h hu hi0, ← Equiv.sum_comp (win3 (N + 1)).symm, ← sum_low (fun s => f s g.val r.val) N l.val l.isLt, ← c_sum]
  refine Finset.sum_congr rfl fun s _ => ?_
  have hl := l.isLt; have hg := g.isLt; have hr := r.isLt; have hs := s.isLt
  split
  · next hin =>
    have h1 : N ≤ l.val * 1 + s.val ∧ _ := hin 0
    rw [if_pos (by omega)]
    show ((f (l.val * 1 + s.val - N) (g.val * 1 + 0 - 0) (r.val * 1 + 0 - 0) : ℝ) : EReal) = _
    simp only [Nat.mul_one, Nat.add_zero, Nat.sub_zero]
  · next hin =>
    rw [if_neg fun hle => hin fun x => ?_]
    match x with
    | ⟨0, _⟩ => show N ≤ l.val * 1 + s.val ∧ l.val * 1 + s.val - N < N + 1; omega
    | ⟨1, _⟩ => show 0 ≤ g.val * 1 + 0 ∧ g.val * 1 + 0 - 0 < c; omega
    | ⟨2, _⟩ => show 0 ≤ r.val * 1 + 0 ∧ r.val * 1 + 0 - 0 < d; omega

/-! ## Sums over two axes -/
theorem red4_03 {a b c d : ℕ} {u : Shape} (f : ℕ → ℕ → ℕ → ℕ → ℝ) (init : FVec Ideal u .f32)
    (h : (⟨4, ![a, b, c, d]⟩ : Shape).ReducesTo [0, 3] ⟨2, ![b, c]⟩) (hu : 0 < u.numel)
    (hi0 : init (Shape.Idx.first hu) = ((0 : ℝ) : EReal)) :
    Host.reduceAdd (T4 f : FVec Ideal ⟨4, ![a, b, c, d]⟩ .f32) init h hu
      = (T2 fun g r => ∑ t : Fin a, ∑ p : Fin d, f t.val g r p.val : FVec Ideal ⟨2, ![b, c]⟩ .f32) := by
  refine eqT2 fun g r => ?_
  show init (Shape.Idx.first hu) + ∑ i ∈ Finset.univ.filter (fun i => h.drop i = ix2 g r), (T4 f : FVec Ideal ⟨4, ![a, b, c, d]⟩ .f32) i = _
  rw [hi0, EReal.coe_zero, zero_add, Finset.sum_filter_eq_sum_of_fiber _ (fun k : Fin a × Fin d => ix4 k.1 g r k.2)
    (fun _ _ e => Prod.ext (congrFun e 0) (congrFun e 3)) (fun i => ?_)]
  · rw [Fintype.sum_prod_type]
    simp only [T4_ix, c_sum]
  · constructor
    · intro e
      refine ⟨(i 0, i 3), ?_⟩
      funext x; apply Fin.ext
      match x with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext x
      apply Fin.ext
      match x with
      | ⟨0, _⟩ => rfl
      | ⟨1, _⟩ => rfl
theorem red5_34 {a b c d e : ℕ} {u : Shape} (f : ℕ → ℕ → ℕ → ℕ → ℕ → ℝ) (init : FVec Ideal u .f32)
    (h : (⟨5, ![a, b, c, d, e]⟩ : Shape).ReducesTo [3, 4] ⟨3, ![a, b, c]⟩) (hu : 0 < u.numel)
    (hi0 : init (Shape.Idx.first hu) = ((0 : ℝ) : EReal)) :
    Host.reduceAdd (T5 f : FVec Ideal ⟨5, ![a, b, c, d, e]⟩ .f32) init h hu
      = (T3 fun n g r => ∑ p : Fin d, ∑ k : Fin e, f n g r p.val k.val : FVec Ideal ⟨3, ![a, b, c]⟩ .f32) := by
  refine eqT3 fun n g r => ?_
  show init (Shape.Idx.first hu) + ∑ i ∈ Finset.univ.filter (fun i => h.drop i = ix3 n g r), (T5 f : FVec Ideal ⟨5, ![a, b, c, d, e]⟩ .f32) i = _
  rw [hi0, EReal.coe_zero, zero_add, Finset.sum_filter_eq_sum_of_fiber _ (fun k : Fin d × Fin e => ix5 n g r k.1 k.2)
    (fun _ _ e => Prod.ext (congrFun e 3) (congrFun e 4)) (fun i => ?_)]
  · rw [Fintype.sum_prod_type]
    simp only [T5_ix, c_sum]
  · constructor
    · intro e
      refine ⟨(i 3, i 4), ?_⟩
      funext x; apply Fin.ext
      match x with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => rfl
      | ⟨4, _⟩ => rfl
    · rintro ⟨k, rfl⟩
      funext x
      apply Fin.ext
      match x with
      | ⟨0, _⟩ => rfl
      | ⟨1, _⟩ => rfl
      | ⟨2, _⟩ => rfl

/-- The columns of a group, head by head. -/
theorem sum_512 (f : ℕ → ℝ) : ∑ c : Fin 512, f c.val = ∑ r : Fin 8, ∑ p : Fin 64, f (64 * r.val + p.val) := by
  rw [← Fintype.sum_prod_type (fun x : Fin 8 × Fin 64 => f (64 * x.1.val + x.2.val))]
  refine (Fintype.sum_equiv (finProdFinEquiv (m := 8) (n := 64)) _ _ fun x => ?_).symm
  show f (64 * x.1.val + x.2.val) = f (x.2.val + 64 * x.1.val)
  rw [Nat.add_comm]
/-- The rows of the sequence, chunk by chunk. -/
theorem sum_rows (f : ℕ → ℝ) : ∑ t : Fin 4224, f t.val = ∑ n : Fin 66, ∑ l : Fin 64, f (64 * n.val + l.val) := by
  rw [← Fintype.sum_prod_type (fun x : Fin 66 × Fin 64 => f (64 * x.1.val + x.2.val))]
  refine (Fintype.sum_equiv (finProdFinEquiv (m := 66) (n := 64)) _ _ fun x => ?_).symm
  show f (64 * x.1.val + x.2.val) = f (x.2.val + 64 * x.1.val)
  rw [Nat.add_comm]

end Cert.Ssd.Ref
-- ==== Proof.RefA.lean ====
/-
  THE REFERENCE READ, FORWARD AND THE GATED NORM. Each array of the reference's forward lines and of the gradient of its
  gated normalisation, written in the chunk's formulas.
-/
module

public import proofs.«01_k».proof.Proof.Gen.ReferenceIdeal.Read
public import proofs.«01_k».proof.Proof.Math
public import proofs.«01_k».proof.Proof.RefBase

@[expose] public section

set_option maxRecDepth 16384

noncomputable section

namespace Cert.Ssd.Ref

open Idealize.ShloMosaic Idealize.ShloMosaic.WordCmp Cert.ReferenceIdeal Cert.ReferenceIdeal.Gen Cert.ReferenceIdeal.Read

variable (D : In)

theorem r_v0 : val_main_v0 (F := Ideal) (T4 D.sa : FVec Ideal S66x32x64x128 .f32) = (T5 (fun n g r p k => D.S n g r p k) : FVec Ideal S66x4x8x64x128 .f32) := by
  simp only [val_main_v0]
  refine eqT5 fun n g r p k => ?_
  have hn := n.isLt
  have hg := g.isLt
  have hr := r.isLt
  have hp := p.isLt
  have hk := k.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hp, m64 hp, d512' hr hp, m512' hr hp, d128 hk, m128 hk]
  try simp only [c_one, c_zero, c_add, c_mul, c_sub, c_neg, c_max, c_sum, c_exp, c_exp_bot, Finset.univ_unique, Finset.sum_singleton]
  try simp only [In.S, id_const, const_ix, ofBits_zero, ofBits_one, ofBits_512, ofBits_nhalf, ofBits_eps, ofBits_bot, mc64, mc512, mc128, mc8, Nat.add_assoc, cdm, cdm', cd8, cdm512, tdm, kdm, d64 hp, m64 hp, d512' hr hp, m512' hr hp, d128 hk, m128 hk]

theorem r_v33 : val_main_v33 (F := Ideal) (T2 D.xa : FVec Ideal S4224x3072 .f32) = (T5 (fun n l g r p => D.X n g l (64 * r + p)) : FVec Ideal S66x64x4x8x64 .f32) := by
  simp only [val_main_v33, val_main_v11, val_main_v10_0, val_main_call0_v1, val_main_call0_v0, val_main_cst, val_main_v1, val_main_v9, val_main_v7, val_main_v8, val_main_c]
  refine eqT5 fun n l g r p => ?_
  have hn := n.isLt
  have hl := l.isLt
  have hg := g.isLt
  have hr := r.isLt
  have hp := p.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]
  rw [mask_vm hn hl]
  try simp only [c_one, c_zero, c_add, c_mul, c_sub, c_neg, c_max, c_sum, c_exp, c_exp_bot, Finset.univ_unique, Finset.sum_singleton]
  try simp only [In.X, In.xr, id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]

theorem r_v39 : val_main_v39 (F := Ideal) (T2 D.xa : FVec Ideal S4224x3072 .f32) = (T4 (fun n l g k => D.B n g l k) : FVec Ideal S66x64x4x128 .f32) := by
  simp only [val_main_v39, val_main_v16, val_main_v15_0, val_main_call1_v1, val_main_call1_v0, val_main_cst_1, val_main_v14, val_main_v12, val_main_v13, val_main_c_0, val_main_v2]
  refine eqT4 fun n l g k => ?_
  have hn := n.isLt
  have hl := l.isLt
  have hg := g.isLt
  have hk := k.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d128 hk, m128 hk]
  rw [mask_vm hn hl]
  try simp only [c_one, c_zero, c_add, c_mul, c_sub, c_neg, c_max, c_sum, c_exp, c_exp_bot, Finset.univ_unique, Finset.sum_singleton]
  try simp only [In.B, In.br, id_const, const_ix, ofBits_zero, ofBits_one, ofBits_512, ofBits_nhalf, ofBits_eps, ofBits_bot, mc64, mc512, mc128, mc8, Nat.add_assoc, cdm, cdm', cd8, cdm512, tdm, kdm, d64 hl, m64 hl, d128 hk, m128 hk]

theorem r_v40 : val_main_v40 (F := Ideal) (T2 D.xa : FVec Ideal S4224x3072 .f32) = (T4 (fun n l g k => D.C n g l k) : FVec Ideal S66x64x4x128 .f32) := by
  simp only [val_main_v40, val_main_v21, val_main_v20_0, val_main_call2_v1, val_main_call2_v0, val_main_cst_3, val_main_v19, val_main_v17, val_main_v18, val_main_c_2, val_main_v3]
  refine eqT4 fun n l g k => ?_
  have hn := n.isLt
  have hl := l.isLt
  have hg := g.isLt
  have hk := k.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d128 hk, m128 hk]
  rw [mask_vm hn hl]
  try simp only [c_one, c_zero, c_add, c_mul, c_sub, c_neg, c_max, c_sum, c_exp, c_exp_bot, Finset.univ_unique, Finset.sum_singleton]
  try simp only [In.C, In.cr, id_const, const_ix, ofBits_zero, ofBits_one, ofBits_512, ofBits_nhalf, ofBits_eps, ofBits_bot, mc64, mc512, mc128, mc8, Nat.add_assoc, cdm, cdm', cd8, cdm512, tdm, kdm, d64 hl, m64 hl, d128 hk, m128 hk]

theorem r_v23 : val_main_v23 (F := Ideal) (T2 D.pj : FVec Ideal S4224x13440 .f32) (T2 (fun _ j => D.db j) : FVec Ideal S1x128 .f32) = (T2 (fun t j => D.pre (t / 64) (t % 64) (32 + j)) : FVec Ideal S4224x32 .f32) := by
  simp only [val_main_v23, val_main_v22, val_main_v6, val_main_v4]
  refine eqT2 fun t j => ?_
  have ht := t.isLt
  have hj := j.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  try simp only [In.pre, In.pr, show 64 * (t.val / 64) + t.val % 64 = t.val by omega, show ∀ x : ℕ, 13312 + (32 + x) = 13344 + x from fun x => by omega, id_const, const_ix, ofBits_zero, ofBits_one, ofBits_512, ofBits_nhalf, ofBits_eps, ofBits_bot, mc64, mc512, mc128, mc8, Nat.add_assoc, cdm, cdm', cd8, cdm512, tdm, kdm]

theorem r_v24_0 : val_main_v24_0 (F := Ideal) (T2 D.pj : FVec Ideal S4224x13440 .f32) (T2 (fun _ j => D.db j) : FVec Ideal S1x128 .f32) = (T2 (fun t j => max (D.pre (t / 64) (t % 64) (32 + j)) 0 + Real.log (1 + D.ea (t / 64) (t % 64) (32 + j))) : FVec Ideal S4224x32 .f32) := by
  simp only [val_main_v24_0, val_main_call3_v11, val_main_call3_v1, val_main_call3_v0, val_main_call3_cst, val_main_call3_v10, val_main_call3_v9, val_main_call3_v8, val_main_call3_v7, val_main_call3_v3, val_main_call3_v2, val_main_call3_v4, val_main_call3_v6, val_main_call3_v5, r_v23 D]
  refine eqT2 fun t j => ?_
  have ht := t.isLt
  have hj := j.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  exact softplus_val _

theorem r_v24_1 : val_main_v24_1 (F := Ideal) (T2 D.pj : FVec Ideal S4224x13440 .f32) (T2 (fun _ j => D.db j) : FVec Ideal S1x128 .f32) = (T2 (fun t j => if 0 ≤ D.pre (t / 64) (t % 64) (32 + j) then 1 / (1 + D.ea (t / 64) (t % 64) (32 + j)) else D.ea (t / 64) (t % 64) (32 + j) / (1 + D.ea (t / 64) (t % 64) (32 + j))) : FVec Ideal S4224x32 .f32) := by
  simp only [val_main_v24_1, val_main_call3_v21, val_main_call3_v16, val_main_call3_v14, val_main_call3_v13, val_main_call3_cst_0, val_main_call3_v15, val_main_call3_cst_1, val_main_call3_v20, val_main_call3_v18, val_main_call3_v17, val_main_call3_cst_2, val_main_call3_v19, val_main_call3_cst_3, r_v23 D, r_v24_0 D]
  refine eqT2 fun t j => ?_
  have ht := t.isLt
  have hj := j.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  exact softplus_der _

theorem r_v29 : val_main_v29 (F := Ideal) (T2 D.pj : FVec Ideal S4224x13440 .f32) (T2 (fun _ j => D.db j) : FVec Ideal S1x128 .f32) = (T3 (fun t g r => D.dth (t / 64) g r (t % 64)) : FVec Ideal S4224x4x8 .f32) := by
  simp only [val_main_v29, val_main_v28_0, val_main_call4_v1, val_main_call4_v0, val_main_cst_5, val_main_v27, val_main_v25, val_main_v26, val_main_c_4, r_v24_0 D]
  refine eqT3 fun t g r => ?_
  have ht := t.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  rw [mask_row _ (by omega)]
  try simp only [c_one, c_zero, c_add, c_mul, c_sub, c_neg, c_max, c_sum, c_exp, c_exp_bot, Finset.univ_unique, Finset.sum_singleton]
  try simp only [In.dth, In.dt, vm_div, id_const, const_ix, ofBits_zero, ofBits_one, ofBits_512, ofBits_nhalf, ofBits_eps, ofBits_bot, mc64, mc512, mc128, mc8, Nat.add_assoc, cdm, cdm', cd8, cdm512, tdm, kdm]

theorem r_v34 : val_main_v34 (F := Ideal) (T2 D.pj : FVec Ideal S4224x13440 .f32) (T2 (fun _ j => D.db j) : FVec Ideal S1x128 .f32) = (T4 (fun n l g r => D.dth n g r l) : FVec Ideal S66x64x4x8 .f32) := by
  simp only [val_main_v34, r_v29 D]
  refine eqT4 fun n l g r => ?_
  have hn := n.isLt
  have hl := l.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl]
  try simp only [c_one, c_zero, c_add, c_mul, c_sub, c_neg, c_max, c_sum, c_exp, c_exp_bot, Finset.univ_unique, Finset.sum_singleton]

theorem r_v32 : val_main_v32 (F := Ideal) (T2 (fun _ j => D.al j) : FVec Ideal S1x128 .f32) = (T2 (fun g r => D.am (32 + 8 * g + r)) : FVec Ideal S4x8 .f32) := by
  simp only [val_main_v32, val_main_v31, val_main_v30, val_main_v5]
  refine eqT2 fun g r => ?_
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  try simp only [In.am, id_const, const_ix, ofBits_zero, ofBits_one, ofBits_512, ofBits_nhalf, ofBits_eps, ofBits_bot, mc64, mc512, mc128, mc8, Nat.add_assoc, cdm, cdm', cd8, cdm512, tdm, kdm]

theorem r_v38 : val_main_v38 (F := Ideal) (T2 D.pj : FVec Ideal S4224x13440 .f32) (T2 (fun _ j => D.al j) : FVec Ideal S1x128 .f32) (T2 (fun _ j => D.db j) : FVec Ideal S1x128 .f32) = (T4 (fun n l g r => D.a n l (32 + 8 * g + r)) : FVec Ideal S66x64x4x8 .f32) := by
  simp only [val_main_v38, val_main_v37, val_main_v36, val_main_v35, r_v29 D, r_v32 D]
  refine eqT4 fun n l g r => ?_
  have hn := n.isLt
  have hl := l.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl]
  try simp only [c_one, c_zero, c_add, c_mul, c_sub, c_neg, c_max, c_sum, c_exp, c_exp_bot, Finset.univ_unique, Finset.sum_singleton]
  try simp only [In.a, In.dth, id_const, const_ix, ofBits_zero, ofBits_one, ofBits_512, ofBits_nhalf, ofBits_eps, ofBits_bot, mc64, mc512, mc128, mc8, Nat.add_assoc, cdm, cdm', cd8, cdm512, tdm, kdm, d64 hl, m64 hl]

theorem r_v44 : val_main_v44 (F := Ideal) (T2 D.pj : FVec Ideal S4224x13440 .f32) (T2 (fun _ j => D.al j) : FVec Ideal S1x128 .f32) (T2 (fun _ j => D.db j) : FVec Ideal S1x128 .f32) = (T4 (fun n l g r => D.csh n g r l) : FVec Ideal S66x64x4x8 .f32) := by
  unfold val_main_v44
  rw [r_v38 D]
  exact cumsum4 _ _ _ _ ofBits_zero

theorem r_v150 : val_main_v150 (F := Ideal) (T2 D.pj : FVec Ideal S4224x13440 .f32) (T2 (fun _ j => D.al j) : FVec Ideal S1x128 .f32) (T2 (fun _ j => D.db j) : FVec Ideal S1x128 .f32) = (T4 (fun n l g r => D.csh n g r l) : FVec Ideal S66x64x4x8 .f32) := by
  unfold val_main_v150
  rw [r_v38 D]
  exact cumsum4 _ _ _ _ ofBits_zero

theorem r_v51 : val_main_v51 (F := Ideal) (T2 D.pj : FVec Ideal S4224x13440 .f32) (T2 (fun _ j => D.al j) : FVec Ideal S1x128 .f32) (T2 (fun _ j => D.db j) : FVec Ideal S1x128 .f32) = (T5 (fun n l s g r => D.L n g r l s) : FVec Ideal S66x64x64x4x8 .f32) := by
  simp only [val_main_v51, val_main_v50_0, val_main_call7_v4, val_main_call7_v2, val_main_call7_v0, val_main_cst_7, val_main_v49, val_main_v47, val_main_v45, val_main_v48, val_main_v46, val_main_v50_1, val_main_call7_v1, val_main_v43, val_main_v42, val_main_call5_v4, val_main_call5_v2, val_main_call5_v0, val_main_call5_v1, val_main_call5_c, val_main_call5_v3, val_main_call5_v5, val_main_call5_c_0, val_main_v41, val_main_c_6, r_v44 D]
  refine eqT5 fun n l s g r => ?_
  have hn := n.isLt
  have hl := l.isLt
  have hs := s.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d64 hs, m64 hs]
  rw [tril_bit (by omega) (by omega), c_select]
  simp only [c_sub, exp_mask]
  try simp only [c_one, c_zero, c_add, c_mul, c_sub, c_neg, c_max, c_sum, c_exp, c_exp_bot, Finset.univ_unique, Finset.sum_singleton]
  try simp only [In.L, id_const, const_ix, ofBits_zero, ofBits_one, ofBits_512, ofBits_nhalf, ofBits_eps, ofBits_bot, mc64, mc512, mc128, mc8, Nat.add_assoc, cdm, cdm', cd8, cdm512, tdm, kdm, d64 hl, m64 hl, d64 hs, m64 hs]

theorem r_v54 : val_main_v54 (F := Ideal) (T2 D.xa : FVec Ideal S4224x3072 .f32) (T2 D.pj : FVec Ideal S4224x13440 .f32) (T2 (fun _ j => D.db j) : FVec Ideal S1x128 .f32) = (T5 (fun n l g r p => D.xdt n g l (64 * r + p)) : FVec Ideal S66x64x4x8x64 .f32) := by
  simp only [val_main_v54, val_main_v53, val_main_v52, r_v33 D, r_v34 D]
  refine eqT5 fun n l g r p => ?_
  have hn := n.isLt
  have hl := l.isLt
  have hg := g.isLt
  have hr := r.isLt
  have hp := p.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]
  try simp only [c_one, c_zero, c_add, c_mul, c_sub, c_neg, c_max, c_sum, c_exp, c_exp_bot, Finset.univ_unique, Finset.sum_singleton]
  try simp only [In.xdt, id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]

theorem r_v55 : val_main_v55 (F := Ideal) (T2 D.xa : FVec Ideal S4224x3072 .f32) = (T4 (fun n g s l => D.cb n g l s) : FVec Ideal S66x4x64x64 .f32) := by
  simp only [val_main_v55, r_v39 D, r_v40 D]
  refine eqT4 fun n g s l => ?_
  have hn := n.isLt
  have hg := g.isLt
  have hs := s.isLt
  have hl := l.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hs, m64 hs, d64 hl, m64 hl]
  try simp only [c_one, c_zero, c_add, c_mul, c_sub, c_neg, c_max, c_sum, c_exp, c_exp_bot, Finset.univ_unique, Finset.sum_singleton]
  try simp only [In.cb, id_const, const_ix, ofBits_zero, ofBits_one, ofBits_512, ofBits_nhalf, ofBits_eps, ofBits_bot, mc64, mc512, mc128, mc8, Nat.add_assoc, cdm, cdm', cd8, cdm512, tdm, kdm, d64 hs, m64 hs, d64 hl, m64 hl]
  refine congrArg (fun r : ℝ => (r : EReal)) ?_
  exact Finset.sum_congr rfl fun _ _ => mul_comm _ _

theorem r_v59 : val_main_v59 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) = (T5 (fun n l s g r => D.M n g r l s) : FVec Ideal S66x64x64x4x8 .f32) := by
  simp only [val_main_v59, val_main_v58, val_main_v57, val_main_v56, r_v51 D, r_v55 D]
  refine eqT5 fun n l s g r => ?_
  have hn := n.isLt
  have hl := l.isLt
  have hs := s.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d64 hs, m64 hs]
  try simp only [c_one, c_zero, c_add, c_mul, c_sub, c_neg, c_max, c_sum, c_exp, c_exp_bot, Finset.univ_unique, Finset.sum_singleton]
  try simp only [In.M, id_const, const_ix, ofBits_zero, ofBits_one, ofBits_512, ofBits_nhalf, ofBits_eps, ofBits_bot, mc64, mc512, mc128, mc8, Nat.add_assoc, cdm, cdm', cd8, cdm512, tdm, kdm, d64 hl, m64 hl, d64 hs, m64 hs]

theorem r_v61 : val_main_v61 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) = (T5 (fun n l g r p => ∑ s : Fin 64, D.M n g r l s.val * D.xdt n g s.val (64 * r + p)) : FVec Ideal S66x64x4x8x64 .f32) := by
  simp only [val_main_v61, val_main_v60, r_v54 D, r_v59 D]
  refine eqT5 fun n l g r p => ?_
  have hn := n.isLt
  have hl := l.isLt
  have hg := g.isLt
  have hr := r.isLt
  have hp := p.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]
  try simp only [c_one, c_zero, c_add, c_mul, c_sub, c_neg, c_max, c_sum, c_exp, c_exp_bot, Finset.univ_unique, Finset.sum_singleton]
  refine congrArg (fun r : ℝ => (r : EReal)) ?_
  exact Finset.sum_congr rfl fun _ _ => mul_comm _ _

theorem r_v63 : val_main_v63 (F := Ideal) (T2 D.xa : FVec Ideal S4224x3072 .f32) (T4 D.sa : FVec Ideal S66x32x64x128 .f32) = (T5 (fun n l g r p => D.cS n g l (64 * r + p)) : FVec Ideal S66x64x4x8x64 .f32) := by
  simp only [val_main_v63, val_main_v62, r_v0 D, r_v40 D]
  refine eqT5 fun n l g r p => ?_
  have hn := n.isLt
  have hl := l.isLt
  have hg := g.isLt
  have hr := r.isLt
  have hp := p.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]
  try simp only [c_one, c_zero, c_add, c_mul, c_sub, c_neg, c_max, c_sum, c_exp, c_exp_bot, Finset.univ_unique, Finset.sum_singleton]
  try simp only [In.cS, id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]
  refine congrArg (fun r : ℝ => (r : EReal)) ?_
  exact Finset.sum_congr rfl fun _ _ => mul_comm _ _

theorem r_v64 : val_main_v64 (F := Ideal) (T2 D.pj : FVec Ideal S4224x13440 .f32) (T2 (fun _ j => D.al j) : FVec Ideal S1x128 .f32) (T2 (fun _ j => D.db j) : FVec Ideal S1x128 .f32) = (T4 (fun n l g r => D.ech n g r l) : FVec Ideal S66x64x4x8 .f32) := by
  simp only [val_main_v64, r_v44 D]
  refine eqT4 fun n l g r => ?_
  have hn := n.isLt
  have hl := l.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl]
  try simp only [c_one, c_zero, c_add, c_mul, c_sub, c_neg, c_max, c_sum, c_exp, c_exp_bot, Finset.univ_unique, Finset.sum_singleton]
  try simp only [In.ech, In.ecs, In.csh, id_const, const_ix, ofBits_zero, ofBits_one, ofBits_512, ofBits_nhalf, ofBits_eps, ofBits_bot, mc64, mc512, mc128, mc8, Nat.add_assoc, cdm, cdm', cd8, cdm512, tdm, kdm, d64 hl, m64 hl]

theorem r_v69 : val_main_v69 (F := Ideal) (T2 D.pj : FVec Ideal S4224x13440 .f32) (T2 (fun _ j => D.al j) : FVec Ideal S1x128 .f32) (T2 (fun _ j => D.db j) : FVec Ideal S1x128 .f32) = (T3 (fun n g r => D.ls n (32 + 8 * g + r)) : FVec Ideal S66x4x8 .f32) := by
  simp only [val_main_v69, val_main_v68, r_v44 D]
  refine eqT3 fun n g r => ?_
  have hn := n.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  try simp only [In.csh, In.cs, In.ls, id_const, const_ix, ofBits_zero, ofBits_one, ofBits_512, ofBits_nhalf, ofBits_eps, ofBits_bot, mc64, mc512, mc128, mc8, Nat.add_assoc, cdm, cdm', cd8, cdm512, tdm, kdm]
  refine congrArg (fun r : ℝ => (r : EReal)) ?_
  exact Finset.sum_congr rfl fun s _ => if_pos (by have := s.isLt; omega)

theorem r_v70 : val_main_v70 (F := Ideal) (T2 D.pj : FVec Ideal S4224x13440 .f32) (T2 (fun _ j => D.al j) : FVec Ideal S1x128 .f32) (T2 (fun _ j => D.db j) : FVec Ideal S1x128 .f32) = (T3 (fun n g r => D.elh n g r) : FVec Ideal S66x4x8 .f32) := by
  simp only [val_main_v70, r_v69 D]
  refine eqT3 fun n g r => ?_
  have hn := n.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  try simp only [In.elh, In.el, id_const, const_ix, ofBits_zero, ofBits_one, ofBits_512, ofBits_nhalf, ofBits_eps, ofBits_bot, mc64, mc512, mc128, mc8, Nat.add_assoc, cdm, cdm', cd8, cdm512, tdm, kdm]

theorem r_v77 : val_main_v77 (F := Ideal) (T2 D.pj : FVec Ideal S4224x13440 .f32) (T2 (fun _ j => D.al j) : FVec Ideal S1x128 .f32) (T2 (fun _ j => D.db j) : FVec Ideal S1x128 .f32) = (T4 (fun n l g r => D.eth n g r l) : FVec Ideal S66x64x4x8 .f32) := by
  simp only [val_main_v77, val_main_v76, val_main_v75, val_main_v74, r_v44 D, r_v69 D]
  refine eqT4 fun n l g r => ?_
  have hn := n.isLt
  have hl := l.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl]
  try simp only [c_one, c_zero, c_add, c_mul, c_sub, c_neg, c_max, c_sum, c_exp, c_exp_bot, Finset.univ_unique, Finset.sum_singleton]
  try simp only [In.eth, In.et, In.csh, id_const, const_ix, ofBits_zero, ofBits_one, ofBits_512, ofBits_nhalf, ofBits_eps, ofBits_bot, mc64, mc512, mc128, mc8, Nat.add_assoc, cdm, cdm', cd8, cdm512, tdm, kdm, d64 hl, m64 hl]

theorem r_v80 : val_main_v80 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) = (T5 (fun n l g r p => D.xet n g l (64 * r + p)) : FVec Ideal S66x64x4x8x64 .f32) := by
  simp only [val_main_v80, val_main_v79, val_main_v78, r_v54 D, r_v77 D]
  refine eqT5 fun n l g r p => ?_
  have hn := n.isLt
  have hl := l.isLt
  have hg := g.isLt
  have hr := r.isLt
  have hp := p.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]
  try simp only [c_one, c_zero, c_add, c_mul, c_sub, c_neg, c_max, c_sum, c_exp, c_exp_bot, Finset.univ_unique, Finset.sum_singleton]
  try simp only [In.xet, id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]
  refine congrArg (fun r : ℝ => (r : EReal)) ?_
  exact mul_comm _ _

theorem r_v93 : val_main_v93 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T4 D.sa : FVec Ideal S66x32x64x128 .f32) = (T2 (fun t c => D.y0 (t / 64) (c / 512) (t % 64) (c % 512)) : FVec Ideal S4224x2048 .f32) := by
  simp only [val_main_v93, val_main_v92, val_main_v85, val_main_v83, val_main_v67, val_main_v66, val_main_v65, val_main_v91, val_main_v88, val_main_v90, val_main_v89, val_main_v87, val_main_v86, r_v61 D, r_v63 D, r_v64 D, r_v33 D]
  refine eqT2 fun t c => ?_
  have ht := t.isLt
  have hc := c.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  try simp only [In.y0, In.dkg, id_const, const_ix, ofBits_zero, ofBits_one, ofBits_512, ofBits_nhalf, ofBits_eps, ofBits_bot, mc64, mc512, mc128, mc8, Nat.add_assoc, cdm, cdm', cd8, cdm512, tdm, kdm]
  refine congrArg (fun r : ℝ => (r : EReal)) ?_
  rw [mul_comm (D.dk _)]

theorem r_v84 : val_main_v84 (F := Ideal) (T2 D.pj : FVec Ideal S4224x13440 .f32) = (T2 (fun t c => D.z (t / 64) (c / 512) (t % 64) (c % 512)) : FVec Ideal S4224x2048 .f32) := by
  simp only [val_main_v84]
  refine eqT2 fun t c => ?_
  have ht := t.isLt
  have hc := c.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  try simp only [In.z, id_const, const_ix, ofBits_zero, ofBits_one, ofBits_512, ofBits_nhalf, ofBits_eps, ofBits_bot, mc64, mc512, mc128, mc8, Nat.add_assoc, cdm, cdm', cd8, cdm512, tdm, kdm]

theorem r_v94_2 : val_main_v94_2 (F := Ideal) (T2 D.pj : FVec Ideal S4224x13440 .f32) = (T2 (fun t c => 1 / (1 + D.ez (t / 64) (c / 512) (t % 64) (c % 512))) : FVec Ideal S4224x2048 .f32) := by
  simp only [val_main_v94_2, val_main_call8_v3, val_main_call8_v1, val_main_call8_v0, val_main_call8_v2, val_main_call8_cst, val_main_call8_v4, val_main_call8_cst_0, r_v84 D]
  refine eqT2 fun t c => ?_
  have ht := t.isLt
  have hc := c.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton, c_div (one_exp_ne _)]
  try simp only [In.ez, id_const, const_ix, ofBits_zero, ofBits_one, ofBits_512, ofBits_nhalf, ofBits_eps, ofBits_bot, mc64, mc512, mc128, mc8, Nat.add_assoc, cdm, cdm', cd8, cdm512, tdm, kdm]

theorem r_v94_1 : val_main_v94_1 (F := Ideal) (T2 D.pj : FVec Ideal S4224x13440 .f32) = (T2 (fun t c => 1 / (1 + D.ez (t / 64) (c / 512) (t % 64) (c % 512)) * (1 - 1 / (1 + D.ez (t / 64) (c / 512) (t % 64) (c % 512)))) : FVec Ideal S4224x2048 .f32) := by
  simp only [val_main_v94_1, val_main_call8_v7, val_main_call8_v6, val_main_call8_cst_1, r_v94_2 D]
  refine eqT2 fun t c => ?_
  have ht := t.isLt
  have hc := c.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]

theorem r_v94_0 : val_main_v94_0 (F := Ideal) (T2 D.pj : FVec Ideal S4224x13440 .f32) = (T2 (fun t c => D.sil (t / 64) (c / 512) (t % 64) (c % 512)) : FVec Ideal S4224x2048 .f32) := by
  simp only [val_main_v94_0, r_v84 D, r_v94_2 D]
  refine eqT2 fun t c => ?_
  have ht := t.isLt
  have hc := c.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  try simp only [In.sil, id_const, const_ix, ofBits_zero, ofBits_one, ofBits_512, ofBits_nhalf, ofBits_eps, ofBits_bot, mc64, mc512, mc128, mc8, Nat.add_assoc, cdm, cdm', cd8, cdm512, tdm, kdm]
  refine congrArg (fun r : ℝ => (r : EReal)) ?_
  rw [mul_one_div]

theorem r_v96 : val_main_v96 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T4 D.sa : FVec Ideal S66x32x64x128 .f32) = (T3 (fun t g c => D.y1 (t / 64) g (t % 64) c) : FVec Ideal S4224x4x512 .f32) := by
  simp only [val_main_v96, val_main_v95, r_v93 D, r_v94_0 D]
  refine eqT3 fun t g c => ?_
  have ht := t.isLt
  have hg := g.isLt
  have hc := c.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d512 hc, m512 hc]
  try simp only [c_one, c_zero, c_add, c_mul, c_sub, c_neg, c_max, c_sum, c_exp, c_exp_bot, Finset.univ_unique, Finset.sum_singleton]
  try simp only [In.y1, id_const, const_ix, ofBits_zero, ofBits_one, ofBits_512, ofBits_nhalf, ofBits_eps, ofBits_bot, mc64, mc512, mc128, mc8, Nat.add_assoc, cdm, cdm', cd8, cdm512, tdm, kdm, d512 hc, m512 hc]

theorem r_v103 : val_main_v103 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T4 D.sa : FVec Ideal S66x32x64x128 .f32) = (T3 (fun t g _ => D.mn (t / 64) g (t % 64)) : FVec Ideal S4224x4x1 .f32) := by
  simp only [val_main_v103, val_main_v101, val_main_v100, val_main_cst_9, val_main_v99, val_main_v98, val_main_cst_8, val_main_v97, val_main_v102, val_main_cst_10, r_v96 D]
  refine eqT3 fun t g w2 => ?_
  have ht := t.isLt
  have hg := g.isLt
  have hw2 := w2.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton, c_div n512_ne]
  try simp only [In.mn, id_const, const_ix, ofBits_zero, ofBits_one, ofBits_512, ofBits_nhalf, ofBits_eps, ofBits_bot, mc64, mc512, mc128, mc8, Nat.add_assoc, cdm, cdm', cd8, cdm512, tdm, kdm]

theorem r_v104 : val_main_v104 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T4 D.sa : FVec Ideal S66x32x64x128 .f32) = (T3 (fun t g _ => D.rs (t / 64) g (t % 64)) : FVec Ideal S4224x4x1 .f32) := by
  simp only [val_main_v104, r_v103 D]
  refine eqT3 fun t g w2 => ?_
  have ht := t.isLt
  have hg := g.isLt
  have hw2 := w2.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton, c_rsqrt (D.mn_pos _ _ _)]
  try simp only [In.rs, id_const, const_ix, ofBits_zero, ofBits_one, ofBits_512, ofBits_nhalf, ofBits_eps, ofBits_bot, mc64, mc512, mc128, mc8, Nat.add_assoc, cdm, cdm', cd8, cdm512, tdm, kdm]

theorem r_v107 : val_main_v107 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T4 D.sa : FVec Ideal S66x32x64x128 .f32) = (T3 (fun t g _ => -(1 / 2) * (D.rs (t / 64) g (t % 64) / D.mn (t / 64) g (t % 64))) : FVec Ideal S4224x4x1 .f32) := by
  simp only [val_main_v107, val_main_v105, val_main_v106, val_main_cst_11, r_v103 D, r_v104 D]
  refine eqT3 fun t g w2 => ?_
  have ht := t.isLt
  have hg := g.isLt
  have hw2 := w2.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton, c_div (D.mn_pos _ _ _).ne']

theorem r_v109 : val_main_v109 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T4 D.sa : FVec Ideal S66x32x64x128 .f32) = (T3 (fun t g c => D.y1 (t / 64) g (t % 64) c * D.rs (t / 64) g (t % 64)) : FVec Ideal S4224x4x512 .f32) := by
  simp only [val_main_v109, val_main_v108, r_v96 D, r_v104 D]
  refine eqT3 fun t g c => ?_
  have ht := t.isLt
  have hg := g.isLt
  have hc := c.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d512 hc, m512 hc]
  try simp only [c_one, c_zero, c_add, c_mul, c_sub, c_neg, c_max, c_sum, c_exp, c_exp_bot, Finset.univ_unique, Finset.sum_singleton]

theorem r_v113 : val_main_v113 (F := Ideal) (T2 D.dm : FVec Ideal S4224x4096 .f32) = (T2 (fun t c => D.gy (t / 64) (c / 512) (t % 64) (c % 512)) : FVec Ideal S4224x2048 .f32) := by
  simp only [val_main_v113]
  refine eqT2 fun t c => ?_
  have ht := t.isLt
  have hc := c.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  try simp only [In.gy, id_const, const_ix, ofBits_zero, ofBits_one, ofBits_512, ofBits_nhalf, ofBits_eps, ofBits_bot, mc64, mc512, mc128, mc8, Nat.add_assoc, cdm, cdm', cd8, cdm512, tdm, kdm]

theorem r_v116 : val_main_v116 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T4 D.sa : FVec Ideal S66x32x64x128 .f32) (T2 D.dm : FVec Ideal S4224x4096 .f32) = (T2 (fun _ c => ∑ n : Fin 66, D.dnw n.val (c / 512) (c % 512)) : FVec Ideal S1x2048 .f32) := by
  simp only [val_main_v116, val_main_v115, val_main_cst_12, val_main_v114, val_main_v110, r_v113 D, r_v109 D]
  refine eqT2 fun w0 c => ?_
  have hw0 := w0.isLt
  have hc := c.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  refine congrArg (fun r : ℝ => (r : EReal)) ?_
  refine (sum_rows (fun t => D.y1 (t / 64) (c.val / 512) (t % 64) (c.val % 512) * D.rs (t / 64) (c.val / 512) (t % 64) * D.gy (t / 64) (c.val / 512) (t % 64) (c.val % 512))).trans ?_
  refine Finset.sum_congr rfl fun n _ => Finset.sum_congr rfl fun l _ => ?_
  simp only [d64 l.isLt, m64 l.isLt]

theorem r_v119 : val_main_v119 (F := Ideal) (T2 (fun _ c => D.nw c) : FVec Ideal S1x2048 .f32) (T2 D.dm : FVec Ideal S4224x4096 .f32) = (T3 (fun t g c => D.w (t / 64) g (t % 64) c) : FVec Ideal S4224x4x512 .f32) := by
  simp only [val_main_v119, val_main_v118, val_main_v117, r_v113 D]
  refine eqT3 fun t g c => ?_
  have ht := t.isLt
  have hg := g.isLt
  have hc := c.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d512 hc, m512 hc]
  try simp only [c_one, c_zero, c_add, c_mul, c_sub, c_neg, c_max, c_sum, c_exp, c_exp_bot, Finset.univ_unique, Finset.sum_singleton]
  try simp only [In.w, In.nwg, id_const, const_ix, ofBits_zero, ofBits_one, ofBits_512, ofBits_nhalf, ofBits_eps, ofBits_bot, mc64, mc512, mc128, mc8, Nat.add_assoc, cdm, cdm', cd8, cdm512, tdm, kdm, d512 hc, m512 hc]

theorem r_v128 : val_main_v128 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T2 (fun t g => D.kk (t / 64) g (t % 64)) : FVec Ideal S4224x4 .f32) := by
  simp only [val_main_v128, val_main_cst_15, val_main_v127, val_main_v125, val_main_v122, val_main_v121, val_main_cst_13, val_main_v120, val_main_v126, val_main_cst_14, r_v107 D, r_v119 D, r_v96 D]
  refine eqT2 fun t g => ?_
  have ht := t.isLt
  have hg := g.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton, c_div n512_ne, Finset.univ_unique, Finset.sum_singleton]
  try simp only [In.kk, id_const, const_ix, ofBits_zero, ofBits_one, ofBits_512, ofBits_nhalf, ofBits_eps, ofBits_bot, mc64, mc512, mc128, mc8, Nat.add_assoc, cdm, cdm', cd8, cdm512, tdm, kdm]

theorem r_v133 : val_main_v133 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T3 (fun t g c => D.gy1 (t / 64) g (t % 64) c) : FVec Ideal S4224x4x512 .f32) := by
  simp only [val_main_v133, val_main_v131, val_main_v124, val_main_v123, val_main_v130, val_main_v129, val_main_v132, r_v119 D, r_v104 D, r_v96 D, r_v128 D]
  refine eqT3 fun t g c => ?_
  have ht := t.isLt
  have hg := g.isLt
  have hc := c.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d512 hc, m512 hc]
  try simp only [c_one, c_zero, c_add, c_mul, c_sub, c_neg, c_max, c_sum, c_exp, c_exp_bot, Finset.univ_unique, Finset.sum_singleton]
  try simp only [In.gy1, id_const, const_ix, ofBits_zero, ofBits_one, ofBits_512, ofBits_nhalf, ofBits_eps, ofBits_bot, mc64, mc512, mc128, mc8, Nat.add_assoc, cdm, cdm', cd8, cdm512, tdm, kdm, d512 hc, m512 hc]

theorem r_v135 : val_main_v135 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T2 (fun t c => D.y0 (t / 64) (c / 512) (t % 64) (c % 512) * D.gy1 (t / 64) (c / 512) (t % 64) (c % 512)) : FVec Ideal S4224x2048 .f32) := by
  simp only [val_main_v135, val_main_v134, r_v93 D, r_v133 D]
  refine eqT2 fun t c => ?_
  have ht := t.isLt
  have hc := c.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]

theorem r_v137 : val_main_v137 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T2 (fun t c => D.gz (t / 64) (c / 512) (t % 64) (c % 512)) : FVec Ideal S4224x2048 .f32) := by
  simp only [val_main_v137, val_main_call9_v1, val_main_call9_v2, val_main_call9_v0, r_v135 D, r_v94_2 D, r_v94_1 D, r_v84 D]
  refine eqT2 fun t c => ?_
  have ht := t.isLt
  have hc := c.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  try simp only [In.gz, id_const, const_ix, ofBits_zero, ofBits_one, ofBits_512, ofBits_nhalf, ofBits_eps, ofBits_bot, mc64, mc512, mc128, mc8, Nat.add_assoc, cdm, cdm', cd8, cdm512, tdm, kdm]
  refine congrArg (fun r : ℝ => (r : EReal)) ?_
  have h := (D.one_add_ez_pos (t.val / 64) (c.val / 512) (t.val % 64) (c.val % 512)).ne'
  field_simp
  ring

theorem r_v138 : val_main_v138 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T4 (fun t g r p => D.gy0 (t / 64) g (t % 64) (64 * r + p)) : FVec Ideal S4224x4x8x64 .f32) := by
  simp only [val_main_v138, val_main_v136, val_main_v134, r_v94_0 D, r_v133 D]
  refine eqT4 fun t g r p => ?_
  have ht := t.isLt
  have hg := g.isLt
  have hr := r.isLt
  have hp := p.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hp, m64 hp, d512' hr hp, m512' hr hp]
  try simp only [c_one, c_zero, c_add, c_mul, c_sub, c_neg, c_max, c_sum, c_exp, c_exp_bot, Finset.univ_unique, Finset.sum_singleton]
  try simp only [In.gy0, id_const, const_ix, ofBits_zero, ofBits_one, ofBits_512, ofBits_nhalf, ofBits_eps, ofBits_bot, mc64, mc512, mc128, mc8, Nat.add_assoc, cdm, cdm', cd8, cdm512, tdm, kdm, d64 hp, m64 hp, d512' hr hp, m512' hr hp]

theorem r_v140 : val_main_v140 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T4 (fun t g r p => D.dkg g r * D.gy0 (t / 64) g (t % 64) (64 * r + p)) : FVec Ideal S4224x4x8x64 .f32) := by
  simp only [val_main_v140, val_main_v139, val_main_v89, val_main_v87, val_main_v86, r_v138 D]
  refine eqT4 fun t g r p => ?_
  have ht := t.isLt
  have hg := g.isLt
  have hr := r.isLt
  have hp := p.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hp, m64 hp, d512' hr hp, m512' hr hp]
  try simp only [c_one, c_zero, c_add, c_mul, c_sub, c_neg, c_max, c_sum, c_exp, c_exp_bot, Finset.univ_unique, Finset.sum_singleton]
  try simp only [In.dkg, id_const, const_ix, ofBits_zero, ofBits_one, ofBits_512, ofBits_nhalf, ofBits_eps, ofBits_bot, mc64, mc512, mc128, mc8, Nat.add_assoc, cdm, cdm', cd8, cdm512, tdm, kdm, d64 hp, m64 hp, d512' hr hp, m512' hr hp]

theorem r_v141 : val_main_v141 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T4 (fun t g r p => D.gy0 (t / 64) g (t % 64) (64 * r + p) * D.X (t / 64) g (t % 64) (64 * r + p)) : FVec Ideal S4224x4x8x64 .f32) := by
  simp only [val_main_v141, val_main_v88, r_v138 D, r_v33 D]
  refine eqT4 fun t g r p => ?_
  have ht := t.isLt
  have hg := g.isLt
  have hr := r.isLt
  have hp := p.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hp, m64 hp, d512' hr hp, m512' hr hp]
  try simp only [c_one, c_zero, c_add, c_mul, c_sub, c_neg, c_max, c_sum, c_exp, c_exp_bot, Finset.univ_unique, Finset.sum_singleton]

theorem r_v146 : val_main_v146 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T5 (fun n l g r p => D.dkg g r * D.gy0 n g l (64 * r + p)) : FVec Ideal S66x64x4x8x64 .f32) := by
  simp only [val_main_v146, r_v140 D]
  refine eqT5 fun n l g r p => ?_
  have hn := n.isLt
  have hl := l.isLt
  have hg := g.isLt
  have hr := r.isLt
  have hp := p.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]
  try simp only [c_one, c_zero, c_add, c_mul, c_sub, c_neg, c_max, c_sum, c_exp, c_exp_bot, Finset.univ_unique, Finset.sum_singleton]

theorem r_v149 : val_main_v149 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T5 (fun n l g r p => D.gy0 n g l (64 * r + p)) : FVec Ideal S66x64x4x8x64 .f32) := by
  simp only [val_main_v149, r_v138 D]
  refine eqT5 fun n l g r p => ?_
  have hn := n.isLt
  have hl := l.isLt
  have hg := g.isLt
  have hr := r.isLt
  have hp := p.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]
  try simp only [c_one, c_zero, c_add, c_mul, c_sub, c_neg, c_max, c_sum, c_exp, c_exp_bot, Finset.univ_unique, Finset.sum_singleton]

end Cert.Ssd.Ref
-- ==== Proof.RefB.lean ====
/-
  THE REFERENCE READ, THE CHUNK'S GRADIENT. The gradient of the state each chunk leaves, in the reference's closed form,
  is the kernel's backward recurrence; then each array of the chunk's gradient, written in the chunk's formulas.
-/
module

public import proofs.«01_k».proof.Proof.Gen.ReferenceIdeal.Read
public import proofs.«01_k».proof.Proof.Math
public import proofs.«01_k».proof.Proof.RefA
public import proofs.«01_k».proof.Proof.Outs

@[expose] public section

set_option maxRecDepth 16384

noncomputable section

namespace Cert.Ssd.Ref

open Idealize.ShloMosaic Idealize.ShloMosaic.WordCmp Cert.ReferenceIdeal Cert.ReferenceIdeal.Gen Cert.ReferenceIdeal.Read

variable (D : In)

/-- The decay summed over the chunks up to and including `n`. -/
def _root_.Cert.Ssd.In.cum (g r n : ℕ) : ℝ := ∑ s : Fin 66, if s.val ≤ n then D.ls s.val (32 + 8 * g + r) else 0
theorem _root_.Cert.Ssd.In.cum_succ (g r n : ℕ) (h : n + 1 < 66) : D.cum g r (n + 1) = D.cum g r n + D.ls (n + 1) (32 + 8 * g + r) := by
  unfold In.cum
  rw [← In.sum_pick (N := 66) (fun s => D.ls s (32 + 8 * g + r)) (n + 1) h, ← Finset.sum_add_distrib]
  refine Finset.sum_congr rfl fun s _ => ?_
  by_cases h1 : s.val ≤ n
  · rw [if_pos h1, if_pos (by omega), if_neg (by omega), add_zero]
  · by_cases h2 : s.val = n + 1
    · rw [if_neg h1, if_pos (by omega), if_pos h2, zero_add]
    · rw [if_neg h1, if_neg (by omega), if_neg h2, zero_add]
/-- The reference's closed form of the gradient of the state chunk `n` leaves. -/
def _root_.Cert.Ssd.In.Hs (n g r p k : ℕ) : ℝ :=
  ∑ m : Fin 66, D.G m.val g r p k * (if n < m.val then Real.exp (D.cum g r m.val - D.ls m.val (32 + 8 * g + r) - D.cum g r n) else 0)
theorem _root_.Cert.Ssd.In.Hs_last (g r p k : ℕ) : D.Hs 65 g r p k = 0 := by
  unfold In.Hs
  refine Finset.sum_eq_zero fun m _ => ?_
  rw [if_neg (by have := m.isLt; omega), mul_zero]
theorem _root_.Cert.Ssd.In.Hs_step (n g r p k : ℕ) (h : n + 1 < 66) :
    D.Hs n g r p k = D.Hs (n + 1) g r p k * D.elh (n + 1) g r + D.G (n + 1) g r p k := by
  unfold In.Hs
  rw [← In.sum_pick (N := 66) (fun m => D.G m g r p k) (n + 1) h, Finset.sum_mul, ← Finset.sum_add_distrib]
  refine Finset.sum_congr rfl fun m _ => ?_
  by_cases h1 : m.val = n + 1
  · rw [if_pos (by omega), if_neg (by omega), if_pos h1, h1, D.cum_succ g r n h]
    rw [show D.cum g r n + D.ls (n + 1) (32 + 8 * g + r) - D.ls (n + 1) (32 + 8 * g + r) - D.cum g r n = 0 by ring, Real.exp_zero]
    ring
  · by_cases h2 : n < m.val
    · rw [if_pos h2, if_pos (by omega), if_neg h1, D.cum_succ g r n h, In.elh, In.el, add_zero, mul_assoc, ← Real.exp_add]
      congr 2
      ring
    · rw [if_neg h2, if_neg (by omega), if_neg h1]
      ring
theorem _root_.Cert.Ssd.In.Hs_eq (g r p k : ℕ) : ∀ j, j < 66 → D.Hs (65 - j) g r p k = D.dS g j r p k := by
  intro j
  induction j with
  | zero => intro _; rw [show 65 - 0 = 65 from rfl, D.Hs_last]; rfl
  | succ j ih =>
    intro hj
    rw [D.Hs_step (65 - (j + 1)) g r p k (by omega), show 65 - (j + 1) + 1 = 65 - j by omega, ih (by omega)]
    rfl

theorem r_v152 : val_main_v152 (F := Ideal) (T2 D.pj : FVec Ideal S4224x13440 .f32) (T2 (fun _ j => D.al j) : FVec Ideal S1x128 .f32) (T2 (fun _ j => D.db j) : FVec Ideal S1x128 .f32) = (T3 (fun n g r => D.ls n (32 + 8 * g + r)) : FVec Ideal S66x4x8 .f32) := by
  simp only [val_main_v152, val_main_v151, r_v150 D]
  refine eqT3 fun n g r => ?_
  have hn := n.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  try simp only [In.csh, In.cs, In.ls, id_const, const_ix, ofBits_zero, ofBits_one, ofBits_512, ofBits_nhalf, ofBits_eps, ofBits_bot, mc64, mc512, mc128, mc8, Nat.add_assoc, cdm, cdm', cd8, cdm512, tdm, kdm]
  refine congrArg (fun r : ℝ => (r : EReal)) ?_
  exact Finset.sum_congr rfl fun s _ => if_pos (by have := s.isLt; omega)

theorem r_v162 : val_main_v162 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T5 (fun n g r p k => D.G n g r p k) : FVec Ideal S66x4x8x64x128 .f32) := by
  simp only [val_main_v162, val_main_v161, val_main_v160, val_main_v159, val_main_v156, val_main_v155, r_v40 D, r_v149 D, r_v150 D]
  refine eqT5 fun n g r p k => ?_
  have hn := n.isLt
  have hg := g.isLt
  have hr := r.isLt
  have hp := p.isLt
  have hk := k.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hp, m64 hp, d512' hr hp, m512' hr hp, d128 hk, m128 hk]
  try simp only [c_one, c_zero, c_add, c_mul, c_sub, c_neg, c_max, c_sum, c_exp, c_exp_bot, Finset.univ_unique, Finset.sum_singleton]
  try simp only [In.G, In.ech, In.csh, In.ecs, id_const, const_ix, ofBits_zero, ofBits_one, ofBits_512, ofBits_nhalf, ofBits_eps, ofBits_bot, mc64, mc512, mc128, mc8, Nat.add_assoc, cdm, cdm', cd8, cdm512, tdm, kdm, d64 hp, m64 hp, d512' hr hp, m512' hr hp, d128 hk, m128 hk]

theorem r_v163 : val_main_v163 (F := Ideal) (T2 D.pj : FVec Ideal S4224x13440 .f32) (T2 (fun _ j => D.al j) : FVec Ideal S1x128 .f32) (T2 (fun _ j => D.db j) : FVec Ideal S1x128 .f32) = (T3 (fun n g r => D.cum g r n) : FVec Ideal S66x4x8 .f32) := by
  unfold val_main_v163
  rw [r_v152 D]
  exact cumsum3 _ _ _ _ ofBits_zero

theorem r_v165 : val_main_v165 (F := Ideal) = (B2 (fun m n => n < m) : IVec S66x66 1) := by
  unfold val_main_v165 val_main_call12_v4 val_main_call12_v2
  refine eqB2 fun m n => ?_
  exact tril_bit' m.isLt n.isLt

theorem r_v174 : val_main_v174 (F := Ideal) (T2 D.pj : FVec Ideal S4224x13440 .f32) (T2 (fun _ j => D.al j) : FVec Ideal S1x128 .f32) (T2 (fun _ j => D.db j) : FVec Ideal S1x128 .f32) = (T4 (fun m n g r => if n < m then Real.exp (D.cum g r m - D.ls m (32 + 8 * g + r) - D.cum g r n) else 0) : FVec Ideal S66x66x4x8 .f32) := by
  simp only [val_main_v174, val_main_v173, val_main_call13_v1, val_main_v166, val_main_call13_v2, val_main_call13_v0, val_main_cst_20, val_main_v172, val_main_v170, val_main_v168, val_main_v167, val_main_v171, val_main_v169, r_v165, r_v152 D, r_v163 D]
  refine eqT4 fun m n g r => ?_
  have hm := m.isLt
  have hn := n.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  simp only [c_sub, exp_mask]
  try simp only [c_one, c_zero, c_add, c_mul, c_sub, c_neg, c_max, c_sum, c_exp, c_exp_bot, Finset.univ_unique, Finset.sum_singleton]

theorem r_v176 : val_main_v176 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T5 (fun n g r p k => D.dS g (65 - n) r p k) : FVec Ideal S66x4x8x64x128 .f32) := by
  simp only [val_main_v176, val_main_v175, r_v162 D, r_v174 D]
  refine eqT5 fun n g r p k => ?_
  have hn := n.isLt
  have hg := g.isLt
  have hr := r.isLt
  have hp := p.isLt
  have hk := k.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hp, m64 hp, d512' hr hp, m512' hr hp, d128 hk, m128 hk]
  rw [← D.Hs_eq g r p k (65 - n) (by omega), show 65 - (65 - n.val) = n.val by omega]
  try simp only [c_one, c_zero, c_add, c_mul, c_sub, c_neg, c_max, c_sum, c_exp, c_exp_bot, Finset.univ_unique, Finset.sum_singleton]
  try simp only [In.Hs, id_const, const_ix, ofBits_zero, ofBits_one, ofBits_512, ofBits_nhalf, ofBits_eps, ofBits_bot, mc64, mc512, mc128, mc8, Nat.add_assoc, cdm, cdm', cd8, cdm512, tdm, kdm, d64 hp, m64 hp, d512' hr hp, m512' hr hp, d128 hk, m128 hk]

theorem r_v178 : val_main_v178 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T4 (fun n l g k => D.gB1 n g (D.dS g (65 - n)) l k) : FVec Ideal S66x64x4x128 .f32) := by
  simp only [val_main_v178, val_main_v177, r_v176 D, r_v80 D]
  refine eqT4 fun n l g k => ?_
  have hn := n.isLt
  have hl := l.isLt
  have hg := g.isLt
  have hk := k.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d128 hk, m128 hk]
  try simp only [c_one, c_zero, c_add, c_mul, c_sub, c_neg, c_max, c_sum, c_exp, c_exp_bot, Finset.univ_unique, Finset.sum_singleton]
  try simp only [In.gB1, id_const, const_ix, ofBits_zero, ofBits_one, ofBits_512, ofBits_nhalf, ofBits_eps, ofBits_bot, mc64, mc512, mc128, mc8, Nat.add_assoc, cdm, cdm', cd8, cdm512, tdm, kdm, d64 hl, m64 hl, d128 hk, m128 hk]
  refine congrArg (fun r : ℝ => (r : EReal)) ?_
  refine Eq.trans ?_ (sum_512 (fun c => D.dS g.val (65 - n.val) (c / 64) (c % 64) k.val * D.xet n.val g.val l.val c)).symm
  refine Finset.sum_congr rfl fun r _ => Finset.sum_congr rfl fun p _ => ?_
  simp only [d64 p.isLt, m64 p.isLt]

theorem r_v180 : val_main_v180 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T5 (fun n l g r p => D.u n g (D.dS g (65 - n)) l (64 * r + p)) : FVec Ideal S66x64x4x8x64 .f32) := by
  simp only [val_main_v180, val_main_v179, r_v176 D, r_v39 D]
  refine eqT5 fun n l g r p => ?_
  have hn := n.isLt
  have hl := l.isLt
  have hg := g.isLt
  have hr := r.isLt
  have hp := p.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]
  try simp only [c_one, c_zero, c_add, c_mul, c_sub, c_neg, c_max, c_sum, c_exp, c_exp_bot, Finset.univ_unique, Finset.sum_singleton]
  try simp only [In.u, id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]

theorem r_v182 : val_main_v182 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T5 (fun n l g r p => D.gx1 n g (D.dS g (65 - n)) l (64 * r + p)) : FVec Ideal S66x64x4x8x64 .f32) := by
  simp only [val_main_v182, val_main_v181, val_main_v78, r_v180 D, r_v77 D]
  refine eqT5 fun n l g r p => ?_
  have hn := n.isLt
  have hl := l.isLt
  have hg := g.isLt
  have hr := r.isLt
  have hp := p.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]
  try simp only [c_one, c_zero, c_add, c_mul, c_sub, c_neg, c_max, c_sum, c_exp, c_exp_bot, Finset.univ_unique, Finset.sum_singleton]
  try simp only [In.gx1, id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]
  refine congrArg (fun r : ℝ => (r : EReal)) ?_
  exact mul_comm _ _

theorem r_v186 : val_main_v186 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T4 (fun n l g r => D.get n g (D.dS g (65 - n)) r l) : FVec Ideal S66x64x4x8 .f32) := by
  simp only [val_main_v186, val_main_cst_22, val_main_v185, val_main_v184, val_main_cst_21, val_main_v183, r_v180 D, r_v54 D]
  refine eqT4 fun n l g r => ?_
  have hn := n.isLt
  have hl := l.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl]
  try simp only [c_one, c_zero, c_add, c_mul, c_sub, c_neg, c_max, c_sum, c_exp, c_exp_bot, Finset.univ_unique, Finset.sum_singleton]
  try simp only [In.get, id_const, const_ix, ofBits_zero, ofBits_one, ofBits_512, ofBits_nhalf, ofBits_eps, ofBits_bot, mc64, mc512, mc128, mc8, Nat.add_assoc, cdm, cdm', cd8, cdm512, tdm, kdm, d64 hl, m64 hl]
  refine congrArg (fun r : ℝ => (r : EReal)) ?_
  exact Finset.sum_congr rfl fun _ _ => mul_comm _ _

theorem r_v187 : val_main_v187 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T4 (fun n l g r => D.get n g (D.dS g (65 - n)) r l * D.eth n g r l) : FVec Ideal S66x64x4x8 .f32) := by
  simp only [val_main_v187, r_v186 D, r_v77 D]
  refine eqT4 fun n l g r => ?_
  have hn := n.isLt
  have hl := l.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl]
  try simp only [c_one, c_zero, c_add, c_mul, c_sub, c_neg, c_max, c_sum, c_exp, c_exp_bot, Finset.univ_unique, Finset.sum_singleton]

theorem r_v191 : val_main_v191 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T3 (fun n g r => ∑ l : Fin 64, D.get n g (D.dS g (65 - n)) r l.val * D.eth n g r l.val) : FVec Ideal S66x4x8 .f32) := by
  simp only [val_main_v191, val_main_cst_24, val_main_v189, val_main_v188, val_main_cst_23, r_v187 D]
  refine eqT3 fun n g r => ?_
  have hn := n.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]

theorem r_v192 : val_main_v192 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T5 (fun n g r p k => D.S n g r p k * D.dS g (65 - n) r p k) : FVec Ideal S66x4x8x64x128 .f32) := by
  simp only [val_main_v192, r_v0 D, r_v176 D]
  refine eqT5 fun n g r p k => ?_
  have hn := n.isLt
  have hg := g.isLt
  have hr := r.isLt
  have hp := p.isLt
  have hk := k.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hp, m64 hp, d512' hr hp, m512' hr hp, d128 hk, m128 hk]
  try simp only [c_one, c_zero, c_add, c_mul, c_sub, c_neg, c_max, c_sum, c_exp, c_exp_bot, Finset.univ_unique, Finset.sum_singleton]

theorem r_v193 : val_main_v193 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T3 (fun n g r => D.eS n g (D.dS g (65 - n)) r) : FVec Ideal S66x4x8 .f32) := by
  unfold val_main_v193
  rw [r_v192 D]
  exact red5_34 _ _ _ _ ofBits_zero

theorem r_v194 : val_main_v194 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T5 (fun n g r _ _ => D.eS n g (D.dS g (65 - n)) r) : FVec Ideal S66x4x8x1x1 .f32) := by
  simp only [val_main_v194, r_v193 D]
  refine eqT5 fun n g r w3 w4 => ?_
  have hn := n.isLt
  have hg := g.isLt
  have hr := r.isLt
  have hw3 := w3.isLt
  have hw4 := w4.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]

theorem r_v197 : val_main_v197 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T3 (fun n g r => ∑ _p : Fin 1, ∑ _k : Fin 1, D.eS n g (D.dS g (65 - n)) r) : FVec Ideal S66x4x8 .f32) := by
  unfold val_main_v197
  rw [r_v194 D]
  exact red5_34 _ _ _ _ ofBits_zero

theorem r_v199 : val_main_v199 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T3 (fun n g r => (∑ l : Fin 64, D.get n g (D.dS g (65 - n)) r l.val * D.eth n g r l.val) + D.eS n g (D.dS g (65 - n)) r * D.elh n g r) : FVec Ideal S66x4x8 .f32) := by
  simp only [val_main_v199, val_main_v198, r_v191 D, r_v197 D, r_v70 D]
  refine eqT3 fun n g r => ?_
  have hn := n.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]

theorem r_v201 : val_main_v201 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T4 (fun n l g r => if l = 63 then (∑ q : Fin 64, D.get n g (D.dS g (65 - n)) r q.val * D.eth n g r q.val) + D.eS n g (D.dS g (65 - n)) r * D.elh n g r else 0) : FVec Ideal S66x64x4x8 .f32) := by
  simp only [val_main_v201, val_main_cst_27, val_main_v200, r_v199 D]
  refine eqT4 fun n l g r => ?_
  have hn := n.isLt
  have hl := l.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl]
  try simp only [c_one, c_zero, c_add, c_mul, c_sub, c_neg, c_max, c_sum, c_exp, c_exp_bot, Finset.univ_unique, Finset.sum_singleton]
  by_cases h : l.val = 63
  · rw [dif_pos (by omega), if_pos h]
  · rw [dif_neg (by omega), if_neg h]

theorem r_v208 : val_main_v208 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T4 (fun n l g r => D.geo n g r l) : FVec Ideal S66x64x4x8 .f32) := by
  simp only [val_main_v208, val_main_cst_29, val_main_v205, val_main_v204, val_main_cst_28, val_main_v203, r_v149 D, r_v63 D]
  refine eqT4 fun n l g r => ?_
  have hn := n.isLt
  have hl := l.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl]
  try simp only [c_one, c_zero, c_add, c_mul, c_sub, c_neg, c_max, c_sum, c_exp, c_exp_bot, Finset.univ_unique, Finset.sum_singleton]
  try simp only [In.geo, id_const, const_ix, ofBits_zero, ofBits_one, ofBits_512, ofBits_nhalf, ofBits_eps, ofBits_bot, mc64, mc512, mc128, mc8, Nat.add_assoc, cdm, cdm', cd8, cdm512, tdm, kdm, d64 hl, m64 hl]

theorem r_v210 : val_main_v210 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T4 (fun n l g r => -(D.get n g (D.dS g (65 - n)) r l * D.eth n g r l) + (if l = 63 then (∑ q : Fin 64, D.get n g (D.dS g (65 - n)) r q.val * D.eth n g r q.val) + D.eS n g (D.dS g (65 - n)) r * D.elh n g r else 0) + D.geo n g r l * D.ech n g r l) : FVec Ideal S66x64x4x8 .f32) := by
  simp only [val_main_v210, val_main_v202, val_main_v190, val_main_v209, r_v201 D, r_v187 D, r_v208 D, r_v64 D]
  refine eqT4 fun n l g r => ?_
  have hn := n.isLt
  have hl := l.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl]
  try simp only [c_one, c_zero, c_add, c_mul, c_sub, c_neg, c_max, c_sum, c_exp, c_exp_bot, Finset.univ_unique, Finset.sum_singleton]

theorem r_v207 : val_main_v207 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T5 (fun n l g r p => D.gy0 n g l (64 * r + p) * D.ech n g r l) : FVec Ideal S66x64x4x8x64 .f32) := by
  simp only [val_main_v207, val_main_v206, val_main_v65, r_v149 D, r_v64 D]
  refine eqT5 fun n l g r p => ?_
  have hn := n.isLt
  have hl := l.isLt
  have hg := g.isLt
  have hr := r.isLt
  have hp := p.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]
  try simp only [c_one, c_zero, c_add, c_mul, c_sub, c_neg, c_max, c_sum, c_exp, c_exp_bot, Finset.univ_unique, Finset.sum_singleton]

theorem r_v213 : val_main_v213 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T4 (fun n l g k => ∑ c : Fin 512, D.gy0 n g l c.val * D.ech n g (c.val / 64) l * D.S n g (c.val / 64) (c.val % 64) k) : FVec Ideal S66x64x4x128 .f32) := by
  simp only [val_main_v213, val_main_v212, val_main_v211, r_v0 D, r_v207 D]
  refine eqT4 fun n l g k => ?_
  have hn := n.isLt
  have hl := l.isLt
  have hg := g.isLt
  have hk := k.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d128 hk, m128 hk]
  try simp only [c_one, c_zero, c_add, c_mul, c_sub, c_neg, c_max, c_sum, c_exp, c_exp_bot, Finset.univ_unique, Finset.sum_singleton]
  refine congrArg (fun r : ℝ => (r : EReal)) ?_
  refine Eq.trans ?_ (sum_512 (fun c => D.gy0 n.val g.val l.val c * D.ech n.val g.val (c / 64) l.val * D.S n.val g.val (c / 64) (c % 64) k.val)).symm
  refine Finset.sum_congr rfl fun r _ => Finset.sum_congr rfl fun p _ => ?_
  simp only [d64 p.isLt, m64 p.isLt]

theorem r_v218 : val_main_v218 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T5 (fun n l s g r => D.gm n g r l s) : FVec Ideal S66x64x64x4x8 .f32) := by
  simp only [val_main_v218, val_main_v217, val_main_v216, r_v54 D, r_v149 D]
  refine eqT5 fun n l s g r => ?_
  have hn := n.isLt
  have hl := l.isLt
  have hs := s.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d64 hs, m64 hs]
  try simp only [c_one, c_zero, c_add, c_mul, c_sub, c_neg, c_max, c_sum, c_exp, c_exp_bot, Finset.univ_unique, Finset.sum_singleton]
  try simp only [In.gm, id_const, const_ix, ofBits_zero, ofBits_one, ofBits_512, ofBits_nhalf, ofBits_eps, ofBits_bot, mc64, mc512, mc128, mc8, Nat.add_assoc, cdm, cdm', cd8, cdm512, tdm, kdm, d64 hl, m64 hl, d64 hs, m64 hs]

theorem r_v221 : val_main_v221 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T5 (fun n l g r p => D.gxd n g (D.dS g (65 - n)) l (64 * r + p)) : FVec Ideal S66x64x4x8x64 .f32) := by
  simp only [val_main_v221, val_main_v220, val_main_v219, val_main_v216, r_v182 D, r_v59 D, r_v149 D]
  refine eqT5 fun n l g r p => ?_
  have hn := n.isLt
  have hl := l.isLt
  have hg := g.isLt
  have hr := r.isLt
  have hp := p.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]
  try simp only [c_one, c_zero, c_add, c_mul, c_sub, c_neg, c_max, c_sum, c_exp, c_exp_bot, Finset.univ_unique, Finset.sum_singleton]
  try simp only [In.gxd, id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]

theorem r_v227 : val_main_v227 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T4 (fun n l s g => D.gcb n g l s) : FVec Ideal S66x64x64x4 .f32) := by
  simp only [val_main_v227, val_main_cst_31, val_main_v226, val_main_v225, val_main_cst_30, val_main_v224, r_v218 D, r_v51 D]
  refine eqT4 fun n l s g => ?_
  have hn := n.isLt
  have hl := l.isLt
  have hs := s.isLt
  have hg := g.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d64 hs, m64 hs]
  try simp only [c_one, c_zero, c_add, c_mul, c_sub, c_neg, c_max, c_sum, c_exp, c_exp_bot, Finset.univ_unique, Finset.sum_singleton]
  try simp only [In.gcb, id_const, const_ix, ofBits_zero, ofBits_one, ofBits_512, ofBits_nhalf, ofBits_eps, ofBits_bot, mc64, mc512, mc128, mc8, Nat.add_assoc, cdm, cdm', cd8, cdm512, tdm, kdm, d64 hl, m64 hl, d64 hs, m64 hs]

theorem r_v231 : val_main_v231 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T4 (fun n l g k => D.gC n g l k) : FVec Ideal S66x64x4x128 .f32) := by
  simp only [val_main_v231, val_main_v230, val_main_v229, val_main_v228, r_v213 D, r_v39 D, r_v227 D]
  refine eqT4 fun n l g k => ?_
  have hn := n.isLt
  have hl := l.isLt
  have hg := g.isLt
  have hk := k.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d128 hk, m128 hk]
  try simp only [c_one, c_zero, c_add, c_mul, c_sub, c_neg, c_max, c_sum, c_exp, c_exp_bot, Finset.univ_unique, Finset.sum_singleton]
  try simp only [In.gC, id_const, const_ix, ofBits_zero, ofBits_one, ofBits_512, ofBits_nhalf, ofBits_eps, ofBits_bot, mc64, mc512, mc128, mc8, Nat.add_assoc, cdm, cdm', cd8, cdm512, tdm, kdm, d64 hl, m64 hl, d128 hk, m128 hk]

theorem r_v234 : val_main_v234 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T4 (fun n l g k => D.gB n g (D.dS g (65 - n)) l k) : FVec Ideal S66x64x4x128 .f32) := by
  simp only [val_main_v234, val_main_v233, val_main_v232, val_main_v228, r_v178 D, r_v40 D, r_v227 D]
  refine eqT4 fun n l g k => ?_
  have hn := n.isLt
  have hl := l.isLt
  have hg := g.isLt
  have hk := k.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d128 hk, m128 hk]
  try simp only [c_one, c_zero, c_add, c_mul, c_sub, c_neg, c_max, c_sum, c_exp, c_exp_bot, Finset.univ_unique, Finset.sum_singleton]
  try simp only [In.gB, id_const, const_ix, ofBits_zero, ofBits_one, ofBits_512, ofBits_nhalf, ofBits_eps, ofBits_bot, mc64, mc512, mc128, mc8, Nat.add_assoc, cdm, cdm', cd8, cdm512, tdm, kdm, d64 hl, m64 hl, d128 hk, m128 hk]

theorem r_v240 : val_main_v240 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T4 (fun n l g r => D.gdt n g (D.dS g (65 - n)) r l) : FVec Ideal S66x64x4x8 .f32) := by
  simp only [val_main_v240, val_main_cst_33, val_main_v237, val_main_v236, val_main_cst_32, val_main_v235, r_v221 D, r_v33 D]
  refine eqT4 fun n l g r => ?_
  have hn := n.isLt
  have hl := l.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl]
  try simp only [c_one, c_zero, c_add, c_mul, c_sub, c_neg, c_max, c_sum, c_exp, c_exp_bot, Finset.univ_unique, Finset.sum_singleton]
  try simp only [In.gdt, id_const, const_ix, ofBits_zero, ofBits_one, ofBits_512, ofBits_nhalf, ofBits_eps, ofBits_bot, mc64, mc512, mc128, mc8, Nat.add_assoc, cdm, cdm', cd8, cdm512, tdm, kdm, d64 hl, m64 hl]

theorem r_v242 : val_main_v242 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T5 (fun n l s g r => D.gl n g r l s) : FVec Ideal S66x64x64x4x8 .f32) := by
  simp only [val_main_v242, val_main_call14_v0, val_main_call14_cst, val_main_v241, val_main_v223, val_main_v222, val_main_v57, val_main_v56, val_main_v50_1, val_main_call7_v1, val_main_v43, val_main_v42, val_main_call5_v4, val_main_call5_v2, val_main_call5_v0, val_main_call5_v1, val_main_call5_c, val_main_call5_v3, val_main_call5_v5, val_main_call5_c_0, val_main_v41, val_main_c_6, r_v51 D, r_v218 D, r_v55 D]
  refine eqT5 fun n l s g r => ?_
  have hn := n.isLt
  have hl := l.isLt
  have hs := s.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d64 hs, m64 hs]
  try simp only [c_one, c_zero, c_add, c_mul, c_sub, c_neg, c_max, c_sum, c_exp, c_exp_bot, Finset.univ_unique, Finset.sum_singleton]
  try simp only [In.gl, id_const, const_ix, ofBits_zero, ofBits_one, ofBits_512, ofBits_nhalf, ofBits_eps, ofBits_bot, mc64, mc512, mc128, mc8, Nat.add_assoc, cdm, cdm', cd8, cdm512, tdm, kdm, d64 hl, m64 hl, d64 hs, m64 hs]
  rw [tril_bit (by omega) (by omega), c_select, c_ite]
  refine congrArg (fun r : ℝ => (r : EReal)) ?_
  by_cases h : s.val ≤ l.val
  · rw [if_pos h, if_pos h, In.L, if_pos h]
  · rw [if_neg h, if_neg h]

theorem r_v251 : val_main_v251 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T4 (fun n l g r => -(D.get n g (D.dS g (65 - n)) r l * D.eth n g r l) + (if l = 63 then (∑ q : Fin 64, D.get n g (D.dS g (65 - n)) r q.val * D.eth n g r q.val) + D.eS n g (D.dS g (65 - n)) r * D.elh n g r else 0) + D.geo n g r l * D.ech n g r l + D.gch n g r l) : FVec Ideal S66x64x4x8 .f32) := by
  simp only [val_main_v251, val_main_v249, val_main_v248, val_main_cst_36, val_main_v247, val_main_v246, val_main_cst_35, val_main_v245, val_main_v250, val_main_cst_37, val_main_v244, val_main_v243, val_main_cst_34, r_v210 D, r_v242 D]
  refine eqT4 fun n l g r => ?_
  have hn := n.isLt
  have hl := l.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl]
  try simp only [c_one, c_zero, c_add, c_mul, c_sub, c_neg, c_max, c_sum, c_exp, c_exp_bot, Finset.univ_unique, Finset.sum_singleton]
  try simp only [In.gch, id_const, const_ix, ofBits_zero, ofBits_one, ofBits_512, ofBits_nhalf, ofBits_eps, ofBits_bot, mc64, mc512, mc128, mc8, Nat.add_assoc, cdm, cdm', cd8, cdm512, tdm, kdm, d64 hl, m64 hl]
  refine congrArg (fun r : ℝ => (r : EReal)) ?_
  ring

theorem r_v252 : val_main_v252 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T4 (fun n l g r => ∑ s : Fin 64, if l ≤ s.val then (-(D.get n g (D.dS g (65 - n)) r s * D.eth n g r s) + (if s.val = 63 then (∑ q : Fin 64, D.get n g (D.dS g (65 - n)) r q.val * D.eth n g r q.val) + D.eS n g (D.dS g (65 - n)) r * D.elh n g r else 0) + D.geo n g r s * D.ech n g r s + D.gch n g r s) else 0) : FVec Ideal S66x64x4x8 .f32) := by
  unfold val_main_v252
  rw [r_v251 D]
  exact revsum4 _ _ _ _ ofBits_zero

theorem r_v253 : val_main_v253 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T5 (fun n l g r p => D.gx n g (D.dS g (65 - n)) l (64 * r + p)) : FVec Ideal S66x64x4x8x64 .f32) := by
  simp only [val_main_v253, val_main_v239, val_main_v238, val_main_v52, r_v146 D, r_v221 D, r_v34 D]
  refine eqT5 fun n l g r p => ?_
  have hn := n.isLt
  have hl := l.isLt
  have hg := g.isLt
  have hr := r.isLt
  have hp := p.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]
  try simp only [c_one, c_zero, c_add, c_mul, c_sub, c_neg, c_max, c_sum, c_exp, c_exp_bot, Finset.univ_unique, Finset.sum_singleton]
  try simp only [In.gx, id_const, const_ix, ofBits_zero, ofBits_one, ofBits_512, ofBits_nhalf, ofBits_eps, ofBits_bot, mc64, mc512, mc128, mc8, Nat.add_assoc, cdm, cdm', cd8, cdm512, tdm, kdm, d64 hl, m64 hl, d64 hp, m64 hp, d512' hr hp, m512' hr hp]
  refine congrArg (fun r : ℝ => (r : EReal)) ?_
  ring

end Cert.Ssd.Ref
-- ==== Proof.RefC.lean ====
/-
  THE REFERENCE READ, ITS RESULTS. The gradients of the step size and the decay, and the nine results the reference
  returns, written in the chunk's formulas.
-/
module

public import proofs.«01_k».proof.Proof.Gen.ReferenceIdeal.Read
public import proofs.«01_k».proof.Proof.Math
public import proofs.«01_k».proof.Proof.RefB

@[expose] public section

set_option maxRecDepth 16384

noncomputable section

namespace Cert.Ssd.Ref

open Idealize.ShloMosaic Idealize.ShloMosaic.WordCmp Cert.ReferenceIdeal Cert.ReferenceIdeal.Gen Cert.ReferenceIdeal.Read

variable (D : In)

theorem ln_in (g r : ℕ) (h : r < 8) (f : ℕ → ℝ) : In.ln g f (32 + 8 * g + r) = f r := by
  unfold In.ln
  rw [if_pos (by omega), show 32 + 8 * g + r - (32 + 8 * g) = r by omega]
theorem ga_eq (n g r l : ℕ) (E : ℕ → ℕ → ℕ → ℝ) (hr : r < 8) (hl : l < 64) :
    (∑ s : Fin 64, if l ≤ s.val then -(D.get n g E r s.val * D.eth n g r s.val)
        + (if s.val = 63 then (∑ q : Fin 64, D.get n g E r q.val * D.eth n g r q.val) + D.eS n g E r * D.elh n g r else 0)
        + D.geo n g r s.val * D.ech n g r s.val + D.gch n g r s.val else 0) = D.ga n g E l (32 + 8 * g + r) := by
  unfold In.ga In.gla In.gcs In.geL
  simp only [ln_in _ _ hr]
  rw [show D.eS n g E r * D.el n (32 + 8 * g + r) + ∑ q : Fin 64, D.get n g E r q.val * D.et n q.val (32 + 8 * g + r)
      = ∑ s : Fin 64, if s.val = 63 then (∑ q : Fin 64, D.get n g E r q.val * D.eth n g r q.val) + D.eS n g E r * D.elh n g r else 0 from by
    rw [In.sum_pick (N := 64) (fun _ => (∑ q : Fin 64, D.get n g E r q.val * D.eth n g r q.val) + D.eS n g E r * D.elh n g r) 63 (by norm_num), add_comm]
    rfl, ← Finset.sum_add_distrib]
  refine Finset.sum_congr rfl fun s _ => ?_
  have hs := s.isLt
  by_cases h : l ≤ s.val
  · rw [if_pos h, if_pos h]
    unfold In.eth In.ech
    ring
  · rw [if_neg h, if_neg h, if_neg (by omega), add_zero]
theorem gpre_out (n g : ℕ) (E : ℕ → ℕ → ℕ → ℝ) (l j : ℕ) (h : ¬(32 + 8 * g ≤ j ∧ j < 40 + 8 * g)) : D.gpre n g E l j = 0 := by
  unfold In.gpre
  rw [D.gdl_out n g E l j h, zero_mul]
theorem sito0 : FloatOps.sitofp (F := Ideal) .f32 (0#32 : BitVec 32) = ((0 : ℝ) : EReal) := by
  show (((0#32 : BitVec 32).toInt : ℝ) : EReal) = _
  rw [BitVec.toInt_zero, Int.cast_zero]
theorem ln_in' (j : ℕ) (f : ℕ → ℝ) : In.ln (j / 8) f (32 + j) = f (j % 8) := by
  have h := ln_in (j / 8) (j % 8) (Nat.mod_lt _ (by norm_num)) f
  rwa [show 32 + 8 * (j / 8) + j % 8 = 32 + j by omega] at h
theorem dth' (n l j : ℕ) : D.dth n (j / 8) (j % 8) l = D.dt n l (32 + j) := by
  unfold In.dth
  rw [show 32 + 8 * (j / 8) + j % 8 = 32 + j by omega]
theorem sum_rows' (f : ℕ → ℕ → ℝ) : ∑ t : Fin 4224, f (t.val / 64) (t.val % 64) = ∑ n : Fin 66, ∑ l : Fin 64, f n.val l.val := by
  rw [sum_rows (fun t => f (t / 64) (t % 64))]
  refine Finset.sum_congr rfl fun n _ => Finset.sum_congr rfl fun l _ => ?_
  rw [d64 l.isLt, m64 l.isLt]
theorem pad_in (g j : ℕ) (hg : g < 4) (f : ℕ → ℝ) (h0 : ¬(32 + 8 * g ≤ j ∧ j < 40 + 8 * g) → f g = 0) :
    (if 32 + 8 * g ≤ j ∧ j < 40 + 8 * g then (1 : ℝ) else 0) * (if 32 ≤ j ∧ j < 64 then f ((j - 32) / 8) else 0) = f g := by
  by_cases h : 32 + 8 * g ≤ j ∧ j < 40 + 8 * g
  · rw [if_pos h, if_pos (by omega), one_mul, show (j - 32) / 8 = g by omega]
  · rw [if_neg h, zero_mul, h0 h]
theorem group_bit {g j : ℕ} (hg : g < 4) (hj : j < 128) :
    FloatOps.uitofp (F := Ideal) .f32
      (IntOp.andi (IntOp.cmpi .sge (BitVec.ofNat 32 j) (IntOp.addi 32#32 (IntOp.muli (BitVec.ofNat 32 g) 8#32)))
        (IntOp.cmpi .slt (BitVec.ofNat 32 j) (IntOp.addi 40#32 (IntOp.muli (BitVec.ofNat 32 g) 8#32))))
      = ((if 32 + 8 * g ≤ j ∧ j < 40 + 8 * g then 1 else 0 : ℝ) : EReal) := by
  rw [muli_ofNat, addi_ofNat, addi_ofNat, cmpi_sge_ofNat (by omega) (by omega), cmpi_slt_ofNat (by omega) (by omega)]
  by_cases h1 : 32 + 8 * g ≤ j
  · by_cases h2 : j < 40 + 8 * g
    · rw [if_pos ⟨h1, h2⟩, decide_eq_true (by omega), decide_eq_true (by omega)]
      show (((1#1 : BitVec 1).toNat : ℝ) : EReal) = _
      norm_num
    · rw [if_neg (by omega), decide_eq_true (by omega), decide_eq_false (by omega)]
      show (((0#1 : BitVec 1).toNat : ℝ) : EReal) = _
      norm_num
  · rw [if_neg (by omega), decide_eq_false (by omega), decide_eq_true (by omega)]
    show (((0#1 : BitVec 1).toNat : ℝ) : EReal) = _
    norm_num
theorem gbi_out (n g : ℕ) (E : ℕ → ℕ → ℕ → ℝ) (j : ℕ) (h : ¬(32 + 8 * g ≤ j ∧ j < 40 + 8 * g)) : D.gbi n g E j = 0 := by
  unfold In.gbi
  exact Finset.sum_eq_zero fun l _ => gpre_out D _ _ _ _ _ h
theorem gal_out (n g : ℕ) (E : ℕ → ℕ → ℕ → ℝ) (j : ℕ) (h : ¬(32 + 8 * g ≤ j ∧ j < 40 + 8 * g)) : D.gal n g E j = 0 := by
  simp only [In.gal, In.ga, In.gla, In.gcs, In.geL, In.ln_out g _ j h, zero_mul, mul_zero, neg_zero, add_zero, ite_self, Finset.sum_const_zero]
theorem h8 {j : ℕ} : 8 * (j / 8) + j % 8 = j := by omega

theorem r_v256 : val_main_v256 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T3 (fun t g r => D.ga (t / 64) g (D.dS g (65 - t / 64)) (t % 64) (32 + 8 * g + r)) : FVec Ideal S4224x4x8 .f32) := by
  simp only [val_main_v256, r_v252 D]
  refine eqT3 fun t g r => ?_
  have ht := t.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  rw [ga_eq D _ _ _ _ _ hr (by omega)]
  try simp only [c_one, c_zero, c_add, c_mul, c_sub, c_neg, c_max, c_sum, c_exp, c_exp_bot, Finset.univ_unique, Finset.sum_singleton]
  rw [Nat.add_assoc]

theorem r_v258 : val_main_v258 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T2 (fun g r => ∑ n : Fin 66, ∑ l : Fin 64, D.dth n.val g r l.val * D.ga n.val g (D.dS g (65 - n.val)) l.val (32 + 8 * g + r)) : FVec Ideal S4x8 .f32) := by
  simp only [val_main_v258, val_main_cst_38, val_main_v257, r_v256 D, r_v29 D]
  refine eqT2 fun g r => ?_
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  refine congrArg (fun r : ℝ => (r : EReal)) ?_
  exact sum_rows' (fun n l => D.dth n g.val r.val l * D.ga n g.val (D.dS g.val (65 - n)) l (32 + (8 * g.val + r.val)))

theorem r_v262 : val_main_v262 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T2 (fun g r => ∑ n : Fin 66, ∑ l : Fin 64, D.dth n.val g r l.val * D.ga n.val g (D.dS g (65 - n.val)) l.val (32 + 8 * g + r)) : FVec Ideal S4x8 .f32) := by
  simp only [val_main_v262, val_main_cst_39, val_main_v259, r_v258 D]
  refine eqT2 fun g r => ?_
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]

theorem r_v264 : val_main_v264 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T3 (fun t g r => D.ga (t / 64) g (D.dS g (65 - t / 64)) (t % 64) (32 + 8 * g + r) * D.am (32 + 8 * g + r) + D.gdt (t / 64) g (D.dS g (65 - t / 64)) r (t % 64)) : FVec Ideal S4224x4x8 .f32) := by
  simp only [val_main_v264, val_main_v261, val_main_v260, val_main_v35, val_main_v263, r_v256 D, r_v32 D, r_v240 D]
  refine eqT3 fun t g r => ?_
  have ht := t.isLt
  have hg := g.isLt
  have hr := r.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]

theorem r_v268 : val_main_v268 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T2 (fun _ j => ∑ n : Fin 66, D.gal n.val (j / 8) (D.dS (j / 8) (65 - n.val)) (32 + j)) : FVec Ideal S1x32 .f32) := by
  simp only [val_main_v268, val_main_v267, val_main_v266, val_main_v30, val_main_v5, r_v262 D]
  refine eqT2 fun w0 j => ?_
  have hw0 := w0.isLt
  have hj := j.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  simp only [h8, dth']
  try simp only [c_one, c_zero, c_add, c_mul, c_sub, c_neg, c_max, c_sum, c_exp, c_exp_bot, Finset.univ_unique, Finset.sum_singleton]
  refine congrArg (fun r : ℝ => (r : EReal)) ?_
  unfold In.gal
  rw [← Finset.sum_mul, Finset.sum_neg_distrib]

theorem r_v270 : val_main_v270 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T2 (fun t j => D.gdl (t / 64) (j / 8) (D.dS (j / 8) (65 - t / 64)) (t % 64) (32 + j)) : FVec Ideal S4224x32 .f32) := by
  simp only [val_main_v270, val_main_call16_v0, val_main_call16_cst, val_main_v269, val_main_v27, val_main_v25, val_main_v26, val_main_c_4, r_v264 D]
  refine eqT2 fun t j => ?_
  have ht := t.isLt
  have hj := j.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton, mask_row t.val (by omega), h8]
  try simp only [In.gdl, vm_div, ln_in', id_const, const_ix, ofBits_zero, ofBits_one, ofBits_512, ofBits_nhalf, ofBits_eps, ofBits_bot, mc64, mc512, mc128, mc8, Nat.add_assoc, cdm, cdm', cd8, cdm512, tdm, kdm]
  refine congrArg (fun r : ℝ => (r : EReal)) ?_
  rw [add_comm (D.ga _ _ _ _ _ * _)]

theorem r_v271 : val_main_v271 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T2 (fun t j => D.gpre (t / 64) (j / 8) (D.dS (j / 8) (65 - t / 64)) (t % 64) (32 + j)) : FVec Ideal S4224x32 .f32) := by
  simp only [val_main_v271, r_v24_1 D, r_v270 D]
  refine eqT2 fun t j => ?_
  have ht := t.isLt
  have hj := j.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  try simp only [In.gpre, id_const, const_ix, ofBits_zero, ofBits_one, ofBits_512, ofBits_nhalf, ofBits_eps, ofBits_bot, mc64, mc512, mc128, mc8, Nat.add_assoc, cdm, cdm', cd8, cdm512, tdm, kdm]

theorem r_v273 : val_main_v273 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T2 (fun _ j => ∑ n : Fin 66, D.gbi n.val (j / 8) (D.dS (j / 8) (65 - n.val)) (32 + j)) : FVec Ideal S1x32 .f32) := by
  simp only [val_main_v273, val_main_v272, val_main_cst_40, r_v271 D]
  refine eqT2 fun w0 j => ?_
  have hw0 := w0.isLt
  have hj := j.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  refine congrArg (fun r : ℝ => (r : EReal)) ?_
  exact sum_rows' (fun n l => D.gpre n (j.val / 8) (D.dS (j.val / 8) (65 - n)) l (32 + j.val))

theorem r_v275 : val_main_v275 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T2 (fun t k => D.oC (t / 64) (k / 128) (t % 64) (k % 128)) : FVec Ideal S4224x512 .f32) := by
  simp only [val_main_v275, val_main_call18_v0, val_main_call18_cst, val_main_v19, val_main_v17, val_main_v18, val_main_c_2, val_main_v274, val_main_v254, r_v231 D]
  refine eqT2 fun t k => ?_
  have ht := t.isLt
  have hk := k.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton, mask_row t.val (by omega)]
  try simp only [In.oC, vm_div, id_const, const_ix, ofBits_zero, ofBits_one, ofBits_512, ofBits_nhalf, ofBits_eps, ofBits_bot, mc64, mc512, mc128, mc8, Nat.add_assoc, cdm, cdm', cd8, cdm512, tdm, kdm]

theorem r_v277 : val_main_v277 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T2 (fun t k => D.oB (t / 64) (k / 128) (D.dS (k / 128) (65 - t / 64)) (t % 64) (k % 128)) : FVec Ideal S4224x512 .f32) := by
  simp only [val_main_v277, val_main_call19_v0, val_main_call19_cst, val_main_v14, val_main_v12, val_main_v13, val_main_c_0, val_main_v276, val_main_v255, r_v234 D]
  refine eqT2 fun t k => ?_
  have ht := t.isLt
  have hk := k.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton, mask_row t.val (by omega)]
  try simp only [In.oB, vm_div, id_const, const_ix, ofBits_zero, ofBits_one, ofBits_512, ofBits_nhalf, ofBits_eps, ofBits_bot, mc64, mc512, mc128, mc8, Nat.add_assoc, cdm, cdm', cd8, cdm512, tdm, kdm]

theorem r_v279 : val_main_v279 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T2 (fun t c => D.oX (t / 64) (c / 512) (D.dS (c / 512) (65 - t / 64)) (t % 64) (c % 512)) : FVec Ideal S4224x2048 .f32) := by
  simp only [val_main_v279, val_main_call20_v0, val_main_call20_cst, val_main_v278, val_main_v265, val_main_v9, val_main_v7, val_main_v8, val_main_c, r_v253 D]
  refine eqT2 fun t c => ?_
  have ht := t.isLt
  have hc := c.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton, mask_row t.val (by omega)]
  try simp only [In.oX, vm_div, id_const, const_ix, ofBits_zero, ofBits_one, ofBits_512, ofBits_nhalf, ofBits_eps, ofBits_bot, mc64, mc512, mc128, mc8, Nat.add_assoc, cdm, cdm', cd8, cdm512, tdm, kdm]

theorem r_v298 : val_main_v298 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T2 (fun t j => if 32 ≤ j ∧ j < 64 then D.gpre (t / 64) ((j - 32) / 8) (D.dS ((j - 32) / 8) (65 - t / 64)) (t % 64) j else 0) : FVec Ideal S4224x128 .f32) := by
  simp only [val_main_v298, val_main_call21_v0, val_main_c_45, r_v271 D]
  refine eqT2 fun t j => ?_
  have ht := t.isLt
  have hj := j.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  by_cases h : 32 ≤ j.val ∧ j.val < 64
  · rw [dif_pos (by omega), if_pos h, show 32 + (j.val - 32) = j.val by omega]
  · rw [dif_neg (by omega), if_neg h, sito0]

theorem r_v303 : val_main_v303 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T2 (fun _ j => if 32 ≤ j ∧ j < 64 then ∑ n : Fin 66, D.gal n.val ((j - 32) / 8) (D.dS ((j - 32) / 8) (65 - n.val)) j else 0) : FVec Ideal S1x128 .f32) := by
  simp only [val_main_v303, val_main_call22_v0, val_main_c_46, r_v268 D]
  refine eqT2 fun w0 j => ?_
  have hw0 := w0.isLt
  have hj := j.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  by_cases h : 32 ≤ j.val ∧ j.val < 64
  · rw [dif_pos (by omega), if_pos h, show 32 + (j.val - 32) = j.val by omega]
  · rw [dif_neg (by omega), if_neg h, sito0]

theorem r_v307 : val_main_v307 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T2 (fun _ j => if 32 ≤ j ∧ j < 64 then ∑ n : Fin 66, D.gbi n.val ((j - 32) / 8) (D.dS ((j - 32) / 8) (65 - n.val)) j else 0) : FVec Ideal S1x128 .f32) := by
  simp only [val_main_v307, val_main_call23_v0, val_main_c_47, r_v273 D]
  refine eqT2 fun w0 j => ?_
  have hw0 := w0.isLt
  have hj := j.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  by_cases h : 32 ≤ j.val ∧ j.val < 64
  · rw [dif_pos (by omega), if_pos h, show 32 + (j.val - 32) = j.val by omega]
  · rw [dif_neg (by omega), if_neg h, sito0]

theorem r_v297 : val_main_v297 (F := Ideal) = (T3 (fun g _ j => if 32 + 8 * g ≤ j ∧ j < 40 + 8 * g then 1 else 0) : FVec Ideal S4x1x128 .f32) := by
  simp only [val_main_v297, val_main_v296, val_main_v290, val_main_v285, val_main_v289, val_main_v287, val_main_v284, val_main_v286, val_main_c_41, val_main_v288, val_main_c_42, val_main_v295, val_main_v294, val_main_v292, val_main_v291, val_main_c_43, val_main_v293, val_main_c_44]
  refine eqT3 fun g w1 j => ?_
  have hg := g.isLt
  have hw1 := w1.isLt
  have hj := j.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  rw [group_bit hg hj]
  try simp only [c_one, c_zero, c_add, c_mul, c_sub, c_neg, c_max, c_sum, c_exp, c_exp_bot, Finset.univ_unique, Finset.sum_singleton]

theorem r_v302 : val_main_v302 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T3 (fun g t j => D.gpre (t / 64) g (D.dS g (65 - t / 64)) (t % 64) j) : FVec Ideal S4x4224x128 .f32) := by
  simp only [val_main_v302, val_main_v300, val_main_v301, val_main_v299, r_v297, r_v298 D]
  refine eqT3 fun g t j => ?_
  have hg := g.isLt
  have ht := t.isLt
  have hj := j.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  refine congrArg (fun r : ℝ => (r : EReal)) ?_
  exact pad_in g.val j.val hg (fun g => D.gpre (t.val / 64) g (D.dS g (65 - t.val / 64)) (t.val % 64) j.val) (fun h => gpre_out D _ _ _ _ _ h)

theorem r_v306 : val_main_v306 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T3 (fun g _ j => ∑ n : Fin 66, D.gal n.val g (D.dS g (65 - n.val)) j) : FVec Ideal S4x1x128 .f32) := by
  simp only [val_main_v306, val_main_v305, val_main_v304, r_v297, r_v303 D]
  refine eqT3 fun g w1 j => ?_
  have hg := g.isLt
  have hw1 := w1.isLt
  have hj := j.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  refine congrArg (fun r : ℝ => (r : EReal)) ?_
  exact pad_in g.val j.val hg (fun g => ∑ n : Fin 66, D.gal n.val g (D.dS g (65 - n.val)) j.val) (fun h => Finset.sum_eq_zero fun n _ => gal_out D _ _ _ _ h)

theorem r_v310 : val_main_v310 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T3 (fun g _ j => ∑ n : Fin 66, D.gbi n.val g (D.dS g (65 - n.val)) j) : FVec Ideal S4x1x128 .f32) := by
  simp only [val_main_v310, val_main_v309, val_main_v308, r_v297, r_v307 D]
  refine eqT3 fun g w1 j => ?_
  have hg := g.isLt
  have hw1 := w1.isLt
  have hj := j.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  refine congrArg (fun r : ℝ => (r : EReal)) ?_
  exact pad_in g.val j.val hg (fun g => ∑ n : Fin 66, D.gbi n.val g (D.dS g (65 - n.val)) j.val) (fun h => Finset.sum_eq_zero fun n _ => gbi_out D _ _ _ _ h)

theorem r_v142 : val_main_v142 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T2 (fun g r => ∑ t : Fin 4224, ∑ p : Fin 64, D.gy0 (t.val / 64) g (t.val % 64) (64 * r + p.val) * D.X (t.val / 64) g (t.val % 64) (64 * r + p.val)) : FVec Ideal S4x8 .f32) := by
  unfold val_main_v142
  rw [r_v141 D]
  exact red4_03 _ _ _ _ ofBits_zero

theorem r_v143 : val_main_v143 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T4 (fun _ g r _ => ∑ t : Fin 4224, ∑ p : Fin 64, D.gy0 (t.val / 64) g (t.val % 64) (64 * r + p.val) * D.X (t.val / 64) g (t.val % 64) (64 * r + p.val)) : FVec Ideal S1x4x8x1 .f32) := by
  simp only [val_main_v143, r_v142 D]
  refine eqT4 fun w0 g r w3 => ?_
  have hw0 := w0.isLt
  have hg := g.isLt
  have hr := r.isLt
  have hw3 := w3.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]

theorem r_v144 : val_main_v144 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T2 (fun g r => ∑ _a : Fin 1, ∑ _b : Fin 1, ∑ t : Fin 4224, ∑ p : Fin 64, D.gy0 (t.val / 64) g (t.val % 64) (64 * r + p.val) * D.X (t.val / 64) g (t.val % 64) (64 * r + p.val)) : FVec Ideal S4x8 .f32) := by
  unfold val_main_v144
  rw [r_v143 D]
  exact red4_03 _ _ _ _ ofBits_zero

theorem r_v148 : val_main_v148 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) = (T3 (fun r _ _ => ∑ n : Fin 66, D.gD n.val (r / 8) (r % 8)) : FVec Ideal S32x1x1 .f32) := by
  simp only [val_main_v148, val_main_v147, val_main_cst_18, val_main_v145, r_v144 D]
  refine eqT3 fun r w1 w2 => ?_
  have hr := r.isLt
  have hw1 := w1.isLt
  have hw2 := w2.isLt
  pointwise [T1_ix, T2_ix, T3_ix, T4_ix, T5_ix, B2_ix, B3_ix]
  try simp only [id_const, const_ix, ofBits_zero, ofBits_one, ofBits_512, ofBits_nhalf, ofBits_eps, ofBits_bot, mc64, mc512, mc128, mc8, Nat.add_assoc, cdm, cdm', cd8, cdm512, tdm, kdm]
  try simp only [c_one, c_zero, c_add, c_mul, c_sub, c_neg, c_max, c_sum, c_exp, c_exp_bot, Finset.univ_unique, Finset.sum_singleton]
  refine congrArg (fun r : ℝ => (r : EReal)) ?_
  refine (sum_rows' (fun n l => ∑ p : Fin 64, D.gy0 n (r.val / 8) l (64 * (r.val % 8) + p.val) * D.X n (r.val / 8) l (64 * (r.val % 8) + p.val))).trans ?_
  unfold In.gD
  exact Finset.sum_congr rfl fun _ _ => Finset.sum_congr rfl fun _ _ => Finset.sum_congr rfl fun _ _ => mul_comm _ _

open Classical in
/-- The projection's gradient: the gate's columns are replaced, the others are the argument's. -/
theorem r_v283 (q : FVec Ideal S4224x13440 .bf16) : val_main_v283 (F := Ideal) (T2 D.xa : FVec Ideal S4224x3072 .f32) (T2 D.pj : FVec Ideal S4224x13440 .f32) (T2 (fun _ j => D.al j) : FVec Ideal S1x128 .f32) (T2 (fun _ j => D.db j) : FVec Ideal S1x128 .f32) (T3 (fun r _ _ => D.dk r) : FVec Ideal S32x1x1 .f32) (T2 (fun _ c => D.nw c) : FVec Ideal S1x2048 .f32) (T4 D.sa : FVec Ideal S66x32x64x128 .f32) (T2 D.dm : FVec Ideal S4224x4096 .f32) q = fun i : S4224x13440.Idx =>
    if 8192 ≤ (i 1).val ∧ (i 1).val < 10240 then
      ((D.gz ((i 0).val / 64) (((i 1).val - 8192) / 512) ((i 0).val % 64) (((i 1).val - 8192) % 512) : ℝ) : EReal)
    else q i := by
  simp only [val_main_v283, val_main_v280, val_main_v281, val_main_v282, r_v137 D]
  funext i
  obtain ⟨t, k, rfl⟩ : ∃ (t : Fin 4224) (k : Fin 13440), i = ix2 t k := ⟨i 0, i 1, eq_ix2 i⟩
  pointwise [T2_ix]
  by_cases h1 : k.val < 8192
  · have h3 : ¬(8192 ≤ k.val ∧ k.val < 10240) := by omega
    rw [dif_pos h1, if_neg h3]
  · rw [dif_neg h1]
    by_cases h2 : k.val - 8192 < 2048
    · have h3 : 8192 ≤ k.val ∧ k.val < 10240 := by omega
      rw [dif_pos h2, if_pos h3, r_v137 D]
      rfl
    · have h3 : ¬(8192 ≤ k.val ∧ k.val < 10240) := by omega
      have h4 : 10240 + (k.val - 8192 - 2048) = k.val := by omega
      rw [dif_neg h2, if_neg h3]
      exact congrArg (fun k => q (ix2 t k)) (Fin.ext h4)

end Cert.Ssd.Ref
-- ==== Proof.Pre.lean ====
/-
  THE PRECONDITION READ: every real argument is an array of real numbers, and no step size of a real row sits on the kink.
-/
module

public import proofs.«01_k».proof.Defs
public import proofs.«01_k».proof.Proof.Outs
public import proofs.«01_k».proof.Proof.RefBase

@[expose] public section

set_option maxRecDepth 16384

noncomputable section

namespace Cert.Pre_finite_and_off_kink

open Idealize.ShloMosaic

instance held : Facts where
  bcast_S_S4224x3072 := by decide
  bcast_S_S4224x13440 := by decide
  bcast_S_S1x128 := by decide
  bcast_S_S32x1x1 := by decide
  bcast_S_S1x2048 := by decide
  bcast_S_S66x32x64x128 := by decide
  bcast_S_S4224x4096 := by decide
  slices_S4224x13440_S4112x32_112_13344 := by decide
  slices_S1x128_S1x32_0_32 := by decide
  bcast_S1x32_S4112x32_0_1 := by decide
  bcast_S_S4112x32 := by decide

end Cert.Pre_finite_and_off_kink

namespace Cert.Ssd

open Idealize.ShloMosaic Cert.Pre_finite_and_off_kink

/-- An extended real whose absolute value is below the largest one is a real number. -/
theorem real_of_lt {x : EReal} (h : max x (-x) < ⊤) : x = ((x.toReal : ℝ) : EReal) := by
  refine (EReal.coe_toReal ?_ ?_).symm
  · rintro rfl
    simp at h
  · rintro rfl
    simp at h

theorem real_of_bit {s : Shape} (b : S_.BroadcastsInDim s (![] : Fin 0 → Fin s.rank)) {x : FVec Ideal s .f32}
    (h : cmpf .olt (Host.absf x) (broadcastInDim s ![] b (constant S_ .f32 0x7F800000#32)) = fun _ => 1#1) (i : s.Idx) :
    x i = (((x i).toReal : ℝ) : EReal) := by
  have h1 : BitVec.ofBool (decide (max (x i) (-(x i)) < Ideal.ofBits .f32 2139095040#32)) = 1#1 := congrFun h i
  rw [Ref.ofBits_inf] at h1
  refine real_of_lt ?_
  by_contra h2
  rw [decide_eq_false h2] at h1
  exact absurd h1 (by decide)

/-- The arrays read as real functions; past the projection's end the step size is put at 1. -/
def ofArgs (x0 : FVec Ideal S4224x3072 .f32) (x1 : FVec Ideal S4224x13440 .f32) (x2 x3 : FVec Ideal S1x128 .f32)
    (x4 : FVec Ideal S32x1x1 .f32) (x5 : FVec Ideal S1x2048 .f32) (x6 : FVec Ideal S66x32x64x128 .f32)
    (x7 : FVec Ideal S4224x4096 .f32) : In where
  xa i j := if h : i < 4224 ∧ j < 3072 then (x0 (ix2 ⟨i, h.1⟩ ⟨j, h.2⟩)).toReal else 0
  pj i j := if h : i < 4224 ∧ j < 13440 then (x1 (ix2 ⟨i, h.1⟩ ⟨j, h.2⟩)).toReal
    else 1 - (if h : j - 13312 < 128 then (x3 (ix2 0 ⟨j - 13312, h⟩)).toReal else 0)
  al j := if h : j < 128 then (x2 (ix2 0 ⟨j, h⟩)).toReal else 0
  db j := if h : j < 128 then (x3 (ix2 0 ⟨j, h⟩)).toReal else 0
  dk r := if h : r < 32 then (x4 (ix3 ⟨r, h⟩ 0 0)).toReal else 0
  nw j := if h : j < 2048 then (x5 (ix2 0 ⟨j, h⟩)).toReal else 0
  sa n r p k := if h : n < 66 ∧ r < 32 ∧ p < 64 ∧ k < 128 then (x6 (ix4 ⟨n, h.1⟩ ⟨r, h.2.1⟩ ⟨p, h.2.2.1⟩ ⟨k, h.2.2.2⟩)).toReal else 0
  dm i j := if h : i < 4224 ∧ j < 4096 then (x7 (ix2 ⟨i, h.1⟩ ⟨j, h.2⟩)).toReal else 0

variable {x0 : FVec Ideal S4224x3072 .f32} {x1 : FVec Ideal S4224x13440 .f32} {x2 x3 : FVec Ideal S1x128 .f32}
    {x4 : FVec Ideal S32x1x1 .f32} {x5 : FVec Ideal S1x2048 .f32} {x6 : FVec Ideal S66x32x64x128 .f32}
    {x7 : FVec Ideal S4224x4096 .f32}

theorem fin0 (h : ∀ i, x0 i = (((x0 i).toReal : ℝ) : EReal)) : x0 = T2 (ofArgs x0 x1 x2 x3 x4 x5 x6 x7).xa :=
  eqT2 fun i j => (h _).trans (congrArg (fun r : ℝ => (r : EReal)) (by simp only [ofArgs]; rw [dif_pos (show i.val < 4224 ∧ j.val < 3072 from ⟨i.isLt, j.isLt⟩)]))
theorem fin1 (h : ∀ i, x1 i = (((x1 i).toReal : ℝ) : EReal)) : x1 = T2 (ofArgs x0 x1 x2 x3 x4 x5 x6 x7).pj :=
  eqT2 fun i j => (h _).trans (congrArg (fun r : ℝ => (r : EReal)) (by simp only [ofArgs]; rw [dif_pos (show i.val < 4224 ∧ j.val < 13440 from ⟨i.isLt, j.isLt⟩)]))
theorem fin2 (h : ∀ i, x2 i = (((x2 i).toReal : ℝ) : EReal)) : x2 = T2 fun _ j => (ofArgs x0 x1 x2 x3 x4 x5 x6 x7).al j :=
  eqT2 fun i j => by
    obtain rfl : i = 0 := Subsingleton.elim _ _
    exact (h _).trans (congrArg (fun r : ℝ => (r : EReal)) (by simp only [ofArgs]; rw [dif_pos j.isLt]))
theorem fin3 (h : ∀ i, x3 i = (((x3 i).toReal : ℝ) : EReal)) : x3 = T2 fun _ j => (ofArgs x0 x1 x2 x3 x4 x5 x6 x7).db j :=
  eqT2 fun i j => by
    obtain rfl : i = 0 := Subsingleton.elim _ _
    exact (h _).trans (congrArg (fun r : ℝ => (r : EReal)) (by simp only [ofArgs]; rw [dif_pos j.isLt]))
theorem fin4 (h : ∀ i, x4 i = (((x4 i).toReal : ℝ) : EReal)) : x4 = T3 fun r _ _ => (ofArgs x0 x1 x2 x3 x4 x5 x6 x7).dk r :=
  eqT3 fun i j k => by
    obtain rfl : j = 0 := Subsingleton.elim _ _
    obtain rfl : k = 0 := Subsingleton.elim _ _
    exact (h _).trans (congrArg (fun r : ℝ => (r : EReal)) (by simp only [ofArgs]; rw [dif_pos i.isLt]))
theorem fin5 (h : ∀ i, x5 i = (((x5 i).toReal : ℝ) : EReal)) : x5 = T2 fun _ j => (ofArgs x0 x1 x2 x3 x4 x5 x6 x7).nw j :=
  eqT2 fun i j => by
    obtain rfl : i = 0 := Subsingleton.elim _ _
    exact (h _).trans (congrArg (fun r : ℝ => (r : EReal)) (by simp only [ofArgs]; rw [dif_pos j.isLt]))
theorem fin6 (h : ∀ i, x6 i = (((x6 i).toReal : ℝ) : EReal)) : x6 = T4 (ofArgs x0 x1 x2 x3 x4 x5 x6 x7).sa :=
  eqT4 fun n r p k => (h _).trans (congrArg (fun r : ℝ => (r : EReal)) (by simp only [ofArgs]; rw [dif_pos (show n.val < 66 ∧ r.val < 32 ∧ p.val < 64 ∧ k.val < 128 from ⟨n.isLt, r.isLt, p.isLt, k.isLt⟩)]))
theorem fin7 (h : ∀ i, x7 i = (((x7 i).toReal : ℝ) : EReal)) : x7 = T2 (ofArgs x0 x1 x2 x3 x4 x5 x6 x7).dm :=
  eqT2 fun i j => (h _).trans (congrArg (fun r : ℝ => (r : EReal)) (by simp only [ofArgs]; rw [dif_pos (show i.val < 4224 ∧ j.val < 4096 from ⟨i.isLt, j.isLt⟩)]))

theorem off_kink' {D : In} (e1 : x1 = T2 D.pj) (e3 : x3 = T2 fun _ j => D.db j)
    (h : cmpf .une (addf (extractStridedSlice S4112x32 ![112, 13344] x1 Facts.slices_S4224x13440_S4112x32_112_13344)
      (broadcastInDim S4112x32 ![0, 1] Facts.bcast_S1x32_S4112x32_0_1 (extractStridedSlice S1x32 ![0, 32] x3 Facts.slices_S1x128_S1x32_0_32)))
      (broadcastInDim S4112x32 ![] Facts.bcast_S_S4112x32 (constant S_ .f32 0x00000000#32)) = fun _ => 1#1)
    (t j : ℕ) (ht : 112 ≤ t) (ht' : t < 4224) (hj : 32 ≤ j) (hj' : j < 64) : D.pj t (13312 + j) + D.db j ≠ 0 := by
  subst e1 e3
  have hb := congrFun h (ix2 (⟨t - 112, by omega⟩ : Fin 4112) (⟨j - 32, by omega⟩ : Fin 32))
  pointwise [T2_ix] at hb
  rw [show 112 + (t - 112) = t by omega, show 13344 + (j - 32) = 13312 + j by omega, show 32 + (j - 32) = j by omega] at hb
  intro h0
  rw [c_add, h0, EReal.coe_zero, decide_eq_false (by simp)] at hb
  exact absurd hb (by decide)

/-- No step size of a real row lies on the kink. -/
theorem off_kink (h1 : ∀ i, x1 i = (((x1 i).toReal : ℝ) : EReal)) (h3 : ∀ i, x3 i = (((x3 i).toReal : ℝ) : EReal))
    (h : cmpf .une (addf (extractStridedSlice S4112x32 ![112, 13344] x1 Facts.slices_S4224x13440_S4112x32_112_13344)
      (broadcastInDim S4112x32 ![0, 1] Facts.bcast_S1x32_S4112x32_0_1 (extractStridedSlice S1x32 ![0, 32] x3 Facts.slices_S1x128_S1x32_0_32)))
      (broadcastInDim S4112x32 ![] Facts.bcast_S_S4112x32 (constant S_ .f32 0x00000000#32)) = fun _ => 1#1)
    (n l j : ℕ) (hv : In.vm n l ≠ 0) (hj : 32 ≤ j) (hj' : j < 64) : (ofArgs x0 x1 x2 x3 x4 x5 x6 x7).pre n l j ≠ 0 := by
  have hv : 112 ≤ 64 * n + l := by
    by_contra h
    exact hv (if_neg h)
  show (ofArgs x0 x1 x2 x3 x4 x5 x6 x7).pj (64 * n + l) (13312 + j) + (ofArgs x0 x1 x2 x3 x4 x5 x6 x7).db j ≠ 0
  by_cases ht : 64 * n + l < 4224
  · exact off_kink' (fin1 h1) (fin3 h3) h _ _ hv ht hj hj'
  · have h4 : ¬(64 * n + l < 4224 ∧ 13312 + j < 13440) := fun h => ht h.1
    have h5 : 13312 + j - 13312 = j := by omega
    simp only [ofArgs, dif_neg h4, h5]
    norm_num

end Cert.Ssd

end
-- ==== Proof.Join.lean ====
/-
  KERNEL AND REFERENCE MEET. Both sides are one formula in the same real numbers, so every result array of the kernel's run
  is the reference's result of the same arguments. The kernel adds the chunks' contributions from the last chunk to the
  first, the reference from the first to the last.
-/
module

public import proofs.«01_k».proof.Proof.Arr
public import proofs.«01_k».proof.Proof.RefC
public import proofs.«01_k».proof.Proof.Pre

@[expose] public section

set_option maxRecDepth 16384

noncomputable section

namespace Cert.Ssd

open Idealize.ShloMosaic Idealize.ShloMosaic.TcCoe Idealize.SL.Sem Cert.KernelIdeal Cert.KernelIdeal.Gen Cert.KernelIdeal.Value
open Idealize.ShloMosaic.Pipeline

/-- Adding from the last chunk to the first is adding from the first to the last. -/
theorem acc_rev (f : ℕ → ℕ → ℝ) : acc (fun k => f (65 - k) k) 66 = ∑ n : Fin 66, f n.val (65 - n.val) := by
  rw [acc_eq, ← Finset.sum_range_reflect, ← Fin.sum_univ_eq_sum_range (fun j => f (65 - (66 - 1 - j)) (66 - 1 - j)) 66]
  refine Finset.sum_congr rfl fun n _ => ?_
  have hn := n.isLt
  rw [show 65 - (66 - 1 - n.val) = n.val by omega, show 66 - 1 - n.val = 65 - n.val by omega]

variable {m : (ℓ : Loc nD τ sig) → Buf (Elt Ideal) ℓ} {c : Dev nD}

section
variable {D : In} (H : Args m c D) (HP : ∀ n l j, In.vm n l ≠ 0 → 32 ≤ j → j < 64 → D.pre n l j ≠ 0)
include H HP

theorem meet11 : Cert.ReferenceIdeal.Read.val_main_v279 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 11 cfg0.N := by
  rw [H.a0, H.a1, H.a2, H.a3, H.a4, H.a5, H.a6, H.a7]
  exact (Ref.r_v279 D).trans (arr11 H HP).symm

theorem meet12 : Cert.ReferenceIdeal.Read.val_main_v277 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 12 cfg0.N := by
  rw [H.a0, H.a1, H.a2, H.a3, H.a4, H.a5, H.a6, H.a7]
  exact (Ref.r_v277 D).trans (arr12 H HP).symm

theorem meet13 : Cert.ReferenceIdeal.Read.val_main_v275 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 13 cfg0.N := by
  rw [H.a0, H.a1, H.a2, H.a3, H.a4, H.a5, H.a6, H.a7]
  exact (Ref.r_v275 D).trans (arr13 H HP).symm

theorem meet14 : Cert.ReferenceIdeal.Read.val_main_v283 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = (dats m 0 c).arrAt 14 cfg0.N := by
  refine Eq.trans ?_ (arr14 H HP).symm
  refine Eq.trans ?_ (Ref.r_v283 D _)
  rw [H.a0, H.a1, H.a2, H.a3, H.a4, H.a5, H.a6, H.a7]

theorem meet15 : Cert.ReferenceIdeal.Read.val_main_v302 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 15 cfg0.N := by
  rw [H.a0, H.a1, H.a2, H.a3, H.a4, H.a5, H.a6, H.a7]
  exact (Ref.r_v302 D).trans (arr15 H HP).symm

theorem meet16 : Cert.ReferenceIdeal.Read.val_main_v306 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 16 cfg0.N := by
  rw [H.a0, H.a1, H.a2, H.a3, H.a4, H.a5, H.a6, H.a7]
  exact (Ref.r_v306 D).trans ((T3_congr fun g _ j _ _ _ => (acc_rev fun n s => D.gal n g (D.dS g s) j).symm).trans (arr16 H HP).symm)

theorem meet17 : Cert.ReferenceIdeal.Read.val_main_v310 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 17 cfg0.N := by
  rw [H.a0, H.a1, H.a2, H.a3, H.a4, H.a5, H.a6, H.a7]
  exact (Ref.r_v310 D).trans ((T3_congr fun g _ j _ _ _ => (acc_rev fun n s => D.gbi n g (D.dS g s) j).symm).trans (arr17 H HP).symm)

theorem meet18 : Cert.ReferenceIdeal.Read.val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 18 cfg0.N := by
  rw [H.a0, H.a1, H.a2, H.a3, H.a4, H.a5, H.a6, H.a7]
  exact (Ref.r_v148 D).trans ((T3_congr fun r _ _ _ _ _ => (acc_rev fun n _ => D.gD n (r / 8) (r % 8)).symm).trans (arr18 H HP).symm)

theorem meet19 : Cert.ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) = (dats m 0 c).arrAt 19 cfg0.N := by
  rw [H.a0, H.a1, H.a2, H.a3, H.a4, H.a6, H.a7]
  exact (Ref.r_v116 D).trans ((T2_congr fun _ k _ _ => (acc_rev fun n _ => D.dnw n (k / 512) (k % 512)).symm).trans (arr19 H HP).symm)

end

/-- The precondition gives the arguments as real arrays with no step size of a real row on the kink. -/
theorem args_of_pre (h : Pre_KernelIdeal_finite_and_off_kink m) (c : Dev nD) :
    ∃ D : In, Args m c D ∧ ∀ n l j, In.vm n l ≠ 0 → 32 ≤ j → j < 64 → D.pre n l j ≠ 0 := by
  obtain ⟨h0, h1, h2, h3, h4, h5, h6, h7, h8⟩ := h c
  exact ⟨ofArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)),
    ⟨fin0 (real_of_bit _ h0), fin1 (real_of_bit _ h1), fin2 (real_of_bit _ h2), fin3 (real_of_bit _ h3), fin4 (real_of_bit _ h4),
      fin5 (real_of_bit _ h5), fin6 (real_of_bit _ h6), fin7 (real_of_bit _ h7)⟩,
    off_kink (real_of_bit _ h1) (real_of_bit _ h3) h8⟩

end Cert.Ssd

end
-- ==== Proof.Mm.lean ====
/-
  MATRIX PRODUCTS, BLOCK BY BLOCK. Shared by the proofs of the step's matrix products: an array read at natural-number
  coordinates, so that a block's element and the whole array's are named alike, and a sum over a contracted axis cut
  into equal blocks. All sums are of extended reals, where addition is associative and commutative without exception.
-/
module

public import Idealize.ShloMosaic.Lib.Pointwise

@[expose] public section

noncomputable section

namespace Cert.Mm

open Idealize.ShloMosaic

/-- A matrix's element at natural-number coordinates. -/
def E2 {M N : ℕ} (x : (⟨2, ![M, N]⟩ : Shape).Idx → EReal) (r k : ℕ) : EReal :=
  if h : r < M ∧ k < N then x (ix2 ⟨r, h.1⟩ ⟨k, h.2⟩) else 0

/-- An array of matrices' element at natural-number coordinates. -/
def E3 {L M N : ℕ} (x : (⟨3, ![L, M, N]⟩ : Shape).Idx → EReal) (s r k : ℕ) : EReal :=
  if h : s < L ∧ r < M ∧ k < N then x (ix3 ⟨s, h.1⟩ ⟨r, h.2.1⟩ ⟨k, h.2.2⟩) else 0

theorem E2_at {M N : ℕ} (x : (⟨2, ![M, N]⟩ : Shape).Idx → EReal) (i : (⟨2, ![M, N]⟩ : Shape).Idx) {r k : ℕ}
    (hr : (i 0).val = r) (hk : (i 1).val = k) : x i = E2 x r k := by
  subst hr hk
  unfold E2
  rw [dif_pos (⟨(i 0).isLt, (i 1).isLt⟩ : (i 0).val < M ∧ (i 1).val < N)]
  exact congrArg x (eq_ix2 i)

theorem E3_at {L M N : ℕ} (x : (⟨3, ![L, M, N]⟩ : Shape).Idx → EReal) (i : (⟨3, ![L, M, N]⟩ : Shape).Idx) {s r k : ℕ}
    (hs : (i 0).val = s) (hr : (i 1).val = r) (hk : (i 2).val = k) : x i = E3 x s r k := by
  subst hs hr hk
  unfold E3
  rw [dif_pos (⟨(i 0).isLt, (i 1).isLt, (i 2).isLt⟩ : (i 0).val < L ∧ (i 1).val < M ∧ (i 2).val < N)]
  exact congrArg x (eq_ix3 i)

/-- A sum over two equal blocks. -/
theorem sum_two {n : ℕ} (f : ℕ → EReal) : ∑ k : Fin n, f k.val + ∑ k : Fin n, f (n + k.val) = ∑ k : Fin (n + n), f k.val := by
  simp only [Fin.sum_univ_add, Fin.val_castAdd, Fin.val_natAdd]

/-- A sum over three equal blocks. -/
theorem sum_three {n : ℕ} (f : ℕ → EReal) :
    ∑ k : Fin n, f k.val + ∑ k : Fin n, f (n + k.val) + ∑ k : Fin n, f (n + n + k.val) = ∑ k : Fin (n + n + n), f k.val := by
  simp only [Fin.sum_univ_add, Fin.val_castAdd, Fin.val_natAdd]

theorem z2 : (![0, 0] : Fin 2 → ℕ) = fun _ => 0 := by decide
theorem z3 : (![0, 0, 0] : Fin 3 → ℕ) = fun _ => 0 := by decide

end Cert.Mm

end
-- ==== Proof.Tn2.lean ====
/-
  THE GRADIENT OF THE MIXER'S INPUT WEIGHTS: THE RUN. The first point of a row of blocks transposes its block of
  activations into the scratch; every point multiplies what the scratch holds by its block of cotangents. The block of
  activations does not change along a row, so after every point the scratch holds that point's block transposed.
-/
module

public import proofs.«01_k».proof.Defs
public import proofs.«01_k».proof.Proof.Mm
public import proofs.«01_k».proof.Proof.Gen.Kernel2Ideal.Skeleton
public import proofs.«01_k».proof.Proof.Gen.Kernel2Ideal.Frame
public import Idealize.ShloMosaic.Lib.Claim

@[expose] public section

set_option maxRecDepth 16384

noncomputable section

namespace Cert.Tn2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen Cert.Mm

variable {F : FTy → Type} [FloatOps F]

abbrev MM (F : FTy → Type) := MT nD τ sig Unit (Elt F) ℕ (UR sig nD τ) ℕ

theorem off1 (i : grid0.Coords) : k0_off1 i = ![0, 0, 0] := by
  have h : (i 2).val = 0 := by have h : (i 2).val < 1 := (i 2).isLt; omega
  unfold k0_off1; rw [h]; rfl
theorem off2 (i : grid0.Coords) : k0_off2 i = ![0, 0, 0] := by
  have h : (i 2).val = 0 := by have h : (i 2).val < 1 := (i 2).isLt; omega
  unfold k0_off2; rw [h]; rfl

theorem offz (i : grid0.Coords) : ![BitVec.toNat (Scalar.indexCast (BitVec.ofNat 32 (i 2).val)), 0, 0] = (fun _ => 0 : Fin 3 → ℕ) := by
  have h : k0_off1 i = ![0, 0, 0] := off1 i
  exact h.trans z3

/-! ## One point -/

set_option maxHeartbeats 1000000 in
/-- A point that fills the scratch. -/
theorem runA (c : Dev nD) (i : grid0.Coords) (arg3 : Memref sig .tc .vmem S4224x512 .bf16) (harg3 : arg3.IsWhole) (arg4 : Memref sig .tc .vmem S4224x896 .bf16) (harg4 : arg4.IsWhole) (arg5 : Memref sig .tc .vmem S512x896 .f32) (harg5 : arg5.IsWhole) (arg6 : Memref sig .tc .vmem S1x512x4224 .bf16) (harg6 : arg6.IsWhole) (hc : k0_cond1 i = 1#1)
    (x : Vec F S4224x512 .bf16) (w : Vec F S4224x896 .bf16) (E : Set ℕ) (K : PUnit → sProp (MM F)) :
    iprop(owns (c : Thread nD τ) arg3 fullShare x ∗ owns (c : Thread nD τ) arg4 fullShare w ∗ (∃ d, owns (c : Thread nD τ) arg5 fullShare d) ∗ (∃ d, owns (c : Thread nD τ) arg6 fullShare d)
        ∗ (iprop(owns (c : Thread nD τ) arg3 fullShare x ∗ owns (c : Thread nD τ) arg4 fullShare w ∗ owns (c : Thread nD τ) arg5 fullShare (k0_pay2 (k0_pay1 x) w) ∗ owns (c : Thread nD τ) arg6 fullShare (k0_pay1 x)) -∗ K ⟨⟩))
      ⊢ wp frame (wpE (defs₀ (F := F)) Variants.none c none) E (cc0_dw_in i arg3 harg3 arg4 harg4 arg5 harg5 arg6 harg6) K := by
  simp only [cc0_dw_in_eq_skeleton]; unfold cc0_dw_in_skel
  simp only [off1, off2]
  unfold owns
  iintro ⟨⟨%f0, %hf0, H0⟩, ⟨%f1, %hf1, H1⟩, ⟨%d2, %f2, -, H2⟩, ⟨%ds0, %fs0, -, HS0⟩, Hk⟩
  obtain rfl := harg3.eq_unread hf0; obtain rfl := harg4.eq_unread hf1
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (View.cover_of_tiledL _ S512x896.size (by sl_kernel_rfl))]
    sl_unfold_words
    refine (View.canon_unit_zero (S := S512x896) z2 _ _).trans ?_
    simp only [View.readAt_eq_ld, harg3.read_unread, harg4.read_unread, View.ld_unit_zero (S := S4224x512) z2, View.ld_unit_zero (S := S4224x896) z2]
    exact congrArg (fun s => k0_pay2 s w) (View.readCov_unit_zero (S := S1x512x4224) _ (offz i) _ _)
  iexists _; isplitr
  swap; · iexact HS0
  ipureintro
  sl_unfold_words
  refine (View.read_writes_eq_canon _ _ _ (fun y => ⟨_, List.mem_singleton_self _, View.mem_set_unit_zero (S := S1x512x4224) (offz i) (fun a => by rw [offz i]; exact (Nat.zero_add _).le) y⟩)).trans ?_
  refine (View.canon_unit_zero (S := S1x512x4224) (offz i) _ _).trans ?_
  simp only [View.readAt_eq_ld, harg3.read_unread, View.ld_unit_zero (S := S4224x512) z2]

set_option maxHeartbeats 1000000 in
/-- A point that finds the scratch filled. -/
theorem runB (c : Dev nD) (i : grid0.Coords) (arg3 : Memref sig .tc .vmem S4224x512 .bf16) (harg3 : arg3.IsWhole) (arg4 : Memref sig .tc .vmem S4224x896 .bf16) (harg4 : arg4.IsWhole) (arg5 : Memref sig .tc .vmem S512x896 .f32) (harg5 : arg5.IsWhole) (arg6 : Memref sig .tc .vmem S1x512x4224 .bf16) (harg6 : arg6.IsWhole) (hc : ¬k0_cond1 i = 1#1)
    (x : Vec F S4224x512 .bf16) (w : Vec F S4224x896 .bf16) (s : Vec F S1x512x4224 .bf16) (E : Set ℕ) (K : PUnit → sProp (MM F)) :
    iprop(owns (c : Thread nD τ) arg3 fullShare x ∗ owns (c : Thread nD τ) arg4 fullShare w ∗ (∃ d, owns (c : Thread nD τ) arg5 fullShare d) ∗ owns (c : Thread nD τ) arg6 fullShare s
        ∗ (iprop(owns (c : Thread nD τ) arg3 fullShare x ∗ owns (c : Thread nD τ) arg4 fullShare w ∗ owns (c : Thread nD τ) arg5 fullShare (k0_pay2 s w) ∗ owns (c : Thread nD τ) arg6 fullShare s) -∗ K ⟨⟩))
      ⊢ wp frame (wpE (defs₀ (F := F)) Variants.none c none) E (cc0_dw_in i arg3 harg3 arg4 harg4 arg5 harg5 arg6 harg6) K := by
  simp only [cc0_dw_in_eq_skeleton]; unfold cc0_dw_in_skel
  simp only [off1, off2]
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (View.cover_of_tiledL _ S512x896.size (by sl_kernel_rfl))]
    sl_unfold_words
    refine (View.canon_unit_zero (S := S512x896) z2 _ _).trans ?_
    simp only [View.readAt_eq_ld, harg4.read_unread, harg6.read_unread, View.ld_unit_zero (S := S4224x896) z2]
    exact congrArg (fun s => k0_pay2 s w) (View.ld_unit_zero (S := S1x512x4224) (offz i) _ _)
  iexists _; isplitr; · ipureintro; exact harg6.read_unread _
  iexact HS0

/-! ## The points in order -/

theorem hcond : ∀ t : Fin cfg0.N, k0_cond1 (grid0.coords t) = 1#1 ↔ t.val % 15 = 0 := (by decide +kernel : ∀ t : Fin grid0.N, _)
theorem row0 : ∀ t : Fin cfg0.N, win0_0.index t 0 = 0 ∧ win0_0.index t 1 = t.val / 15 := (by decide +kernel : ∀ t : Fin grid0.N, _)
theorem liveAt (w : Fin cfg0.W) : ∀ t : Fin cfg0.N, cfg0.idle w (grid0.coords t) = false := by revert w; decide +kernel

abbrev scM : Memref sig .tc .vmem S1x512x4224 .bf16 := Memref.whole cc0_scratch0

theorem PhiA_eq (c : Dev nD) : (Pipeline.ΦA spec0 c : sProp (MM F))
    = iprop(iprop((∃ d, owns (c : Thread nD τ) scM fullShare d)) ∗ (∃ r, prngReg c r)) := by
  unfold Pipeline.ΦA; rw [scopedRest0_eq]; simp only [scM, owns_whole]; try rfl

variable (m : (ℓ : Loc nD τ sig) → Buf (Elt F) ℓ) (ρ : Dev nD → PrngReg)

/-- What the scratch holds after a point. -/
def scr (c : Dev nD) (t : Fin cfg0.N) : Vec F S1x512x4224 .bf16 := k0_pay1 (iblk m c 0 t)

/-- Along a row of blocks the block of activations stays. -/
theorem scr_eq (c : Dev nD) (t t' : Fin cfg0.N) (h : t.val / 15 = t'.val / 15) : scr m c t = scr m c t' := by
  obtain ⟨a0, a1⟩ := row0 t
  obtain ⟨b0, b1⟩ := row0 t'
  refine congrArg (k0_pay1 (F := F)) (funext fun (y : S4224x512.Idx) => ?_)
  show V m c main_arg0 (((cfg0.win 0).blk t).view.emb y) = V m c main_arg0 (((cfg0.win 0).blk t').view.emb y)
  refine congrArg _ (funext fun a => Fin.ext ?_)
  match a with
  | ⟨0, _⟩ =>
    show win0_0.index t 0 * 4224 + 1 * (y 0).val = win0_0.index t' 0 * 4224 + 1 * (y 0).val
    rw [a0, b0]
  | ⟨1, _⟩ =>
    show win0_0.index t 1 * 512 + 1 * (y 1).val = win0_0.index t' 1 * 512 + 1 * (y 1).val
    rw [a1, b1, h]

/-- What holds between the points: the scratch at what the point before left in it. -/
def PhiS (c : Dev nD) : (n : ℕ) → n ≤ cfg0.N → sProp (MM F)
  | 0, _ => Pipeline.ΦA spec0 c
  | n + 1, hn => iprop(owns (c : Thread nD τ) scM fullShare (scr m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM fullShare (scr m c ⟨n, hn⟩) ∗ (∃ r, prngReg c r)) := rfl

theorem PhiS_pos (c : Dev nD) (n : ℕ) (h : n ≤ cfg0.N) (hz : n ≠ 0) :
    PhiS m c n h = iprop(owns (c : Thread nD τ) scM fullShare (scr m c ⟨n - 1, by omega⟩) ∗ (∃ r, prngReg c r)) := by
  cases n with
  | zero => exact absurd rfl hz
  | succ n => rfl

/-- The pipeline's proof data: every point leaves its output block at the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (scr m c t) (iblk m c 1 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay2 (scr m c t) (iblk m c 1 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

abbrev ms0 (t : Fin cfg0.N) : Memref sig .tc .vmem S4224x512 .bf16 := win0_0.stage (cfg0.slots t 0)
abbrev ms1 (t : Fin cfg0.N) : Memref sig .tc .vmem S4224x896 .bf16 := win0_1.stage (cfg0.slots t 1)
abbrev ms2 (t : Fin cfg0.N) : Memref sig .tc .vmem S512x896 .f32 := win0_2.stage (cfg0.slots t 2)

def bodyPre (c : Dev nD) (t : Fin cfg0.N) : sProp (MM F) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp (MM F) :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt 0 t], after0]
  rw [show (dats m 0 c).leavesExact 1 t = owns (c : Thread nD τ) (ms1 t) fullShare ((dats m 0 c).after 1 t) from by
    unfold Dat.leavesExact; rw [liveAt 1 t], after1]
  rw [show (dats m 0 c).leavesExact 2 t = owns (c : Thread nD τ) (ms2 t) fullShare ((dats m 0 c).after 2 t) from by
    unfold Dat.leavesExact; rw [liveAt 2 t], after2]
  rw [show (⟨t.val, t.isLt⟩ : Fin cfg0.N) = t from rfl, PhiS_castSucc m c t]
  by_cases h0 : t.val % 15 = 0
  · by_cases hz : t.val = 0
    · rw [PhiS_zero m c _ _ hz, PhiA_eq]
      iintro ⟨⟨HS0, Hg⟩, Ho, ⟨%d0, H0⟩, ⟨%d1, H1⟩, ⟨%d2, H2⟩⟩
      iapply (runA c (grid0.coords t) _ _ _ _ _ _ _ _ ((hcond t).mpr h0) (iblk m c 0 t) (iblk m c 1 t) Set.univ _)
      isplitl [H0]; · iexact H0
      isplitl [H1]; · iexact H1
      isplitl [H2]; · iexists _; iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
    · rw [PhiS_pos m c _ _ hz]
      iintro ⟨⟨HS0, Hg⟩, Ho, ⟨%d0, H0⟩, ⟨%d1, H1⟩, ⟨%d2, H2⟩⟩
      iapply (runA c (grid0.coords t) _ _ _ _ _ _ _ _ ((hcond t).mpr h0) (iblk m c 0 t) (iblk m c 1 t) Set.univ _)
      isplitl [H0]; · iexact H0
      isplitl [H1]; · iexact H1
      isplitl [H2]; · iexists _; iexact H2
      isplitl [HS0]; · iexists _; iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
  · have hz : t.val ≠ 0 := fun hz => h0 (by rw [hz])
    rw [PhiS_pos m c _ _ hz, scr_eq m c ⟨t.val - 1, _⟩ t (by show (t.val - 1) / 15 = t.val / 15; omega)]
    iintro ⟨⟨HS0, Hg⟩, Ho, ⟨%d0, H0⟩, ⟨%d1, H1⟩, ⟨%d2, H2⟩⟩
    iapply (runB c (grid0.coords t) _ _ _ _ _ _ _ _ (fun h => h0 ((hcond t).mp h)) (iblk m c 0 t) (iblk m c 1 t) (scr m c t) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]; · iexact HS0
      iexact Hg
    isplitl [Ho]; · iexact Ho
    isplitl [H0]; · iexact H0
    isplitl [H1]; · iexact H1
    iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : (Fin.last cfg0.N).val ≠ 0 := by rw [Fin.val_last]; have : cfg0.N = 60 := N_0; omega
  rw [show (dats m 0 c).Φ (Fin.last cfg0.N) = PhiS m c (Fin.last cfg0.N).val (Nat.le_of_lt_succ (Fin.last cfg0.N).isLt) from rfl, PhiS_pos m c _ _ hN, PhiA_eq]
  iintro ⟨HS0, Hg⟩
  isplitl [HS0]
  · iexists _; iexact HS0
  iexact Hg

/-! ## The run -/

set_option backward.isDefEq.respectTransparency.types false in
theorem run_both : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_both m ρ)

/-- The run ends with the arguments unchanged and no signal pending. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_both m ρ))

/-- The run ends with the result at what the points wrote back. -/
theorem run_value : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 2, h.2.1 c⟩) (θ_run_and (run_main m ρ) (quiet m ρ))

end Cert.Tn2

end
-- ==== Proof.Mm2.lean ====
/-
  THE GRADIENT OF THE INPUT WEIGHTS OF THE MIXER: ITS VALUE. Each grid point leaves the product of the transposed block of
  activations with one block of columns of the cotangent, over all the tokens, so the array written back is the
  transposed product.
-/
module

public import proofs.«01_k».proof.Defs
public import proofs.«01_k».proof.Proof.Mm
public import proofs.«01_k».proof.Proof.Tn2
public import proofs.«01_k».proof.Proof.Gen.Kernel2
public import proofs.«01_k».proof.Proof.Gen.Reference2Ideal.Read
public import proofs.«01_k».proof.Proof.Gen.Reference2Ideal.Run

@[expose] public section

set_option maxRecDepth 16384

noncomputable section

namespace Cert.Mm2

open Idealize.ShloMosaic Idealize.ShloMosaic.TcCoe Idealize.SL.Sem Cert.Kernel2Ideal Cert.Kernel2Ideal.Gen Cert.Tn2
open Idealize.ShloMosaic.Pipeline Cert.Mm

/-- The product both programs compute. -/
def prod (x : FVec Ideal S4224x2048 .bf16) (w : FVec Ideal S4224x13440 .bf16) : FVec Ideal S2048x13440 .f32 :=
  fun i => ∑ k : Fin 4224, E2 x k.val (i 0).val * E2 w k.val (i 1).val

theorem pay (x : Vec Ideal S4224x512 .bf16) (w : Vec Ideal S4224x896 .bf16) (p : Fin 512) (q : Fin 896) :
    k0_pay2 (F := Ideal) (k0_pay1 x) w (ix2 p q) = ∑ k : Fin 4224, x (ix2 k p) * w (ix2 k q) := by
  pointwise [k0_pay2, k0_pay1]

variable (m : (ℓ : Loc nD τ sig) → Buf (Elt Ideal) ℓ) (c : Dev nD)

theorem idx1 : ∀ t : Fin cfg0.N, win0_1.index t 0 = 0 ∧ win0_1.index t 1 = t.val % 15 := (by decide +kernel : ∀ t : Fin grid0.N, _)
theorem idx2 : ∀ t : Fin cfg0.N, win0_2.index t 0 = t.val / 15 ∧ win0_2.index t 1 = t.val % 15 := (by decide +kernel : ∀ t : Fin grid0.N, _)
theorem xs2 : ∀ (t : Fin cfg0.N) (a), (cfg0.win 2).xsize (cfg0.grid.coords t) a = (cfg0.win 2).size a := by decide +kernel

theorem blk0 (t : Fin cfg0.N) (k : Fin 4224) (p : Fin 512) : iblk m c 0 t (ix2 k p : S4224x512.Idx)
    = E2 (m ((c : Thread nD τ).loc main_arg0) : FVec Ideal S4224x2048 .bf16) k.val (512 * (t.val / 15) + p.val) := by
  obtain ⟨h0, h1⟩ := row0 t
  unfold iblk
  rw [View.read_apply]
  show V m c main_arg0 _ = _
  rw [V_main_arg0]
  refine E2_at (M := 4224) (N := 2048) _ _ ?_ ?_
  · show win0_0.index t 0 * 4224 + 1 * k.val = _
    rw [h0]; omega
  · show win0_0.index t 1 * 512 + 1 * p.val = _
    rw [h1]; omega

theorem blk1 (t : Fin cfg0.N) (k : Fin 4224) (q : Fin 896) : iblk m c 1 t (ix2 k q : S4224x896.Idx)
    = E2 (m ((c : Thread nD τ).loc main_arg1) : FVec Ideal S4224x13440 .bf16) k.val (896 * (t.val % 15) + q.val) := by
  obtain ⟨h0, h1⟩ := idx1 t
  unfold iblk
  rw [View.read_apply]
  show V m c main_arg1 _ = _
  rw [V_main_arg1]
  refine E2_at (M := 4224) (N := 13440) _ _ ?_ ?_
  · show win0_1.index t 0 * 4224 + 1 * k.val = _
    rw [h0]; omega
  · show win0_1.index t 1 * 896 + 1 * q.val = _
    rw [h1]; omega

/-- What a point leaves in its output block. -/
theorem val (t : Fin cfg0.N) (p : Fin 512) (q : Fin 896) : k0_pay2 (F := Ideal) (scr m c t) (iblk m c 1 t) (ix2 p q : S512x896.Idx)
    = ∑ k : Fin 4224, E2 (m ((c : Thread nD τ).loc main_arg0) : FVec Ideal S4224x2048 .bf16) k.val (512 * (t.val / 15) + p.val)
      * E2 (m ((c : Thread nD τ).loc main_arg1) : FVec Ideal S4224x13440 .bf16) k.val (896 * (t.val % 15) + q.val) := by
  unfold scr
  rw [pay]
  refine Finset.sum_congr rfl fun k _ => ?_
  rw [blk0, blk1]

theorem mem2 (t : Fin cfg0.N) (i : S2048x13440.Idx) : i ∈ ((cfg0.win 2).blk t).view.set
    ↔ ∀ a, win0_2.index t a * win0_2.size a ≤ (i a).val ∧ (i a).val < win0_2.index t a * win0_2.size a + (cfg0.win 2).xsize (cfg0.grid.coords t) a := by
  show i ∈ ((View.whole main_v0).slice (win0_2.rect t)).set ↔ _
  rw [View.set_slice_whole, Rect.mem_set_unit]

/-- The array after the run is the product. -/
theorem arr : (dats m 0 c).arrAt 2 cfg0.N = prod (m ((c : Thread nD τ).loc main_arg0)) (m ((c : Thread nD τ).loc main_arg1)) := by
  refine (dats m 0 c).arrAt_eq_of_cover 2 _ (fun t hf => ?_) (fun i => ?_)
  · rw [show (dats m 0 c).flushed 2 t = (cfg0.win 2).cut (grid0.coords t) (k0_pay2 (scr m c t) (iblk m c 1 t)) from rfl]
    obtain ⟨h0, h1⟩ := idx2 t
    refine funext fun (y : S512x896.Idx) => ?_
    rw [View.read_apply]
    refine Eq.trans (b := k0_pay2 (F := Ideal) (scr m c t) (iblk m c 1 t) y) rfl ?_
    obtain ⟨p, q, rfl⟩ : ∃ (p : Fin 512) (q : Fin 896), y = ix2 p q := ⟨y 0, y 1, eq_ix2 y⟩
    rw [val]
    have e0 : ((((cfg0.win 2).blk t).view.emb (ix2 p q : S512x896.Idx) : S2048x13440.Idx) 0).val = 512 * (t.val / 15) + p.val := by
      show win0_2.index t 0 * 512 + 1 * p.val = _
      rw [h0]; omega
    have e1 : ((((cfg0.win 2).blk t).view.emb (ix2 p q : S512x896.Idx) : S2048x13440.Idx) 1).val = 896 * (t.val % 15) + q.val := by
      show win0_2.index t 1 * 896 + 1 * q.val = _
      rw [h1]; omega
    rw [← e0, ← e1]
    rfl
  · have b0 : (i 0).val < 2048 := (i 0).isLt
    have b1 : (i 1).val < 13440 := (i 1).isLt
    obtain ⟨T, hT⟩ : ∃ T : Fin cfg0.N, T.val = 15 * ((i 0).val / 512) + (i 1).val / 896 := ⟨⟨_, (by omega : _ < 60)⟩, rfl⟩
    obtain ⟨h0, h1⟩ := idx2 T
    refine ⟨T, flush0_2 T, (mem2 T i).mpr fun a => ?_⟩
    rw [xs2]
    match a with
    | ⟨0, _⟩ =>
      show win0_2.index T 0 * 512 ≤ (i 0).val ∧ (i 0).val < win0_2.index T 0 * 512 + 512
      rw [h0]; omega
    | ⟨1, _⟩ =>
      show win0_2.index T 1 * 896 ≤ (i 1).val ∧ (i 1).val < win0_2.index T 1 * 896 + 896
      rw [h1]; omega

theorem ref (x : FVec Ideal S4224x2048 .bf16) (w : FVec Ideal S4224x13440 .bf16) :
    Cert.Reference2Ideal.Read.val_main_v5 (F := Ideal) x w = prod x w := by
  funext i
  rw [Cert.Reference2Ideal.Read.val_main_v5_apply, Cert.Reference2Ideal.Read.val_main_v4_apply]
  refine Finset.sum_congr rfl fun k _ => (mul_comm _ _).trans (congrArg₂ (· * ·) ?_ ?_)
  · exact E2_at x _ rfl rfl
  · exact E2_at w _ rfl rfl

theorem algebraic : Cert.algebraic_Kernel2Ideal_Reference2Ideal := by
  intro m g m' g' _ hagree
  refine ⟨fun c => (dats m 0 c).arrAt 2 cfg0.N, run_value m g, ?_⟩
  refine (θ_run Cert.Reference2Ideal.defs _ _).mono (fun r h c => ⟨(h c).1.trans ?_, (h c).2⟩) (Cert.Reference2Ideal.Value.run (F := Ideal) m' g')
  obtain ⟨a0, a1⟩ := hagree c
  refine Eq.trans ?_ (arr m c).symm
  rw [Cert.Reference2Ideal.Read.val_main_v5_eq, a0, a1]
  exact ref _ _

/-- The kernel before idealization calls the same bodies. -/
theorem bodies : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | 0, (t, s) => rfl
  | ⟨_ + 1, h⟩, _ => exact absurd h (Nat.not_lt.2 (Nat.le_add_left _ _))

/-- So its run is the same run, over machine floats. -/
theorem frame_kernel : Cert.quiescent_Kernel2 := fun m ρ _ => by
  rw [show Cert.Kernel2.defs (F := Bits) = Cert.Kernel2Ideal.defs (F := Bits) from congrArg (Pipeline.defs Cert.Kernel2Ideal.pcfgs) bodies]
  exact Cert.Tn2.quiet (F := Bits) m ρ

theorem frame_r : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

end Cert.Mm2

end
-- ==== Proof.Mm3.lean ====
/-
  THE GRADIENT OF THE MIXER'S INPUT. The contracted axis is taken in three parts. The first point of three leaves its
  block product in the accumulator, the second adds its own to it, and the third adds its own and writes the sum, so the
  array written back is the matrix product over the whole axis.
-/
module

public import proofs.«01_k».proof.Defs
public import proofs.«01_k».proof.Proof.Mm
public import proofs.«01_k».proof.Proof.Gen.Kernel3Ideal.Value
public import proofs.«01_k».proof.Proof.Gen.Reference3Ideal.Read
public import proofs.«01_k».proof.Proof.Gen.Reference3Ideal.Run

@[expose] public section

set_option maxRecDepth 16384

noncomputable section

namespace Cert.Mm3

open Idealize.ShloMosaic Idealize.ShloMosaic.TcCoe Idealize.SL.Sem Cert.Kernel3Ideal Cert.Kernel3Ideal.Gen Cert.Kernel3Ideal.Value
open Idealize.ShloMosaic.Pipeline Cert.Mm

/-- One term of the product both programs compute. -/
def term (x : FVec Ideal S4224x13440 .bf16) (w : FVec Ideal S2048x13440 .bf16) (r s k : ℕ) : EReal :=
  E2 x r k * E2 w s k

/-- The product both programs compute. -/
def prod (x : FVec Ideal S4224x13440 .bf16) (w : FVec Ideal S2048x13440 .bf16) : FVec Ideal S4224x2048 .f32 :=
  fun i => ∑ k : Fin (4480 + 4480 + 4480), term x w (i 0).val (i 1).val k.val

theorem pay (x : Vec Ideal S1056x4480 .bf16) (w : Vec Ideal S512x4480 .bf16) (p : Fin 1056) (q : Fin 512) :
    k0_pay1 (F := Ideal) x w (ix2 p q) = ∑ k : Fin 4480, x (ix2 p k) * w (ix2 q k) := by
  pointwise [k0_pay1]

variable (m : (ℓ : Loc nD τ sig) → Buf (Elt Ideal) ℓ) (c : Dev nD)

theorem idx0 : ∀ t : Fin cfg0.N, win0_0.index t 0 = t.val / 12 ∧ win0_0.index t 1 = t.val % 3 := (by decide +kernel : ∀ t : Fin grid0.N, _)
theorem idx1 : ∀ t : Fin cfg0.N, win0_1.index t 0 = t.val / 3 % 4 ∧ win0_1.index t 1 = t.val % 3 := (by decide +kernel : ∀ t : Fin grid0.N, _)
theorem idx2 : ∀ t : Fin cfg0.N, win0_2.index t 0 = t.val / 12 ∧ win0_2.index t 1 = t.val / 3 % 4 := (by decide +kernel : ∀ t : Fin grid0.N, _)
theorem xs2 : ∀ (t : Fin cfg0.N) (a), (cfg0.win 2).xsize (cfg0.grid.coords t) a = (cfg0.win 2).size a := by decide +kernel

/-- The first point of three leaves its block product in the accumulator. -/
theorem accA (c : Dev nD) (i : grid0.Coords) (arg3 : Memref sig .tc .vmem S1056x4480 .bf16) (harg3 : arg3.IsWhole) (arg4 : Memref sig .tc .vmem S512x4480 .bf16) (harg4 : arg4.IsWhole) (arg5 : Memref sig .tc .vmem S1056x512 .f32) (harg5 : arg5.IsWhole) (arg6 : Memref sig .tc .vmem S1056x512 .f32) (harg6 : arg6.IsWhole) (hc0 : cond0_0 i) (hc1 : ¬cond0_1 i) (hc2 : ¬cond0_2 i)
    (x : Vec Ideal S1056x4480 .bf16) (w : Vec Ideal S512x4480 .bf16) : sout0_A_0 (F := Ideal) c i arg3 harg3 arg4 harg4 arg5 harg5 arg6 harg6 hc0 hc1 hc2 x w = k0_pay1 x w := by
  unfold sout0_A_0
  rw [View.read_writes_eq_canon _ _ _ (fun _ => scover0_A_0 ..)]
  unfold kernelRun0_A
  dsimp only
  sl_unfold_words
  rw [View.canon_unit_zero (S := S1056x512) z2]
  simp only [View.readAt_eq_ld, harg3.read_unread, harg4.read_unread, View.ld_unit_zero (S := S1056x4480) z2, View.ld_unit_zero (S := S512x4480) z2, k0_pay2, shapeCast_self]

/-- The second leaves there what it found plus its own block product. -/
theorem accB (c : Dev nD) (i : grid0.Coords) (arg3 : Memref sig .tc .vmem S1056x4480 .bf16) (harg3 : arg3.IsWhole) (arg4 : Memref sig .tc .vmem S512x4480 .bf16) (harg4 : arg4.IsWhole) (arg5 : Memref sig .tc .vmem S1056x512 .f32) (harg5 : arg5.IsWhole) (arg6 : Memref sig .tc .vmem S1056x512 .f32) (harg6 : arg6.IsWhole) (hc0 : ¬cond0_0 i) (hc1 : cond0_1 i) (hc2 : ¬cond0_2 i)
    (x : Vec Ideal S1056x4480 .bf16) (w : Vec Ideal S512x4480 .bf16) (a : Vec Ideal S1056x512 .f32) :
    sout0_B_0 (F := Ideal) c i arg3 harg3 arg4 harg4 arg5 harg5 arg6 harg6 hc0 hc1 hc2 x w a = k0_pay4 x w a := by
  unfold sout0_B_0
  rw [View.read_writes_eq_canon _ _ _ (fun _ => scover0_B_0 ..)]
  unfold kernelRun0_B
  dsimp only
  sl_unfold_words
  rw [View.canon_unit_zero (S := S1056x512) z2]
  simp only [View.readAt_eq_ld, harg3.read_unread, harg4.read_unread, harg6.read_unread, View.ld_unit_zero (S := S1056x4480) z2, View.ld_unit_zero (S := S512x4480) z2, View.ld_unit_zero (S := S1056x512) z2, k0_pay3, k0_pay4, shapeCast_self]

/-- The third adds its own block product to what it finds there. -/
theorem outC (c : Dev nD) (i : grid0.Coords) (arg3 : Memref sig .tc .vmem S1056x4480 .bf16) (harg3 : arg3.IsWhole) (arg4 : Memref sig .tc .vmem S512x4480 .bf16) (harg4 : arg4.IsWhole) (arg5 : Memref sig .tc .vmem S1056x512 .f32) (harg5 : arg5.IsWhole) (arg6 : Memref sig .tc .vmem S1056x512 .f32) (harg6 : arg6.IsWhole) (hc0 : ¬cond0_0 i) (hc1 : ¬cond0_1 i) (hc2 : cond0_2 i)
    (x : Vec Ideal S1056x4480 .bf16) (w : Vec Ideal S512x4480 .bf16) (a : Vec Ideal S1056x512 .f32) :
    out0_C_2 (F := Ideal) c i arg3 harg3 arg4 harg4 arg5 harg5 arg6 harg6 hc0 hc1 hc2 x w a = k0_pay4 x w a := by
  unfold out0_C_2
  rw [View.read_writes_eq_canon _ _ _ (fun _ => cover0_C_2 ..)]
  unfold kernelRun0_C
  dsimp only
  sl_unfold_words
  rw [View.canon_unit_zero (S := S1056x512) z2]
  simp only [View.readAt_eq_ld, harg3.read_unread, harg4.read_unread, harg6.read_unread, View.ld_unit_zero (S := S1056x4480) z2, View.ld_unit_zero (S := S512x4480) z2, View.ld_unit_zero (S := S1056x512) z2]

/-- The point before. -/
def prev (t : Fin cfg0.N) : Fin cfg0.N := ⟨t.val - 1, Nat.lt_of_le_of_lt (Nat.sub_le _ _) t.isLt⟩

theorem out (t : Fin cfg0.N) (h : t.val % 3 = 2) : (outsAt0 m c t.val t.isLt).1
    = k0_pay4 (F := Ideal) (iblk m c 0 t) (iblk m c 1 t) (k0_pay4 (iblk m c 0 (prev t)) (iblk m c 1 (prev t))
      (k0_pay1 (iblk m c 0 (prev (prev t))) (iblk m c 1 (prev (prev t))))) := by
  have hp : (prev t).val = t.val - 1 := rfl
  have hq : (prev (prev t)).val = t.val - 1 - 1 := rfl
  have e := congrArg Prod.fst (outsAt0_C m c t (by omega) (by omega) h)
  rw [outC] at e
  have e' := congrArg Prod.snd (outsAt0_B m c (prev t) (by omega) (by omega) (by omega))
  rw [accB] at e'
  have e'' := congrArg Prod.snd (outsAt0_A m c (prev (prev t)) (by omega) (by omega) (by omega))
  rw [accA] at e''
  exact e.trans (congrArg (k0_pay4 (F := Ideal) (iblk m c 0 t) (iblk m c 1 t))
    (e'.trans (congrArg (k0_pay4 (F := Ideal) (iblk m c 0 (prev t)) (iblk m c 1 (prev t))) e'')))

theorem blk0 (t : Fin cfg0.N) (p : Fin 1056) (k : Fin 4480) : iblk m c 0 t (ix2 p k : S1056x4480.Idx)
    = E2 (m ((c : Thread nD τ).loc main_arg0) : FVec Ideal S4224x13440 .bf16) (1056 * (t.val / 12) + p.val) (4480 * (t.val % 3) + k.val) := by
  obtain ⟨h0, h1⟩ := idx0 t
  unfold iblk
  rw [View.read_apply]
  show V m c main_arg0 _ = _
  rw [V_main_arg0]
  refine E2_at (M := 4224) (N := 13440) _ _ ?_ ?_
  · show win0_0.index t 0 * 1056 + 1 * p.val = _
    rw [h0]; omega
  · show win0_0.index t 1 * 4480 + 1 * k.val = _
    rw [h1]; omega

theorem blk1 (t : Fin cfg0.N) (q : Fin 512) (k : Fin 4480) : iblk m c 1 t (ix2 q k : S512x4480.Idx)
    = E2 (m ((c : Thread nD τ).loc main_arg1) : FVec Ideal S2048x13440 .bf16) (512 * (t.val / 3 % 4) + q.val) (4480 * (t.val % 3) + k.val) := by
  obtain ⟨h0, h1⟩ := idx1 t
  unfold iblk
  rw [View.read_apply]
  show V m c main_arg1 _ = _
  rw [V_main_arg1]
  refine E2_at (M := 2048) (N := 13440) _ _ ?_ ?_
  · show win0_1.index t 0 * 512 + 1 * q.val = _
    rw [h0]; omega
  · show win0_1.index t 1 * 4480 + 1 * k.val = _
    rw [h1]; omega

/-- A point's block product. -/
theorem val (t : Fin cfg0.N) (p : Fin 1056) (q : Fin 512) : k0_pay1 (F := Ideal) (iblk m c 0 t) (iblk m c 1 t) (ix2 p q : S1056x512.Idx)
    = ∑ k : Fin 4480, term (m ((c : Thread nD τ).loc main_arg0)) (m ((c : Thread nD τ).loc main_arg1))
      (1056 * (t.val / 12) + p.val) (512 * (t.val / 3 % 4) + q.val) (4480 * (t.val % 3) + k.val) := by
  rw [pay]
  refine Finset.sum_congr rfl fun k _ => ?_
  unfold term
  rw [blk0, blk1]

/-- What the third point of three leaves in its output block. -/
theorem val2 (t : Fin cfg0.N) (h : t.val % 3 = 2) (p : Fin 1056) (q : Fin 512) : (outsAt0 m c t.val t.isLt).1 (ix2 p q : S1056x512.Idx)
    = ∑ k : Fin (4480 + 4480 + 4480), term (m ((c : Thread nD τ).loc main_arg0)) (m ((c : Thread nD τ).loc main_arg1))
      (1056 * (t.val / 12) + p.val) (512 * (t.val / 3 % 4) + q.val) k.val := by
  rw [out m c t h]
  show k0_pay1 (F := Ideal) (iblk m c 0 (prev (prev t))) (iblk m c 1 (prev (prev t))) (ix2 p q)
    + k0_pay1 (F := Ideal) (iblk m c 0 (prev t)) (iblk m c 1 (prev t)) (ix2 p q) + k0_pay1 (F := Ideal) (iblk m c 0 t) (iblk m c 1 t) (ix2 p q) = _
  rw [val, val, val, ← sum_three]
  have hp : (prev t).val = t.val - 1 := rfl
  have hq : (prev (prev t)).val = t.val - 1 - 1 := rfl
  rw [hq, hp, h, show (t.val - 1) % 3 = 1 by omega, show (t.val - 1 - 1) % 3 = 0 by omega, show (t.val - 1) / 12 = t.val / 12 by omega,
    show (t.val - 1 - 1) / 12 = t.val / 12 by omega, show (t.val - 1) / 3 % 4 = t.val / 3 % 4 by omega,
    show (t.val - 1 - 1) / 3 % 4 = t.val / 3 % 4 by omega]
  simp only [Nat.mul_zero, Nat.zero_add, Nat.mul_one, Nat.reduceMul, Nat.reduceAdd]

theorem mem2 (t : Fin cfg0.N) (i : S4224x2048.Idx) : i ∈ ((cfg0.win 2).blk t).view.set
    ↔ ∀ a, win0_2.index t a * win0_2.size a ≤ (i a).val ∧ (i a).val < win0_2.index t a * win0_2.size a + (cfg0.win 2).xsize (cfg0.grid.coords t) a := by
  show i ∈ ((View.whole main_v0).slice (win0_2.rect t)).set ↔ _
  rw [View.set_slice_whole, Rect.mem_set_unit]

/-- The array after the run is the product. -/
theorem arr : (dats m 0 c).arrAt 2 cfg0.N = prod (m ((c : Thread nD τ).loc main_arg0)) (m ((c : Thread nD τ).loc main_arg1)) := by
  refine (dats m 0 c).arrAt_eq_of_cover 2 _ (fun t hf => ?_) (fun i => ?_)
  · have h : t.val % 3 = 2 := (flush0_2 t).mp hf
    rw [flushed2]
    obtain ⟨h0, h1⟩ := idx2 t
    refine funext fun (y : S1056x512.Idx) => ?_
    rw [View.read_apply]
    refine Eq.trans (b := (outsAt0 m c t.val t.isLt).1 y) rfl ?_
    obtain ⟨p, q, rfl⟩ : ∃ (p : Fin 1056) (q : Fin 512), y = ix2 p q := ⟨y 0, y 1, eq_ix2 y⟩
    rw [val2 m c t h]
    have e0 : ((((cfg0.win 2).blk t).view.emb (ix2 p q : S1056x512.Idx) : S4224x2048.Idx) 0).val = 1056 * (t.val / 12) + p.val := by
      show win0_2.index t 0 * 1056 + 1 * p.val = _
      rw [h0]; omega
    have e1 : ((((cfg0.win 2).blk t).view.emb (ix2 p q : S1056x512.Idx) : S4224x2048.Idx) 1).val = 512 * (t.val / 3 % 4) + q.val := by
      show win0_2.index t 1 * 512 + 1 * q.val = _
      rw [h1]; omega
    rw [← e0, ← e1]
    rfl
  · have b0 : (i 0).val < 4224 := (i 0).isLt
    have b1 : (i 1).val < 2048 := (i 1).isLt
    obtain ⟨T, hT⟩ : ∃ T : Fin cfg0.N, T.val = 12 * ((i 0).val / 1056) + 3 * ((i 1).val / 512) + 2 := ⟨⟨_, (by omega : _ < 48)⟩, rfl⟩
    obtain ⟨h0, h1⟩ := idx2 T
    refine ⟨T, (flush0_2 T).mpr (by omega), (mem2 T i).mpr fun a => ?_⟩
    rw [xs2]
    match a with
    | ⟨0, _⟩ =>
      show win0_2.index T 0 * 1056 ≤ (i 0).val ∧ (i 0).val < win0_2.index T 0 * 1056 + 1056
      rw [h0]; omega
    | ⟨1, _⟩ =>
      show win0_2.index T 1 * 512 ≤ (i 1).val ∧ (i 1).val < win0_2.index T 1 * 512 + 512
      rw [h1]; omega

theorem ref (x : FVec Ideal S4224x13440 .bf16) (w : FVec Ideal S2048x13440 .bf16) :
    Cert.Reference3Ideal.Read.val_main_v4 (F := Ideal) x w = prod x w := by
  funext i
  rw [Cert.Reference3Ideal.Read.val_main_v4_apply]
  refine Finset.sum_congr rfl fun k _ => congrArg₂ (· * ·) ?_ ?_
  · exact E2_at x _ rfl rfl
  · exact E2_at w _ rfl rfl

theorem algebraic : Cert.algebraic_Kernel3Ideal_Reference3Ideal := by
  intro m g m' g' _ hagree
  refine ⟨fun c => (dats m 0 c).arrAt 2 cfg0.N, run_blocks m g, ?_⟩
  refine (θ_run Cert.Reference3Ideal.defs _ _).mono (fun r h c => ⟨(h c).1.trans ?_, (h c).2⟩) (Cert.Reference3Ideal.Value.run (F := Ideal) m' g')
  obtain ⟨a0, a1⟩ := hagree c
  refine Eq.trans ?_ (arr m c).symm
  rw [Cert.Reference3Ideal.Read.val_main_v4_eq, a0, a1]
  exact ref _ _

theorem frame_r : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

end Cert.Mm3

end
-- ==== Proof.Tn4.lean ====
/-
  THE GRADIENT OF THE FEED-FORWARD UP WEIGHTS: THE RUN. The first point of a row of blocks transposes its block of
  activations into the scratch; every point multiplies what the scratch holds by its block of cotangents. The block of
  activations does not change along a row, so after every point the scratch holds that point's block transposed.
-/
module

public import proofs.«01_k».proof.Defs
public import proofs.«01_k».proof.Proof.Mm
public import proofs.«01_k».proof.Proof.Gen.Kernel4Ideal.Skeleton
public import proofs.«01_k».proof.Proof.Gen.Kernel4Ideal.Frame
public import Idealize.ShloMosaic.Lib.Claim

@[expose] public section

set_option maxRecDepth 16384

noncomputable section

namespace Cert.Tn4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen Cert.Mm

variable {F : FTy → Type} [FloatOps F]

abbrev MM (F : FTy → Type) := MT nD τ sig Unit (Elt F) ℕ (UR sig nD τ) ℕ

theorem off1 (i : grid0.Coords) : k0_off1 i = ![0, 0, 0] := by
  have h : (i 2).val = 0 := by have h : (i 2).val < 1 := (i 2).isLt; omega
  unfold k0_off1; rw [h]; rfl
theorem off2 (i : grid0.Coords) : k0_off2 i = ![0, 0, 0] := by
  have h : (i 2).val = 0 := by have h : (i 2).val < 1 := (i 2).isLt; omega
  unfold k0_off2; rw [h]; rfl

theorem offz (i : grid0.Coords) : ![BitVec.toNat (Scalar.indexCast (BitVec.ofNat 32 (i 2).val)), 0, 0] = (fun _ => 0 : Fin 3 → ℕ) := by
  have h : k0_off1 i = ![0, 0, 0] := off1 i
  exact h.trans z3

/-! ## One point -/

set_option maxHeartbeats 1000000 in
/-- A point that fills the scratch. -/
theorem runA (c : Dev nD) (i : grid0.Coords) (arg3 : Memref sig .tc .vmem S4224x512 .bf16) (harg3 : arg3.IsWhole) (arg4 : Memref sig .tc .vmem S1x4224x1408 .bf16) (harg4 : arg4.IsWhole) (arg5 : Memref sig .tc .vmem S1x512x1408 .f32) (harg5 : arg5.IsWhole) (arg6 : Memref sig .tc .vmem S1x512x4224 .bf16) (harg6 : arg6.IsWhole) (hc : k0_cond1 i = 1#1)
    (x : Vec F S4224x512 .bf16) (w : Vec F S1x4224x1408 .bf16) (E : Set ℕ) (K : PUnit → sProp (MM F)) :
    iprop(owns (c : Thread nD τ) arg3 fullShare x ∗ owns (c : Thread nD τ) arg4 fullShare w ∗ (∃ d, owns (c : Thread nD τ) arg5 fullShare d) ∗ (∃ d, owns (c : Thread nD τ) arg6 fullShare d)
        ∗ (iprop(owns (c : Thread nD τ) arg3 fullShare x ∗ owns (c : Thread nD τ) arg4 fullShare w ∗ owns (c : Thread nD τ) arg5 fullShare (k0_pay2 (k0_pay1 x) w) ∗ owns (c : Thread nD τ) arg6 fullShare (k0_pay1 x)) -∗ K ⟨⟩))
      ⊢ wp frame (wpE (defs₀ (F := F)) Variants.none c none) E (cc0_dw_ffn_up i arg3 harg3 arg4 harg4 arg5 harg5 arg6 harg6) K := by
  simp only [cc0_dw_ffn_up_eq_skeleton]; unfold cc0_dw_ffn_up_skel
  simp only [off1, off2]
  unfold owns
  iintro ⟨⟨%f0, %hf0, H0⟩, ⟨%f1, %hf1, H1⟩, ⟨%d2, %f2, -, H2⟩, ⟨%ds0, %fs0, -, HS0⟩, Hk⟩
  obtain rfl := harg3.eq_unread hf0; obtain rfl := harg4.eq_unread hf1
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (View.cover_of_tiledL _ S1x512x1408.size (by sl_kernel_rfl))]
    sl_unfold_words
    refine (View.canon_unit_zero (S := S1x512x1408) z3 _ _).trans ?_
    simp only [View.readAt_eq_ld, harg3.read_unread, harg4.read_unread, View.ld_unit_zero (S := S4224x512) z2, View.ld_unit_zero (S := S1x4224x1408) z3]
    exact congrArg (fun s => k0_pay2 s w) (View.readCov_unit_zero (S := S1x512x4224) _ (offz i) _ _)
  iexists _; isplitr
  swap; · iexact HS0
  ipureintro
  sl_unfold_words
  refine (View.read_writes_eq_canon _ _ _ (fun y => ⟨_, List.mem_singleton_self _, View.mem_set_unit_zero (S := S1x512x4224) (offz i) (fun a => by rw [offz i]; exact (Nat.zero_add _).le) y⟩)).trans ?_
  refine (View.canon_unit_zero (S := S1x512x4224) (offz i) _ _).trans ?_
  simp only [View.readAt_eq_ld, harg3.read_unread, View.ld_unit_zero (S := S4224x512) z2]

set_option maxHeartbeats 1000000 in
/-- A point that finds the scratch filled. -/
theorem runB (c : Dev nD) (i : grid0.Coords) (arg3 : Memref sig .tc .vmem S4224x512 .bf16) (harg3 : arg3.IsWhole) (arg4 : Memref sig .tc .vmem S1x4224x1408 .bf16) (harg4 : arg4.IsWhole) (arg5 : Memref sig .tc .vmem S1x512x1408 .f32) (harg5 : arg5.IsWhole) (arg6 : Memref sig .tc .vmem S1x512x4224 .bf16) (harg6 : arg6.IsWhole) (hc : ¬k0_cond1 i = 1#1)
    (x : Vec F S4224x512 .bf16) (w : Vec F S1x4224x1408 .bf16) (s : Vec F S1x512x4224 .bf16) (E : Set ℕ) (K : PUnit → sProp (MM F)) :
    iprop(owns (c : Thread nD τ) arg3 fullShare x ∗ owns (c : Thread nD τ) arg4 fullShare w ∗ (∃ d, owns (c : Thread nD τ) arg5 fullShare d) ∗ owns (c : Thread nD τ) arg6 fullShare s
        ∗ (iprop(owns (c : Thread nD τ) arg3 fullShare x ∗ owns (c : Thread nD τ) arg4 fullShare w ∗ owns (c : Thread nD τ) arg5 fullShare (k0_pay2 s w) ∗ owns (c : Thread nD τ) arg6 fullShare s) -∗ K ⟨⟩))
      ⊢ wp frame (wpE (defs₀ (F := F)) Variants.none c none) E (cc0_dw_ffn_up i arg3 harg3 arg4 harg4 arg5 harg5 arg6 harg6) K := by
  simp only [cc0_dw_ffn_up_eq_skeleton]; unfold cc0_dw_ffn_up_skel
  simp only [off1, off2]
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (View.cover_of_tiledL _ S1x512x1408.size (by sl_kernel_rfl))]
    sl_unfold_words
    refine (View.canon_unit_zero (S := S1x512x1408) z3 _ _).trans ?_
    simp only [View.readAt_eq_ld, harg4.read_unread, harg6.read_unread, View.ld_unit_zero (S := S1x4224x1408) z3]
    exact congrArg (fun s => k0_pay2 s w) (View.ld_unit_zero (S := S1x512x4224) (offz i) _ _)
  iexists _; isplitr; · ipureintro; exact harg6.read_unread _
  iexact HS0

/-! ## The points in order -/

theorem hcond : ∀ t : Fin cfg0.N, k0_cond1 (grid0.coords t) = 1#1 ↔ t.val % 8 = 0 := (by decide +kernel : ∀ t : Fin grid0.N, _)
theorem row0 : ∀ t : Fin cfg0.N, win0_0.index t 0 = 0 ∧ win0_0.index t 1 = t.val / 8 := (by decide +kernel : ∀ t : Fin grid0.N, _)
theorem liveAt (w : Fin cfg0.W) : ∀ t : Fin cfg0.N, cfg0.idle w (grid0.coords t) = false := by revert w; decide +kernel

abbrev scM : Memref sig .tc .vmem S1x512x4224 .bf16 := Memref.whole cc0_scratch0

theorem PhiA_eq (c : Dev nD) : (Pipeline.ΦA spec0 c : sProp (MM F))
    = iprop(iprop((∃ d, owns (c : Thread nD τ) scM fullShare d)) ∗ (∃ r, prngReg c r)) := by
  unfold Pipeline.ΦA; rw [scopedRest0_eq]; simp only [scM, owns_whole]; try rfl

variable (m : (ℓ : Loc nD τ sig) → Buf (Elt F) ℓ) (ρ : Dev nD → PrngReg)

/-- What the scratch holds after a point. -/
def scr (c : Dev nD) (t : Fin cfg0.N) : Vec F S1x512x4224 .bf16 := k0_pay1 (iblk m c 0 t)

/-- Along a row of blocks the block of activations stays. -/
theorem scr_eq (c : Dev nD) (t t' : Fin cfg0.N) (h : t.val / 8 = t'.val / 8) : scr m c t = scr m c t' := by
  obtain ⟨a0, a1⟩ := row0 t
  obtain ⟨b0, b1⟩ := row0 t'
  refine congrArg (k0_pay1 (F := F)) (funext fun (y : S4224x512.Idx) => ?_)
  show V m c main_arg0 (((cfg0.win 0).blk t).view.emb y) = V m c main_arg0 (((cfg0.win 0).blk t').view.emb y)
  refine congrArg _ (funext fun a => Fin.ext ?_)
  match a with
  | ⟨0, _⟩ =>
    show win0_0.index t 0 * 4224 + 1 * (y 0).val = win0_0.index t' 0 * 4224 + 1 * (y 0).val
    rw [a0, b0]
  | ⟨1, _⟩ =>
    show win0_0.index t 1 * 512 + 1 * (y 1).val = win0_0.index t' 1 * 512 + 1 * (y 1).val
    rw [a1, b1, h]

/-- What holds between the points: the scratch at what the point before left in it. -/
def PhiS (c : Dev nD) : (n : ℕ) → n ≤ cfg0.N → sProp (MM F)
  | 0, _ => Pipeline.ΦA spec0 c
  | n + 1, hn => iprop(owns (c : Thread nD τ) scM fullShare (scr m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM fullShare (scr m c ⟨n, hn⟩) ∗ (∃ r, prngReg c r)) := rfl

theorem PhiS_pos (c : Dev nD) (n : ℕ) (h : n ≤ cfg0.N) (hz : n ≠ 0) :
    PhiS m c n h = iprop(owns (c : Thread nD τ) scM fullShare (scr m c ⟨n - 1, by omega⟩) ∗ (∃ r, prngReg c r)) := by
  cases n with
  | zero => exact absurd rfl hz
  | succ n => rfl

/-- The pipeline's proof data: every point leaves its output block at the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (scr m c t) (iblk m c 1 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay2 (scr m c t) (iblk m c 1 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

abbrev ms0 (t : Fin cfg0.N) : Memref sig .tc .vmem S4224x512 .bf16 := win0_0.stage (cfg0.slots t 0)
abbrev ms1 (t : Fin cfg0.N) : Memref sig .tc .vmem S1x4224x1408 .bf16 := win0_1.stage (cfg0.slots t 1)
abbrev ms2 (t : Fin cfg0.N) : Memref sig .tc .vmem S1x512x1408 .f32 := win0_2.stage (cfg0.slots t 2)

def bodyPre (c : Dev nD) (t : Fin cfg0.N) : sProp (MM F) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp (MM F) :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt 0 t], after0]
  rw [show (dats m 0 c).leavesExact 1 t = owns (c : Thread nD τ) (ms1 t) fullShare ((dats m 0 c).after 1 t) from by
    unfold Dat.leavesExact; rw [liveAt 1 t], after1]
  rw [show (dats m 0 c).leavesExact 2 t = owns (c : Thread nD τ) (ms2 t) fullShare ((dats m 0 c).after 2 t) from by
    unfold Dat.leavesExact; rw [liveAt 2 t], after2]
  rw [show (⟨t.val, t.isLt⟩ : Fin cfg0.N) = t from rfl, PhiS_castSucc m c t]
  by_cases h0 : t.val % 8 = 0
  · by_cases hz : t.val = 0
    · rw [PhiS_zero m c _ _ hz, PhiA_eq]
      iintro ⟨⟨HS0, Hg⟩, Ho, ⟨%d0, H0⟩, ⟨%d1, H1⟩, ⟨%d2, H2⟩⟩
      iapply (runA c (grid0.coords t) _ _ _ _ _ _ _ _ ((hcond t).mpr h0) (iblk m c 0 t) (iblk m c 1 t) Set.univ _)
      isplitl [H0]; · iexact H0
      isplitl [H1]; · iexact H1
      isplitl [H2]; · iexists _; iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
    · rw [PhiS_pos m c _ _ hz]
      iintro ⟨⟨HS0, Hg⟩, Ho, ⟨%d0, H0⟩, ⟨%d1, H1⟩, ⟨%d2, H2⟩⟩
      iapply (runA c (grid0.coords t) _ _ _ _ _ _ _ _ ((hcond t).mpr h0) (iblk m c 0 t) (iblk m c 1 t) Set.univ _)
      isplitl [H0]; · iexact H0
      isplitl [H1]; · iexact H1
      isplitl [H2]; · iexists _; iexact H2
      isplitl [HS0]; · iexists _; iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
  · have hz : t.val ≠ 0 := fun hz => h0 (by rw [hz])
    rw [PhiS_pos m c _ _ hz, scr_eq m c ⟨t.val - 1, _⟩ t (by show (t.val - 1) / 8 = t.val / 8; omega)]
    iintro ⟨⟨HS0, Hg⟩, Ho, ⟨%d0, H0⟩, ⟨%d1, H1⟩, ⟨%d2, H2⟩⟩
    iapply (runB c (grid0.coords t) _ _ _ _ _ _ _ _ (fun h => h0 ((hcond t).mp h)) (iblk m c 0 t) (iblk m c 1 t) (scr m c t) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]; · iexact HS0
      iexact Hg
    isplitl [Ho]; · iexact Ho
    isplitl [H0]; · iexact H0
    isplitl [H1]; · iexact H1
    iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ hN, PhiA_eq]
  iintro ⟨HS0, Hg⟩
  isplitl [HS0]
  · iexists _; iexact HS0
  iexact Hg

/-! ## The run -/

set_option backward.isDefEq.respectTransparency.types false in
theorem run_both : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_both m ρ)

/-- The run ends with the arguments unchanged and no signal pending. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_both m ρ))

/-- The run ends with the result at what the points wrote back. -/
theorem run_value : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 2, h.2.1 c⟩) (θ_run_and (run_main m ρ) (quiet m ρ))

end Cert.Tn4

end
-- ==== Proof.Mm4.lean ====
/-
  THE GRADIENT OF THE UP WEIGHTS OF THE FEED-FORWARD LAYER: ITS VALUE. Each grid point leaves the product of the transposed block of
  activations with one block of columns of the cotangent, over all the tokens, so the array written back is the
  transposed product.
-/
module

public import proofs.«01_k».proof.Defs
public import proofs.«01_k».proof.Proof.Mm
public import proofs.«01_k».proof.Proof.Tn4
public import proofs.«01_k».proof.Proof.Gen.Kernel4
public import proofs.«01_k».proof.Proof.Gen.Reference4Ideal.Read
public import proofs.«01_k».proof.Proof.Gen.Reference4Ideal.Run

@[expose] public section

set_option maxRecDepth 16384

noncomputable section

namespace Cert.Mm4

open Idealize.ShloMosaic Idealize.ShloMosaic.TcCoe Idealize.SL.Sem Cert.Kernel4Ideal Cert.Kernel4Ideal.Gen Cert.Tn4
open Idealize.ShloMosaic.Pipeline Cert.Mm

/-- The two halves of the cotangent side by side. -/
def cot (w : FVec Ideal S2x4224x5632 .bf16) (k j : ℕ) : EReal := E3 w (j / 5632) k (j % 5632)

/-- The product both programs compute, in four groups of columns. -/
def prod (x : FVec Ideal S4224x2048 .bf16) (w : FVec Ideal S2x4224x5632 .bf16) : FVec Ideal S4x2048x2816 .f32 :=
  fun i => ∑ k : Fin 4224, E2 x k.val (i 1).val * cot w k.val (2816 * (i 0).val + (i 2).val)

theorem pay (x : Vec Ideal S4224x512 .bf16) (w : Vec Ideal S1x4224x1408 .bf16) (p : Fin 512) (q : Fin 1408) :
    k0_pay2 (F := Ideal) (k0_pay1 x) w (ix3 0 p q) = ∑ k : Fin 4224, x (ix2 k p) * w (ix3 0 k q) := by
  pointwise [k0_pay2, k0_pay1]

variable (m : (ℓ : Loc nD τ sig) → Buf (Elt Ideal) ℓ) (c : Dev nD)

theorem idx1 : ∀ t : Fin cfg0.N, win0_1.index t 0 = t.val % 8 / 4 ∧ win0_1.index t 1 = 0 ∧ win0_1.index t 2 = t.val % 8 % 4 := (by decide +kernel : ∀ t : Fin grid0.N, _)
theorem idx2 : ∀ t : Fin cfg0.N, win0_2.index t 0 = t.val % 8 / 2 ∧ win0_2.index t 1 = t.val / 8 ∧ win0_2.index t 2 = t.val % 8 % 2 := (by decide +kernel : ∀ t : Fin grid0.N, _)
theorem xs2 : ∀ (t : Fin cfg0.N) (a), (cfg0.win 2).xsize (cfg0.grid.coords t) a = (cfg0.win 2).size a := by decide +kernel

theorem blk0 (t : Fin cfg0.N) (k : Fin 4224) (p : Fin 512) : iblk m c 0 t (ix2 k p : S4224x512.Idx)
    = E2 (m ((c : Thread nD τ).loc main_arg0) : FVec Ideal S4224x2048 .bf16) k.val (512 * (t.val / 8) + p.val) := by
  obtain ⟨h0, h1⟩ := row0 t
  unfold iblk
  rw [View.read_apply]
  show V m c main_arg0 _ = _
  rw [V_main_arg0]
  refine E2_at (M := 4224) (N := 2048) _ _ ?_ ?_
  · show win0_0.index t 0 * 4224 + 1 * k.val = _
    rw [h0]; omega
  · show win0_0.index t 1 * 512 + 1 * p.val = _
    rw [h1]; omega

theorem blk1 (t : Fin cfg0.N) (k : Fin 4224) (q : Fin 1408) : iblk m c 1 t (ix3 0 k q : S1x4224x1408.Idx)
    = cot (m ((c : Thread nD τ).loc main_arg1)) k.val (1408 * (t.val % 8) + q.val) := by
  obtain ⟨h0, h1, h2⟩ := idx1 t
  unfold iblk
  rw [View.read_apply]
  show V m c main_arg1 _ = _
  rw [V_main_arg1]
  refine E3_at (L := 2) (M := 4224) (N := 5632) _ _ ?_ ?_ ?_
  · show win0_1.index t 0 * 1 + 1 * 0 = _
    rw [h0]; omega
  · show win0_1.index t 1 * 4224 + 1 * k.val = _
    rw [h1]; omega
  · show win0_1.index t 2 * 1408 + 1 * q.val = _
    rw [h2]; omega

/-- What a point leaves in its output block. -/
theorem val (t : Fin cfg0.N) (p : Fin 512) (q : Fin 1408) : k0_pay2 (F := Ideal) (scr m c t) (iblk m c 1 t) (ix3 0 p q : S1x512x1408.Idx)
    = ∑ k : Fin 4224, E2 (m ((c : Thread nD τ).loc main_arg0) : FVec Ideal S4224x2048 .bf16) k.val (512 * (t.val / 8) + p.val)
      * cot (m ((c : Thread nD τ).loc main_arg1)) k.val (1408 * (t.val % 8) + q.val) := by
  unfold scr
  rw [pay]
  refine Finset.sum_congr rfl fun k _ => ?_
  rw [blk0, blk1]

theorem mem2 (t : Fin cfg0.N) (i : S4x2048x2816.Idx) : i ∈ ((cfg0.win 2).blk t).view.set
    ↔ ∀ a, win0_2.index t a * win0_2.size a ≤ (i a).val ∧ (i a).val < win0_2.index t a * win0_2.size a + (cfg0.win 2).xsize (cfg0.grid.coords t) a := by
  show i ∈ ((View.whole main_v0).slice (win0_2.rect t)).set ↔ _
  rw [View.set_slice_whole, Rect.mem_set_unit]

/-- The array after the run is the product. -/
theorem arr : (dats m 0 c).arrAt 2 cfg0.N = prod (m ((c : Thread nD τ).loc main_arg0)) (m ((c : Thread nD τ).loc main_arg1)) := by
  refine (dats m 0 c).arrAt_eq_of_cover 2 _ (fun t hf => ?_) (fun i => ?_)
  · rw [show (dats m 0 c).flushed 2 t = (cfg0.win 2).cut (grid0.coords t) (k0_pay2 (scr m c t) (iblk m c 1 t)) from rfl]
    obtain ⟨h0, h1, h2⟩ := idx2 t
    refine funext fun (y : S1x512x1408.Idx) => ?_
    rw [View.read_apply]
    refine Eq.trans (b := k0_pay2 (F := Ideal) (scr m c t) (iblk m c 1 t) y) rfl ?_
    obtain ⟨p, q, rfl⟩ : ∃ (p : Fin 512) (q : Fin 1408), y = ix3 0 p q := by
      refine ⟨y 1, y 2, (eq_ix3 y).trans ?_⟩
      rw [show y 0 = (0 : Fin 1) from Subsingleton.elim (α := Fin 1) _ _]
    rw [val]
    have e0 : ((((cfg0.win 2).blk t).view.emb (ix3 0 p q : S1x512x1408.Idx) : S4x2048x2816.Idx) 0).val = t.val % 8 / 2 := by
      show win0_2.index t 0 * 1 + 1 * 0 = _
      rw [h0]; omega
    have e1 : ((((cfg0.win 2).blk t).view.emb (ix3 0 p q : S1x512x1408.Idx) : S4x2048x2816.Idx) 1).val = 512 * (t.val / 8) + p.val := by
      show win0_2.index t 1 * 512 + 1 * p.val = _
      rw [h1]; omega
    have e2 : ((((cfg0.win 2).blk t).view.emb (ix3 0 p q : S1x512x1408.Idx) : S4x2048x2816.Idx) 2).val = 1408 * (t.val % 8 % 2) + q.val := by
      show win0_2.index t 2 * 1408 + 1 * q.val = _
      rw [h2]; omega
    have e3 : 1408 * (t.val % 8) + q.val = 2816 * (t.val % 8 / 2) + (1408 * (t.val % 8 % 2) + q.val) := by omega
    rw [e3, ← e0, ← e1, ← e2]
    rfl
  · have b0 : (i 0).val < 4 := (i 0).isLt
    have b1 : (i 1).val < 2048 := (i 1).isLt
    have b2 : (i 2).val < 2816 := (i 2).isLt
    obtain ⟨T, hT⟩ : ∃ T : Fin cfg0.N, T.val = 8 * ((i 1).val / 512) + (2 * (i 0).val + (i 2).val / 1408) := ⟨⟨_, (by omega : _ < 32)⟩, rfl⟩
    obtain ⟨h0, h1, h2⟩ := idx2 T
    refine ⟨T, flush0_2 T, (mem2 T i).mpr fun a => ?_⟩
    rw [xs2]
    match a with
    | ⟨0, _⟩ =>
      show win0_2.index T 0 * 1 ≤ (i 0).val ∧ (i 0).val < win0_2.index T 0 * 1 + 1
      rw [h0]; omega
    | ⟨1, _⟩ =>
      show win0_2.index T 1 * 512 ≤ (i 1).val ∧ (i 1).val < win0_2.index T 1 * 512 + 512
      rw [h1]; omega
    | ⟨2, _⟩ =>
      show win0_2.index T 2 * 1408 ≤ (i 2).val ∧ (i 2).val < win0_2.index T 2 * 1408 + 1408
      rw [h2]; omega

open Cert.Reference4Ideal.Read in
/-- The reference's cotangent: its two halves concatenated. -/
theorem cat (w : FVec Ideal S2x4224x5632 .bf16) (i : Cert.Reference4Ideal.S4224x11264.Idx) {k j : ℕ} (h0 : (i 0).val = k) (h1 : (i 1).val = j) :
    val_main_v8 (F := Ideal) w i = cot w k j := by
  have b1 : (i 1).val < 11264 := (i 1).isLt
  have b0 : (i 0).val < 4224 := (i 0).isLt
  rw [val_main_v8_apply]
  show val_main_v4 (F := Ideal) w i = _
  unfold val_main_v4
  by_cases h : j < 5632
  · refine (concatenate_pair_apply_left (s₁ := Cert.Reference4Ideal.S4224x5632) (s₂ := Cert.Reference4Ideal.S4224x5632) (1 : Fin 2) _ _ _ i rfl (ix2 (i 0) ⟨(i 1).val, by omega⟩ : Cert.Reference4Ideal.S4224x5632.Idx) (fun b => ?_)).trans ?_
    · match b with
      | ⟨0, _⟩ => rfl
      | ⟨1, _⟩ => rfl
    · rw [val_main_v1_apply, val_main_v0_apply]
      refine E3_at w _ ?_ ?_ ?_
      · show 0 = _; omega
      · show ((i 0).val * 5632 + (i 1).val) / 5632 % 4224 = _; omega
      · show ((i 0).val * 5632 + (i 1).val) % 5632 = _; omega
  · refine (concatenate_pair_apply_right (s₁ := Cert.Reference4Ideal.S4224x5632) (s₂ := Cert.Reference4Ideal.S4224x5632) (1 : Fin 2) _ _ _ i rfl rfl (ix2 (i 0) ⟨(i 1).val - 5632, by omega⟩ : Cert.Reference4Ideal.S4224x5632.Idx) (fun b hb => ?_) ?_).trans ?_
    · match b, hb with
      | ⟨0, _⟩, _ => rfl
      | ⟨1, _⟩, hb => exact absurd rfl hb
    · show (i 1).val - 5632 + 5632 = (i 1).val
      omega
    · rw [val_main_v3_apply, val_main_v2_apply]
      refine E3_at w _ ?_ ?_ ?_
      · show 1 + 0 = _; omega
      · show ((i 0).val * 5632 + ((i 1).val - 5632)) / 5632 % 4224 = _; omega
      · show ((i 0).val * 5632 + ((i 1).val - 5632)) % 5632 = _; omega

open Cert.Reference4Ideal.Read in
/-- The reference's transposed product. -/
theorem ref10 (x : FVec Ideal S4224x2048 .bf16) (w : FVec Ideal S2x4224x5632 .bf16) (i : Cert.Reference4Ideal.S2048x11264.Idx) {r j : ℕ}
    (h0 : (i 0).val = r) (h1 : (i 1).val = j) : val_main_v10 (F := Ideal) x w i = ∑ k : Fin 4224, E2 x k.val r * cot w k.val j := by
  rw [val_main_v10_apply, val_main_v9_apply]
  refine Finset.sum_congr rfl fun k _ => (mul_comm _ _).trans (congrArg₂ (· * ·) ?_ ?_)
  · exact E2_at x _ rfl h0
  · exact cat w _ rfl h1

open Cert.Reference4Ideal.Read in
theorem ref (x : FVec Ideal S4224x2048 .bf16) (w : FVec Ideal S2x4224x5632 .bf16) : val_main_v19 (F := Ideal) x w = prod x w := by
  refine funext fun (i : S4x2048x2816.Idx) => ?_
  have b0 : (i 0).val < 4 := (i 0).isLt
  unfold val_main_v19
  refine (concatenate_ofFn_unit_apply (t := S4x2048x2816) (s₁ := Cert.Reference4Ideal.S1x2048x2816) (0 : Fin 3)
    (fun n : Fin 4 => match n with
      | 0 => val_main_v15 (F := Ideal) x w
      | 1 => val_main_v16 (F := Ideal) x w
      | 2 => val_main_v17 (F := Ideal) x w
      | 3 => val_main_v18 (F := Ideal) x w)
    _ rfl rfl i (i 0) rfl (ix3 (0 : Fin 1) (i 1) (i 2) : Cert.Reference4Ideal.S1x2048x2816.Idx) (fun b hb => ?_)).trans ?_
  · match b, hb with
    | ⟨0, _⟩, hb => exact absurd rfl hb
    | ⟨1, _⟩, _ => rfl
    | ⟨2, _⟩, _ => rfl
  · show _ = ∑ k : Fin 4224, E2 x k.val (i 1).val * cot w k.val (2816 * (i 0).val + (i 2).val)
    obtain ⟨s, hs⟩ : ∃ s : Fin 4, i 0 = s := ⟨i 0, rfl⟩
    rw [hs]
    match s with
    | 0 =>
      show val_main_v15 (F := Ideal) x w _ = _
      rw [val_main_v15_apply, val_main_v11_apply]
      exact ref10 x w _ rfl (show (i 2).val = 2816 * 0 + (i 2).val by omega)
    | 1 =>
      show val_main_v16 (F := Ideal) x w _ = _
      rw [val_main_v16_apply, val_main_v12_apply]
      exact ref10 x w _ rfl rfl
    | 2 =>
      show val_main_v17 (F := Ideal) x w _ = _
      rw [val_main_v17_apply, val_main_v13_apply]
      exact ref10 x w _ rfl rfl
    | 3 =>
      show val_main_v18 (F := Ideal) x w _ = _
      rw [val_main_v18_apply, val_main_v14_apply]
      exact ref10 x w _ rfl rfl

theorem algebraic : Cert.algebraic_Kernel4Ideal_Reference4Ideal := by
  intro m g m' g' _ hagree
  refine ⟨fun c => (dats m 0 c).arrAt 2 cfg0.N, run_value m g, ?_⟩
  refine (θ_run Cert.Reference4Ideal.defs _ _).mono (fun r h c => ⟨(h c).1.trans ?_, (h c).2⟩) (Cert.Reference4Ideal.Value.run (F := Ideal) m' g')
  obtain ⟨a0, a1⟩ := hagree c
  refine Eq.trans ?_ (arr m c).symm
  rw [Cert.Reference4Ideal.Read.val_main_v19_eq, a0, a1]
  exact ref _ _

/-- The kernel before idealization calls the same bodies. -/
theorem bodies : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | 0, (t, s) => rfl
  | ⟨_ + 1, h⟩, _ => exact absurd h (Nat.not_lt.2 (Nat.le_add_left _ _))

/-- So its run is the same run, over machine floats. -/
theorem frame_kernel : Cert.quiescent_Kernel4 := fun m ρ _ => by
  rw [show Cert.Kernel4.defs (F := Bits) = Cert.Kernel4Ideal.defs (F := Bits) from congrArg (Pipeline.defs Cert.Kernel4Ideal.pcfgs) bodies]
  exact Cert.Tn4.quiet (F := Bits) m ρ

theorem frame_r : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

end Cert.Mm4

end
-- ==== Proof.Mm5.lean ====
/-
  THE GRADIENT OF THE FEED-FORWARD INPUT. The contracted axis is taken in two halves, one for each piece of the
  cotangent. The first point of a pair leaves its block product in the accumulator; the second adds its own and writes
  the sum, so the array written back is the matrix product over the whole axis.
-/
module

public import proofs.«01_k».proof.Defs
public import proofs.«01_k».proof.Proof.Mm
public import proofs.«01_k».proof.Proof.Gen.Kernel5Ideal.Value
public import proofs.«01_k».proof.Proof.Gen.Reference5Ideal.Read
public import proofs.«01_k».proof.Proof.Gen.Reference5Ideal.Run

@[expose] public section

set_option maxRecDepth 16384

noncomputable section

namespace Cert.Mm5

open Idealize.ShloMosaic Idealize.ShloMosaic.TcCoe Idealize.SL.Sem Cert.Kernel5Ideal Cert.Kernel5Ideal.Gen Cert.Kernel5Ideal.Value
open Idealize.ShloMosaic.Pipeline Cert.Mm

/-- One term of the product both programs compute. -/
def term (x : FVec Ideal S2x4224x5632 .bf16) (w : FVec Ideal S2048x11264 .bf16) (r s k : ℕ) : EReal :=
  E3 x (k / 5632) r (k % 5632) * E2 w s k

/-- The product both programs compute. -/
def prod (x : FVec Ideal S2x4224x5632 .bf16) (w : FVec Ideal S2048x11264 .bf16) : FVec Ideal S4224x2048 .f32 :=
  fun i => ∑ k : Fin (5632 + 5632), term x w (i 0).val (i 1).val k.val

theorem pay (x : Vec Ideal S1x1056x5632 .bf16) (w : Vec Ideal S512x5632 .bf16) (p : Fin 1056) (q : Fin 512) :
    k0_pay1 (F := Ideal) x w (ix2 p q) = ∑ k : Fin 5632, x (ix3 0 p k) * w (ix2 q k) := by
  pointwise [k0_pay1]

variable (m : (ℓ : Loc nD τ sig) → Buf (Elt Ideal) ℓ) (c : Dev nD)

theorem idx0 : ∀ t : Fin cfg0.N, win0_0.index t 0 = t.val % 2 ∧ win0_0.index t 1 = t.val / 8 ∧ win0_0.index t 2 = 0 :=
  (by decide +kernel : ∀ t : Fin grid0.N, _)
theorem idx1 : ∀ t : Fin cfg0.N, win0_1.index t 0 = t.val / 2 % 4 ∧ win0_1.index t 1 = t.val % 2 := (by decide +kernel : ∀ t : Fin grid0.N, _)
theorem idx2 : ∀ t : Fin cfg0.N, win0_2.index t 0 = t.val / 8 ∧ win0_2.index t 1 = t.val / 2 % 4 := (by decide +kernel : ∀ t : Fin grid0.N, _)
theorem xs2 : ∀ (t : Fin cfg0.N) (a), (cfg0.win 2).xsize (cfg0.grid.coords t) a = (cfg0.win 2).size a := by decide +kernel

/-- The first point of a pair leaves its block product in the accumulator. -/
theorem accA (c : Dev nD) (i : grid0.Coords) (arg3 : Memref sig .tc .vmem S1x1056x5632 .bf16) (harg3 : arg3.IsWhole) (arg4 : Memref sig .tc .vmem S512x5632 .bf16) (harg4 : arg4.IsWhole) (arg5 : Memref sig .tc .vmem S1056x512 .f32) (harg5 : arg5.IsWhole) (arg6 : Memref sig .tc .vmem S1056x512 .f32) (harg6 : arg6.IsWhole) (hc0 : cond0_0 i) (hc1 : ¬cond0_1 i) (hc2 : ¬cond0_2 i)
    (x : Vec Ideal S1x1056x5632 .bf16) (w : Vec Ideal S512x5632 .bf16) : sout0_A_0 (F := Ideal) c i arg3 harg3 arg4 harg4 arg5 harg5 arg6 harg6 hc0 hc1 hc2 x w = k0_pay1 x w := by
  unfold sout0_A_0
  rw [View.read_writes_eq_canon _ _ _ (fun _ => scover0_A_0 ..)]
  unfold kernelRun0_A
  dsimp only
  sl_unfold_words
  rw [View.canon_unit_zero (S := S1056x512) z2]
  simp only [View.readAt_eq_ld, harg3.read_unread, harg4.read_unread, View.ld_unit_zero (S := S1x1056x5632) z3, View.ld_unit_zero (S := S512x5632) z2, k0_pay2, shapeCast_self]

/-- The second adds its own block product to what it finds there. -/
theorem outB (c : Dev nD) (i : grid0.Coords) (arg3 : Memref sig .tc .vmem S1x1056x5632 .bf16) (harg3 : arg3.IsWhole) (arg4 : Memref sig .tc .vmem S512x5632 .bf16) (harg4 : arg4.IsWhole) (arg5 : Memref sig .tc .vmem S1056x512 .f32) (harg5 : arg5.IsWhole) (arg6 : Memref sig .tc .vmem S1056x512 .f32) (harg6 : arg6.IsWhole) (hc0 : ¬cond0_0 i) (hc1 : ¬cond0_1 i) (hc2 : cond0_2 i)
    (x : Vec Ideal S1x1056x5632 .bf16) (w : Vec Ideal S512x5632 .bf16) (a : Vec Ideal S1056x512 .f32) :
    out0_B_2 (F := Ideal) c i arg3 harg3 arg4 harg4 arg5 harg5 arg6 harg6 hc0 hc1 hc2 x w a = k0_pay4 x w a := by
  unfold out0_B_2
  rw [View.read_writes_eq_canon _ _ _ (fun _ => cover0_B_2 ..)]
  unfold kernelRun0_B
  dsimp only
  sl_unfold_words
  rw [View.canon_unit_zero (S := S1056x512) z2]
  simp only [View.readAt_eq_ld, harg3.read_unread, harg4.read_unread, harg6.read_unread, View.ld_unit_zero (S := S1x1056x5632) z3, View.ld_unit_zero (S := S512x5632) z2, View.ld_unit_zero (S := S1056x512) z2]

/-- The point before. -/
def prev (t : Fin cfg0.N) : Fin cfg0.N := ⟨t.val - 1, Nat.lt_of_le_of_lt (Nat.sub_le _ _) t.isLt⟩

theorem out (t : Fin cfg0.N) (h : t.val % 2 = 1) : (outsAt0 m c t.val t.isLt).1
    = k0_pay4 (F := Ideal) (iblk m c 0 t) (iblk m c 1 t) (k0_pay1 (iblk m c 0 (prev t)) (iblk m c 1 (prev t))) := by
  have e := congrArg Prod.fst (outsAt0_B m c t (by omega) h)
  rw [outB] at e
  have e' := congrArg Prod.snd (outsAt0_A m c (prev t) (by show (t.val - 1) % 2 = 0; omega) (by show ¬(t.val - 1) % 2 = 1; omega))
  rw [accA] at e'
  exact e.trans (congrArg (k0_pay4 (F := Ideal) (iblk m c 0 t) (iblk m c 1 t)) e')

theorem blk0 (t : Fin cfg0.N) (p : Fin 1056) (k : Fin 5632) : iblk m c 0 t (ix3 0 p k : S1x1056x5632.Idx)
    = E3 (m ((c : Thread nD τ).loc main_arg0) : FVec Ideal S2x4224x5632 .bf16) (t.val % 2) (1056 * (t.val / 8) + p.val) k.val := by
  obtain ⟨h0, h1, h2⟩ := idx0 t
  unfold iblk
  rw [View.read_apply]
  show V m c main_arg0 _ = _
  rw [V_main_arg0]
  refine E3_at (L := 2) (M := 4224) (N := 5632) _ _ ?_ ?_ ?_
  · show win0_0.index t 0 * 1 + 1 * 0 = _
    rw [h0]; omega
  · show win0_0.index t 1 * 1056 + 1 * p.val = _
    rw [h1]; omega
  · show win0_0.index t 2 * 5632 + 1 * k.val = _
    rw [h2]; omega

theorem blk1 (t : Fin cfg0.N) (q : Fin 512) (k : Fin 5632) : iblk m c 1 t (ix2 q k : S512x5632.Idx)
    = E2 (m ((c : Thread nD τ).loc main_arg1) : FVec Ideal S2048x11264 .bf16) (512 * (t.val / 2 % 4) + q.val) (5632 * (t.val % 2) + k.val) := by
  obtain ⟨h0, h1⟩ := idx1 t
  unfold iblk
  rw [View.read_apply]
  show V m c main_arg1 _ = _
  rw [V_main_arg1]
  refine E2_at (M := 2048) (N := 11264) _ _ ?_ ?_
  · show win0_1.index t 0 * 512 + 1 * q.val = _
    rw [h0]; omega
  · show win0_1.index t 1 * 5632 + 1 * k.val = _
    rw [h1]; omega

/-- A point's block product. -/
theorem val (t : Fin cfg0.N) (p : Fin 1056) (q : Fin 512) : k0_pay1 (F := Ideal) (iblk m c 0 t) (iblk m c 1 t) (ix2 p q : S1056x512.Idx)
    = ∑ k : Fin 5632, term (m ((c : Thread nD τ).loc main_arg0)) (m ((c : Thread nD τ).loc main_arg1))
      (1056 * (t.val / 8) + p.val) (512 * (t.val / 2 % 4) + q.val) (5632 * (t.val % 2) + k.val) := by
  rw [pay]
  refine Finset.sum_congr rfl fun k _ => ?_
  have hk := k.isLt
  unfold term
  rw [blk0, blk1, show (5632 * (t.val % 2) + k.val) / 5632 = t.val % 2 by omega, show (5632 * (t.val % 2) + k.val) % 5632 = k.val by omega]

/-- What the second point of a pair leaves in its output block. -/
theorem val2 (t : Fin cfg0.N) (h : t.val % 2 = 1) (p : Fin 1056) (q : Fin 512) : (outsAt0 m c t.val t.isLt).1 (ix2 p q : S1056x512.Idx)
    = ∑ k : Fin (5632 + 5632), term (m ((c : Thread nD τ).loc main_arg0)) (m ((c : Thread nD τ).loc main_arg1))
      (1056 * (t.val / 8) + p.val) (512 * (t.val / 2 % 4) + q.val) k.val := by
  rw [out m c t h]
  show k0_pay1 (F := Ideal) (iblk m c 0 (prev t)) (iblk m c 1 (prev t)) (ix2 p q) + k0_pay1 (F := Ideal) (iblk m c 0 t) (iblk m c 1 t) (ix2 p q) = _
  rw [val, val, ← sum_two]
  have hp : (prev t).val = t.val - 1 := rfl
  rw [hp, show (t.val - 1) % 2 = 0 by omega, h, show (t.val - 1) / 8 = t.val / 8 by omega, show (t.val - 1) / 2 % 4 = t.val / 2 % 4 by omega]
  simp only [Nat.mul_zero, Nat.zero_add, Nat.mul_one]

theorem mem2 (t : Fin cfg0.N) (i : S4224x2048.Idx) : i ∈ ((cfg0.win 2).blk t).view.set
    ↔ ∀ a, win0_2.index t a * win0_2.size a ≤ (i a).val ∧ (i a).val < win0_2.index t a * win0_2.size a + (cfg0.win 2).xsize (cfg0.grid.coords t) a := by
  show i ∈ ((View.whole main_v0).slice (win0_2.rect t)).set ↔ _
  rw [View.set_slice_whole, Rect.mem_set_unit]

/-- The array after the run is the product. -/
theorem arr : (dats m 0 c).arrAt 2 cfg0.N = prod (m ((c : Thread nD τ).loc main_arg0)) (m ((c : Thread nD τ).loc main_arg1)) := by
  refine (dats m 0 c).arrAt_eq_of_cover 2 _ (fun t hf => ?_) (fun i => ?_)
  · have h : t.val % 2 = 1 := (flush0_2 t).mp hf
    rw [flushed2]
    obtain ⟨h0, h1⟩ := idx2 t
    refine funext fun (y : S1056x512.Idx) => ?_
    rw [View.read_apply]
    refine Eq.trans (b := (outsAt0 m c t.val t.isLt).1 y) rfl ?_
    obtain ⟨p, q, rfl⟩ : ∃ (p : Fin 1056) (q : Fin 512), y = ix2 p q := ⟨y 0, y 1, eq_ix2 y⟩
    rw [val2 m c t h]
    have e0 : ((((cfg0.win 2).blk t).view.emb (ix2 p q : S1056x512.Idx) : S4224x2048.Idx) 0).val = 1056 * (t.val / 8) + p.val := by
      show win0_2.index t 0 * 1056 + 1 * p.val = _
      rw [h0]; omega
    have e1 : ((((cfg0.win 2).blk t).view.emb (ix2 p q : S1056x512.Idx) : S4224x2048.Idx) 1).val = 512 * (t.val / 2 % 4) + q.val := by
      show win0_2.index t 1 * 512 + 1 * q.val = _
      rw [h1]; omega
    rw [← e0, ← e1]
    rfl
  · have b0 : (i 0).val < 4224 := (i 0).isLt
    have b1 : (i 1).val < 2048 := (i 1).isLt
    obtain ⟨T, hT⟩ : ∃ T : Fin cfg0.N, T.val = 8 * ((i 0).val / 1056) + 2 * ((i 1).val / 512) + 1 := ⟨⟨_, (by omega : _ < 32)⟩, rfl⟩
    obtain ⟨h0, h1⟩ := idx2 T
    refine ⟨T, (flush0_2 T).mpr (by omega), (mem2 T i).mpr fun a => ?_⟩
    rw [xs2]
    match a with
    | ⟨0, _⟩ =>
      show win0_2.index T 0 * 1056 ≤ (i 0).val ∧ (i 0).val < win0_2.index T 0 * 1056 + 1056
      rw [h0]; omega
    | ⟨1, _⟩ =>
      show win0_2.index T 1 * 512 ≤ (i 1).val ∧ (i 1).val < win0_2.index T 1 * 512 + 512
      rw [h1]; omega

open Cert.Reference5Ideal.Read in
theorem ref (x : FVec Ideal S2x4224x5632 .bf16) (w : FVec Ideal S2048x11264 .bf16) : val_main_v9 (F := Ideal) x w = prod x w := by
  funext i
  rw [val_main_v9_apply]
  refine Finset.sum_congr rfl fun k _ => congrArg₂ (· * ·) ?_ (E2_at w _ rfl rfl)
  rw [val_main_v8_apply]
  refine Eq.trans (b := val_main_v4 (F := Ideal) x (lidx_main_v9 i k)) rfl ?_
  unfold val_main_v4
  have hk : k.val < 11264 := k.isLt
  have b0 : (i 0).val < 4224 := (i 0).isLt
  by_cases h : k.val < 5632
  · refine (concatenate_pair_apply_left (s₁ := Cert.Reference5Ideal.S4224x5632) (s₂ := Cert.Reference5Ideal.S4224x5632) (1 : Fin 2) _ _ _
      (lidx_main_v9 i k) rfl (ix2 ⟨(i 0).val, b0⟩ ⟨k.val, h⟩ : Cert.Reference5Ideal.S4224x5632.Idx) (fun b => ?_)).trans ?_
    · match b with
      | ⟨0, _⟩ => rfl
      | ⟨1, _⟩ => rfl
    · rw [val_main_v1_apply, val_main_v0_apply]
      refine E3_at x _ ?_ ?_ ?_
      · rw [Nat.div_eq_of_lt h]
      · show ((i 0).val * 5632 + k.val) / 5632 % 4224 = (i 0).val
        omega
      · show ((i 0).val * 5632 + k.val) % 5632 = k.val % 5632
        omega
  · refine (concatenate_pair_apply_right (s₁ := Cert.Reference5Ideal.S4224x5632) (s₂ := Cert.Reference5Ideal.S4224x5632) (1 : Fin 2) _ _ _
      (lidx_main_v9 i k) rfl rfl (ix2 ⟨(i 0).val, b0⟩ ⟨k.val - 5632, by omega⟩ : Cert.Reference5Ideal.S4224x5632.Idx) (fun b hb => ?_) ?_).trans ?_
    · match b, hb with
      | ⟨0, _⟩, _ => rfl
      | ⟨1, _⟩, hb => exact absurd rfl hb
    · show k.val - 5632 + 5632 = k.val
      omega
    · rw [val_main_v3_apply, val_main_v2_apply]
      refine E3_at x _ ?_ ?_ ?_
      · show 1 + 0 = k.val / 5632
        omega
      · show ((i 0).val * 5632 + (k.val - 5632)) / 5632 % 4224 = (i 0).val
        omega
      · show ((i 0).val * 5632 + (k.val - 5632)) % 5632 = k.val % 5632
        omega

theorem algebraic : Cert.algebraic_Kernel5Ideal_Reference5Ideal := by
  intro m g m' g' _ hagree
  refine ⟨fun c => (dats m 0 c).arrAt 2 cfg0.N, run_blocks m g, ?_⟩
  refine (θ_run Cert.Reference5Ideal.defs _ _).mono (fun r h c => ⟨(h c).1.trans ?_, (h c).2⟩) (Cert.Reference5Ideal.Value.run (F := Ideal) m' g')
  obtain ⟨a0, a1⟩ := hagree c
  refine Eq.trans ?_ (arr m c).symm
  rw [Cert.Reference5Ideal.Read.val_main_v9_eq, a0, a1]
  exact ref _ _

theorem frame_r : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

end Cert.Mm5

end
-- ==== Proof.Mm6.lean ====
/-
  THE GRADIENT OF THE FEED-FORWARD ACTIVATIONS. Each grid point multiplies one block of rows of the cotangent by one block of rows
  of the weights, over the whole contracted axis, so the array written back is the matrix product.
-/
module

public import proofs.«01_k».proof.Defs
public import proofs.«01_k».proof.Proof.Mm
public import proofs.«01_k».proof.Proof.Gen.Kernel6Ideal.Value
public import proofs.«01_k».proof.Proof.Gen.Reference6Ideal.Read
public import proofs.«01_k».proof.Proof.Gen.Reference6Ideal.Run

@[expose] public section

set_option maxRecDepth 16384

noncomputable section

namespace Cert.Mm6

open Idealize.ShloMosaic Idealize.ShloMosaic.TcCoe Idealize.SL.Sem Cert.Kernel6Ideal Cert.Kernel6Ideal.Gen Cert.Kernel6Ideal.Value
open Idealize.ShloMosaic.Pipeline Cert.Mm

/-- The product both programs compute. -/
def prod (x : FVec Ideal S4224x2048 .bf16) (w : FVec Ideal S5632x2048 .bf16) : FVec Ideal S4224x5632 .f32 :=
  fun i => ∑ k : Fin 2048, E2 x (i 0).val k.val * E2 w (i 1).val k.val

theorem pay (x : Vec Ideal S1056x2048 .bf16) (w : Vec Ideal S1408x2048 .bf16) (p : Fin 1056) (q : Fin 1408) :
    k0_pay1 (F := Ideal) x w (ix2 p q) = ∑ k : Fin 2048, x (ix2 p k) * w (ix2 q k) := by
  pointwise [k0_pay1]

variable (m : (ℓ : Loc nD τ sig) → Buf (Elt Ideal) ℓ) (c : Dev nD)

theorem idx0 : ∀ t : Fin cfg0.N, win0_0.index t 0 = t.val / 4 ∧ win0_0.index t 1 = 0 := (by decide +kernel : ∀ t : Fin grid0.N, _)
theorem idx1 : ∀ t : Fin cfg0.N, win0_1.index t 0 = t.val % 4 ∧ win0_1.index t 1 = 0 := (by decide +kernel : ∀ t : Fin grid0.N, _)
theorem idx2 : ∀ t : Fin cfg0.N, win0_2.index t 0 = t.val / 4 ∧ win0_2.index t 1 = t.val % 4 := (by decide +kernel : ∀ t : Fin grid0.N, _)
theorem xs2 : ∀ (t : Fin cfg0.N) (a), (cfg0.win 2).xsize (cfg0.grid.coords t) a = (cfg0.win 2).size a := by decide +kernel

theorem out (x : Vec Ideal S1056x2048 .bf16) (w : Vec Ideal S1408x2048 .bf16) : out0_2 (F := Ideal) x w = k0_pay1 x w := by
  unfold out0_2
  rw [View.canon_unit_zero (S := S1056x1408) z2, View.ld_unit_zero (S := S1056x2048) z2, View.ld_unit_zero (S := S1408x2048) z2]

theorem blk0 (t : Fin cfg0.N) (p : Fin 1056) (k : Fin 2048) : iblk m c 0 t (ix2 p k : S1056x2048.Idx)
    = E2 (m ((c : Thread nD τ).loc main_arg0) : FVec Ideal S4224x2048 .bf16) (1056 * (t.val / 4) + p.val) k.val := by
  obtain ⟨h0, h1⟩ := idx0 t
  unfold iblk
  rw [View.read_apply]
  show V m c main_arg0 _ = _
  rw [V_main_arg0]
  refine E2_at (M := 4224) (N := 2048) _ _ ?_ ?_
  · show win0_0.index t 0 * 1056 + 1 * p.val = _
    rw [h0]; omega
  · show win0_0.index t 1 * 2048 + 1 * k.val = _
    rw [h1]; omega

theorem blk1 (t : Fin cfg0.N) (q : Fin 1408) (k : Fin 2048) : iblk m c 1 t (ix2 q k : S1408x2048.Idx)
    = E2 (m ((c : Thread nD τ).loc main_arg1) : FVec Ideal S5632x2048 .bf16) (1408 * (t.val % 4) + q.val) k.val := by
  obtain ⟨h0, h1⟩ := idx1 t
  unfold iblk
  rw [View.read_apply]
  show V m c main_arg1 _ = _
  rw [V_main_arg1]
  refine E2_at (M := 5632) (N := 2048) _ _ ?_ ?_
  · show win0_1.index t 0 * 1408 + 1 * q.val = _
    rw [h0]; omega
  · show win0_1.index t 1 * 2048 + 1 * k.val = _
    rw [h1]; omega

/-- What a point leaves in its output block. -/
theorem val (t : Fin cfg0.N) (p : Fin 1056) (q : Fin 1408) : k0_pay1 (F := Ideal) (iblk m c 0 t) (iblk m c 1 t) (ix2 p q : S1056x1408.Idx)
    = ∑ k : Fin 2048, E2 (m ((c : Thread nD τ).loc main_arg0) : FVec Ideal S4224x2048 .bf16) (1056 * (t.val / 4) + p.val) k.val
      * E2 (m ((c : Thread nD τ).loc main_arg1) : FVec Ideal S5632x2048 .bf16) (1408 * (t.val % 4) + q.val) k.val := by
  rw [pay]
  refine Finset.sum_congr rfl fun k _ => ?_
  rw [blk0, blk1]

theorem mem2 (t : Fin cfg0.N) (i : S4224x5632.Idx) : i ∈ ((cfg0.win 2).blk t).view.set
    ↔ ∀ a, win0_2.index t a * win0_2.size a ≤ (i a).val ∧ (i a).val < win0_2.index t a * win0_2.size a + (cfg0.win 2).xsize (cfg0.grid.coords t) a := by
  show i ∈ ((View.whole main_v0).slice (win0_2.rect t)).set ↔ _
  rw [View.set_slice_whole, Rect.mem_set_unit]

/-- The array after the run is the product. -/
theorem arr : (dats m 0 c).arrAt 2 cfg0.N = prod (m ((c : Thread nD τ).loc main_arg0)) (m ((c : Thread nD τ).loc main_arg1)) := by
  refine (dats m 0 c).arrAt_eq_of_cover 2 _ (fun t hf => ?_) (fun i => ?_)
  · rw [flushed2, out]
    obtain ⟨h0, h1⟩ := idx2 t
    refine funext fun (y : S1056x1408.Idx) => ?_
    rw [View.read_apply]
    refine Eq.trans (b := k0_pay1 (F := Ideal) (iblk m c 0 t) (iblk m c 1 t) y) rfl ?_
    obtain ⟨p, q, rfl⟩ : ∃ (p : Fin 1056) (q : Fin 1408), y = ix2 p q := ⟨y 0, y 1, eq_ix2 y⟩
    rw [val]
    have e0 : ((((cfg0.win 2).blk t).view.emb (ix2 p q : S1056x1408.Idx) : S4224x5632.Idx) 0).val = 1056 * (t.val / 4) + p.val := by
      show win0_2.index t 0 * 1056 + 1 * p.val = _
      rw [h0]; omega
    have e1 : ((((cfg0.win 2).blk t).view.emb (ix2 p q : S1056x1408.Idx) : S4224x5632.Idx) 1).val = 1408 * (t.val % 4) + q.val := by
      show win0_2.index t 1 * 1408 + 1 * q.val = _
      rw [h1]; omega
    rw [← e0, ← e1]
    rfl
  · have b0 : (i 0).val < 4224 := (i 0).isLt
    have b1 : (i 1).val < 5632 := (i 1).isLt
    obtain ⟨T, hT⟩ : ∃ T : Fin cfg0.N, T.val = 4 * ((i 0).val / 1056) + (i 1).val / 1408 := ⟨⟨_, (by omega : _ < 16)⟩, rfl⟩
    obtain ⟨h0, h1⟩ := idx2 T
    refine ⟨T, flush0_2 T, (mem2 T i).mpr fun a => ?_⟩
    rw [xs2]
    match a with
    | ⟨0, _⟩ =>
      show win0_2.index T 0 * 1056 ≤ (i 0).val ∧ (i 0).val < win0_2.index T 0 * 1056 + 1056
      rw [h0]; omega
    | ⟨1, _⟩ =>
      show win0_2.index T 1 * 1408 ≤ (i 1).val ∧ (i 1).val < win0_2.index T 1 * 1408 + 1408
      rw [h1]; omega

theorem ref (x : FVec Ideal S4224x2048 .bf16) (w : FVec Ideal S5632x2048 .bf16) :
    Cert.Reference6Ideal.Read.val_main_v4 (F := Ideal) x w = prod x w := by
  funext i
  rw [Cert.Reference6Ideal.Read.val_main_v4_apply]
  refine Finset.sum_congr rfl fun k _ => congrArg₂ (· * ·) ?_ ?_
  · exact E2_at x _ rfl rfl
  · exact E2_at w _ rfl rfl

theorem algebraic : Cert.algebraic_Kernel6Ideal_Reference6Ideal := by
  intro m g m' g' _ hagree
  refine ⟨fun c => (dats m 0 c).arrAt 2 cfg0.N, run_blocks m g, ?_⟩
  refine (θ_run Cert.Reference6Ideal.defs _ _).mono (fun r h c => ⟨(h c).1.trans ?_, (h c).2⟩) (Cert.Reference6Ideal.Value.run (F := Ideal) m' g')
  obtain ⟨a0, a1⟩ := hagree c
  refine Eq.trans ?_ (arr m c).symm
  rw [Cert.Reference6Ideal.Read.val_main_v4_eq, a0, a1]
  exact ref _ _

theorem frame_r : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

end Cert.Mm6

end
-- ==== Proof.Tn7.lean ====
/-
  THE GRADIENT OF THE FEED-FORWARD DOWN WEIGHTS: THE RUN. The first point of a row of blocks transposes its block of
  activations into the scratch; every point multiplies what the scratch holds by its block of cotangents. The block of
  activations does not change along a row, so after every point the scratch holds that point's block transposed.
-/
module

public import proofs.«01_k».proof.Defs
public import proofs.«01_k».proof.Proof.Mm
public import proofs.«01_k».proof.Proof.Gen.Kernel7Ideal.Skeleton
public import proofs.«01_k».proof.Proof.Gen.Kernel7Ideal.Frame
public import Idealize.ShloMosaic.Lib.Claim

@[expose] public section

set_option maxRecDepth 16384

noncomputable section

namespace Cert.Tn7

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen Cert.Mm

variable {F : FTy → Type} [FloatOps F]

abbrev MM (F : FTy → Type) := MT nD τ sig Unit (Elt F) ℕ (UR sig nD τ) ℕ

theorem off1 (i : grid0.Coords) : k0_off1 i = ![0, 0, 0] := by
  have h : (i 2).val = 0 := by have h : (i 2).val < 1 := (i 2).isLt; omega
  unfold k0_off1; rw [h]; rfl
theorem off2 (i : grid0.Coords) : k0_off2 i = ![0, 0, 0] := by
  have h : (i 2).val = 0 := by have h : (i 2).val < 1 := (i 2).isLt; omega
  unfold k0_off2; rw [h]; rfl

theorem offz (i : grid0.Coords) : ![BitVec.toNat (Scalar.indexCast (BitVec.ofNat 32 (i 2).val)), 0, 0] = (fun _ => 0 : Fin 3 → ℕ) := by
  have h : k0_off1 i = ![0, 0, 0] := off1 i
  exact h.trans z3

/-! ## One point -/

set_option maxHeartbeats 1000000 in
/-- A point that fills the scratch. -/
theorem runA (c : Dev nD) (i : grid0.Coords) (arg3 : Memref sig .tc .vmem S4224x512 .bf16) (harg3 : arg3.IsWhole) (arg4 : Memref sig .tc .vmem S4224x1024 .bf16) (harg4 : arg4.IsWhole) (arg5 : Memref sig .tc .vmem S512x1024 .f32) (harg5 : arg5.IsWhole) (arg6 : Memref sig .tc .vmem S1x512x4224 .bf16) (harg6 : arg6.IsWhole) (hc : k0_cond1 i = 1#1)
    (x : Vec F S4224x512 .bf16) (w : Vec F S4224x1024 .bf16) (E : Set ℕ) (K : PUnit → sProp (MM F)) :
    iprop(owns (c : Thread nD τ) arg3 fullShare x ∗ owns (c : Thread nD τ) arg4 fullShare w ∗ (∃ d, owns (c : Thread nD τ) arg5 fullShare d) ∗ (∃ d, owns (c : Thread nD τ) arg6 fullShare d)
        ∗ (iprop(owns (c : Thread nD τ) arg3 fullShare x ∗ owns (c : Thread nD τ) arg4 fullShare w ∗ owns (c : Thread nD τ) arg5 fullShare (k0_pay2 (k0_pay1 x) w) ∗ owns (c : Thread nD τ) arg6 fullShare (k0_pay1 x)) -∗ K ⟨⟩))
      ⊢ wp frame (wpE (defs₀ (F := F)) Variants.none c none) E (cc0_dw_ffn_down i arg3 harg3 arg4 harg4 arg5 harg5 arg6 harg6) K := by
  simp only [cc0_dw_ffn_down_eq_skeleton]; unfold cc0_dw_ffn_down_skel
  simp only [off1, off2]
  unfold owns
  iintro ⟨⟨%f0, %hf0, H0⟩, ⟨%f1, %hf1, H1⟩, ⟨%d2, %f2, -, H2⟩, ⟨%ds0, %fs0, -, HS0⟩, Hk⟩
  obtain rfl := harg3.eq_unread hf0; obtain rfl := harg4.eq_unread hf1
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (View.cover_of_tiledL _ S512x1024.size (by sl_kernel_rfl))]
    sl_unfold_words
    refine (View.canon_unit_zero (S := S512x1024) z2 _ _).trans ?_
    simp only [View.readAt_eq_ld, harg3.read_unread, harg4.read_unread, View.ld_unit_zero (S := S4224x512) z2, View.ld_unit_zero (S := S4224x1024) z2]
    exact congrArg (fun s => k0_pay2 s w) (View.readCov_unit_zero (S := S1x512x4224) _ (offz i) _ _)
  iexists _; isplitr
  swap; · iexact HS0
  ipureintro
  sl_unfold_words
  refine (View.read_writes_eq_canon _ _ _ (fun y => ⟨_, List.mem_singleton_self _, View.mem_set_unit_zero (S := S1x512x4224) (offz i) (fun a => by rw [offz i]; exact (Nat.zero_add _).le) y⟩)).trans ?_
  refine (View.canon_unit_zero (S := S1x512x4224) (offz i) _ _).trans ?_
  simp only [View.readAt_eq_ld, harg3.read_unread, View.ld_unit_zero (S := S4224x512) z2]

set_option maxHeartbeats 1000000 in
/-- A point that finds the scratch filled. -/
theorem runB (c : Dev nD) (i : grid0.Coords) (arg3 : Memref sig .tc .vmem S4224x512 .bf16) (harg3 : arg3.IsWhole) (arg4 : Memref sig .tc .vmem S4224x1024 .bf16) (harg4 : arg4.IsWhole) (arg5 : Memref sig .tc .vmem S512x1024 .f32) (harg5 : arg5.IsWhole) (arg6 : Memref sig .tc .vmem S1x512x4224 .bf16) (harg6 : arg6.IsWhole) (hc : ¬k0_cond1 i = 1#1)
    (x : Vec F S4224x512 .bf16) (w : Vec F S4224x1024 .bf16) (s : Vec F S1x512x4224 .bf16) (E : Set ℕ) (K : PUnit → sProp (MM F)) :
    iprop(owns (c : Thread nD τ) arg3 fullShare x ∗ owns (c : Thread nD τ) arg4 fullShare w ∗ (∃ d, owns (c : Thread nD τ) arg5 fullShare d) ∗ owns (c : Thread nD τ) arg6 fullShare s
        ∗ (iprop(owns (c : Thread nD τ) arg3 fullShare x ∗ owns (c : Thread nD τ) arg4 fullShare w ∗ owns (c : Thread nD τ) arg5 fullShare (k0_pay2 s w) ∗ owns (c : Thread nD τ) arg6 fullShare s) -∗ K ⟨⟩))
      ⊢ wp frame (wpE (defs₀ (F := F)) Variants.none c none) E (cc0_dw_ffn_down i arg3 harg3 arg4 harg4 arg5 harg5 arg6 harg6) K := by
  simp only [cc0_dw_ffn_down_eq_skeleton]; unfold cc0_dw_ffn_down_skel
  simp only [off1, off2]
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (View.cover_of_tiledL _ S512x1024.size (by sl_kernel_rfl))]
    sl_unfold_words
    refine (View.canon_unit_zero (S := S512x1024) z2 _ _).trans ?_
    simp only [View.readAt_eq_ld, harg4.read_unread, harg6.read_unread, View.ld_unit_zero (S := S4224x1024) z2]
    exact congrArg (fun s => k0_pay2 s w) (View.ld_unit_zero (S := S1x512x4224) (offz i) _ _)
  iexists _; isplitr; · ipureintro; exact harg6.read_unread _
  iexact HS0

/-! ## The points in order -/

theorem hcond : ∀ t : Fin cfg0.N, k0_cond1 (grid0.coords t) = 1#1 ↔ t.val % 2 = 0 := (by decide +kernel : ∀ t : Fin grid0.N, _)
theorem row0 : ∀ t : Fin cfg0.N, win0_0.index t 0 = 0 ∧ win0_0.index t 1 = t.val / 2 := (by decide +kernel : ∀ t : Fin grid0.N, _)
theorem liveAt (w : Fin cfg0.W) : ∀ t : Fin cfg0.N, cfg0.idle w (grid0.coords t) = false := by revert w; decide +kernel

abbrev scM : Memref sig .tc .vmem S1x512x4224 .bf16 := Memref.whole cc0_scratch0

theorem PhiA_eq (c : Dev nD) : (Pipeline.ΦA spec0 c : sProp (MM F))
    = iprop(iprop((∃ d, owns (c : Thread nD τ) scM fullShare d)) ∗ (∃ r, prngReg c r)) := by
  unfold Pipeline.ΦA; rw [scopedRest0_eq]; simp only [scM, owns_whole]; try rfl

variable (m : (ℓ : Loc nD τ sig) → Buf (Elt F) ℓ) (ρ : Dev nD → PrngReg)

/-- What the scratch holds after a point. -/
def scr (c : Dev nD) (t : Fin cfg0.N) : Vec F S1x512x4224 .bf16 := k0_pay1 (iblk m c 0 t)

/-- Along a row of blocks the block of activations stays. -/
theorem scr_eq (c : Dev nD) (t t' : Fin cfg0.N) (h : t.val / 2 = t'.val / 2) : scr m c t = scr m c t' := by
  obtain ⟨a0, a1⟩ := row0 t
  obtain ⟨b0, b1⟩ := row0 t'
  refine congrArg (k0_pay1 (F := F)) (funext fun (y : S4224x512.Idx) => ?_)
  show V m c main_arg0 (((cfg0.win 0).blk t).view.emb y) = V m c main_arg0 (((cfg0.win 0).blk t').view.emb y)
  refine congrArg _ (funext fun a => Fin.ext ?_)
  match a with
  | ⟨0, _⟩ =>
    show win0_0.index t 0 * 4224 + 1 * (y 0).val = win0_0.index t' 0 * 4224 + 1 * (y 0).val
    rw [a0, b0]
  | ⟨1, _⟩ =>
    show win0_0.index t 1 * 512 + 1 * (y 1).val = win0_0.index t' 1 * 512 + 1 * (y 1).val
    rw [a1, b1, h]

/-- What holds between the points: the scratch at what the point before left in it. -/
def PhiS (c : Dev nD) : (n : ℕ) → n ≤ cfg0.N → sProp (MM F)
  | 0, _ => Pipeline.ΦA spec0 c
  | n + 1, hn => iprop(owns (c : Thread nD τ) scM fullShare (scr m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM fullShare (scr m c ⟨n, hn⟩) ∗ (∃ r, prngReg c r)) := rfl

theorem PhiS_pos (c : Dev nD) (n : ℕ) (h : n ≤ cfg0.N) (hz : n ≠ 0) :
    PhiS m c n h = iprop(owns (c : Thread nD τ) scM fullShare (scr m c ⟨n - 1, by omega⟩) ∗ (∃ r, prngReg c r)) := by
  cases n with
  | zero => exact absurd rfl hz
  | succ n => rfl

/-- The pipeline's proof data: every point leaves its output block at the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (scr m c t) (iblk m c 1 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay2 (scr m c t) (iblk m c 1 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

abbrev ms0 (t : Fin cfg0.N) : Memref sig .tc .vmem S4224x512 .bf16 := win0_0.stage (cfg0.slots t 0)
abbrev ms1 (t : Fin cfg0.N) : Memref sig .tc .vmem S4224x1024 .bf16 := win0_1.stage (cfg0.slots t 1)
abbrev ms2 (t : Fin cfg0.N) : Memref sig .tc .vmem S512x1024 .f32 := win0_2.stage (cfg0.slots t 2)

def bodyPre (c : Dev nD) (t : Fin cfg0.N) : sProp (MM F) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp (MM F) :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt 0 t], after0]
  rw [show (dats m 0 c).leavesExact 1 t = owns (c : Thread nD τ) (ms1 t) fullShare ((dats m 0 c).after 1 t) from by
    unfold Dat.leavesExact; rw [liveAt 1 t], after1]
  rw [show (dats m 0 c).leavesExact 2 t = owns (c : Thread nD τ) (ms2 t) fullShare ((dats m 0 c).after 2 t) from by
    unfold Dat.leavesExact; rw [liveAt 2 t], after2]
  rw [show (⟨t.val, t.isLt⟩ : Fin cfg0.N) = t from rfl, PhiS_castSucc m c t]
  by_cases h0 : t.val % 2 = 0
  · by_cases hz : t.val = 0
    · rw [PhiS_zero m c _ _ hz, PhiA_eq]
      iintro ⟨⟨HS0, Hg⟩, Ho, ⟨%d0, H0⟩, ⟨%d1, H1⟩, ⟨%d2, H2⟩⟩
      iapply (runA c (grid0.coords t) _ _ _ _ _ _ _ _ ((hcond t).mpr h0) (iblk m c 0 t) (iblk m c 1 t) Set.univ _)
      isplitl [H0]; · iexact H0
      isplitl [H1]; · iexact H1
      isplitl [H2]; · iexists _; iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
    · rw [PhiS_pos m c _ _ hz]
      iintro ⟨⟨HS0, Hg⟩, Ho, ⟨%d0, H0⟩, ⟨%d1, H1⟩, ⟨%d2, H2⟩⟩
      iapply (runA c (grid0.coords t) _ _ _ _ _ _ _ _ ((hcond t).mpr h0) (iblk m c 0 t) (iblk m c 1 t) Set.univ _)
      isplitl [H0]; · iexact H0
      isplitl [H1]; · iexact H1
      isplitl [H2]; · iexists _; iexact H2
      isplitl [HS0]; · iexists _; iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
  · have hz : t.val ≠ 0 := fun hz => h0 (by rw [hz])
    rw [PhiS_pos m c _ _ hz, scr_eq m c ⟨t.val - 1, _⟩ t (by show (t.val - 1) / 2 = t.val / 2; omega)]
    iintro ⟨⟨HS0, Hg⟩, Ho, ⟨%d0, H0⟩, ⟨%d1, H1⟩, ⟨%d2, H2⟩⟩
    iapply (runB c (grid0.coords t) _ _ _ _ _ _ _ _ (fun h => h0 ((hcond t).mp h)) (iblk m c 0 t) (iblk m c 1 t) (scr m c t) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]; · iexact HS0
      iexact Hg
    isplitl [Ho]; · iexact Ho
    isplitl [H0]; · iexact H0
    isplitl [H1]; · iexact H1
    iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : (Fin.last cfg0.N).val ≠ 0 := by rw [Fin.val_last]; have : cfg0.N = 22 := N_0; omega
  rw [show (dats m 0 c).Φ (Fin.last cfg0.N) = PhiS m c (Fin.last cfg0.N).val (Nat.le_of_lt_succ (Fin.last cfg0.N).isLt) from rfl, PhiS_pos m c _ _ hN, PhiA_eq]
  iintro ⟨HS0, Hg⟩
  isplitl [HS0]
  · iexists _; iexact HS0
  iexact Hg

/-! ## The run -/

set_option backward.isDefEq.respectTransparency.types false in
theorem run_both : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_both m ρ)

/-- The run ends with the arguments unchanged and no signal pending. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_both m ρ))

/-- The run ends with the result at what the points wrote back. -/
theorem run_value : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 2, h.2.1 c⟩) (θ_run_and (run_main m ρ) (quiet m ρ))

end Cert.Tn7

end
-- ==== Proof.Mm7.lean ====
/-
  THE GRADIENT OF THE DOWN WEIGHTS OF THE FEED-FORWARD LAYER: ITS VALUE. Each grid point leaves the product of the transposed block of
  activations with one block of columns of the cotangent, over all the tokens, so the array written back is the
  transposed product.
-/
module

public import proofs.«01_k».proof.Defs
public import proofs.«01_k».proof.Proof.Mm
public import proofs.«01_k».proof.Proof.Tn7
public import proofs.«01_k».proof.Proof.Gen.Kernel7
public import proofs.«01_k».proof.Proof.Gen.Reference7Ideal.Read
public import proofs.«01_k».proof.Proof.Gen.Reference7Ideal.Run

@[expose] public section

set_option maxRecDepth 16384

noncomputable section

namespace Cert.Mm7

open Idealize.ShloMosaic Idealize.ShloMosaic.TcCoe Idealize.SL.Sem Cert.Kernel7Ideal Cert.Kernel7Ideal.Gen Cert.Tn7
open Idealize.ShloMosaic.Pipeline Cert.Mm

/-- The product both programs compute. -/
def prod (x : FVec Ideal S4224x5632 .bf16) (w : FVec Ideal S4224x2048 .bf16) : FVec Ideal S5632x2048 .f32 :=
  fun i => ∑ k : Fin 4224, E2 x k.val (i 0).val * E2 w k.val (i 1).val

theorem pay (x : Vec Ideal S4224x512 .bf16) (w : Vec Ideal S4224x1024 .bf16) (p : Fin 512) (q : Fin 1024) :
    k0_pay2 (F := Ideal) (k0_pay1 x) w (ix2 p q) = ∑ k : Fin 4224, x (ix2 k p) * w (ix2 k q) := by
  pointwise [k0_pay2, k0_pay1]

variable (m : (ℓ : Loc nD τ sig) → Buf (Elt Ideal) ℓ) (c : Dev nD)

theorem idx1 : ∀ t : Fin cfg0.N, win0_1.index t 0 = 0 ∧ win0_1.index t 1 = t.val % 2 := (by decide +kernel : ∀ t : Fin grid0.N, _)
theorem idx2 : ∀ t : Fin cfg0.N, win0_2.index t 0 = t.val / 2 ∧ win0_2.index t 1 = t.val % 2 := (by decide +kernel : ∀ t : Fin grid0.N, _)
theorem xs2 : ∀ (t : Fin cfg0.N) (a), (cfg0.win 2).xsize (cfg0.grid.coords t) a = (cfg0.win 2).size a := by decide +kernel

theorem blk0 (t : Fin cfg0.N) (k : Fin 4224) (p : Fin 512) : iblk m c 0 t (ix2 k p : S4224x512.Idx)
    = E2 (m ((c : Thread nD τ).loc main_arg0) : FVec Ideal S4224x5632 .bf16) k.val (512 * (t.val / 2) + p.val) := by
  obtain ⟨h0, h1⟩ := row0 t
  unfold iblk
  rw [View.read_apply]
  show V m c main_arg0 _ = _
  rw [V_main_arg0]
  refine E2_at (M := 4224) (N := 5632) _ _ ?_ ?_
  · show win0_0.index t 0 * 4224 + 1 * k.val = _
    rw [h0]; omega
  · show win0_0.index t 1 * 512 + 1 * p.val = _
    rw [h1]; omega

theorem blk1 (t : Fin cfg0.N) (k : Fin 4224) (q : Fin 1024) : iblk m c 1 t (ix2 k q : S4224x1024.Idx)
    = E2 (m ((c : Thread nD τ).loc main_arg1) : FVec Ideal S4224x2048 .bf16) k.val (1024 * (t.val % 2) + q.val) := by
  obtain ⟨h0, h1⟩ := idx1 t
  unfold iblk
  rw [View.read_apply]
  show V m c main_arg1 _ = _
  rw [V_main_arg1]
  refine E2_at (M := 4224) (N := 2048) _ _ ?_ ?_
  · show win0_1.index t 0 * 4224 + 1 * k.val = _
    rw [h0]; omega
  · show win0_1.index t 1 * 1024 + 1 * q.val = _
    rw [h1]; omega

/-- What a point leaves in its output block. -/
theorem val (t : Fin cfg0.N) (p : Fin 512) (q : Fin 1024) : k0_pay2 (F := Ideal) (scr m c t) (iblk m c 1 t) (ix2 p q : S512x1024.Idx)
    = ∑ k : Fin 4224, E2 (m ((c : Thread nD τ).loc main_arg0) : FVec Ideal S4224x5632 .bf16) k.val (512 * (t.val / 2) + p.val)
      * E2 (m ((c : Thread nD τ).loc main_arg1) : FVec Ideal S4224x2048 .bf16) k.val (1024 * (t.val % 2) + q.val) := by
  unfold scr
  rw [pay]
  refine Finset.sum_congr rfl fun k _ => ?_
  rw [blk0, blk1]

theorem mem2 (t : Fin cfg0.N) (i : S5632x2048.Idx) : i ∈ ((cfg0.win 2).blk t).view.set
    ↔ ∀ a, win0_2.index t a * win0_2.size a ≤ (i a).val ∧ (i a).val < win0_2.index t a * win0_2.size a + (cfg0.win 2).xsize (cfg0.grid.coords t) a := by
  show i ∈ ((View.whole main_v0).slice (win0_2.rect t)).set ↔ _
  rw [View.set_slice_whole, Rect.mem_set_unit]

/-- The array after the run is the product. -/
theorem arr : (dats m 0 c).arrAt 2 cfg0.N = prod (m ((c : Thread nD τ).loc main_arg0)) (m ((c : Thread nD τ).loc main_arg1)) := by
  refine (dats m 0 c).arrAt_eq_of_cover 2 _ (fun t hf => ?_) (fun i => ?_)
  · rw [show (dats m 0 c).flushed 2 t = (cfg0.win 2).cut (grid0.coords t) (k0_pay2 (scr m c t) (iblk m c 1 t)) from rfl]
    obtain ⟨h0, h1⟩ := idx2 t
    refine funext fun (y : S512x1024.Idx) => ?_
    rw [View.read_apply]
    refine Eq.trans (b := k0_pay2 (F := Ideal) (scr m c t) (iblk m c 1 t) y) rfl ?_
    obtain ⟨p, q, rfl⟩ : ∃ (p : Fin 512) (q : Fin 1024), y = ix2 p q := ⟨y 0, y 1, eq_ix2 y⟩
    rw [val]
    have e0 : ((((cfg0.win 2).blk t).view.emb (ix2 p q : S512x1024.Idx) : S5632x2048.Idx) 0).val = 512 * (t.val / 2) + p.val := by
      show win0_2.index t 0 * 512 + 1 * p.val = _
      rw [h0]; omega
    have e1 : ((((cfg0.win 2).blk t).view.emb (ix2 p q : S512x1024.Idx) : S5632x2048.Idx) 1).val = 1024 * (t.val % 2) + q.val := by
      show win0_2.index t 1 * 1024 + 1 * q.val = _
      rw [h1]; omega
    rw [← e0, ← e1]
    rfl
  · have b0 : (i 0).val < 5632 := (i 0).isLt
    have b1 : (i 1).val < 2048 := (i 1).isLt
    obtain ⟨T, hT⟩ : ∃ T : Fin cfg0.N, T.val = 2 * ((i 0).val / 512) + (i 1).val / 1024 := ⟨⟨_, (by omega : _ < 22)⟩, rfl⟩
    obtain ⟨h0, h1⟩ := idx2 T
    refine ⟨T, flush0_2 T, (mem2 T i).mpr fun a => ?_⟩
    rw [xs2]
    match a with
    | ⟨0, _⟩ =>
      show win0_2.index T 0 * 512 ≤ (i 0).val ∧ (i 0).val < win0_2.index T 0 * 512 + 512
      rw [h0]; omega
    | ⟨1, _⟩ =>
      show win0_2.index T 1 * 1024 ≤ (i 1).val ∧ (i 1).val < win0_2.index T 1 * 1024 + 1024
      rw [h1]; omega

theorem ref (x : FVec Ideal S4224x5632 .bf16) (w : FVec Ideal S4224x2048 .bf16) :
    Cert.Reference7Ideal.Read.val_main_v5 (F := Ideal) x w = prod x w := by
  funext i
  rw [Cert.Reference7Ideal.Read.val_main_v5_apply, Cert.Reference7Ideal.Read.val_main_v4_apply]
  refine Finset.sum_congr rfl fun k _ => (mul_comm _ _).trans (congrArg₂ (· * ·) ?_ ?_)
  · exact E2_at x _ rfl rfl
  · exact E2_at w _ rfl rfl

theorem algebraic : Cert.algebraic_Kernel7Ideal_Reference7Ideal := by
  intro m g m' g' _ hagree
  refine ⟨fun c => (dats m 0 c).arrAt 2 cfg0.N, run_value m g, ?_⟩
  refine (θ_run Cert.Reference7Ideal.defs _ _).mono (fun r h c => ⟨(h c).1.trans ?_, (h c).2⟩) (Cert.Reference7Ideal.Value.run (F := Ideal) m' g')
  obtain ⟨a0, a1⟩ := hagree c
  refine Eq.trans ?_ (arr m c).symm
  rw [Cert.Reference7Ideal.Read.val_main_v5_eq, a0, a1]
  exact ref _ _

/-- The kernel before idealization calls the same bodies. -/
theorem bodies : Cert.Kernel7.defs₀ (F := Bits) = Cert.Kernel7Ideal.defs₀ (F := Bits) := by
  unfold Cert.Kernel7.defs₀ Cert.Kernel7Ideal.defs₀
  refine congrArg Defs.onTc (funext fun l => funext fun a => ?_)
  match l, a with
  | 0, (t, s) => rfl
  | ⟨_ + 1, h⟩, _ => exact absurd h (Nat.not_lt.2 (Nat.le_add_left _ _))

/-- So its run is the same run, over machine floats. -/
theorem frame_kernel : Cert.quiescent_Kernel7 := fun m ρ _ => by
  rw [show Cert.Kernel7.defs (F := Bits) = Cert.Kernel7Ideal.defs (F := Bits) from congrArg (Pipeline.defs Cert.Kernel7Ideal.pcfgs) bodies]
  exact Cert.Tn7.quiet (F := Bits) m ρ

theorem frame_r : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

end Cert.Mm7

end
-- ==== Proof.Mm8.lean ====
/-
  THE GRADIENT OF THE MIXER'S OUTPUT. Each grid point multiplies one block of rows of the cotangent by one block of rows
  of the weights, over the whole contracted axis, so the array written back is the matrix product.
-/
module

public import proofs.«01_k».proof.Defs
public import proofs.«01_k».proof.Proof.Mm
public import proofs.«01_k».proof.Proof.Gen.Kernel8Ideal.Value
public import proofs.«01_k».proof.Proof.Gen.Reference8Ideal.Read
public import proofs.«01_k».proof.Proof.Gen.Reference8Ideal.Run

@[expose] public section

set_option maxRecDepth 16384

noncomputable section

namespace Cert.Mm8

open Idealize.ShloMosaic Idealize.ShloMosaic.TcCoe Idealize.SL.Sem Cert.Kernel8Ideal Cert.Kernel8Ideal.Gen Cert.Kernel8Ideal.Value
open Idealize.ShloMosaic.Pipeline Cert.Mm

/-- The product both programs compute. -/
def prod (x : FVec Ideal S4224x2048 .bf16) (w : FVec Ideal S4096x2048 .bf16) : FVec Ideal S4224x4096 .f32 :=
  fun i => ∑ k : Fin 2048, E2 x (i 0).val k.val * E2 w (i 1).val k.val

theorem pay (x : Vec Ideal S1056x2048 .bf16) (w : Vec Ideal S512x2048 .bf16) (p : Fin 1056) (q : Fin 512) :
    k0_pay1 (F := Ideal) x w (ix2 p q) = ∑ k : Fin 2048, x (ix2 p k) * w (ix2 q k) := by
  pointwise [k0_pay1]

variable (m : (ℓ : Loc nD τ sig) → Buf (Elt Ideal) ℓ) (c : Dev nD)

theorem idx0 : ∀ t : Fin cfg0.N, win0_0.index t 0 = t.val / 8 ∧ win0_0.index t 1 = 0 := (by decide +kernel : ∀ t : Fin grid0.N, _)
theorem idx1 : ∀ t : Fin cfg0.N, win0_1.index t 0 = t.val % 8 ∧ win0_1.index t 1 = 0 := (by decide +kernel : ∀ t : Fin grid0.N, _)
theorem idx2 : ∀ t : Fin cfg0.N, win0_2.index t 0 = t.val / 8 ∧ win0_2.index t 1 = t.val % 8 := (by decide +kernel : ∀ t : Fin grid0.N, _)
theorem xs2 : ∀ (t : Fin cfg0.N) (a), (cfg0.win 2).xsize (cfg0.grid.coords t) a = (cfg0.win 2).size a := by decide +kernel

theorem out (x : Vec Ideal S1056x2048 .bf16) (w : Vec Ideal S512x2048 .bf16) : out0_2 (F := Ideal) x w = k0_pay1 x w := by
  unfold out0_2
  rw [View.canon_unit_zero (S := S1056x512) z2, View.ld_unit_zero (S := S1056x2048) z2, View.ld_unit_zero (S := S512x2048) z2]

theorem blk0 (t : Fin cfg0.N) (p : Fin 1056) (k : Fin 2048) : iblk m c 0 t (ix2 p k : S1056x2048.Idx)
    = E2 (m ((c : Thread nD τ).loc main_arg0) : FVec Ideal S4224x2048 .bf16) (1056 * (t.val / 8) + p.val) k.val := by
  obtain ⟨h0, h1⟩ := idx0 t
  unfold iblk
  rw [View.read_apply]
  show V m c main_arg0 _ = _
  rw [V_main_arg0]
  refine E2_at (M := 4224) (N := 2048) _ _ ?_ ?_
  · show win0_0.index t 0 * 1056 + 1 * p.val = _
    rw [h0]; omega
  · show win0_0.index t 1 * 2048 + 1 * k.val = _
    rw [h1]; omega

theorem blk1 (t : Fin cfg0.N) (q : Fin 512) (k : Fin 2048) : iblk m c 1 t (ix2 q k : S512x2048.Idx)
    = E2 (m ((c : Thread nD τ).loc main_arg1) : FVec Ideal S4096x2048 .bf16) (512 * (t.val % 8) + q.val) k.val := by
  obtain ⟨h0, h1⟩ := idx1 t
  unfold iblk
  rw [View.read_apply]
  show V m c main_arg1 _ = _
  rw [V_main_arg1]
  refine E2_at (M := 4096) (N := 2048) _ _ ?_ ?_
  · show win0_1.index t 0 * 512 + 1 * q.val = _
    rw [h0]; omega
  · show win0_1.index t 1 * 2048 + 1 * k.val = _
    rw [h1]; omega

/-- What a point leaves in its output block. -/
theorem val (t : Fin cfg0.N) (p : Fin 1056) (q : Fin 512) : k0_pay1 (F := Ideal) (iblk m c 0 t) (iblk m c 1 t) (ix2 p q : S1056x512.Idx)
    = ∑ k : Fin 2048, E2 (m ((c : Thread nD τ).loc main_arg0) : FVec Ideal S4224x2048 .bf16) (1056 * (t.val / 8) + p.val) k.val
      * E2 (m ((c : Thread nD τ).loc main_arg1) : FVec Ideal S4096x2048 .bf16) (512 * (t.val % 8) + q.val) k.val := by
  rw [pay]
  refine Finset.sum_congr rfl fun k _ => ?_
  rw [blk0, blk1]

theorem mem2 (t : Fin cfg0.N) (i : S4224x4096.Idx) : i ∈ ((cfg0.win 2).blk t).view.set
    ↔ ∀ a, win0_2.index t a * win0_2.size a ≤ (i a).val ∧ (i a).val < win0_2.index t a * win0_2.size a + (cfg0.win 2).xsize (cfg0.grid.coords t) a := by
  show i ∈ ((View.whole main_v0).slice (win0_2.rect t)).set ↔ _
  rw [View.set_slice_whole, Rect.mem_set_unit]

/-- The array after the run is the product. -/
theorem arr : (dats m 0 c).arrAt 2 cfg0.N = prod (m ((c : Thread nD τ).loc main_arg0)) (m ((c : Thread nD τ).loc main_arg1)) := by
  refine (dats m 0 c).arrAt_eq_of_cover 2 _ (fun t hf => ?_) (fun i => ?_)
  · rw [flushed2, out]
    obtain ⟨h0, h1⟩ := idx2 t
    refine funext fun (y : S1056x512.Idx) => ?_
    rw [View.read_apply]
    refine Eq.trans (b := k0_pay1 (F := Ideal) (iblk m c 0 t) (iblk m c 1 t) y) rfl ?_
    obtain ⟨p, q, rfl⟩ : ∃ (p : Fin 1056) (q : Fin 512), y = ix2 p q := ⟨y 0, y 1, eq_ix2 y⟩
    rw [val]
    have e0 : ((((cfg0.win 2).blk t).view.emb (ix2 p q : S1056x512.Idx) : S4224x4096.Idx) 0).val = 1056 * (t.val / 8) + p.val := by
      show win0_2.index t 0 * 1056 + 1 * p.val = _
      rw [h0]; omega
    have e1 : ((((cfg0.win 2).blk t).view.emb (ix2 p q : S1056x512.Idx) : S4224x4096.Idx) 1).val = 512 * (t.val % 8) + q.val := by
      show win0_2.index t 1 * 512 + 1 * q.val = _
      rw [h1]; omega
    rw [← e0, ← e1]
    rfl
  · have b0 : (i 0).val < 4224 := (i 0).isLt
    have b1 : (i 1).val < 4096 := (i 1).isLt
    obtain ⟨T, hT⟩ : ∃ T : Fin cfg0.N, T.val = 8 * ((i 0).val / 1056) + (i 1).val / 512 := ⟨⟨_, (by omega : _ < 32)⟩, rfl⟩
    obtain ⟨h0, h1⟩ := idx2 T
    refine ⟨T, flush0_2 T, (mem2 T i).mpr fun a => ?_⟩
    rw [xs2]
    match a with
    | ⟨0, _⟩ =>
      show win0_2.index T 0 * 1056 ≤ (i 0).val ∧ (i 0).val < win0_2.index T 0 * 1056 + 1056
      rw [h0]; omega
    | ⟨1, _⟩ =>
      show win0_2.index T 1 * 512 ≤ (i 1).val ∧ (i 1).val < win0_2.index T 1 * 512 + 512
      rw [h1]; omega

theorem ref (x : FVec Ideal S4224x2048 .bf16) (w : FVec Ideal S4096x2048 .bf16) :
    Cert.Reference8Ideal.Read.val_main_v4 (F := Ideal) x w = prod x w := by
  funext i
  rw [Cert.Reference8Ideal.Read.val_main_v4_apply]
  refine Finset.sum_congr rfl fun k _ => congrArg₂ (· * ·) ?_ ?_
  · exact E2_at x _ rfl rfl
  · exact E2_at w _ rfl rfl

theorem algebraic : Cert.algebraic_Kernel8Ideal_Reference8Ideal := by
  intro m g m' g' _ hagree
  refine ⟨fun c => (dats m 0 c).arrAt 2 cfg0.N, run_blocks m g, ?_⟩
  refine (θ_run Cert.Reference8Ideal.defs _ _).mono (fun r h c => ⟨(h c).1.trans ?_, (h c).2⟩) (Cert.Reference8Ideal.Value.run (F := Ideal) m' g')
  obtain ⟨a0, a1⟩ := hagree c
  refine Eq.trans ?_ (arr m c).symm
  rw [Cert.Reference8Ideal.Read.val_main_v4_eq, a0, a1]
  exact ref _ _

theorem frame_r : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

end Cert.Mm8

end
-- ==== Proof.Tn9.lean ====
/-
  THE GRADIENT OF THE MIXER'S OUTPUT WEIGHTS: THE RUN. The first point of a row of blocks transposes its block of
  activations into the scratch; every point multiplies what the scratch holds by its block of cotangents. The block of
  activations does not change along a row, so after every point the scratch holds that point's block transposed.
-/
module

public import proofs.«01_k».proof.Defs
public import proofs.«01_k».proof.Proof.Mm
public import proofs.«01_k».proof.Proof.Gen.Kernel9Ideal.Skeleton
public import proofs.«01_k».proof.Proof.Gen.Kernel9Ideal.Frame
public import Idealize.ShloMosaic.Lib.Claim

@[expose] public section

set_option maxRecDepth 16384

noncomputable section

namespace Cert.Tn9

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen Cert.Mm

variable {F : FTy → Type} [FloatOps F]

abbrev MM (F : FTy → Type) := MT nD τ sig Unit (Elt F) ℕ (UR sig nD τ) ℕ

theorem off1 (i : grid0.Coords) : k0_off1 i = ![0, 0, 0] := by
  have h : (i 2).val = 0 := by have h : (i 2).val < 1 := (i 2).isLt; omega
  unfold k0_off1; rw [h]; rfl
theorem off2 (i : grid0.Coords) : k0_off2 i = ![0, 0, 0] := by
  have h : (i 2).val = 0 := by have h : (i 2).val < 1 := (i 2).isLt; omega
  unfold k0_off2; rw [h]; rfl

theorem offz (i : grid0.Coords) : ![BitVec.toNat (Scalar.indexCast (BitVec.ofNat 32 (i 2).val)), 0, 0] = (fun _ => 0 : Fin 3 → ℕ) := by
  have h : k0_off1 i = ![0, 0, 0] := off1 i
  exact h.trans z3

/-! ## One point -/

set_option maxHeartbeats 1000000 in
/-- A point that fills the scratch. -/
theorem runA (c : Dev nD) (i : grid0.Coords) (arg3 : Memref sig .tc .vmem S4224x512 .bf16) (harg3 : arg3.IsWhole) (arg4 : Memref sig .tc .vmem S4224x1024 .bf16) (harg4 : arg4.IsWhole) (arg5 : Memref sig .tc .vmem S512x1024 .f32) (harg5 : arg5.IsWhole) (arg6 : Memref sig .tc .vmem S1x512x4224 .bf16) (harg6 : arg6.IsWhole) (hc : k0_cond1 i = 1#1)
    (x : Vec F S4224x512 .bf16) (w : Vec F S4224x1024 .bf16) (E : Set ℕ) (K : PUnit → sProp (MM F)) :
    iprop(owns (c : Thread nD τ) arg3 fullShare x ∗ owns (c : Thread nD τ) arg4 fullShare w ∗ (∃ d, owns (c : Thread nD τ) arg5 fullShare d) ∗ (∃ d, owns (c : Thread nD τ) arg6 fullShare d)
        ∗ (iprop(owns (c : Thread nD τ) arg3 fullShare x ∗ owns (c : Thread nD τ) arg4 fullShare w ∗ owns (c : Thread nD τ) arg5 fullShare (k0_pay2 (k0_pay1 x) w) ∗ owns (c : Thread nD τ) arg6 fullShare (k0_pay1 x)) -∗ K ⟨⟩))
      ⊢ wp frame (wpE (defs₀ (F := F)) Variants.none c none) E (cc0_dw_out i arg3 harg3 arg4 harg4 arg5 harg5 arg6 harg6) K := by
  simp only [cc0_dw_out_eq_skeleton]; unfold cc0_dw_out_skel
  simp only [off1, off2]
  unfold owns
  iintro ⟨⟨%f0, %hf0, H0⟩, ⟨%f1, %hf1, H1⟩, ⟨%d2, %f2, -, H2⟩, ⟨%ds0, %fs0, -, HS0⟩, Hk⟩
  obtain rfl := harg3.eq_unread hf0; obtain rfl := harg4.eq_unread hf1
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (View.cover_of_tiledL _ S512x1024.size (by sl_kernel_rfl))]
    sl_unfold_words
    refine (View.canon_unit_zero (S := S512x1024) z2 _ _).trans ?_
    simp only [View.readAt_eq_ld, harg3.read_unread, harg4.read_unread, View.ld_unit_zero (S := S4224x512) z2, View.ld_unit_zero (S := S4224x1024) z2]
    exact congrArg (fun s => k0_pay2 s w) (View.readCov_unit_zero (S := S1x512x4224) _ (offz i) _ _)
  iexists _; isplitr
  swap; · iexact HS0
  ipureintro
  sl_unfold_words
  refine (View.read_writes_eq_canon _ _ _ (fun y => ⟨_, List.mem_singleton_self _, View.mem_set_unit_zero (S := S1x512x4224) (offz i) (fun a => by rw [offz i]; exact (Nat.zero_add _).le) y⟩)).trans ?_
  refine (View.canon_unit_zero (S := S1x512x4224) (offz i) _ _).trans ?_
  simp only [View.readAt_eq_ld, harg3.read_unread, View.ld_unit_zero (S := S4224x512) z2]

set_option maxHeartbeats 1000000 in
/-- A point that finds the scratch filled. -/
theorem runB (c : Dev nD) (i : grid0.Coords) (arg3 : Memref sig .tc .vmem S4224x512 .bf16) (harg3 : arg3.IsWhole) (arg4 : Memref sig .tc .vmem S4224x1024 .bf16) (harg4 : arg4.IsWhole) (arg5 : Memref sig .tc .vmem S512x1024 .f32) (harg5 : arg5.IsWhole) (arg6 : Memref sig .tc .vmem S1x512x4224 .bf16) (harg6 : arg6.IsWhole) (hc : ¬k0_cond1 i = 1#1)
    (x : Vec F S4224x512 .bf16) (w : Vec F S4224x1024 .bf16) (s : Vec F S1x512x4224 .bf16) (E : Set ℕ) (K : PUnit → sProp (MM F)) :
    iprop(owns (c : Thread nD τ) arg3 fullShare x ∗ owns (c : Thread nD τ) arg4 fullShare w ∗ (∃ d, owns (c : Thread nD τ) arg5 fullShare d) ∗ owns (c : Thread nD τ) arg6 fullShare s
        ∗ (iprop(owns (c : Thread nD τ) arg3 fullShare x ∗ owns (c : Thread nD τ) arg4 fullShare w ∗ owns (c : Thread nD τ) arg5 fullShare (k0_pay2 s w) ∗ owns (c : Thread nD τ) arg6 fullShare s) -∗ K ⟨⟩))
      ⊢ wp frame (wpE (defs₀ (F := F)) Variants.none c none) E (cc0_dw_out i arg3 harg3 arg4 harg4 arg5 harg5 arg6 harg6) K := by
  simp only [cc0_dw_out_eq_skeleton]; unfold cc0_dw_out_skel
  simp only [off1, off2]
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (View.cover_of_tiledL _ S512x1024.size (by sl_kernel_rfl))]
    sl_unfold_words
    refine (View.canon_unit_zero (S := S512x1024) z2 _ _).trans ?_
    simp only [View.readAt_eq_ld, harg4.read_unread, harg6.read_unread, View.ld_unit_zero (S := S4224x1024) z2]
    exact congrArg (fun s => k0_pay2 s w) (View.ld_unit_zero (S := S1x512x4224) (offz i) _ _)
  iexists _; isplitr; · ipureintro; exact harg6.read_unread _
  iexact HS0

/-! ## The points in order -/

theorem hcond : ∀ t : Fin cfg0.N, k0_cond1 (grid0.coords t) = 1#1 ↔ t.val % 2 = 0 := (by decide +kernel : ∀ t : Fin grid0.N, _)
theorem row0 : ∀ t : Fin cfg0.N, win0_0.index t 0 = 0 ∧ win0_0.index t 1 = t.val / 2 := (by decide +kernel : ∀ t : Fin grid0.N, _)
theorem liveAt (w : Fin cfg0.W) : ∀ t : Fin cfg0.N, cfg0.idle w (grid0.coords t) = false := by revert w; decide +kernel

abbrev scM : Memref sig .tc .vmem S1x512x4224 .bf16 := Memref.whole cc0_scratch0

theorem PhiA_eq (c : Dev nD) : (Pipeline.ΦA spec0 c : sProp (MM F))
    = iprop(iprop((∃ d, owns (c : Thread nD τ) scM fullShare d)) ∗ (∃ r, prngReg c r)) := by
  unfold Pipeline.ΦA; rw [scopedRest0_eq]; simp only [scM, owns_whole]; try rfl

variable (m : (ℓ : Loc nD τ sig) → Buf (Elt F) ℓ) (ρ : Dev nD → PrngReg)

/-- What the scratch holds after a point. -/
def scr (c : Dev nD) (t : Fin cfg0.N) : Vec F S1x512x4224 .bf16 := k0_pay1 (iblk m c 0 t)

/-- Along a row of blocks the block of activations stays. -/
theorem scr_eq (c : Dev nD) (t t' : Fin cfg0.N) (h : t.val / 2 = t'.val / 2) : scr m c t = scr m c t' := by
  obtain ⟨a0, a1⟩ := row0 t
  obtain ⟨b0, b1⟩ := row0 t'
  refine congrArg (k0_pay1 (F := F)) (funext fun (y : S4224x512.Idx) => ?_)
  show V m c main_arg0 (((cfg0.win 0).blk t).view.emb y) = V m c main_arg0 (((cfg0.win 0).blk t').view.emb y)
  refine congrArg _ (funext fun a => Fin.ext ?_)
  match a with
  | ⟨0, _⟩ =>
    show win0_0.index t 0 * 4224 + 1 * (y 0).val = win0_0.index t' 0 * 4224 + 1 * (y 0).val
    rw [a0, b0]
  | ⟨1, _⟩ =>
    show win0_0.index t 1 * 512 + 1 * (y 1).val = win0_0.index t' 1 * 512 + 1 * (y 1).val
    rw [a1, b1, h]

/-- What holds between the points: the scratch at what the point before left in it. -/
def PhiS (c : Dev nD) : (n : ℕ) → n ≤ cfg0.N → sProp (MM F)
  | 0, _ => Pipeline.ΦA spec0 c
  | n + 1, hn => iprop(owns (c : Thread nD τ) scM fullShare (scr m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM fullShare (scr m c ⟨n, hn⟩) ∗ (∃ r, prngReg c r)) := rfl

theorem PhiS_pos (c : Dev nD) (n : ℕ) (h : n ≤ cfg0.N) (hz : n ≠ 0) :
    PhiS m c n h = iprop(owns (c : Thread nD τ) scM fullShare (scr m c ⟨n - 1, by omega⟩) ∗ (∃ r, prngReg c r)) := by
  cases n with
  | zero => exact absurd rfl hz
  | succ n => rfl

/-- The pipeline's proof data: every point leaves its output block at the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (scr m c t) (iblk m c 1 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay2 (scr m c t) (iblk m c 1 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

abbrev ms0 (t : Fin cfg0.N) : Memref sig .tc .vmem S4224x512 .bf16 := win0_0.stage (cfg0.slots t 0)
abbrev ms1 (t : Fin cfg0.N) : Memref sig .tc .vmem S4224x1024 .bf16 := win0_1.stage (cfg0.slots t 1)
abbrev ms2 (t : Fin cfg0.N) : Memref sig .tc .vmem S512x1024 .f32 := win0_2.stage (cfg0.slots t 2)

def bodyPre (c : Dev nD) (t : Fin cfg0.N) : sProp (MM F) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp (MM F) :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt 0 t], after0]
  rw [show (dats m 0 c).leavesExact 1 t = owns (c : Thread nD τ) (ms1 t) fullShare ((dats m 0 c).after 1 t) from by
    unfold Dat.leavesExact; rw [liveAt 1 t], after1]
  rw [show (dats m 0 c).leavesExact 2 t = owns (c : Thread nD τ) (ms2 t) fullShare ((dats m 0 c).after 2 t) from by
    unfold Dat.leavesExact; rw [liveAt 2 t], after2]
  rw [show (⟨t.val, t.isLt⟩ : Fin cfg0.N) = t from rfl, PhiS_castSucc m c t]
  by_cases h0 : t.val % 2 = 0
  · by_cases hz : t.val = 0
    · rw [PhiS_zero m c _ _ hz, PhiA_eq]
      iintro ⟨⟨HS0, Hg⟩, Ho, ⟨%d0, H0⟩, ⟨%d1, H1⟩, ⟨%d2, H2⟩⟩
      iapply (runA c (grid0.coords t) _ _ _ _ _ _ _ _ ((hcond t).mpr h0) (iblk m c 0 t) (iblk m c 1 t) Set.univ _)
      isplitl [H0]; · iexact H0
      isplitl [H1]; · iexact H1
      isplitl [H2]; · iexists _; iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
    · rw [PhiS_pos m c _ _ hz]
      iintro ⟨⟨HS0, Hg⟩, Ho, ⟨%d0, H0⟩, ⟨%d1, H1⟩, ⟨%d2, H2⟩⟩
      iapply (runA c (grid0.coords t) _ _ _ _ _ _ _ _ ((hcond t).mpr h0) (iblk m c 0 t) (iblk m c 1 t) Set.univ _)
      isplitl [H0]; · iexact H0
      isplitl [H1]; · iexact H1
      isplitl [H2]; · iexists _; iexact H2
      isplitl [HS0]; · iexists _; iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
  · have hz : t.val ≠ 0 := fun hz => h0 (by rw [hz])
    rw [PhiS_pos m c _ _ hz, scr_eq m c ⟨t.val - 1, _⟩ t (by show (t.val - 1) / 2 = t.val / 2; omega)]
    iintro ⟨⟨HS0, Hg⟩, Ho, ⟨%d0, H0⟩, ⟨%d1, H1⟩, ⟨%d2, H2⟩⟩
    iapply (runB c (grid0.coords t) _ _ _ _ _ _ _ _ (fun h => h0 ((hcond t).mp h)) (iblk m c 0 t) (iblk m c 1 t) (scr m c t) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]; · iexact HS0
      iexact Hg
    isplitl [Ho]; · iexact Ho
    isplitl [H0]; · iexact H0
    isplitl [H1]; · iexact H1
    iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ hN, PhiA_eq]
  iintro ⟨HS0, Hg⟩
  isplitl [HS0]
  · iexists _; iexact HS0
  iexact Hg

/-! ## The run -/

set_option backward.isDefEq.respectTransparency.types false in
theorem run_both : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_both m ρ)

/-- The run ends with the arguments unchanged and no signal pending. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_both m ρ))

/-- The run ends with the result at what the points wrote back. -/
theorem run_value : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 2, h.2.1 c⟩) (θ_run_and (run_main m ρ) (quiet m ρ))

end Cert.Tn9

end
-- ==== Proof.Mm9.lean ====
/-
  THE GRADIENT OF THE OUTPUT WEIGHTS OF THE MIXER: ITS VALUE. Each grid point leaves the product of the transposed block of
  activations with one block of columns of the cotangent, over all the tokens, so the array written back is the
  transposed product.
-/
module

public import proofs.«01_k».proof.Defs
public import proofs.«01_k».proof.Proof.Mm
public import proofs.«01_k».proof.Proof.Tn9
public import proofs.«01_k».proof.Proof.Gen.Kernel9
public import proofs.«01_k».proof.Proof.Gen.Reference9Ideal.Read
public import proofs.«01_k».proof.Proof.Gen.Reference9Ideal.Run

@[expose] public section

set_option maxRecDepth 16384

noncomputable section

namespace Cert.Mm9

open Idealize.ShloMosaic Idealize.ShloMosaic.TcCoe Idealize.SL.Sem Cert.Kernel9Ideal Cert.Kernel9Ideal.Gen Cert.Tn9
open Idealize.ShloMosaic.Pipeline Cert.Mm

/-- The product both programs compute. -/
def prod (x : FVec Ideal S4224x4096 .bf16) (w : FVec Ideal S4224x2048 .bf16) : FVec Ideal S4096x2048 .f32 :=
  fun i => ∑ k : Fin 4224, E2 x k.val (i 0).val * E2 w k.val (i 1).val

theorem pay (x : Vec Ideal S4224x512 .bf16) (w : Vec Ideal S4224x1024 .bf16) (p : Fin 512) (q : Fin 1024) :
    k0_pay2 (F := Ideal) (k0_pay1 x) w (ix2 p q) = ∑ k : Fin 4224, x (ix2 k p) * w (ix2 k q) := by
  pointwise [k0_pay2, k0_pay1]

variable (m : (ℓ : Loc nD τ sig) → Buf (Elt Ideal) ℓ) (c : Dev nD)

theorem idx1 : ∀ t : Fin cfg0.N, win0_1.index t 0 = 0 ∧ win0_1.index t 1 = t.val % 2 := (by decide +kernel : ∀ t : Fin grid0.N, _)
theorem idx2 : ∀ t : Fin cfg0.N, win0_2.index t 0 = t.val / 2 ∧ win0_2.index t 1 = t.val % 2 := (by decide +kernel : ∀ t : Fin grid0.N, _)
theorem xs2 : ∀ (t : Fin cfg0.N) (a), (cfg0.win 2).xsize (cfg0.grid.coords t) a = (cfg0.win 2).size a := by decide +kernel

theorem blk0 (t : Fin cfg0.N) (k : Fin 4224) (p : Fin 512) : iblk m c 0 t (ix2 k p : S4224x512.Idx)
    = E2 (m ((c : Thread nD τ).loc main_arg0) : FVec Ideal S4224x4096 .bf16) k.val (512 * (t.val / 2) + p.val) := by
  obtain ⟨h0, h1⟩ := row0 t
  unfold iblk
  rw [View.read_apply]
  show V m c main_arg0 _ = _
  rw [V_main_arg0]
  refine E2_at (M := 4224) (N := 4096) _ _ ?_ ?_
  · show win0_0.index t 0 * 4224 + 1 * k.val = _
    rw [h0]; omega
  · show win0_0.index t 1 * 512 + 1 * p.val = _
    rw [h1]; omega

theorem blk1 (t : Fin cfg0.N) (k : Fin 4224) (q : Fin 1024) : iblk m c 1 t (ix2 k q : S4224x1024.Idx)
    = E2 (m ((c : Thread nD τ).loc main_arg1) : FVec Ideal S4224x2048 .bf16) k.val (1024 * (t.val % 2) + q.val) := by
  obtain ⟨h0, h1⟩ := idx1 t
  unfold iblk
  rw [View.read_apply]
  show V m c main_arg1 _ = _
  rw [V_main_arg1]
  refine E2_at (M := 4224) (N := 2048) _ _ ?_ ?_
  · show win0_1.index t 0 * 4224 + 1 * k.val = _
    rw [h0]; omega
  · show win0_1.index t 1 * 1024 + 1 * q.val = _
    rw [h1]; omega

/-- What a point leaves in its output block. -/
theorem val (t : Fin cfg0.N) (p : Fin 512) (q : Fin 1024) : k0_pay2 (F := Ideal) (scr m c t) (iblk m c 1 t) (ix2 p q : S512x1024.Idx)
    = ∑ k : Fin 4224, E2 (m ((c : Thread nD τ).loc main_arg0) : FVec Ideal S4224x4096 .bf16) k.val (512 * (t.val / 2) + p.val)
      * E2 (m ((c : Thread nD τ).loc main_arg1) : FVec Ideal S4224x2048 .bf16) k.val (1024 * (t.val % 2) + q.val) := by
  unfold scr
  rw [pay]
  refine Finset.sum_congr rfl fun k _ => ?_
  rw [blk0, blk1]

theorem mem2 (t : Fin cfg0.N) (i : S4096x2048.Idx) : i ∈ ((cfg0.win 2).blk t).view.set
    ↔ ∀ a, win0_2.index t a * win0_2.size a ≤ (i a).val ∧ (i a).val < win0_2.index t a * win0_2.size a + (cfg0.win 2).xsize (cfg0.grid.coords t) a := by
  show i ∈ ((View.whole main_v0).slice (win0_2.rect t)).set ↔ _
  rw [View.set_slice_whole, Rect.mem_set_unit]

/-- The array after the run is the product. -/
theorem arr : (dats m 0 c).arrAt 2 cfg0.N = prod (m ((c : Thread nD τ).loc main_arg0)) (m ((c : Thread nD τ).loc main_arg1)) := by
  refine (dats m 0 c).arrAt_eq_of_cover 2 _ (fun t hf => ?_) (fun i => ?_)
  · rw [show (dats m 0 c).flushed 2 t = (cfg0.win 2).cut (grid0.coords t) (k0_pay2 (scr m c t) (iblk m c 1 t)) from rfl]
    obtain ⟨h0, h1⟩ := idx2 t
    refine funext fun (y : S512x1024.Idx) => ?_
    rw [View.read_apply]
    refine Eq.trans (b := k0_pay2 (F := Ideal) (scr m c t) (iblk m c 1 t) y) rfl ?_
    obtain ⟨p, q, rfl⟩ : ∃ (p : Fin 512) (q : Fin 1024), y = ix2 p q := ⟨y 0, y 1, eq_ix2 y⟩
    rw [val]
    have e0 : ((((cfg0.win 2).blk t).view.emb (ix2 p q : S512x1024.Idx) : S4096x2048.Idx) 0).val = 512 * (t.val / 2) + p.val := by
      show win0_2.index t 0 * 512 + 1 * p.val = _
      rw [h0]; omega
    have e1 : ((((cfg0.win 2).blk t).view.emb (ix2 p q : S512x1024.Idx) : S4096x2048.Idx) 1).val = 1024 * (t.val % 2) + q.val := by
      show win0_2.index t 1 * 1024 + 1 * q.val = _
      rw [h1]; omega
    rw [← e0, ← e1]
    rfl
  · have b0 : (i 0).val < 4096 := (i 0).isLt
    have b1 : (i 1).val < 2048 := (i 1).isLt
    obtain ⟨T, hT⟩ : ∃ T : Fin cfg0.N, T.val = 2 * ((i 0).val / 512) + (i 1).val / 1024 := ⟨⟨_, (by omega : _ < 16)⟩, rfl⟩
    obtain ⟨h0, h1⟩ := idx2 T
    refine ⟨T, flush0_2 T, (mem2 T i).mpr fun a => ?_⟩
    rw [xs2]
    match a with
    | ⟨0, _⟩ =>
      show win0_2.index T 0 * 512 ≤ (i 0).val ∧ (i 0).val < win0_2.index T 0 * 512 + 512
      rw [h0]; omega
    | ⟨1, _⟩ =>
      show win0_2.index T 1 * 1024 ≤ (i 1).val ∧ (i 1).val < win0_2.index T 1 * 1024 + 1024
      rw [h1]; omega

theorem ref (x : FVec Ideal S4224x4096 .bf16) (w : FVec Ideal S4224x2048 .bf16) :
    Cert.Reference9Ideal.Read.val_main_v5 (F := Ideal) x w = prod x w := by
  funext i
  rw [Cert.Reference9Ideal.Read.val_main_v5_apply, Cert.Reference9Ideal.Read.val_main_v4_apply]
  refine Finset.sum_congr rfl fun k _ => (mul_comm _ _).trans (congrArg₂ (· * ·) ?_ ?_)
  · exact E2_at x _ rfl rfl
  · exact E2_at w _ rfl rfl

theorem algebraic : Cert.algebraic_Kernel9Ideal_Reference9Ideal := by
  intro m g m' g' _ hagree
  refine ⟨fun c => (dats m 0 c).arrAt 2 cfg0.N, run_value m g, ?_⟩
  refine (θ_run Cert.Reference9Ideal.defs _ _).mono (fun r h c => ⟨(h c).1.trans ?_, (h c).2⟩) (Cert.Reference9Ideal.Value.run (F := Ideal) m' g')
  obtain ⟨a0, a1⟩ := hagree c
  refine Eq.trans ?_ (arr m c).symm
  rw [Cert.Reference9Ideal.Read.val_main_v5_eq, a0, a1]
  exact ref _ _

/-- The kernel before idealization calls the same bodies. -/
theorem bodies : Cert.Kernel9.defs₀ (F := Bits) = Cert.Kernel9Ideal.defs₀ (F := Bits) := by
  unfold Cert.Kernel9.defs₀ Cert.Kernel9Ideal.defs₀
  refine congrArg Defs.onTc (funext fun l => funext fun a => ?_)
  match l, a with
  | 0, (t, s) => rfl
  | ⟨_ + 1, h⟩, _ => exact absurd h (Nat.not_lt.2 (Nat.le_add_left _ _))

/-- So its run is the same run, over machine floats. -/
theorem frame_kernel : Cert.quiescent_Kernel9 := fun m ρ _ => by
  rw [show Cert.Kernel9.defs (F := Bits) = Cert.Kernel9Ideal.defs (F := Bits) from congrArg (Pipeline.defs Cert.Kernel9Ideal.pcfgs) bodies]
  exact Cert.Tn9.quiet (F := Bits) m ρ

theorem frame_r : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

end Cert.Mm9

end
-- ==== Proof.Mm10.lean ====
/-
  THE INPUT PROJECTION. Each grid point multiplies one block of rows of the activations by one block of
  columns of the weights, over the whole contracted axis, so the array written back is the matrix product.
-/
module

public import proofs.«01_k».proof.Defs
public import proofs.«01_k».proof.Proof.Mm
public import proofs.«01_k».proof.Proof.Gen.Kernel10Ideal.Value
public import proofs.«01_k».proof.Proof.Gen.Reference10Ideal.Read
public import proofs.«01_k».proof.Proof.Gen.Reference10Ideal.Run

@[expose] public section

set_option maxRecDepth 16384

noncomputable section

namespace Cert.Mm10

open Idealize.ShloMosaic Idealize.ShloMosaic.TcCoe Idealize.SL.Sem Cert.Kernel10Ideal Cert.Kernel10Ideal.Gen Cert.Kernel10Ideal.Value
open Idealize.ShloMosaic.Pipeline Cert.Mm

/-- The product both programs compute. -/
def prod (x : FVec Ideal S4224x2048 .bf16) (w : FVec Ideal S2048x13440 .bf16) : FVec Ideal S4224x13440 .f32 :=
  fun i => ∑ k : Fin 2048, E2 x (i 0).val k.val * E2 w k.val (i 1).val

theorem pay (x : Vec Ideal S1056x2048 .bf16) (w : Vec Ideal S2048x1920 .bf16) (p : Fin 1056) (q : Fin 1920) :
    k0_pay1 (F := Ideal) x w (ix2 p q) = ∑ k : Fin 2048, x (ix2 p k) * w (ix2 k q) := by
  pointwise [k0_pay1]

variable (m : (ℓ : Loc nD τ sig) → Buf (Elt Ideal) ℓ) (c : Dev nD)

theorem idx0 : ∀ t : Fin cfg0.N, win0_0.index t 0 = t.val / 7 ∧ win0_0.index t 1 = 0 := (by decide +kernel : ∀ t : Fin grid0.N, _)
theorem idx1 : ∀ t : Fin cfg0.N, win0_1.index t 0 = 0 ∧ win0_1.index t 1 = t.val % 7 := (by decide +kernel : ∀ t : Fin grid0.N, _)
theorem idx2 : ∀ t : Fin cfg0.N, win0_2.index t 0 = t.val / 7 ∧ win0_2.index t 1 = t.val % 7 := (by decide +kernel : ∀ t : Fin grid0.N, _)
theorem xs2 : ∀ (t : Fin cfg0.N) (a), (cfg0.win 2).xsize (cfg0.grid.coords t) a = (cfg0.win 2).size a := by decide +kernel

theorem out (x : Vec Ideal S1056x2048 .bf16) (w : Vec Ideal S2048x1920 .bf16) : out0_2 (F := Ideal) x w = k0_pay1 x w := by
  unfold out0_2
  rw [View.canon_unit_zero (S := S1056x1920) z2, View.ld_unit_zero (S := S1056x2048) z2, View.ld_unit_zero (S := S2048x1920) z2]

theorem blk0 (t : Fin cfg0.N) (p : Fin 1056) (k : Fin 2048) : iblk m c 0 t (ix2 p k : S1056x2048.Idx)
    = E2 (m ((c : Thread nD τ).loc main_arg0) : FVec Ideal S4224x2048 .bf16) (1056 * (t.val / 7) + p.val) k.val := by
  obtain ⟨h0, h1⟩ := idx0 t
  unfold iblk
  rw [View.read_apply]
  show V m c main_arg0 _ = _
  rw [V_main_arg0]
  refine E2_at (M := 4224) (N := 2048) _ _ ?_ ?_
  · show win0_0.index t 0 * 1056 + 1 * p.val = _
    rw [h0]; omega
  · show win0_0.index t 1 * 2048 + 1 * k.val = _
    rw [h1]; omega

theorem blk1 (t : Fin cfg0.N) (q : Fin 1920) (k : Fin 2048) : iblk m c 1 t (ix2 k q : S2048x1920.Idx)
    = E2 (m ((c : Thread nD τ).loc main_arg1) : FVec Ideal S2048x13440 .bf16) k.val (1920 * (t.val % 7) + q.val) := by
  obtain ⟨h0, h1⟩ := idx1 t
  unfold iblk
  rw [View.read_apply]
  show V m c main_arg1 _ = _
  rw [V_main_arg1]
  refine E2_at (M := 2048) (N := 13440) _ _ ?_ ?_
  · show win0_1.index t 0 * 2048 + 1 * k.val = _
    rw [h0]; omega
  · show win0_1.index t 1 * 1920 + 1 * q.val = _
    rw [h1]; omega

/-- What a point leaves in its output block. -/
theorem val (t : Fin cfg0.N) (p : Fin 1056) (q : Fin 1920) : k0_pay1 (F := Ideal) (iblk m c 0 t) (iblk m c 1 t) (ix2 p q : S1056x1920.Idx)
    = ∑ k : Fin 2048, E2 (m ((c : Thread nD τ).loc main_arg0) : FVec Ideal S4224x2048 .bf16) (1056 * (t.val / 7) + p.val) k.val
      * E2 (m ((c : Thread nD τ).loc main_arg1) : FVec Ideal S2048x13440 .bf16) k.val (1920 * (t.val % 7) + q.val) := by
  rw [pay]
  refine Finset.sum_congr rfl fun k _ => ?_
  rw [blk0, blk1]

theorem mem2 (t : Fin cfg0.N) (i : S4224x13440.Idx) : i ∈ ((cfg0.win 2).blk t).view.set
    ↔ ∀ a, win0_2.index t a * win0_2.size a ≤ (i a).val ∧ (i a).val < win0_2.index t a * win0_2.size a + (cfg0.win 2).xsize (cfg0.grid.coords t) a := by
  show i ∈ ((View.whole main_v0).slice (win0_2.rect t)).set ↔ _
  rw [View.set_slice_whole, Rect.mem_set_unit]

/-- The array after the run is the product. -/
theorem arr : (dats m 0 c).arrAt 2 cfg0.N = prod (m ((c : Thread nD τ).loc main_arg0)) (m ((c : Thread nD τ).loc main_arg1)) := by
  refine (dats m 0 c).arrAt_eq_of_cover 2 _ (fun t hf => ?_) (fun i => ?_)
  · rw [flushed2, out]
    obtain ⟨h0, h1⟩ := idx2 t
    refine funext fun (y : S1056x1920.Idx) => ?_
    rw [View.read_apply]
    refine Eq.trans (b := k0_pay1 (F := Ideal) (iblk m c 0 t) (iblk m c 1 t) y) rfl ?_
    obtain ⟨p, q, rfl⟩ : ∃ (p : Fin 1056) (q : Fin 1920), y = ix2 p q := ⟨y 0, y 1, eq_ix2 y⟩
    rw [val]
    have e0 : ((((cfg0.win 2).blk t).view.emb (ix2 p q : S1056x1920.Idx) : S4224x13440.Idx) 0).val = 1056 * (t.val / 7) + p.val := by
      show win0_2.index t 0 * 1056 + 1 * p.val = _
      rw [h0]; omega
    have e1 : ((((cfg0.win 2).blk t).view.emb (ix2 p q : S1056x1920.Idx) : S4224x13440.Idx) 1).val = 1920 * (t.val % 7) + q.val := by
      show win0_2.index t 1 * 1920 + 1 * q.val = _
      rw [h1]; omega
    rw [← e0, ← e1]
    rfl
  · have b0 : (i 0).val < 4224 := (i 0).isLt
    have b1 : (i 1).val < 13440 := (i 1).isLt
    obtain ⟨T, hT⟩ : ∃ T : Fin cfg0.N, T.val = 7 * ((i 0).val / 1056) + (i 1).val / 1920 := ⟨⟨_, (by omega : _ < 28)⟩, rfl⟩
    obtain ⟨h0, h1⟩ := idx2 T
    refine ⟨T, flush0_2 T, (mem2 T i).mpr fun a => ?_⟩
    rw [xs2]
    match a with
    | ⟨0, _⟩ =>
      show win0_2.index T 0 * 1056 ≤ (i 0).val ∧ (i 0).val < win0_2.index T 0 * 1056 + 1056
      rw [h0]; omega
    | ⟨1, _⟩ =>
      show win0_2.index T 1 * 1920 ≤ (i 1).val ∧ (i 1).val < win0_2.index T 1 * 1920 + 1920
      rw [h1]; omega

theorem ref (x : FVec Ideal S4224x2048 .bf16) (w : FVec Ideal S2048x13440 .bf16) :
    Cert.Reference10Ideal.Read.val_main_v2 (F := Ideal) x w = prod x w := by
  funext i
  rw [Cert.Reference10Ideal.Read.val_main_v2_apply]
  refine Finset.sum_congr rfl fun k _ => congrArg₂ (· * ·) ?_ ?_
  · exact E2_at x _ rfl rfl
  · exact E2_at w _ rfl rfl

theorem algebraic : Cert.algebraic_Kernel10Ideal_Reference10Ideal := by
  intro m g m' g' _ hagree
  refine ⟨fun c => (dats m 0 c).arrAt 2 cfg0.N, run_blocks m g, ?_⟩
  refine (θ_run Cert.Reference10Ideal.defs _ _).mono (fun r h c => ⟨(h c).1.trans ?_, (h c).2⟩) (Cert.Reference10Ideal.Value.run (F := Ideal) m' g')
  obtain ⟨a0, a1⟩ := hagree c
  refine Eq.trans ?_ (arr m c).symm
  rw [Cert.Reference10Ideal.Read.val_main_v2_eq, a0, a1]
  exact ref _ _

theorem frame_r : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

end Cert.Mm10

end
-- ==== Proof.Mm11.lean ====
/-
  THE FEED-FORWARD UP PROJECTION. Each grid point multiplies one block of rows of the activations by one block of
  columns of the weights, over the whole contracted axis, so the array written back is the matrix product,
  its columns cut into two halves.
-/
module

public import proofs.«01_k».proof.Defs
public import proofs.«01_k».proof.Proof.Mm
public import proofs.«01_k».proof.Proof.Gen.Kernel11Ideal.Value
public import proofs.«01_k».proof.Proof.Gen.Reference11Ideal.Read
public import proofs.«01_k».proof.Proof.Gen.Reference11Ideal.Run

@[expose] public section

set_option maxRecDepth 16384

noncomputable section

namespace Cert.Mm11

open Idealize.ShloMosaic Idealize.ShloMosaic.TcCoe Idealize.SL.Sem Cert.Kernel11Ideal Cert.Kernel11Ideal.Gen Cert.Kernel11Ideal.Value
open Idealize.ShloMosaic.Pipeline Cert.Mm

/-- The product both programs compute. -/
def prod (x : FVec Ideal S4224x2048 .bf16) (w : FVec Ideal S2048x11264 .bf16) : FVec Ideal S2x4224x5632 .f32 :=
  fun i => ∑ k : Fin 2048, E2 x (i 1).val k.val * E2 w k.val (5632 * (i 0).val + (i 2).val)

theorem pay (x : Vec Ideal S1056x2048 .bf16) (w : Vec Ideal S2048x1408 .bf16) (p : Fin 1056) (q : Fin 1408) :
    k0_pay1 (F := Ideal) x w (ix3 0 p q) = ∑ k : Fin 2048, x (ix2 p k) * w (ix2 k q) := by
  pointwise [k0_pay1]

variable (m : (ℓ : Loc nD τ sig) → Buf (Elt Ideal) ℓ) (c : Dev nD)

theorem idx0 : ∀ t : Fin cfg0.N, win0_0.index t 0 = t.val / 8 ∧ win0_0.index t 1 = 0 := (by decide +kernel : ∀ t : Fin grid0.N, _)
theorem idx1 : ∀ t : Fin cfg0.N, win0_1.index t 0 = 0 ∧ win0_1.index t 1 = t.val % 8 := (by decide +kernel : ∀ t : Fin grid0.N, _)
theorem idx2 : ∀ t : Fin cfg0.N, win0_2.index t 0 = t.val % 8 / 4 ∧ win0_2.index t 1 = t.val / 8 ∧ win0_2.index t 2 = t.val % 4 := (by decide +kernel : ∀ t : Fin grid0.N, _)
theorem xs2 : ∀ (t : Fin cfg0.N) (a), (cfg0.win 2).xsize (cfg0.grid.coords t) a = (cfg0.win 2).size a := by decide +kernel

theorem out (x : Vec Ideal S1056x2048 .bf16) (w : Vec Ideal S2048x1408 .bf16) : out0_2 (F := Ideal) x w = k0_pay1 x w := by
  unfold out0_2
  rw [View.canon_unit_zero (S := S1x1056x1408) z3, View.ld_unit_zero (S := S1056x2048) z2, View.ld_unit_zero (S := S2048x1408) z2]

theorem blk0 (t : Fin cfg0.N) (p : Fin 1056) (k : Fin 2048) : iblk m c 0 t (ix2 p k : S1056x2048.Idx)
    = E2 (m ((c : Thread nD τ).loc main_arg0) : FVec Ideal S4224x2048 .bf16) (1056 * (t.val / 8) + p.val) k.val := by
  obtain ⟨h0, h1⟩ := idx0 t
  unfold iblk
  rw [View.read_apply]
  show V m c main_arg0 _ = _
  rw [V_main_arg0]
  refine E2_at (M := 4224) (N := 2048) _ _ ?_ ?_
  · show win0_0.index t 0 * 1056 + 1 * p.val = _
    rw [h0]; omega
  · show win0_0.index t 1 * 2048 + 1 * k.val = _
    rw [h1]; omega

theorem blk1 (t : Fin cfg0.N) (q : Fin 1408) (k : Fin 2048) : iblk m c 1 t (ix2 k q : S2048x1408.Idx)
    = E2 (m ((c : Thread nD τ).loc main_arg1) : FVec Ideal S2048x11264 .bf16) k.val (1408 * (t.val % 8) + q.val) := by
  obtain ⟨h0, h1⟩ := idx1 t
  unfold iblk
  rw [View.read_apply]
  show V m c main_arg1 _ = _
  rw [V_main_arg1]
  refine E2_at (M := 2048) (N := 11264) _ _ ?_ ?_
  · show win0_1.index t 0 * 2048 + 1 * k.val = _
    rw [h0]; omega
  · show win0_1.index t 1 * 1408 + 1 * q.val = _
    rw [h1]; omega

/-- What a point leaves in its output block. -/
theorem val (t : Fin cfg0.N) (p : Fin 1056) (q : Fin 1408) : k0_pay1 (F := Ideal) (iblk m c 0 t) (iblk m c 1 t) (ix3 0 p q : S1x1056x1408.Idx)
    = ∑ k : Fin 2048, E2 (m ((c : Thread nD τ).loc main_arg0) : FVec Ideal S4224x2048 .bf16) (1056 * (t.val / 8) + p.val) k.val
      * E2 (m ((c : Thread nD τ).loc main_arg1) : FVec Ideal S2048x11264 .bf16) k.val (1408 * (t.val % 8) + q.val) := by
  rw [pay]
  refine Finset.sum_congr rfl fun k _ => ?_
  rw [blk0, blk1]

theorem mem2 (t : Fin cfg0.N) (i : S2x4224x5632.Idx) : i ∈ ((cfg0.win 2).blk t).view.set
    ↔ ∀ a, win0_2.index t a * win0_2.size a ≤ (i a).val ∧ (i a).val < win0_2.index t a * win0_2.size a + (cfg0.win 2).xsize (cfg0.grid.coords t) a := by
  show i ∈ ((View.whole main_v0).slice (win0_2.rect t)).set ↔ _
  rw [View.set_slice_whole, Rect.mem_set_unit]

/-- The array after the run is the product. -/
theorem arr : (dats m 0 c).arrAt 2 cfg0.N = prod (m ((c : Thread nD τ).loc main_arg0)) (m ((c : Thread nD τ).loc main_arg1)) := by
  refine (dats m 0 c).arrAt_eq_of_cover 2 _ (fun t hf => ?_) (fun i => ?_)
  · rw [flushed2, out]
    obtain ⟨h0, h1, h2⟩ := idx2 t
    refine funext fun (y : S1x1056x1408.Idx) => ?_
    rw [View.read_apply]
    refine Eq.trans (b := k0_pay1 (F := Ideal) (iblk m c 0 t) (iblk m c 1 t) y) rfl ?_
    obtain ⟨o, p, q, rfl⟩ : ∃ (o : Fin 1) (p : Fin 1056) (q : Fin 1408), y = ix3 o p q := ⟨y 0, y 1, y 2, eq_ix3 y⟩
    obtain rfl : o = 0 := Subsingleton.elim _ _
    rw [val]
    have e0 : ((((cfg0.win 2).blk t).view.emb (ix3 0 p q : S1x1056x1408.Idx) : S2x4224x5632.Idx) 0).val = t.val % 8 / 4 := by
      show win0_2.index t 0 * 1 + 1 * 0 = _
      rw [h0]; omega
    have e1 : ((((cfg0.win 2).blk t).view.emb (ix3 0 p q : S1x1056x1408.Idx) : S2x4224x5632.Idx) 1).val = 1056 * (t.val / 8) + p.val := by
      show win0_2.index t 1 * 1056 + 1 * p.val = _
      rw [h1]; omega
    have e2 : ((((cfg0.win 2).blk t).view.emb (ix3 0 p q : S1x1056x1408.Idx) : S2x4224x5632.Idx) 2).val = 1408 * (t.val % 4) + q.val := by
      show win0_2.index t 2 * 1408 + 1 * q.val = _
      rw [h2]; omega
    have e3 : 1408 * (t.val % 8) + q.val = 5632 * (t.val % 8 / 4) + (1408 * (t.val % 4) + q.val) := by omega
    rw [e3, ← e0, ← e1, ← e2]
    rfl
  · have b0 : (i 0).val < 2 := (i 0).isLt
    have b1 : (i 1).val < 4224 := (i 1).isLt
    have b2 : (i 2).val < 5632 := (i 2).isLt
    obtain ⟨T, hT⟩ : ∃ T : Fin cfg0.N, T.val = 8 * ((i 1).val / 1056) + (4 * (i 0).val + (i 2).val / 1408) := ⟨⟨_, (by omega : _ < 32)⟩, rfl⟩
    obtain ⟨h0, h1, h2⟩ := idx2 T
    refine ⟨T, flush0_2 T, (mem2 T i).mpr fun a => ?_⟩
    rw [xs2]
    match a with
    | ⟨0, _⟩ =>
      show win0_2.index T 0 * 1 ≤ (i 0).val ∧ (i 0).val < win0_2.index T 0 * 1 + 1
      rw [h0]; omega
    | ⟨1, _⟩ =>
      show win0_2.index T 1 * 1056 ≤ (i 1).val ∧ (i 1).val < win0_2.index T 1 * 1056 + 1056
      rw [h1]; omega
    | ⟨2, _⟩ =>
      show win0_2.index T 2 * 1408 ≤ (i 2).val ∧ (i 2).val < win0_2.index T 2 * 1408 + 1408
      rw [h2]; omega

open Cert.Reference11Ideal.Read in
theorem ref (x : FVec Ideal S4224x2048 .bf16) (w : FVec Ideal S2048x11264 .bf16) : val_main_v7 (F := Ideal) x w = prod x w := by
  refine funext fun (i : S2x4224x5632.Idx) => ?_
  have b0 : (i 0).val < 2 := (i 0).isLt
  unfold val_main_v7
  by_cases h : (i 0).val = 0
  · refine (concatenate_pair_apply_left (s₁ := Cert.Reference11Ideal.S1x4224x5632) (s₂ := Cert.Reference11Ideal.S1x4224x5632) (0 : Fin 3) _ _ _ i rfl (ix3 (0 : Fin 1) (i 1) (i 2) : Cert.Reference11Ideal.S1x4224x5632.Idx) (fun b => ?_)).trans ?_
    · match b with
      | ⟨0, _⟩ => exact h.symm
      | ⟨1, _⟩ => rfl
      | ⟨2, _⟩ => rfl
    · rw [val_main_v5_apply, val_main_v3_apply, val_main_v2_apply]
      refine Finset.sum_congr rfl fun k _ => congrArg₂ (· * ·) (E2_at x _ rfl rfl) (E2_at w _ rfl ?_)
      rw [h]; show (i 2).val = 5632 * 0 + (i 2).val; omega
  · refine (concatenate_pair_apply_right (s₁ := Cert.Reference11Ideal.S1x4224x5632) (s₂ := Cert.Reference11Ideal.S1x4224x5632) (0 : Fin 3) _ _ _ i rfl rfl (ix3 (0 : Fin 1) (i 1) (i 2) : Cert.Reference11Ideal.S1x4224x5632.Idx) (fun b hb => ?_) ?_).trans ?_
    · match b, hb with
      | ⟨0, _⟩, hb => exact absurd rfl hb
      | ⟨1, _⟩, _ => rfl
      | ⟨2, _⟩, _ => rfl
    · show 0 + 1 = (i 0).val
      omega
    · rw [val_main_v6_apply, val_main_v4_apply, val_main_v2_apply]
      refine Finset.sum_congr rfl fun k _ => congrArg₂ (· * ·) (E2_at x _ rfl rfl) (E2_at w _ rfl ?_)
      rw [show (i 0).val = 1 by omega]
      first | rfl | (show (i 2).val + 5632 = _; omega) | (show 5632 + (i 2).val = _; omega)

theorem algebraic : Cert.algebraic_Kernel11Ideal_Reference11Ideal := by
  intro m g m' g' _ hagree
  refine ⟨fun c => (dats m 0 c).arrAt 2 cfg0.N, run_blocks m g, ?_⟩
  refine (θ_run Cert.Reference11Ideal.defs _ _).mono (fun r h c => ⟨(h c).1.trans ?_, (h c).2⟩) (Cert.Reference11Ideal.Value.run (F := Ideal) m' g')
  obtain ⟨a0, a1⟩ := hagree c
  refine Eq.trans ?_ (arr m c).symm
  rw [Cert.Reference11Ideal.Read.val_main_v7_eq, a0, a1]
  exact ref _ _

theorem frame_r : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

end Cert.Mm11

end
-- ==== Proof.Mm12.lean ====
/-
  THE FEED-FORWARD DOWN PROJECTION. The contracted axis is taken in two halves. The first point of a pair leaves its
  block product in the accumulator; the second adds its own and the block of the residual and writes the sum, so the
  array written back is the matrix product over the whole axis plus the residual.
-/
module

public import proofs.«01_k».proof.Defs
public import proofs.«01_k».proof.Proof.Mm
public import proofs.«01_k».proof.Proof.Gen.Kernel12Ideal.Value
public import proofs.«01_k».proof.Proof.Gen.Reference12Ideal.Read
public import proofs.«01_k».proof.Proof.Gen.Reference12Ideal.Run

@[expose] public section

set_option maxRecDepth 16384

noncomputable section

namespace Cert.Mm12

open Idealize.ShloMosaic Idealize.ShloMosaic.TcCoe Idealize.SL.Sem Cert.Kernel12Ideal Cert.Kernel12Ideal.Gen Cert.Kernel12Ideal.Value
open Idealize.ShloMosaic.Pipeline Cert.Mm

/-- One term of the product both programs compute. -/
def term (x : FVec Ideal S4224x5632 .bf16) (w : FVec Ideal S5632x2048 .bf16) (r s k : ℕ) : EReal :=
  E2 x r k * E2 w k s

/-- The product both programs compute. -/
def prod (x : FVec Ideal S4224x5632 .bf16) (w : FVec Ideal S5632x2048 .bf16) (r : FVec Ideal S4224x2048 .f32) : FVec Ideal S4224x2048 .f32 :=
  fun i => (∑ k : Fin (2816 + 2816), term x w (i 0).val (i 1).val k.val) + E2 r (i 0).val (i 1).val

theorem pay (x : Vec Ideal S1056x2816 .bf16) (w : Vec Ideal S2816x512 .bf16) (p : Fin 1056) (q : Fin 512) :
    k0_pay1 (F := Ideal) x w (ix2 p q) = ∑ k : Fin 2816, x (ix2 p k) * w (ix2 k q) := by
  pointwise [k0_pay1]

variable (m : (ℓ : Loc nD τ sig) → Buf (Elt Ideal) ℓ) (c : Dev nD)

theorem idx0 : ∀ t : Fin cfg0.N, win0_0.index t 0 = t.val / 8 ∧ win0_0.index t 1 = t.val % 2 := (by decide +kernel : ∀ t : Fin grid0.N, _)
theorem idx1 : ∀ t : Fin cfg0.N, win0_1.index t 0 = t.val % 2 ∧ win0_1.index t 1 = t.val / 2 % 4 := (by decide +kernel : ∀ t : Fin grid0.N, _)
theorem idx2 : ∀ t : Fin cfg0.N, win0_2.index t 0 = t.val / 8 ∧ win0_2.index t 1 = t.val / 2 % 4 := (by decide +kernel : ∀ t : Fin grid0.N, _)
theorem idx3 : ∀ t : Fin cfg0.N, win0_3.index t 0 = t.val / 8 ∧ win0_3.index t 1 = t.val / 2 % 4 := (by decide +kernel : ∀ t : Fin grid0.N, _)
theorem xs3 : ∀ (t : Fin cfg0.N) (a), (cfg0.win 3).xsize (cfg0.grid.coords t) a = (cfg0.win 3).size a := by decide +kernel

/-- The first point of a pair leaves its block product in the accumulator. -/
theorem accA (c : Dev nD) (i : grid0.Coords) (arg3 : Memref sig .tc .vmem S1056x2816 .bf16) (harg3 : arg3.IsWhole) (arg4 : Memref sig .tc .vmem S2816x512 .bf16) (harg4 : arg4.IsWhole) (arg5 : Memref sig .tc .vmem S1056x512 .f32) (harg5 : arg5.IsWhole) (arg6 : Memref sig .tc .vmem S1056x512 .f32) (harg6 : arg6.IsWhole) (arg7 : Memref sig .tc .vmem S1056x512 .f32) (harg7 : arg7.IsWhole) (hc0 : cond0_0 i) (hc1 : ¬cond0_1 i) (hc2 : ¬cond0_2 i)
    (x : Vec Ideal S1056x2816 .bf16) (w : Vec Ideal S2816x512 .bf16) (r : Vec Ideal S1056x512 .f32) :
    sout0_A_0 (F := Ideal) c i arg3 harg3 arg4 harg4 arg5 harg5 arg6 harg6 arg7 harg7 hc0 hc1 hc2 x w r = k0_pay1 x w := by
  unfold sout0_A_0
  rw [View.read_writes_eq_canon _ _ _ (fun _ => scover0_A_0 ..)]
  unfold kernelRun0_A
  dsimp only
  sl_unfold_words
  rw [View.canon_unit_zero (S := S1056x512) z2]
  simp only [View.readAt_eq_ld, harg3.read_unread, harg4.read_unread, View.ld_unit_zero (S := S1056x2816) z2, View.ld_unit_zero (S := S2816x512) z2, k0_pay2, shapeCast_self]

/-- The second adds its own block product and the residual to what it finds there. -/
theorem outB (c : Dev nD) (i : grid0.Coords) (arg3 : Memref sig .tc .vmem S1056x2816 .bf16) (harg3 : arg3.IsWhole) (arg4 : Memref sig .tc .vmem S2816x512 .bf16) (harg4 : arg4.IsWhole) (arg5 : Memref sig .tc .vmem S1056x512 .f32) (harg5 : arg5.IsWhole) (arg6 : Memref sig .tc .vmem S1056x512 .f32) (harg6 : arg6.IsWhole) (arg7 : Memref sig .tc .vmem S1056x512 .f32) (harg7 : arg7.IsWhole) (hc0 : ¬cond0_0 i) (hc1 : ¬cond0_1 i) (hc2 : cond0_2 i)
    (x : Vec Ideal S1056x2816 .bf16) (w : Vec Ideal S2816x512 .bf16) (r : Vec Ideal S1056x512 .f32) (a : Vec Ideal S1056x512 .f32) :
    out0_B_3 (F := Ideal) c i arg3 harg3 arg4 harg4 arg5 harg5 arg6 harg6 arg7 harg7 hc0 hc1 hc2 x w r a = k0_pay4 x w a r := by
  unfold out0_B_3
  rw [View.read_writes_eq_canon _ _ _ (fun _ => cover0_B_3 ..)]
  unfold kernelRun0_B
  dsimp only
  sl_unfold_words
  rw [View.canon_unit_zero (S := S1056x512) z2]
  simp only [View.readAt_eq_ld, harg3.read_unread, harg4.read_unread, harg5.read_unread, harg7.read_unread, View.ld_unit_zero (S := S1056x2816) z2, View.ld_unit_zero (S := S2816x512) z2, View.ld_unit_zero (S := S1056x512) z2]

/-- The point before. -/
def prev (t : Fin cfg0.N) : Fin cfg0.N := ⟨t.val - 1, Nat.lt_of_le_of_lt (Nat.sub_le _ _) t.isLt⟩

theorem out (t : Fin cfg0.N) (h : t.val % 2 = 1) : (outsAt0 m c t.val t.isLt).1
    = k0_pay4 (F := Ideal) (iblk m c 0 t) (iblk m c 1 t) (k0_pay1 (iblk m c 0 (prev t)) (iblk m c 1 (prev t))) (iblk m c 2 t) := by
  have e := congrArg Prod.fst (outsAt0_B m c t (by omega) h)
  rw [outB] at e
  have e' := congrArg Prod.snd (outsAt0_A m c (prev t) (by show (t.val - 1) % 2 = 0; omega) (by show ¬(t.val - 1) % 2 = 1; omega))
  rw [accA] at e'
  exact e.trans (congrArg (fun a => k0_pay4 (F := Ideal) (iblk m c 0 t) (iblk m c 1 t) a (iblk m c 2 t)) e')

theorem blk0 (t : Fin cfg0.N) (p : Fin 1056) (k : Fin 2816) : iblk m c 0 t (ix2 p k : S1056x2816.Idx)
    = E2 (m ((c : Thread nD τ).loc main_arg0) : FVec Ideal S4224x5632 .bf16) (1056 * (t.val / 8) + p.val) (2816 * (t.val % 2) + k.val) := by
  obtain ⟨h0, h1⟩ := idx0 t
  unfold iblk
  rw [View.read_apply]
  show V m c main_arg0 _ = _
  rw [V_main_arg0]
  refine E2_at (M := 4224) (N := 5632) _ _ ?_ ?_
  · show win0_0.index t 0 * 1056 + 1 * p.val = _
    rw [h0]; omega
  · show win0_0.index t 1 * 2816 + 1 * k.val = _
    rw [h1]; omega

theorem blk1 (t : Fin cfg0.N) (q : Fin 512) (k : Fin 2816) : iblk m c 1 t (ix2 k q : S2816x512.Idx)
    = E2 (m ((c : Thread nD τ).loc main_arg1) : FVec Ideal S5632x2048 .bf16) (2816 * (t.val % 2) + k.val) (512 * (t.val / 2 % 4) + q.val) := by
  obtain ⟨h0, h1⟩ := idx1 t
  unfold iblk
  rw [View.read_apply]
  show V m c main_arg1 _ = _
  rw [V_main_arg1]
  refine E2_at (M := 5632) (N := 2048) _ _ ?_ ?_
  · show win0_1.index t 0 * 2816 + 1 * k.val = _
    rw [h0]; omega
  · show win0_1.index t 1 * 512 + 1 * q.val = _
    rw [h1]; omega

theorem blk2 (t : Fin cfg0.N) (p : Fin 1056) (q : Fin 512) : iblk m c 2 t (ix2 p q : S1056x512.Idx)
    = E2 (m ((c : Thread nD τ).loc main_arg2) : FVec Ideal S4224x2048 .f32) (1056 * (t.val / 8) + p.val) (512 * (t.val / 2 % 4) + q.val) := by
  obtain ⟨h0, h1⟩ := idx2 t
  unfold iblk
  rw [View.read_apply]
  show V m c main_arg2 _ = _
  rw [V_main_arg2]
  refine E2_at (M := 4224) (N := 2048) _ _ ?_ ?_
  · show win0_2.index t 0 * 1056 + 1 * p.val = _
    rw [h0]; omega
  · show win0_2.index t 1 * 512 + 1 * q.val = _
    rw [h1]; omega

/-- A point's block product. -/
theorem val (t : Fin cfg0.N) (p : Fin 1056) (q : Fin 512) : k0_pay1 (F := Ideal) (iblk m c 0 t) (iblk m c 1 t) (ix2 p q : S1056x512.Idx)
    = ∑ k : Fin 2816, term (m ((c : Thread nD τ).loc main_arg0)) (m ((c : Thread nD τ).loc main_arg1))
      (1056 * (t.val / 8) + p.val) (512 * (t.val / 2 % 4) + q.val) (2816 * (t.val % 2) + k.val) := by
  rw [pay]
  refine Finset.sum_congr rfl fun k _ => ?_
  unfold term
  rw [blk0, blk1]

/-- What the second point of a pair leaves in its output block. -/
theorem val2 (t : Fin cfg0.N) (h : t.val % 2 = 1) (p : Fin 1056) (q : Fin 512) : (outsAt0 m c t.val t.isLt).1 (ix2 p q : S1056x512.Idx)
    = (∑ k : Fin (2816 + 2816), term (m ((c : Thread nD τ).loc main_arg0)) (m ((c : Thread nD τ).loc main_arg1))
      (1056 * (t.val / 8) + p.val) (512 * (t.val / 2 % 4) + q.val) k.val)
      + E2 (m ((c : Thread nD τ).loc main_arg2) : FVec Ideal S4224x2048 .f32) (1056 * (t.val / 8) + p.val) (512 * (t.val / 2 % 4) + q.val) := by
  rw [out m c t h]
  refine (congrArg₂ (· + ·) (congrArg₂ (· + ·) (val m c (prev t) p q) (val m c t p q)) (blk2 m c t p q)).trans ?_
  rw [← sum_two]
  have hp : (prev t).val = t.val - 1 := rfl
  rw [hp, show (t.val - 1) % 2 = 0 by omega, h, show (t.val - 1) / 8 = t.val / 8 by omega, show (t.val - 1) / 2 % 4 = t.val / 2 % 4 by omega]
  simp only [Nat.mul_zero, Nat.zero_add, Nat.mul_one]

theorem mem3 (t : Fin cfg0.N) (i : S4224x2048.Idx) : i ∈ ((cfg0.win 3).blk t).view.set
    ↔ ∀ a, win0_3.index t a * win0_3.size a ≤ (i a).val ∧ (i a).val < win0_3.index t a * win0_3.size a + (cfg0.win 3).xsize (cfg0.grid.coords t) a := by
  show i ∈ ((View.whole main_v0).slice (win0_3.rect t)).set ↔ _
  rw [View.set_slice_whole, Rect.mem_set_unit]

/-- The array after the run is the product. -/
theorem arr : (dats m 0 c).arrAt 3 cfg0.N = prod (m ((c : Thread nD τ).loc main_arg0)) (m ((c : Thread nD τ).loc main_arg1)) (m ((c : Thread nD τ).loc main_arg2)) := by
  refine (dats m 0 c).arrAt_eq_of_cover 3 _ (fun t hf => ?_) (fun i => ?_)
  · have h : t.val % 2 = 1 := (flush0_3 t).mp hf
    rw [flushed3]
    obtain ⟨h0, h1⟩ := idx3 t
    refine funext fun (y : S1056x512.Idx) => ?_
    rw [View.read_apply]
    refine Eq.trans (b := (outsAt0 m c t.val t.isLt).1 y) rfl ?_
    obtain ⟨p, q, rfl⟩ : ∃ (p : Fin 1056) (q : Fin 512), y = ix2 p q := ⟨y 0, y 1, eq_ix2 y⟩
    rw [val2 m c t h]
    have e0 : ((((cfg0.win 3).blk t).view.emb (ix2 p q : S1056x512.Idx) : S4224x2048.Idx) 0).val = 1056 * (t.val / 8) + p.val := by
      show win0_3.index t 0 * 1056 + 1 * p.val = _
      rw [h0]; omega
    have e1 : ((((cfg0.win 3).blk t).view.emb (ix2 p q : S1056x512.Idx) : S4224x2048.Idx) 1).val = 512 * (t.val / 2 % 4) + q.val := by
      show win0_3.index t 1 * 512 + 1 * q.val = _
      rw [h1]; omega
    rw [← e0, ← e1]
    rfl
  · have b0 : (i 0).val < 4224 := (i 0).isLt
    have b1 : (i 1).val < 2048 := (i 1).isLt
    obtain ⟨T, hT⟩ : ∃ T : Fin cfg0.N, T.val = 8 * ((i 0).val / 1056) + 2 * ((i 1).val / 512) + 1 := ⟨⟨_, (by omega : _ < 32)⟩, rfl⟩
    obtain ⟨h0, h1⟩ := idx3 T
    refine ⟨T, (flush0_3 T).mpr (by omega), (mem3 T i).mpr fun a => ?_⟩
    rw [xs3]
    match a with
    | ⟨0, _⟩ =>
      show win0_3.index T 0 * 1056 ≤ (i 0).val ∧ (i 0).val < win0_3.index T 0 * 1056 + 1056
      rw [h0]; omega
    | ⟨1, _⟩ =>
      show win0_3.index T 1 * 512 ≤ (i 1).val ∧ (i 1).val < win0_3.index T 1 * 512 + 512
      rw [h1]; omega

theorem ref (x : FVec Ideal S4224x5632 .bf16) (w : FVec Ideal S5632x2048 .bf16) (r : FVec Ideal S4224x2048 .f32) :
    Cert.Reference12Ideal.Read.val_main_v3 (F := Ideal) x w r = prod x w r := by
  funext i
  rw [Cert.Reference12Ideal.Read.val_main_v3_apply, Cert.Reference12Ideal.Read.val_main_v2_apply]
  refine congrArg₂ (· + ·) ?_ (E2_at r _ rfl rfl)
  refine Finset.sum_congr rfl fun k _ => congrArg₂ (· * ·) ?_ ?_
  · exact E2_at x _ rfl rfl
  · exact E2_at w _ rfl rfl

theorem algebraic : Cert.algebraic_Kernel12Ideal_Reference12Ideal := by
  intro m g m' g' _ hagree
  refine ⟨fun c => (dats m 0 c).arrAt 3 cfg0.N, run_blocks m g, ?_⟩
  refine (θ_run Cert.Reference12Ideal.defs _ _).mono (fun r h c => ⟨(h c).1.trans ?_, (h c).2⟩) (Cert.Reference12Ideal.Value.run (F := Ideal) m' g')
  obtain ⟨a0, a1, a2⟩ := hagree c
  refine Eq.trans ?_ (arr m c).symm
  rw [Cert.Reference12Ideal.Read.val_main_v3_eq, a0, a1, a2]
  exact ref _ _ _

theorem frame_r : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

end Cert.Mm12

end
-- ==== Proof.Mm13.lean ====
/-
  THE OUTPUT PROJECTION. Each grid point multiplies one block of rows of the activations by one block of
  columns of the weights, over the whole contracted axis, and
  adds the block of the residual, so the array written back is the matrix product plus the residual.
-/
module

public import proofs.«01_k».proof.Defs
public import proofs.«01_k».proof.Proof.Mm
public import proofs.«01_k».proof.Proof.Gen.Kernel13Ideal.Value
public import proofs.«01_k».proof.Proof.Gen.Reference13Ideal.Read
public import proofs.«01_k».proof.Proof.Gen.Reference13Ideal.Run

@[expose] public section

set_option maxRecDepth 16384

noncomputable section

namespace Cert.Mm13

open Idealize.ShloMosaic Idealize.ShloMosaic.TcCoe Idealize.SL.Sem Cert.Kernel13Ideal Cert.Kernel13Ideal.Gen Cert.Kernel13Ideal.Value
open Idealize.ShloMosaic.Pipeline Cert.Mm

/-- The product both programs compute. -/
def prod (x : FVec Ideal S4224x4096 .bf16) (w : FVec Ideal S4096x2048 .bf16) (r : FVec Ideal S4224x2048 .f32) : FVec Ideal S4224x2048 .f32 :=
  fun i => (∑ k : Fin 4096, E2 x (i 0).val k.val * E2 w k.val (i 1).val) + E2 r (i 0).val (i 1).val

theorem pay (x : Vec Ideal S1056x4096 .bf16) (w : Vec Ideal S4096x512 .bf16) (r : Vec Ideal S1056x512 .f32) (p : Fin 1056) (q : Fin 512) :
    k0_pay1 (F := Ideal) x w r (ix2 p q) = (∑ k : Fin 4096, x (ix2 p k) * w (ix2 k q)) + r (ix2 p q) := by
  pointwise [k0_pay1]

variable (m : (ℓ : Loc nD τ sig) → Buf (Elt Ideal) ℓ) (c : Dev nD)

theorem idx0 : ∀ t : Fin cfg0.N, win0_0.index t 0 = t.val / 4 ∧ win0_0.index t 1 = 0 := (by decide +kernel : ∀ t : Fin grid0.N, _)
theorem idx1 : ∀ t : Fin cfg0.N, win0_1.index t 0 = 0 ∧ win0_1.index t 1 = t.val % 4 := (by decide +kernel : ∀ t : Fin grid0.N, _)
theorem idx3 : ∀ t : Fin cfg0.N, win0_3.index t 0 = t.val / 4 ∧ win0_3.index t 1 = t.val % 4 := (by decide +kernel : ∀ t : Fin grid0.N, _)
theorem idx2 : ∀ t : Fin cfg0.N, win0_2.index t 0 = t.val / 4 ∧ win0_2.index t 1 = t.val % 4 := (by decide +kernel : ∀ t : Fin grid0.N, _)
theorem xs3 : ∀ (t : Fin cfg0.N) (a), (cfg0.win 3).xsize (cfg0.grid.coords t) a = (cfg0.win 3).size a := by decide +kernel

theorem out (x : Vec Ideal S1056x4096 .bf16) (w : Vec Ideal S4096x512 .bf16) (r : Vec Ideal S1056x512 .f32) :
    out0_3 (F := Ideal) x w r = k0_pay1 x w r := by
  unfold out0_3
  rw [View.canon_unit_zero (S := S1056x512) z2, View.ld_unit_zero (S := S1056x4096) z2, View.ld_unit_zero (S := S4096x512) z2,
    View.ld_unit_zero (S := S1056x512) z2]

theorem blk0 (t : Fin cfg0.N) (p : Fin 1056) (k : Fin 4096) : iblk m c 0 t (ix2 p k : S1056x4096.Idx)
    = E2 (m ((c : Thread nD τ).loc main_arg0) : FVec Ideal S4224x4096 .bf16) (1056 * (t.val / 4) + p.val) k.val := by
  obtain ⟨h0, h1⟩ := idx0 t
  unfold iblk
  rw [View.read_apply]
  show V m c main_arg0 _ = _
  rw [V_main_arg0]
  refine E2_at (M := 4224) (N := 4096) _ _ ?_ ?_
  · show win0_0.index t 0 * 1056 + 1 * p.val = _
    rw [h0]; omega
  · show win0_0.index t 1 * 4096 + 1 * k.val = _
    rw [h1]; omega

theorem blk1 (t : Fin cfg0.N) (q : Fin 512) (k : Fin 4096) : iblk m c 1 t (ix2 k q : S4096x512.Idx)
    = E2 (m ((c : Thread nD τ).loc main_arg1) : FVec Ideal S4096x2048 .bf16) k.val (512 * (t.val % 4) + q.val) := by
  obtain ⟨h0, h1⟩ := idx1 t
  unfold iblk
  rw [View.read_apply]
  show V m c main_arg1 _ = _
  rw [V_main_arg1]
  refine E2_at (M := 4096) (N := 2048) _ _ ?_ ?_
  · show win0_1.index t 0 * 4096 + 1 * k.val = _
    rw [h0]; omega
  · show win0_1.index t 1 * 512 + 1 * q.val = _
    rw [h1]; omega

theorem blk2 (t : Fin cfg0.N) (p : Fin 1056) (q : Fin 512) : iblk m c 2 t (ix2 p q : S1056x512.Idx)
    = E2 (m ((c : Thread nD τ).loc main_arg2) : FVec Ideal S4224x2048 .f32) (1056 * (t.val / 4) + p.val) (512 * (t.val % 4) + q.val) := by
  obtain ⟨h0, h1⟩ := idx2 t
  unfold iblk
  rw [View.read_apply]
  show V m c main_arg2 _ = _
  rw [V_main_arg2]
  refine E2_at (M := 4224) (N := 2048) _ _ ?_ ?_
  · show win0_2.index t 0 * 1056 + 1 * p.val = _
    rw [h0]; omega
  · show win0_2.index t 1 * 512 + 1 * q.val = _
    rw [h1]; omega

/-- What a point leaves in its output block. -/
theorem val (t : Fin cfg0.N) (p : Fin 1056) (q : Fin 512) : k0_pay1 (F := Ideal) (iblk m c 0 t) (iblk m c 1 t) (iblk m c 2 t) (ix2 p q : S1056x512.Idx)
    = (∑ k : Fin 4096, E2 (m ((c : Thread nD τ).loc main_arg0) : FVec Ideal S4224x4096 .bf16) (1056 * (t.val / 4) + p.val) k.val
      * E2 (m ((c : Thread nD τ).loc main_arg1) : FVec Ideal S4096x2048 .bf16) k.val (512 * (t.val % 4) + q.val))
      + E2 (m ((c : Thread nD τ).loc main_arg2) : FVec Ideal S4224x2048 .f32) (1056 * (t.val / 4) + p.val) (512 * (t.val % 4) + q.val) := by
  rw [pay, blk2]
  refine congrArg (· + _) (Finset.sum_congr rfl fun k _ => ?_)
  rw [blk0, blk1]

theorem mem3 (t : Fin cfg0.N) (i : S4224x2048.Idx) : i ∈ ((cfg0.win 3).blk t).view.set
    ↔ ∀ a, win0_3.index t a * win0_3.size a ≤ (i a).val ∧ (i a).val < win0_3.index t a * win0_3.size a + (cfg0.win 3).xsize (cfg0.grid.coords t) a := by
  show i ∈ ((View.whole main_v0).slice (win0_3.rect t)).set ↔ _
  rw [View.set_slice_whole, Rect.mem_set_unit]

/-- The array after the run is the product. -/
theorem arr : (dats m 0 c).arrAt 3 cfg0.N = prod (m ((c : Thread nD τ).loc main_arg0)) (m ((c : Thread nD τ).loc main_arg1)) (m ((c : Thread nD τ).loc main_arg2)) := by
  refine (dats m 0 c).arrAt_eq_of_cover 3 _ (fun t hf => ?_) (fun i => ?_)
  · rw [flushed3, out]
    obtain ⟨h0, h1⟩ := idx3 t
    refine funext fun (y : S1056x512.Idx) => ?_
    rw [View.read_apply]
    refine Eq.trans (b := k0_pay1 (F := Ideal) (iblk m c 0 t) (iblk m c 1 t) (iblk m c 2 t) y) rfl ?_
    obtain ⟨p, q, rfl⟩ : ∃ (p : Fin 1056) (q : Fin 512), y = ix2 p q := ⟨y 0, y 1, eq_ix2 y⟩
    rw [val]
    have e0 : ((((cfg0.win 3).blk t).view.emb (ix2 p q : S1056x512.Idx) : S4224x2048.Idx) 0).val = 1056 * (t.val / 4) + p.val := by
      show win0_3.index t 0 * 1056 + 1 * p.val = _
      rw [h0]; omega
    have e1 : ((((cfg0.win 3).blk t).view.emb (ix2 p q : S1056x512.Idx) : S4224x2048.Idx) 1).val = 512 * (t.val % 4) + q.val := by
      show win0_3.index t 1 * 512 + 1 * q.val = _
      rw [h1]; omega
    rw [← e0, ← e1]
    rfl
  · have b0 : (i 0).val < 4224 := (i 0).isLt
    have b1 : (i 1).val < 2048 := (i 1).isLt
    obtain ⟨T, hT⟩ : ∃ T : Fin cfg0.N, T.val = 4 * ((i 0).val / 1056) + (i 1).val / 512 := ⟨⟨_, (by omega : _ < 16)⟩, rfl⟩
    obtain ⟨h0, h1⟩ := idx3 T
    refine ⟨T, flush0_3 T, (mem3 T i).mpr fun a => ?_⟩
    rw [xs3]
    match a with
    | ⟨0, _⟩ =>
      show win0_3.index T 0 * 1056 ≤ (i 0).val ∧ (i 0).val < win0_3.index T 0 * 1056 + 1056
      rw [h0]; omega
    | ⟨1, _⟩ =>
      show win0_3.index T 1 * 512 ≤ (i 1).val ∧ (i 1).val < win0_3.index T 1 * 512 + 512
      rw [h1]; omega

theorem ref (x : FVec Ideal S4224x4096 .bf16) (w : FVec Ideal S4096x2048 .bf16) (r : FVec Ideal S4224x2048 .f32) :
    Cert.Reference13Ideal.Read.val_main_v3 (F := Ideal) x w r = prod x w r := by
  funext i
  rw [Cert.Reference13Ideal.Read.val_main_v3_apply, Cert.Reference13Ideal.Read.val_main_v2_apply]
  refine congrArg₂ (· + ·) ?_ (E2_at r _ rfl rfl)
  refine Finset.sum_congr rfl fun k _ => congrArg₂ (· * ·) ?_ ?_
  · exact E2_at x _ rfl rfl
  · exact E2_at w _ rfl rfl

theorem algebraic : Cert.algebraic_Kernel13Ideal_Reference13Ideal := by
  intro m g m' g' _ hagree
  refine ⟨fun c => (dats m 0 c).arrAt 3 cfg0.N, run_blocks m g, ?_⟩
  refine (θ_run Cert.Reference13Ideal.defs _ _).mono (fun r h c => ⟨(h c).1.trans ?_, (h c).2⟩) (Cert.Reference13Ideal.Value.run (F := Ideal) m' g')
  obtain ⟨a0, a1, a2⟩ := hagree c
  refine Eq.trans ?_ (arr m c).symm
  rw [Cert.Reference13Ideal.Read.val_main_v3_eq, a0, a1, a2]
  exact ref _ _ _

theorem frame_r : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

end Cert.Mm13

end
-- ==== Proof.Adam.lean ====
/-
  ONE STEP OF ADAMW ON ONE WEIGHT, over the extended reals: the new averages of the gradient and of its square, and the
  change of the weight. The constants are the rationals of their float words.
-/
module

public import Idealize.ShloMosaic.Lib.Pointwise

@[expose] public section

noncomputable section

namespace Cert.Adam

open Idealize.ShloMosaic

/-- A float word's value. -/
abbrev k (b : BitVec 32) : Ideal .f32 := FloatOps.ofBits .f32 b

/-- The new average of the gradient. -/
def nm (g m : Ideal .f32) : Ideal .f32 := k 0x3F666666#32 * m + k 0x3DCCCCCD#32 * g
/-- The new average of the gradient's square. -/
def nv (g v : Ideal .f32) : Ideal .f32 := k 0x3F7FBE77#32 * v + k 0x3A83126F#32 * (g * g)
/-- The change of the weight. -/
def dl (w g m v : Ideal .f32) : Ideal .f32 :=
  k 0xBA83126F#32 * (FloatOps.divf (FloatOps.divf (nm g m) (k 0x3F26BD02#32))
    (FloatOps.sqrt (FloatOps.divf (nv g v) (k 0x3C231ACC#32)) + k 0x322BCC77#32) + k 0x3C23D70A#32 * w)

end Cert.Adam

end
-- ==== Proof.Adam14.lean ====
/-
  ADAMW ON THE WEIGHTS OF THE INPUT PROJECTION. Each grid point takes 128 rows of the weights, their gradients and their two averages
  through one step, element by element, so the three arrays written back are the step of the whole arrays.
-/
module

public import proofs.«01_k».proof.Defs
public import proofs.«01_k».proof.Proof.Mm
public import proofs.«01_k».proof.Proof.Adam
public import proofs.«01_k».proof.Proof.Gen.Kernel14Ideal.Value
public import proofs.«01_k».proof.Proof.Gen.Reference14Ideal.Read
public import proofs.«01_k».proof.Proof.Gen.Reference14Ideal.Run

@[expose] public section

set_option maxRecDepth 16384

noncomputable section

namespace Cert.Adam14

open Idealize.ShloMosaic Idealize.ShloMosaic.TcCoe Idealize.SL.Sem Cert.Kernel14Ideal Cert.Kernel14Ideal.Gen Cert.Kernel14Ideal.Value
open Idealize.ShloMosaic.Pipeline Cert.Mm Cert.Adam

abbrev A3 := FVec Ideal S1x2048x3344 .f32
abbrev A2 := FVec Ideal S2048x3344 .f32
abbrev B3 := Vec Ideal S1x128x3344 .f32
abbrev B2 := Vec Ideal S128x3344 .f32

/-- The three arrays both programs compute. -/
def gm (g : A2) (m : A3) : A3 := fun i => nm (g (ix2 (i 1) (i 2))) (m i)
def gv (g : A2) (v : A3) : A3 := fun i => nv (g (ix2 (i 1) (i 2))) (v i)
def gd (w : A3) (g : A2) (m v : A3) : A3 := fun i => dl (w i) (g (ix2 (i 1) (i 2))) (m i) (v i)

theorem pm (g : B2) (m : B3) (p : Fin 128) (q : Fin 3344) : k0_pay1 (F := Ideal) (k0_pay3 g m) (ix3 0 p q) = nm (g (ix2 p q)) (m (ix3 0 p q)) := by
  pointwise [k0_pay1, k0_pay3, nm]
theorem pv (g : B2) (v : B3) (p : Fin 128) (q : Fin 3344) : k0_pay2 (F := Ideal) (k0_pay4 g v) (ix3 0 p q) = nv (g (ix2 p q)) (v (ix3 0 p q)) := by
  pointwise [k0_pay2, k0_pay4, nv]
theorem pd (w : B3) (g : B2) (m v : B3) (p : Fin 128) (q : Fin 3344) : k0_pay5 (F := Ideal) g m v w (ix3 0 p q)
    = dl (w (ix3 0 p q)) (g (ix2 p q)) (m (ix3 0 p q)) (v (ix3 0 p q)) := by
  pointwise [k0_pay5, k0_pay3, k0_pay4, dl, nm, nv]

variable (m : (ℓ : Loc nD τ sig) → Buf (Elt Ideal) ℓ) (c : Dev nD)

abbrev W : A3 := m ((c : Thread nD τ).loc main_arg0)
abbrev G : A2 := m ((c : Thread nD τ).loc main_arg1)
abbrev M : A3 := m ((c : Thread nD τ).loc main_arg2)
abbrev Q : A3 := m ((c : Thread nD τ).loc main_arg3)

theorem idx4 : ∀ t : Fin cfg0.N, win0_4.index t 0 = 0 ∧ win0_4.index t 1 = t.val ∧ win0_4.index t 2 = 0 := (by decide +kernel : ∀ t : Fin grid0.N, _)
theorem xs4 : ∀ (t : Fin cfg0.N) (a), (cfg0.win 4).xsize (cfg0.grid.coords t) a = (cfg0.win 4).size a := by decide +kernel

/-- The place of a block's element in the whole array. -/
abbrev at4 (t : Fin cfg0.N) (y : S1x128x3344.Idx) : S1x2048x3344.Idx := ((cfg0.win 4).blk t).view.emb y

theorem b0 (t : Fin cfg0.N) (y : S1x128x3344.Idx) : (iblk m c 0 t : B3) y = W m c (at4 t y) := rfl
theorem b2 (t : Fin cfg0.N) (y : S1x128x3344.Idx) : (iblk m c 2 t : B3) y = M m c (at4 t y) := rfl
theorem b3 (t : Fin cfg0.N) (y : S1x128x3344.Idx) : (iblk m c 3 t : B3) y = Q m c (at4 t y) := rfl
theorem b1 (t : Fin cfg0.N) (p : Fin 128) (q : Fin 3344) : (iblk m c 1 t : B2) (ix2 p q) = G m c (ix2 (at4 t (ix3 0 p q) 1) (at4 t (ix3 0 p q) 2)) := by
  unfold iblk
  rw [View.read_apply]
  show G m c _ = _
  refine congrArg (G m c) (funext fun a => ?_)
  match a with
  | ⟨0, _⟩ => rfl
  | ⟨1, _⟩ => rfl

theorem unit (y : S1x128x3344.Idx) : ∃ (p : Fin 128) (q : Fin 3344), y = ix3 0 p q := ⟨y 1, y 2, by
  rw [eq_ix3 y]; exact congrArg (fun z => ix3 z (y 1) (y 2)) (Fin.fin_one_eq_zero (y 0))⟩

theorem mem4 (t : Fin cfg0.N) (i : S1x2048x3344.Idx) : i ∈ ((cfg0.win 4).blk t).view.set
    ↔ ∀ a, win0_4.index t a * win0_4.size a ≤ (i a).val ∧ (i a).val < win0_4.index t a * win0_4.size a + (cfg0.win 4).xsize (cfg0.grid.coords t) a := by
  show i ∈ ((View.whole main_v0_0).slice (win0_4.rect t)).set ↔ _
  rw [View.set_slice_whole, Rect.mem_set_unit]

/-- The blocks fill the array. -/
theorem cover4 (i : S1x2048x3344.Idx) : ∃ t : Fin cfg0.N, i ∈ ((cfg0.win 4).blk t).view.set := by
  have b0 : (i 0).val < 1 := (i 0).isLt
  have b1 : (i 1).val < 2048 := (i 1).isLt
  have b2 : (i 2).val < 3344 := (i 2).isLt
  obtain ⟨T, hT⟩ : ∃ T : Fin cfg0.N, T.val = (i 1).val / 128 := ⟨⟨_, (by omega : _ < 16)⟩, rfl⟩
  obtain ⟨h0, h1, h2⟩ := idx4 T
  refine ⟨T, (mem4 T i).mpr fun a => ?_⟩
  rw [xs4]
  match a with
  | ⟨0, _⟩ =>
    show win0_4.index T 0 * 1 ≤ (i 0).val ∧ (i 0).val < win0_4.index T 0 * 1 + 1
    rw [h0]; omega
  | ⟨1, _⟩ =>
    show win0_4.index T 1 * 128 ≤ (i 1).val ∧ (i 1).val < win0_4.index T 1 * 128 + 128
    rw [h1]; omega
  | ⟨2, _⟩ =>
    show win0_4.index T 2 * 3344 ≤ (i 2).val ∧ (i 2).val < win0_4.index T 2 * 3344 + 3344
    rw [h2]; omega

/-- The arrays after the run. -/
theorem arr4 : (dats m 0 c).arrAt 4 cfg0.N = gd (W m c) (G m c) (M m c) (Q m c) := by
  refine (dats m 0 c).arrAt_eq_of_cover 4 _ (fun t _ => ?_) (fun i => (cover4 i).imp fun t h => ⟨flush0_4 t, h⟩)
  rw [flushed4]
  unfold out0_4
  rw [View.canon_unit_zero (S := S1x128x3344) z3, View.ld_unit_zero (S := S128x3344) z2]
  simp only [View.ld_unit_zero (S := S1x128x3344) z3]
  refine funext fun (y : S1x128x3344.Idx) => ?_
  obtain ⟨p, q, rfl⟩ := unit y
  exact (pd _ _ _ _ p q).trans (by rw [b0, b1, b2, b3]; rfl)

theorem arr5 : (dats m 0 c).arrAt 5 cfg0.N = gm (G m c) (M m c) := by
  refine (dats m 0 c).arrAt_eq_of_cover 5 _ (fun t _ => ?_) (fun i => (cover4 i).imp fun t h => ⟨flush0_5 t, h⟩)
  rw [flushed5]
  unfold out0_5
  rw [View.canon_unit_zero (S := S1x128x3344) z3, View.ld_unit_zero (S := S128x3344) z2, View.ld_unit_zero (S := S1x128x3344) z3]
  refine funext fun (y : S1x128x3344.Idx) => ?_
  obtain ⟨p, q, rfl⟩ := unit y
  exact (pm _ _ p q).trans (by rw [b1, b2]; rfl)

theorem arr6 : (dats m 0 c).arrAt 6 cfg0.N = gv (G m c) (Q m c) := by
  refine (dats m 0 c).arrAt_eq_of_cover 6 _ (fun t _ => ?_) (fun i => (cover4 i).imp fun t h => ⟨flush0_6 t, h⟩)
  rw [flushed6]
  unfold out0_6
  rw [View.canon_unit_zero (S := S1x128x3344) z3, View.ld_unit_zero (S := S128x3344) z2, View.ld_unit_zero (S := S1x128x3344) z3]
  refine funext fun (y : S1x128x3344.Idx) => ?_
  obtain ⟨p, q, rfl⟩ := unit y
  exact (pv _ _ p q).trans (by rw [b1, b3]; rfl)

section
open Cert.Reference14Ideal.Read

theorem rg (g : A2) (i : S1x2048x3344.Idx) : val_main_v0 (F := Ideal) g i = g (ix2 (i 1) (i 2)) := by
  rw [val_main_v0_apply]
  exact congrArg g (eq_ix2 _)

theorem rm (g : A2) (a : A3) : val_main_v5 (F := Ideal) g a = gm g a := by
  refine funext fun i => ?_
  simp only [val_main_v5_apply, val_main_v2_apply, val_main_v4_apply, val_main_v1_apply, val_main_v3_apply, rg]
  rfl
theorem rv (g : A2) (a : A3) : val_main_v11 (F := Ideal) g a = gv g a := by
  refine funext fun i => ?_
  simp only [val_main_v11_apply, val_main_v7_apply, val_main_v10_apply, val_main_v6_apply, val_main_v9_apply, val_main_v8_apply, rg]
  rfl
theorem rd (w : A3) (g : A2) (a b : A3) : val_main_v24 (F := Ideal) w g a b = gd w g a b := by
  refine funext fun i => ?_
  simp only [val_main_v24_apply, val_main_v23_apply, val_main_v22_apply, val_main_v21_apply, val_main_v20_apply, val_main_v19_apply,
    val_main_v18_apply, val_main_v17_apply, val_main_v16_apply, val_main_v15_apply, val_main_v14_apply, val_main_v13_apply, val_main_v12_apply, rm, rv]
  rfl
end

theorem algebraic : Cert.algebraic_Kernel14Ideal_Reference14Ideal := by
  intro m g m' g' _ hagree
  refine ⟨fun c => (dats m 0 c).arrAt 4 cfg0.N, fun c => (dats m 0 c).arrAt 5 cfg0.N, fun c => (dats m 0 c).arrAt 6 cfg0.N, run_blocks m g, ?_⟩
  refine (θ_run Cert.Reference14Ideal.defs _ _).mono (fun r h c => ?_) (Cert.Reference14Ideal.Value.run (F := Ideal) m' g')
  obtain ⟨a0, a1, a2, a3⟩ := hagree c
  refine ⟨(h c).1.trans ?_, (h c).2.1.trans ?_, (h c).2.2.1.trans ?_, (h c).2.2.2⟩
  · refine Eq.trans ?_ (arr4 m c).symm
    rw [Cert.Reference14Ideal.Read.val_main_v24_eq, a0, a1, a2, a3]
    exact rd _ _ _ _
  · refine Eq.trans ?_ (arr5 m c).symm
    rw [Cert.Reference14Ideal.Read.val_main_v5_eq, a1, a2]
    exact rm _ _
  · refine Eq.trans ?_ (arr6 m c).symm
    rw [Cert.Reference14Ideal.Read.val_main_v11_eq, a1, a3]
    exact rv _ _

theorem frame_r : Cert.quiescent_Reference14Ideal := fun m ρ _ =>
  (θ_run Cert.Reference14Ideal.defs _ _).mono (fun r h => ⟨fun c => (h c).2.2.2, Idealize.ShloMosaic.sem_eq_zero_of_no_sems (by decide) r.2⟩)
    (Cert.Reference14Ideal.Value.run (F := Ideal) m ρ)

end Cert.Adam14

end
-- ==== Proof.Adam15.lean ====
/-
  ADAMW ON THE WEIGHTS OF THE OUTPUT PROJECTION. Each grid point takes 256 rows of the weights, their gradients and their two averages
  through one step, element by element, so the three arrays written back are the step of the whole arrays.
-/
module

public import proofs.«01_k».proof.Defs
public import proofs.«01_k».proof.Proof.Mm
public import proofs.«01_k».proof.Proof.Adam
public import proofs.«01_k».proof.Proof.Gen.Kernel15Ideal.Value
public import proofs.«01_k».proof.Proof.Gen.Reference15Ideal.Read
public import proofs.«01_k».proof.Proof.Gen.Reference15Ideal.Run

@[expose] public section

set_option maxRecDepth 16384

noncomputable section

namespace Cert.Adam15

open Idealize.ShloMosaic Idealize.ShloMosaic.TcCoe Idealize.SL.Sem Cert.Kernel15Ideal Cert.Kernel15Ideal.Gen Cert.Kernel15Ideal.Value
open Idealize.ShloMosaic.Pipeline Cert.Mm Cert.Adam

abbrev A3 := FVec Ideal S1x1024x2048 .f32
abbrev A2 := FVec Ideal S1024x2048 .f32
abbrev B3 := Vec Ideal S1x256x2048 .f32
abbrev B2 := Vec Ideal S256x2048 .f32

/-- The three arrays both programs compute. -/
def gm (g : A2) (m : A3) : A3 := fun i => nm (g (ix2 (i 1) (i 2))) (m i)
def gv (g : A2) (v : A3) : A3 := fun i => nv (g (ix2 (i 1) (i 2))) (v i)
def gd (w : A3) (g : A2) (m v : A3) : A3 := fun i => dl (w i) (g (ix2 (i 1) (i 2))) (m i) (v i)

theorem pm (g : B2) (m : B3) (p : Fin 256) (q : Fin 2048) : k0_pay1 (F := Ideal) (k0_pay3 g m) (ix3 0 p q) = nm (g (ix2 p q)) (m (ix3 0 p q)) := by
  pointwise [k0_pay1, k0_pay3, nm]
theorem pv (g : B2) (v : B3) (p : Fin 256) (q : Fin 2048) : k0_pay2 (F := Ideal) (k0_pay4 g v) (ix3 0 p q) = nv (g (ix2 p q)) (v (ix3 0 p q)) := by
  pointwise [k0_pay2, k0_pay4, nv]
theorem pd (w : B3) (g : B2) (m v : B3) (p : Fin 256) (q : Fin 2048) : k0_pay5 (F := Ideal) g m v w (ix3 0 p q)
    = dl (w (ix3 0 p q)) (g (ix2 p q)) (m (ix3 0 p q)) (v (ix3 0 p q)) := by
  pointwise [k0_pay5, k0_pay3, k0_pay4, dl, nm, nv]

variable (m : (ℓ : Loc nD τ sig) → Buf (Elt Ideal) ℓ) (c : Dev nD)

abbrev W : A3 := m ((c : Thread nD τ).loc main_arg0)
abbrev G : A2 := m ((c : Thread nD τ).loc main_arg1)
abbrev M : A3 := m ((c : Thread nD τ).loc main_arg2)
abbrev Q : A3 := m ((c : Thread nD τ).loc main_arg3)

theorem idx4 : ∀ t : Fin cfg0.N, win0_4.index t 0 = 0 ∧ win0_4.index t 1 = t.val ∧ win0_4.index t 2 = 0 := (by decide +kernel : ∀ t : Fin grid0.N, _)
theorem xs4 : ∀ (t : Fin cfg0.N) (a), (cfg0.win 4).xsize (cfg0.grid.coords t) a = (cfg0.win 4).size a := by decide +kernel

/-- The place of a block's element in the whole array. -/
abbrev at4 (t : Fin cfg0.N) (y : S1x256x2048.Idx) : S1x1024x2048.Idx := ((cfg0.win 4).blk t).view.emb y

theorem b0 (t : Fin cfg0.N) (y : S1x256x2048.Idx) : (iblk m c 0 t : B3) y = W m c (at4 t y) := rfl
theorem b2 (t : Fin cfg0.N) (y : S1x256x2048.Idx) : (iblk m c 2 t : B3) y = M m c (at4 t y) := rfl
theorem b3 (t : Fin cfg0.N) (y : S1x256x2048.Idx) : (iblk m c 3 t : B3) y = Q m c (at4 t y) := rfl
theorem b1 (t : Fin cfg0.N) (p : Fin 256) (q : Fin 2048) : (iblk m c 1 t : B2) (ix2 p q) = G m c (ix2 (at4 t (ix3 0 p q) 1) (at4 t (ix3 0 p q) 2)) := by
  unfold iblk
  rw [View.read_apply]
  show G m c _ = _
  refine congrArg (G m c) (funext fun a => ?_)
  match a with
  | ⟨0, _⟩ => rfl
  | ⟨1, _⟩ => rfl

theorem unit (y : S1x256x2048.Idx) : ∃ (p : Fin 256) (q : Fin 2048), y = ix3 0 p q := ⟨y 1, y 2, by
  rw [eq_ix3 y]; exact congrArg (fun z => ix3 z (y 1) (y 2)) (Fin.fin_one_eq_zero (y 0))⟩

theorem mem4 (t : Fin cfg0.N) (i : S1x1024x2048.Idx) : i ∈ ((cfg0.win 4).blk t).view.set
    ↔ ∀ a, win0_4.index t a * win0_4.size a ≤ (i a).val ∧ (i a).val < win0_4.index t a * win0_4.size a + (cfg0.win 4).xsize (cfg0.grid.coords t) a := by
  show i ∈ ((View.whole main_v0_0).slice (win0_4.rect t)).set ↔ _
  rw [View.set_slice_whole, Rect.mem_set_unit]

/-- The blocks fill the array. -/
theorem cover4 (i : S1x1024x2048.Idx) : ∃ t : Fin cfg0.N, i ∈ ((cfg0.win 4).blk t).view.set := by
  have b0 : (i 0).val < 1 := (i 0).isLt
  have b1 : (i 1).val < 1024 := (i 1).isLt
  have b2 : (i 2).val < 2048 := (i 2).isLt
  obtain ⟨T, hT⟩ : ∃ T : Fin cfg0.N, T.val = (i 1).val / 256 := ⟨⟨_, (by omega : _ < 4)⟩, rfl⟩
  obtain ⟨h0, h1, h2⟩ := idx4 T
  refine ⟨T, (mem4 T i).mpr fun a => ?_⟩
  rw [xs4]
  match a with
  | ⟨0, _⟩ =>
    show win0_4.index T 0 * 1 ≤ (i 0).val ∧ (i 0).val < win0_4.index T 0 * 1 + 1
    rw [h0]; omega
  | ⟨1, _⟩ =>
    show win0_4.index T 1 * 256 ≤ (i 1).val ∧ (i 1).val < win0_4.index T 1 * 256 + 256
    rw [h1]; omega
  | ⟨2, _⟩ =>
    show win0_4.index T 2 * 2048 ≤ (i 2).val ∧ (i 2).val < win0_4.index T 2 * 2048 + 2048
    rw [h2]; omega

/-- The arrays after the run. -/
theorem arr4 : (dats m 0 c).arrAt 4 cfg0.N = gd (W m c) (G m c) (M m c) (Q m c) := by
  refine (dats m 0 c).arrAt_eq_of_cover 4 _ (fun t _ => ?_) (fun i => (cover4 i).imp fun t h => ⟨flush0_4 t, h⟩)
  rw [flushed4]
  unfold out0_4
  rw [View.canon_unit_zero (S := S1x256x2048) z3, View.ld_unit_zero (S := S256x2048) z2]
  simp only [View.ld_unit_zero (S := S1x256x2048) z3]
  refine funext fun (y : S1x256x2048.Idx) => ?_
  obtain ⟨p, q, rfl⟩ := unit y
  exact (pd _ _ _ _ p q).trans (by rw [b0, b1, b2, b3]; rfl)

theorem arr5 : (dats m 0 c).arrAt 5 cfg0.N = gm (G m c) (M m c) := by
  refine (dats m 0 c).arrAt_eq_of_cover 5 _ (fun t _ => ?_) (fun i => (cover4 i).imp fun t h => ⟨flush0_5 t, h⟩)
  rw [flushed5]
  unfold out0_5
  rw [View.canon_unit_zero (S := S1x256x2048) z3, View.ld_unit_zero (S := S256x2048) z2, View.ld_unit_zero (S := S1x256x2048) z3]
  refine funext fun (y : S1x256x2048.Idx) => ?_
  obtain ⟨p, q, rfl⟩ := unit y
  exact (pm _ _ p q).trans (by rw [b1, b2]; rfl)

theorem arr6 : (dats m 0 c).arrAt 6 cfg0.N = gv (G m c) (Q m c) := by
  refine (dats m 0 c).arrAt_eq_of_cover 6 _ (fun t _ => ?_) (fun i => (cover4 i).imp fun t h => ⟨flush0_6 t, h⟩)
  rw [flushed6]
  unfold out0_6
  rw [View.canon_unit_zero (S := S1x256x2048) z3, View.ld_unit_zero (S := S256x2048) z2, View.ld_unit_zero (S := S1x256x2048) z3]
  refine funext fun (y : S1x256x2048.Idx) => ?_
  obtain ⟨p, q, rfl⟩ := unit y
  exact (pv _ _ p q).trans (by rw [b1, b3]; rfl)

section
open Cert.Reference15Ideal.Read

theorem rg (g : A2) (i : S1x1024x2048.Idx) : val_main_v0 (F := Ideal) g i = g (ix2 (i 1) (i 2)) := by
  rw [val_main_v0_apply]
  exact congrArg g (eq_ix2 _)

theorem rm (g : A2) (a : A3) : val_main_v5 (F := Ideal) g a = gm g a := by
  refine funext fun i => ?_
  simp only [val_main_v5_apply, val_main_v2_apply, val_main_v4_apply, val_main_v1_apply, val_main_v3_apply, rg]
  rfl
theorem rv (g : A2) (a : A3) : val_main_v11 (F := Ideal) g a = gv g a := by
  refine funext fun i => ?_
  simp only [val_main_v11_apply, val_main_v7_apply, val_main_v10_apply, val_main_v6_apply, val_main_v9_apply, val_main_v8_apply, rg]
  rfl
theorem rd (w : A3) (g : A2) (a b : A3) : val_main_v24 (F := Ideal) w g a b = gd w g a b := by
  refine funext fun i => ?_
  simp only [val_main_v24_apply, val_main_v23_apply, val_main_v22_apply, val_main_v21_apply, val_main_v20_apply, val_main_v19_apply,
    val_main_v18_apply, val_main_v17_apply, val_main_v16_apply, val_main_v15_apply, val_main_v14_apply, val_main_v13_apply, val_main_v12_apply, rm, rv]
  rfl
end

theorem algebraic : Cert.algebraic_Kernel15Ideal_Reference15Ideal := by
  intro m g m' g' _ hagree
  refine ⟨fun c => (dats m 0 c).arrAt 4 cfg0.N, fun c => (dats m 0 c).arrAt 5 cfg0.N, fun c => (dats m 0 c).arrAt 6 cfg0.N, run_blocks m g, ?_⟩
  refine (θ_run Cert.Reference15Ideal.defs _ _).mono (fun r h c => ?_) (Cert.Reference15Ideal.Value.run (F := Ideal) m' g')
  obtain ⟨a0, a1, a2, a3⟩ := hagree c
  refine ⟨(h c).1.trans ?_, (h c).2.1.trans ?_, (h c).2.2.1.trans ?_, (h c).2.2.2⟩
  · refine Eq.trans ?_ (arr4 m c).symm
    rw [Cert.Reference15Ideal.Read.val_main_v24_eq, a0, a1, a2, a3]
    exact rd _ _ _ _
  · refine Eq.trans ?_ (arr5 m c).symm
    rw [Cert.Reference15Ideal.Read.val_main_v5_eq, a1, a2]
    exact rm _ _
  · refine Eq.trans ?_ (arr6 m c).symm
    rw [Cert.Reference15Ideal.Read.val_main_v11_eq, a1, a3]
    exact rv _ _

theorem frame_r : Cert.quiescent_Reference15Ideal := fun m ρ _ =>
  (θ_run Cert.Reference15Ideal.defs _ _).mono (fun r h => ⟨fun c => (h c).2.2.2, Idealize.ShloMosaic.sem_eq_zero_of_no_sems (by decide) r.2⟩)
    (Cert.Reference15Ideal.Value.run (F := Ideal) m ρ)

end Cert.Adam15

end
-- ==== Proof.Adam16.lean ====
/-
  ADAMW ON THE WEIGHTS GOING INTO THE FEED-FORWARD. Each grid point takes 256 rows of the weights, their gradients and their two averages
  through one step, element by element, so the three arrays written back are the step of the whole arrays.
-/
module

public import proofs.«01_k».proof.Defs
public import proofs.«01_k».proof.Proof.Mm
public import proofs.«01_k».proof.Proof.Adam
public import proofs.«01_k».proof.Proof.Gen.Kernel16Ideal.Value
public import proofs.«01_k».proof.Proof.Gen.Reference16Ideal.Read
public import proofs.«01_k».proof.Proof.Gen.Reference16Ideal.Run

@[expose] public section

set_option maxRecDepth 16384

noncomputable section

namespace Cert.Adam16

open Idealize.ShloMosaic Idealize.ShloMosaic.TcCoe Idealize.SL.Sem Cert.Kernel16Ideal Cert.Kernel16Ideal.Gen Cert.Kernel16Ideal.Value
open Idealize.ShloMosaic.Pipeline Cert.Mm Cert.Adam

abbrev A3 := FVec Ideal S1x2048x2816 .f32
abbrev A2 := FVec Ideal S2048x2816 .f32
abbrev B3 := Vec Ideal S1x256x2816 .f32
abbrev B2 := Vec Ideal S256x2816 .f32

/-- The three arrays both programs compute. -/
def gm (g : A2) (m : A3) : A3 := fun i => nm (g (ix2 (i 1) (i 2))) (m i)
def gv (g : A2) (v : A3) : A3 := fun i => nv (g (ix2 (i 1) (i 2))) (v i)
def gd (w : A3) (g : A2) (m v : A3) : A3 := fun i => dl (w i) (g (ix2 (i 1) (i 2))) (m i) (v i)

theorem pm (g : B2) (m : B3) (p : Fin 256) (q : Fin 2816) : k0_pay1 (F := Ideal) (k0_pay3 g m) (ix3 0 p q) = nm (g (ix2 p q)) (m (ix3 0 p q)) := by
  pointwise [k0_pay1, k0_pay3, nm]
theorem pv (g : B2) (v : B3) (p : Fin 256) (q : Fin 2816) : k0_pay2 (F := Ideal) (k0_pay4 g v) (ix3 0 p q) = nv (g (ix2 p q)) (v (ix3 0 p q)) := by
  pointwise [k0_pay2, k0_pay4, nv]
theorem pd (w : B3) (g : B2) (m v : B3) (p : Fin 256) (q : Fin 2816) : k0_pay5 (F := Ideal) g m v w (ix3 0 p q)
    = dl (w (ix3 0 p q)) (g (ix2 p q)) (m (ix3 0 p q)) (v (ix3 0 p q)) := by
  pointwise [k0_pay5, k0_pay3, k0_pay4, dl, nm, nv]

variable (m : (ℓ : Loc nD τ sig) → Buf (Elt Ideal) ℓ) (c : Dev nD)

abbrev W : A3 := m ((c : Thread nD τ).loc main_arg0)
abbrev G : A2 := m ((c : Thread nD τ).loc main_arg1)
abbrev M : A3 := m ((c : Thread nD τ).loc main_arg2)
abbrev Q : A3 := m ((c : Thread nD τ).loc main_arg3)

theorem idx4 : ∀ t : Fin cfg0.N, win0_4.index t 0 = 0 ∧ win0_4.index t 1 = t.val ∧ win0_4.index t 2 = 0 := (by decide +kernel : ∀ t : Fin grid0.N, _)
theorem xs4 : ∀ (t : Fin cfg0.N) (a), (cfg0.win 4).xsize (cfg0.grid.coords t) a = (cfg0.win 4).size a := by decide +kernel

/-- The place of a block's element in the whole array. -/
abbrev at4 (t : Fin cfg0.N) (y : S1x256x2816.Idx) : S1x2048x2816.Idx := ((cfg0.win 4).blk t).view.emb y

theorem b0 (t : Fin cfg0.N) (y : S1x256x2816.Idx) : (iblk m c 0 t : B3) y = W m c (at4 t y) := rfl
theorem b2 (t : Fin cfg0.N) (y : S1x256x2816.Idx) : (iblk m c 2 t : B3) y = M m c (at4 t y) := rfl
theorem b3 (t : Fin cfg0.N) (y : S1x256x2816.Idx) : (iblk m c 3 t : B3) y = Q m c (at4 t y) := rfl
theorem b1 (t : Fin cfg0.N) (p : Fin 256) (q : Fin 2816) : (iblk m c 1 t : B2) (ix2 p q) = G m c (ix2 (at4 t (ix3 0 p q) 1) (at4 t (ix3 0 p q) 2)) := by
  unfold iblk
  rw [View.read_apply]
  show G m c _ = _
  refine congrArg (G m c) (funext fun a => ?_)
  match a with
  | ⟨0, _⟩ => rfl
  | ⟨1, _⟩ => rfl

theorem unit (y : S1x256x2816.Idx) : ∃ (p : Fin 256) (q : Fin 2816), y = ix3 0 p q := ⟨y 1, y 2, by
  rw [eq_ix3 y]; exact congrArg (fun z => ix3 z (y 1) (y 2)) (Fin.fin_one_eq_zero (y 0))⟩

theorem mem4 (t : Fin cfg0.N) (i : S1x2048x2816.Idx) : i ∈ ((cfg0.win 4).blk t).view.set
    ↔ ∀ a, win0_4.index t a * win0_4.size a ≤ (i a).val ∧ (i a).val < win0_4.index t a * win0_4.size a + (cfg0.win 4).xsize (cfg0.grid.coords t) a := by
  show i ∈ ((View.whole main_v0_0).slice (win0_4.rect t)).set ↔ _
  rw [View.set_slice_whole, Rect.mem_set_unit]

/-- The blocks fill the array. -/
theorem cover4 (i : S1x2048x2816.Idx) : ∃ t : Fin cfg0.N, i ∈ ((cfg0.win 4).blk t).view.set := by
  have b0 : (i 0).val < 1 := (i 0).isLt
  have b1 : (i 1).val < 2048 := (i 1).isLt
  have b2 : (i 2).val < 2816 := (i 2).isLt
  obtain ⟨T, hT⟩ : ∃ T : Fin cfg0.N, T.val = (i 1).val / 256 := ⟨⟨_, (by omega : _ < 8)⟩, rfl⟩
  obtain ⟨h0, h1, h2⟩ := idx4 T
  refine ⟨T, (mem4 T i).mpr fun a => ?_⟩
  rw [xs4]
  match a with
  | ⟨0, _⟩ =>
    show win0_4.index T 0 * 1 ≤ (i 0).val ∧ (i 0).val < win0_4.index T 0 * 1 + 1
    rw [h0]; omega
  | ⟨1, _⟩ =>
    show win0_4.index T 1 * 256 ≤ (i 1).val ∧ (i 1).val < win0_4.index T 1 * 256 + 256
    rw [h1]; omega
  | ⟨2, _⟩ =>
    show win0_4.index T 2 * 2816 ≤ (i 2).val ∧ (i 2).val < win0_4.index T 2 * 2816 + 2816
    rw [h2]; omega

/-- The arrays after the run. -/
theorem arr4 : (dats m 0 c).arrAt 4 cfg0.N = gd (W m c) (G m c) (M m c) (Q m c) := by
  refine (dats m 0 c).arrAt_eq_of_cover 4 _ (fun t _ => ?_) (fun i => (cover4 i).imp fun t h => ⟨flush0_4 t, h⟩)
  rw [flushed4]
  unfold out0_4
  rw [View.canon_unit_zero (S := S1x256x2816) z3, View.ld_unit_zero (S := S256x2816) z2]
  simp only [View.ld_unit_zero (S := S1x256x2816) z3]
  refine funext fun (y : S1x256x2816.Idx) => ?_
  obtain ⟨p, q, rfl⟩ := unit y
  exact (pd _ _ _ _ p q).trans (by rw [b0, b1, b2, b3]; rfl)

theorem arr5 : (dats m 0 c).arrAt 5 cfg0.N = gm (G m c) (M m c) := by
  refine (dats m 0 c).arrAt_eq_of_cover 5 _ (fun t _ => ?_) (fun i => (cover4 i).imp fun t h => ⟨flush0_5 t, h⟩)
  rw [flushed5]
  unfold out0_5
  rw [View.canon_unit_zero (S := S1x256x2816) z3, View.ld_unit_zero (S := S256x2816) z2, View.ld_unit_zero (S := S1x256x2816) z3]
  refine funext fun (y : S1x256x2816.Idx) => ?_
  obtain ⟨p, q, rfl⟩ := unit y
  exact (pm _ _ p q).trans (by rw [b1, b2]; rfl)

theorem arr6 : (dats m 0 c).arrAt 6 cfg0.N = gv (G m c) (Q m c) := by
  refine (dats m 0 c).arrAt_eq_of_cover 6 _ (fun t _ => ?_) (fun i => (cover4 i).imp fun t h => ⟨flush0_6 t, h⟩)
  rw [flushed6]
  unfold out0_6
  rw [View.canon_unit_zero (S := S1x256x2816) z3, View.ld_unit_zero (S := S256x2816) z2, View.ld_unit_zero (S := S1x256x2816) z3]
  refine funext fun (y : S1x256x2816.Idx) => ?_
  obtain ⟨p, q, rfl⟩ := unit y
  exact (pv _ _ p q).trans (by rw [b1, b3]; rfl)

section
open Cert.Reference16Ideal.Read

theorem rg (g : A2) (i : S1x2048x2816.Idx) : val_main_v0 (F := Ideal) g i = g (ix2 (i 1) (i 2)) := by
  rw [val_main_v0_apply]
  exact congrArg g (eq_ix2 _)

theorem rm (g : A2) (a : A3) : val_main_v5 (F := Ideal) g a = gm g a := by
  refine funext fun i => ?_
  simp only [val_main_v5_apply, val_main_v2_apply, val_main_v4_apply, val_main_v1_apply, val_main_v3_apply, rg]
  rfl
theorem rv (g : A2) (a : A3) : val_main_v11 (F := Ideal) g a = gv g a := by
  refine funext fun i => ?_
  simp only [val_main_v11_apply, val_main_v7_apply, val_main_v10_apply, val_main_v6_apply, val_main_v9_apply, val_main_v8_apply, rg]
  rfl
theorem rd (w : A3) (g : A2) (a b : A3) : val_main_v24 (F := Ideal) w g a b = gd w g a b := by
  refine funext fun i => ?_
  simp only [val_main_v24_apply, val_main_v23_apply, val_main_v22_apply, val_main_v21_apply, val_main_v20_apply, val_main_v19_apply,
    val_main_v18_apply, val_main_v17_apply, val_main_v16_apply, val_main_v15_apply, val_main_v14_apply, val_main_v13_apply, val_main_v12_apply, rm, rv]
  rfl
end

theorem algebraic : Cert.algebraic_Kernel16Ideal_Reference16Ideal := by
  intro m g m' g' _ hagree
  refine ⟨fun c => (dats m 0 c).arrAt 4 cfg0.N, fun c => (dats m 0 c).arrAt 5 cfg0.N, fun c => (dats m 0 c).arrAt 6 cfg0.N, run_blocks m g, ?_⟩
  refine (θ_run Cert.Reference16Ideal.defs _ _).mono (fun r h c => ?_) (Cert.Reference16Ideal.Value.run (F := Ideal) m' g')
  obtain ⟨a0, a1, a2, a3⟩ := hagree c
  refine ⟨(h c).1.trans ?_, (h c).2.1.trans ?_, (h c).2.2.1.trans ?_, (h c).2.2.2⟩
  · refine Eq.trans ?_ (arr4 m c).symm
    rw [Cert.Reference16Ideal.Read.val_main_v24_eq, a0, a1, a2, a3]
    exact rd _ _ _ _
  · refine Eq.trans ?_ (arr5 m c).symm
    rw [Cert.Reference16Ideal.Read.val_main_v5_eq, a1, a2]
    exact rm _ _
  · refine Eq.trans ?_ (arr6 m c).symm
    rw [Cert.Reference16Ideal.Read.val_main_v11_eq, a1, a3]
    exact rv _ _

theorem frame_r : Cert.quiescent_Reference16Ideal := fun m ρ _ =>
  (θ_run Cert.Reference16Ideal.defs _ _).mono (fun r h => ⟨fun c => (h c).2.2.2, Idealize.ShloMosaic.sem_eq_zero_of_no_sems (by decide) r.2⟩)
    (Cert.Reference16Ideal.Value.run (F := Ideal) m ρ)

end Cert.Adam16

end
-- ==== Proof.Adam17.lean ====
/-
  ADAMW ON THE WEIGHTS COMING OUT OF THE FEED-FORWARD. Each grid point takes 352 rows of the weights, their gradients and their two averages
  through one step, element by element, so the three arrays written back are the step of the whole arrays.
-/
module

public import proofs.«01_k».proof.Defs
public import proofs.«01_k».proof.Proof.Mm
public import proofs.«01_k».proof.Proof.Adam
public import proofs.«01_k».proof.Proof.Gen.Kernel17Ideal.Value
public import proofs.«01_k».proof.Proof.Gen.Reference17Ideal.Read
public import proofs.«01_k».proof.Proof.Gen.Reference17Ideal.Run

@[expose] public section

set_option maxRecDepth 16384

noncomputable section

namespace Cert.Adam17

open Idealize.ShloMosaic Idealize.ShloMosaic.TcCoe Idealize.SL.Sem Cert.Kernel17Ideal Cert.Kernel17Ideal.Gen Cert.Kernel17Ideal.Value
open Idealize.ShloMosaic.Pipeline Cert.Mm Cert.Adam

abbrev A3 := FVec Ideal S1x1408x2048 .f32
abbrev A2 := FVec Ideal S1408x2048 .f32
abbrev B3 := Vec Ideal S1x352x2048 .f32
abbrev B2 := Vec Ideal S352x2048 .f32

/-- The three arrays both programs compute. -/
def gm (g : A2) (m : A3) : A3 := fun i => nm (g (ix2 (i 1) (i 2))) (m i)
def gv (g : A2) (v : A3) : A3 := fun i => nv (g (ix2 (i 1) (i 2))) (v i)
def gd (w : A3) (g : A2) (m v : A3) : A3 := fun i => dl (w i) (g (ix2 (i 1) (i 2))) (m i) (v i)

theorem pm (g : B2) (m : B3) (p : Fin 352) (q : Fin 2048) : k0_pay1 (F := Ideal) (k0_pay3 g m) (ix3 0 p q) = nm (g (ix2 p q)) (m (ix3 0 p q)) := by
  pointwise [k0_pay1, k0_pay3, nm]
theorem pv (g : B2) (v : B3) (p : Fin 352) (q : Fin 2048) : k0_pay2 (F := Ideal) (k0_pay4 g v) (ix3 0 p q) = nv (g (ix2 p q)) (v (ix3 0 p q)) := by
  pointwise [k0_pay2, k0_pay4, nv]
theorem pd (w : B3) (g : B2) (m v : B3) (p : Fin 352) (q : Fin 2048) : k0_pay5 (F := Ideal) g m v w (ix3 0 p q)
    = dl (w (ix3 0 p q)) (g (ix2 p q)) (m (ix3 0 p q)) (v (ix3 0 p q)) := by
  pointwise [k0_pay5, k0_pay3, k0_pay4, dl, nm, nv]

variable (m : (ℓ : Loc nD τ sig) → Buf (Elt Ideal) ℓ) (c : Dev nD)

abbrev W : A3 := m ((c : Thread nD τ).loc main_arg0)
abbrev G : A2 := m ((c : Thread nD τ).loc main_arg1)
abbrev M : A3 := m ((c : Thread nD τ).loc main_arg2)
abbrev Q : A3 := m ((c : Thread nD τ).loc main_arg3)

theorem idx4 : ∀ t : Fin cfg0.N, win0_4.index t 0 = 0 ∧ win0_4.index t 1 = t.val ∧ win0_4.index t 2 = 0 := (by decide +kernel : ∀ t : Fin grid0.N, _)
theorem xs4 : ∀ (t : Fin cfg0.N) (a), (cfg0.win 4).xsize (cfg0.grid.coords t) a = (cfg0.win 4).size a := by decide +kernel

/-- The place of a block's element in the whole array. -/
abbrev at4 (t : Fin cfg0.N) (y : S1x352x2048.Idx) : S1x1408x2048.Idx := ((cfg0.win 4).blk t).view.emb y

theorem b0 (t : Fin cfg0.N) (y : S1x352x2048.Idx) : (iblk m c 0 t : B3) y = W m c (at4 t y) := rfl
theorem b2 (t : Fin cfg0.N) (y : S1x352x2048.Idx) : (iblk m c 2 t : B3) y = M m c (at4 t y) := rfl
theorem b3 (t : Fin cfg0.N) (y : S1x352x2048.Idx) : (iblk m c 3 t : B3) y = Q m c (at4 t y) := rfl
theorem b1 (t : Fin cfg0.N) (p : Fin 352) (q : Fin 2048) : (iblk m c 1 t : B2) (ix2 p q) = G m c (ix2 (at4 t (ix3 0 p q) 1) (at4 t (ix3 0 p q) 2)) := by
  unfold iblk
  rw [View.read_apply]
  show G m c _ = _
  refine congrArg (G m c) (funext fun a => ?_)
  match a with
  | ⟨0, _⟩ => rfl
  | ⟨1, _⟩ => rfl

theorem unit (y : S1x352x2048.Idx) : ∃ (p : Fin 352) (q : Fin 2048), y = ix3 0 p q := ⟨y 1, y 2, by
  rw [eq_ix3 y]; exact congrArg (fun z => ix3 z (y 1) (y 2)) (Fin.fin_one_eq_zero (y 0))⟩

theorem mem4 (t : Fin cfg0.N) (i : S1x1408x2048.Idx) : i ∈ ((cfg0.win 4).blk t).view.set
    ↔ ∀ a, win0_4.index t a * win0_4.size a ≤ (i a).val ∧ (i a).val < win0_4.index t a * win0_4.size a + (cfg0.win 4).xsize (cfg0.grid.coords t) a := by
  show i ∈ ((View.whole main_v0_0).slice (win0_4.rect t)).set ↔ _
  rw [View.set_slice_whole, Rect.mem_set_unit]

/-- The blocks fill the array. -/
theorem cover4 (i : S1x1408x2048.Idx) : ∃ t : Fin cfg0.N, i ∈ ((cfg0.win 4).blk t).view.set := by
  have b0 : (i 0).val < 1 := (i 0).isLt
  have b1 : (i 1).val < 1408 := (i 1).isLt
  have b2 : (i 2).val < 2048 := (i 2).isLt
  obtain ⟨T, hT⟩ : ∃ T : Fin cfg0.N, T.val = (i 1).val / 352 := ⟨⟨_, (by omega : _ < 4)⟩, rfl⟩
  obtain ⟨h0, h1, h2⟩ := idx4 T
  refine ⟨T, (mem4 T i).mpr fun a => ?_⟩
  rw [xs4]
  match a with
  | ⟨0, _⟩ =>
    show win0_4.index T 0 * 1 ≤ (i 0).val ∧ (i 0).val < win0_4.index T 0 * 1 + 1
    rw [h0]; omega
  | ⟨1, _⟩ =>
    show win0_4.index T 1 * 352 ≤ (i 1).val ∧ (i 1).val < win0_4.index T 1 * 352 + 352
    rw [h1]; omega
  | ⟨2, _⟩ =>
    show win0_4.index T 2 * 2048 ≤ (i 2).val ∧ (i 2).val < win0_4.index T 2 * 2048 + 2048
    rw [h2]; omega

/-- The arrays after the run. -/
theorem arr4 : (dats m 0 c).arrAt 4 cfg0.N = gd (W m c) (G m c) (M m c) (Q m c) := by
  refine (dats m 0 c).arrAt_eq_of_cover 4 _ (fun t _ => ?_) (fun i => (cover4 i).imp fun t h => ⟨flush0_4 t, h⟩)
  rw [flushed4]
  unfold out0_4
  rw [View.canon_unit_zero (S := S1x352x2048) z3, View.ld_unit_zero (S := S352x2048) z2]
  simp only [View.ld_unit_zero (S := S1x352x2048) z3]
  refine funext fun (y : S1x352x2048.Idx) => ?_
  obtain ⟨p, q, rfl⟩ := unit y
  exact (pd _ _ _ _ p q).trans (by rw [b0, b1, b2, b3]; rfl)

theorem arr5 : (dats m 0 c).arrAt 5 cfg0.N = gm (G m c) (M m c) := by
  refine (dats m 0 c).arrAt_eq_of_cover 5 _ (fun t _ => ?_) (fun i => (cover4 i).imp fun t h => ⟨flush0_5 t, h⟩)
  rw [flushed5]
  unfold out0_5
  rw [View.canon_unit_zero (S := S1x352x2048) z3, View.ld_unit_zero (S := S352x2048) z2, View.ld_unit_zero (S := S1x352x2048) z3]
  refine funext fun (y : S1x352x2048.Idx) => ?_
  obtain ⟨p, q, rfl⟩ := unit y
  exact (pm _ _ p q).trans (by rw [b1, b2]; rfl)

theorem arr6 : (dats m 0 c).arrAt 6 cfg0.N = gv (G m c) (Q m c) := by
  refine (dats m 0 c).arrAt_eq_of_cover 6 _ (fun t _ => ?_) (fun i => (cover4 i).imp fun t h => ⟨flush0_6 t, h⟩)
  rw [flushed6]
  unfold out0_6
  rw [View.canon_unit_zero (S := S1x352x2048) z3, View.ld_unit_zero (S := S352x2048) z2, View.ld_unit_zero (S := S1x352x2048) z3]
  refine funext fun (y : S1x352x2048.Idx) => ?_
  obtain ⟨p, q, rfl⟩ := unit y
  exact (pv _ _ p q).trans (by rw [b1, b3]; rfl)

section
open Cert.Reference17Ideal.Read

theorem rg (g : A2) (i : S1x1408x2048.Idx) : val_main_v0 (F := Ideal) g i = g (ix2 (i 1) (i 2)) := by
  rw [val_main_v0_apply]
  exact congrArg g (eq_ix2 _)

theorem rm (g : A2) (a : A3) : val_main_v5 (F := Ideal) g a = gm g a := by
  refine funext fun i => ?_
  simp only [val_main_v5_apply, val_main_v2_apply, val_main_v4_apply, val_main_v1_apply, val_main_v3_apply, rg]
  rfl
theorem rv (g : A2) (a : A3) : val_main_v11 (F := Ideal) g a = gv g a := by
  refine funext fun i => ?_
  simp only [val_main_v11_apply, val_main_v7_apply, val_main_v10_apply, val_main_v6_apply, val_main_v9_apply, val_main_v8_apply, rg]
  rfl
theorem rd (w : A3) (g : A2) (a b : A3) : val_main_v24 (F := Ideal) w g a b = gd w g a b := by
  refine funext fun i => ?_
  simp only [val_main_v24_apply, val_main_v23_apply, val_main_v22_apply, val_main_v21_apply, val_main_v20_apply, val_main_v19_apply,
    val_main_v18_apply, val_main_v17_apply, val_main_v16_apply, val_main_v15_apply, val_main_v14_apply, val_main_v13_apply, val_main_v12_apply, rm, rv]
  rfl
end

theorem algebraic : Cert.algebraic_Kernel17Ideal_Reference17Ideal := by
  intro m g m' g' _ hagree
  refine ⟨fun c => (dats m 0 c).arrAt 4 cfg0.N, fun c => (dats m 0 c).arrAt 5 cfg0.N, fun c => (dats m 0 c).arrAt 6 cfg0.N, run_blocks m g, ?_⟩
  refine (θ_run Cert.Reference17Ideal.defs _ _).mono (fun r h c => ?_) (Cert.Reference17Ideal.Value.run (F := Ideal) m' g')
  obtain ⟨a0, a1, a2, a3⟩ := hagree c
  refine ⟨(h c).1.trans ?_, (h c).2.1.trans ?_, (h c).2.2.1.trans ?_, (h c).2.2.2⟩
  · refine Eq.trans ?_ (arr4 m c).symm
    rw [Cert.Reference17Ideal.Read.val_main_v24_eq, a0, a1, a2, a3]
    exact rd _ _ _ _
  · refine Eq.trans ?_ (arr5 m c).symm
    rw [Cert.Reference17Ideal.Read.val_main_v5_eq, a1, a2]
    exact rm _ _
  · refine Eq.trans ?_ (arr6 m c).symm
    rw [Cert.Reference17Ideal.Read.val_main_v11_eq, a1, a3]
    exact rv _ _

theorem frame_r : Cert.quiescent_Reference17Ideal := fun m ρ _ =>
  (θ_run Cert.Reference17Ideal.defs _ _).mono (fun r h => ⟨fun c => (h c).2.2.2, Idealize.ShloMosaic.sem_eq_zero_of_no_sems (by decide) r.2⟩)
    (Cert.Reference17Ideal.Value.run (F := Ideal) m ρ)

end Cert.Adam17

end
-- ==== Proof.Norm18.lean ====
/-
  THE GRADIENT OF THE FIRST RMS NORM. Each grid point takes 384 rows. Over the extended reals the kernel's and the reference's formula
  of a row's gradient agree for every row (`meet`), and the gradient of the norm's weights is a sum over the rows so far, carried
  from point to point (`acc`).
-/
module

public import proofs.«01_k».proof.Defs
public import proofs.«01_k».proof.Proof.Mm
public import proofs.«01_k».proof.Proof.PayA
public import proofs.«01_k».proof.Proof.Gen.Kernel18Ideal.Value
public import proofs.«01_k».proof.Proof.Gen.Reference18Ideal.Read
public import proofs.«01_k».proof.Proof.Gen.Reference18Ideal.Run

@[expose] public section

set_option maxRecDepth 16384

noncomputable section

namespace Cert.Norm18

open Idealize.ShloMosaic Idealize.ShloMosaic.TcCoe Idealize.SL.Sem Cert.Kernel18Ideal Cert.Kernel18Ideal.Gen Cert.Kernel18Ideal.Value
open Idealize.ShloMosaic.Pipeline Cert.Mm

abbrev R := Fin 2048 → EReal
abbrev w2048 : EReal := Ideal.ofBits .f32 0x45000000#32

/-- A row's mean square with the small constant, and the reciprocal of its root. -/
def ms (x : R) : EReal := Ideal.div (∑ k, x k * x k) w2048 + Ideal.ofBits .f32 0x358637BD#32
def rr (x : R) : EReal := Ideal.rsqrt (ms x)
/-- An element of the row's gradient, as the kernel and as the reference compute it. -/
def kd (x g : R) (a b : EReal) : EReal := rr x * (b - a * rr x * Ideal.div (∑ k, g k * (x k * rr x)) w2048)
def kk (x g : R) : EReal := Ideal.div ((∑ k, x k * g k) * (Ideal.ofBits .f32 0xBF000000#32 * Ideal.div (rr x) (ms x))) w2048
def rd (x g : R) (a b : EReal) : EReal := b * rr x + a * kk x g + kk x g * a

theorem d2048 (s : EReal) : Ideal.div s w2048 = s * ((1 / 2048 : ℝ) : EReal) := by
  have h : w2048 = ((2048 : ℝ) : EReal) := by
    simp [w2048, Ideal.ofBits, Ideal.ieee]; rw [← EReal.coe_mul]; norm_num
  rw [h, Ideal.div, if_neg (by norm_num), ← EReal.coe_inv, one_div]

theorem sum_mul {r : ℝ} (h : 0 ≤ r) {n : ℕ} (f : Fin n → EReal) : ∑ k, (r : EReal) * f k = r * ∑ k, f k := by
  refine (Finset.induction_on (Finset.univ : Finset (Fin n)) (by simp) fun a s ha ih => ?_)
  rw [Finset.sum_insert ha, Finset.sum_insert ha, ih, EReal.left_distrib_of_nonneg_of_ne_top (by exact_mod_cast h) (EReal.coe_ne_top r)]

theorem ms_pos (x : R) : 0 < ms x := by
  unfold ms
  rw [d2048, Cert.Ssd.ofBits_eps]
  refine (EReal.coe_pos.mpr Cert.Ssd.epsR_pos).trans_le (le_add_of_nonneg_left (EReal.mul_nonneg (Finset.sum_nonneg fun k _ => ?_) (by norm_num)))
  rw [EReal.mul_nonneg_iff]
  exact (le_total 0 (x k)).imp (fun h => ⟨h, h⟩) fun h => ⟨h, h⟩

/-- The two agree, whatever the row: where the mean square is infinite both are zero. -/
theorem meet (x g : R) (a b : EReal) : kd x g a b = rd x g a b := by
  have hp := ms_pos x
  unfold kd rd kk rr
  simp only [d2048]
  generalize ms x = V at hp
  induction V using EReal.rec with
  | bot => simp at hp
  | top => simp [show Ideal.rsqrt ⊤ = 0 from rfl, Ideal.div]
  | coe ρ =>
    have h : 0 < ρ := EReal.coe_pos.mp hp
    have e : Ideal.rsqrt (ρ : EReal) = (((Real.sqrt ρ)⁻¹ : ℝ) : EReal) := by
      show (if ρ < 0 then ⊥ else if ρ = 0 then ⊤ else _ : EReal) = _
      rw [if_neg h.not_gt, if_neg h.ne']
    have hr : (0 : ℝ) ≤ (Real.sqrt ρ)⁻¹ := inv_nonneg.mpr (Real.sqrt_nonneg ρ)
    have q : ρ⁻¹ = (Real.sqrt ρ)⁻¹ * (Real.sqrt ρ)⁻¹ := by rw [← mul_inv, Real.mul_self_sqrt h.le]
    rw [e, Ideal.div, if_neg (by exact_mod_cast h.ne'), ← EReal.coe_inv, q, Cert.Ssd.ofBits_neg_half]
    generalize (Real.sqrt ρ)⁻¹ = r at hr
    have s : ∑ k, g k * (x k * (r : EReal)) = r * ∑ k, x k * g k := by
      rw [← sum_mul hr]; exact Finset.sum_congr rfl fun k _ => by ac_rfl
    rw [s]
    generalize ∑ k, x k * g k = S
    have n (z : EReal) : -z = ((-1 : ℝ) : EReal) * z := by rw [EReal.coe_neg, EReal.neg_mul]; simp
    have t (z : EReal) : z + z = ((2 : ℝ) : EReal) * z := by
      have := EReal.right_distrib_of_nonneg (a := 1) (b := 1) (c := z) zero_le_one zero_le_one
      rw [one_mul] at this
      rw [← this, ← EReal.coe_one, ← EReal.coe_add]; norm_num
    rw [sub_eq_add_neg, EReal.left_distrib_of_nonneg_of_ne_top (by exact_mod_cast hr) (EReal.coe_ne_top r), add_assoc, mul_comm (_ * _) a, t, n,
      mul_comm b]
    refine congrArg _ ?_
    have u : ((-1 : ℝ) : EReal) = ((2 : ℝ) : EReal) * ((-(1 / 2) : ℝ) : EReal) := by rw [← EReal.coe_mul]; norm_num
    rw [u, EReal.coe_mul]
    ac_rfl

abbrev A2 := FVec Ideal S4224x2048 .f32
abbrev A1 := FVec Ideal S1x2048 .f32
abbrev B2 := Vec Ideal S384x2048 .f32

/-- The arrays both programs compute: the gradient of the rows after the 112 of padding, and a row's term of the weights' gradient. -/
def dh (x : A2) (w : A1) (y d : A2) (r k : ℕ) : EReal := if 112 ≤ r then
  kd (fun j => E2 x r j) (fun j => E2 y r j * E2 w 0 j) (E2 x r k) (E2 y r k * E2 w 0 k) + E2 d r k else 0
def dw (x y : A2) (k r : ℕ) : EReal := E2 y r k * (E2 x r k * rr fun j => E2 x r j)

theorem p5 (x : B2) (p : Fin 384) : k0_pay5 (F := Ideal) x (ix2 p 0) = rr fun k => x (ix2 p k) := by
  pointwise [k0_pay5, rr, ms]
theorem p6 (x : B2) (p : Fin 384) (q : Fin 2048) : k0_pay6 (F := Ideal) x (ix2 p q) = x (ix2 p q) * rr fun k => x (ix2 p k) := by
  pointwise [k0_pay6, p5]
theorem p7 (x y : B2) (q : Fin 2048) : k0_pay7 (F := Ideal) x y (ix2 0 q) = ∑ p : Fin 384, y (ix2 p q) * (x (ix2 p q) * rr fun k => x (ix2 p k)) := by
  pointwise [k0_pay7, p6]
theorem p9 (x : B2) (w : A1) (y d : B2) (p : Fin 384) (q : Fin 2048) : k0_pay9 (F := Ideal) x w y d (ix2 p q)
    = kd (fun k => x (ix2 p k)) (fun k => y (ix2 p k) * w (ix2 0 k)) (x (ix2 p q)) (y (ix2 p q) * w (ix2 0 q)) + d (ix2 p q) := by
  pointwise [k0_pay9, p5, p6, kd]
theorem p8 (i : grid0.Coords) (p : Fin 384) : k0_pay8 i (ix2 p 0) = BitVec.ofBool (decide (112 ≤ 384 * (i 0).val + p.val)) := by
  have h : (i 0).val < 11 := (i 0).isLt
  have e : Scalar.muli (BitVec.ofNat 32 (i 0).val) 384#32 = BitVec.ofNat 32 (384 * (i 0).val) := by
    generalize (i 0).val = n at h; revert n; decide
  have hp := p.isLt
  pointwise [k0_pay8]
  rw [e, WordCmp.addi_ofNat, WordCmp.cmpi_sge_ofNat (by omega) (by omega)]
/-- A block of the rows' gradient. -/
def bl (i : grid0.Coords) (x : B2) (w : A1) (y d : B2) : B2 := k0_pay1 (F := Ideal) (k0_pay8 i) (k0_pay9 x w y d) (Scalar.ofBits .f32 0x00000000#32)
theorem pO (i : grid0.Coords) (x : B2) (w : A1) (y d : B2) (p : Fin 384) (q : Fin 2048) : bl i x w y d (ix2 p q) = if 112 ≤ 384 * (i 0).val + p.val then
    kd (fun k => x (ix2 p k)) (fun k => y (ix2 p k) * w (ix2 0 k)) (x (ix2 p q)) (y (ix2 p q) * w (ix2 0 q)) + d (ix2 p q) else 0 := by
  pointwise [bl, k0_pay1, p8, p9]

section
variable {c : Dev nD} {i : grid0.Coords} {a1 a3 a4 a5 : Memref sig .tc .vmem S384x2048 .f32} {a6 : Memref sig .tc .vmem S384x2048 .bf16}
  {a2 a7 : Memref sig .tc .vmem S1x2048 .f32} {h1 : a1.IsWhole} {h2 : a2.IsWhole} {h3 : a3.IsWhole} {h4 : a4.IsWhole} {h5 : a5.IsWhole}
  {h6 : a6.IsWhole} {h7 : a7.IsWhole} (x : B2) (w : A1) (y d : B2) (o : A1)

theorem oA (h : cond0_0 i) : out0_A_4 (F := Ideal) c i a1 h1 a2 h2 a3 h3 a4 h4 a5 h5 a6 h6 a7 h7 h x w y d = bl i x w y d
    ∧ out0_A_5 (F := Ideal) c i a1 h1 a2 h2 a3 h3 a4 h4 a5 h5 a6 h6 a7 h7 h x w y d = bl i x w y d
    ∧ out0_A_6 (F := Ideal) c i a1 h1 a2 h2 a3 h3 a4 h4 a5 h5 a6 h6 a7 h7 h x w y d = k0_pay3 (F := Ideal) (k0_pay7 x y) (k0_pay4 (F := Ideal)) := by
  unfold out0_A_4 out0_A_5 out0_A_6
  rw [View.read_writes_eq_canon _ _ _ (fun _ => cover0_A_4 ..), View.read_writes_eq_canon _ _ _ (fun _ => cover0_A_5 ..),
    View.read_writes_eq_canon _ _ _ (fun _ => cover0_A_6 ..)]
  unfold kernelRun0_A
  dsimp only
  sl_unfold_words
  rw [View.canon_unit_zero (S := S384x2048) z2, View.canon_unit_zero (S := S384x2048) z2, View.canon_cons_unit_zero (S := S1x2048) z2]
  simp only [View.readCov_unit_zero (S := S1x2048) _ z2, View.readAt_eq_ld, h1.read_unread, h2.read_unread, h3.read_unread, h4.read_unread,
    View.ld_unit_zero (S := S384x2048) z2, View.ld_unit_zero (S := S1x2048) z2]
  exact ⟨rfl, rfl, trivial⟩

theorem oB (h : ¬cond0_0 i) : out0_B_4 (F := Ideal) c i a1 h1 a2 h2 a3 h3 a4 h4 a5 h5 a6 h6 a7 h7 h x w y d o = bl i x w y d
    ∧ out0_B_5 (F := Ideal) c i a1 h1 a2 h2 a3 h3 a4 h4 a5 h5 a6 h6 a7 h7 h x w y d o = bl i x w y d
    ∧ out0_B_6 (F := Ideal) c i a1 h1 a2 h2 a3 h3 a4 h4 a5 h5 a6 h6 a7 h7 h x w y d o = k0_pay3 (F := Ideal) (k0_pay7 x y) o := by
  unfold out0_B_4 out0_B_5 out0_B_6
  rw [View.read_writes_eq_canon _ _ _ (fun _ => cover0_B_4 ..), View.read_writes_eq_canon _ _ _ (fun _ => cover0_B_5 ..),
    View.read_writes_eq_canon _ _ _ (fun _ => cover0_B_6 ..)]
  unfold kernelRun0_B
  dsimp only
  sl_unfold_words
  rw [View.canon_unit_zero (S := S384x2048) z2, View.canon_unit_zero (S := S384x2048) z2, View.canon_unit_zero (S := S1x2048) z2]
  simp only [View.readAt_eq_ld, h1.read_unread, h2.read_unread, h3.read_unread, h4.read_unread, h7.read_unread,
    View.ld_unit_zero (S := S384x2048) z2, View.ld_unit_zero (S := S1x2048) z2]
  exact ⟨rfl, rfl, trivial⟩
end

variable (m : (ℓ : Loc nD τ sig) → Buf (Elt Ideal) ℓ) (c : Dev nD)

abbrev X : A2 := m ((c : Thread nD τ).loc main_arg0)
abbrev W : A1 := m ((c : Thread nD τ).loc main_arg1)
abbrev Y : A2 := m ((c : Thread nD τ).loc main_arg2)
abbrev D : A2 := m ((c : Thread nD τ).loc main_arg3)

theorem idx4 : ∀ t : Fin cfg0.N, win0_4.index t 0 = t.val ∧ win0_4.index t 1 = 0 ∧ win0_6.index t 0 = 0 ∧ win0_6.index t 1 = 0 ∧ (grid0.coords t 0).val = t.val
    ∧ ((cfg0.win 6).flush t = true ↔ t.val = 10) := (by decide +kernel : ∀ t : Fin grid0.N, _)
theorem xs4 : ∀ (t : Fin cfg0.N) (a), (cfg0.win 4).xsize (cfg0.grid.coords t) a = (cfg0.win 4).size a := by decide +kernel
theorem xs6 : ∀ (t : Fin cfg0.N) (a), (cfg0.win 6).xsize (cfg0.grid.coords t) a = (cfg0.win 6).size a := by decide +kernel

/-- A block's element in the whole array. -/
theorem em (Z : A2) (t : Fin cfg0.N) (p : Fin 384) (q : Fin 2048) : Z (((cfg0.win 4).blk t).view.emb (ix2 p q)) = E2 Z (384 * t.val + p.val) q.val := by
  obtain ⟨h0, h1, _⟩ := idx4 t
  refine E2_at Z _ ?_ ?_
  · show win0_4.index t 0 * 384 + 1 * p.val = _
    rw [h0]; omega
  · show win0_4.index t 1 * 2048 + 1 * q.val = _
    rw [h1]; omega
theorem b0 (t : Fin cfg0.N) (p : Fin 384) (q : Fin 2048) : (iblk m c 0 t : B2) (ix2 p q) = E2 (X m c) (384 * t.val + p.val) q.val := em (X m c) t p q
theorem b2 (t : Fin cfg0.N) (p : Fin 384) (q : Fin 2048) : (iblk m c 2 t : B2) (ix2 p q) = E2 (Y m c) (384 * t.val + p.val) q.val := em (Y m c) t p q
theorem b3 (t : Fin cfg0.N) (p : Fin 384) (q : Fin 2048) : (iblk m c 3 t : B2) (ix2 p q) = E2 (D m c) (384 * t.val + p.val) q.val := em (D m c) t p q
theorem em6 (Z : A1) (t : Fin cfg0.N) (q : Fin 2048) : Z (((cfg0.win 6).blk t).view.emb (ix2 0 q)) = E2 Z 0 q.val := by
  obtain ⟨-, -, h0, h1, _⟩ := idx4 t
  refine E2_at Z _ ?_ ?_
  · show win0_6.index t 0 * 1 + 1 * 0 = _
    rw [h0]
  · show win0_6.index t 1 * 2048 + 1 * q.val = _
    rw [h1]; omega
theorem b1 (t : Fin cfg0.N) (q : Fin 2048) : (iblk m c 1 t : A1) (ix2 0 q) = E2 (W m c) 0 q.val := em6 (W m c) t q

theorem outs (t : Fin cfg0.N) : (outsAt0 m c t.val t.isLt).1 = bl (grid0.coords t) (iblk m c 0 t) (iblk m c 1 t) (iblk m c 2 t) (iblk m c 3 t)
    ∧ (outsAt0 m c t.val t.isLt).2.1 = bl (grid0.coords t) (iblk m c 0 t) (iblk m c 1 t) (iblk m c 2 t) (iblk m c 3 t) := by
  by_cases h0 : t.val % 11 = 0
  · rw [outsAt0_A m c t h0]; dsimp only; exact ⟨(oA ..).1, (oA ..).2.1⟩
  · rw [outsAt0_B m c t h0]; dsimp only; exact ⟨(oB ..).1, (oB ..).2.1⟩

theorem p7b (t : Fin cfg0.N) (q : Fin 2048) : k0_pay7 (F := Ideal) (iblk m c 0 t) (iblk m c 2 t) (ix2 0 q)
    = ∑ r ∈ Finset.range 384, dw (X m c) (Y m c) q.val (384 * t.val + r) := by
  rw [p7, Finset.sum_range]
  simp only [b0, b2]
  rfl

/-- The weights' gradient after each point: the rows so far. -/
theorem acc (q : Fin 2048) : ∀ (n : ℕ) (h : n < cfg0.N), (outsAt0 m c n h).2.2 (ix2 0 q) = ∑ r ∈ Finset.range (384 * (n + 1)), dw (X m c) (Y m c) q.val r
  | 0, h => by
    rw [outsAt0_A m c ⟨0, h⟩ (Nat.zero_mod 11)]
    dsimp only
    rw [(oA ..).2.2]
    pointwise [k0_pay3, k0_pay4, p7b]
  | n + 1, h => by
    have hn : n + 1 < 11 := h
    rw [outsAt0_B m c ⟨n + 1, h⟩ (by show ¬(n + 1) % 11 = 0; omega)]
    dsimp only
    rw [(oB ..).2.2, Nat.mul_succ, Finset.sum_range_add, ← acc q n (by omega), ← p7b m c ⟨n + 1, h⟩]
    pointwise [k0_pay3]
    rfl

theorem mem4 (t : Fin cfg0.N) (i : S4224x2048.Idx) : i ∈ ((cfg0.win 4).blk t).view.set
    ↔ ∀ a, win0_4.index t a * win0_4.size a ≤ (i a).val ∧ (i a).val < win0_4.index t a * win0_4.size a + (cfg0.win 4).xsize (cfg0.grid.coords t) a := by
  show i ∈ ((View.whole main_v0_0).slice (win0_4.rect t)).set ↔ _
  rw [View.set_slice_whole, Rect.mem_set_unit]
theorem mem6 (t : Fin cfg0.N) (i : S1x2048.Idx) : i ∈ ((cfg0.win 6).blk t).view.set
    ↔ ∀ a, win0_6.index t a * win0_6.size a ≤ (i a).val ∧ (i a).val < win0_6.index t a * win0_6.size a + (cfg0.win 6).xsize (cfg0.grid.coords t) a := by
  show i ∈ ((View.whole main_v0_2).slice (win0_6.rect t)).set ↔ _
  rw [View.set_slice_whole, Rect.mem_set_unit]

theorem cover4 (i : S4224x2048.Idx) : ∃ t : Fin cfg0.N, i ∈ ((cfg0.win 4).blk t).view.set := by
  have b0 : (i 0).val < 4224 := (i 0).isLt
  have b1 : (i 1).val < 2048 := (i 1).isLt
  obtain ⟨T, hT⟩ : ∃ T : Fin cfg0.N, T.val = (i 0).val / 384 := ⟨⟨_, (by omega : _ < 11)⟩, rfl⟩
  obtain ⟨h0, h1, _⟩ := idx4 T
  refine ⟨T, (mem4 T i).mpr fun a => ?_⟩
  rw [xs4]
  match a with
  | ⟨0, _⟩ =>
    show win0_4.index T 0 * 384 ≤ (i 0).val ∧ (i 0).val < win0_4.index T 0 * 384 + 384
    rw [h0]; omega
  | ⟨1, _⟩ =>
    show win0_4.index T 1 * 2048 ≤ (i 1).val ∧ (i 1).val < win0_4.index T 1 * 2048 + 2048
    rw [h1]; omega

/-- The three arrays. -/
def GX (x : A2) (w : A1) (y d : A2) : A2 := fun i => dh x w y d (i 0).val (i 1).val
def GW (x y : A2) : A1 := fun i => ∑ r ∈ Finset.range 4224, dw x y (i 1).val r

theorem blE (t : Fin cfg0.N) : bl (grid0.coords t) (iblk m c 0 t) (iblk m c 1 t) (iblk m c 2 t) (iblk m c 3 t)
    = fun j => GX (X m c) (W m c) (Y m c) (D m c) (((cfg0.win 4).blk t).view.emb j) := by
  refine funext fun (j : S384x2048.Idx) => ?_
  obtain ⟨p, q, rfl⟩ : ∃ (p : Fin 384) (q : Fin 2048), j = ix2 p q := ⟨_, _, eq_ix2 j⟩
  rw [pO, (idx4 t).2.2.2.2.1]
  simp only [b0, b1, b2, b3]
  obtain ⟨h0, h1, _⟩ := idx4 t
  have e0 : ((((cfg0.win 4).blk t).view.emb (ix2 p q)) 0).val = 384 * t.val + p.val := by
    show win0_4.index t 0 * 384 + 1 * p.val = _
    rw [h0]; omega
  have e1 : ((((cfg0.win 4).blk t).view.emb (ix2 p q)) 1).val = q.val := by
    show win0_4.index t 1 * 2048 + 1 * q.val = _
    rw [h1]; omega
  unfold GX
  rw [e0, e1]
  rfl

theorem arr4 : (dats m 0 c).arrAt 4 cfg0.N = GX (X m c) (W m c) (Y m c) (D m c) :=
  (dats m 0 c).arrAt_eq_of_cover 4 _ (fun t _ => by rw [flushed4, (outs m c t).1, blE]; rfl) (fun i => (cover4 i).imp fun t h => ⟨flush0_4 t, h⟩)
theorem arr5 : (dats m 0 c).arrAt 5 cfg0.N = GX (X m c) (W m c) (Y m c) (D m c) :=
  (dats m 0 c).arrAt_eq_of_cover 5 _ (fun t _ => by rw [flushed5, (outs m c t).2, blE]; rfl) (fun i => (cover4 i).imp fun t h => ⟨flush0_5 t, h⟩)
theorem arr6 : (dats m 0 c).arrAt 6 cfg0.N = GW (X m c) (Y m c) := by
  refine (dats m 0 c).arrAt_eq_of_cover 6 _ (fun t hf => ?_) (fun i => ?_)
  · have ht := (idx4 t).2.2.2.2.2.mp hf
    rw [flushed6]
    refine funext fun (j : S1x2048.Idx) => ?_
    obtain ⟨q, rfl⟩ : ∃ q : Fin 2048, j = ix2 0 q := ⟨j 1, by rw [eq_ix2 j]; exact congrArg (fun z => ix2 z (j 1)) (Fin.fin_one_eq_zero (j 0))⟩
    refine (acc m c q t.val t.isLt).trans ?_
    rw [View.read_apply, ht]
    refine Eq.trans ?_ (em6 (GW (X m c) (Y m c)) t q).symm
    exact E2_at (GW (X m c) (Y m c)) (ix2 0 q) rfl rfl
  · obtain ⟨T, hT⟩ : ∃ T : Fin cfg0.N, T.val = 10 := ⟨⟨10, (by omega : 10 < 11)⟩, rfl⟩
    obtain ⟨-, -, h0, h1, -, h2⟩ := idx4 T
    refine ⟨T, h2.mpr hT, (mem6 T i).mpr fun a => ?_⟩
    rw [xs6]
    match a with
    | ⟨0, _⟩ =>
      show win0_6.index T 0 * 1 ≤ (i 0).val ∧ (i 0).val < win0_6.index T 0 * 1 + 1
      have : (i 0).val < 1 := (i 0).isLt
      rw [h0]; omega
    | ⟨1, _⟩ =>
      show win0_6.index T 1 * 2048 ≤ (i 1).val ∧ (i 1).val < win0_6.index T 1 * 2048 + 2048
      have : (i 1).val < 2048 := (i 1).isLt
      rw [h1]; omega

section
open Cert.Reference18Ideal.Read
variable (x : A2) (w : A1) (y d : A2)

theorem el {a b : ℕ} (v : FVec Ideal ⟨2, ![a, b]⟩ .f32) (i) : v i = E2 v (i 0).val (i 1).val := E2_at v i rfl rfl
theorem zz : (FloatOps.ofBits .f32 0x00000000#32 : Ideal .f32) = 0 := Ideal.ofBits_zero_f32

theorem r6 (i) : val_main_v6 (F := Ideal) x i = ms fun k => E2 x (i 0).val k := by
  simp only [val_main_v6_apply, val_main_v5_apply, val_main_v4_apply, val_main_v3_apply, val_main_v2_apply, val_main_v1_apply, val_main_v0_apply,
    val_main_cst_apply, val_main_cst_0_apply, val_main_cst_1_apply, el x, zz, zero_add]
  rfl
theorem r7 (i) : val_main_v7 (F := Ideal) x i = rr fun k => E2 x (i 0).val k := by rw [val_main_v7_apply, r6]; rfl
theorem r28 (i) : val_main_v28 (F := Ideal) x w y i = kk (fun k => E2 x (i 0).val k) fun k => E2 y (i 0).val k * E2 w 0 k := by
  simp only [val_main_v28_apply, Fin.sum_univ_one, val_main_v27_apply, val_main_v26_apply, val_main_v25_apply, val_main_v22_apply, val_main_v21_apply, val_main_v20_apply,
    val_main_v19_apply, val_main_v18_apply, val_main_v10_apply, val_main_v9_apply, val_main_v8_apply, r6, r7,
    val_main_cst_2_apply, val_main_cst_4_apply, val_main_cst_5_apply, val_main_cst_6_apply, el x, el w, el y, zz, zero_add, Nat.mul_one, Fin.val_zero, Nat.add_zero]
  rfl
theorem r33 (i) : val_main_v33 (F := Ideal) x w y i = kd (fun k => E2 x (i 0).val k) (fun k => E2 y (i 0).val k * E2 w 0 k)
    (E2 x (i 0).val (i 1).val) (E2 y (i 0).val (i 1).val * E2 w 0 (i 1).val) := by
  rw [meet]
  simp only [val_main_v33_apply, val_main_v32_apply, val_main_v31_apply, val_main_v30_apply, val_main_v29_apply, val_main_v24_apply, val_main_v23_apply,
    val_main_v19_apply, val_main_v18_apply, r28, r7, el x, el w, el y]
  rfl
theorem r39 : val_main_v39 (F := Ideal) x w y d = GX x w y d := by
  refine funext fun i => ?_
  have h : (i 0).val < 4224 := (i 0).isLt
  simp only [val_main_v39_apply, val_main_v38_apply, val_main_call0_v1_apply, val_main_call0_v2_apply, val_main_call0_v0_apply, val_main_v37_apply, val_main_v36_apply,
    val_main_v35_apply, val_main_v34_apply, val_main_c_apply, val_main_cst_7_apply, r33, zz, el d]
  rw [WordCmp.cmpi_sge_ofNat (by omega) (by omega), Cert.Ssd.c_select]
  rfl
theorem r17 : val_main_v17 (F := Ideal) x y = GW x y := by
  refine funext fun i => ?_
  have e : (i 0).val = 0 := Nat.lt_one_iff.mp (i 0).isLt
  simp only [val_main_v17_apply, val_main_v16_apply, val_main_v15_apply, val_main_v12_apply, val_main_v11_apply, val_main_cst_3_apply, r7, el x, el y, zz, zero_add, e, Nat.zero_mul, Nat.zero_add]
  unfold GW
  rw [Finset.sum_range]
  exact Finset.sum_congr rfl fun k _ => mul_comm (E2 x _ _ * rr _) (E2 y _ _)
end

theorem algebraic : Cert.algebraic_Kernel18Ideal_Reference18Ideal := by
  intro m g m' g' _ hagree
  refine ⟨fun c => (dats m 0 c).arrAt 4 cfg0.N, fun c => (dats m 0 c).arrAt 5 cfg0.N, fun c => (dats m 0 c).arrAt 6 cfg0.N, run_blocks m g, ?_⟩
  refine (θ_run Cert.Reference18Ideal.defs _ _).mono (fun r h c => ?_) (Cert.Reference18Ideal.Value.run (F := Ideal) m' g')
  obtain ⟨a0, a1, a2, a3⟩ := hagree c
  refine ⟨(h c).1.trans ?_, (h c).2.1.trans ?_, (h c).2.2.1.trans ?_, (h c).2.2.2⟩
  · refine Eq.trans ?_ (arr4 m c).symm
    rw [Cert.Reference18Ideal.Read.val_main_v39_eq, a0, a1, a2, a3]
    exact r39 _ _ _ _
  · refine Eq.trans ?_ (arr5 m c).symm
    rw [Cert.Reference18Ideal.Read.val_main_v40_eq, a0, a1, a2, a3]
    exact r39 _ _ _ _
  · refine Eq.trans ?_ (arr6 m c).symm
    rw [Cert.Reference18Ideal.Read.val_main_v17_eq, a0, a2]
    exact r17 _ _

theorem frame_r : Cert.quiescent_Reference18Ideal := fun m ρ _ =>
  (θ_run Cert.Reference18Ideal.defs _ _).mono (fun r h => ⟨fun c => (h c).2.2.2, Idealize.ShloMosaic.sem_eq_zero_of_no_sems (by decide) r.2⟩)
    (Cert.Reference18Ideal.Value.run (F := Ideal) m ρ)

end Cert.Norm18

end
-- ==== Proof.Small19.lean ====
/-
  ADAMW ON THE SMALL WEIGHTS, PACKED. Each weight is laid in whole rows, filled up with zeros, and the rows follow each other. An array so
  packed reads, at an index, one place of one weight or the filling, whatever the elements are (`pk_map`), so the step of the packed
  arrays, element by element, is the packed array of the steps, for the step of four zeros is zero.
-/
module

public import proofs.«01_k».proof.Defs
public import proofs.«01_k».proof.Proof.Mm
public import proofs.«01_k».proof.Proof.Adam
public import proofs.«01_k».proof.Proof.Gen.Kernel19Ideal.Value
public import proofs.«01_k».proof.Proof.Gen.Reference19Ideal.Read
public import proofs.«01_k».proof.Proof.Gen.Reference19Ideal.Run

@[expose] public section

set_option maxRecDepth 65536
set_option maxHeartbeats 4000000

noncomputable section

namespace Cert.Small19

open Idealize.ShloMosaic Idealize.ShloMosaic.TcCoe Idealize.SL.Sem Cert.Kernel19Ideal Cert.Kernel19Ideal.Gen Cert.Kernel19Ideal.Value
open Idealize.ShloMosaic.Pipeline Cert.Mm Cert.Adam

abbrev A := FVec Ideal S416x128 .f32

/-- The weights' shapes. -/
abbrev sh : Fin 15 → Shape := ![S16x512, S1x2048, S1x4x1536, S1x16, S1x16, S1x128, S1x4x768, S1x3072, S1x32, S1x32, S1x32, S1x2048, S1x2048, S1x3x2816, S2048]
/-- One array for each weight. -/
abbrev Ws (α : Type) := (k : Fin 15) → (sh k).Idx → α

/-- The weights' rows. -/
def rows {α : Type} (z : S_.Idx → α) (W : Ws α) : List ((s : Shape) × (s.Idx → α)) := [
  ⟨S8192, pad S8192 ![0] ![0] ![0] (shapeCast S8192 (W 0) shapeCasts_S16x512_S8192) (z : S_.Idx → α) pads_S8192_S8192_000 h_S_⟩,
  ⟨S2048, pad S2048 ![0] ![0] ![0] (shapeCast S2048 (W 1) shapeCasts_S1x2048_S2048) (z : S_.Idx → α) pads_S2048_S2048_000 h_S_⟩,
  ⟨S6144, pad S6144 ![0] ![0] ![0] (shapeCast S6144 (W 2) shapeCasts_S1x4x1536_S6144) (z : S_.Idx → α) pads_S6144_S6144_000 h_S_⟩,
  ⟨S2048, pad S2048 ![0] ![2032] ![0] (shapeCast S16 (W 3) shapeCasts_S1x16_S16) (z : S_.Idx → α) pads_S16_S2048_020320 h_S_⟩,
  ⟨S2048, pad S2048 ![0] ![2032] ![0] (shapeCast S16 (W 4) shapeCasts_S1x16_S16) (z : S_.Idx → α) pads_S16_S2048_020320 h_S_⟩,
  ⟨S2048, pad S2048 ![0] ![1920] ![0] (shapeCast S128 (W 5) shapeCasts_S1x128_S128) (z : S_.Idx → α) pads_S128_S2048_019200 h_S_⟩,
  ⟨S4096, pad S4096 ![0] ![1024] ![0] (shapeCast S3072 (W 6) shapeCasts_S1x4x768_S3072) (z : S_.Idx → α) pads_S3072_S4096_010240 h_S_⟩,
  ⟨S4096, pad S4096 ![0] ![1024] ![0] (shapeCast S3072 (W 7) shapeCasts_S1x3072_S3072) (z : S_.Idx → α) pads_S3072_S4096_010240 h_S_⟩,
  ⟨S2048, pad S2048 ![0] ![2016] ![0] (shapeCast S32 (W 8) shapeCasts_S1x32_S32) (z : S_.Idx → α) pads_S32_S2048_020160 h_S_⟩,
  ⟨S2048, pad S2048 ![0] ![2016] ![0] (shapeCast S32 (W 9) shapeCasts_S1x32_S32) (z : S_.Idx → α) pads_S32_S2048_020160 h_S_⟩,
  ⟨S2048, pad S2048 ![0] ![2016] ![0] (shapeCast S32 (W 10) shapeCasts_S1x32_S32) (z : S_.Idx → α) pads_S32_S2048_020160 h_S_⟩,
  ⟨S2048, pad S2048 ![0] ![0] ![0] (shapeCast S2048 (W 11) shapeCasts_S1x2048_S2048) (z : S_.Idx → α) pads_S2048_S2048_000 h_S_⟩,
  ⟨S2048, pad S2048 ![0] ![0] ![0] (shapeCast S2048 (W 12) shapeCasts_S1x2048_S2048) (z : S_.Idx → α) pads_S2048_S2048_000 h_S_⟩,
  ⟨S10240, pad S10240 ![0] ![1792] ![0] (shapeCast S8448 (W 13) shapeCasts_S1x3x2816_S8448) (z : S_.Idx → α) pads_S8448_S10240_017920 h_S_⟩,
  ⟨S2048, pad (s := S2048) S2048 ![0] ![0] ![0] (W 14) (z : S_.Idx → α) pads_S2048_S2048_000 h_S_⟩]
theorem rows_ok {α : Type} (z : S_.Idx → α) (W : Ws α) : Shape.Concatenates ((rows z W).map (·.1)) S53248 0 :=
  concatenates_S8192_S2048_S6144_S2048_S2048_S2048_S4096_S4096_S2048_S2048_S2048_S2048_S2048_S10240_S2048_S53248_d0
/-- The packed array. -/
def pk {α : Type} (z : S_.Idx → α) (W : Ws α) : S416x128.Idx → α :=
  shapeCast S416x128 (concatenate S53248 0 (rows z W) (rows_ok z W))
    shapeCasts_S53248_S416x128

/-- A piece with `f` of its elements. -/
abbrev mp {α β : Type} (f : α → β) (p : (s : Shape) × (s.Idx → α)) : (s : Shape) × (s.Idx → β) := ⟨p.1, fun i => f (p.2 i)⟩

theorem catAt_map {α β : Type} (f : α → β) (t : Shape) (a : Fin t.rank) (j : t.Idx) : ∀ (xs : List ((s : Shape) × (s.Idx → α))) (hs hs') (c : Nat) (hc hc'),
    concatenateAt t a j (xs.map (mp f)) hs' c hc' = f (concatenateAt t a j xs hs c hc)
  | [], _, _, _, hc, _ => absurd hc (Nat.not_lt_zero _)
  | [⟨s, x⟩], hs, hs', c, hc, hc' => by
    rw [concatenateAt_singleton]
    exact concatenateAt_singleton a j (fun i => f (x i)) hs' c hc'
  | ⟨s, x⟩ :: ⟨s', y⟩ :: xs, hs, hs', c, hc, hc' => by
    rw [concatenateAt_cons]
    refine (concatenateAt_cons a j (fun i => f (x i)) ⟨s', fun i => f (y i)⟩ (xs.map (mp f)) hs' c hc').trans ?_
    split
    · rfl
    · exact catAt_map f t a j (⟨s', y⟩ :: xs) _ _ _ _ _

theorem pad_map {α β : Type} (f : α → β) {s : Shape} (t : Shape) (lo hi n : Fin s.rank → Nat) (x : s.Idx → α) {u : Shape} (v : u.Idx → α) (h hu) :
    pad t lo hi n (fun i => f (x i)) (fun i => f (v i)) h hu = fun j => f (pad t lo hi n x v h hu j) := by
  funext j
  unfold pad
  split <;> rfl

theorem pad_mp {α β : Type} (f : α → β) {s : Shape} (t : Shape) (lo hi n : Fin s.rank → Nat) (x : s.Idx → α) {u : Shape} (v : u.Idx → α) (h hu) :
    mp f ⟨t, pad t lo hi n x v h hu⟩ = ⟨t, pad t lo hi n (fun i => f (x i)) (fun i => f (v i)) h hu⟩ := by rw [pad_map]

theorem rows_map {α β : Type} (f : α → β) (z : S_.Idx → α) (W : Ws α) :
    rows (fun i => f (z i)) (fun k i => f (W k i)) = (rows z W).map (mp f) := by
  symm
  unfold rows
  repeat' refine congr (congrArg List.cons (pad_mp f _ _ _ _ _ _ _ _)) ?_
  rfl

/-- What the packed array reads does not depend on what the elements are. -/
theorem pk_map {α β : Type} (f : α → β) (z : S_.Idx → α) (W : Ws α) (j : S416x128.Idx) :
    pk (fun i => f (z i)) (fun k i => f (W k i)) j = f (pk z W j) := by
  unfold pk shapeCast
  rw [concatenate_apply, concatenate_apply]
  simp only [rows_map]
  exact catAt_map f _ _ _ _ _ _ _ _ _

/-- The filling. -/
abbrev zf : S_.Idx → Ideal .f32 := sitofp .f32 (constantI S_ 32 0#32)
theorem zf0 (i : S_.Idx) : zf i = (0 : EReal) := by
  show (((0#32 : BitVec 32).toInt : ℝ) : EReal) = 0
  simp

theorem nm0 : nm 0 0 = (0 : EReal) := by simp [nm]
theorem nv0 : nv 0 0 = (0 : EReal) := by simp [nv]
theorem k0 : k 0x3F26BD02#32 ≠ 0 ∧ k 0x3C231ACC#32 ≠ 0 ∧ k 0x322BCC77#32 ≠ 0 := by
  refine ⟨?_, ?_, ?_⟩ <;> simp [k, Ideal.ofBits, Ideal.ieee] <;> rw [← EReal.coe_mul] <;> norm_num
theorem div0 {x : EReal} (h : x ≠ 0) : Ideal.div 0 x = 0 := by rw [Ideal.div, if_neg h, zero_mul]
theorem dl0 : dl 0 0 0 0 = (0 : EReal) := by
  have e : Ideal.sqrt 0 = 0 := by rw [← EReal.coe_zero, Ideal.sqrt_coe]; simp
  simp only [dl, Ideal.divf_def, Ideal.sqrt_def]
  rw [nm0, nv0, div0 k0.1, div0 k0.2.1, e, zero_add, div0 k0.2.2, mul_zero, zero_add, mul_zero]

/-- The step of the packed arrays is the packed array of the steps. -/
theorem pk_four (f : Ideal .f32 → Ideal .f32 → Ideal .f32 → Ideal .f32 → Ideal .f32)
    (h : f (0 : EReal) (0 : EReal) (0 : EReal) (0 : EReal) = (0 : EReal)) (w g m v : Ws (Ideal .f32)) (j : S416x128.Idx) :
    pk zf (fun k i => f (w k i) (g k i) (m k i) (v k i)) j = f (pk zf w j) (pk zf g j) (pk zf m j) (pk zf v j) := by
  let Z : S_.Idx → Ideal .f32 × Ideal .f32 × Ideal .f32 × Ideal .f32 := fun i => (zf i, zf i, zf i, zf i)
  let X : Ws (Ideal .f32 × Ideal .f32 × Ideal .f32 × Ideal .f32) := fun k i => (w k i, g k i, m k i, v k i)
  refine Eq.trans (congrArg (fun z => pk z _ j) (funext fun i => ?_)) ((pk_map (fun q => f q.1 q.2.1 q.2.2.1 q.2.2.2) Z X j).trans ?_)
  · show zf i = f (zf i) (zf i) (zf i) (zf i)
    rw [zf0]; exact h.symm
  · rw [← pk_map (fun q => q.1) Z X, ← pk_map (fun q => q.2.1) Z X, ← pk_map (fun q => q.2.2.1) Z X, ← pk_map (fun q => q.2.2.2) Z X]
theorem pk_two (f : Ideal .f32 → Ideal .f32 → Ideal .f32) (h : f (0 : EReal) (0 : EReal) = (0 : EReal)) (g m : Ws (Ideal .f32)) (j : S416x128.Idx) :
    pk zf (fun k i => f (g k i) (m k i)) j = f (pk zf g j) (pk zf m j) := pk_four (fun _ g m _ => f g m) h g g m m j

variable (m : (ℓ : Loc nD τ sig) → Buf (Elt Ideal) ℓ) (c : Dev nD)

/-- What an argument holds. -/
abbrev ar (r : Ref sig .tc) : Buf (Elt Ideal) ((c : Thread nD τ).loc r) := m ((c : Thread nD τ).loc r)
/-- The weights. -/
def W : Ws (Ideal .f32) := fun k => match k with
  | 0 => ar m c main_arg0 | 1 => ar m c main_arg1 | 2 => ar m c main_arg2
  | 3 => ar m c main_arg3 | 4 => ar m c main_arg4 | 5 => ar m c main_arg5
  | 6 => ar m c main_arg6 | 7 => ar m c main_arg7 | 8 => ar m c main_arg8
  | 9 => ar m c main_arg9 | 10 => ar m c main_arg10 | 11 => ar m c main_arg11
  | 12 => ar m c main_arg12 | 13 => ar m c main_arg13 | 14 => ar m c main_arg14
/-- The gradients. -/
def G : Ws (Ideal .f32) := fun k => match k with
  | 0 => ar m c main_arg15 | 1 => ar m c main_arg16 | 2 => ar m c main_arg17
  | 3 => ar m c main_arg18 | 4 => ar m c main_arg19 | 5 => ar m c main_arg20
  | 6 => ar m c main_arg21 | 7 => ar m c main_arg22 | 8 => ar m c main_arg23
  | 9 => ar m c main_arg24 | 10 => ar m c main_arg25 | 11 => ar m c main_arg26
  | 12 => ar m c main_arg27 | 13 => ar m c main_arg28 | 14 => ar m c main_arg29
/-- The averages of the gradients. -/
def M : Ws (Ideal .f32) := fun k => match k with
  | 0 => ar m c main_arg30 | 1 => ar m c main_arg31 | 2 => ar m c main_arg32
  | 3 => ar m c main_arg33 | 4 => ar m c main_arg34 | 5 => ar m c main_arg35
  | 6 => ar m c main_arg36 | 7 => ar m c main_arg37 | 8 => ar m c main_arg38
  | 9 => ar m c main_arg39 | 10 => ar m c main_arg40 | 11 => ar m c main_arg41
  | 12 => ar m c main_arg42 | 13 => ar m c main_arg43 | 14 => ar m c main_arg44
/-- The averages of the gradients' squares. -/
def Q : Ws (Ideal .f32) := fun k => match k with
  | 0 => ar m c main_arg45 | 1 => ar m c main_arg46 | 2 => ar m c main_arg47
  | 3 => ar m c main_arg48 | 4 => ar m c main_arg49 | 5 => ar m c main_arg50
  | 6 => ar m c main_arg51 | 7 => ar m c main_arg52 | 8 => ar m c main_arg53
  | 9 => ar m c main_arg54 | 10 => ar m c main_arg55 | 11 => ar m c main_arg56
  | 12 => ar m c main_arg57 | 13 => ar m c main_arg58 | 14 => ar m c main_arg59

/-! ## What the kernel's packing computes -/

theorem sw : (V m c main_v30 : A) = pk zf (W m c) := by
  unfold_abbrev_sides
  after_results
  rfl
theorem sg : (V m c main_v61 : A) = pk zf (G m c) := by
  unfold_abbrev_sides
  after_results
  rfl
theorem sm : (V m c main_v92 : A) = pk zf (M m c) := by
  unfold_abbrev_sides
  after_results
  rfl
theorem sq : (V m c main_v123 : A) = pk zf (Q m c) := by
  unfold_abbrev_sides
  after_results
  rfl

/-! ## The step of the packed arrays -/

theorem pm (g m : A) (i : S416x128.Idx) : k0_pay2 (F := Ideal) g m i = nm (g i) (m i) := by
  pointwise [k0_pay2, k0_pay1, nm]
theorem pv (g v : A) (i : S416x128.Idx) : k0_pay3 (F := Ideal) g v i = nv (g i) (v i) := by
  pointwise [k0_pay3, k0_pay1, nv]
theorem pd (w g m v : A) (i : S416x128.Idx) : k0_pay4 (F := Ideal) g m v w i = dl (w i) (g i) (m i) (v i) := by
  pointwise [k0_pay4, k0_pay2, k0_pay3, k0_pay1, dl, nm, nv]

theorem idx4 : ∀ t : Fin cfg0.N, win0_4.index t 0 = 0 ∧ win0_4.index t 1 = 0 := (by decide +kernel : ∀ t : Fin grid0.N, _)
theorem xs4 : ∀ (t : Fin cfg0.N) (a), (cfg0.win 4).xsize (cfg0.grid.coords t) a = (cfg0.win 4).size a := by decide +kernel

/-- The place of a block's element in the whole array. -/
abbrev at4 (t : Fin cfg0.N) (y : S416x128.Idx) : S416x128.Idx := ((cfg0.win 4).blk t).view.emb y

theorem b0 (t : Fin cfg0.N) (y : S416x128.Idx) : (iblk m c 0 t : A) y = pk zf (W m c) (at4 t y) := (congrFun (sw m c) _ : (V m c main_v30 : A) (at4 t y) = _)
theorem b1 (t : Fin cfg0.N) (y : S416x128.Idx) : (iblk m c 1 t : A) y = pk zf (G m c) (at4 t y) := (congrFun (sg m c) _ : (V m c main_v61 : A) (at4 t y) = _)
theorem b2 (t : Fin cfg0.N) (y : S416x128.Idx) : (iblk m c 2 t : A) y = pk zf (M m c) (at4 t y) := (congrFun (sm m c) _ : (V m c main_v92 : A) (at4 t y) = _)
theorem b3 (t : Fin cfg0.N) (y : S416x128.Idx) : (iblk m c 3 t : A) y = pk zf (Q m c) (at4 t y) := (congrFun (sq m c) _ : (V m c main_v123 : A) (at4 t y) = _)

/-- The one block is the array. -/
theorem cover4 (i : S416x128.Idx) : ∃ t : Fin cfg0.N, i ∈ ((cfg0.win 4).blk t).view.set := by
  have l0 : (i 0).val < 416 := (i 0).isLt
  have l1 : (i 1).val < 128 := (i 1).isLt
  obtain ⟨T⟩ : Nonempty (Fin cfg0.N) := ⟨⟨0, by decide⟩⟩
  obtain ⟨h0, h1⟩ := idx4 T
  refine ⟨T, ?_⟩
  show i ∈ ((View.whole main_v124_0).slice (win0_4.rect T)).set
  rw [View.set_slice_whole, Rect.mem_set_unit]
  intro a
  show win0_4.index T a * win0_4.size a ≤ (i a).val ∧ (i a).val < win0_4.index T a * win0_4.size a + (cfg0.win 4).xsize (cfg0.grid.coords T) a
  rw [xs4]
  match a with
  | ⟨0, _⟩ =>
    show win0_4.index T 0 * 416 ≤ (i 0).val ∧ (i 0).val < win0_4.index T 0 * 416 + 416
    rw [h0]; omega
  | ⟨1, _⟩ =>
    show win0_4.index T 1 * 128 ≤ (i 1).val ∧ (i 1).val < win0_4.index T 1 * 128 + 128
    rw [h1]; omega

/-- The three arrays both programs compute. -/
def rd : A := pk zf fun k i => dl (W m c k i) (G m c k i) (M m c k i) (Q m c k i)
def rm : A := pk zf fun k i => nm (G m c k i) (M m c k i)
def rv : A := pk zf fun k i => nv (G m c k i) (Q m c k i)

/-- The arrays after the run. -/
theorem arr4 : (dats m 0 c).arrAt 4 cfg0.N = rd m c := by
  refine (dats m 0 c).arrAt_eq_of_cover 4 _ (fun t _ => ?_) (fun i => (cover4 i).imp fun t h => ⟨flush0_4 t, h⟩)
  rw [flushed4]
  unfold out0_4
  simp only [View.canon_unit_zero (S := S416x128) z2, View.ld_unit_zero (S := S416x128) z2]
  refine funext fun (y : S416x128.Idx) => ?_
  exact (pd _ _ _ _ y).trans (by rw [b0, b1, b2, b3]; exact (pk_four dl dl0 _ _ _ _ (at4 t y)).symm)
theorem arr5 : (dats m 0 c).arrAt 5 cfg0.N = rm m c := by
  refine (dats m 0 c).arrAt_eq_of_cover 5 _ (fun t _ => ?_) (fun i => (cover4 i).imp fun t h => ⟨flush0_5 t, h⟩)
  rw [flushed5]
  unfold out0_5
  simp only [View.canon_unit_zero (S := S416x128) z2, View.ld_unit_zero (S := S416x128) z2]
  refine funext fun (y : S416x128.Idx) => ?_
  exact (pm _ _ y).trans (by rw [b1, b2]; exact (pk_two nm nm0 _ _ (at4 t y)).symm)
theorem arr6 : (dats m 0 c).arrAt 6 cfg0.N = rv m c := by
  refine (dats m 0 c).arrAt_eq_of_cover 6 _ (fun t _ => ?_) (fun i => (cover4 i).imp fun t h => ⟨flush0_6 t, h⟩)
  rw [flushed6]
  unfold out0_6
  simp only [View.canon_unit_zero (S := S416x128) z2, View.ld_unit_zero (S := S416x128) z2]
  refine funext fun (y : S416x128.Idx) => ?_
  exact (pv _ _ y).trans (by rw [b1, b3]; exact (pk_two nv nv0 _ _ (at4 t y)).symm)

theorem algebraic : Cert.algebraic_Kernel19Ideal_Reference19Ideal := by
  intro m g m' g' _ hagree
  refine ⟨fun c => (dats m 0 c).arrAt 4 cfg0.N, fun c => (dats m 0 c).arrAt 5 cfg0.N, fun c => (dats m 0 c).arrAt 6 cfg0.N, run_blocks m g, ?_⟩
  refine (θ_run Cert.Reference19Ideal.defs _ _).mono (fun r h c => ?_) (Cert.Reference19Ideal.Value.run (F := Ideal) m' g')
  have a := hagree c
  refine ⟨(h c).1.trans ?_, (h c).2.1.trans ?_, (h c).2.2.1.trans ?_, (h c).2.2.2⟩
  · refine Eq.trans ?_ (arr4 m c).symm
    rw [Cert.Reference19Ideal.Read.val_main_v390_eq]
    simp only [a]
    rfl
  · refine Eq.trans ?_ (arr5 m c).symm
    rw [Cert.Reference19Ideal.Read.val_main_v421_eq]
    simp only [a]
    rfl
  · refine Eq.trans ?_ (arr6 m c).symm
    rw [Cert.Reference19Ideal.Read.val_main_v452_eq]
    simp only [a]
    rfl

theorem frame_r : Cert.quiescent_Reference19Ideal := fun m ρ _ =>
  (θ_run Cert.Reference19Ideal.defs _ _).mono (fun r h => ⟨fun c => (h c).2.2.2, Idealize.ShloMosaic.sem_eq_zero_of_no_sems (by decide) r.2⟩)
    (Cert.Reference19Ideal.Value.run (F := Ideal) m ρ)

end Cert.Small19

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Join
public import proofs.«01_k».proof.Proof.Mm2
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Mm8
public import proofs.«01_k».proof.Proof.Mm9
public import proofs.«01_k».proof.Proof.Mm10
public import proofs.«01_k».proof.Proof.Mm11
public import proofs.«01_k».proof.Proof.Mm12
public import proofs.«01_k».proof.Proof.Mm13
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Adequacy
public import Idealize.ShloMosaic.Init
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Adam14
public import proofs.«01_k».proof.Proof.Adam15
public import proofs.«01_k».proof.Proof.Adam16
public import proofs.«01_k».proof.Proof.Adam17
public import proofs.«01_k».proof.Proof.Norm18
public import proofs.«01_k».proof.Proof.Small19

@[expose] public section

noncomputable section

namespace Cert.Proof

open Idealize.ShloMosaic Idealize.SL.Sem Cert.Kernel

/-- The reference declares no semaphore, and its run leaves its arguments. -/
theorem frame_r : Cert.quiescent_ReferenceIdeal := fun m ρ _ =>
  (θ_run Cert.ReferenceIdeal.defs _ _).mono (fun r h => ⟨fun c => (h c).2.2.2.2.2.2.2.2.2,
      Idealize.ShloMosaic.sem_eq_zero_of_no_sems (by decide) r.2⟩)
    (Cert.ReferenceIdeal.Value.run (F := Ideal) m ρ)

set_option maxHeartbeats 2000000 in
/-- The nine results are the reference's. -/
theorem algebraic : Cert.algebraic_KernelIdeal_ReferenceIdeal_pre_finite_and_off_kink := by
  intro m ρ m' ρ' hpre hagree
  refine ⟨fun c => (Cert.KernelIdeal.Gen.dats m 0 c).arrAt 11 Cert.KernelIdeal.cfg0.N, fun c => (Cert.KernelIdeal.Gen.dats m 0 c).arrAt 12 Cert.KernelIdeal.cfg0.N, fun c => (Cert.KernelIdeal.Gen.dats m 0 c).arrAt 13 Cert.KernelIdeal.cfg0.N, fun c => (Cert.KernelIdeal.Gen.dats m 0 c).arrAt 14 Cert.KernelIdeal.cfg0.N, fun c => (Cert.KernelIdeal.Gen.dats m 0 c).arrAt 15 Cert.KernelIdeal.cfg0.N, fun c => (Cert.KernelIdeal.Gen.dats m 0 c).arrAt 16 Cert.KernelIdeal.cfg0.N, fun c => (Cert.KernelIdeal.Gen.dats m 0 c).arrAt 17 Cert.KernelIdeal.cfg0.N, fun c => (Cert.KernelIdeal.Gen.dats m 0 c).arrAt 18 Cert.KernelIdeal.cfg0.N, fun c => (Cert.KernelIdeal.Gen.dats m 0 c).arrAt 19 Cert.KernelIdeal.cfg0.N,
    Cert.KernelIdeal.Value.run_blocks m ρ, ?_⟩
  refine (θ_run Cert.ReferenceIdeal.defs _ _).mono (fun r h c => ?_) (Cert.ReferenceIdeal.Value.run (F := Ideal) m' ρ')
  obtain ⟨D, H, HP⟩ := Cert.Ssd.args_of_pre hpre c
  obtain ⟨e0, e1, e2, e3, e4, e5, e6, e7, e8⟩ := hagree c
  obtain ⟨r0, r1, r2, r3, r4, r5, r6, r7, r8, hkeep⟩ := h c
  refine ⟨?_, ?_, ?_, ?_, ?_, ?_, ?_, ?_, ?_, hkeep⟩
  · refine (r0.trans (Cert.ReferenceIdeal.Read.val_main_v279_eq (Idealize.ShloMosaic.StableHlo.launchContents m' c))).trans ?_
    show Cert.ReferenceIdeal.Read.val_main_v279 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [e0, e1, e2, e3, e4, e5, e6, e7]
    exact Cert.Ssd.meet11 H HP
  · refine (r1.trans (Cert.ReferenceIdeal.Read.val_main_v277_eq (Idealize.ShloMosaic.StableHlo.launchContents m' c))).trans ?_
    show Cert.ReferenceIdeal.Read.val_main_v277 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [e0, e1, e2, e3, e4, e5, e6, e7]
    exact Cert.Ssd.meet12 H HP
  · refine (r2.trans (Cert.ReferenceIdeal.Read.val_main_v275_eq (Idealize.ShloMosaic.StableHlo.launchContents m' c))).trans ?_
    show Cert.ReferenceIdeal.Read.val_main_v275 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [e0, e1, e2, e3, e4, e5, e6, e7]
    exact Cert.Ssd.meet13 H HP
  · refine (r3.trans (Cert.ReferenceIdeal.Read.val_main_v283_eq (Idealize.ShloMosaic.StableHlo.launchContents m' c))).trans ?_
    show Cert.ReferenceIdeal.Read.val_main_v283 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [e0, e1, e2, e3, e4, e5, e6, e7, e8]
    exact Cert.Ssd.meet14 H HP
  · refine (r4.trans (Cert.ReferenceIdeal.Read.val_main_v302_eq (Idealize.ShloMosaic.StableHlo.launchContents m' c))).trans ?_
    show Cert.ReferenceIdeal.Read.val_main_v302 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [e0, e1, e2, e3, e4, e5, e6, e7]
    exact Cert.Ssd.meet15 H HP
  · refine (r5.trans (Cert.ReferenceIdeal.Read.val_main_v306_eq (Idealize.ShloMosaic.StableHlo.launchContents m' c))).trans ?_
    show Cert.ReferenceIdeal.Read.val_main_v306 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [e0, e1, e2, e3, e4, e5, e6, e7]
    exact Cert.Ssd.meet16 H HP
  · refine (r6.trans (Cert.ReferenceIdeal.Read.val_main_v310_eq (Idealize.ShloMosaic.StableHlo.launchContents m' c))).trans ?_
    show Cert.ReferenceIdeal.Read.val_main_v310 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [e0, e1, e2, e3, e4, e5, e6, e7]
    exact Cert.Ssd.meet17 H HP
  · refine (r7.trans (Cert.ReferenceIdeal.Read.val_main_v148_eq (Idealize.ShloMosaic.StableHlo.launchContents m' c))).trans ?_
    show Cert.ReferenceIdeal.Read.val_main_v148 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [e0, e1, e2, e3, e4, e5, e6, e7]
    exact Cert.Ssd.meet18 H HP
  · refine (r8.trans (Cert.ReferenceIdeal.Read.val_main_v116_eq (Idealize.ShloMosaic.StableHlo.launchContents m' c))).trans ?_
    show Cert.ReferenceIdeal.Read.val_main_v116 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [e0, e1, e2, e3, e4, e6, e7]
    exact Cert.Ssd.meet19 H HP

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Pre_finite_and_off_kink.held,
    fun m ρ _ => Cert.Kernel.Gen.frame m ρ, fun m ρ _ => Cert.KernelIdeal.Gen.frame m ρ, fun m ρ _ => Cert.KernelIdeal.Gen.frame m ρ,
    frame_r, fun m ρ _ => frame_r m ρ trivial,
    Cert.Mm2.frame_kernel, fun m ρ _ => Cert.Tn2.quiet m ρ, Cert.Mm2.frame_r,
    fun m ρ _ => Cert.Kernel3.Gen.frame m ρ, fun m ρ _ => Cert.Kernel3Ideal.Gen.frame m ρ, Cert.Mm3.frame_r,
    Cert.Mm4.frame_kernel, fun m ρ _ => Cert.Tn4.quiet m ρ, Cert.Mm4.frame_r,
    fun m ρ _ => Cert.Kernel5.Gen.frame m ρ, fun m ρ _ => Cert.Kernel5Ideal.Gen.frame m ρ, Cert.Mm5.frame_r,
    fun m ρ _ => Cert.Kernel6.Gen.frame m ρ, fun m ρ _ => Cert.Kernel6Ideal.Gen.frame m ρ, Cert.Mm6.frame_r,
    Cert.Mm7.frame_kernel, fun m ρ _ => Cert.Tn7.quiet m ρ, Cert.Mm7.frame_r,
    fun m ρ _ => Cert.Kernel8.Gen.frame m ρ, fun m ρ _ => Cert.Kernel8Ideal.Gen.frame m ρ, Cert.Mm8.frame_r,
    Cert.Mm9.frame_kernel, fun m ρ _ => Cert.Tn9.quiet m ρ, Cert.Mm9.frame_r,
    fun m ρ _ => Cert.Kernel10.Gen.frame m ρ, fun m ρ _ => Cert.Kernel10Ideal.Gen.frame m ρ, Cert.Mm10.frame_r,
    fun m ρ _ => Cert.Kernel11.Gen.frame m ρ, fun m ρ _ => Cert.Kernel11Ideal.Gen.frame m ρ, Cert.Mm11.frame_r,
    fun m ρ _ => Cert.Kernel12.Gen.frame m ρ, fun m ρ _ => Cert.Kernel12Ideal.Gen.frame m ρ, Cert.Mm12.frame_r,
    fun m ρ _ => Cert.Kernel13.Gen.frame m ρ, fun m ρ _ => Cert.Kernel13Ideal.Gen.frame m ρ, Cert.Mm13.frame_r,
    fun m ρ _ => Cert.Kernel14.Gen.frame m ρ, fun m ρ _ => Cert.Kernel14Ideal.Gen.frame m ρ, Cert.Adam14.frame_r,
    fun m ρ _ => Cert.Kernel15.Gen.frame m ρ, fun m ρ _ => Cert.Kernel15Ideal.Gen.frame m ρ, Cert.Adam15.frame_r,
    fun m ρ _ => Cert.Kernel16.Gen.frame m ρ, fun m ρ _ => Cert.Kernel16Ideal.Gen.frame m ρ, Cert.Adam16.frame_r,
    fun m ρ _ => Cert.Kernel17.Gen.frame m ρ, fun m ρ _ => Cert.Kernel17Ideal.Gen.frame m ρ, Cert.Adam17.frame_r,
    fun m ρ _ => Cert.Kernel18.Gen.frame m ρ, fun m ρ _ => Cert.Kernel18Ideal.Gen.frame m ρ, Cert.Norm18.frame_r,
    fun m ρ _ => Cert.Kernel19.Gen.frame m ρ, fun m ρ _ => Cert.Kernel19Ideal.Gen.frame m ρ, Cert.Small19.frame_r,
    trivial, algebraic,
    trivial, Cert.Mm2.algebraic,
    trivial, Cert.Mm3.algebraic,
    trivial, Cert.Mm4.algebraic,
    trivial, Cert.Mm5.algebraic,
    trivial, Cert.Mm6.algebraic,
    trivial, Cert.Mm7.algebraic,
    trivial, Cert.Mm8.algebraic,
    trivial, Cert.Mm9.algebraic,
    trivial, Cert.Mm10.algebraic,
    trivial, Cert.Mm11.algebraic,
    trivial, Cert.Mm12.algebraic,
    trivial, Cert.Mm13.algebraic,
    trivial, Cert.Adam14.algebraic,
    trivial, Cert.Adam15.algebraic,
    trivial, Cert.Adam16.algebraic,
    trivial, Cert.Adam17.algebraic,
    trivial, Cert.Norm18.algebraic,
    trivial, Cert.Small19.algebraic⟩

end Cert.Proof

end
